-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputReferenceIdeal (m : (ℓ : Loc Cert.InputReferenceIdeal.nD Cert.InputReferenceIdeal.τ Cert.InputReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_gates_finite [hPre_gates_finite : Cert.Pre_gates_finite.Facts] (m : (ℓ : Loc Cert.GatesIdeal.nD Cert.GatesIdeal.τ Cert.GatesIdeal.sig) → Buf (Elt Ideal) ℓ) : Prop :=
  ∀ c : Dev Cert.GatesIdeal.nD,
    (Cert.Pre_gates_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3))) = (fun _ => 1#1)

def Pre_GatesReferenceIdeal (m : (ℓ : Loc Cert.GatesReferenceIdeal.nD Cert.GatesReferenceIdeal.τ Cert.GatesReferenceIdeal.sig) → Buf (Elt Ideal) ℓ) : Prop :=
  True

def Pre_GatesReferenceIdeal_gates_finite [hPre_gates_finite : Cert.Pre_gates_finite.Facts] (m : (ℓ : Loc Cert.GatesReferenceIdeal.nD Cert.GatesReferenceIdeal.τ Cert.GatesReferenceIdeal.sig) → Buf (Elt Ideal) ℓ) : Prop :=
  ∀ c : Dev Cert.GatesReferenceIdeal.nD,
    (Cert.Pre_gates_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2)) (m ((c.tc : Thread Cert.GatesReferenceIdeal.nD Cert.GatesReferenceIdeal.τ).loc Cert.GatesReferenceIdeal.main_arg3))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwHalf (m : (ℓ : Loc Cert.DwHalf.nD Cert.DwHalf.τ Cert.DwHalf.sig) → Buf (Elt Bits) ℓ) : Prop :=
  True

def Pre_DwHalfIdeal (m : (ℓ : Loc Cert.DwHalfIdeal.nD Cert.DwHalfIdeal.τ Cert.DwHalfIdeal.sig) → Buf (Elt Ideal) ℓ) : Prop :=
  True

def Pre_DwHalfReferenceIdeal (m : (ℓ : Loc Cert.DwHalfReferenceIdeal.nD Cert.DwHalfReferenceIdeal.τ Cert.DwHalfReferenceIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvReferenceIdeal (m : (ℓ : Loc Cert.DwQkvReferenceIdeal.nD Cert.DwQkvReferenceIdeal.τ Cert.DwQkvReferenceIdeal.sig) → Buf (Elt Ideal) ℓ) : Prop :=
  True

def Pre_DwUv (m : (ℓ : Loc Cert.DwUv.nD Cert.DwUv.τ Cert.DwUv.sig) → Buf (Elt Bits) ℓ) : Prop :=
  True

def Pre_DwUvIdeal (m : (ℓ : Loc Cert.DwUvIdeal.nD Cert.DwUvIdeal.τ Cert.DwUvIdeal.sig) → Buf (Elt Ideal) ℓ) : Prop :=
  True

def Pre_DwUvReferenceIdeal (m : (ℓ : Loc Cert.DwUvReferenceIdeal.nD Cert.DwUvReferenceIdeal.τ Cert.DwUvReferenceIdeal.sig) → Buf (Elt Ideal) ℓ) : Prop :=
  True

def Pre_DwMixOut (m : (ℓ : Loc Cert.DwMixOut.nD Cert.DwMixOut.τ Cert.DwMixOut.sig) → Buf (Elt Bits) ℓ) : Prop :=
  True

def Pre_DwMixOutIdeal (m : (ℓ : Loc Cert.DwMixOutIdeal.nD Cert.DwMixOutIdeal.τ Cert.DwMixOutIdeal.sig) → Buf (Elt Ideal) ℓ) : Prop :=
  True

def Pre_DwMixOutReferenceIdeal (m : (ℓ : Loc Cert.DwMixOutReferenceIdeal.nD Cert.DwMixOutReferenceIdeal.τ Cert.DwMixOutReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_Enter (m : (ℓ : Loc Cert.Enter.nD Cert.Enter.τ Cert.Enter.sig) → Buf (Elt Bits) ℓ) : Prop :=
  True

def Pre_EnterIdeal (m : (ℓ : Loc Cert.EnterIdeal.nD Cert.EnterIdeal.τ Cert.EnterIdeal.sig) → Buf (Elt Ideal) ℓ) : Prop :=
  True

def Pre_EnterReferenceIdeal (m : (ℓ : Loc Cert.EnterReferenceIdeal.nD Cert.EnterReferenceIdeal.τ Cert.EnterReferenceIdeal.sig) → Buf (Elt Ideal) ℓ) : Prop :=
  True

def Pre_Leave (m : (ℓ : Loc Cert.Leave.nD Cert.Leave.τ Cert.Leave.sig) → Buf (Elt Bits) ℓ) : Prop :=
  True

def Pre_LeaveIdeal (m : (ℓ : Loc Cert.LeaveIdeal.nD Cert.LeaveIdeal.τ Cert.LeaveIdeal.sig) → Buf (Elt Ideal) ℓ) : Prop :=
  True

def Pre_LeaveReferenceIdeal (m : (ℓ : Loc Cert.LeaveReferenceIdeal.nD Cert.LeaveReferenceIdeal.τ Cert.LeaveReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4)
      ∧ r.2.mem ((c.tc : Thread Cert.Input.nD Cert.Input.τ).loc Cert.Input.main_arg5) = m ((c.tc : Thread Cert.Input.nD Cert.Input.τ).loc Cert.Input.main_arg5))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
      ∧ r.2.mem ((c.tc : Thread Cert.InputIdeal.nD Cert.InputIdeal.τ).loc Cert.InputIdeal.main_arg5) = m ((c.tc : Thread Cert.InputIdeal.nD Cert.InputIdeal.τ).loc Cert.InputIdeal.main_arg5))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesIdeal_pre_gates_finite [hGatesIdeal : Cert.GatesIdeal.Facts] [hPre_gates_finite : Cert.Pre_gates_finite.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_gates_finite m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3))
      ∧ r.2.sem = fun _ => 0)

def quiescent_GatesReferenceIdeal_pre_gates_finite [hGatesReferenceIdeal : Cert.GatesReferenceIdeal.Facts] [hPre_gates_finite : Cert.Pre_gates_finite.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal_gates_finite m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1)
      ∧ r.2.mem ((c.tc : Thread Cert.DwInReferenceIdeal.nD Cert.DwInReferenceIdeal.τ).loc Cert.DwInReferenceIdeal.main_arg2) = m ((c.tc : Thread Cert.DwInReferenceIdeal.nD Cert.DwInReferenceIdeal.τ).loc Cert.DwInReferenceIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwHalf [hDwHalf : Cert.DwHalf.Facts] : Prop :=
  ∀ (m : (ℓ : Loc Cert.DwHalf.nD Cert.DwHalf.τ Cert.DwHalf.sig) → Buf (Elt Bits) ℓ) (g : Dev Cert.DwHalf.nD → PrngReg), Pre_DwHalf m →
    θ_run (Cert.DwHalf.defs (F := Bits)) (onTc (τ := Cert.DwHalf.τ) (Cert.DwHalf.main (F := Bits))) ⟨m, fun _ => 0, g⟩ (fun r => (∀ c : Dev Cert.DwHalf.nD,
      r.2.mem ((c.tc : Thread Cert.DwHalf.nD Cert.DwHalf.τ).loc Cert.DwHalf.main_arg0) = m ((c.tc : Thread Cert.DwHalf.nD Cert.DwHalf.τ).loc Cert.DwHalf.main_arg0)
      ∧ r.2.mem ((c.tc : Thread Cert.DwHalf.nD Cert.DwHalf.τ).loc Cert.DwHalf.main_arg1) = m ((c.tc : Thread Cert.DwHalf.nD Cert.DwHalf.τ).loc Cert.DwHalf.main_arg1)
      ∧ r.2.mem ((c.tc : Thread Cert.DwHalf.nD Cert.DwHalf.τ).loc Cert.DwHalf.main_arg2) = m ((c.tc : Thread Cert.DwHalf.nD Cert.DwHalf.τ).loc Cert.DwHalf.main_arg2))
      ∧ r.2.sem = fun _ => 0)

def quiescent_DwHalfIdeal [hDwHalfIdeal : Cert.DwHalfIdeal.Facts] : Prop :=
  ∀ (m : (ℓ : Loc Cert.DwHalfIdeal.nD Cert.DwHalfIdeal.τ Cert.DwHalfIdeal.sig) → Buf (Elt Ideal) ℓ) (g : Dev Cert.DwHalfIdeal.nD → PrngReg), Pre_DwHalfIdeal m →
    θ_run (Cert.DwHalfIdeal.defs (F := Ideal)) (onTc (τ := Cert.DwHalfIdeal.τ) (Cert.DwHalfIdeal.main (F := Ideal))) ⟨m, fun _ => 0, g⟩ (fun r => (∀ c : Dev Cert.DwHalfIdeal.nD,
      r.2.mem ((c.tc : Thread Cert.DwHalfIdeal.nD Cert.DwHalfIdeal.τ).loc Cert.DwHalfIdeal.main_arg0) = m ((c.tc : Thread Cert.DwHalfIdeal.nD Cert.DwHalfIdeal.τ).loc Cert.DwHalfIdeal.main_arg0)
      ∧ r.2.mem ((c.tc : Thread Cert.DwHalfIdeal.nD Cert.DwHalfIdeal.τ).loc Cert.DwHalfIdeal.main_arg1) = m ((c.tc : Thread Cert.DwHalfIdeal.nD Cert.DwHalfIdeal.τ).loc Cert.DwHalfIdeal.main_arg1)
      ∧ r.2.mem ((c.tc : Thread Cert.DwHalfIdeal.nD Cert.DwHalfIdeal.τ).loc Cert.DwHalfIdeal.main_arg2) = m ((c.tc : Thread Cert.DwHalfIdeal.nD Cert.DwHalfIdeal.τ).loc Cert.DwHalfIdeal.main_arg2))
      ∧ r.2.sem = fun _ => 0)

def quiescent_DwHalfReferenceIdeal [hDwHalfReferenceIdeal : Cert.DwHalfReferenceIdeal.Facts] : Prop :=
  ∀ (m : (ℓ : Loc Cert.DwHalfReferenceIdeal.nD Cert.DwHalfReferenceIdeal.τ Cert.DwHalfReferenceIdeal.sig) → Buf (Elt Ideal) ℓ) (g : Dev Cert.DwHalfReferenceIdeal.nD → PrngReg), Pre_DwHalfReferenceIdeal m →
    θ_run (Cert.DwHalfReferenceIdeal.defs (F := Ideal)) (onTc (τ := Cert.DwHalfReferenceIdeal.τ) (Cert.DwHalfReferenceIdeal.main (F := Ideal))) ⟨m, fun _ => 0, g⟩ (fun r => (∀ c : Dev Cert.DwHalfReferenceIdeal.nD,
      r.2.mem ((c.tc : Thread Cert.DwHalfReferenceIdeal.nD Cert.DwHalfReferenceIdeal.τ).loc Cert.DwHalfReferenceIdeal.main_arg0) = m ((c.tc : Thread Cert.DwHalfReferenceIdeal.nD Cert.DwHalfReferenceIdeal.τ).loc Cert.DwHalfReferenceIdeal.main_arg0)
      ∧ r.2.mem ((c.tc : Thread Cert.DwHalfReferenceIdeal.nD Cert.DwHalfReferenceIdeal.τ).loc Cert.DwHalfReferenceIdeal.main_arg1) = m ((c.tc : Thread Cert.DwHalfReferenceIdeal.nD Cert.DwHalfReferenceIdeal.τ).loc Cert.DwHalfReferenceIdeal.main_arg1)
      ∧ r.2.mem ((c.tc : Thread Cert.DwHalfReferenceIdeal.nD Cert.DwHalfReferenceIdeal.τ).loc Cert.DwHalfReferenceIdeal.main_arg2) = m ((c.tc : Thread Cert.DwHalfReferenceIdeal.nD Cert.DwHalfReferenceIdeal.τ).loc Cert.DwHalfReferenceIdeal.main_arg2))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ r.2.sem = fun _ => 0)

def quiescent_DwQkvReferenceIdeal [hDwQkvReferenceIdeal : Cert.DwQkvReferenceIdeal.Facts] : Prop :=
  ∀ (m : (ℓ : Loc Cert.DwQkvReferenceIdeal.nD Cert.DwQkvReferenceIdeal.τ Cert.DwQkvReferenceIdeal.sig) → Buf (Elt Ideal) ℓ) (g : Dev Cert.DwQkvReferenceIdeal.nD → PrngReg), Pre_DwQkvReferenceIdeal m →
    θ_run (Cert.DwQkvReferenceIdeal.defs (F := Ideal)) (onTc (τ := Cert.DwQkvReferenceIdeal.τ) (Cert.DwQkvReferenceIdeal.main (F := Ideal))) ⟨m, fun _ => 0, g⟩ (fun r => (∀ c : Dev Cert.DwQkvReferenceIdeal.nD,
      r.2.mem ((c.tc : Thread Cert.DwQkvReferenceIdeal.nD Cert.DwQkvReferenceIdeal.τ).loc Cert.DwQkvReferenceIdeal.main_arg0) = m ((c.tc : Thread Cert.DwQkvReferenceIdeal.nD Cert.DwQkvReferenceIdeal.τ).loc Cert.DwQkvReferenceIdeal.main_arg0)
      ∧ r.2.mem ((c.tc : Thread Cert.DwQkvReferenceIdeal.nD Cert.DwQkvReferenceIdeal.τ).loc Cert.DwQkvReferenceIdeal.main_arg1) = m ((c.tc : Thread Cert.DwQkvReferenceIdeal.nD Cert.DwQkvReferenceIdeal.τ).loc Cert.DwQkvReferenceIdeal.main_arg1))
      ∧ r.2.sem = fun _ => 0)

def quiescent_DwUv [hDwUv : Cert.DwUv.Facts] : Prop :=
  ∀ (m : (ℓ : Loc Cert.DwUv.nD Cert.DwUv.τ Cert.DwUv.sig) → Buf (Elt Bits) ℓ) (g : Dev Cert.DwUv.nD → PrngReg), Pre_DwUv m →
    θ_run (Cert.DwUv.defs (F := Bits)) (onTc (τ := Cert.DwUv.τ) (Cert.DwUv.main (F := Bits))) ⟨m, fun _ => 0, g⟩ (fun r => (∀ c : Dev Cert.DwUv.nD,
      r.2.mem ((c.tc : Thread Cert.DwUv.nD Cert.DwUv.τ).loc Cert.DwUv.main_arg0) = m ((c.tc : Thread Cert.DwUv.nD Cert.DwUv.τ).loc Cert.DwUv.main_arg0)
      ∧ r.2.mem ((c.tc : Thread Cert.DwUv.nD Cert.DwUv.τ).loc Cert.DwUv.main_arg1) = m ((c.tc : Thread Cert.DwUv.nD Cert.DwUv.τ).loc Cert.DwUv.main_arg1))
      ∧ r.2.sem = fun _ => 0)

def quiescent_DwUvIdeal [hDwUvIdeal : Cert.DwUvIdeal.Facts] : Prop :=
  ∀ (m : (ℓ : Loc Cert.DwUvIdeal.nD Cert.DwUvIdeal.τ Cert.DwUvIdeal.sig) → Buf (Elt Ideal) ℓ) (g : Dev Cert.DwUvIdeal.nD → PrngReg), Pre_DwUvIdeal m →
    θ_run (Cert.DwUvIdeal.defs (F := Ideal)) (onTc (τ := Cert.DwUvIdeal.τ) (Cert.DwUvIdeal.main (F := Ideal))) ⟨m, fun _ => 0, g⟩ (fun r => (∀ c : Dev Cert.DwUvIdeal.nD,
      r.2.mem ((c.tc : Thread Cert.DwUvIdeal.nD Cert.DwUvIdeal.τ).loc Cert.DwUvIdeal.main_arg0) = m ((c.tc : Thread Cert.DwUvIdeal.nD Cert.DwUvIdeal.τ).loc Cert.DwUvIdeal.main_arg0)
      ∧ r.2.mem ((c.tc : Thread Cert.DwUvIdeal.nD Cert.DwUvIdeal.τ).loc Cert.DwUvIdeal.main_arg1) = m ((c.tc : Thread Cert.DwUvIdeal.nD Cert.DwUvIdeal.τ).loc Cert.DwUvIdeal.main_arg1))
      ∧ r.2.sem = fun _ => 0)

def quiescent_DwUvReferenceIdeal [hDwUvReferenceIdeal : Cert.DwUvReferenceIdeal.Facts] : Prop :=
  ∀ (m : (ℓ : Loc Cert.DwUvReferenceIdeal.nD Cert.DwUvReferenceIdeal.τ Cert.DwUvReferenceIdeal.sig) → Buf (Elt Ideal) ℓ) (g : Dev Cert.DwUvReferenceIdeal.nD → PrngReg), Pre_DwUvReferenceIdeal m →
    θ_run (Cert.DwUvReferenceIdeal.defs (F := Ideal)) (onTc (τ := Cert.DwUvReferenceIdeal.τ) (Cert.DwUvReferenceIdeal.main (F := Ideal))) ⟨m, fun _ => 0, g⟩ (fun r => (∀ c : Dev Cert.DwUvReferenceIdeal.nD,
      r.2.mem ((c.tc : Thread Cert.DwUvReferenceIdeal.nD Cert.DwUvReferenceIdeal.τ).loc Cert.DwUvReferenceIdeal.main_arg0) = m ((c.tc : Thread Cert.DwUvReferenceIdeal.nD Cert.DwUvReferenceIdeal.τ).loc Cert.DwUvReferenceIdeal.main_arg0)
      ∧ r.2.mem ((c.tc : Thread Cert.DwUvReferenceIdeal.nD Cert.DwUvReferenceIdeal.τ).loc Cert.DwUvReferenceIdeal.main_arg1) = m ((c.tc : Thread Cert.DwUvReferenceIdeal.nD Cert.DwUvReferenceIdeal.τ).loc Cert.DwUvReferenceIdeal.main_arg1))
      ∧ r.2.sem = fun _ => 0)

def quiescent_DwMixOut [hDwMixOut : Cert.DwMixOut.Facts] : Prop :=
  ∀ (m : (ℓ : Loc Cert.DwMixOut.nD Cert.DwMixOut.τ Cert.DwMixOut.sig) → Buf (Elt Bits) ℓ) (g : Dev Cert.DwMixOut.nD → PrngReg), Pre_DwMixOut m →
    θ_run (Cert.DwMixOut.defs (F := Bits)) (onTc (τ := Cert.DwMixOut.τ) (Cert.DwMixOut.main (F := Bits))) ⟨m, fun _ => 0, g⟩ (fun r => (∀ c : Dev Cert.DwMixOut.nD,
      r.2.mem ((c.tc : Thread Cert.DwMixOut.nD Cert.DwMixOut.τ).loc Cert.DwMixOut.main_arg0) = m ((c.tc : Thread Cert.DwMixOut.nD Cert.DwMixOut.τ).loc Cert.DwMixOut.main_arg0)
      ∧ r.2.mem ((c.tc : Thread Cert.DwMixOut.nD Cert.DwMixOut.τ).loc Cert.DwMixOut.main_arg1) = m ((c.tc : Thread Cert.DwMixOut.nD Cert.DwMixOut.τ).loc Cert.DwMixOut.main_arg1))
      ∧ r.2.sem = fun _ => 0)

def quiescent_DwMixOutIdeal [hDwMixOutIdeal : Cert.DwMixOutIdeal.Facts] : Prop :=
  ∀ (m : (ℓ : Loc Cert.DwMixOutIdeal.nD Cert.DwMixOutIdeal.τ Cert.DwMixOutIdeal.sig) → Buf (Elt Ideal) ℓ) (g : Dev Cert.DwMixOutIdeal.nD → PrngReg), Pre_DwMixOutIdeal m →
    θ_run (Cert.DwMixOutIdeal.defs (F := Ideal)) (onTc (τ := Cert.DwMixOutIdeal.τ) (Cert.DwMixOutIdeal.main (F := Ideal))) ⟨m, fun _ => 0, g⟩ (fun r => (∀ c : Dev Cert.DwMixOutIdeal.nD,
      r.2.mem ((c.tc : Thread Cert.DwMixOutIdeal.nD Cert.DwMixOutIdeal.τ).loc Cert.DwMixOutIdeal.main_arg0) = m ((c.tc : Thread Cert.DwMixOutIdeal.nD Cert.DwMixOutIdeal.τ).loc Cert.DwMixOutIdeal.main_arg0)
      ∧ r.2.mem ((c.tc : Thread Cert.DwMixOutIdeal.nD Cert.DwMixOutIdeal.τ).loc Cert.DwMixOutIdeal.main_arg1) = m ((c.tc : Thread Cert.DwMixOutIdeal.nD Cert.DwMixOutIdeal.τ).loc Cert.DwMixOutIdeal.main_arg1))
      ∧ r.2.sem = fun _ => 0)

def quiescent_DwMixOutReferenceIdeal [hDwMixOutReferenceIdeal : Cert.DwMixOutReferenceIdeal.Facts] : Prop :=
  ∀ (m : (ℓ : Loc Cert.DwMixOutReferenceIdeal.nD Cert.DwMixOutReferenceIdeal.τ Cert.DwMixOutReferenceIdeal.sig) → Buf (Elt Ideal) ℓ) (g : Dev Cert.DwMixOutReferenceIdeal.nD → PrngReg), Pre_DwMixOutReferenceIdeal m →
    θ_run (Cert.DwMixOutReferenceIdeal.defs (F := Ideal)) (onTc (τ := Cert.DwMixOutReferenceIdeal.τ) (Cert.DwMixOutReferenceIdeal.main (F := Ideal))) ⟨m, fun _ => 0, g⟩ (fun r => (∀ c : Dev Cert.DwMixOutReferenceIdeal.nD,
      r.2.mem ((c.tc : Thread Cert.DwMixOutReferenceIdeal.nD Cert.DwMixOutReferenceIdeal.τ).loc Cert.DwMixOutReferenceIdeal.main_arg0) = m ((c.tc : Thread Cert.DwMixOutReferenceIdeal.nD Cert.DwMixOutReferenceIdeal.τ).loc Cert.DwMixOutReferenceIdeal.main_arg0)
      ∧ r.2.mem ((c.tc : Thread Cert.DwMixOutReferenceIdeal.nD Cert.DwMixOutReferenceIdeal.τ).loc Cert.DwMixOutReferenceIdeal.main_arg1) = m ((c.tc : Thread Cert.DwMixOutReferenceIdeal.nD Cert.DwMixOutReferenceIdeal.τ).loc Cert.DwMixOutReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5))
      ∧ r.2.sem = fun _ => 0)

def quiescent_Enter [hEnter : Cert.Enter.Facts] : Prop :=
  ∀ (m : (ℓ : Loc Cert.Enter.nD Cert.Enter.τ Cert.Enter.sig) → Buf (Elt Bits) ℓ) (g : Dev Cert.Enter.nD → PrngReg), Pre_Enter m →
    θ_run (Cert.Enter.defs (F := Bits)) (onTc (τ := Cert.Enter.τ) (Cert.Enter.main (F := Bits))) ⟨m, fun _ => 0, g⟩ (fun r => (∀ c : Dev Cert.Enter.nD,
      r.2.mem ((c.tc : Thread Cert.Enter.nD Cert.Enter.τ).loc Cert.Enter.main_arg0) = m ((c.tc : Thread Cert.Enter.nD Cert.Enter.τ).loc Cert.Enter.main_arg0)
      ∧ r.2.mem ((c.tc : Thread Cert.Enter.nD Cert.Enter.τ).loc Cert.Enter.main_arg1) = m ((c.tc : Thread Cert.Enter.nD Cert.Enter.τ).loc Cert.Enter.main_arg1)
      ∧ r.2.mem ((c.tc : Thread Cert.Enter.nD Cert.Enter.τ).loc Cert.Enter.main_arg2) = m ((c.tc : Thread Cert.Enter.nD Cert.Enter.τ).loc Cert.Enter.main_arg2))
      ∧ r.2.sem = fun _ => 0)

def quiescent_EnterIdeal [hEnterIdeal : Cert.EnterIdeal.Facts] : Prop :=
  ∀ (m : (ℓ : Loc Cert.EnterIdeal.nD Cert.EnterIdeal.τ Cert.EnterIdeal.sig) → Buf (Elt Ideal) ℓ) (g : Dev Cert.EnterIdeal.nD → PrngReg), Pre_EnterIdeal m →
    θ_run (Cert.EnterIdeal.defs (F := Ideal)) (onTc (τ := Cert.EnterIdeal.τ) (Cert.EnterIdeal.main (F := Ideal))) ⟨m, fun _ => 0, g⟩ (fun r => (∀ c : Dev Cert.EnterIdeal.nD,
      r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
      ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1)
      ∧ r.2.mem ((c.tc : Thread Cert.EnterIdeal.nD Cert.EnterIdeal.τ).loc Cert.EnterIdeal.main_arg2) = m ((c.tc : Thread Cert.EnterIdeal.nD Cert.EnterIdeal.τ).loc Cert.EnterIdeal.main_arg2))
      ∧ r.2.sem = fun _ => 0)

def quiescent_EnterReferenceIdeal [hEnterReferenceIdeal : Cert.EnterReferenceIdeal.Facts] : Prop :=
  ∀ (m : (ℓ : Loc Cert.EnterReferenceIdeal.nD Cert.EnterReferenceIdeal.τ Cert.EnterReferenceIdeal.sig) → Buf (Elt Ideal) ℓ) (g : Dev Cert.EnterReferenceIdeal.nD → PrngReg), Pre_EnterReferenceIdeal m →
    θ_run (Cert.EnterReferenceIdeal.defs (F := Ideal)) (onTc (τ := Cert.EnterReferenceIdeal.τ) (Cert.EnterReferenceIdeal.main (F := Ideal))) ⟨m, fun _ => 0, g⟩ (fun r => (∀ c : Dev Cert.EnterReferenceIdeal.nD,
      r.2.mem ((c.tc : Thread Cert.EnterReferenceIdeal.nD Cert.EnterReferenceIdeal.τ).loc Cert.EnterReferenceIdeal.main_arg0) = m ((c.tc : Thread Cert.EnterReferenceIdeal.nD Cert.EnterReferenceIdeal.τ).loc Cert.EnterReferenceIdeal.main_arg0)
      ∧ r.2.mem ((c.tc : Thread Cert.EnterReferenceIdeal.nD Cert.EnterReferenceIdeal.τ).loc Cert.EnterReferenceIdeal.main_arg1) = m ((c.tc : Thread Cert.EnterReferenceIdeal.nD Cert.EnterReferenceIdeal.τ).loc Cert.EnterReferenceIdeal.main_arg1)
      ∧ r.2.mem ((c.tc : Thread Cert.EnterReferenceIdeal.nD Cert.EnterReferenceIdeal.τ).loc Cert.EnterReferenceIdeal.main_arg2) = m ((c.tc : Thread Cert.EnterReferenceIdeal.nD Cert.EnterReferenceIdeal.τ).loc Cert.EnterReferenceIdeal.main_arg2))
      ∧ r.2.sem = fun _ => 0)

def quiescent_Leave [hLeave : Cert.Leave.Facts] : Prop :=
  ∀ (m : (ℓ : Loc Cert.Leave.nD Cert.Leave.τ Cert.Leave.sig) → Buf (Elt Bits) ℓ) (g : Dev Cert.Leave.nD → PrngReg), Pre_Leave m →
    θ_run (Cert.Leave.defs (F := Bits)) (onTc (τ := Cert.Leave.τ) (Cert.Leave.main (F := Bits))) ⟨m, fun _ => 0, g⟩ (fun r => (∀ c : Dev Cert.Leave.nD,
      r.2.mem ((c.tc : Thread Cert.Leave.nD Cert.Leave.τ).loc Cert.Leave.main_arg0) = m ((c.tc : Thread Cert.Leave.nD Cert.Leave.τ).loc Cert.Leave.main_arg0)
      ∧ r.2.mem ((c.tc : Thread Cert.Leave.nD Cert.Leave.τ).loc Cert.Leave.main_arg1) = m ((c.tc : Thread Cert.Leave.nD Cert.Leave.τ).loc Cert.Leave.main_arg1)
      ∧ r.2.mem ((c.tc : Thread Cert.Leave.nD Cert.Leave.τ).loc Cert.Leave.main_arg2) = m ((c.tc : Thread Cert.Leave.nD Cert.Leave.τ).loc Cert.Leave.main_arg2)
      ∧ r.2.mem ((c.tc : Thread Cert.Leave.nD Cert.Leave.τ).loc Cert.Leave.main_arg3) = m ((c.tc : Thread Cert.Leave.nD Cert.Leave.τ).loc Cert.Leave.main_arg3))
      ∧ r.2.sem = fun _ => 0)

def quiescent_LeaveIdeal [hLeaveIdeal : Cert.LeaveIdeal.Facts] : Prop :=
  ∀ (m : (ℓ : Loc Cert.LeaveIdeal.nD Cert.LeaveIdeal.τ Cert.LeaveIdeal.sig) → Buf (Elt Ideal) ℓ) (g : Dev Cert.LeaveIdeal.nD → PrngReg), Pre_LeaveIdeal m →
    θ_run (Cert.LeaveIdeal.defs (F := Ideal)) (onTc (τ := Cert.LeaveIdeal.τ) (Cert.LeaveIdeal.main (F := Ideal))) ⟨m, fun _ => 0, g⟩ (fun r => (∀ c : Dev Cert.LeaveIdeal.nD,
      r.2.mem ((c.tc : Thread Cert.LeaveIdeal.nD Cert.LeaveIdeal.τ).loc Cert.LeaveIdeal.main_arg0) = m ((c.tc : Thread Cert.LeaveIdeal.nD Cert.LeaveIdeal.τ).loc Cert.LeaveIdeal.main_arg0)
      ∧ r.2.mem ((c.tc : Thread Cert.LeaveIdeal.nD Cert.LeaveIdeal.τ).loc Cert.LeaveIdeal.main_arg1) = m ((c.tc : Thread Cert.LeaveIdeal.nD Cert.LeaveIdeal.τ).loc Cert.LeaveIdeal.main_arg1)
      ∧ r.2.mem ((c.tc : Thread Cert.LeaveIdeal.nD Cert.LeaveIdeal.τ).loc Cert.LeaveIdeal.main_arg2) = m ((c.tc : Thread Cert.LeaveIdeal.nD Cert.LeaveIdeal.τ).loc Cert.LeaveIdeal.main_arg2)
      ∧ r.2.mem ((c.tc : Thread Cert.LeaveIdeal.nD Cert.LeaveIdeal.τ).loc Cert.LeaveIdeal.main_arg3) = m ((c.tc : Thread Cert.LeaveIdeal.nD Cert.LeaveIdeal.τ).loc Cert.LeaveIdeal.main_arg3))
      ∧ r.2.sem = fun _ => 0)

def quiescent_LeaveReferenceIdeal [hLeaveReferenceIdeal : Cert.LeaveReferenceIdeal.Facts] : Prop :=
  ∀ (m : (ℓ : Loc Cert.LeaveReferenceIdeal.nD Cert.LeaveReferenceIdeal.τ Cert.LeaveReferenceIdeal.sig) → Buf (Elt Ideal) ℓ) (g : Dev Cert.LeaveReferenceIdeal.nD → PrngReg), Pre_LeaveReferenceIdeal m →
    θ_run (Cert.LeaveReferenceIdeal.defs (F := Ideal)) (onTc (τ := Cert.LeaveReferenceIdeal.τ) (Cert.LeaveReferenceIdeal.main (F := Ideal))) ⟨m, fun _ => 0, g⟩ (fun r => (∀ c : Dev Cert.LeaveReferenceIdeal.nD,
      r.2.mem ((c.tc : Thread Cert.LeaveReferenceIdeal.nD Cert.LeaveReferenceIdeal.τ).loc Cert.LeaveReferenceIdeal.main_arg0) = m ((c.tc : Thread Cert.LeaveReferenceIdeal.nD Cert.LeaveReferenceIdeal.τ).loc Cert.LeaveReferenceIdeal.main_arg0)
      ∧ r.2.mem ((c.tc : Thread Cert.LeaveReferenceIdeal.nD Cert.LeaveReferenceIdeal.τ).loc Cert.LeaveReferenceIdeal.main_arg1) = m ((c.tc : Thread Cert.LeaveReferenceIdeal.nD Cert.LeaveReferenceIdeal.τ).loc Cert.LeaveReferenceIdeal.main_arg1)
      ∧ r.2.mem ((c.tc : Thread Cert.LeaveReferenceIdeal.nD Cert.LeaveReferenceIdeal.τ).loc Cert.LeaveReferenceIdeal.main_arg2) = m ((c.tc : Thread Cert.LeaveReferenceIdeal.nD Cert.LeaveReferenceIdeal.τ).loc Cert.LeaveReferenceIdeal.main_arg2)
      ∧ r.2.mem ((c.tc : Thread Cert.LeaveReferenceIdeal.nD Cert.LeaveReferenceIdeal.τ).loc Cert.LeaveReferenceIdeal.main_arg3) = m ((c.tc : Thread Cert.LeaveReferenceIdeal.nD Cert.LeaveReferenceIdeal.τ).loc Cert.LeaveReferenceIdeal.main_arg3))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Input_InputIdeal : Prop :=
  True

def algebraic_InputIdeal_InputReferenceIdeal [hInputIdeal : Cert.InputIdeal.Facts] [hInputReferenceIdeal : Cert.InputReferenceIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputIdeal m →
    (∀ c : Dev Cert.InputIdeal.nD,
      m' ((c.tc : Thread Cert.InputReferenceIdeal.nD Cert.InputReferenceIdeal.τ).loc Cert.InputReferenceIdeal.main_arg0) = m ((c.tc : Thread Cert.InputIdeal.nD Cert.InputIdeal.τ).loc Cert.InputIdeal.main_arg0)
      ∧ m' ((c.tc : Thread Cert.InputReferenceIdeal.nD Cert.InputReferenceIdeal.τ).loc Cert.InputReferenceIdeal.main_arg1) = m ((c.tc : Thread Cert.InputIdeal.nD Cert.InputIdeal.τ).loc Cert.InputIdeal.main_arg1)
      ∧ m' ((c.tc : Thread Cert.InputReferenceIdeal.nD Cert.InputReferenceIdeal.τ).loc Cert.InputReferenceIdeal.main_arg2) = m ((c.tc : Thread Cert.InputIdeal.nD Cert.InputIdeal.τ).loc Cert.InputIdeal.main_arg2)
      ∧ m' ((c.tc : Thread Cert.InputReferenceIdeal.nD Cert.InputReferenceIdeal.τ).loc Cert.InputReferenceIdeal.main_arg3) = m ((c.tc : Thread Cert.InputIdeal.nD Cert.InputIdeal.τ).loc Cert.InputIdeal.main_arg3)
      ∧ m' ((c.tc : Thread Cert.InputReferenceIdeal.nD Cert.InputReferenceIdeal.τ).loc Cert.InputReferenceIdeal.main_arg4) = m ((c.tc : Thread Cert.InputIdeal.nD Cert.InputIdeal.τ).loc Cert.InputIdeal.main_arg4)
      ∧ m' ((c.tc : Thread Cert.InputReferenceIdeal.nD Cert.InputReferenceIdeal.τ).loc Cert.InputReferenceIdeal.main_arg5) = m ((c.tc : Thread Cert.InputIdeal.nD Cert.InputIdeal.τ).loc Cert.InputIdeal.main_arg5)) →
    ∃ (v0 : (c : Dev Cert.InputIdeal.nD) → Buf (Elt Ideal) ((c.tc : Thread Cert.InputIdeal.nD Cert.InputIdeal.τ).loc Cert.InputIdeal.main_v7_0)) (v1 : (c : Dev Cert.InputIdeal.nD) → Buf (Elt Ideal) ((c.tc : Thread Cert.InputIdeal.nD Cert.InputIdeal.τ).loc Cert.InputIdeal.main_v7_1)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v7_0) = v0 c
          ∧ r.2.mem ((c.tc : Thread Cert.InputIdeal.nD Cert.InputIdeal.τ).loc Cert.InputIdeal.main_v7_1) = v1 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
          ∧ r.2.mem ((c.tc : Thread Cert.InputIdeal.nD Cert.InputIdeal.τ).loc Cert.InputIdeal.main_arg5) = m ((c.tc : Thread Cert.InputIdeal.nD Cert.InputIdeal.τ).loc Cert.InputIdeal.main_arg5))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v41) = v0 c
          ∧ r.2.mem ((c.tc : Thread Cert.InputReferenceIdeal.nD Cert.InputReferenceIdeal.τ).loc Cert.InputReferenceIdeal.main_v24) = v1 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4)
          ∧ r.2.mem ((c.tc : Thread Cert.InputReferenceIdeal.nD Cert.InputReferenceIdeal.τ).loc Cert.InputReferenceIdeal.main_arg5) = m' ((c.tc : Thread Cert.InputReferenceIdeal.nD Cert.InputReferenceIdeal.τ).loc Cert.InputReferenceIdeal.main_arg5))

def preserves_Gates_GatesIdeal : Prop :=
  True

def algebraic_GatesIdeal_GatesReferenceIdeal_pre_gates_finite [hGatesIdeal : Cert.GatesIdeal.Facts] [hGatesReferenceIdeal : Cert.GatesReferenceIdeal.Facts] [hPre_gates_finite : Cert.Pre_gates_finite.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal_gates_finite m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v10_0)) (v1 : (c : Dev Cert.GatesIdeal.nD) → Buf (Elt Ideal) ((c.tc : Thread Cert.GatesIdeal.nD Cert.GatesIdeal.τ).loc Cert.GatesIdeal.main_v10_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v10_0) = v0 c
          ∧ r.2.mem ((c.tc : Thread Cert.GatesIdeal.nD Cert.GatesIdeal.τ).loc Cert.GatesIdeal.main_v10_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v20) = v0 c
          ∧ r.2.mem ((c.tc : Thread Cert.GatesReferenceIdeal.nD Cert.GatesReferenceIdeal.τ).loc Cert.GatesReferenceIdeal.main_v30) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)
      ∧ m' ((c.tc : Thread Cert.DwInReferenceIdeal.nD Cert.DwInReferenceIdeal.τ).loc Cert.DwInReferenceIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v4)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v4) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v27) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1)
          ∧ r.2.mem ((c.tc : Thread Cert.DwInReferenceIdeal.nD Cert.DwInReferenceIdeal.τ).loc Cert.DwInReferenceIdeal.main_arg2) = m' ((c.tc : Thread Cert.DwInReferenceIdeal.nD Cert.DwInReferenceIdeal.τ).loc Cert.DwInReferenceIdeal.main_arg2))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v7) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwHalf_DwHalfIdeal : Prop :=
  True

def algebraic_DwHalfIdeal_DwHalfReferenceIdeal [hDwHalfIdeal : Cert.DwHalfIdeal.Facts] [hDwHalfReferenceIdeal : Cert.DwHalfReferenceIdeal.Facts] : Prop :=
  ∀ (m : (ℓ : Loc Cert.DwHalfIdeal.nD Cert.DwHalfIdeal.τ Cert.DwHalfIdeal.sig) → Buf (Elt Ideal) ℓ) (g : Dev Cert.DwHalfIdeal.nD → PrngReg)
    (m' : (ℓ : Loc Cert.DwHalfReferenceIdeal.nD Cert.DwHalfReferenceIdeal.τ Cert.DwHalfReferenceIdeal.sig) → Buf (Elt Ideal) ℓ) (g' : Dev Cert.DwHalfReferenceIdeal.nD → PrngReg), Pre_DwHalfIdeal m →
    (∀ c : Dev Cert.DwHalfIdeal.nD,
      m' ((c.tc : Thread Cert.DwHalfReferenceIdeal.nD Cert.DwHalfReferenceIdeal.τ).loc Cert.DwHalfReferenceIdeal.main_arg0) = m ((c.tc : Thread Cert.DwHalfIdeal.nD Cert.DwHalfIdeal.τ).loc Cert.DwHalfIdeal.main_arg0)
      ∧ m' ((c.tc : Thread Cert.DwHalfReferenceIdeal.nD Cert.DwHalfReferenceIdeal.τ).loc Cert.DwHalfReferenceIdeal.main_arg1) = m ((c.tc : Thread Cert.DwHalfIdeal.nD Cert.DwHalfIdeal.τ).loc Cert.DwHalfIdeal.main_arg1)
      ∧ m' ((c.tc : Thread Cert.DwHalfReferenceIdeal.nD Cert.DwHalfReferenceIdeal.τ).loc Cert.DwHalfReferenceIdeal.main_arg2) = m ((c.tc : Thread Cert.DwHalfIdeal.nD Cert.DwHalfIdeal.τ).loc Cert.DwHalfIdeal.main_arg2)) →
    ∃ (v0 : (c : Dev Cert.DwHalfIdeal.nD) → Buf (Elt Ideal) ((c.tc : Thread Cert.DwHalfIdeal.nD Cert.DwHalfIdeal.τ).loc Cert.DwHalfIdeal.main_v4)),
      θ_run (Cert.DwHalfIdeal.defs (F := Ideal)) (onTc (τ := Cert.DwHalfIdeal.τ) (Cert.DwHalfIdeal.main (F := Ideal))) ⟨m, fun _ => 0, g⟩ (fun r => ∀ c : Dev Cert.DwHalfIdeal.nD,
          r.2.mem ((c.tc : Thread Cert.DwHalfIdeal.nD Cert.DwHalfIdeal.τ).loc Cert.DwHalfIdeal.main_v4) = v0 c
          ∧ r.2.mem ((c.tc : Thread Cert.DwHalfIdeal.nD Cert.DwHalfIdeal.τ).loc Cert.DwHalfIdeal.main_arg0) = m ((c.tc : Thread Cert.DwHalfIdeal.nD Cert.DwHalfIdeal.τ).loc Cert.DwHalfIdeal.main_arg0)
          ∧ r.2.mem ((c.tc : Thread Cert.DwHalfIdeal.nD Cert.DwHalfIdeal.τ).loc Cert.DwHalfIdeal.main_arg1) = m ((c.tc : Thread Cert.DwHalfIdeal.nD Cert.DwHalfIdeal.τ).loc Cert.DwHalfIdeal.main_arg1)
          ∧ r.2.mem ((c.tc : Thread Cert.DwHalfIdeal.nD Cert.DwHalfIdeal.τ).loc Cert.DwHalfIdeal.main_arg2) = m ((c.tc : Thread Cert.DwHalfIdeal.nD Cert.DwHalfIdeal.τ).loc Cert.DwHalfIdeal.main_arg2))
      ∧ θ_run (Cert.DwHalfReferenceIdeal.defs (F := Ideal)) (onTc (τ := Cert.DwHalfReferenceIdeal.τ) (Cert.DwHalfReferenceIdeal.main (F := Ideal))) ⟨m', fun _ => 0, g'⟩ (fun r => ∀ c : Dev Cert.DwHalfReferenceIdeal.nD,
          r.2.mem ((c.tc : Thread Cert.DwHalfReferenceIdeal.nD Cert.DwHalfReferenceIdeal.τ).loc Cert.DwHalfReferenceIdeal.main_v27) = v0 c
          ∧ r.2.mem ((c.tc : Thread Cert.DwHalfReferenceIdeal.nD Cert.DwHalfReferenceIdeal.τ).loc Cert.DwHalfReferenceIdeal.main_arg0) = m' ((c.tc : Thread Cert.DwHalfReferenceIdeal.nD Cert.DwHalfReferenceIdeal.τ).loc Cert.DwHalfReferenceIdeal.main_arg0)
          ∧ r.2.mem ((c.tc : Thread Cert.DwHalfReferenceIdeal.nD Cert.DwHalfReferenceIdeal.τ).loc Cert.DwHalfReferenceIdeal.main_arg1) = m' ((c.tc : Thread Cert.DwHalfReferenceIdeal.nD Cert.DwHalfReferenceIdeal.τ).loc Cert.DwHalfReferenceIdeal.main_arg1)
          ∧ r.2.mem ((c.tc : Thread Cert.DwHalfReferenceIdeal.nD Cert.DwHalfReferenceIdeal.τ).loc Cert.DwHalfReferenceIdeal.main_arg2) = m' ((c.tc : Thread Cert.DwHalfReferenceIdeal.nD Cert.DwHalfReferenceIdeal.τ).loc Cert.DwHalfReferenceIdeal.main_arg2))

def preserves_DwQkv_DwQkvIdeal : Prop :=
  True

def algebraic_DwQkvIdeal_DwQkvReferenceIdeal [hDwQkvIdeal : Cert.DwQkvIdeal.Facts] [hDwQkvReferenceIdeal : Cert.DwQkvReferenceIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvReferenceIdeal.nD Cert.DwQkvReferenceIdeal.τ Cert.DwQkvReferenceIdeal.sig) → Buf (Elt Ideal) ℓ) (g' : Dev Cert.DwQkvReferenceIdeal.nD → PrngReg), Pre_DwQkvIdeal m →
    (∀ c : Dev Cert.DwQkvIdeal.nD,
      m' ((c.tc : Thread Cert.DwQkvReferenceIdeal.nD Cert.DwQkvReferenceIdeal.τ).loc Cert.DwQkvReferenceIdeal.main_arg0) = m ((c.tc : Thread Cert.DwQkvIdeal.nD Cert.DwQkvIdeal.τ).loc Cert.DwQkvIdeal.main_arg0)
      ∧ m' ((c.tc : Thread Cert.DwQkvReferenceIdeal.nD Cert.DwQkvReferenceIdeal.τ).loc Cert.DwQkvReferenceIdeal.main_arg1) = m ((c.tc : Thread Cert.DwQkvIdeal.nD Cert.DwQkvIdeal.τ).loc Cert.DwQkvIdeal.main_arg1)) →
    ∃ (v0 : (c : Dev Cert.DwQkvIdeal.nD) → Buf (Elt Ideal) ((c.tc : Thread Cert.DwQkvIdeal.nD Cert.DwQkvIdeal.τ).loc Cert.DwQkvIdeal.main_v0)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v0) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ θ_run (Cert.DwQkvReferenceIdeal.defs (F := Ideal)) (onTc (τ := Cert.DwQkvReferenceIdeal.τ) (Cert.DwQkvReferenceIdeal.main (F := Ideal))) ⟨m', fun _ => 0, g'⟩ (fun r => ∀ c : Dev Cert.DwQkvReferenceIdeal.nD,
          r.2.mem ((c.tc : Thread Cert.DwQkvReferenceIdeal.nD Cert.DwQkvReferenceIdeal.τ).loc Cert.DwQkvReferenceIdeal.main_v6) = v0 c
          ∧ r.2.mem ((c.tc : Thread Cert.DwQkvReferenceIdeal.nD Cert.DwQkvReferenceIdeal.τ).loc Cert.DwQkvReferenceIdeal.main_arg0) = m' ((c.tc : Thread Cert.DwQkvReferenceIdeal.nD Cert.DwQkvReferenceIdeal.τ).loc Cert.DwQkvReferenceIdeal.main_arg0)
          ∧ r.2.mem ((c.tc : Thread Cert.DwQkvReferenceIdeal.nD Cert.DwQkvReferenceIdeal.τ).loc Cert.DwQkvReferenceIdeal.main_arg1) = m' ((c.tc : Thread Cert.DwQkvReferenceIdeal.nD Cert.DwQkvReferenceIdeal.τ).loc Cert.DwQkvReferenceIdeal.main_arg1))

def preserves_DwUv_DwUvIdeal : Prop :=
  True

def algebraic_DwUvIdeal_DwUvReferenceIdeal [hDwUvIdeal : Cert.DwUvIdeal.Facts] [hDwUvReferenceIdeal : Cert.DwUvReferenceIdeal.Facts] : Prop :=
  ∀ (m : (ℓ : Loc Cert.DwUvIdeal.nD Cert.DwUvIdeal.τ Cert.DwUvIdeal.sig) → Buf (Elt Ideal) ℓ) (g : Dev Cert.DwUvIdeal.nD → PrngReg)
    (m' : (ℓ : Loc Cert.DwUvReferenceIdeal.nD Cert.DwUvReferenceIdeal.τ Cert.DwUvReferenceIdeal.sig) → Buf (Elt Ideal) ℓ) (g' : Dev Cert.DwUvReferenceIdeal.nD → PrngReg), Pre_DwUvIdeal m →
    (∀ c : Dev Cert.DwUvIdeal.nD,
      m' ((c.tc : Thread Cert.DwUvReferenceIdeal.nD Cert.DwUvReferenceIdeal.τ).loc Cert.DwUvReferenceIdeal.main_arg0) = m ((c.tc : Thread Cert.DwUvIdeal.nD Cert.DwUvIdeal.τ).loc Cert.DwUvIdeal.main_arg0)
      ∧ m' ((c.tc : Thread Cert.DwUvReferenceIdeal.nD Cert.DwUvReferenceIdeal.τ).loc Cert.DwUvReferenceIdeal.main_arg1) = m ((c.tc : Thread Cert.DwUvIdeal.nD Cert.DwUvIdeal.τ).loc Cert.DwUvIdeal.main_arg1)) →
    ∃ (v0 : (c : Dev Cert.DwUvIdeal.nD) → Buf (Elt Ideal) ((c.tc : Thread Cert.DwUvIdeal.nD Cert.DwUvIdeal.τ).loc Cert.DwUvIdeal.main_v0)),
      θ_run (Cert.DwUvIdeal.defs (F := Ideal)) (onTc (τ := Cert.DwUvIdeal.τ) (Cert.DwUvIdeal.main (F := Ideal))) ⟨m, fun _ => 0, g⟩ (fun r => ∀ c : Dev Cert.DwUvIdeal.nD,
          r.2.mem ((c.tc : Thread Cert.DwUvIdeal.nD Cert.DwUvIdeal.τ).loc Cert.DwUvIdeal.main_v0) = v0 c
          ∧ r.2.mem ((c.tc : Thread Cert.DwUvIdeal.nD Cert.DwUvIdeal.τ).loc Cert.DwUvIdeal.main_arg0) = m ((c.tc : Thread Cert.DwUvIdeal.nD Cert.DwUvIdeal.τ).loc Cert.DwUvIdeal.main_arg0)
          ∧ r.2.mem ((c.tc : Thread Cert.DwUvIdeal.nD Cert.DwUvIdeal.τ).loc Cert.DwUvIdeal.main_arg1) = m ((c.tc : Thread Cert.DwUvIdeal.nD Cert.DwUvIdeal.τ).loc Cert.DwUvIdeal.main_arg1))
      ∧ θ_run (Cert.DwUvReferenceIdeal.defs (F := Ideal)) (onTc (τ := Cert.DwUvReferenceIdeal.τ) (Cert.DwUvReferenceIdeal.main (F := Ideal))) ⟨m', fun _ => 0, g'⟩ (fun r => ∀ c : Dev Cert.DwUvReferenceIdeal.nD,
          r.2.mem ((c.tc : Thread Cert.DwUvReferenceIdeal.nD Cert.DwUvReferenceIdeal.τ).loc Cert.DwUvReferenceIdeal.main_v6) = v0 c
          ∧ r.2.mem ((c.tc : Thread Cert.DwUvReferenceIdeal.nD Cert.DwUvReferenceIdeal.τ).loc Cert.DwUvReferenceIdeal.main_arg0) = m' ((c.tc : Thread Cert.DwUvReferenceIdeal.nD Cert.DwUvReferenceIdeal.τ).loc Cert.DwUvReferenceIdeal.main_arg0)
          ∧ r.2.mem ((c.tc : Thread Cert.DwUvReferenceIdeal.nD Cert.DwUvReferenceIdeal.τ).loc Cert.DwUvReferenceIdeal.main_arg1) = m' ((c.tc : Thread Cert.DwUvReferenceIdeal.nD Cert.DwUvReferenceIdeal.τ).loc Cert.DwUvReferenceIdeal.main_arg1))

def preserves_DwMixOut_DwMixOutIdeal : Prop :=
  True

def algebraic_DwMixOutIdeal_DwMixOutReferenceIdeal [hDwMixOutIdeal : Cert.DwMixOutIdeal.Facts] [hDwMixOutReferenceIdeal : Cert.DwMixOutReferenceIdeal.Facts] : Prop :=
  ∀ (m : (ℓ : Loc Cert.DwMixOutIdeal.nD Cert.DwMixOutIdeal.τ Cert.DwMixOutIdeal.sig) → Buf (Elt Ideal) ℓ) (g : Dev Cert.DwMixOutIdeal.nD → PrngReg)
    (m' : (ℓ : Loc Cert.DwMixOutReferenceIdeal.nD Cert.DwMixOutReferenceIdeal.τ Cert.DwMixOutReferenceIdeal.sig) → Buf (Elt Ideal) ℓ) (g' : Dev Cert.DwMixOutReferenceIdeal.nD → PrngReg), Pre_DwMixOutIdeal m →
    (∀ c : Dev Cert.DwMixOutIdeal.nD,
      m' ((c.tc : Thread Cert.DwMixOutReferenceIdeal.nD Cert.DwMixOutReferenceIdeal.τ).loc Cert.DwMixOutReferenceIdeal.main_arg0) = m ((c.tc : Thread Cert.DwMixOutIdeal.nD Cert.DwMixOutIdeal.τ).loc Cert.DwMixOutIdeal.main_arg0)
      ∧ m' ((c.tc : Thread Cert.DwMixOutReferenceIdeal.nD Cert.DwMixOutReferenceIdeal.τ).loc Cert.DwMixOutReferenceIdeal.main_arg1) = m ((c.tc : Thread Cert.DwMixOutIdeal.nD Cert.DwMixOutIdeal.τ).loc Cert.DwMixOutIdeal.main_arg1)) →
    ∃ (v0 : (c : Dev Cert.DwMixOutIdeal.nD) → Buf (Elt Ideal) ((c.tc : Thread Cert.DwMixOutIdeal.nD Cert.DwMixOutIdeal.τ).loc Cert.DwMixOutIdeal.main_v0)),
      θ_run (Cert.DwMixOutIdeal.defs (F := Ideal)) (onTc (τ := Cert.DwMixOutIdeal.τ) (Cert.DwMixOutIdeal.main (F := Ideal))) ⟨m, fun _ => 0, g⟩ (fun r => ∀ c : Dev Cert.DwMixOutIdeal.nD,
          r.2.mem ((c.tc : Thread Cert.DwMixOutIdeal.nD Cert.DwMixOutIdeal.τ).loc Cert.DwMixOutIdeal.main_v0) = v0 c
          ∧ r.2.mem ((c.tc : Thread Cert.DwMixOutIdeal.nD Cert.DwMixOutIdeal.τ).loc Cert.DwMixOutIdeal.main_arg0) = m ((c.tc : Thread Cert.DwMixOutIdeal.nD Cert.DwMixOutIdeal.τ).loc Cert.DwMixOutIdeal.main_arg0)
          ∧ r.2.mem ((c.tc : Thread Cert.DwMixOutIdeal.nD Cert.DwMixOutIdeal.τ).loc Cert.DwMixOutIdeal.main_arg1) = m ((c.tc : Thread Cert.DwMixOutIdeal.nD Cert.DwMixOutIdeal.τ).loc Cert.DwMixOutIdeal.main_arg1))
      ∧ θ_run (Cert.DwMixOutReferenceIdeal.defs (F := Ideal)) (onTc (τ := Cert.DwMixOutReferenceIdeal.τ) (Cert.DwMixOutReferenceIdeal.main (F := Ideal))) ⟨m', fun _ => 0, g'⟩ (fun r => ∀ c : Dev Cert.DwMixOutReferenceIdeal.nD,
          r.2.mem ((c.tc : Thread Cert.DwMixOutReferenceIdeal.nD Cert.DwMixOutReferenceIdeal.τ).loc Cert.DwMixOutReferenceIdeal.main_v6) = v0 c
          ∧ r.2.mem ((c.tc : Thread Cert.DwMixOutReferenceIdeal.nD Cert.DwMixOutReferenceIdeal.τ).loc Cert.DwMixOutReferenceIdeal.main_arg0) = m' ((c.tc : Thread Cert.DwMixOutReferenceIdeal.nD Cert.DwMixOutReferenceIdeal.τ).loc Cert.DwMixOutReferenceIdeal.main_arg0)
          ∧ r.2.mem ((c.tc : Thread Cert.DwMixOutReferenceIdeal.nD Cert.DwMixOutReferenceIdeal.τ).loc Cert.DwMixOutReferenceIdeal.main_arg1) = m' ((c.tc : Thread Cert.DwMixOutReferenceIdeal.nD Cert.DwMixOutReferenceIdeal.τ).loc Cert.DwMixOutReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v1_0)) (v1 : (c : Dev Cert.MixOutIdeal.nD) → Buf (Elt Ideal) ((c.tc : Thread Cert.MixOutIdeal.nD Cert.MixOutIdeal.τ).loc Cert.MixOutIdeal.main_v1_1)) (v2 : (c : Dev Cert.MixOutIdeal.nD) → Buf (Elt Ideal) ((c.tc : Thread Cert.MixOutIdeal.nD Cert.MixOutIdeal.τ).loc Cert.MixOutIdeal.main_v1_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1_0) = v0 c
          ∧ r.2.mem ((c.tc : Thread Cert.MixOutIdeal.nD Cert.MixOutIdeal.τ).loc Cert.MixOutIdeal.main_v1_1) = v1 c
          ∧ r.2.mem ((c.tc : Thread Cert.MixOutIdeal.nD Cert.MixOutIdeal.τ).loc Cert.MixOutIdeal.main_v1_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v4) = v0 c
          ∧ r.2.mem ((c.tc : Thread Cert.MixOutReferenceIdeal.nD Cert.MixOutReferenceIdeal.τ).loc Cert.MixOutReferenceIdeal.main_v5) = v1 c
          ∧ r.2.mem ((c.tc : Thread Cert.MixOutReferenceIdeal.nD Cert.MixOutReferenceIdeal.τ).loc Cert.MixOutReferenceIdeal.main_v6) = v2 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)
      ∧ m' ((c.tc : Thread Cert.MixInReferenceIdeal.nD Cert.MixInReferenceIdeal.τ).loc Cert.MixInReferenceIdeal.main_arg2) = m ((c.tc : Thread Cert.MixInIdeal.nD Cert.MixInIdeal.τ).loc Cert.MixInIdeal.main_arg2)
      ∧ m' ((c.tc : Thread Cert.MixInReferenceIdeal.nD Cert.MixInReferenceIdeal.τ).loc Cert.MixInReferenceIdeal.main_arg3) = m ((c.tc : Thread Cert.MixInIdeal.nD Cert.MixInIdeal.τ).loc Cert.MixInIdeal.main_arg3)
      ∧ m' ((c.tc : Thread Cert.MixInReferenceIdeal.nD Cert.MixInReferenceIdeal.τ).loc Cert.MixInReferenceIdeal.main_arg4) = m ((c.tc : Thread Cert.MixInIdeal.nD Cert.MixInIdeal.τ).loc Cert.MixInIdeal.main_arg4)
      ∧ m' ((c.tc : Thread Cert.MixInReferenceIdeal.nD Cert.MixInReferenceIdeal.τ).loc Cert.MixInReferenceIdeal.main_arg5) = m ((c.tc : Thread Cert.MixInIdeal.nD Cert.MixInIdeal.τ).loc Cert.MixInIdeal.main_arg5)) →
    ∃ (v0 : (c : Dev Cert.MixInIdeal.nD) → Buf (Elt Ideal) ((c.tc : Thread Cert.MixInIdeal.nD Cert.MixInIdeal.τ).loc Cert.MixInIdeal.main_v1_0)) (v1 : (c : Dev Cert.MixInIdeal.nD) → Buf (Elt Ideal) ((c.tc : Thread Cert.MixInIdeal.nD Cert.MixInIdeal.τ).loc Cert.MixInIdeal.main_v1_1)) (v2 : (c : Dev Cert.MixInIdeal.nD) → Buf (Elt Ideal) ((c.tc : Thread Cert.MixInIdeal.nD Cert.MixInIdeal.τ).loc Cert.MixInIdeal.main_v1_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v1_0) = v0 c
          ∧ r.2.mem ((c.tc : Thread Cert.MixInIdeal.nD Cert.MixInIdeal.τ).loc Cert.MixInIdeal.main_v1_1) = v1 c
          ∧ r.2.mem ((c.tc : Thread Cert.MixInIdeal.nD Cert.MixInIdeal.τ).loc Cert.MixInIdeal.main_v1_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v41) = v0 c
          ∧ r.2.mem ((c.tc : Thread Cert.MixInReferenceIdeal.nD Cert.MixInReferenceIdeal.τ).loc Cert.MixInReferenceIdeal.main_v24) = v1 c
          ∧ r.2.mem ((c.tc : Thread Cert.MixInReferenceIdeal.nD Cert.MixInReferenceIdeal.τ).loc Cert.MixInReferenceIdeal.main_v44) = v2 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4)
          ∧ r.2.mem ((c.tc : Thread Cert.MixInReferenceIdeal.nD Cert.MixInReferenceIdeal.τ).loc Cert.MixInReferenceIdeal.main_arg5) = m' ((c.tc : Thread Cert.MixInReferenceIdeal.nD Cert.MixInReferenceIdeal.τ).loc Cert.MixInReferenceIdeal.main_arg5))

def preserves_Enter_EnterIdeal : Prop :=
  True

def algebraic_EnterIdeal_EnterReferenceIdeal [hEnterIdeal : Cert.EnterIdeal.Facts] [hEnterReferenceIdeal : Cert.EnterReferenceIdeal.Facts] : Prop :=
  ∀ (m : (ℓ : Loc Cert.EnterIdeal.nD Cert.EnterIdeal.τ Cert.EnterIdeal.sig) → Buf (Elt Ideal) ℓ) (g : Dev Cert.EnterIdeal.nD → PrngReg)
    (m' : (ℓ : Loc Cert.EnterReferenceIdeal.nD Cert.EnterReferenceIdeal.τ Cert.EnterReferenceIdeal.sig) → Buf (Elt Ideal) ℓ) (g' : Dev Cert.EnterReferenceIdeal.nD → PrngReg), Pre_EnterIdeal m →
    (∀ c : Dev Cert.EnterIdeal.nD,
      m' ((c.tc : Thread Cert.EnterReferenceIdeal.nD Cert.EnterReferenceIdeal.τ).loc Cert.EnterReferenceIdeal.main_arg0) = m ((c.tc : Thread Cert.EnterIdeal.nD Cert.EnterIdeal.τ).loc Cert.EnterIdeal.main_arg0)
      ∧ m' ((c.tc : Thread Cert.EnterReferenceIdeal.nD Cert.EnterReferenceIdeal.τ).loc Cert.EnterReferenceIdeal.main_arg1) = m ((c.tc : Thread Cert.EnterIdeal.nD Cert.EnterIdeal.τ).loc Cert.EnterIdeal.main_arg1)
      ∧ m' ((c.tc : Thread Cert.EnterReferenceIdeal.nD Cert.EnterReferenceIdeal.τ).loc Cert.EnterReferenceIdeal.main_arg2) = m ((c.tc : Thread Cert.EnterIdeal.nD Cert.EnterIdeal.τ).loc Cert.EnterIdeal.main_arg2)) →
    ∃ (v0 : (c : Dev Cert.EnterIdeal.nD) → Buf (Elt Ideal) ((c.tc : Thread Cert.EnterIdeal.nD Cert.EnterIdeal.τ).loc Cert.EnterIdeal.main_v1_0)) (v1 : (c : Dev Cert.EnterIdeal.nD) → Buf (Elt Ideal) ((c.tc : Thread Cert.EnterIdeal.nD Cert.EnterIdeal.τ).loc Cert.EnterIdeal.main_v1_1)) (v2 : (c : Dev Cert.EnterIdeal.nD) → Buf (Elt Ideal) ((c.tc : Thread Cert.EnterIdeal.nD Cert.EnterIdeal.τ).loc Cert.EnterIdeal.main_v1_2)),
      θ_run (Cert.EnterIdeal.defs (F := Ideal)) (onTc (τ := Cert.EnterIdeal.τ) (Cert.EnterIdeal.main (F := Ideal))) ⟨m, fun _ => 0, g⟩ (fun r => ∀ c : Dev Cert.EnterIdeal.nD,
          r.2.mem ((c.tc : Thread Cert.EnterIdeal.nD Cert.EnterIdeal.τ).loc Cert.EnterIdeal.main_v1_0) = v0 c
          ∧ r.2.mem ((c.tc : Thread Cert.EnterIdeal.nD Cert.EnterIdeal.τ).loc Cert.EnterIdeal.main_v1_1) = v1 c
          ∧ r.2.mem ((c.tc : Thread Cert.EnterIdeal.nD Cert.EnterIdeal.τ).loc Cert.EnterIdeal.main_v1_2) = v2 c
          ∧ r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
          ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1)
          ∧ r.2.mem ((c.tc : Thread Cert.EnterIdeal.nD Cert.EnterIdeal.τ).loc Cert.EnterIdeal.main_arg2) = m ((c.tc : Thread Cert.EnterIdeal.nD Cert.EnterIdeal.τ).loc Cert.EnterIdeal.main_arg2))
      ∧ θ_run (Cert.EnterReferenceIdeal.defs (F := Ideal)) (onTc (τ := Cert.EnterReferenceIdeal.τ) (Cert.EnterReferenceIdeal.main (F := Ideal))) ⟨m', fun _ => 0, g'⟩ (fun r => ∀ c : Dev Cert.EnterReferenceIdeal.nD,
          r.2.mem ((c.tc : Thread Cert.EnterReferenceIdeal.nD Cert.EnterReferenceIdeal.τ).loc Cert.EnterReferenceIdeal.main_v15) = v0 c
          ∧ r.2.mem ((c.tc : Thread Cert.EnterReferenceIdeal.nD Cert.EnterReferenceIdeal.τ).loc Cert.EnterReferenceIdeal.main_v13) = v1 c
          ∧ r.2.mem ((c.tc : Thread Cert.EnterReferenceIdeal.nD Cert.EnterReferenceIdeal.τ).loc Cert.EnterReferenceIdeal.main_v16) = v2 c
          ∧ r.2.mem ((c.tc : Thread Cert.EnterReferenceIdeal.nD Cert.EnterReferenceIdeal.τ).loc Cert.EnterReferenceIdeal.main_arg0) = m' ((c.tc : Thread Cert.EnterReferenceIdeal.nD Cert.EnterReferenceIdeal.τ).loc Cert.EnterReferenceIdeal.main_arg0)
          ∧ r.2.mem ((c.tc : Thread Cert.EnterReferenceIdeal.nD Cert.EnterReferenceIdeal.τ).loc Cert.EnterReferenceIdeal.main_arg1) = m' ((c.tc : Thread Cert.EnterReferenceIdeal.nD Cert.EnterReferenceIdeal.τ).loc Cert.EnterReferenceIdeal.main_arg1)
          ∧ r.2.mem ((c.tc : Thread Cert.EnterReferenceIdeal.nD Cert.EnterReferenceIdeal.τ).loc Cert.EnterReferenceIdeal.main_arg2) = m' ((c.tc : Thread Cert.EnterReferenceIdeal.nD Cert.EnterReferenceIdeal.τ).loc Cert.EnterReferenceIdeal.main_arg2))

def preserves_Leave_LeaveIdeal : Prop :=
  True

def algebraic_LeaveIdeal_LeaveReferenceIdeal [hLeaveIdeal : Cert.LeaveIdeal.Facts] [hLeaveReferenceIdeal : Cert.LeaveReferenceIdeal.Facts] : Prop :=
  ∀ (m : (ℓ : Loc Cert.LeaveIdeal.nD Cert.LeaveIdeal.τ Cert.LeaveIdeal.sig) → Buf (Elt Ideal) ℓ) (g : Dev Cert.LeaveIdeal.nD → PrngReg)
    (m' : (ℓ : Loc Cert.LeaveReferenceIdeal.nD Cert.LeaveReferenceIdeal.τ Cert.LeaveReferenceIdeal.sig) → Buf (Elt Ideal) ℓ) (g' : Dev Cert.LeaveReferenceIdeal.nD → PrngReg), Pre_LeaveIdeal m →
    (∀ c : Dev Cert.LeaveIdeal.nD,
      m' ((c.tc : Thread Cert.LeaveReferenceIdeal.nD Cert.LeaveReferenceIdeal.τ).loc Cert.LeaveReferenceIdeal.main_arg0) = m ((c.tc : Thread Cert.LeaveIdeal.nD Cert.LeaveIdeal.τ).loc Cert.LeaveIdeal.main_arg0)
      ∧ m' ((c.tc : Thread Cert.LeaveReferenceIdeal.nD Cert.LeaveReferenceIdeal.τ).loc Cert.LeaveReferenceIdeal.main_arg1) = m ((c.tc : Thread Cert.LeaveIdeal.nD Cert.LeaveIdeal.τ).loc Cert.LeaveIdeal.main_arg1)
      ∧ m' ((c.tc : Thread Cert.LeaveReferenceIdeal.nD Cert.LeaveReferenceIdeal.τ).loc Cert.LeaveReferenceIdeal.main_arg2) = m ((c.tc : Thread Cert.LeaveIdeal.nD Cert.LeaveIdeal.τ).loc Cert.LeaveIdeal.main_arg2)
      ∧ m' ((c.tc : Thread Cert.LeaveReferenceIdeal.nD Cert.LeaveReferenceIdeal.τ).loc Cert.LeaveReferenceIdeal.main_arg3) = m ((c.tc : Thread Cert.LeaveIdeal.nD Cert.LeaveIdeal.τ).loc Cert.LeaveIdeal.main_arg3)) →
    ∃ (v0 : (c : Dev Cert.LeaveIdeal.nD) → Buf (Elt Ideal) ((c.tc : Thread Cert.LeaveIdeal.nD Cert.LeaveIdeal.τ).loc Cert.LeaveIdeal.main_v1)),
      θ_run (Cert.LeaveIdeal.defs (F := Ideal)) (onTc (τ := Cert.LeaveIdeal.τ) (Cert.LeaveIdeal.main (F := Ideal))) ⟨m, fun _ => 0, g⟩ (fun r => ∀ c : Dev Cert.LeaveIdeal.nD,
          r.2.mem ((c.tc : Thread Cert.LeaveIdeal.nD Cert.LeaveIdeal.τ).loc Cert.LeaveIdeal.main_v1) = v0 c
          ∧ r.2.mem ((c.tc : Thread Cert.LeaveIdeal.nD Cert.LeaveIdeal.τ).loc Cert.LeaveIdeal.main_arg0) = m ((c.tc : Thread Cert.LeaveIdeal.nD Cert.LeaveIdeal.τ).loc Cert.LeaveIdeal.main_arg0)
          ∧ r.2.mem ((c.tc : Thread Cert.LeaveIdeal.nD Cert.LeaveIdeal.τ).loc Cert.LeaveIdeal.main_arg1) = m ((c.tc : Thread Cert.LeaveIdeal.nD Cert.LeaveIdeal.τ).loc Cert.LeaveIdeal.main_arg1)
          ∧ r.2.mem ((c.tc : Thread Cert.LeaveIdeal.nD Cert.LeaveIdeal.τ).loc Cert.LeaveIdeal.main_arg2) = m ((c.tc : Thread Cert.LeaveIdeal.nD Cert.LeaveIdeal.τ).loc Cert.LeaveIdeal.main_arg2)
          ∧ r.2.mem ((c.tc : Thread Cert.LeaveIdeal.nD Cert.LeaveIdeal.τ).loc Cert.LeaveIdeal.main_arg3) = m ((c.tc : Thread Cert.LeaveIdeal.nD Cert.LeaveIdeal.τ).loc Cert.LeaveIdeal.main_arg3))
      ∧ θ_run (Cert.LeaveReferenceIdeal.defs (F := Ideal)) (onTc (τ := Cert.LeaveReferenceIdeal.τ) (Cert.LeaveReferenceIdeal.main (F := Ideal))) ⟨m', fun _ => 0, g'⟩ (fun r => ∀ c : Dev Cert.LeaveReferenceIdeal.nD,
          r.2.mem ((c.tc : Thread Cert.LeaveReferenceIdeal.nD Cert.LeaveReferenceIdeal.τ).loc Cert.LeaveReferenceIdeal.main_v3) = v0 c
          ∧ r.2.mem ((c.tc : Thread Cert.LeaveReferenceIdeal.nD Cert.LeaveReferenceIdeal.τ).loc Cert.LeaveReferenceIdeal.main_arg0) = m' ((c.tc : Thread Cert.LeaveReferenceIdeal.nD Cert.LeaveReferenceIdeal.τ).loc Cert.LeaveReferenceIdeal.main_arg0)
          ∧ r.2.mem ((c.tc : Thread Cert.LeaveReferenceIdeal.nD Cert.LeaveReferenceIdeal.τ).loc Cert.LeaveReferenceIdeal.main_arg1) = m' ((c.tc : Thread Cert.LeaveReferenceIdeal.nD Cert.LeaveReferenceIdeal.τ).loc Cert.LeaveReferenceIdeal.main_arg1)
          ∧ r.2.mem ((c.tc : Thread Cert.LeaveReferenceIdeal.nD Cert.LeaveReferenceIdeal.τ).loc Cert.LeaveReferenceIdeal.main_arg2) = m' ((c.tc : Thread Cert.LeaveReferenceIdeal.nD Cert.LeaveReferenceIdeal.τ).loc Cert.LeaveReferenceIdeal.main_arg2)
          ∧ r.2.mem ((c.tc : Thread Cert.LeaveReferenceIdeal.nD Cert.LeaveReferenceIdeal.τ).loc Cert.LeaveReferenceIdeal.main_arg3) = m' ((c.tc : Thread Cert.LeaveReferenceIdeal.nD Cert.LeaveReferenceIdeal.τ).loc Cert.LeaveReferenceIdeal.main_arg3))

def Claim : Prop :=
  ∃ (hKernel : Cert.Kernel.Facts) (hKernelIdeal : Cert.KernelIdeal.Facts) (hReferenceIdeal : Cert.ReferenceIdeal.Facts) (hInput : Cert.Input.Facts) (hInputIdeal : Cert.InputIdeal.Facts) (hInputReferenceIdeal : Cert.InputReferenceIdeal.Facts) (hGates : Cert.Gates.Facts) (hGatesIdeal : Cert.GatesIdeal.Facts) (hGatesReferenceIdeal : Cert.GatesReferenceIdeal.Facts) (hDwIn : Cert.DwIn.Facts) (hDwInIdeal : Cert.DwInIdeal.Facts) (hDwInReferenceIdeal : Cert.DwInReferenceIdeal.Facts) (hDwOut : Cert.DwOut.Facts) (hDwOutIdeal : Cert.DwOutIdeal.Facts) (hDwOutReferenceIdeal : Cert.DwOutReferenceIdeal.Facts) (hDwHalf : Cert.DwHalf.Facts) (hDwHalfIdeal : Cert.DwHalfIdeal.Facts) (hDwHalfReferenceIdeal : Cert.DwHalfReferenceIdeal.Facts) (hDwQkv : Cert.DwQkv.Facts) (hDwQkvIdeal : Cert.DwQkvIdeal.Facts) (hDwQkvReferenceIdeal : Cert.DwQkvReferenceIdeal.Facts) (hDwUv : Cert.DwUv.Facts) (hDwUvIdeal : Cert.DwUvIdeal.Facts) (hDwUvReferenceIdeal : Cert.DwUvReferenceIdeal.Facts) (hDwMixOut : Cert.DwMixOut.Facts) (hDwMixOutIdeal : Cert.DwMixOutIdeal.Facts) (hDwMixOutReferenceIdeal : Cert.DwMixOutReferenceIdeal.Facts) (hMixOut : Cert.MixOut.Facts) (hMixOutIdeal : Cert.MixOutIdeal.Facts) (hMixOutReferenceIdeal : Cert.MixOutReferenceIdeal.Facts) (hMixIn : Cert.MixIn.Facts) (hMixInIdeal : Cert.MixInIdeal.Facts) (hMixInReferenceIdeal : Cert.MixInReferenceIdeal.Facts) (hEnter : Cert.Enter.Facts) (hEnterIdeal : Cert.EnterIdeal.Facts) (hEnterReferenceIdeal : Cert.EnterReferenceIdeal.Facts) (hLeave : Cert.Leave.Facts) (hLeaveIdeal : Cert.LeaveIdeal.Facts) (hLeaveReferenceIdeal : Cert.LeaveReferenceIdeal.Facts) (hPre_finite : Cert.Pre_finite.Facts) (hPre_gates_finite : Cert.Pre_gates_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Input (hInput := hInput)
    ∧ quiescent_InputIdeal (hInputIdeal := hInputIdeal)
    ∧ quiescent_InputReferenceIdeal (hInputReferenceIdeal := hInputReferenceIdeal)
    ∧ quiescent_Gates (hGates := hGates)
    ∧ quiescent_GatesIdeal (hGatesIdeal := hGatesIdeal)
    ∧ quiescent_GatesIdeal_pre_gates_finite (hGatesIdeal := hGatesIdeal) (hPre_gates_finite := hPre_gates_finite)
    ∧ quiescent_GatesReferenceIdeal (hGatesReferenceIdeal := hGatesReferenceIdeal)
    ∧ quiescent_GatesReferenceIdeal_pre_gates_finite (hGatesReferenceIdeal := hGatesReferenceIdeal) (hPre_gates_finite := hPre_gates_finite)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DwHalf (hDwHalf := hDwHalf)
    ∧ quiescent_DwHalfIdeal (hDwHalfIdeal := hDwHalfIdeal)
    ∧ quiescent_DwHalfReferenceIdeal (hDwHalfReferenceIdeal := hDwHalfReferenceIdeal)
    ∧ quiescent_DwQkv (hDwQkv := hDwQkv)
    ∧ quiescent_DwQkvIdeal (hDwQkvIdeal := hDwQkvIdeal)
    ∧ quiescent_DwQkvReferenceIdeal (hDwQkvReferenceIdeal := hDwQkvReferenceIdeal)
    ∧ quiescent_DwUv (hDwUv := hDwUv)
    ∧ quiescent_DwUvIdeal (hDwUvIdeal := hDwUvIdeal)
    ∧ quiescent_DwUvReferenceIdeal (hDwUvReferenceIdeal := hDwUvReferenceIdeal)
    ∧ quiescent_DwMixOut (hDwMixOut := hDwMixOut)
    ∧ quiescent_DwMixOutIdeal (hDwMixOutIdeal := hDwMixOutIdeal)
    ∧ quiescent_DwMixOutReferenceIdeal (hDwMixOutReferenceIdeal := hDwMixOutReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_Enter (hEnter := hEnter)
    ∧ quiescent_EnterIdeal (hEnterIdeal := hEnterIdeal)
    ∧ quiescent_EnterReferenceIdeal (hEnterReferenceIdeal := hEnterReferenceIdeal)
    ∧ quiescent_Leave (hLeave := hLeave)
    ∧ quiescent_LeaveIdeal (hLeaveIdeal := hLeaveIdeal)
    ∧ quiescent_LeaveReferenceIdeal (hLeaveReferenceIdeal := hLeaveReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Input_InputIdeal
    ∧ algebraic_InputIdeal_InputReferenceIdeal (hInputIdeal := hInputIdeal) (hInputReferenceIdeal := hInputReferenceIdeal)
    ∧ preserves_Gates_GatesIdeal
    ∧ algebraic_GatesIdeal_GatesReferenceIdeal_pre_gates_finite (hGatesIdeal := hGatesIdeal) (hGatesReferenceIdeal := hGatesReferenceIdeal) (hPre_gates_finite := hPre_gates_finite)
    ∧ preserves_DwIn_DwInIdeal
    ∧ algebraic_DwInIdeal_DwInReferenceIdeal (hDwInIdeal := hDwInIdeal) (hDwInReferenceIdeal := hDwInReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DwHalf_DwHalfIdeal
    ∧ algebraic_DwHalfIdeal_DwHalfReferenceIdeal (hDwHalfIdeal := hDwHalfIdeal) (hDwHalfReferenceIdeal := hDwHalfReferenceIdeal)
    ∧ preserves_DwQkv_DwQkvIdeal
    ∧ algebraic_DwQkvIdeal_DwQkvReferenceIdeal (hDwQkvIdeal := hDwQkvIdeal) (hDwQkvReferenceIdeal := hDwQkvReferenceIdeal)
    ∧ preserves_DwUv_DwUvIdeal
    ∧ algebraic_DwUvIdeal_DwUvReferenceIdeal (hDwUvIdeal := hDwUvIdeal) (hDwUvReferenceIdeal := hDwUvReferenceIdeal)
    ∧ preserves_DwMixOut_DwMixOutIdeal
    ∧ algebraic_DwMixOutIdeal_DwMixOutReferenceIdeal (hDwMixOutIdeal := hDwMixOutIdeal) (hDwMixOutReferenceIdeal := hDwMixOutReferenceIdeal)
    ∧ preserves_MixOut_MixOutIdeal
    ∧ algebraic_MixOutIdeal_MixOutReferenceIdeal (hMixOutIdeal := hMixOutIdeal) (hMixOutReferenceIdeal := hMixOutReferenceIdeal)
    ∧ preserves_MixIn_MixInIdeal
    ∧ algebraic_MixInIdeal_MixInReferenceIdeal (hMixInIdeal := hMixInIdeal) (hMixInReferenceIdeal := hMixInReferenceIdeal)
    ∧ preserves_Enter_EnterIdeal
    ∧ algebraic_EnterIdeal_EnterReferenceIdeal (hEnterIdeal := hEnterIdeal) (hEnterReferenceIdeal := hEnterReferenceIdeal)
    ∧ preserves_Leave_LeaveIdeal
    ∧ algebraic_LeaveIdeal_LeaveReferenceIdeal (hLeaveIdeal := hLeaveIdeal) (hLeaveReferenceIdeal := hLeaveReferenceIdeal)
-- ==== Pre_finite.lean ====
abbrev S4096x1536 : Shape := ⟨2, ![4096, 1536]⟩
abbrev S4096x512 : Shape := ⟨2, ![4096, 512]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x1536 .bf16) (main_arg1 : FVec F S4096x512 .f32) : IVec S_ 1 :=
  let main_v0 : FVec F S4096x1536 .f32 := (extf .f32 · bitsLt_bf16_f32) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_c : IVec S_ 1 := constantI S_ 1 1#1
  let main_v4 : IVec S_ 1 := (fun x v => Host.reduce IntOp.andi x v reducesTo_S4096x1536_S_d0_1 h_S_) main_v3 main_c
  let main_v5 : FVec F S4096x512 .f32 := Host.absf main_arg1
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_c_1 : IVec S_ 1 := constantI S_ 1 1#1
  let main_v8 : IVec S_ 1 := (fun x v => Host.reduce IntOp.andi x v reducesTo_S4096x512_S_d0_1 h_S_) main_v7 main_c_1
  let main_v9 : IVec S_ 1 := andi main_v4 main_v8
  main_v9
-- ==== Pre_gates_finite.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2816 : S_.BroadcastsInDim S4096x2816 (![] : Fin 0 → Fin S4096x2816.rank)
  reducesTo_S4096x2816_S_d0_1 : S4096x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S4096x1024 .f32) (main_arg1 : FVec F S4096x2816 .f32) (main_arg2 : FVec F S4096x2816 .f32) (main_arg3 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S4096x2816 .f32 := Host.absf main_arg2
  let main_cst_2 : FVec F S_ .f32 := constant S_ .f32 0x7F800000#32
  let main_v10 : FVec F S4096x2816 .f32 := broadcastInDim S4096x2816 ![] bcast_S_S4096x2816 main_cst_2
  let main_v11 : IVec S4096x2816 1 := cmpf .olt main_v9 main_v10
  let main_c_3 : IVec S_ 1 := constantI S_ 1 1#1
  let main_v12 : IVec S_ 1 := (fun x v => Host.reduce IntOp.andi x v reducesTo_S4096x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Kernel.lean ====
abbrev S4096x1536 : Shape := ⟨2, ![4096, 1536]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S4096x8 : Shape := ⟨2, ![4096, 8]⟩
abbrev S4096x8x1 : Shape := ⟨3, ![4096, 8, 1]⟩
abbrev S512x128 : Shape := ⟨2, ![512, 128]⟩
abbrev S4096x128 : Shape := ⟨2, ![4096, 128]⟩
abbrev S2x512x128 : Shape := ⟨3, ![2, 512, 128]⟩
abbrev S2x512x1 : Shape := ⟨3, ![2, 512, 1]⟩
abbrev S256x256 : Shape := ⟨2, ![256, 256]⟩
abbrev S512x256 : Shape := ⟨2, ![512, 256]⟩
abbrev S512x1 : Shape := ⟨2, ![512, 1]⟩
abbrev S256x128 : Shape := ⟨2, ![256, 128]⟩
abbrev S512x512 : Shape := ⟨2, ![512, 512]⟩
abbrev S1x512x1 : Shape := ⟨3, ![1, 512, 1]⟩
abbrev S1x512x128 : Shape := ⟨3, ![1, 512, 128]⟩
abbrev S256x1 : Shape := ⟨2, ![256, 1]⟩
abbrev S256x512 : Shape := ⟨2, ![256, 512]⟩
abbrev S1x256x1 : Shape := ⟨3, ![1, 256, 1]⟩
abbrev S1x256x128 : Shape := ⟨3, ![1, 256, 128]⟩

abbrev nBuf : Space → Nat
  | .hbm => 49
  | .vmem => 21
  | .smem => 0
  | _ => 0

abbrev bufTy : (tb : Table) → Fin (tcTables nBuf tb) → BufTy
  | .hbm, ⟨0, _⟩ => ⟨S4096x1536, .bf16⟩
  | .hbm, ⟨1, _⟩ => ⟨S4096x512, .f32⟩
  | .hbm, ⟨2, _⟩ => ⟨S4096x1536, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x8x64, .f32⟩
  | .hbm, ⟨7, _⟩ => ⟨S4096x8x64, .f32⟩
  | .hbm, ⟨8, _⟩ => ⟨S4096x8x64, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S_, .f32⟩
  | .hbm, ⟨37, _⟩ => ⟨S8x4096x4096, .i1⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S4096x8, .f32⟩
  | .hbm, ⟨43, _⟩ => ⟨S4096x8x1, .f32⟩
  | .hbm, ⟨44, _⟩ => ⟨S4096x8x64, .f32⟩
  | .hbm, ⟨45, _⟩ => ⟨S4096x512, .f32⟩
  | .hbm, ⟨46, _⟩ => ⟨S4096x512, .bf16⟩
  | .hbm, ⟨47, _⟩ => ⟨S4096x512, .bf16⟩
  | .hbm, ⟨48, _⟩ => ⟨S4096x512, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S2x512x128, .f32⟩
  | .local _ .vmem, ⟨17, _⟩ => ⟨S4096x128, .f32⟩
  | .local _ .vmem, ⟨18, _⟩ => ⟨S4096x128, .f32⟩
  | .local _ .vmem, ⟨19, _⟩ => ⟨S2x512x1, .f32⟩
  | .local _ .vmem, ⟨20, _⟩ => ⟨S2x512x1, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25_0 : Ref sig .tc := ⟨.hbm, 46, rfl⟩
abbrev main_v25_1 : Ref sig .tc := ⟨.hbm, 47, rfl⟩
abbrev main_v25_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_24 : BitVec 32 := 0#32
  let arg1 : BitVec 32 := BitVec.ofNat 32 (i 1).val
  let c2_i32 : BitVec 32 := 2#32
  let v46 : BitVec 32 := Scalar.muli arg1 c2_i32
  let v47 : BitVec 32 := Scalar.subi v46 c0_i32_24
  let c1_i32 : BitVec 32 := 1#32
  let v49 : BitVec 32 := Scalar.divsi v47 c1_i32
  let v50 : BitVec 32 := Scalar.muli v49 c1_i32
  let v51 : BitVec 32 := Scalar.addi c0_i32_24 v50
  let c1_i32_25 : BitVec 32 := 1#32
  ⟨c0_i32_24, v51, c1_i32_25⟩
def k0_mult1 (i : grid0.Coords) (k0_t1 : Fin (k0_t1_loop i).trips) : BitVec 32 :=
  let c0_i32_24 : BitVec 32 := 0#32
  let c1_i32_25 : BitVec 32 := 1#32
  let arg15 : BitVec 32 := Scf.iv c0_i32_24 c1_i32_25 k0_t1
  let c256_i32_178 : BitVec 32 := 256#32
  let v397 : BitVec 32 := Scalar.muli arg15 c256_i32_178
  v397
def k0_off1 (i : grid0.Coords) (k0_t1 : Fin (k0_t1_loop i).trips) : Fin 2 → Nat :=
  let c0_i32_24 : BitVec 32 := 0#32
  let c1_i32_25 : BitVec 32 := 1#32
  let arg15 : BitVec 32 := Scf.iv c0_i32_24 c1_i32_25 k0_t1
  let c256_i32_178 : BitVec 32 := 256#32
  let v397 : BitVec 32 := Scalar.muli arg15 c256_i32_178
  let v398 : BitVec 32 := v397
  let v399 : Index := Scalar.indexCast v398
  let c0_179 : Index := 0#32
  ![v399.toNat, 0]
@[reducible] def k0_t2_loop (i : grid0.Coords) : Scf.Loop 32 :=
  let c0_i32_24 : BitVec 32 := 0#32
  let arg1 : BitVec 32 := BitVec.ofNat 32 (i 1).val
  let c2_i32 : BitVec 32 := 2#32
  let v46 : BitVec 32 := Scalar.muli arg1 c2_i32
  let v47 : BitVec 32 := Scalar.subi v46 c0_i32_24
  let c1_i32 : BitVec 32 := 1#32
  let v49 : BitVec 32 := Scalar.divsi v47 c1_i32
  let v50 : BitVec 32 := Scalar.muli v49 c1_i32
  let v51 : BitVec 32 := Scalar.addi c0_i32_24 v50
  let v48 : BitVec 32 := Scalar.addi c0_i32_24 v47
  let c1_i32_26 : BitVec 32 := 1#32
  ⟨v51, v48, c1_i32_26⟩
def k0_mult2 (i : grid0.Coords) (k0_t2 : Fin (k0_t2_loop i).trips) : BitVec 32 :=
  let c0_i32_24 : BitVec 32 := 0#32
  let arg1 : BitVec 32 := BitVec.ofNat 32 (i 1).val
  let c2_i32 : BitVec 32 := 2#32
  let v46 : BitVec 32 := Scalar.muli arg1 c2_i32
  let v47 : BitVec 32 := Scalar.subi v46 c0_i32_24
  let c1_i32 : BitVec 32 := 1#32
  let v49 : BitVec 32 := Scalar.divsi v47 c1_i32
  let v50 : BitVec 32 := Scalar.muli v49 c1_i32
  let v51 : BitVec 32 := Scalar.addi c0_i32_24 v50
  let c1_i32_26 : BitVec 32 := 1#32
  let arg15 : BitVec 32 := Scf.iv v51 c1_i32_26 k0_t2
  let c256_i32_178 : BitVec 32 := 256#32
  let v397 : BitVec 32 := Scalar.muli arg15 c256_i32_178
  v397
def k0_off2 (i : grid0.Coords) (k0_t2 : Fin (k0_t2_loop i).trips) : Fin 2 → Nat :=
  let c0_i32_24 : BitVec 32 := 0#32
  let arg1 : BitVec 32 := BitVec.ofNat 32 (i 1).val
  let c2_i32 : BitVec 32 := 2#32
  let v46 : BitVec 32 := Scalar.muli arg1 c2_i32
  let v47 : BitVec 32 := Scalar.subi v46 c0_i32_24
  let c1_i32 : BitVec 32 := 1#32
  let v49 : BitVec 32 := Scalar.divsi v47 c1_i32
  let v50 : BitVec 32 := Scalar.muli v49 c1_i32
  let v51 : BitVec 32 := Scalar.addi c0_i32_24 v50
  let c1_i32_26 : BitVec 32 := 1#32
  let arg15 : BitVec 32 := Scf.iv v51 c1_i32_26 k0_t2
  let c256_i32_178 : BitVec 32 := 256#32
  let v397 : BitVec 32 := Scalar.muli arg15 c256_i32_178
  let v398 : BitVec 32 := v397
  let v399 : Index := Scalar.indexCast v398
  let c0_179 : Index := 0#32
  ![v399.toNat, 0]
def k0_mult3 (i : grid0.Coords) : BitVec 32 :=
  let arg1 : BitVec 32 := BitVec.ofNat 32 (i 1).val
  let c2_i32_27 : BitVec 32 := 2#32
  let v52 : BitVec 32 := Scalar.muli arg1 c2_i32_27
  let c0_i32_28 : BitVec 32 := 0#32
  let v53 : BitVec 32 := Scalar.addi v52 c0_i32_28
  let c256_i32 : BitVec 32 := 256#32
  let v57 : BitVec 32 := Scalar.muli v53 c256_i32
  v57
def k0_off3 (i : grid0.Coords) (c0_i32_28 : BitVec 32) : Fin 2 → Nat :=
  let arg1 : BitVec 32 := BitVec.ofNat 32 (i 1).val
  let c2_i32_27 : BitVec 32 := 2#32
  let v52 : BitVec 32 := Scalar.muli arg1 c2_i32_27
  let v53 : BitVec 32 := Scalar.addi v52 c0_i32_28
  let c256_i32 : BitVec 32 := 256#32
  let v57 : BitVec 32 := Scalar.muli v53 c256_i32
  let v58 : BitVec 32 := v57
  let v59 : Index := Scalar.indexCast v58
  let c0_30 : Index := 0#32
  ![v59.toNat, 0]
def k0_mult4 (i : grid0.Coords) : BitVec 32 :=
  let arg1 : BitVec 32 := BitVec.ofNat 32 (i 1).val
  let c2_i32_97 : BitVec 32 := 2#32
  let v215 : BitVec 32 := Scalar.muli arg1 c2_i32_97
  let c1_i32_98 : BitVec 32 := 1#32
  let v216 : BitVec 32 := Scalar.addi v215 c1_i32_98
  let c256_i32_100 : BitVec 32 := 256#32
  let v227 : BitVec 32 := Scalar.muli v216 c256_i32_100
  v227
def k0_cond2 (i : grid0.Coords) : BitVec 1 :=
  let arg1 : BitVec 32 := BitVec.ofNat 32 (i 1).val
  let c7_i32 : BitVec 32 := 7#32
  let v394 : BitVec 1 := Scalar.cmpi .eq arg1 c7_i32
  let v395 : BitVec 32 := Scalar.extui v394
  let c0_i32_177 : BitVec 32 := 0#32
  let v396 : BitVec 1 := Scalar.cmpi .ne v395 c0_i32_177
  v396

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S4096x1536 : Shape := ⟨2, ![4096, 1536]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096x64 : Shape := ⟨3, ![8, 4096, 64]⟩

abbrev nBuf : Space → Nat
  | .hbm => 173
  | .vmem => 0
  | .smem => 0
  | _ => 0

abbrev hbmTy0_0 (i : Nat) : BufTy := match i % 128 with
  | 0 => ⟨S4096x1536, .bf16⟩
  | 1 => ⟨S4096x512, .f32⟩
  | 2 => ⟨S4096x1536, .f32⟩
  | 3 => ⟨S4096x512, .f32⟩
  | 4 => ⟨S4096x512, .f32⟩
  | 5 => ⟨S4096x512, .f32⟩
  | 6 => ⟨S4096x8x64, .f32⟩
  | 7 => ⟨S4096x8x64, .f32⟩
  | 8 => ⟨S4096x8x64, .f32⟩
  | 9 => ⟨S8x4096x4096, .f32⟩
  | 10 => ⟨S_, .f32⟩
  | 11 => ⟨S8x4096x4096, .f32⟩
  | 12 => ⟨S8x4096x4096, .f32⟩
  | 13 => ⟨S4096, .i32⟩
  | 14 => ⟨S1x4096, .i32⟩
  | 15 => ⟨S4096, .i32⟩
  | 16 => ⟨S4096x1, .i32⟩
  | 17 => ⟨S4096x4096, .i32⟩
  | 18 => ⟨S4096x4096, .i32⟩
  | 19 => ⟨S4096x4096, .i1⟩
  | 20 => ⟨S_, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .i1⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S_, .f32⟩
  | 35 => ⟨S8x4096x4096, .f32⟩
  | 36 => ⟨S8x4096x4096, .i1⟩
  | 37 => ⟨S_, .f32⟩
  | 38 => ⟨S8x4096x4096, .f32⟩
  | 39 => ⟨S8x4096x4096, .f32⟩
  | 40 => ⟨S_, .f32⟩
  | 41 => ⟨S8x4096x4096, .f32⟩
  | 42 => ⟨S8x4096x4096, .i1⟩
  | 43 => ⟨S_, .f32⟩
  | 44 => ⟨S8x4096x4096, .f32⟩
  | 45 => ⟨S8x4096x4096, .f32⟩
  | 46 => ⟨S8x4096x4096, .f32⟩
  | 47 => ⟨S8x4096x4096, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x4096x4096, .f32⟩
  | 56 => ⟨S8x4096x4096, .i1⟩
  | 57 => ⟨S_, .f32⟩
  | 58 => ⟨S8x4096x4096, .f32⟩
  | 59 => ⟨S8x4096x4096, .f32⟩
  | 60 => ⟨S8x4096x4096, .f32⟩
  | 61 => ⟨S8x4096x4096, .f32⟩
  | 62 => ⟨S8x4096x4096, .f32⟩
  | 63 => ⟨S_, .f32⟩
  | 64 => ⟨S8x4096x4096, .f32⟩
  | 65 => ⟨S8x4096x4096, .f32⟩
  | 66 => ⟨S8x4096x4096, .f32⟩
  | 67 => ⟨S_, .f32⟩
  | 68 => ⟨S_, .f32⟩
  | 69 => ⟨S8x4096x4096, .i1⟩
  | 70 => ⟨S8x4096x4096, .f32⟩
  | 71 => ⟨S8x4096x4096, .f32⟩
  | 72 => ⟨S_, .f32⟩
  | 73 => ⟨S8x4096x4096, .f32⟩
  | 74 => ⟨S_, .f32⟩
  | 75 => ⟨S_, .f32⟩
  | 76 => ⟨S8x4096x4096, .f32⟩
  | 77 => ⟨S8x4096x4096, .f32⟩
  | 78 => ⟨S8x4096x4096, .f32⟩
  | 79 => ⟨S_, .f32⟩
  | 80 => ⟨S8x4096x4096, .f32⟩
  | 81 => ⟨S8x4096x4096, .f32⟩
  | 82 => ⟨S8x4096x4096, .f32⟩
  | 83 => ⟨S8x4096x4096, .f32⟩
  | 84 => ⟨S8x4096x4096, .i1⟩
  | 85 => ⟨S8x4096x4096, .f32⟩
  | 86 => ⟨S8x4096x4096, .f32⟩
  | 87 => ⟨S8x4096x4096, .f32⟩
  | 88 => ⟨S8x4096x4096, .f32⟩
  | 89 => ⟨S8x4096x4096, .f32⟩
  | 90 => ⟨S8x4096x4096, .f32⟩
  | 91 => ⟨S8x4096x4096, .f32⟩
  | 92 => ⟨S8x4096x4096, .f32⟩
  | 93 => ⟨S_, .f32⟩
  | 94 => ⟨S8x4096x4096, .f32⟩
  | 95 => ⟨S8x4096x4096, .i1⟩
  | 96 => ⟨S_, .f32⟩
  | 97 => ⟨S8x4096x4096, .f32⟩
  | 98 => ⟨S8x4096x4096, .f32⟩
  | 99 => ⟨S_, .f32⟩
  | 100 => ⟨S8x4096x4096, .f32⟩
  | 101 => ⟨S8x4096x4096, .i1⟩
  | 102 => ⟨S_, .f32⟩
  | 103 => ⟨S8x4096x4096, .f32⟩
  | 104 => ⟨S8x4096x4096, .f32⟩
  | 105 => ⟨S8x4096x4096, .f32⟩
  | 106 => ⟨S8x4096x4096, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S8x4096x4096, .f32⟩
  | 115 => ⟨S8x4096x4096, .i1⟩
  | 116 => ⟨S_, .f32⟩
  | 117 => ⟨S8x4096x4096, .f32⟩
  | 118 => ⟨S8x4096x4096, .f32⟩
  | 119 => ⟨S8x4096x4096, .f32⟩
  | 120 => ⟨S8x4096x4096, .f32⟩
  | 121 => ⟨S8x4096x4096, .f32⟩
  | 122 => ⟨S_, .f32⟩
  | 123 => ⟨S8x4096x4096, .f32⟩
  | 124 => ⟨S8x4096x4096, .f32⟩
  | 125 => ⟨S8x4096x4096, .f32⟩
  | 126 => ⟨S8x4096x4096, .f32⟩
  | 127 => ⟨S8x4096x4096, .f32⟩
  | _ => ⟨S4096x1536, .bf16⟩

abbrev hbmTy0_1 (i : Nat) : BufTy := match i % 128 with
  | 0 => ⟨S_, .f32⟩
  | 1 => ⟨S_, .f32⟩
  | 2 => ⟨S8x4096x4096, .i1⟩
  | 3 => ⟨S8x4096x4096, .f32⟩
  | 4 => ⟨S8x4096x4096, .f32⟩
  | 5 => ⟨S_, .f32⟩
  | 6 => ⟨S8x4096x4096, .f32⟩
  | 7 => ⟨S8x64x4096, .f32⟩
  | 8 => ⟨S4096x8x64, .f32⟩
  | 9 => ⟨S4096x8x64, .f32⟩
  | 10 => ⟨S8x64x4096, .f32⟩
  | 11 => ⟨S8x4096x4096, .f32⟩
  | 12 => ⟨S8x64x4096, .f32⟩
  | 13 => ⟨S4096x8x64, .f32⟩
  | 14 => ⟨S_, .f32⟩
  | 15 => ⟨S8x4096x4096, .f32⟩
  | 16 => ⟨S8x4096x4096, .f32⟩
  | 17 => ⟨S8x4096x4096, .f32⟩
  | 18 => ⟨S8x4096x4096, .f32⟩
  | 19 => ⟨S8x4096x4096, .f32⟩
  | 20 => ⟨S8x4096x4096, .f32⟩
  | 21 => ⟨S8x4096x4096, .f32⟩
  | 22 => ⟨S_, .f32⟩
  | 23 => ⟨S_, .f32⟩
  | 24 => ⟨S8x4096x4096, .f32⟩
  | 25 => ⟨S8x4096x4096, .f32⟩
  | 26 => ⟨S_, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S_, .f32⟩
  | 33 => ⟨S8x4096x4096, .f32⟩
  | 34 => ⟨S8x4096x4096, .f32⟩
  | 35 => ⟨S8x4096x64, .f32⟩
  | 36 => ⟨S4096x8x64, .f32⟩
  | 37 => ⟨S8x4096x64, .f32⟩
  | 38 => ⟨S4096x8x64, .f32⟩
  | 39 => ⟨S4096x512, .f32⟩
  | 40 => ⟨S4096x512, .bf16⟩
  | 41 => ⟨S4096x512, .f32⟩
  | 42 => ⟨S4096x512, .bf16⟩
  | 43 => ⟨S4096x512, .f32⟩
  | 44 => ⟨S4096x512, .bf16⟩
  | _ => ⟨S4096x1536, .bf16⟩

abbrev hbmTy (i : Nat) : BufTy := match i / 128 with
  | 0 => hbmTy0_0 i
  | 1 => hbmTy0_1 i
  | _ => ⟨S4096x1536, .bf16⟩

abbrev bufTy : (tb : Table) → Fin (tcTables nBuf tb) → BufTy
  | .hbm, ⟨i, _⟩ => hbmTy i
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v17_0 : Ref sig .tc := ⟨.hbm, 33, rfl⟩
abbrev main_call0_cst_0 : Ref sig .tc := ⟨.hbm, 34, rfl⟩
abbrev main_call0_v13 : Ref sig .tc := ⟨.hbm, 35, rfl⟩
abbrev main_call0_v14 : Ref sig .tc := ⟨.hbm, 36, rfl⟩
abbrev main_call0_cst_1 : Ref sig .tc := ⟨.hbm, 37, rfl⟩
abbrev main_call0_v15 : Ref sig .tc := ⟨.hbm, 38, rfl⟩
abbrev main_call0_v16 : Ref sig .tc := ⟨.hbm, 39, rfl⟩
abbrev main_call0_cst_2 : Ref sig .tc := ⟨.hbm, 40, rfl⟩
abbrev main_call0_v17 : Ref sig .tc := ⟨.hbm, 41, rfl⟩
abbrev main_call0_v18 : Ref sig .tc := ⟨.hbm, 42, rfl⟩
abbrev main_call0_cst_3 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_v17_1 : Ref sig .tc := ⟨.hbm, 47, rfl⟩
abbrev main_call0_cst_4 : Ref sig .tc := ⟨.hbm, 48, rfl⟩
abbrev main_call0_cst_5 : Ref sig .tc := ⟨.hbm, 49, rfl⟩
abbrev main_call0_v23 : Ref sig .tc := ⟨.hbm, 50, rfl⟩
abbrev main_call0_cst_6 : Ref sig .tc := ⟨.hbm, 51, rfl⟩
abbrev main_call0_cst_7 : Ref sig .tc := ⟨.hbm, 52, rfl⟩
abbrev main_call0_v24 : Ref sig .tc := ⟨.hbm, 53, rfl⟩
abbrev main_call0_cst_8 : Ref sig .tc := ⟨.hbm, 54, rfl⟩
abbrev main_call0_v25 : Ref sig .tc := ⟨.hbm, 55, rfl⟩
abbrev main_call0_v26 : Ref sig .tc := ⟨.hbm, 56, rfl⟩
abbrev main_call0_cst_9 : Ref sig .tc := ⟨.hbm, 57, rfl⟩
abbrev main_call0_v27 : Ref sig .tc := ⟨.hbm, 58, rfl⟩
abbrev main_call0_v28 : Ref sig .tc := ⟨.hbm, 59, rfl⟩
abbrev main_call0_v29 : Ref sig .tc := ⟨.hbm, 60, rfl⟩
abbrev main_call0_v30 : Ref sig .tc := ⟨.hbm, 61, rfl⟩
abbrev main_call0_v31 : Ref sig .tc := ⟨.hbm, 62, rfl⟩
abbrev main_call0_cst_10 : Ref sig .tc := ⟨.hbm, 63, rfl⟩
abbrev main_call0_v32 : Ref sig .tc := ⟨.hbm, 64, rfl⟩
abbrev main_v17_2 : Ref sig .tc := ⟨.hbm, 65, rfl⟩
abbrev main_v18 : Ref sig .tc := ⟨.hbm, 66, rfl⟩
abbrev main_cst_0 : Ref sig .tc := ⟨.hbm, 67, rfl⟩
abbrev main_call1_v0 : Ref sig .tc := ⟨.hbm, 68, rfl⟩
abbrev main_v19_1 : Ref sig .tc := ⟨.hbm, 69, rfl⟩
abbrev main_call1_v2 : Ref sig .tc := ⟨.hbm, 70, rfl⟩
abbrev main_v19_0 : Ref sig .tc := ⟨.hbm, 71, rfl⟩
abbrev main_call1_cst : Ref sig .tc := ⟨.hbm, 72, rfl⟩
abbrev main_v19_2 : Ref sig .tc := ⟨.hbm, 73, rfl⟩
abbrev main_call2_cst : Ref sig .tc := ⟨.hbm, 74, rfl⟩
abbrev main_call2_v0 : Ref sig .tc := ⟨.hbm, 75, rfl⟩
abbrev main_v20 : Ref sig .tc := ⟨.hbm, 76, rfl⟩
abbrev main_v21 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v22_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v22_2 : Ref sig .tc := ⟨.hbm, 124, rfl⟩
abbrev main_v22_0 : Ref sig .tc := ⟨.hbm, 125, rfl⟩
abbrev main_v23 : Ref sig .tc := ⟨.hbm, 126, rfl⟩
abbrev main_v24 : Ref sig .tc := ⟨.hbm, 127, rfl⟩
abbrev main_cst_1 : Ref sig .tc := ⟨.hbm, 128, rfl⟩
abbrev main_call4_v0 : Ref sig .tc := ⟨.hbm, 129, rfl⟩
abbrev main_v25_1 : Ref sig .tc := ⟨.hbm, 130, rfl⟩
abbrev main_call4_v2 : Ref sig .tc := ⟨.hbm, 131, rfl⟩
abbrev main_v25_0 : Ref sig .tc := ⟨.hbm, 132, rfl⟩
abbrev main_call4_cst : Ref sig .tc := ⟨.hbm, 133, rfl⟩
abbrev main_v25_2 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_call5_cst : Ref sig .tc := ⟨.hbm, 142, rfl⟩
abbrev main_call5_v0 : Ref sig .tc := ⟨.hbm, 143, rfl⟩
abbrev main_v33 : Ref sig .tc := ⟨.hbm, 144, rfl⟩
abbrev main_v34 : Ref sig .tc := ⟨.hbm, 145, rfl⟩
abbrev main_call6_v0 : Ref sig .tc := ⟨.hbm, 146, rfl⟩
abbrev main_call6_v1 : Ref sig .tc := ⟨.hbm, 147, rfl⟩
abbrev main_v35 : Ref sig .tc := ⟨.hbm, 148, rfl⟩
abbrev main_v36 : Ref sig .tc := ⟨.hbm, 149, rfl⟩
abbrev main_call7_cst : Ref sig .tc := ⟨.hbm, 150, rfl⟩
abbrev main_call7_v0 : Ref sig .tc := ⟨.hbm, 151, rfl⟩
abbrev main_v37 : Ref sig .tc := ⟨.hbm, 152, rfl⟩
abbrev main_v38 : Ref sig .tc := ⟨.hbm, 153, rfl⟩
abbrev main_call8_cst : Ref sig .tc := ⟨.hbm, 154, rfl⟩
abbrev main_call8_v0 : Ref sig .tc := ⟨.hbm, 155, rfl⟩
abbrev main_v39 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_cst_2 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩

abbrev nD : Nat := 1
abbrev τ : Topo := Topo.v7x

variable {F : FTy → Type} [FloatOps F]
-- ==== Input.lean ====
abbrev S4096x1024 : Shape := ⟨2, ![4096, 1024]⟩
abbrev S1x1024 : Shape := ⟨2, ![1, 1024]⟩
abbrev S4096x2816 : Shape := ⟨2, ![4096, 2816]⟩
abbrev S1024x5632 : Shape := ⟨2, ![1024, 5632]⟩
abbrev S4096x4x704 : Shape := ⟨3, ![4096, 4, 704]⟩
abbrev S4x4096x704 : Shape := ⟨3, ![4, 4096, 704]⟩
abbrev S1024x8x704 : Shape := ⟨3, ![1024, 8, 704]⟩
abbrev S8x1024x704 : Shape := ⟨3, ![8, 1024, 704]⟩
abbrev S1024x1024 : Shape := ⟨2, ![1024, 1024]⟩
abbrev S1x1024x704 : Shape := ⟨3, ![1, 1024, 704]⟩
abbrev S1x512x704 : Shape := ⟨3, ![1, 512, 704]⟩
abbrev S512x704 : Shape := ⟨2, ![512, 704]⟩
abbrev S1024x704 : Shape := ⟨2, ![1024, 704]⟩
abbrev S512x1024 : Shape := ⟨2, ![512, 1024]⟩
abbrev S1024 : Shape := ⟨1, ![1024]⟩
abbrev S1024x1 : Shape := ⟨2, ![1024, 1]⟩

abbrev nBuf : Space → Nat
  | .hbm => 15
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .bf16⟩
  | .hbm, ⟨4, _⟩ => ⟨S4096x2816, .bf16⟩
  | .hbm, ⟨5, _⟩ => ⟨S1024x5632, .f32⟩
  | .hbm, ⟨6, _⟩ => ⟨S4096x4x704, .bf16⟩
  | .hbm, ⟨7, _⟩ => ⟨S4x4096x704, .bf16⟩
  | .hbm, ⟨8, _⟩ => ⟨S4096x4x704, .bf16⟩
  | .hbm, ⟨9, _⟩ => ⟨S4x4096x704, .bf16⟩
  | .hbm, ⟨10, _⟩ => ⟨S1024x8x704, .f32⟩
  | .hbm, ⟨11, _⟩ => ⟨S8x1024x704, .f32⟩
  | .hbm, ⟨12, _⟩ => ⟨S8x1024x704, .bf16⟩
  | .hbm, ⟨13, _⟩ => ⟨S4096x1024, .f32⟩
  | .hbm, ⟨14, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_37 : BitVec 32 := 0#32
  let v42 : BitVec 1 := Scalar.cmpi .ne v41 c0_i32_37
  v42

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== InputReferenceIdeal.lean ====
abbrev S4096x1024 : Shape := ⟨2, ![4096, 1024]⟩
abbrev S1x1024 : Shape := ⟨2, ![1, 1024]⟩
abbrev S4096x2816 : Shape := ⟨2, ![4096, 2816]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .bf16⟩
  | .hbm, ⟨4, _⟩ => ⟨S4096x2816, .bf16⟩
  | .hbm, ⟨5, _⟩ => ⟨S1024x5632, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Gates.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S4096x4x704 : Shape := ⟨3, ![4096, 4, 704]⟩
abbrev S4x4096x704 : Shape := ⟨3, ![4, 4096, 704]⟩
abbrev S1024x1024 : Shape := ⟨2, ![1024, 1024]⟩
abbrev S1x1024x704 : Shape := ⟨3, ![1, 1024, 704]⟩
abbrev S704x1024 : Shape := ⟨2, ![704, 1024]⟩
abbrev S512x1024 : Shape := ⟨2, ![512, 1024]⟩
abbrev S512x704 : Shape := ⟨2, ![512, 704]⟩
abbrev S1x512x704 : Shape := ⟨3, ![1, 512, 704]⟩

abbrev nBuf : Space → Nat
  | .hbm => 17
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S4096x4x704, .f32⟩
  | .hbm, ⟨9, _⟩ => ⟨S4x4096x704, .f32⟩
  | .hbm, ⟨10, _⟩ => ⟨S4x4096x704, .bf16⟩
  | .hbm, ⟨11, _⟩ => ⟨S4096x4x704, .f32⟩
  | .hbm, ⟨12, _⟩ => ⟨S4x4096x704, .f32⟩
  | .hbm, ⟨13, _⟩ => ⟨S4x4096x704, .bf16⟩
  | .hbm, ⟨14, _⟩ => ⟨S2816x1024, .bf16⟩
  | .hbm, ⟨15, _⟩ => ⟨S4x4096x704, .bf16⟩
  | .hbm, ⟨16, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S704x1024, .bf16⟩
  | .local _ .vmem, ⟨7, _⟩ => ⟨S704x1024, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GatesReferenceIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S4096x704 : Shape := ⟨2, ![4096, 704]⟩
abbrev S1x4096x704 : Shape := ⟨3, ![1, 4096, 704]⟩
abbrev S4x4096x704 : Shape := ⟨3, ![4, 4096, 704]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S4096x704, .bf16⟩
  | .hbm, ⟨34, _⟩ => ⟨S4096x704, .bf16⟩
  | .hbm, ⟨35, _⟩ => ⟨S4096x704, .bf16⟩
  | .hbm, ⟨36, _⟩ => ⟨S4096x704, .bf16⟩
  | .hbm, ⟨37, _⟩ => ⟨S1x4096x704, .bf16⟩
  | .hbm, ⟨38, _⟩ => ⟨S1x4096x704, .bf16⟩
  | .hbm, ⟨39, _⟩ => ⟨S1x4096x704, .bf16⟩
  | .hbm, ⟨40, _⟩ => ⟨S1x4096x704, .bf16⟩
  | .hbm, ⟨41, _⟩ => ⟨S4x4096x704, .bf16⟩
  | .hbm, ⟨42, _⟩ => ⟨S4096x2816, .bf16⟩
  | .hbm, ⟨43, _⟩ => ⟨S4096x704, .bf16⟩
  | .hbm, ⟨44, _⟩ => ⟨S4096x704, .bf16⟩
  | .hbm, ⟨45, _⟩ => ⟨S4096x704, .bf16⟩
  | .hbm, ⟨46, _⟩ => ⟨S4096x704, .bf16⟩
  | .hbm, ⟨47, _⟩ => ⟨S1x4096x704, .bf16⟩
  | .hbm, ⟨48, _⟩ => ⟨S1x4096x704, .bf16⟩
  | .hbm, ⟨49, _⟩ => ⟨S1x4096x704, .bf16⟩
  | .hbm, ⟨50, _⟩ => ⟨S1x4096x704, .bf16⟩
  | .hbm, ⟨51, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== DwIn.lean ====
abbrev S4096x1024 : Shape := ⟨2, ![4096, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S8x1024x704 : Shape := ⟨3, ![8, 1024, 704]⟩
abbrev S1x4096x704 : Shape := ⟨3, ![1, 4096, 704]⟩
abbrev S1x1024x704 : Shape := ⟨3, ![1, 1024, 704]⟩
abbrev S1024x704 : Shape := ⟨2, ![1024, 704]⟩
abbrev S512x704 : Shape := ⟨2, ![512, 704]⟩
abbrev S4096x512 : Shape := ⟨2, ![4096, 512]⟩
abbrev S4096x704 : Shape := ⟨2, ![4096, 704]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x4x704, .bf16⟩
  | .hbm, ⟨4, _⟩ => ⟨S4x4096x704, .bf16⟩
  | .hbm, ⟨5, _⟩ => ⟨S4096x4x704, .bf16⟩
  | .hbm, ⟨6, _⟩ => ⟨S4x4096x704, .bf16⟩
  | .hbm, ⟨7, _⟩ => ⟨S8x1024x704, .bf16⟩
  | .local _ .vmem, ⟨0, _⟩ => ⟨S4096x1024, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x4096x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_cond4 (i : grid0.Coords) : BitVec 1 :=
  let arg1 : BitVec 32 := BitVec.ofNat 32 (i 1).val
  let c0_i32_4 : BitVec 32 := 0#32
  let v9 : BitVec 1 := Scalar.cmpi .eq arg1 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DwInReferenceIdeal.lean ====
abbrev S4096x1024 : Shape := ⟨2, ![4096, 1024]⟩
abbrev S4096x2816 : Shape := ⟨2, ![4096, 2816]⟩
abbrev S_ : Shape := ⟨0, ![]⟩
abbrev S1024x5632 : Shape := ⟨2, ![1024, 5632]⟩
abbrev S4096x5632 : Shape := ⟨2, ![4096, 5632]⟩
abbrev S5632x1024 : Shape := ⟨2, ![5632, 1024]⟩
abbrev S1024x704 : Shape := ⟨2, ![1024, 704]⟩
abbrev S1x1024x704 : Shape := ⟨3, ![1, 1024, 704]⟩
abbrev S8x1024x704 : Shape := ⟨3, ![8, 1024, 704]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S_, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | .hbm, ⟨15, _⟩ => ⟨S1024x704, .bf16⟩
  | .hbm, ⟨16, _⟩ => ⟨S1024x704, .bf16⟩
  | .hbm, ⟨17, _⟩ => ⟨S1024x704, .bf16⟩
  | .hbm, ⟨18, _⟩ => ⟨S1024x704, .bf16⟩
  | .hbm, ⟨19, _⟩ => ⟨S1024x704, .bf16⟩
  | .hbm, ⟨20, _⟩ => ⟨S1024x704, .bf16⟩
  | .hbm, ⟨21, _⟩ => ⟨S1024x704, .bf16⟩
  | .hbm, ⟨22, _⟩ => ⟨S1024x704, .bf16⟩
  | .hbm, ⟨23, _⟩ => ⟨S1x1024x704, .bf16⟩
  | .hbm, ⟨24, _⟩ => ⟨S1x1024x704, .bf16⟩
  | .hbm, ⟨25, _⟩ => ⟨S1x1024x704, .bf16⟩
  | .hbm, ⟨26, _⟩ => ⟨S1x1024x704, .bf16⟩
  | .hbm, ⟨27, _⟩ => ⟨S1x1024x704, .bf16⟩
  | .hbm, ⟨28, _⟩ => ⟨S1x1024x704, .bf16⟩
  | .hbm, ⟨29, _⟩ => ⟨S1x1024x704, .bf16⟩
  | .hbm, ⟨30, _⟩ => ⟨S1x1024x704, .bf16⟩
  | .hbm, ⟨31, _⟩ => ⟨S8x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== DwOut.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x4096x704 : Shape := ⟨3, ![1, 4096, 704]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x4x704, .bf16⟩
  | .hbm, ⟨3, _⟩ => ⟨S4x4096x704, .bf16⟩
  | .hbm, ⟨4, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S704x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_9 : BitVec 32 := 0#32
  let v12 : BitVec 1 := Scalar.cmpi .eq arg1 c0_i32_9
  let v13 : BitVec 32 := Scalar.extui v12
  let c0_i32_10 : BitVec 32 := 0#32
  let v14 : BitVec 1 := Scalar.cmpi .ne v13 c0_i32_10
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwOutReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwHalf.lean ====
abbrev S4096x512 : Shape := ⟨2, ![4096, 512]⟩
abbrev S4096x2816 : Shape := ⟨2, ![4096, 2816]⟩
abbrev S4096x4x704 : Shape := ⟨3, ![4096, 4, 704]⟩
abbrev S4x4096x704 : Shape := ⟨3, ![4, 4096, 704]⟩
abbrev S8x512x704 : Shape := ⟨3, ![8, 512, 704]⟩
abbrev S1x4096x704 : Shape := ⟨3, ![1, 4096, 704]⟩
abbrev S1x512x704 : Shape := ⟨3, ![1, 512, 704]⟩
abbrev S512x704 : Shape := ⟨2, ![512, 704]⟩
abbrev S256x704 : Shape := ⟨2, ![256, 704]⟩
abbrev S4096x256 : Shape := ⟨2, ![4096, 256]⟩
abbrev S4096x704 : Shape := ⟨2, ![4096, 704]⟩

abbrev nBuf : Space → Nat
  | .hbm => 8
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S4096x2816, .bf16⟩
  | .hbm, ⟨2, _⟩ => ⟨S4096x2816, .bf16⟩
  | .hbm, ⟨3, _⟩ => ⟨S4096x4x704, .bf16⟩
  | .hbm, ⟨4, _⟩ => ⟨S4x4096x704, .bf16⟩
  | .hbm, ⟨5, _⟩ => ⟨S4096x4x704, .bf16⟩
  | .hbm, ⟨6, _⟩ => ⟨S4x4096x704, .bf16⟩
  | .hbm, ⟨7, _⟩ => ⟨S8x512x704, .bf16⟩
  | .local _ .vmem, ⟨0, _⟩ => ⟨S4096x512, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x4096x704, .bf16⟩
  | .local _ .vmem, ⟨5, _⟩ => ⟨S1x512x704, .bf16⟩
  | .local _ .vmem, ⟨6, _⟩ => ⟨S1x512x704, .bf16⟩
  | .local _ .vmem, ⟨7, _⟩ => ⟨S512x704, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_cond4 (i : grid0.Coords) : BitVec 1 :=
  let arg1 : BitVec 32 := BitVec.ofNat 32 (i 1).val
  let c0_i32_4 : BitVec 32 := 0#32
  let v9 : BitVec 1 := Scalar.cmpi .eq arg1 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DwHalfReferenceIdeal.lean ====
abbrev S4096x512 : Shape := ⟨2, ![4096, 512]⟩
abbrev S4096x2816 : Shape := ⟨2, ![4096, 2816]⟩
abbrev S_ : Shape := ⟨0, ![]⟩
abbrev S512x5632 : Shape := ⟨2, ![512, 5632]⟩
abbrev S4096x5632 : Shape := ⟨2, ![4096, 5632]⟩
abbrev S5632x512 : Shape := ⟨2, ![5632, 512]⟩
abbrev S512x704 : Shape := ⟨2, ![512, 704]⟩
abbrev S1x512x704 : Shape := ⟨3, ![1, 512, 704]⟩
abbrev S8x512x704 : Shape := ⟨3, ![8, 512, 704]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2816, .bf16⟩
  | .hbm, ⟨2, _⟩ => ⟨S4096x2816, .bf16⟩
  | .hbm, ⟨3, _⟩ => ⟨S_, .f32⟩
  | .hbm, ⟨4, _⟩ => ⟨S512x5632, .f32⟩
  | .hbm, ⟨5, _⟩ => ⟨S4096x512, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x5632, .f32⟩
  | .hbm, ⟨12, _⟩ => ⟨S5632x512, .f32⟩
  | .hbm, ⟨13, _⟩ => ⟨S512x5632, .f32⟩
  | .hbm, ⟨14, _⟩ => ⟨S512x5632, .bf16⟩
  | .hbm, ⟨15, _⟩ => ⟨S512x704, .bf16⟩
  | .hbm, ⟨16, _⟩ => ⟨S512x704, .bf16⟩
  | .hbm, ⟨17, _⟩ => ⟨S512x704, .bf16⟩
  | .hbm, ⟨18, _⟩ => ⟨S512x704, .bf16⟩
  | .hbm, ⟨19, _⟩ => ⟨S512x704, .bf16⟩
  | .hbm, ⟨20, _⟩ => ⟨S512x704, .bf16⟩
  | .hbm, ⟨21, _⟩ => ⟨S512x704, .bf16⟩
  | .hbm, ⟨22, _⟩ => ⟨S512x704, .bf16⟩
  | .hbm, ⟨23, _⟩ => ⟨S1x512x704, .bf16⟩
  | .hbm, ⟨24, _⟩ => ⟨S1x512x704, .bf16⟩
  | .hbm, ⟨25, _⟩ => ⟨S1x512x704, .bf16⟩
  | .hbm, ⟨26, _⟩ => ⟨S1x512x704, .bf16⟩
  | .hbm, ⟨27, _⟩ => ⟨S1x512x704, .bf16⟩
  | .hbm, ⟨28, _⟩ => ⟨S1x512x704, .bf16⟩
  | .hbm, ⟨29, _⟩ => ⟨S1x512x704, .bf16⟩
  | .hbm, ⟨30, _⟩ => ⟨S1x512x704, .bf16⟩
  | .hbm, ⟨31, _⟩ => ⟨S8x512x704, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== DwQkv.lean ====
abbrev S4096x1024 : Shape := ⟨2, ![4096, 1024]⟩
abbrev S4096x1536 : Shape := ⟨2, ![4096, 1536]⟩
abbrev S1024x1536 : Shape := ⟨2, ![1024, 1536]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwQkvReferenceIdeal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwUv.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwUvReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwMixOut.lean ====
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S4096x512, .bf16⟩
  | .local _ .vmem, ⟨1, _⟩ => ⟨S4096x1024, .bf16⟩
  | .local _ .vmem, ⟨2, _⟩ => ⟨S512x1024, .bf16⟩
  | .local _ .vmem, ⟨3, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwMixOutReferenceIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x512, .f32⟩
  | .hbm, ⟨4, _⟩ => ⟨S4096x512, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixOutReferenceIdeal.lean ====
abbrev S4096x1024 : Shape := ⟨2, ![4096, 1024]⟩
abbrev S1024x1024 : Shape := ⟨2, ![1024, 1024]⟩
abbrev S_ : Shape := ⟨0, ![]⟩
abbrev S4096x512 : Shape := ⟨2, ![4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixIn.lean ====
abbrev S4096x1024 : Shape := ⟨2, ![4096, 1024]⟩
abbrev S4096x1536 : Shape := ⟨2, ![4096, 1536]⟩
abbrev S1024x2560 : Shape := ⟨2, ![1024, 2560]⟩
abbrev S1x1024 : Shape := ⟨2, ![1, 1024]⟩
abbrev S512x1024 : Shape := ⟨2, ![512, 1024]⟩
abbrev S512x1536 : Shape := ⟨2, ![512, 1536]⟩
abbrev S1024x1024 : Shape := ⟨2, ![1024, 1024]⟩
abbrev S1024x1536 : Shape := ⟨2, ![1024, 1536]⟩
abbrev S512 : Shape := ⟨1, ![512]⟩
abbrev S512x1 : Shape := ⟨2, ![512, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x2560, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x2560, .bf16⟩
  | .hbm, ⟨7, _⟩ => ⟨S4096x1024, .f32⟩
  | .hbm, ⟨8, _⟩ => ⟨S1x1024, .f32⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S1024x2560, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixInReferenceIdeal.lean ====
abbrev S4096x1024 : Shape := ⟨2, ![4096, 1024]⟩
abbrev S4096x1536 : Shape := ⟨2, ![4096, 1536]⟩
abbrev S1024x2560 : Shape := ⟨2, ![1024, 2560]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2560 : Shape := ⟨2, ![4096, 2560]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x2560, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2560, .f32⟩
  | .hbm, ⟨26, _⟩ => ⟨S4096x1024, .f32⟩
  | .hbm, ⟨27, _⟩ => ⟨S4096x1536, .f32⟩
  | .hbm, ⟨28, _⟩ => ⟨S4096x1024, .f32⟩
  | .hbm, ⟨29, _⟩ => ⟨S4096x1536, .f32⟩
  | .hbm, ⟨30, _⟩ => ⟨S4096x2560, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Enter.lean ====
abbrev S4096x1024 : Shape := ⟨2, ![4096, 1024]⟩
abbrev S1x1024 : Shape := ⟨2, ![1, 1024]⟩
abbrev S1024x2560 : Shape := ⟨2, ![1024, 2560]⟩
abbrev S4096x1536 : Shape := ⟨2, ![4096, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩
abbrev S512x2560 : Shape := ⟨2, ![512, 2560]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S1024x2560, .bf16⟩
  | .hbm, ⟨4, _⟩ => ⟨S4096x1024, .bf16⟩
  | .hbm, ⟨5, _⟩ => ⟨S4096x1024, .f32⟩
  | .hbm, ⟨6, _⟩ => ⟨S4096x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1536, .bf16⟩
  | .local _ .vmem, ⟨9, _⟩ => ⟨S512x1536, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EnterReferenceIdeal.lean ====
abbrev S4096x1024 : Shape := ⟨2, ![4096, 1024]⟩
abbrev S1x1024 : Shape := ⟨2, ![1, 1024]⟩
abbrev S1024x2560 : Shape := ⟨2, ![1024, 2560]⟩
abbrev S_ : Shape := ⟨0, ![]⟩
abbrev S4096 : Shape := ⟨1, ![4096]⟩
abbrev S4096x1 : Shape := ⟨2, ![4096, 1]⟩
abbrev S4096x2560 : Shape := ⟨2, ![4096, 2560]⟩
abbrev S4096x1536 : Shape := ⟨2, ![4096, 1536]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x2560, .f32⟩
  | .hbm, ⟨19, _⟩ => ⟨S4096x1024, .f32⟩
  | .hbm, ⟨20, _⟩ => ⟨S4096x1536, .f32⟩
  | .hbm, ⟨21, _⟩ => ⟨S4096x1024, .bf16⟩
  | .hbm, ⟨22, _⟩ => ⟨S4096x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Leave.lean ====
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1024x1024, .f32⟩
  | .hbm, ⟨4, _⟩ => ⟨S1024x1024, .bf16⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LeaveReferenceIdeal.lean ====
abbrev S4096x1024 : Shape := ⟨2, ![4096, 1024]⟩
abbrev S4096x512 : Shape := ⟨2, ![4096, 512]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1024x1024, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Totals.lean ====
/- What the host lines before the kernel leave: each row's total of the logarithms. -/
module

public import proofs.«01_k».proof.Proof.Gen.KernelIdeal.Value
public import proofs.«01_k».proof.Proof.Gen.ReferenceIdeal.Read

@[expose] public section

set_option maxRecDepth 16384

noncomputable section

namespace Cert.Stick

open Idealize.ShloMosaic Idealize.SL.Sem Cert.KernelIdeal Cert.KernelIdeal.Gen Idealize.ShloMosaic.TcCoe Idealize.ShloMosaic.StableHlo

/-- Each row's total of the masked logarithms, on every lane of its head. -/
def totals (x0 : Vec Ideal S4096x1536 .bf16) : Vec Ideal S4096x512 .f32 :=
  shapeCast S4096x512 (broadcastInDim S4096x8x64 ![0, 1, 2] bcast_S4096x8x1_S4096x8x64_0_1_2
    (broadcastInDim S4096x8x1 ![0, 1] bcast_S4096x8_S4096x8x1_0_1
      (transpose S4096x8 [1, 0] (Host.reduceAdd (Cert.ReferenceIdeal.Read.val_main_v19_0 (F := Ideal) x0)
        (constant (F := Ideal) S_ .f32 0x00000000#32) reducesTo_S8x4096x4096_S8x4096_d2 h_S_) transposes_S8x4096_S4096x8_1_0))) shapeCasts_S4096x8x64_S4096x512

set_option maxHeartbeats 8000000 in
/-- The kernel's window of totals stages them. -/
theorem totals_eq (m : (ℓ : Loc nD τ sig) → Buf (Elt Ideal) ℓ) (c : Dev nD) :
    V m c main_v24 = totals (m ((c : Thread nD τ).loc main_arg0)) := by
  unfold V
  simp only [hostOps0, hostOps0_1, hostOps0_2, hostOps0_3, hostOps0_4, List.flatten_cons, List.flatten_nil, List.append_nil, List.cons_append,
      List.nil_append, TRef.binary, TRef.nullary, TRef.ternary, TRef.unary, TRef.toBuf, TRef.ofBuf, cast_eq]
  after_results_simp
  rfl

end Cert.Stick
-- ==== Proof.StickBreaking.lean ====
/- The stick-breaking attention of one head over the real numbers: the weights, their gradients, and
   the identities that join the two ways in which they are computed (a plain cumulative sum along
   the keys, and a sum carried from key block to key block). -/
module

public import Mathlib.Analysis.SpecialFunctions.Log.Basic
public import Mathlib.Algebra.BigOperators.Intervals

@[expose] public section

noncomputable section

namespace Cert.Stick

open Finset

/-- The softplus function, in the form that does not overflow. -/
def sp (x : ℝ) : ℝ := max x 0 + Real.log (1 + Real.exp (-|x|))

/-- The logistic function, written through the softplus. -/
def logi (x : ℝ) : ℝ := Real.exp (x - sp x)

/-- The softplus is the logarithm of `1 + exp`. -/
theorem exp_sp (x : ℝ) : Real.exp (sp x) = 1 + Real.exp x := by
  have h : (0 : ℝ) < 1 + Real.exp (-|x|) := by positivity
  rw [sp, Real.exp_add, Real.exp_log h]
  rcases le_total 0 x with h0 | h0
  · rw [max_eq_left h0, abs_of_nonneg h0, mul_add, mul_one, ← Real.exp_add]
    simp [add_comm]
  · rw [max_eq_right h0, abs_of_nonpos h0]
    simp

/-- The softplus of the opposite argument. -/
theorem sp_neg (x : ℝ) : sp (-x) = sp x - x := by
  unfold sp
  rw [abs_neg]
  rcases le_total 0 x with h0 | h0
  · rw [max_eq_left h0, max_eq_right (by linarith)]; ring
  · rw [max_eq_right h0, max_eq_left (by linarith)]; ring

/-- The logistic function of the opposite argument. -/
theorem logi_neg (x : ℝ) : logi (-x) = 1 - logi x := by
  have h : Real.exp (sp x) ≠ 0 := (Real.exp_pos _).ne'
  have e := exp_sp x
  unfold logi
  rw [sp_neg, show -x - (sp x - x) = -sp x by ring, Real.exp_sub, Real.exp_neg, eq_sub_iff_add_eq]
  field_simp
  linarith

variable (N : ℕ) (z u : ℕ → ℕ → ℝ)

/-- What key `s` takes from the stick of query `t`: nothing outside the causal triangle. -/
def spm (t s : ℕ) : ℝ := if s < t then sp (z t s) else 0

/-- What the first `n` keys take from the stick of query `t`. -/
def cum (t n : ℕ) : ℝ := ∑ s ∈ range n, spm z t s

/-- The attention weight of key `s` for query `t`, among `N` keys. -/
def att (t s : ℕ) : ℝ := if s < t then Real.exp (z t s + (-cum z t N + cum z t s)) else 0

/-- The weight times its gradient. -/
def pr (t s : ℕ) : ℝ := att N z t s * u t s

/-- The products of the first `n` keys. -/
def cumPr (t n : ℕ) : ℝ := ∑ s ∈ range n, pr N z u t s

/-- The gradient of the score. -/
def dz (t s : ℕ) : ℝ := if s < t then pr N z u t s - logi (z t s) * (pr N z u t s + cumPr N z u t s) else 0

theorem spm_of_le {t s : ℕ} (h : t ≤ s) : spm z t s = 0 := if_neg (by omega)
theorem att_of_le {t s : ℕ} (h : t ≤ s) : att N z t s = 0 := if_neg (by omega)
theorem pr_of_le {t s : ℕ} (h : t ≤ s) : pr N z u t s = 0 := by rw [pr, att_of_le N z h, zero_mul]
theorem dz_of_le {t s : ℕ} (h : t ≤ s) : dz N z u t s = 0 := if_neg (by omega)

/-- A sum of a tail along a row, as the difference of two sums of heads. -/
theorem sum_tail (f : ℕ → ℝ) (a b : ℕ) : ∑ j ∈ range b, f (a + j) = ∑ j ∈ range (a + b), f j - ∑ j ∈ range a, f j := by
  rw [sum_range_add]; ring

/-- The stick, carried over one block of keys. -/
theorem cum_add (t a b : ℕ) : cum z t (a + b) = cum z t a + ∑ j ∈ range b, spm z t (a + j) := by
  rw [cum, cum, sum_range_add]

/-- The products, carried over one block of keys. -/
theorem cumPr_add (t a b : ℕ) : cumPr N z u t (a + b) = cumPr N z u t a + ∑ j ∈ range b, pr N z u t (a + j) := by
  rw [cumPr, cumPr, sum_range_add]

/-- The keys at and beyond the query take nothing. -/
theorem cum_of_le {t n : ℕ} (h : t ≤ n) : cum z t n = cum z t t := by
  obtain ⟨k, rfl⟩ := Nat.exists_eq_add_of_le h
  rw [cum_add, sum_eq_zero (fun j _ => spm_of_le z (by omega)), add_zero]

/-- The reference's exponent: the log of the weight by what the later keys take. -/
theorem exponent_eq {t s : ℕ} (h : s < t) (hs : s < N) :
    -sp (-z t s) + ((∑ j ∈ Ico s N, -spm z t j) - -spm z t s) = z t s + (-cum z t N + cum z t s) := by
  have e : cum z t N = cum z t s + ∑ j ∈ Ico s N, spm z t j := by
    rw [cum, cum, ← sum_range_add_sum_Ico _ hs.le]
  rw [e, sum_neg_distrib, sp_neg, spm, if_pos h]
  ring

/-- The reference's gradient of the score. -/
theorem dz_eq {t s : ℕ} (_ : s < N) :
    -(-pr N z u t s * logi (-z t s)) +
      -(if s < t then -pr N z u t s + ∑ j ∈ range (s + 1), pr N z u t j else 0) * logi (z t s) = dz N z u t s := by
  rw [dz, logi_neg, sum_range_succ, cumPr]
  split_ifs with h
  · ring
  · rw [pr_of_le N z u (by omega)]; ring

/-! ### One block of keys -/

/-- The exclusive scan of a row of a block, as a product with two triangles one above the other. -/
theorem scan_halves (f : ℕ → ℝ) {c : ℕ} (hc : c ≤ 256) :
    ∑ k ∈ range 512, (if k < 256 then f k else 0) * (if k % 256 < c then 1 else 0) = ∑ j ∈ range c, f j := by
  have e : range 512 = range (256 + 256) := rfl
  rw [e, sum_range_add]
  have h2 : ∑ x ∈ range 256, (if 256 + x < 256 then f (256 + x) else 0) * (if (256 + x) % 256 < c then (1 : ℝ) else 0) = 0 :=
    sum_eq_zero fun x _ => by rw [if_neg (by omega), zero_mul]
  rw [h2, add_zero, ← sum_subset (range_subset_range.2 hc)]
  · refine sum_congr rfl fun j hj => ?_
    have := mem_range.1 hj
    rw [if_pos (by omega), if_pos (by omega), mul_one]
  · intro j hj hn
    have := mem_range.1 hj
    rw [if_neg (by rw [mem_range] at hn; omega) (α := ℝ) (t := 1), mul_zero]

/-- The exclusive scan of a row of a block, as a product with a triangle. -/
theorem scan_upper (f : ℕ → ℝ) {c : ℕ} (hc : c ≤ 256) :
    ∑ k ∈ range 256, f k * (if k < c then 1 else 0) = ∑ j ∈ range c, f j := by
  rw [← sum_subset (range_subset_range.2 hc)]
  · refine sum_congr rfl fun j hj => ?_
    rw [if_pos (mem_range.1 hj), mul_one]
  · intro j hj hn
    rw [if_neg (by rwa [mem_range] at hn), mul_zero]

/-- The weight, from what the earlier blocks and the earlier keys of this block take. -/
theorem att_block {t s0 c : ℕ} (h : s0 + c < t) :
    Real.exp (z t (s0 + c) + ((-cum z t N + cum z t s0) + ∑ j ∈ range c, spm z t (s0 + j))) = att N z t (s0 + c) := by
  rw [att, if_pos h, cum_add, add_assoc]

/-- What the keys of a block take, with the last one apart. -/
theorem cum_block (t s0 : ℕ) :
    cum z t s0 + (∑ j ∈ range 255, spm z t (s0 + j) + spm z t (s0 + 255)) = cum z t (s0 + 256) := by
  rw [cum_add, ← sum_range_succ (fun j => spm z t (s0 + j)) 255]

/-- The products of a block, with the last one apart. -/
theorem cumPr_block (t s0 : ℕ) :
    cumPr N z u t s0 + (∑ j ∈ range 255, pr N z u t (s0 + j) + pr N z u t (s0 + 255)) = cumPr N z u t (s0 + 256) := by
  rw [cumPr_add, ← sum_range_succ (fun j => pr N z u t (s0 + j)) 255]

/-- The gradient of the score, from the products of the earlier blocks and keys. -/
theorem dz_block {t s0 c : ℕ} (h : s0 + c < t) :
    pr N z u t (s0 + c) - logi (z t (s0 + c)) * (pr N z u t (s0 + c) + (cumPr N z u t s0 + ∑ j ∈ range c, pr N z u t (s0 + j)))
      = dz N z u t (s0 + c) := by
  rw [dz, if_pos h, cumPr_add]

end Cert.Stick
-- ==== Proof.RealVec.lean ====
/- Vectors of extended reals whose entries are all real: an array that reads a real function of its
   row and column, and how each operation of the attention kernel acts on such arrays. -/
module

public import Idealize.ShloMosaic.Lib.Pointwise
public import proofs.«01_k».proof.Proof.Gen.KernelIdeal.Skeleton
public import proofs.«01_k».proof.Proof.StickBreaking

@[expose] public section

set_option maxRecDepth 16384

noncomputable section

namespace Cert.Stick

open Finset Idealize.ShloMosaic Idealize.SL.Sem Cert.KernelIdeal Cert.KernelIdeal.Gen

/-- The array `v` has the real entry `f r c` in row `r` and column `c`. -/
def Rd {R C : ℕ} {φ : FTy} (v : FVec Ideal ⟨2, ![R, C]⟩ φ) (f : ℕ → ℕ → ℝ) : Prop :=
  ∀ (r : Fin R) (c : Fin C), v (ix2 r c) = ((f r c : ℝ) : EReal)

/-- The mask `m` holds at the rows and columns where `P` does. -/
def Mk {R C : ℕ} (m : IVec ⟨2, ![R, C]⟩ 1) (P : ℕ → ℕ → Prop) : Prop :=
  ∀ (r : Fin R) (c : Fin C), m (ix2 r c) = 1#1 ↔ P r c

/-- A finite sum of reals, read among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- A sum over the first `n` numbers, in the two ways of writing it. -/
theorem coe_sum_fin {n : ℕ} (f : ℕ → ℝ) : ∑ k : Fin n, ((f k : ℝ) : EReal) = ((∑ k ∈ range n, f k : ℝ) : EReal) := by
  rw [coe_sum, sum_range]

section Ops

variable {R C : ℕ} {φ : FTy} {v w : FVec Ideal ⟨2, ![R, C]⟩ φ} {f g : ℕ → ℕ → ℝ}

theorem Rd.congr (h : Rd v f) (e : ∀ r c, r < R → c < C → f r c = g r c) : Rd v g :=
  fun r c => by rw [h r c, e r c r.isLt c.isLt]

theorem Rd.add (h : Rd v f) (k : Rd w g) : Rd (addf v w) (fun r c => f r c + g r c) :=
  fun r c => by simp only [addf, Ideal.addf_def, h r c, k r c, EReal.coe_add]

theorem Rd.sub (h : Rd v f) (k : Rd w g) : Rd (subf v w) (fun r c => f r c - g r c) :=
  fun r c => by simp only [subf, Ideal.subf_def, h r c, k r c, EReal.coe_sub]

theorem Rd.mul (h : Rd v f) (k : Rd w g) : Rd (mulf v w) (fun r c => f r c * g r c) :=
  fun r c => by simp only [mulf, Ideal.mulf_def, h r c, k r c, EReal.coe_mul]

theorem Rd.exp (h : Rd v f) : Rd (exp v) (fun r c => Real.exp (f r c)) :=
  fun r c => by simp only [Idealize.ShloMosaic.exp, Ideal.exp_def, h r c, Ideal.exp_coe]

theorem Rd.trunc (h : Rd v f) (ψ : FTy) (e : ψ.bits < φ.bits) : Rd (truncf ψ v e) f :=
  fun r c => by simp only [truncf, Ideal.truncf_def, h r c]

theorem Rd.ext (h : Rd v f) (ψ : FTy) (e : φ.bits < ψ.bits) : Rd (extf ψ v e) f :=
  fun r c => by simp only [extf, Ideal.extf_def, h r c]

theorem Rd.sel {m : IVec ⟨2, ![R, C]⟩ 1} {P : ℕ → ℕ → Prop} [∀ r c, Decidable (P r c)] (hm : Mk m P) (h : Rd v f) (k : Rd w g) :
    Rd (select m v w) (fun r c => if P r c then f r c else g r c) := fun r c => by
  have := hm r c
  by_cases hp : P r c
  · exact (if_pos (this.2 hp)).trans (by simp only [if_pos hp, h r c])
  · exact (if_neg (fun q => hp (this.1 q))).trans (by simp only [if_neg hp, k r c])

theorem Rd.splat {x : Ideal φ} {a : ℝ} (h : x = ((a : ℝ) : EReal)) : Rd (R := R) (C := C) (broadcast ⟨2, ![R, C]⟩ x) (fun _ _ => a) :=
  fun _ _ => h

theorem Rd.zero : Rd (R := R) (C := C) (broadcast ⟨2, ![R, C]⟩ (Scalar.ofBits (F := Ideal) .f32 0x00000000#32)) (fun _ _ => 0) :=
  Rd.splat (by simp [Scalar.ofBits])

/-- The softplus as the kernel computes it: the exponential of base two, of the absolute value
    scaled by minus the base-two logarithm of `e`. -/
theorem Rd.softplus {v : FVec Ideal ⟨2, ![R, C]⟩ .f32} (h : Rd v f) :
    Rd (addf (maximumf v (broadcast _ (Scalar.ofBits (F := Ideal) .f32 0x00000000#32)))
        (log (addf (broadcast _ (Scalar.ofBits (F := Ideal) .f32 0x3F800000#32))
          (exp2 (mulf (absf v) (broadcast _ (Named.named (F := Ideal) κ "neg_log2_e" (φ := .f32) 0xBFB8AA3B#32)))))))
      (fun r c => sp (f r c)) := fun r c => by
  have hk : Named.named (F := Ideal) κ "neg_log2_e" (φ := .f32) 0xBFB8AA3B#32 = ((-((Real.log 2)⁻¹) : ℝ) : EReal) :=
    IdealRules.named_const.ideal_named_scalar _ _ _ _ rfl
  have ha : (max ((f r c : ℝ) : EReal) (-((f r c : ℝ) : EReal))) = ((|f r c| : ℝ) : EReal) := by
    rw [abs_eq_max_neg, ← EReal.coe_neg]; exact (EReal.coe_strictMono.monotone.map_max).symm
  have h2 : Real.log 2 ≠ 0 := (Real.log_pos (by norm_num)).ne'
  have he : Real.rpow 2 (|f r c| * -((Real.log 2)⁻¹)) = Real.exp (-|f r c|) := by
    show (2 : ℝ) ^ (|f r c| * -((Real.log 2)⁻¹)) = _
    rw [Real.rpow_def_of_pos (by norm_num)]
    congr 1
    field_simp
  have hp : ¬ (1 + Real.exp (-|f r c|)) ≤ 0 := by have := Real.exp_pos (-|f r c|); linarith
  have hm : max ((f r c : ℝ) : EReal) 0 = ((max (f r c) 0 : ℝ) : EReal) := by
    rw [← EReal.coe_zero]; exact (EReal.coe_strictMono.monotone.map_max).symm
  simp only [addf, maximumf, log, exp2, mulf, absf, broadcast, hk, h r c, Scalar.ofBits, Ideal.addf_def, Ideal.maximumf_def, Ideal.mulf_def,
    Ideal.ofBits_def, Ideal.ofBits_zero_f32, Ideal.ofBits_one_f32, show ∀ x : EReal, FloatOps.exp2 (F := Ideal) (φ := .f32) x = Ideal.exp2 x from fun _ => rfl, Ideal.log_def, Ideal.absf_def, ha]
  rw [← EReal.coe_mul, Ideal.exp2_coe, he, ← EReal.coe_one, ← EReal.coe_add, Ideal.log_coe, if_neg hp, hm, ← EReal.coe_add]
  rfl

theorem Mk.congr {m : IVec ⟨2, ![R, C]⟩ 1} {P Q : ℕ → ℕ → Prop} (h : Mk m P) (e : ∀ r c, r < R → c < C → (P r c ↔ Q r c)) : Mk m Q :=
  fun r c => (h r c).trans (e r c r.isLt c.isLt)

end Ops

/-- A product of two matrices, from its reading at an index. -/
theorem Rd.dot {R K C : ℕ} {o : FVec Ideal ⟨2, ![R, C]⟩ .f32} {φ ψ : FTy} {a : Fin R → Fin K → Ideal φ} {b : Fin K → Fin C → Ideal ψ}
    {f g : ℕ → ℕ → ℝ}
    (ho : ∀ r c, o (ix2 r c) = ((constant (F := Ideal) ⟨2, ![R, C]⟩ .f32 0x00000000#32) (ix2 r c) : EReal) + ∑ k : Fin K, (a r k : EReal) * (b k c : EReal))
    (ha : ∀ r k, a r k = ((f r k : ℝ) : EReal)) (hb : ∀ k c, b k c = ((g k c : ℝ) : EReal)) :
    Rd o (fun r c => ∑ k ∈ range K, f r k * g k c) := fun r c => by
  rw [ho]
  simp only [constant, Ideal.ofBits_def, Ideal.ofBits_zero_f32, zero_add, ha, hb, ← EReal.coe_mul]
  exact coe_sum_fin fun k => f r k * g k c

/-! ### The products of the kernel -/

section Dots

variable {φ ψ : FTy} {f g : ℕ → ℕ → ℝ}

theorem Rd.nt512 {A : FVec Ideal S512x128 φ} {B : FVec Ideal S256x128 ψ} (ha : Rd A f) (hb : Rd B g) :
    Rd (matmul dot_S512x128_S256x128_S512x256_1_1_0_0_n_n none A B (constant S512x256 .f32 0x00000000#32))
      (fun r c => ∑ k ∈ range 128, f r k * g c k) :=
  Rd.dot (a := fun r k => A (ix2 r k)) (b := fun k c => B (ix2 c k)) (g := fun k c => g c k)
    (fun r c => by simp only [pointwise]) ha (fun k c => hb c k)

theorem Rd.scan512 {A : FVec Ideal S512x512 φ} {B : FVec Ideal S512x256 ψ} (ha : Rd A f) (hb : Rd B g) :
    Rd (matmul dot_S512x512_S512x256_S512x256_1_0_0_1_n_n none A B (constant S512x256 .f32 0x00000000#32))
      (fun r c => ∑ k ∈ range 512, f r k * g k c) :=
  Rd.dot (a := fun r k => A (ix2 r k)) (b := fun k c => B (ix2 k c)) (fun r c => by simp only [pointwise]) ha hb

theorem Rd.resp512 {A : FVec Ideal S512x256 φ} {B : FVec Ideal S256x256 ψ} (ha : Rd A f) (hb : Rd B g) :
    Rd (matmul dot_S512x256_S256x256_S512x256_1_0_0_1_n_n none A B (constant S512x256 .f32 0x00000000#32))
      (fun r c => ∑ k ∈ range 256, f r k * g k c) :=
  Rd.dot (a := fun r k => A (ix2 r k)) (b := fun k c => B (ix2 k c)) (fun r c => by simp only [pointwise]) ha hb

theorem Rd.dq512 {A : FVec Ideal S512x256 φ} {B : FVec Ideal S256x128 ψ} (ha : Rd A f) (hb : Rd B g) :
    Rd (matmul dot_S512x256_S256x128_S512x128_1_0_0_1_n_n none A B (constant S512x128 .f32 0x00000000#32))
      (fun r c => ∑ k ∈ range 256, f r k * g k c) :=
  Rd.dot (a := fun r k => A (ix2 r k)) (b := fun k c => B (ix2 k c)) (fun r c => by simp only [pointwise]) ha hb

theorem Rd.tn512 {A : FVec Ideal S512x256 φ} {B : FVec Ideal S512x128 ψ} (ha : Rd A f) (hb : Rd B g) :
    Rd (matmul dot_S512x256_S512x128_S256x128_0_0_1_1_n_n none A B (constant S256x128 .f32 0x00000000#32))
      (fun r c => ∑ k ∈ range 512, f k r * g k c) :=
  Rd.dot (a := fun r k => A (ix2 k r)) (b := fun k c => B (ix2 k c)) (f := fun r k => f k r)
    (fun r c => by simp only [pointwise]) (fun r k => ha k r) hb

theorem Rd.nt256 {A : FVec Ideal S256x128 φ} {B : FVec Ideal S256x128 ψ} (ha : Rd A f) (hb : Rd B g) :
    Rd (matmul dot_S256x128_S256x128_S256x256_1_1_0_0_n_n none A B (constant S256x256 .f32 0x00000000#32))
      (fun r c => ∑ k ∈ range 128, f r k * g c k) :=
  Rd.dot (a := fun r k => A (ix2 r k)) (b := fun k c => B (ix2 c k)) (g := fun k c => g c k)
    (fun r c => by simp only [pointwise]) ha (fun k c => hb c k)

theorem Rd.scan256 {A : FVec Ideal S256x512 φ} {B : FVec Ideal S512x256 ψ} (ha : Rd A f) (hb : Rd B g) :
    Rd (matmul dot_S256x512_S512x256_S256x256_1_0_0_1_n_n none A B (constant S256x256 .f32 0x00000000#32))
      (fun r c => ∑ k ∈ range 512, f r k * g k c) :=
  Rd.dot (a := fun r k => A (ix2 r k)) (b := fun k c => B (ix2 k c)) (fun r c => by simp only [pointwise]) ha hb

theorem Rd.resp256 {A : FVec Ideal S256x256 φ} {B : FVec Ideal S256x256 ψ} (ha : Rd A f) (hb : Rd B g) :
    Rd (matmul dot_S256x256_S256x256_S256x256_1_0_0_1_n_n none A B (constant S256x256 .f32 0x00000000#32))
      (fun r c => ∑ k ∈ range 256, f r k * g k c) :=
  Rd.dot (a := fun r k => A (ix2 r k)) (b := fun k c => B (ix2 k c)) (fun r c => by simp only [pointwise]) ha hb

theorem Rd.dq256 {A : FVec Ideal S256x256 φ} {B : FVec Ideal S256x128 ψ} (ha : Rd A f) (hb : Rd B g) :
    Rd (matmul dot_S256x256_S256x128_S256x128_1_0_0_1_n_n none A B (constant S256x128 .f32 0x00000000#32))
      (fun r c => ∑ k ∈ range 256, f r k * g k c) :=
  Rd.dot (a := fun r k => A (ix2 r k)) (b := fun k c => B (ix2 k c)) (fun r c => by simp only [pointwise]) ha hb

theorem Rd.tn256 {A : FVec Ideal S256x256 φ} {B : FVec Ideal S256x128 ψ} (ha : Rd A f) (hb : Rd B g) :
    Rd (matmul dot_S256x256_S256x128_S256x128_0_0_1_1_n_n none A B (constant S256x128 .f32 0x00000000#32))
      (fun r c => ∑ k ∈ range 256, f k r * g k c) :=
  Rd.dot (a := fun r k => A (ix2 k r)) (b := fun k c => B (ix2 k c)) (f := fun r k => f k r)
    (fun r c => by simp only [pointwise]) (fun r k => ha k r) hb

end Dots

/-! ### Columns, slices and shape casts -/

section Cols

variable {φ : FTy} {f : ℕ → ℕ → ℝ}

/-- A block of an array, at an offset of rows and columns. -/
theorem Rd.slice {R C R' C' a b : ℕ} {v : FVec Ideal ⟨2, ![R, C]⟩ φ} (h : Rd v f) (hs : Shape.Slices ⟨2, ![R, C]⟩ ![a, b] ⟨2, ![R', C']⟩) :
    Rd (extractStridedSlice ⟨2, ![R', C']⟩ ![a, b] v hs) (fun r c => f (a + r) (b + c)) := fun _ _ =>
  (congrArg v (eq_ix2 _)).trans (h _ _)

/-- A block of a mask. -/
theorem Mk.slice {R C R' C' a b : ℕ} {m : IVec ⟨2, ![R, C]⟩ 1} {P : ℕ → ℕ → Prop} (h : Mk m P)
    (hs : Shape.Slices ⟨2, ![R, C]⟩ ![a, b] ⟨2, ![R', C']⟩) :
    Mk (extractStridedSlice ⟨2, ![R', C']⟩ ![a, b] m hs) (fun r c => P (a + r) (b + c)) := fun r c => by
  have e := h ⟨a + r, Nat.lt_of_lt_of_le (Nat.add_lt_add_left r.isLt _) (hs.2 0)⟩ ⟨b + c, Nat.lt_of_lt_of_le (Nat.add_lt_add_left c.isLt _) (hs.2 1)⟩
  refine Iff.trans (Eq.to_iff (congrArg (· = 1#1) (congrArg m (eq_ix2 _)))) e

theorem Rd.bcol512 {v : FVec Ideal S512x1 φ} (h : Rd v f) :
    Rd (broadcastTo S512x256 v broadcasts_S512x1_S512x256) (fun r _ => f r 0) := fun r c => by
  simp only [pointwise]
  exact h r 0

theorem Rd.bcol256 {v : FVec Ideal S256x1 φ} (h : Rd v f) :
    Rd (broadcastTo S256x256 v broadcasts_S256x1_S256x256) (fun r _ => f r 0) := fun r c => by
  simp only [pointwise]
  exact h r 0

/-- The two halves of a value side by side: the second, the difference of a value and itself, is zero. -/
theorem Rd.halves512 {v : FVec Ideal S512x256 .f32} (h : Rd v f) :
    Rd (concatenate S512x512 1 [⟨S512x256, truncf .bf16 v bitsLt_bf16_f32⟩,
        ⟨S512x256, truncf .bf16 (subf v (extf .f32 (truncf .bf16 v bitsLt_bf16_f32) bitsLt_bf16_f32)) bitsLt_bf16_f32⟩]
        concatenates_S512x256_S512x256_S512x512_d1)
      (fun r c => if c < 256 then f r c else 0) := fun r c => by
  simp only [pointwise]
  split_ifs
  · exact h r _
  all_goals
    refine (congrArg₂ (fun x y : EReal => x - y) (h _ _) (h _ _)).trans ?_
    rw [← EReal.coe_sub, sub_self]

theorem Rd.halves256 {v : FVec Ideal S256x256 .f32} (h : Rd v f) :
    Rd (concatenate S256x512 1 [⟨S256x256, truncf .bf16 v bitsLt_bf16_f32⟩,
        ⟨S256x256, truncf .bf16 (subf v (extf .f32 (truncf .bf16 v bitsLt_bf16_f32) bitsLt_bf16_f32)) bitsLt_bf16_f32⟩]
        concatenates_S256x256_S256x256_S256x512_d1)
      (fun r c => if c < 256 then f r c else 0) := fun r c => by
  simp only [pointwise]
  split_ifs
  · exact h r _
  all_goals
    refine (congrArg₂ (fun x y : EReal => x - y) (h _ _) (h _ _)).trans ?_
    rw [← EReal.coe_sub, sub_self]

/-- The word array `v` counts: its entry in row `r` and column `c` is the number `f r c`. -/
def Wd {R C : ℕ} (v : IVec ⟨2, ![R, C]⟩ 32) (f : ℕ → ℕ → ℕ) : Prop :=
  ∀ (r : Fin R) (c : Fin C), v (ix2 r c) = BitVec.ofNat 32 (f r c)

theorem Wd.row {R C : ℕ} (h : Shape.Iotas ⟨2, ![R, C]⟩ .tc 32 [0]) : Wd (iota .tc ⟨2, ![R, C]⟩ 32 [0] h) (fun r _ => r) := fun r c => by
  simp only [iota, List.foldl_cons, List.foldl_nil, zero_mul, zero_add]
  rfl

theorem Wd.col {R C : ℕ} (h : Shape.Iotas ⟨2, ![R, C]⟩ .tc 32 [1]) : Wd (iota .tc ⟨2, ![R, C]⟩ 32 [1] h) (fun _ c => c) := fun r c => by
  simp only [iota, List.foldl_cons, List.foldl_nil, zero_mul, zero_add]
  rfl

theorem Wd.splat {R C : ℕ} (n : ℕ) : Wd (R := R) (C := C) (broadcast ⟨2, ![R, C]⟩ (BitVec.ofNat 32 n)) (fun _ _ => n) := fun _ _ => rfl

theorem Wd.add {R C : ℕ} {v w : IVec ⟨2, ![R, C]⟩ 32} {f g : ℕ → ℕ → ℕ} (h : Wd v f) (k : Wd w g) :
    Wd (addi v w) (fun r c => f r c + g r c) := fun r c => by
  show v (ix2 r c) + w (ix2 r c) = _
  rw [h r c, k r c, BitVec.ofNat_add]

theorem Wd.slt {R C : ℕ} {v w : IVec ⟨2, ![R, C]⟩ 32} {f g : ℕ → ℕ → ℕ} (h : Wd v f) (k : Wd w g)
    (hf : ∀ r c, r < R → c < C → f r c < 2 ^ 31) (hg : ∀ r c, r < R → c < C → g r c < 2 ^ 31) :
    Mk (cmpi .slt v w) (fun r c => f r c < g r c) := fun r c => by
  have hf' := hf r c r.isLt c.isLt
  have hg' := hg r c r.isLt c.isLt
  show IntOp.cmpi .slt (v (ix2 r c)) (w (ix2 r c)) = 1#1 ↔ _
  rw [h r c, k r c]
  have e : ∀ n : ℕ, n < 2 ^ 31 → (BitVec.ofNat 32 n).toInt = n := fun n hn => by
    rw [BitVec.toInt_ofNat', Int.bmod_eq_of_le] <;> omega
  simp only [IntOp.cmpi, BitVec.slt, e _ hf', e _ hg']
  by_cases q : f r c < g r c <;> simp [q]

/-- The strictly upper triangle: one where the row is before the column. -/
theorem rd_upper : Rd (k0_pay72 (F := Ideal)) (fun r c => if r < c then 1 else 0) :=
  (Rd.sel (Wd.slt (Wd.row _) (Wd.col _) (fun r c _ _ => by omega) (fun r c _ _ => by omega))
    (Rd.splat (φ := .f32) (a := 1) (by simp [Scalar.ofBits])) Rd.zero).trunc .bf16 bitsLt_bf16_f32

/-- Two such triangles, one above the other. -/
theorem rd_upper2 : Rd (k0_pay73 (F := Ideal)) (fun r c => if r % 256 < c then 1 else 0) := fun r c => by
  unfold k0_pay73
  simp only [pointwise]
  have h2 := r.isLt
  by_cases h1 : (r : ℕ) < 256
  · rw [dif_pos h1]
    refine (rd_upper _ _).trans ?_
    simp only [Nat.mod_eq_of_lt h1]
  · rw [dif_neg h1]
    refine (rd_upper _ _).trans ?_
    have e : (r : ℕ) % 256 = r - 256 := by omega
    simp [e]

end Cols

/-- The stacked array `v` has the real entry `f a r c` in row `r` and column `c` of its layer `a`. -/
def Rd3 {A R C : ℕ} {φ : FTy} (v : FVec Ideal ⟨3, ![A, R, C]⟩ φ) (f : ℕ → ℕ → ℕ → ℝ) : Prop :=
  ∀ (a : Fin A) (r : Fin R) (c : Fin C), v (ix3 a r c) = ((f a r c : ℝ) : EReal)

theorem Rd3.congr {A R C : ℕ} {φ : FTy} {v : FVec Ideal ⟨3, ![A, R, C]⟩ φ} {f g : ℕ → ℕ → ℕ → ℝ} (h : Rd3 v f)
    (e : ∀ a r c, a < A → r < R → c < C → f a r c = g a r c) : Rd3 v g :=
  fun a r c => by rw [h a r c, e a r c a.isLt r.isLt c.isLt]

section Casts

variable {φ : FTy} {f : ℕ → ℕ → ℝ} {f3 : ℕ → ℕ → ℕ → ℝ}

theorem Rd3.flat512x1 {v : FVec Ideal S1x512x1 φ} (h : Rd3 v f3) :
    Rd (shapeCast S512x1 v shapeCasts_S1x512x1_S512x1) (fun r c => f3 0 r c) := fun r c => by
  obtain rfl : c = 0 := Subsingleton.elim _ _
  simp only [pointwise]
  exact h 0 r 0

theorem Rd.stack512x1 {v : FVec Ideal S512x1 φ} (h : Rd v f) :
    Rd3 (shapeCast S1x512x1 v shapeCasts_S512x1_S1x512x1) (fun _ r c => f r c) := fun a r c => by
  obtain rfl : c = 0 := Subsingleton.elim _ _
  simp only [pointwise]
  exact h r 0

theorem Rd3.flat512x128 {v : FVec Ideal S1x512x128 φ} (h : Rd3 v f3) :
    Rd (shapeCast S512x128 v shapeCasts_S1x512x128_S512x128) (fun r c => f3 0 r c) := fun r c => by
  simp only [pointwise]
  exact h 0 r c

theorem Rd.stack512x128 {v : FVec Ideal S512x128 φ} (h : Rd v f) :
    Rd3 (shapeCast S1x512x128 v shapeCasts_S512x128_S1x512x128) (fun _ r c => f r c) := fun a r c => by
  simp only [pointwise]
  exact h r c

theorem Rd3.flat256x1 {v : FVec Ideal S1x256x1 φ} (h : Rd3 v f3) :
    Rd (shapeCast S256x1 v shapeCasts_S1x256x1_S256x1) (fun r c => f3 0 r c) := fun r c => by
  obtain rfl : c = 0 := Subsingleton.elim _ _
  simp only [pointwise]
  exact h 0 r 0

theorem Rd.stack256x1 {v : FVec Ideal S256x1 φ} (h : Rd v f) :
    Rd3 (shapeCast S1x256x1 v shapeCasts_S256x1_S1x256x1) (fun _ r c => f r c) := fun a r c => by
  obtain rfl : c = 0 := Subsingleton.elim _ _
  simp only [pointwise]
  exact h r 0

theorem Rd3.flat256x128 {v : FVec Ideal S1x256x128 φ} (h : Rd3 v f3) :
    Rd (shapeCast S256x128 v shapeCasts_S1x256x128_S256x128) (fun r c => f3 0 r c) := fun r c => by
  simp only [pointwise]
  exact h 0 r c

theorem Rd.stack256x128 {v : FVec Ideal S256x128 φ} (h : Rd v f) :
    Rd3 (shapeCast S1x256x128 v shapeCasts_S256x128_S1x256x128) (fun _ r c => f r c) := fun a r c => by
  simp only [pointwise]
  exact h r c

theorem Rd.self {R C : ℕ} {v : FVec Ideal ⟨2, ![R, C]⟩ φ} (h : Rd v f) (e : Shape.ShapeCasts ⟨2, ![R, C]⟩ ⟨2, ![R, C]⟩) :
    Rd (shapeCast ⟨2, ![R, C]⟩ v e) f := by
  rwa [shapeCast_self]

end Casts

/-! ### Scans along a row of a block -/

section Scans

variable {f : ℕ → ℕ → ℝ}

/-- The exclusive scan of a value split in two halves. -/
theorem Rd.scan512' {v : FVec Ideal S512x256 .f32} {e : FVec Ideal S512x256 .bf16} (h : Rd v f)
    (he : Rd e (fun r c => if r % 256 < c then 1 else 0)) :
    Rd (matmul dot_S512x512_S512x256_S512x256_1_0_0_1_n_n none
        (concatenate S512x512 1 [⟨S512x256, truncf .bf16 v bitsLt_bf16_f32⟩,
          ⟨S512x256, truncf .bf16 (subf v (extf .f32 (truncf .bf16 v bitsLt_bf16_f32) bitsLt_bf16_f32)) bitsLt_bf16_f32⟩]
          concatenates_S512x256_S512x256_S512x512_d1) e (constant S512x256 .f32 0x00000000#32))
      (fun r c => ∑ j ∈ range c, f r j) :=
  (Rd.scan512 h.halves512 he).congr fun _ _ _ hc => scan_halves _ hc.le

/-- The exclusive scan of a rounded value. -/
theorem Rd.resp512' {v : FVec Ideal S512x256 .f32} {e : FVec Ideal S256x256 .bf16} (h : Rd v f)
    (he : Rd e (fun r c => if r < c then 1 else 0)) :
    Rd (matmul dot_S512x256_S256x256_S512x256_1_0_0_1_n_n none (truncf .bf16 v bitsLt_bf16_f32) e (constant S512x256 .f32 0x00000000#32))
      (fun r c => ∑ j ∈ range c, f r j) :=
  (Rd.resp512 (h.trunc .bf16 bitsLt_bf16_f32) he).congr fun _ _ _ hc => scan_upper _ hc.le

/-- The exclusive scan of a value split in two halves. -/
theorem Rd.scan256' {v : FVec Ideal S256x256 .f32} {e : FVec Ideal S512x256 .bf16} (h : Rd v f)
    (he : Rd e (fun r c => if r % 256 < c then 1 else 0)) :
    Rd (matmul dot_S256x512_S512x256_S256x256_1_0_0_1_n_n none
        (concatenate S256x512 1 [⟨S256x256, truncf .bf16 v bitsLt_bf16_f32⟩,
          ⟨S256x256, truncf .bf16 (subf v (extf .f32 (truncf .bf16 v bitsLt_bf16_f32) bitsLt_bf16_f32)) bitsLt_bf16_f32⟩]
          concatenates_S256x256_S256x256_S256x512_d1) e (constant S256x256 .f32 0x00000000#32))
      (fun r c => ∑ j ∈ range c, f r j) :=
  (Rd.scan256 h.halves256 he).congr fun _ _ _ hc => scan_halves _ hc.le

/-- The exclusive scan of a rounded value. -/
theorem Rd.resp256' {v : FVec Ideal S256x256 .f32} {e : FVec Ideal S256x256 .bf16} (h : Rd v f)
    (he : Rd e (fun r c => if r < c then 1 else 0)) :
    Rd (matmul dot_S256x256_S256x256_S256x256_1_0_0_1_n_n none (truncf .bf16 v bitsLt_bf16_f32) e (constant S256x256 .f32 0x00000000#32))
      (fun r c => ∑ j ∈ range c, f r j) :=
  (Rd.resp256 (h.trunc .bf16 bitsLt_bf16_f32) he).congr fun _ _ _ hc => scan_upper _ hc.le

end Scans

end Cert.Stick
-- ==== Proof.Scan.lean ====
module

public import proofs.«01_k».proof.Proof.RealVec

/-! # Running sums along the last axis

A float cumulative sum prints as a window sum with a window as long as the axis, padded with zeros on one
side. Padded on the low side it is the running sum from the start; padded on the high side it is the running
sum from the end. Both are read here on arrays of real numbers with three axes. -/

@[expose] public section

set_option maxRecDepth 16384

noncomputable section

namespace Cert.Stick

open Finset Idealize.ShloMosaic

/-- A left fold of extended additions of real numbers is the real sum. -/
theorem foldl_add_coe {α : Type*} (l : List α) (f : α → EReal) (g : α → ℝ) (h : ∀ n, f n = ((g n : ℝ) : EReal)) (a : ℝ) :
    l.foldl (fun r n => r + f n) ((a : ℝ) : EReal) = ((a + (l.map g).sum : ℝ) : EReal) := by
  induction l generalizing a with
  | nil => simp
  | cons x l ih => rw [List.foldl_cons, h x, ← EReal.coe_add, ih, List.map_cons, List.sum_cons, add_assoc]

/-- Over all positions of an axis, adding only those that stay inside after a shift is the sum of a tail. -/
theorem sum_shift_high (f : ℕ → ℝ) {s N : ℕ} (hs : s < N) :
    (∑ n ∈ range N, if s + n < N then f (s + n) else 0) = ∑ j ∈ Ico s N, f j := by
  rw [sum_Ico_eq_sum_range, ← sum_filter]
  refine sum_congr (Finset.ext fun n => ?_) fun _ _ => rfl
  simp only [mem_filter, mem_range]
  omega

/-- Over all positions of an axis, adding only those that lie past the padding is the sum of a head. -/
theorem sum_shift_low (f : ℕ → ℝ) {s M : ℕ} (hs : s < M + 1) :
    (∑ n ∈ range (M + 1), if M ≤ s + n then f (s + n - M) else 0) = ∑ j ∈ range (s + 1), f j := by
  rw [← sum_filter]
  have e : (range (M + 1)).filter (fun n => M ≤ s + n) = Ico (M - s) (M + 1) := by
    ext n
    simp only [mem_filter, mem_range, mem_Ico]
    omega
  rw [e, sum_Ico_eq_sum_range, show M + 1 - (M - s) = s + 1 by omega]
  refine sum_congr rfl fun n _ => congrArg f ?_
  omega

section Window

variable {A B N : ℕ} {φ : FTy}

/-- A window one wide on the first two axes and `N` wide on the last has `N` positions. -/
theorem numel_line (N : ℕ) : (⟨3, ![1, 1, N]⟩ : Shape).numel = N := by
  simp [Shape.numel, Fin.prod_univ_succ]

/-- Position `n` of such a window is at coordinates `(0, 0, n)`. -/
theorem line_coords (n : Fin (⟨3, ![1, 1, N]⟩ : Shape).numel) :
    (((⟨3, ![1, 1, N]⟩ : Shape).rowMajor.symm n) 0).val = 0 ∧ (((⟨3, ![1, 1, N]⟩ : Shape).rowMajor.symm n) 1).val = 0 ∧
      (((⟨3, ![1, 1, N]⟩ : Shape).rowMajor.symm n) 2).val = n.val := by
  have h := Shape.rowMajor_val_three ((⟨3, ![1, 1, N]⟩ : Shape).rowMajor.symm n)
  rw [Equiv.apply_symm_apply] at h
  have h0 : (((⟨3, ![1, 1, N]⟩ : Shape).rowMajor.symm n) 0).val < 1 := (((⟨3, ![1, 1, N]⟩ : Shape).rowMajor.symm n) 0).isLt
  have h1 : (((⟨3, ![1, 1, N]⟩ : Shape).rowMajor.symm n) 1).val < 1 := (((⟨3, ![1, 1, N]⟩ : Shape).rowMajor.symm n) 1).isLt
  have e0 : (((⟨3, ![1, 1, N]⟩ : Shape).rowMajor.symm n) 0).val = 0 := by omega
  have e1 : (((⟨3, ![1, 1, N]⟩ : Shape).rowMajor.symm n) 1).val = 0 := by omega
  refine ⟨e0, e1, ?_⟩
  rw [e0, e1] at h
  simp at h
  exact h.symm

/-- The window sum along the last axis with low padding `lo`, of an array of real numbers, is the sum over the
    positions that fall inside the array. -/
theorem window_sum {x : FVec Ideal ⟨3, ![A, B, N]⟩ φ} {f : ℕ → ℕ → ℕ → ℝ}
    (hx : ∀ i : (⟨3, ![A, B, N]⟩ : Shape).Idx, x i = ((f (i 0).val (i 1).val (i 2).val : ℝ) : EReal))
    {lo hi : ℕ} {u : Shape} {init : u.Idx → Ideal φ} (hu : 0 < u.numel) (hinit : ∀ i, init i = ((0 : ℝ) : EReal))
    (h : (⟨3, ![A, B, N]⟩ : Shape).ReduceWindows (![1, 1, N] : Fin 3 → ℕ) ![1, 1, 1] ![0, 0, lo] ![0, 0, hi] ⟨3, ![A, B, N]⟩)
    (i : (⟨3, ![A, B, N]⟩ : Shape).Idx) :
    Host.reduceWindowAdd ![1, 1, N] ![1, 1, 1] ![0, 0, lo] ![0, 0, hi] x init h hu i
      = ((∑ n ∈ range N, (if lo ≤ (i 2).val + n ∧ (i 2).val + n - lo < N then f (i 0).val (i 1).val ((i 2).val + n - lo) else 0 : ℝ) : ℝ) : EReal) := by
  have i0 : (i 0).val < A := (i 0).isLt
  have i1 : (i 1).val < B := (i 1).isLt
  show Ideal.hostReduceWindowAdd ![1, 1, N] ![1, 1, 1] ![0, 0, lo] ![0, 0, hi] h x (init (Shape.Idx.first hu)) i = _
  rw [hinit]
  unfold Ideal.hostReduceWindowAdd Host.reduceWindow
  dsimp only
  refine (foldl_add_coe _ _ (fun n : Fin (⟨3, ![1, 1, N]⟩ : Shape).numel =>
    if lo ≤ (i 2).val + n.val ∧ (i 2).val + n.val - lo < N then f (i 0).val (i 1).val ((i 2).val + n.val - lo) else 0) (fun n => ?_) 0).trans ?_
  · obtain ⟨w0, w1, w2⟩ := line_coords n
    by_cases hp : lo ≤ (i 2).val + n.val ∧ (i 2).val + n.val - lo < N
    · rw [if_pos hp, dif_pos (fun a => by
        match a with
        | ⟨0, _⟩ =>
          show 0 ≤ (i 0).val * 1 + _ ∧ (i 0).val * 1 + (((⟨3, ![1, 1, N]⟩ : Shape).rowMajor.symm n) 0).val - 0 < A
          rw [w0]
          omega
        | ⟨1, _⟩ =>
          show 0 ≤ (i 1).val * 1 + _ ∧ (i 1).val * 1 + (((⟨3, ![1, 1, N]⟩ : Shape).rowMajor.symm n) 1).val - 0 < B
          rw [w1]
          omega
        | ⟨2, _⟩ =>
          show lo ≤ (i 2).val * 1 + (((⟨3, ![1, 1, N]⟩ : Shape).rowMajor.symm n) 2).val ∧ (i 2).val * 1 + (((⟨3, ![1, 1, N]⟩ : Shape).rowMajor.symm n) 2).val - lo < N
          rw [w2, Nat.mul_one]
          exact hp)]
      refine (hx _).trans ?_
      have e0 : (i 0).val * 1 + (((⟨3, ![1, 1, N]⟩ : Shape).rowMajor.symm n) 0).val - 0 = (i 0).val := by rw [w0]; omega
      have e1 : (i 1).val * 1 + (((⟨3, ![1, 1, N]⟩ : Shape).rowMajor.symm n) 1).val - 0 = (i 1).val := by rw [w1]; omega
      have e2 : (i 2).val * 1 + (((⟨3, ![1, 1, N]⟩ : Shape).rowMajor.symm n) 2).val - lo = (i 2).val + n.val - lo := by rw [w2, Nat.mul_one]
      show ((f ((i 0).val * 1 + (((⟨3, ![1, 1, N]⟩ : Shape).rowMajor.symm n) 0).val - 0)
        ((i 1).val * 1 + (((⟨3, ![1, 1, N]⟩ : Shape).rowMajor.symm n) 1).val - 0)
        ((i 2).val * 1 + (((⟨3, ![1, 1, N]⟩ : Shape).rowMajor.symm n) 2).val - lo) : ℝ) : EReal) = _
      rw [e0, e1, e2]
    · rw [if_neg hp, dif_neg (fun hin => hp (by
        have h2 := hin 2
        change lo ≤ (i 2).val * 1 + (((⟨3, ![1, 1, N]⟩ : Shape).rowMajor.symm n) 2).val ∧ (i 2).val * 1 + (((⟨3, ![1, 1, N]⟩ : Shape).rowMajor.symm n) 2).val - lo < N at h2
        rw [w2, Nat.mul_one] at h2
        exact h2))]
  · rw [zero_add, ← List.ofFn_eq_map, List.sum_ofFn]
    refine congrArg (fun r : ℝ => (r : EReal)) ?_
    exact (Finset.sum_range (fun n => if lo ≤ (i 2).val + n ∧ (i 2).val + n - lo < N then f (i 0).val (i 1).val ((i 2).val + n - lo) else 0)).symm.trans
      (congrArg (fun M => ∑ n ∈ range M, if lo ≤ (i 2).val + n ∧ (i 2).val + n - lo < N then f (i 0).val (i 1).val ((i 2).val + n - lo) else 0) (numel_line N))

/-- The cumulative sum from the end: no padding before, and `N - 1` zeros after. -/
theorem scan_high {x : FVec Ideal ⟨3, ![A, B, N]⟩ φ} {f : ℕ → ℕ → ℕ → ℝ}
    (hx : ∀ i : (⟨3, ![A, B, N]⟩ : Shape).Idx, x i = ((f (i 0).val (i 1).val (i 2).val : ℝ) : EReal))
    {hi : ℕ} {u : Shape} {init : u.Idx → Ideal φ} (hu : 0 < u.numel) (hinit : ∀ i, init i = ((0 : ℝ) : EReal))
    (h : (⟨3, ![A, B, N]⟩ : Shape).ReduceWindows (![1, 1, N] : Fin 3 → ℕ) ![1, 1, 1] ![0, 0, 0] ![0, 0, hi] ⟨3, ![A, B, N]⟩)
    (i : (⟨3, ![A, B, N]⟩ : Shape).Idx) :
    Host.reduceWindowAdd ![1, 1, N] ![1, 1, 1] ![0, 0, 0] ![0, 0, hi] x init h hu i
      = ((∑ j ∈ Ico (i 2).val N, f (i 0).val (i 1).val j : ℝ) : EReal) := by
  rw [window_sum hx hu hinit h i, ← sum_shift_high _ (show (i 2).val < N from (i 2).isLt)]
  simp

/-- The cumulative sum from the start: `M` zeros before an axis of `M + 1` entries, and no padding after. -/
theorem scan_low {M : ℕ} {x : FVec Ideal ⟨3, ![A, B, N]⟩ φ} {f : ℕ → ℕ → ℕ → ℝ} (hN : N = M + 1)
    (hx : ∀ i : (⟨3, ![A, B, N]⟩ : Shape).Idx, x i = ((f (i 0).val (i 1).val (i 2).val : ℝ) : EReal))
    {u : Shape} {init : u.Idx → Ideal φ} (hu : 0 < u.numel) (hinit : ∀ i, init i = ((0 : ℝ) : EReal))
    (h : (⟨3, ![A, B, N]⟩ : Shape).ReduceWindows (![1, 1, N] : Fin 3 → ℕ) ![1, 1, 1] ![0, 0, M] ![0, 0, 0] ⟨3, ![A, B, N]⟩)
    (i : (⟨3, ![A, B, N]⟩ : Shape).Idx) :
    Host.reduceWindowAdd ![1, 1, N] ![1, 1, 1] ![0, 0, M] ![0, 0, 0] x init h hu i
      = ((∑ j ∈ range ((i 2).val + 1), f (i 0).val (i 1).val j : ℝ) : EReal) := by
  have i2 : (i 2).val < N := (i 2).isLt
  rw [window_sum hx hu hinit h i, ← sum_shift_low (M := M) _ (by omega)]
  refine congrArg (fun r : ℝ => (r : EReal)) (sum_congr (congrArg range hN) fun n hn => ?_)
  have := mem_range.1 hn
  refine if_congr ⟨fun h => h.1, fun h => ⟨h, by omega⟩⟩ rfl rfl

end Window

end Cert.Stick
-- ==== Proof.Reference.lean ====
module

public import proofs.«01_k».proof.Proof.Scan
public import proofs.«01_k».proof.Proof.Gen.ReferenceIdeal.Read

/-! # The reference in real numbers

The reference differentiates the stick-breaking attention of every head over the whole sequence. On inputs that are
real numbers each of its arrays is an array of real numbers, and this file names them: the scores, the masked
logarithms and their running sums, the attention weights, the gradient of the scores, and the three results. -/

@[expose] public section

set_option maxRecDepth 16384

noncomputable section

namespace Cert.Stick

open Finset Idealize.ShloMosaic Cert.ReferenceIdeal Cert.ReferenceIdeal.Gen Cert.ReferenceIdeal.Read

/-- The score of position `s` for the query at position `t`, in head `h`. -/
def zh (X : ℕ → ℕ → ℝ) (h t s : ℕ) : ℝ := (∑ d ∈ range 64, X t (64 * h + d) * X s (512 + (64 * h + d))) * (1 / 8)

/-- The response of the weight of position `s` for the query at position `t`, in head `h`. -/
def uh (X W : ℕ → ℕ → ℝ) (h t s : ℕ) : ℝ := ∑ d ∈ range 64, W t (64 * h + d) * X s (1024 + (64 * h + d))

/-- The zero word is the number zero. -/
theorem word_zero : FloatOps.ofBits (F := Ideal) .f32 0x00000000#32 = ((0 : ℝ) : EReal) :=
  Ideal.ofBits_zero_f32.trans EReal.coe_zero.symm

/-- The word of an eighth. -/
theorem word_eighth : FloatOps.ofBits (F := Ideal) .f32 0x3E000000#32 = ((1 / 8 : ℝ) : EReal) := by
  show Ideal.ofBits _ _ = _
  simp [Ideal.ofBits, Ideal.ieee, -EReal.coe_mul]
  norm_num

/-- The word of infinity. -/
theorem word_top : FloatOps.ofBits (F := Ideal) .f32 0x7F800000#32 = (⊤ : EReal) := by
  show Ideal.ofBits _ _ = _
  simp [Ideal.ofBits, Ideal.ieee]

/-- The host's softplus of a real number. -/
theorem softplus_host {y o : Ideal .f32} {z : ℝ} (h : y = ((z : ℝ) : EReal)) (ho : o = ((0 : ℝ) : EReal)) :
    Scalar.select (FloatOps.cmpf .une (FloatOps.subf y o) (FloatOps.subf y o)) (FloatOps.addf y o)
      (FloatOps.addf (FloatOps.maximumf y o) (FloatOps.hostUnary .log1p (FloatOps.hostUnary .exp (FloatOps.hostNegf (FloatOps.hostAbsf (FloatOps.subf y o))))))
      = ((sp z : ℝ) : EReal) := by
  have hc : FloatOps.cmpf .une (FloatOps.subf y o) (FloatOps.subf y o) = 0#1 := by
    show Ideal.cmp .une _ _ = 0#1
    simp [Ideal.cmp]
  have ha : max ((z : ℝ) : EReal) (-((z : ℝ) : EReal)) = ((|z| : ℝ) : EReal) := by
    rw [abs_eq_max_neg, ← EReal.coe_neg]; exact (EReal.coe_strictMono.monotone.map_max).symm
  have hm : max ((z : ℝ) : EReal) ((0 : ℝ) : EReal) = ((max z 0 : ℝ) : EReal) := (EReal.coe_strictMono.monotone.map_max).symm
  have hp : ¬ (1 + Real.exp (-|z|)) ≤ 0 := by have := Real.exp_pos (-|z|); linarith
  rw [hc]
  show FloatOps.addf (FloatOps.maximumf y o) (FloatOps.hostUnary .log1p (FloatOps.hostUnary .exp (FloatOps.hostNegf (FloatOps.hostAbsf (FloatOps.subf y o))))) = _
  rw [h, ho]
  show max ((z : ℝ) : EReal) ((0 : ℝ) : EReal) + Ideal.log (1 + Ideal.exp (-(max (((z : ℝ) : EReal) - ((0 : ℝ) : EReal)) (-(((z : ℝ) : EReal) - ((0 : ℝ) : EReal)))))) = _
  rw [← EReal.coe_sub, sub_zero, ha, ← EReal.coe_neg, Ideal.exp_coe, ← EReal.coe_one, ← EReal.coe_add, Ideal.log_coe, if_neg hp, hm, ← EReal.coe_add]
  rfl

/-- A real number is not infinity, so the host's guard against infinity keeps it. -/
theorem guard_host {y i o : Ideal .f32} {z : ℝ} (h : y = ((z : ℝ) : EReal)) (hi : i = (⊤ : EReal)) :
    Scalar.select (FloatOps.cmpf .oeq y i) o y = ((z : ℝ) : EReal) := by
  have hc : FloatOps.cmpf .oeq y i = 0#1 := by
    rw [h, hi]
    show Ideal.cmp .oeq _ _ = 0#1
    simp [Ideal.cmp]
  rw [hc]
  exact h

section Arrays

variable {x0 : (⟨S4096x1536, .bf16⟩ : BufTy).Contents (Elt Ideal)} {x1 : (⟨S4096x512, .f32⟩ : BufTy).Contents (Elt Ideal)}
  {X W : ℕ → ℕ → ℝ}

/-- An array of heads, queries and keys holds the real numbers `f`. -/
def R3 (v : FVec Ideal S8x4096x4096 .f32) (f : ℕ → ℕ → ℕ → ℝ) : Prop :=
  ∀ i : S8x4096x4096.Idx, v i = ((f (i 0).val (i 1).val (i 2).val : ℝ) : EReal)

/-- The rows of the input, and of its gradient, hold real numbers. -/
def R2 {C : ℕ} {φ : FTy} (v : FVec Ideal ⟨2, ![4096, C]⟩ φ) (f : ℕ → ℕ → ℝ) : Prop :=
  ∀ i : (⟨2, ![4096, C]⟩ : Shape).Idx, v i = ((f (i 0).val (i 1).val : ℝ) : EReal)

/-- Reading row and column of a head from the position in a row. -/
theorem split_row {t h d : ℕ} (hh : h < 8) (hd : d < 64) : ((t * 8 + h) * 64 + d) / 512 = t ∧ ((t * 8 + h) * 64 + d) % 512 = 64 * h + d := by
  omega

/-- The queries, by position, head and lane. -/
theorem r_v4 (hX : R2 (φ := .bf16) x0 X) (i : S4096x8x64.Idx) :
    val_main_v4 (F := Ideal) x0 i = ((X (i 0).val (64 * (i 1).val + (i 2).val) : ℝ) : EReal) := by
  have h1 : (i 1).val < 8 := (i 1).isLt
  have h2 : (i 2).val < 64 := (i 2).isLt
  obtain ⟨e0, e1⟩ := split_row (t := (i 0).val) h1 h2
  rw [val_main_v4_apply, val_main_v1_apply, val_main_v0_apply]
  refine (hX _).trans ?_
  show ((X ((((i 0).val * 8 + (i 1).val) * 64 + (i 2).val) / 512) ((((i 0).val * 8 + (i 1).val) * 64 + (i 2).val) % 512) : ℝ) : EReal) = _
  rw [e0, e1]

/-- The keys, by position, head and lane. -/
theorem r_v5 (hX : R2 (φ := .bf16) x0 X) (i : S4096x8x64.Idx) :
    val_main_v5 (F := Ideal) x0 i = ((X (i 0).val (512 + (64 * (i 1).val + (i 2).val)) : ℝ) : EReal) := by
  have h1 : (i 1).val < 8 := (i 1).isLt
  have h2 : (i 2).val < 64 := (i 2).isLt
  obtain ⟨e0, e1⟩ := split_row (t := (i 0).val) h1 h2
  rw [val_main_v5_apply, val_main_v2_apply, val_main_v0_apply]
  refine (hX _).trans ?_
  show ((X ((((i 0).val * 8 + (i 1).val) * 64 + (i 2).val) / 512) (512 + (((i 0).val * 8 + (i 1).val) * 64 + (i 2).val) % 512) : ℝ) : EReal) = _
  rw [e0, e1]

/-- The values, by position, head and lane. -/
theorem r_v6 (hX : R2 (φ := .bf16) x0 X) (i : S4096x8x64.Idx) :
    val_main_v6 (F := Ideal) x0 i = ((X (i 0).val (1024 + (64 * (i 1).val + (i 2).val)) : ℝ) : EReal) := by
  have h1 : (i 1).val < 8 := (i 1).isLt
  have h2 : (i 2).val < 64 := (i 2).isLt
  obtain ⟨e0, e1⟩ := split_row (t := (i 0).val) h1 h2
  rw [val_main_v6_apply, val_main_v3_apply, val_main_v0_apply]
  refine (hX _).trans ?_
  show ((X ((((i 0).val * 8 + (i 1).val) * 64 + (i 2).val) / 512) (1024 + (((i 0).val * 8 + (i 1).val) * 64 + (i 2).val) % 512) : ℝ) : EReal) = _
  rw [e0, e1]

/-- The gradient of the output, by head, lane and position. -/
theorem r_v29 (hW : R2 (φ := .f32) x1 W) (i : S8x64x4096.Idx) :
    val_main_v29 (F := Ideal) x1 i = ((W (i 2).val (64 * (i 0).val + (i 1).val) : ℝ) : EReal) := by
  have h1 : (i 0).val < 8 := (i 0).isLt
  have h2 : (i 1).val < 64 := (i 1).isLt
  obtain ⟨e0, e1⟩ := split_row (t := (i 2).val) h1 h2
  rw [val_main_v29_apply, val_main_v28_apply]
  refine (hW _).trans ?_
  show ((W ((((i 2).val * 8 + (i 0).val) * 64 + (i 1).val) / 512) ((((i 2).val * 8 + (i 0).val) * 64 + (i 1).val) % 512) : ℝ) : EReal) = _
  rw [e0, e1]

/-- The scores. -/
theorem r_v9 (hX : R2 (φ := .bf16) x0 X) : R3 (val_main_v9 (F := Ideal) x0) (zh X) := fun i => by
  rw [val_main_v9_apply, val_main_v7_apply, val_main_v8_apply, val_main_cst_apply, word_eighth]
  simp only [r_v4 hX, r_v5 hX, ← EReal.coe_mul]
  rw [show ∀ a b : Ideal .f32, FloatOps.mulf a b = ((a : EReal) * (b : EReal) : EReal) from fun _ _ => rfl]
  refine (congrArg (fun y : EReal => y * ((1 / 8 : ℝ) : EReal)) (coe_sum_fin (n := 64)
    (fun d => X (i 1).val (64 * (i 0).val + d) * X (i 2).val (512 + (64 * (i 0).val + d))))).trans ?_
  rw [← EReal.coe_mul]
  rfl

/-- The responses of the weights. -/
theorem r_v30 (hX : R2 (φ := .bf16) x0 X) (hW : R2 (φ := .f32) x1 W) : R3 (val_main_v30 (F := Ideal) x0 x1) (uh X W) := fun i => by
  rw [val_main_v30_apply]
  simp only [r_v29 hW, r_v6 hX, ← EReal.coe_mul]
  exact coe_sum_fin (n := 64) (fun d => W (i 1).val (64 * (i 0).val + d) * X (i 2).val (1024 + (64 * (i 0).val + d)))

/-- The mask: one where the key is before the query. -/
theorem r_v16 (i : S4096x4096.Idx) : val_main_v16 (F := Ideal) i = 1#1 ↔ (i 1).val < (i 0).val := by
  have h0 : (i 0).val < 4096 := (i 0).isLt
  have h1 : (i 1).val < 4096 := (i 1).isLt
  rw [val_main_v16_apply, val_main_v14_apply, val_main_v11_apply, val_main_v10_apply, val_main_v15_apply, val_main_v13_apply, val_main_v12_apply]
  show IntOp.cmpi .slt (BitVec.ofNat 32 (i 1).val) (BitVec.ofNat 32 (i 0).val) = 1#1 ↔ _
  have e : ∀ n : ℕ, n < 2 ^ 31 → (BitVec.ofNat 32 n).toInt = n := fun n hn => by
    rw [BitVec.toInt_ofNat', Int.bmod_eq_of_le] <;> omega
  simp only [IntOp.cmpi, BitVec.slt, e _ (show (i 1).val < 2 ^ 31 by omega), e _ (show (i 0).val < 2 ^ 31 by omega)]
  by_cases q : (i 1).val < (i 0).val <;> simp [q]

/-- A choice by a one-bit word that is one exactly where `p` holds. -/
theorem select_if {m : BitVec 1} {p : Prop} [Decidable p] (hm : m = 1#1 ↔ p) {a b : Ideal .f32} {x y : ℝ} (ha : a = ((x : ℝ) : EReal)) (hb : b = ((y : ℝ) : EReal)) :
    Scalar.select m a b = (((if p then x else y : ℝ)) : EReal) := by
  by_cases q : p
  · rw [hm.2 q, if_pos q]; exact ha
  · rw [if_neg q]
    have : m ≠ 1#1 := fun e => q (hm.1 e)
    rw [show m = 0#1 from (by decide : ∀ m : BitVec 1, m ≠ 1#1 → m = 0#1) m this]
    exact hb

/-- The mask at every head. -/
theorem r_v19_1 (i : S8x4096x4096.Idx) : val_main_v19_1 (F := Ideal) i = 1#1 ↔ (i 2).val < (i 1).val := by
  rw [val_main_v19_1_apply]; exact r_v16 _

/-- The mask at every head, once more. -/
theorem r_v25_1 (i : S8x4096x4096.Idx) : val_main_v25_1 (F := Ideal) i = 1#1 ↔ (i 2).val < (i 1).val := by
  rw [val_main_v25_1_apply]; exact r_v16 _

/-- The softplus of the scores. -/
theorem r_v17_0 (hX : R2 (φ := .bf16) x0 X) : R3 (val_main_v17_0 (F := Ideal) x0) (fun h t s => sp (zh X h t s)) := fun i => by
  rw [val_main_v17_0_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply]
  exact softplus_host (r_v9 hX i) word_zero

/-- The logistic function of the scores. -/
theorem r_v17_1 (hX : R2 (φ := .bf16) x0 X) : R3 (val_main_v17_1 (F := Ideal) x0) (fun h t s => logi (zh X h t s)) := fun i => by
  rw [val_main_v17_1_apply, val_main_call0_v21_apply, val_main_call0_v16_apply, val_main_call0_v14_apply, val_main_call0_v13_apply,
    val_main_call0_cst_0_apply, val_main_call0_v20_apply, val_main_call0_v18_apply, val_main_call0_v17_apply, val_main_call0_cst_2_apply,
    guard_host (r_v9 hX i) word_top, guard_host (r_v17_0 hX i) word_top]
  show Ideal.exp (((_ : ℝ) : EReal) - ((_ : ℝ) : EReal)) = _
  rw [← EReal.coe_sub, Ideal.exp_coe]
  rfl

/-- The negated scores. -/
theorem r_c3v0 (hX : R2 (φ := .bf16) x0 X) : R3 (val_main_call3_v0 (F := Ideal) x0) (fun h t s => -zh X h t s) := fun i => by
  rw [val_main_call3_v0_apply, r_v9 hX i]
  exact (EReal.coe_neg _).symm

/-- The softplus of the negated scores. -/
theorem r_c3v1_0 (hX : R2 (φ := .bf16) x0 X) : R3 (val_main_call3_v1_0 (F := Ideal) x0) (fun h t s => sp (-zh X h t s)) := fun i => by
  rw [val_main_call3_v1_0_apply, val_main_call3_call0_v4_apply, val_main_call3_call0_v6_apply, val_main_call3_call0_v11_apply, val_main_call3_call0_v1_apply,
    val_main_call3_call0_v10_apply, val_main_call3_call0_v9_apply, val_main_call3_call0_v8_apply, val_main_call3_call0_v7_apply, val_main_call3_call0_v3_apply,
    val_main_call3_call0_v0_apply, val_main_call3_call0_v2_apply, val_main_call3_call0_v5_apply, val_main_call3_call0_cst_apply]
  exact softplus_host (r_c3v0 hX i) word_zero

/-- The logistic function of the negated scores. -/
theorem r_v22_1 (hX : R2 (φ := .bf16) x0 X) : R3 (val_main_v22_1 (F := Ideal) x0) (fun h t s => logi (-zh X h t s)) := fun i => by
  rw [val_main_v22_1_apply, val_main_call3_call0_v21_apply, val_main_call3_call0_v16_apply, val_main_call3_call0_v14_apply, val_main_call3_call0_v13_apply,
    val_main_call3_call0_cst_0_apply, val_main_call3_call0_v20_apply, val_main_call3_call0_v18_apply, val_main_call3_call0_v17_apply, val_main_call3_call0_cst_2_apply,
    guard_host (r_c3v0 hX i) word_top, guard_host (r_c3v1_0 hX i) word_top]
  show Ideal.exp (((_ : ℝ) : EReal) - ((_ : ℝ) : EReal)) = _
  rw [← EReal.coe_sub, Ideal.exp_coe]
  rfl

/-- The masked logarithms of one minus the logistic function. -/
theorem r_v19_0 (hX : R2 (φ := .bf16) x0 X) : R3 (val_main_v19_0 (F := Ideal) x0) (fun h t s => -spm (zh X h) t s) := fun i => by
  have hn : val_main_v18 (F := Ideal) x0 i = ((-sp (zh X (i 0).val (i 1).val (i 2).val) : ℝ) : EReal) := by
    rw [val_main_v18_apply, r_v17_0 hX i]; exact (EReal.coe_neg _).symm
  have hz : val_main_call1_v2 (F := Ideal) i = ((0 : ℝ) : EReal) := by
    rw [val_main_call1_v2_apply, val_main_call1_v0_apply, val_main_cst_0_apply]; exact word_zero
  rw [val_main_v19_0_apply, select_if (r_v19_1 i) hn hz]
  refine congrArg (fun y : ℝ => (y : EReal)) ?_
  unfold spm
  dsimp only
  split_ifs <;> simp

/-- Their running sums from the end. -/
theorem r_v20 (hX : R2 (φ := .bf16) x0 X) : R3 (val_main_v20 (F := Ideal) x0) (fun h t s => ∑ j ∈ Ico s 4096, -spm (zh X h) t j) := fun i =>
  scan_high (A := 8) (B := 4096) (N := 4096) (x := val_main_v19_0 (F := Ideal) x0) (f := fun h t s => -spm (zh X h) t s) (r_v19_0 hX) h_S_
    (fun k => by rw [val_main_call2_v0_apply, val_main_call2_cst_apply]; exact word_zero) reduceWindows_S8x4096x4096_S8x4096x4096_w1s1p0_0_w1s1p0_0_w4096s1p0_4095 i

/-- The exponents of the attention weights. -/
theorem r_v23 (hX : R2 (φ := .bf16) x0 X) : R3 (val_main_v23 (F := Ideal) x0)
    (fun h t s => -sp (-zh X h t s) + ((∑ j ∈ Ico s 4096, -spm (zh X h) t j) - -spm (zh X h) t s)) := fun i => by
  rw [val_main_v23_apply, val_main_v22_0_apply, val_main_v21_apply, r_c3v1_0 hX i, r_v20 hX i, r_v19_0 hX i]
  show -((_ : ℝ) : EReal) + (((_ : ℝ) : EReal) - ((_ : ℝ) : EReal)) = _
  rw [← EReal.coe_neg, ← EReal.coe_sub, ← EReal.coe_add]

/-- The exponentials, before the mask. -/
theorem r_v24 (hX : R2 (φ := .bf16) x0 X) : R3 (val_main_v24 (F := Ideal) x0)
    (fun h t s => Real.exp (-sp (-zh X h t s) + ((∑ j ∈ Ico s 4096, -spm (zh X h) t j) - -spm (zh X h) t s))) := fun i => by
  rw [val_main_v24_apply, r_v23 hX i]
  exact Ideal.exp_coe _

/-- The attention weights. -/
theorem r_v25_0 (hX : R2 (φ := .bf16) x0 X) : R3 (val_main_v25_0 (F := Ideal) x0) (fun h t s => att 4096 (zh X h) t s) := fun i => by
  have hs : (i 2).val < 4096 := (i 2).isLt
  have hz : val_main_call4_v2 (F := Ideal) i = ((0 : ℝ) : EReal) := by
    rw [val_main_call4_v2_apply, val_main_call4_v0_apply, val_main_cst_1_apply]; exact word_zero
  rw [val_main_v25_0_apply, select_if (r_v25_1 i) (r_v24 hX i) hz]
  refine congrArg (fun y : ℝ => (y : EReal)) ?_
  unfold att
  dsimp only
  split_ifs with q
  · rw [exponent_eq 4096 (zh X (i 0).val) q hs]
  · rfl

/-- The masked responses times the weights. -/
theorem r_v34 (hX : R2 (φ := .bf16) x0 X) (hW : R2 (φ := .f32) x1 W) :
    R3 (val_main_v34 (F := Ideal) x0 x1) (fun h t s => pr 4096 (zh X h) (uh X W h) t s) := fun i => by
  have hs : (i 2).val < 4096 := (i 2).isLt
  have hz : val_main_call5_v0 (F := Ideal) i = ((0 : ℝ) : EReal) := by
    rw [val_main_call5_v0_apply, val_main_call5_cst_apply]; exact word_zero
  rw [val_main_v34_apply, val_main_v33_apply, select_if (r_v25_1 i) (r_v30 hX hW i) hz, r_v24 hX i]
  show ((_ : ℝ) : EReal) * ((_ : ℝ) : EReal) = _
  rw [← EReal.coe_mul]
  refine congrArg (fun y : ℝ => (y : EReal)) ?_
  unfold pr att
  dsimp only
  split_ifs with q
  · rw [exponent_eq 4096 (zh X (i 0).val) q hs]; ring
  · ring

/-- Their running sums from the start. -/
theorem r_v37 (hX : R2 (φ := .bf16) x0 X) (hW : R2 (φ := .f32) x1 W) :
    R3 (val_main_v37 (F := Ideal) x0 x1) (fun h t s => ∑ j ∈ range (s + 1), pr 4096 (zh X h) (uh X W h) t j) := fun i =>
  scan_low (A := 8) (B := 4096) (N := 4096) (M := 4095) (x := val_main_v34 (F := Ideal) x0 x1) (f := fun h t s => pr 4096 (zh X h) (uh X W h) t s) rfl (r_v34 hX hW) h_S_
    (fun k => by rw [val_main_call7_v0_apply, val_main_call7_cst_apply]; exact word_zero) reduceWindows_S8x4096x4096_S8x4096x4096_w1s1p0_0_w1s1p0_0_w4096s1p4095_0 i

/-- The gradient of the scores, with its scale. -/
theorem r_v44 (hX : R2 (φ := .bf16) x0 X) (hW : R2 (φ := .f32) x1 W) :
    R3 (val_main_v44 (F := Ideal) x0 x1) (fun h t s => dz 4096 (zh X h) (uh X W h) t s * (1 / 8)) := fun i => by
  have hs : (i 2).val < 4096 := (i 2).isLt
  have hz : val_main_call8_v0 (F := Ideal) i = ((0 : ℝ) : EReal) := by
    rw [val_main_call8_v0_apply, val_main_call8_cst_apply]; exact word_zero
  have h38 : val_main_v38 (F := Ideal) x0 x1 i = ((-pr 4096 (zh X (i 0).val) (uh X W (i 0).val) (i 1).val (i 2).val
      + ∑ j ∈ range ((i 2).val + 1), pr 4096 (zh X (i 0).val) (uh X W (i 0).val) (i 1).val j : ℝ) : EReal) := by
    rw [val_main_v38_apply, val_main_v36_apply, r_v34 hX hW i, r_v37 hX hW i]
    show -((_ : ℝ) : EReal) + ((_ : ℝ) : EReal) = _
    rw [← EReal.coe_neg, ← EReal.coe_add]
  rw [val_main_v44_apply, val_main_v43_apply, val_main_cst_2_apply, word_eighth, val_main_v42_apply, val_main_v35_apply, val_main_call6_v1_apply,
    val_main_call6_v0_apply, val_main_v41_apply, val_main_v40_apply, val_main_v39_apply, select_if (r_v19_1 i) h38 hz, r_v34 hX hW i,
    r_v22_1 hX i, r_v17_1 hX i]
  show (-(-((_ : ℝ) : EReal) * ((_ : ℝ) : EReal)) + -((_ : ℝ) : EReal) * ((_ : ℝ) : EReal)) * ((_ : ℝ) : EReal) = _
  rw [← EReal.coe_neg, ← EReal.coe_mul, ← EReal.coe_neg, ← EReal.coe_neg, ← EReal.coe_mul, ← EReal.coe_add, ← EReal.coe_mul,
    dz_eq 4096 (zh X (i 0).val) (uh X W (i 0).val) hs]

/-- Reading position, head and lane from the position in a row. -/
theorem join_row {t c : ℕ} (hc : c < 512) : (t * 512 + c) / 512 = t ∧ (t * 512 + c) / 64 % 8 = c / 64 ∧ (t * 512 + c) % 64 = c % 64 := by
  omega

/-- The gradient of the queries. -/
theorem r_v50 (hX : R2 (φ := .bf16) x0 X) (hW : R2 (φ := .f32) x1 W) (i : S4096x512.Idx) :
    val_main_v50 (F := Ideal) x0 x1 i = ((∑ s ∈ range 4096, dz 4096 (zh X ((i 1).val / 64)) (uh X W ((i 1).val / 64)) (i 0).val s * (1 / 8)
      * X s (512 + (64 * ((i 1).val / 64) + (i 1).val % 64)) : ℝ) : EReal) := by
  obtain ⟨e0, e1, e2⟩ := join_row (t := (i 0).val) (show (i 1).val < 512 from (i 1).isLt)
  rw [val_main_v50_apply, val_main_v49_apply, val_main_v48_apply, val_main_v47_apply]
  simp only [r_v44 hX hW _, r_v5 hX, ← EReal.coe_mul]
  refine (coe_sum_fin (n := 4096) (fun s => dz 4096 (zh X (((i 0).val * 512 + (i 1).val) / 64 % 8)) (uh X W (((i 0).val * 512 + (i 1).val) / 64 % 8))
    (((i 0).val * 512 + (i 1).val) / 512) s * (1 / 8) * X s (512 + (64 * (((i 0).val * 512 + (i 1).val) / 64 % 8) + ((i 0).val * 512 + (i 1).val) % 64)))).trans ?_
  rw [e0, e1, e2]

/-- The gradient of the keys. -/
theorem r_v52 (hX : R2 (φ := .bf16) x0 X) (hW : R2 (φ := .f32) x1 W) (i : S4096x512.Idx) :
    val_main_v52 (F := Ideal) x0 x1 i = ((∑ t ∈ range 4096, dz 4096 (zh X ((i 1).val / 64)) (uh X W ((i 1).val / 64)) t (i 0).val * (1 / 8)
      * X t (64 * ((i 1).val / 64) + (i 1).val % 64) : ℝ) : EReal) := by
  obtain ⟨e0, e1, e2⟩ := join_row (t := (i 0).val) (show (i 1).val < 512 from (i 1).isLt)
  rw [val_main_v52_apply, val_main_v51_apply, val_main_v46_apply, val_main_v45_apply]
  simp only [r_v44 hX hW _, r_v4 hX, ← EReal.coe_mul]
  refine (coe_sum_fin (n := 4096) (fun t => dz 4096 (zh X (((i 0).val * 512 + (i 1).val) / 64 % 8)) (uh X W (((i 0).val * 512 + (i 1).val) / 64 % 8))
    t (((i 0).val * 512 + (i 1).val) / 512) * (1 / 8) * X t (64 * (((i 0).val * 512 + (i 1).val) / 64 % 8) + ((i 0).val * 512 + (i 1).val) % 64))).trans ?_
  rw [e0, e1, e2]

/-- The gradient of the values. -/
theorem r_v54 (hX : R2 (φ := .bf16) x0 X) (hW : R2 (φ := .f32) x1 W) (i : S4096x512.Idx) :
    val_main_v54 (F := Ideal) x0 x1 i = ((∑ t ∈ range 4096, W t (64 * ((i 1).val / 64) + (i 1).val % 64)
      * att 4096 (zh X ((i 1).val / 64)) t (i 0).val : ℝ) : EReal) := by
  obtain ⟨e0, e1, e2⟩ := join_row (t := (i 0).val) (show (i 1).val < 512 from (i 1).isLt)
  rw [val_main_v54_apply, val_main_v53_apply, val_main_v32_apply, val_main_v31_apply]
  simp only [r_v25_0 hX _, r_v29 hW, ← EReal.coe_mul]
  refine (coe_sum_fin (n := 4096) (fun t => W t (64 * (((i 0).val * 512 + (i 1).val) / 64 % 8) + ((i 0).val * 512 + (i 1).val) % 64)
    * att 4096 (zh X (((i 0).val * 512 + (i 1).val) / 64 % 8)) t (((i 0).val * 512 + (i 1).val) / 512))).trans ?_
  rw [e0, e1, e2]

end Arrays

end Cert.Stick
-- ==== Proof.Store.lean ====
/- Loads and stores of blocks in arrays of real entries, and the word arithmetic of the kernel's
   block offsets and trip counts. -/
module

public import Idealize.ShloMosaic.Lib.WritesUnit
public import Idealize.ShloMosaic.Lib.LoopRemainder
public import proofs.«01_k».proof.Proof.RealVec

@[expose] public section

set_option maxRecDepth 16384

noncomputable section

namespace Cert.Stick

open Finset Idealize.ShloMosaic Idealize.SL.Sem Cert.KernelIdeal Cert.KernelIdeal.Gen

section Words

/-- The bounds of the loop over the blocks below the diagonal give two trips per query block. -/
theorem trips_lower (i : grid0.Coords) : (k0_t1_loop i).trips = 2 * (i 1).val := by
  have h : ∀ n : Fin 8, Scf.trips 0#32 (Scalar.addi 0#32 (Scalar.muli (Scalar.divsi (Scalar.subi (Scalar.muli (BitVec.ofNat 32 n.val) 2#32) 0#32) 1#32) 1#32)) 1#32
      = 2 * n.val := by decide
  exact h (i 1)

/-- The remainder loop makes no trip. -/
theorem trips_rest (i : grid0.Coords) : (k0_t2_loop i).trips = 0 := Scf.rem_trips _ _

/-- Trip `k` works on the keys from `256 k`. -/
theorem off_lower (i : grid0.Coords) (k : Fin (k0_t1_loop i).trips) : k0_off1 i k = ![256 * k.val, 0] := by
  have h : ∀ n : Fin 16, (Scalar.indexCast (Scalar.muli (Scf.iv 0#32 1#32 n.val) 256#32)).toNat = 256 * n.val := by decide
  have hk : k.val < (k0_t1_loop i).trips := k.isLt
  have ht := trips_lower i
  have hi : (i 1).val < 8 := (i 1).isLt
  exact congrArg (fun x => ![x, 0]) (h ⟨k.val, by omega⟩)

/-- The first block on the diagonal starts at the query block's first row. -/
theorem off_diag0 (i : grid0.Coords) : k0_off3 i 0#32 = ![512 * (i 1).val, 0] := by
  have h : ∀ n : Fin 8, (Scalar.indexCast (Scalar.muli (Scalar.addi (Scalar.muli (BitVec.ofNat 32 n.val) 2#32) 0#32) 256#32)).toNat = 512 * n.val := by decide
  exact congrArg (fun x => ![x, 0]) (h (i 1))

/-- The second block on the diagonal starts 256 rows later. -/
theorem off_diag1 (i : grid0.Coords) : k0_off3 i 1#32 = ![512 * (i 1).val + 256, 0] := by
  have h : ∀ n : Fin 8, (Scalar.indexCast (Scalar.muli (Scalar.addi (Scalar.muli (BitVec.ofNat 32 n.val) 2#32) 1#32) 256#32)).toNat = 512 * n.val + 256 := by decide
  exact congrArg (fun x => ![x, 0]) (h (i 1))

end Words

section Two

variable {R C : ℕ} {e : EltTy} {φ : FTy} {v : View sig .tc .vmem ⟨2, ![R, C]⟩ .f32} {m : v.ty.Contents (Elt Ideal)}

/-- A load of a block reads the array's entries there. -/
theorem Rd.load {φ : FTy} {X : FVec Ideal ⟨2, ![R, C]⟩ φ} {f : ℕ → ℕ → ℝ} (h : Rd X f) {off : Fin 2 → ℕ} {a b R' C' : ℕ}
    (e : off = ![a, b]) (inb : ∀ x, off x + (![R', C'] : Fin 2 → ℕ) x ≤ (![R, C] : Fin 2 → ℕ) x) :
    Rd (φ := φ) (R := R') (C := C') (fun x => X ((Rect.unit (s := ⟨2, ![R, C]⟩) off ![R', C'] inb).toLoadRect.idx x))
      (fun r c => f (a + r) (b + c)) := fun r c => by
  subst e
  have h0 := inb 0
  have h1 := inb 1
  simp at h0 h1
  refine Eq.trans ?_ (h ⟨a + r, by omega⟩ ⟨b + c, by omega⟩)
  refine congrArg X (funext fun x => Fin.ext ?_)
  fin_cases x
  · show a + 1 * r.val = a + r.val
    omega
  · show b + 1 * c.val = b + c.val
    omega

/-- A store of a block leaves the stored entries there and the array's earlier ones elsewhere. -/
theorem Rd.store {L : List (View.Piece (Elt Ideal) ⟨2, ![R, C]⟩ .f32)} {f : ℕ → ℕ → ℝ}
    (h : Rd (φ := .f32) (v.read (Elt Ideal) (v.writes (Elt Ideal) m L)) f) {off : Fin 2 → ℕ} {a b R' C' : ℕ} (e : off = ![a, b])
    (inb : ∀ x, off x + (![R', C'] : Fin 2 → ℕ) x ≤ (![R, C] : Fin 2 → ℕ) x) {w : FVec Ideal ⟨2, ![R', C']⟩ .f32}
    {g : ℕ → ℕ → ℝ} (hw : Rd w g) :
    Rd (φ := .f32) (v.read (Elt Ideal) (v.writes (Elt Ideal) m
        ((⟨Rect.unit (s := ⟨2, ![R, C]⟩) off ![R', C'] inb, w⟩ : View.Piece (Elt Ideal) ⟨2, ![R, C]⟩ .f32) :: L)))
      (fun r c => if (a ≤ r ∧ r < a + R') ∧ b ≤ c ∧ c < b + C' then g (r - a) (c - b) else f r c) := fun r c => by
  by_cases hx : (a ≤ r.val ∧ r.val < a + R') ∧ b ≤ c.val ∧ c.val < b + C'
  · dsimp only
    rw [if_pos hx]
    refine (View.read_writes_cons_unit_of_mem v m inb w L _ (ix2 ⟨r.val - a, by omega⟩ ⟨c.val - b, by omega⟩) e ?_).trans
      (hw ⟨r.val - a, by omega⟩ ⟨c.val - b, by omega⟩)
    intro x
    fin_cases x
    · show r.val = a + (r.val - a)
      omega
    · show c.val = b + (c.val - b)
      omega
  · dsimp only
    rw [if_neg hx, ← h r c]
    by_cases hr : a ≤ r.val ∧ r.val < a + R'
    · refine View.read_writes_cons_unit_of_not_mem v m inb w L _ e 1 ?_
      show c.val < b ∨ b + C' ≤ c.val
      omega
    · refine View.read_writes_cons_unit_of_not_mem v m inb w L _ e 0 ?_
      show r.val < a ∨ a + R' ≤ r.val
      omega

end Two

section Three

variable {A R C : ℕ} {v : View sig .tc .vmem ⟨3, ![A, R, C]⟩ .f32} {m : v.ty.Contents (Elt Ideal)}

/-- A load of a block of a stack reads the stack's entries there. -/
theorem Rd3.load {f : ℕ → ℕ → ℕ → ℝ} (h : Rd3 (φ := .f32) (v.read (Elt Ideal) m) f) {n a b A' R' C' : ℕ}
    (inb : ∀ x, (![n, a, b] : Fin 3 → ℕ) x + (![A', R', C'] : Fin 3 → ℕ) x ≤ (![A, R, C] : Fin 3 → ℕ) x) :
    Rd3 (φ := .f32) (A := A') (R := R') (C := C')
      (v.readAt (Elt Ideal) (Rect.unit (s := ⟨3, ![A, R, C]⟩) ![n, a, b] ![A', R', C'] inb).toLoadRect m)
      (fun l r c => f (n + l) (a + r) (b + c)) := fun l r c => by
  have h0 := inb 0
  have h1 := inb 1
  have h2 := inb 2
  simp at h0 h1 h2
  refine Eq.trans ?_ (h ⟨n + l, by omega⟩ ⟨a + r, by omega⟩ ⟨b + c, by omega⟩)
  refine congrArg (v.read (Elt Ideal) m) (funext fun x => Fin.ext ?_)
  fin_cases x
  · show n + 1 * l.val = n + l.val
    omega
  · show a + 1 * r.val = a + r.val
    omega
  · show b + 1 * c.val = b + c.val
    omega

/-- A store of a block of a stack leaves the stored entries there and the earlier ones elsewhere. -/
theorem Rd3.store {L : List (View.Piece (Elt Ideal) ⟨3, ![A, R, C]⟩ .f32)} {f : ℕ → ℕ → ℕ → ℝ}
    (h : Rd3 (φ := .f32) (v.read (Elt Ideal) (v.writes (Elt Ideal) m L)) f) {n a b A' R' C' : ℕ}
    (inb : ∀ x, (![n, a, b] : Fin 3 → ℕ) x + (![A', R', C'] : Fin 3 → ℕ) x ≤ (![A, R, C] : Fin 3 → ℕ) x)
    {w : FVec Ideal ⟨3, ![A', R', C']⟩ .f32} {g : ℕ → ℕ → ℕ → ℝ} (hw : Rd3 w g) :
    Rd3 (φ := .f32) (v.read (Elt Ideal) (v.writes (Elt Ideal) m
        ((⟨Rect.unit (s := ⟨3, ![A, R, C]⟩) ![n, a, b] ![A', R', C'] inb, w⟩ : View.Piece (Elt Ideal) ⟨3, ![A, R, C]⟩ .f32) :: L)))
      (fun l r c => if (n ≤ l ∧ l < n + A') ∧ (a ≤ r ∧ r < a + R') ∧ b ≤ c ∧ c < b + C' then g (l - n) (r - a) (c - b)
        else f l r c) := fun l r c => by
  by_cases hx : (n ≤ l.val ∧ l.val < n + A') ∧ (a ≤ r.val ∧ r.val < a + R') ∧ b ≤ c.val ∧ c.val < b + C'
  · dsimp only
    rw [if_pos hx]
    refine (View.read_writes_cons_unit_of_mem v m inb w L _
      (ix3 ⟨l.val - n, by omega⟩ ⟨r.val - a, by omega⟩ ⟨c.val - b, by omega⟩) rfl ?_).trans
      (hw ⟨l.val - n, by omega⟩ ⟨r.val - a, by omega⟩ ⟨c.val - b, by omega⟩)
    intro x
    fin_cases x
    · show l.val = n + (l.val - n)
      omega
    · show r.val = a + (r.val - a)
      omega
    · show c.val = b + (c.val - b)
      omega
  · dsimp only
    rw [if_neg hx, ← h l r c]
    by_cases hl : n ≤ l.val ∧ l.val < n + A'
    · by_cases hr : a ≤ r.val ∧ r.val < a + R'
      · refine View.read_writes_cons_unit_of_not_mem v m inb w L _ rfl 2 ?_
        show c.val < b ∨ b + C' ≤ c.val
        omega
      · refine View.read_writes_cons_unit_of_not_mem v m inb w L _ rfl 1 ?_
        show r.val < a ∨ a + R' ≤ r.val
        omega
    · refine View.read_writes_cons_unit_of_not_mem v m inb w L _ rfl 0 ?_
      show l.val < n ∨ n + A' ≤ l.val
      omega

end Three

end Cert.Stick
-- ==== Proof.Tile.lean ====
/- One block of keys below the diagonal, for 512 queries and the two heads of a group: what each
   value of the kernel's loop body holds, when its inputs hold the real arrays. -/
module

public import proofs.«01_k».proof.Proof.RealVec

@[expose] public section

set_option maxRecDepth 16384

noncomputable section

namespace Cert.Stick

open Finset Idealize.ShloMosaic Idealize.SL.Sem Cert.KernelIdeal Cert.KernelIdeal.Gen

/-- The scores of a masked query array against the keys, over the 128 columns of a group. -/
def scores (q k : ℕ → ℕ → ℝ) (t s : ℕ) : ℝ := ∑ c ∈ range 128, q t c * k s c

section Below

/-- What the values of the block read by one head are. -/
structure Below (N t0 s0 : ℕ) (q d K V : ℕ → ℕ → ℝ) (e1 : FVec Ideal S256x256 .bf16) (e2 : FVec Ideal S512x256 .bf16)
    (vq vd : FVec Ideal S512x128 .bf16) (vk vv : Vec Ideal S256x128 .bf16) (vL : FVec Ideal S512x1 .f32)
    (vl vp : Vec Ideal S1x512x1 .f32) : Prop where
  tri : Rd (φ := .bf16) e1 (fun r c => if r < c then 1 else 0)
  tri2 : Rd (φ := .bf16) e2 (fun r c => if r % 256 < c then 1 else 0)
  hq : Rd (φ := .bf16) vq (fun r c => q (t0 + r) c)
  hd : Rd (φ := .bf16) vd (fun r c => d (t0 + r) c)
  hk : Rd (φ := .bf16) vk (fun r c => K (s0 + r) c)
  hv : Rd (φ := .bf16) vv (fun r c => V (s0 + r) c)
  tot : Rd (φ := .f32) vL (fun r _ => -cum (scores q K) (t0 + r) N)
  hl : Rd3 (φ := .f32) vl (fun _ r _ => cum (scores q K) (t0 + r) s0)
  hp : Rd3 (φ := .f32) vp (fun _ r _ => cumPr N (scores q K) (scores d V) (t0 + r) s0)
  below : s0 + 256 ≤ t0

variable {N t0 s0 : ℕ} {q d K V : ℕ → ℕ → ℝ}
variable {e1 : FVec Ideal S256x256 .bf16} {e2 : FVec Ideal S512x256 .bf16}
variable {vq vd : FVec Ideal S512x128 .bf16} {vk vv : Vec Ideal S256x128 .bf16} {vL : FVec Ideal S512x1 .f32}
variable {vl vp : Vec Ideal S1x512x1 .f32}

variable {q' d' : ℕ → ℕ → ℝ} {vq' vd' : FVec Ideal S512x128 .bf16} {vL' : FVec Ideal S512x1 .f32}
variable {vl' vp' : Vec Ideal S1x512x1 .f32}
variable (h : Below N t0 s0 q d K V e1 e2 vq vd vk vv vL vl vp)
include h

theorem Below.lt {r c : ℕ} (hc : c < 256) : s0 + c < t0 + r := by have := h.below; omega

theorem Below.z : Rd (k0_pay4 vq vk) (fun r c => scores q K (t0 + r) (s0 + c)) := Rd.nt512 h.hq h.hk

theorem Below.u : Rd (k0_pay6 vd vv) (fun r c => scores d V (t0 + r) (s0 + c)) := Rd.nt512 h.hd h.hv

theorem Below.sp : Rd (k0_pay8 vq vk) (fun r c => spm (scores q K) (t0 + r) (s0 + c)) :=
  (Rd.softplus h.z).congr fun _ _ _ hc => (if_pos (h.lt hc)).symm

theorem Below.beta : Rd (k0_pay9 vq vk) (fun r c => logi (scores q K (t0 + r) (s0 + c))) :=
  (h.z.sub (Rd.softplus h.z)).exp

theorem Below.res : Rd (k0_pay12 e2 vq vk) (fun r c => ∑ j ∈ range c, spm (scores q K) (t0 + r) (s0 + j)) :=
  h.sp.scan512' h.tri2

theorem Below.att : Rd (k0_pay17 vL (k0_pay4 vq vk) (k0_pay12 e2 vq vk) vl) (fun r c => att N (scores q K) (t0 + r) (s0 + c)) :=
  (h.z.add ((Rd.bcol512 (h.tot.add h.hl.flat512x1)).add h.res)).exp.congr fun _ _ _ hc => att_block N _ (h.lt hc)

theorem Below.pr : Rd (k0_pay18 vL (k0_pay4 vq vk) (k0_pay6 vd vv) (k0_pay12 e2 vq vk) vl)
    (fun r c => pr N (scores q K) (scores d V) (t0 + r) (s0 + c)) :=
  h.att.mul h.u

theorem Below.l' : Rd3 (k0_pay31 (k0_pay19 (k0_pay8 vq vk) (k0_pay12 e2 vq vk) vl)) (fun _ r _ => cum (scores q K) (t0 + r) (s0 + 256)) :=
  Rd.stack512x1 ((h.hl.flat512x1.add (h.res.slice _ |>.add (h.sp.slice _))).congr fun _ _ _ hc => by
    obtain rfl := Nat.lt_one_iff.1 hc
    simpa using cum_block (scores q K) _ s0)

theorem Below.resp : Rd (k0_pay23 e1 vL (k0_pay4 vq vk) (k0_pay6 vd vv) (k0_pay12 e2 vq vk) vl)
    (fun r c => ∑ j ∈ range c, Stick.pr N (scores q K) (scores d V) (t0 + r) (s0 + j)) :=
  h.pr.resp512' h.tri

theorem Below.dz : Rd (k0_pay27 e1 vL (k0_pay4 vq vk) (k0_pay6 vd vv) (k0_pay9 vq vk) (k0_pay12 e2 vq vk) vl vp)
    (fun r c => dz N (scores q K) (scores d V) (t0 + r) (s0 + c)) :=
  Rd.trunc ((h.pr.sub (h.beta.mul (h.pr.add ((Rd.bcol512 h.hp.flat512x1).add h.resp)))).congr fun _ _ _ hc =>
    dz_block N _ _ (h.lt hc)) _ _

theorem Below.p' : Rd3 (k0_pay32 (k0_pay28 e1 vL (k0_pay4 vq vk) (k0_pay6 vd vv) (k0_pay12 e2 vq vk) vl vp))
    (fun _ r _ => cumPr N (scores q K) (scores d V) (t0 + r) (s0 + 256)) :=
  Rd.stack512x1 ((h.hp.flat512x1.add (h.resp.slice _ |>.add (h.pr.slice _))).congr fun _ _ _ hc => by
    obtain rfl := Nat.lt_one_iff.1 hc
    simpa using cumPr_block N (scores q K) (scores d V) _ s0)

/-- The step of the query gradients. -/
theorem Below.dq {old : Vec Ideal S1x512x128 .f32} {g : ℕ → ℕ → ℝ} (ho : Rd3 (φ := .f32) old (fun _ r c => g r c)) :
    Rd3 (k0_pay33 vk (k0_pay27 e1 vL (k0_pay4 vq vk) (k0_pay6 vd vv) (k0_pay9 vq vk) (k0_pay12 e2 vq vk) vl vp) old)
      (fun _ r c => g r c + ∑ k ∈ range 256, Stick.dz N (scores q K) (scores d V) (t0 + r) (s0 + k) * K (s0 + k) c) :=
  Rd.stack512x128 (ho.flat512x128.add (Rd.dq512 h.dz h.hk))

/-- The step of the key gradients. -/
theorem Below.dk (h' : Below N t0 s0 q' d' K V e1 e2 vq' vd' vk vv vL' vl' vp') {old : Vec Ideal S256x128 .f32}
    {g : ℕ → ℕ → ℝ} (ho : Rd (φ := .f32) old g) :
    Rd (k0_pay91 vq vq' (k0_pay27 e1 vL (k0_pay4 vq vk) (k0_pay6 vd vv) (k0_pay9 vq vk) (k0_pay12 e2 vq vk) vl vp)
        (k0_pay27 e1 vL' (k0_pay4 vq' vk) (k0_pay6 vd' vv) (k0_pay9 vq' vk) (k0_pay12 e2 vq' vk) vl' vp') old)
      (fun r c => g r c + (∑ k ∈ range 512, Stick.dz N (scores q K) (scores d V) (t0 + k) (s0 + r) * q (t0 + k) c
        + ∑ k ∈ range 512, Stick.dz N (scores q' K) (scores d' V) (t0 + k) (s0 + r) * q' (t0 + k) c)) :=
  Rd.self (ho.add ((Rd.tn512 h.dz h.hq).add (Rd.tn512 h'.dz h'.hq))) _

/-- The step of the value gradients. -/
theorem Below.dv (h' : Below N t0 s0 q' d' K V e1 e2 vq' vd' vk vv vL' vl' vp') {old : Vec Ideal S256x128 .f32}
    {g : ℕ → ℕ → ℝ} (ho : Rd (φ := .f32) old g) :
    Rd (k0_pay92 vd vd' (k0_pay17 vL (k0_pay4 vq vk) (k0_pay12 e2 vq vk) vl)
        (k0_pay17 vL' (k0_pay4 vq' vk) (k0_pay12 e2 vq' vk) vl') old)
      (fun r c => g r c + (∑ k ∈ range 512, Stick.att N (scores q K) (t0 + k) (s0 + r) * d (t0 + k) c
        + ∑ k ∈ range 512, Stick.att N (scores q' K) (t0 + k) (s0 + r) * d' (t0 + k) c)) :=
  Rd.self (ho.add ((Rd.tn512 (h.att.trunc _ _) h.hd).add (Rd.tn512 (h'.att.trunc _ _) h'.hd))) _

end Below

end Cert.Stick
-- ==== Proof.Sweep.lean ====
/- The loop over the blocks of keys below the diagonal: what the two heads' running arrays hold after
   each trip. -/
module

public import proofs.«01_k».proof.Proof.Gen.KernelIdeal.Loops
public import proofs.«01_k».proof.Proof.Store
public import proofs.«01_k».proof.Proof.Tile

@[expose] public section

set_option maxRecDepth 16384

noncomputable section

namespace Cert.Stick

open Finset Idealize.ShloMosaic Idealize.SL.Sem Cert.KernelIdeal Cert.KernelIdeal.Gen

section Layers

variable {R C : ℕ} {v : View sig .tc .vmem ⟨3, ![2, R, C]⟩ .f32} {m : v.ty.Contents (Elt Ideal)}

/-- Storing both layers of a stack leaves exactly the stored entries. -/
theorem Rd3.layers {L : List (View.Piece (Elt Ideal) ⟨3, ![2, R, C]⟩ .f32)} {g : ℕ → ℕ → ℕ → ℝ}
    {w0 w1 : FVec Ideal ⟨3, ![1, R, C]⟩ .f32} (h0 : Rd3 w0 (fun _ r c => g 0 r c)) (h1 : Rd3 w1 (fun _ r c => g 1 r c))
    (b0 : ∀ x, (![0, 0, 0] : Fin 3 → ℕ) x + (![1, R, C] : Fin 3 → ℕ) x ≤ (![2, R, C] : Fin 3 → ℕ) x)
    (b1 : ∀ x, (![1, 0, 0] : Fin 3 → ℕ) x + (![1, R, C] : Fin 3 → ℕ) x ≤ (![2, R, C] : Fin 3 → ℕ) x) :
    Rd3 (φ := .f32) (v.read (Elt Ideal) (v.writes (Elt Ideal) m
        ((⟨Rect.unit (s := ⟨3, ![2, R, C]⟩) ![1, 0, 0] ![1, R, C] b1, w1⟩ : View.Piece (Elt Ideal) ⟨3, ![2, R, C]⟩ .f32)
          :: (⟨Rect.unit (s := ⟨3, ![2, R, C]⟩) ![0, 0, 0] ![1, R, C] b0, w0⟩ : View.Piece (Elt Ideal) ⟨3, ![2, R, C]⟩ .f32) :: L))) g := by
  intro a r c
  by_cases ha : a = 1
  · subst ha
    refine (View.read_writes_cons_unit_of_mem v m b1 w1 _ _ (ix3 0 r c) rfl ?_).trans (h1 0 r c)
    intro x
    fin_cases x
    · rfl
    · exact (Nat.zero_add _).symm
    · exact (Nat.zero_add _).symm
  · obtain rfl : a = 0 := by omega
    refine (View.read_writes_cons_unit_of_not_mem v m b1 w1 _ _ rfl 0 (Or.inl Nat.zero_lt_one)).trans ?_
    refine (View.read_writes_cons_unit_of_mem v m b0 w0 L _ (ix3 0 r c) rfl ?_).trans (h0 0 r c)
    intro x
    fin_cases x
    · rfl
    · exact (Nat.zero_add _).symm
    · exact (Nat.zero_add _).symm

/-- Loading one layer of a stack. -/
theorem Rd3.layer {f : ℕ → ℕ → ℕ → ℝ} (h : Rd3 (φ := .f32) (v.read (Elt Ideal) m) f) (n : ℕ)
    (inb : ∀ x, (![n, 0, 0] : Fin 3 → ℕ) x + (![1, R, C] : Fin 3 → ℕ) x ≤ (![2, R, C] : Fin 3 → ℕ) x) :
    Rd3 (φ := .f32) (v.readAt (Elt Ideal) (Rect.unit (s := ⟨3, ![2, R, C]⟩) ![n, 0, 0] ![1, R, C] inb).toLoadRect m)
      (fun _ r c => f n r c) :=
  (Rd3.load h inb).congr fun a r c ha _ _ => by
    obtain rfl : a = 0 := by omega
    simp

end Layers

/-- A sum over the two heads of a group. -/
theorem sum_two (f : ℕ → ℝ) : ∑ a ∈ range 2, f a = f 0 + f 1 := by
  rw [sum_range_succ, sum_range_one]

/-- One block's update of an array that gains `G` row by row. -/
theorem step_arith {g G : ℕ → ℕ → ℝ} {H : ℕ → ℕ → ℝ} {n s c : ℕ} (hc : c < 128) (hH : ∀ r, H r c = G (n + r) c) :
    (if (n ≤ s ∧ s < n + 256) ∧ 0 ≤ c ∧ c < 0 + 128 then
        (g (n + (s - n)) (0 + (c - 0)) + if n + (s - n) < n then G (n + (s - n)) (0 + (c - 0)) else 0) + H (s - n) (c - 0)
      else g s c + if s < n then G s c else 0)
      = g s c + if s < n + 256 then G s c else 0 := by
  rcases Nat.lt_or_ge s n with h | h
  · rw [if_neg (by omega), if_pos h, if_pos (by omega)]
  · rcases Nat.lt_or_ge s (n + 256) with h' | h'
    · have e : n + (s - n) = s := by omega
      rw [if_pos ⟨⟨h, h'⟩, Nat.zero_le _, by omega⟩, e, if_neg (by omega), if_pos h', Nat.sub_zero, Nat.zero_add, hH, e, add_zero]
    · rw [if_neg (by omega), if_neg (by omega), if_neg (by omega)]

/-- What the loop over the blocks below the diagonal is run with. -/
structure Args where
  c : Dev nD
  i : grid0.Coords
  arg2 : Memref sig .tc .vmem S512x128 .bf16
  harg2 : arg2.IsWhole
  arg3 : Memref sig .tc .vmem S4096x128 .bf16
  harg3 : arg3.IsWhole
  arg4 : Memref sig .tc .vmem S4096x128 .bf16
  harg4 : arg4.IsWhole
  arg5 : Memref sig .tc .vmem S512x128 .f32
  harg5 : arg5.IsWhole
  arg6 : Memref sig .tc .vmem S512x128 .f32
  harg6 : arg6.IsWhole
  arg7 : Memref sig .tc .vmem S512x128 .bf16
  harg7 : arg7.IsWhole
  arg8 : Memref sig .tc .vmem S4096x128 .bf16
  harg8 : arg8.IsWhole
  arg9 : Memref sig .tc .vmem S4096x128 .bf16
  harg9 : arg9.IsWhole
  arg10 : Memref sig .tc .vmem S2x512x128 .f32
  harg10 : arg10.IsWhole
  arg11 : Memref sig .tc .vmem S4096x128 .f32
  harg11 : arg11.IsWhole
  arg12 : Memref sig .tc .vmem S4096x128 .f32
  harg12 : arg12.IsWhole
  arg13 : Memref sig .tc .vmem S2x512x1 .f32
  harg13 : arg13.IsWhole
  arg14 : Memref sig .tc .vmem S2x512x1 .f32
  harg14 : arg14.IsWhole
  arg1 : BitVec 32
  v9 : FVec Ideal S256x256 .bf16
  v10 : FVec Ideal S512x256 .bf16
  v11 : IVec S512x256 32
  v12 : IVec S512x256 32
  v20 : FVec Ideal S512x128 .bf16
  v21 : FVec Ideal S512x128 .bf16
  v28 : FVec Ideal S512x128 .bf16
  v29 : FVec Ideal S512x128 .bf16
  v32 : FVec Ideal S512x1 .f32
  v33 : FVec Ideal S512x1 .f32
  v37 : FVec Ideal S2x512x128 .f32
  X_arg3 : BufTy.Contents (Elt Ideal) arg3.view.ty
  X_arg4 : BufTy.Contents (Elt Ideal) arg4.view.ty

namespace Args

variable (A : Args)

/-- The first row of the block of queries. -/
abbrev row : ℕ := 512 * (A.i 1).val

/-- The stores of one trip. -/
abbrev trip := trip_k0_t1 (F := Ideal) Variants.none A.c none A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg1 A.v9 A.v10 A.v11 A.v12 A.v20 A.v21 A.v28 A.v29 A.v32 A.v33 A.v37 A.X_arg3 A.X_arg4

/-- The stores of the first trips, the latest first. -/
abbrev pieces := pb_k0_t1 (F := Ideal) Variants.none A.c none A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg1 A.v9 A.v10 A.v11 A.v12 A.v20 A.v21 A.v28 A.v29 A.v32 A.v33 A.v37 A.X_arg3 A.X_arg4

/-- What the loop's arguments hold. -/
structure Ok (N : ℕ) (q d : ℕ → ℕ → ℕ → ℝ) (K V : ℕ → ℕ → ℝ) : Prop where
  tri : Rd (φ := .bf16) A.v9 (fun r c => if r < c then 1 else 0)
  tri2 : Rd (φ := .bf16) A.v10 (fun r c => if r % 256 < c then 1 else 0)
  hq0 : Rd (φ := .bf16) A.v20 (fun r c => q 0 (A.row + r) c)
  hq1 : Rd (φ := .bf16) A.v21 (fun r c => q 1 (A.row + r) c)
  hd0 : Rd (φ := .bf16) A.v28 (fun r c => d 0 (A.row + r) c)
  hd1 : Rd (φ := .bf16) A.v29 (fun r c => d 1 (A.row + r) c)
  tot0 : Rd (φ := .f32) A.v32 (fun r _ => -cum (scores (q 0) K) (A.row + r) N)
  tot1 : Rd (φ := .f32) A.v33 (fun r _ => -cum (scores (q 1) K) (A.row + r) N)
  hK : Rd (φ := .bf16) (A.arg3.view.read (Elt Ideal) A.X_arg3) K
  hV : Rd (φ := .bf16) (A.arg4.view.read (Elt Ideal) A.X_arg4) V

/-- What the running arrays hold once the keys before `s0` are done. -/
structure Inv (N : ℕ) (q d : ℕ → ℕ → ℕ → ℝ) (K V g1 g2 : ℕ → ℕ → ℝ) (s0 : ℕ)
    (f10 : BufTy.Contents (Elt Ideal) A.arg10.view.ty) (f11 : BufTy.Contents (Elt Ideal) A.arg11.view.ty)
    (f12 : BufTy.Contents (Elt Ideal) A.arg12.view.ty) (f13 : BufTy.Contents (Elt Ideal) A.arg13.view.ty)
    (f14 : BufTy.Contents (Elt Ideal) A.arg14.view.ty) : Prop where
  iq : Rd3 (φ := .f32) (A.arg10.view.read (Elt Ideal) f10)
    (fun a r c => ∑ s ∈ range s0, dz N (scores (q a) K) (scores (d a) V) (A.row + r) s * K s c)
  ik : Rd (φ := .f32) (A.arg11.view.read (Elt Ideal) f11)
    (fun s c => g1 s c + if s < s0 then ∑ a ∈ range 2, ∑ r ∈ range 512, dz N (scores (q a) K) (scores (d a) V) (A.row + r) s * q a (A.row + r) c
      else 0)
  iv : Rd (φ := .f32) (A.arg12.view.read (Elt Ideal) f12)
    (fun s c => g2 s c + if s < s0 then ∑ a ∈ range 2, ∑ r ∈ range 512, att N (scores (q a) K) (A.row + r) s * d a (A.row + r) c else 0)
  il : Rd3 (φ := .f32) (A.arg13.view.read (Elt Ideal) f13) (fun a r _ => cum (scores (q a) K) (A.row + r) s0)
  ip : Rd3 (φ := .f32) (A.arg14.view.read (Elt Ideal) f14)
    (fun a r _ => cumPr N (scores (q a) K) (scores (d a) V) (A.row + r) s0)

variable {A} {N : ℕ} {q d : ℕ → ℕ → ℕ → ℝ} {K V g1 g2 : ℕ → ℕ → ℝ}
variable {f10 : BufTy.Contents (Elt Ideal) A.arg10.view.ty} {f11 : BufTy.Contents (Elt Ideal) A.arg11.view.ty}
variable {f12 : BufTy.Contents (Elt Ideal) A.arg12.view.ty} {f13 : BufTy.Contents (Elt Ideal) A.arg13.view.ty}
variable {f14 : BufTy.Contents (Elt Ideal) A.arg14.view.ty}
variable (ok : A.Ok N q d K V) (k : Fin (k0_t1_loop A.i).trips)

theorem below_le : 256 * k.val + 256 ≤ A.row := by
  have h : k.val < (k0_t1_loop A.i).trips := k.isLt
  have ht := trips_lower A.i
  show 256 * k.val + 256 ≤ 512 * (A.i 1).val
  omega

theorem row_le : A.row + 512 ≤ 4096 := by
  have h : (A.i 1).val < 8 := (A.i 1).isLt
  show 512 * (A.i 1).val + 512 ≤ 4096
  omega

theorem inb_lower : ∀ x, k0_off1 A.i k x + (![256, 128] : Fin 2 → ℕ) x ≤ (![4096, 128] : Fin 2 → ℕ) x := by
  have h := below_le k
  have h' := row_le (A := A)
  rw [off_lower]
  intro x
  fin_cases x
  · show 256 * k.val + 256 ≤ 4096
    omega
  · exact Nat.le_refl _

theorem inb0 {C : ℕ} : ∀ x, (![0, 0, 0] : Fin 3 → ℕ) x + (![1, 512, C] : Fin 3 → ℕ) x ≤ (![2, 512, C] : Fin 3 → ℕ) x := by
  intro x
  fin_cases x
  · exact Nat.one_le_ofNat
  · exact Nat.le_refl _
  · exact (Nat.zero_add _).le

theorem inb1 {C : ℕ} : ∀ x, (![1, 0, 0] : Fin 3 → ℕ) x + (![1, 512, C] : Fin 3 → ℕ) x ≤ (![2, 512, C] : Fin 3 → ℕ) x := by
  intro x
  fin_cases x
  · exact Nat.le_refl _
  · exact Nat.le_refl _
  · exact (Nat.zero_add _).le

/-- The keys a trip loads. -/
abbrev kBlk (A : Args) (k : Fin (k0_t1_loop A.i).trips) : Vec Ideal S256x128 .bf16 :=
  A.arg3.view.readAt (Elt Ideal) (Rect.unit (s := S4096x128) (k0_off1 A.i k) ![256, 128] (inb_lower k)).toLoadRect A.X_arg3

/-- The values a trip loads. -/
abbrev vBlk (A : Args) (k : Fin (k0_t1_loop A.i).trips) : Vec Ideal S256x128 .bf16 :=
  A.arg4.view.readAt (Elt Ideal) (Rect.unit (s := S4096x128) (k0_off1 A.i k) ![256, 128] (inb_lower k)).toLoadRect A.X_arg4

include ok

/-- What head 0 of a trip reads. -/
theorem Inv.below0 (h : A.Inv N q d K V g1 g2 (256 * k.val) f10 f11 f12 f13 f14) :
    Below N A.row (256 * k.val) (q 0) (d 0) K V A.v9 A.v10 A.v20 A.v28 (A.kBlk k) (A.vBlk k) A.v32
      (A.arg13.view.readAt (Elt Ideal) (Rect.unit (s := S2x512x1) ![0, 0, 0] ![1, 512, 1] inb0).toLoadRect f13)
      (A.arg14.view.readAt (Elt Ideal) (Rect.unit (s := S2x512x1) ![0, 0, 0] ![1, 512, 1] inb0).toLoadRect f14) where
  tri := ok.tri
  tri2 := ok.tri2
  hq := ok.hq0
  hd := ok.hd0
  hk := (Rd.load ok.hK (off_lower A.i k) (inb_lower k)).congr fun _ _ _ _ => by rw [Nat.zero_add]
  hv := (Rd.load ok.hV (off_lower A.i k) (inb_lower k)).congr fun _ _ _ _ => by rw [Nat.zero_add]
  tot := ok.tot0
  hl := h.il.layer 0 inb0
  hp := h.ip.layer 0 inb0
  below := below_le k

/-- What head 1 of a trip reads. -/
theorem Inv.below1 (h : A.Inv N q d K V g1 g2 (256 * k.val) f10 f11 f12 f13 f14) :
    Below N A.row (256 * k.val) (q 1) (d 1) K V A.v9 A.v10 A.v21 A.v29 (A.kBlk k) (A.vBlk k) A.v33
      (A.arg13.view.readAt (Elt Ideal) (Rect.unit (s := S2x512x1) ![1, 0, 0] ![1, 512, 1] inb1).toLoadRect f13)
      (A.arg14.view.readAt (Elt Ideal) (Rect.unit (s := S2x512x1) ![1, 0, 0] ![1, 512, 1] inb1).toLoadRect f14) where
  tri := ok.tri
  tri2 := ok.tri2
  hq := ok.hq1
  hd := ok.hd1
  hk := (Rd.load ok.hK (off_lower A.i k) (inb_lower k)).congr fun _ _ _ _ => by rw [Nat.zero_add]
  hv := (Rd.load ok.hV (off_lower A.i k) (inb_lower k)).congr fun _ _ _ _ => by rw [Nat.zero_add]
  tot := ok.tot1
  hl := h.il.layer 1 inb1
  hp := h.ip.layer 1 inb1
  below := below_le k

variable (h : A.Inv N q d K V g1 g2 (256 * k.val) f10 f11 f12 f13 f14)
include h

/-- The query gradients after one more trip. -/
theorem Inv.step_iq : Rd3 (φ := .f32) (A.arg10.view.read (Elt Ideal) (A.arg10.view.writes (Elt Ideal) f10 ((A.trip k).1 f10 f11 f12 f13 f14)))
    (fun a r c => ∑ s ∈ range (256 * k.val + 256), dz N (scores (q a) K) (scores (d a) V) (A.row + r) s * K s c) := by
  have b0 := (h.below0 ok k).dq (h.iq.layer 0 inb0)
  have b1 := (h.below1 ok k).dq (h.iq.layer 1 inb1)
  delta trip trip_k0_t1
  refine Rd3.layers (b0.congr fun _ r c _ _ _ => ?_) (b1.congr fun _ r c _ _ _ => ?_) inb0 inb1
  · exact (sum_range_add _ _ _).symm
  · exact (sum_range_add _ _ _).symm

/-- The key gradients after one more trip. -/
theorem Inv.step_ik : Rd (φ := .f32) (A.arg11.view.read (Elt Ideal) (A.arg11.view.writes (Elt Ideal) f11 ((A.trip k).2.1 f10 f11 f12 f13 f14)))
    (fun s c => g1 s c + if s < 256 * k.val + 256 then
      ∑ a ∈ range 2, ∑ r ∈ range 512, dz N (scores (q a) K) (scores (d a) V) (A.row + r) s * q a (A.row + r) c else 0) := by
  have b := (h.below0 ok k).dk (h.below1 ok k) (Rd.load h.ik (off_lower A.i k) (inb_lower k))
  delta trip trip_k0_t1
  refine (Rd.store (L := []) h.ik (off_lower A.i k) (inb_lower k) b).congr fun s c hs hc => ?_
  exact step_arith (g := g1) (n := 256 * k.val) (s := s) (G := fun s c => ∑ a ∈ range 2, ∑ r ∈ range 512, dz N (scores (q a) K) (scores (d a) V) (A.row + r) s * q a (A.row + r) c)
    (H := fun s c => ∑ r ∈ range 512, dz N (scores (q 0) K) (scores (d 0) V) (A.row + r) (256 * k.val + s) * q 0 (A.row + r) c
      + ∑ r ∈ range 512, dz N (scores (q 1) K) (scores (d 1) V) (A.row + r) (256 * k.val + s) * q 1 (A.row + r) c) hc fun _ => by rw [sum_two]

/-- The value gradients after one more trip. -/
theorem Inv.step_iv : Rd (φ := .f32) (A.arg12.view.read (Elt Ideal) (A.arg12.view.writes (Elt Ideal) f12 ((A.trip k).2.2.1 f10 f11 f12 f13 f14)))
    (fun s c => g2 s c + if s < 256 * k.val + 256 then
      ∑ a ∈ range 2, ∑ r ∈ range 512, att N (scores (q a) K) (A.row + r) s * d a (A.row + r) c else 0) := by
  have b := (h.below0 ok k).dv (h.below1 ok k) (Rd.load h.iv (off_lower A.i k) (inb_lower k))
  delta trip trip_k0_t1
  refine (Rd.store (L := []) h.iv (off_lower A.i k) (inb_lower k) b).congr fun s c hs hc => ?_
  exact step_arith (g := g2) (n := 256 * k.val) (s := s) (G := fun s c => ∑ a ∈ range 2, ∑ r ∈ range 512, att N (scores (q a) K) (A.row + r) s * d a (A.row + r) c)
    (H := fun s c => ∑ r ∈ range 512, att N (scores (q 0) K) (A.row + r) (256 * k.val + s) * d 0 (A.row + r) c
      + ∑ r ∈ range 512, att N (scores (q 1) K) (A.row + r) (256 * k.val + s) * d 1 (A.row + r) c) hc fun _ => by rw [sum_two]

/-- The running score sums after one more trip. -/
theorem Inv.step_il : Rd3 (φ := .f32) (A.arg13.view.read (Elt Ideal) (A.arg13.view.writes (Elt Ideal) f13 ((A.trip k).2.2.2.1 f10 f11 f12 f13 f14)))
    (fun a r _ => cum (scores (q a) K) (A.row + r) (256 * k.val + 256)) := by
  have b0 := (h.below0 ok k).l'
  have b1 := (h.below1 ok k).l'
  delta trip trip_k0_t1
  exact Rd3.layers b0 b1 inb0 inb1

/-- The running response sums after one more trip. -/
theorem Inv.step_ip : Rd3 (φ := .f32) (A.arg14.view.read (Elt Ideal) (A.arg14.view.writes (Elt Ideal) f14 ((A.trip k).2.2.2.2.1 f10 f11 f12 f13 f14)))
    (fun a r _ => cumPr N (scores (q a) K) (scores (d a) V) (A.row + r) (256 * k.val + 256)) := by
  have b0 := (h.below0 ok k).p'
  have b1 := (h.below1 ok k).p'
  delta trip trip_k0_t1
  exact Rd3.layers b0 b1 inb0 inb1

omit h

/-- The running arrays after `n` trips. -/
theorem Inv.sweep {G10 : BufTy.Contents (Elt Ideal) A.arg10.view.ty} {G11 : BufTy.Contents (Elt Ideal) A.arg11.view.ty} {G12 : BufTy.Contents (Elt Ideal) A.arg12.view.ty} {G13 : BufTy.Contents (Elt Ideal) A.arg13.view.ty} {G14 : BufTy.Contents (Elt Ideal) A.arg14.view.ty} (h : A.Inv N q d K V g1 g2 0 G10 G11 G12 G13 G14) :
    ∀ n ≤ (k0_t1_loop A.i).trips, A.Inv N q d K V g1 g2 (256 * n)
      (A.arg10.view.writes (Elt Ideal) G10 (A.pieces G10 G11 G12 G13 G14 n).1) (A.arg11.view.writes (Elt Ideal) G11 (A.pieces G10 G11 G12 G13 G14 n).2.1)
      (A.arg12.view.writes (Elt Ideal) G12 (A.pieces G10 G11 G12 G13 G14 n).2.2.1) (A.arg13.view.writes (Elt Ideal) G13 (A.pieces G10 G11 G12 G13 G14 n).2.2.2.1)
      (A.arg14.view.writes (Elt Ideal) G14 (A.pieces G10 G11 G12 G13 G14 n).2.2.2.2) := by
  intro n
  induction n with
  | zero => exact fun _ => h
  | succ n ih =>
    intro hn
    have e : A.pieces G10 G11 G12 G13 G14 (n + 1) = _ := pb_k0_t1_succ (F := Ideal) Variants.none A.c none A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg1 A.v9 A.v10 A.v11 A.v12 A.v20 A.v21 A.v28 A.v29 A.v32 A.v33 A.v37 A.X_arg3 A.X_arg4 G10 G11 G12 G13 G14 ⟨n, hn⟩
    have p := ih (Nat.le_of_succ_le hn)
    rw [e]
    simp only [View.writes_append]
    exact ⟨p.step_iq ok ⟨n, hn⟩, p.step_ik ok ⟨n, hn⟩, p.step_iv ok ⟨n, hn⟩, p.step_il ok ⟨n, hn⟩, p.step_ip ok ⟨n, hn⟩⟩

end Args

end Cert.Stick
-- ==== Proof.Diag.lean ====
/- The two blocks of keys on the diagonal: what each value of the kernel's body holds there, where the
   mask keeps the keys before the query. -/
module

public import proofs.«01_k».proof.Proof.Tile

@[expose] public section

set_option maxRecDepth 16384

noncomputable section

namespace Cert.Stick

open Finset Idealize.ShloMosaic Idealize.SL.Sem Cert.KernelIdeal Cert.KernelIdeal.Gen

/-! ### The block of 512 queries on the diagonal -/

abbrev zA (vq : FVec Ideal S512x128 .bf16) (vk : Vec Ideal S256x128 .bf16) : FVec Ideal S512x256 .f32 := k0_pay97 vq vk
abbrev uA (vd : FVec Ideal S512x128 .bf16) (vv : Vec Ideal S256x128 .bf16) : FVec Ideal S512x256 .f32 := k0_pay99 vd vv
abbrev betaA (vq : FVec Ideal S512x128 .bf16) (vk : Vec Ideal S256x128 .bf16) : FVec Ideal S512x256 .f32 := k0_pay103 (k0_pay97 vq vk) (k0_pay101 vq vk) (Named.named κ "neg_log2_e" (φ := .f32) 0xBFB8AA3B#32)
abbrev spA (m : IVec S512x256 1) (vq : FVec Ideal S512x128 .bf16) (vk : Vec Ideal S256x128 .bf16) : FVec Ideal S512x256 .f32 := k0_pay104 m (k0_pay97 vq vk) (k0_pay101 vq vk) (Named.named κ "neg_log2_e" (φ := .f32) 0xBFB8AA3B#32)
abbrev resA (e2 : FVec Ideal S512x256 .bf16) (m : IVec S512x256 1) (vq : FVec Ideal S512x128 .bf16) (vk : Vec Ideal S256x128 .bf16) :
    FVec Ideal S512x256 .f32 := k0_pay108 e2 m (k0_pay97 vq vk) (k0_pay101 vq vk) (Named.named κ "neg_log2_e" (φ := .f32) 0xBFB8AA3B#32)
abbrev attA (e2 : FVec Ideal S512x256 .bf16) (m : IVec S512x256 1) (vq : FVec Ideal S512x128 .bf16) (vk : Vec Ideal S256x128 .bf16)
    (vL : FVec Ideal S512x1 .f32) (vl : Vec Ideal S1x512x1 .f32) : FVec Ideal S512x256 .f32 := k0_pay113 m (zA vq vk) (resA e2 m vq vk) (k0_pay112 vL vl)
abbrev prA (e2 : FVec Ideal S512x256 .bf16) (m : IVec S512x256 1) (vq vd : FVec Ideal S512x128 .bf16) (vk vv : Vec Ideal S256x128 .bf16)
    (vL : FVec Ideal S512x1 .f32) (vl : Vec Ideal S1x512x1 .f32) : FVec Ideal S512x256 .f32 := k0_pay114 m (zA vq vk) (uA vd vv) (resA e2 m vq vk) (k0_pay112 vL vl)
abbrev respA (e1 : FVec Ideal S256x256 .bf16) (e2 : FVec Ideal S512x256 .bf16) (m : IVec S512x256 1) (vq vd : FVec Ideal S512x128 .bf16)
    (vk vv : Vec Ideal S256x128 .bf16) (vL : FVec Ideal S512x1 .f32) (vl : Vec Ideal S1x512x1 .f32) : FVec Ideal S512x256 .f32 := k0_pay119 e1 m (zA vq vk) (uA vd vv) (resA e2 m vq vk) (k0_pay112 vL vl)
abbrev dzA (e1 : FVec Ideal S256x256 .bf16) (e2 : FVec Ideal S512x256 .bf16) (m : IVec S512x256 1) (vq vd : FVec Ideal S512x128 .bf16)
    (vk vv : Vec Ideal S256x128 .bf16) (vL : FVec Ideal S512x1 .f32) (vl vp : Vec Ideal S1x512x1 .f32) : FVec Ideal S512x256 .bf16 := k0_pay123 e1 m (zA vq vk) (uA vd vv) (betaA vq vk) (resA e2 m vq vk) (k0_pay112 vL vl) vp

/-- What the values read by one head on the diagonal are. -/
structure DiagA (N t0 s0 : ℕ) (q d K V : ℕ → ℕ → ℝ) (e1 : FVec Ideal S256x256 .bf16) (e2 : FVec Ideal S512x256 .bf16) (m : IVec S512x256 1)
    (vq vd : FVec Ideal S512x128 .bf16) (vk vv : Vec Ideal S256x128 .bf16) (vL : FVec Ideal S512x1 .f32)
    (vl vp : Vec Ideal S1x512x1 .f32) : Prop where
  tri : Rd (φ := .bf16) e1 (fun r c => if r < c then 1 else 0)
  tri2 : Rd (φ := .bf16) e2 (fun r c => if r % 256 < c then 1 else 0)
  mask : Mk m (fun r c => s0 + c < t0 + r)
  hq : Rd (φ := .bf16) vq (fun r c => q (t0 + r) c)
  hd : Rd (φ := .bf16) vd (fun r c => d (t0 + r) c)
  hk : Rd (φ := .bf16) vk (fun r c => K (s0 + r) c)
  hv : Rd (φ := .bf16) vv (fun r c => V (s0 + r) c)
  tot : Rd (φ := .f32) vL (fun r _ => -cum (scores q K) (t0 + r) N)
  hl : Rd3 (φ := .f32) vl (fun _ r _ => cum (scores q K) (t0 + r) s0)
  hp : Rd3 (φ := .f32) vp (fun _ r _ => cumPr N (scores q K) (scores d V) (t0 + r) s0)

section DiagA

variable {N t0 s0 : ℕ} {q d K V : ℕ → ℕ → ℝ}
variable {e1 : FVec Ideal S256x256 .bf16} {e2 : FVec Ideal S512x256 .bf16} {m : IVec S512x256 1}
variable {vq vd : FVec Ideal S512x128 .bf16} {vk vv : Vec Ideal S256x128 .bf16} {vL : FVec Ideal S512x1 .f32}
variable {vl vp : Vec Ideal S1x512x1 .f32}
variable {q' d' : ℕ → ℕ → ℝ} {vq' vd' : FVec Ideal S512x128 .bf16} {vL' : FVec Ideal S512x1 .f32}
variable {vl' vp' : Vec Ideal S1x512x1 .f32}
variable (h : DiagA N t0 s0 q d K V e1 e2 m vq vd vk vv vL vl vp)
include h

theorem DiagA.z : Rd (zA vq vk) (fun r c => scores q K (t0 + r) (s0 + c)) := Rd.nt512 h.hq h.hk

theorem DiagA.u : Rd (uA vd vv) (fun r c => scores d V (t0 + r) (s0 + c)) := Rd.nt512 h.hd h.hv

theorem DiagA.sp : Rd (spA m vq vk) (fun r c => spm (scores q K) (t0 + r) (s0 + c)) :=
  Rd.sel h.mask (Rd.softplus h.z) Rd.zero

theorem DiagA.beta : Rd (betaA vq vk) (fun r c => logi (scores q K (t0 + r) (s0 + c))) :=
  (h.z.sub (Rd.softplus h.z)).exp

theorem DiagA.res : Rd (resA e2 m vq vk) (fun r c => ∑ j ∈ range c, spm (scores q K) (t0 + r) (s0 + j)) :=
  h.sp.scan512' h.tri2

theorem DiagA.att : Rd (attA e2 m vq vk vL vl) (fun r c => att N (scores q K) (t0 + r) (s0 + c)) :=
  (Rd.sel h.mask (h.z.add ((Rd.bcol512 (h.tot.add h.hl.flat512x1)).add h.res)).exp Rd.zero).congr fun r c _ _ => by
    by_cases hs : s0 + c < t0 + r
    · rw [if_pos hs, att_block N _ hs]
    · rw [if_neg hs, att_of_le N _ (not_lt.1 hs)]

theorem DiagA.pr : Rd (prA e2 m vq vd vk vv vL vl) (fun r c => pr N (scores q K) (scores d V) (t0 + r) (s0 + c)) :=
  h.att.mul h.u

theorem DiagA.resp : Rd (respA e1 e2 m vq vd vk vv vL vl)
    (fun r c => ∑ j ∈ range c, Stick.pr N (scores q K) (scores d V) (t0 + r) (s0 + j)) :=
  h.pr.resp512' h.tri

theorem DiagA.dz : Rd (dzA e1 e2 m vq vd vk vv vL vl vp) (fun r c => dz N (scores q K) (scores d V) (t0 + r) (s0 + c)) :=
  Rd.trunc ((Rd.sel h.mask (h.pr.sub (h.beta.mul (h.pr.add ((Rd.bcol512 h.hp.flat512x1).add h.resp)))) Rd.zero).congr fun r c _ _ => by
    by_cases hs : s0 + c < t0 + r
    · rw [if_pos hs, dz_block N _ _ hs]
    · rw [if_neg hs, dz_of_le N _ _ (not_lt.1 hs)]) _ _

theorem DiagA.dq {old : Vec Ideal S1x512x128 .f32} {g : ℕ → ℕ → ℝ} (ho : Rd3 (φ := .f32) old (fun _ r c => g r c)) :
    Rd3 (k0_pay130 vk (dzA e1 e2 m vq vd vk vv vL vl vp) old)
      (fun _ r c => g r c + ∑ k ∈ range 256, Stick.dz N (scores q K) (scores d V) (t0 + r) (s0 + k) * K (s0 + k) c) :=
  Rd.stack512x128 (ho.flat512x128.add (Rd.dq512 h.dz h.hk))

theorem DiagA.dk (h' : DiagA N t0 s0 q' d' K V e1 e2 m vq' vd' vk vv vL' vl' vp') {old : Vec Ideal S256x128 .f32}
    {g : ℕ → ℕ → ℝ} (ho : Rd (φ := .f32) old g) :
    Rd (k0_pay135 vq vq' (dzA e1 e2 m vq vd vk vv vL vl vp) (dzA e1 e2 m vq' vd' vk vv vL' vl' vp') old)
      (fun r c => g r c + (∑ k ∈ range 512, Stick.dz N (scores q K) (scores d V) (t0 + k) (s0 + r) * q (t0 + k) c
        + ∑ k ∈ range 512, Stick.dz N (scores q' K) (scores d' V) (t0 + k) (s0 + r) * q' (t0 + k) c)) :=
  Rd.self (ho.add ((Rd.tn512 h.dz h.hq).add (Rd.tn512 h'.dz h'.hq))) _

theorem DiagA.dv (h' : DiagA N t0 s0 q' d' K V e1 e2 m vq' vd' vk vv vL' vl' vp') {old : Vec Ideal S256x128 .f32}
    {g : ℕ → ℕ → ℝ} (ho : Rd (φ := .f32) old g) :
    Rd (k0_pay136 vd vd' (attA e2 m vq vk vL vl) (attA e2 m vq' vk vL' vl') old)
      (fun r c => g r c + (∑ k ∈ range 512, Stick.att N (scores q K) (t0 + k) (s0 + r) * d (t0 + k) c
        + ∑ k ∈ range 512, Stick.att N (scores q' K) (t0 + k) (s0 + r) * d' (t0 + k) c)) :=
  Rd.self (ho.add ((Rd.tn512 (h.att.trunc _ _) h.hd).add (Rd.tn512 (h'.att.trunc _ _) h'.hd))) _

theorem DiagA.l' : Rd3 (k0_pay128 (k0_pay115 (spA m vq vk) (resA e2 m vq vk) (k0_pay110 vl))) (fun _ r _ => cum (scores q K) (t0 + r) (s0 + 256)) :=
  Rd.stack512x1 ((h.hl.flat512x1.add (h.res.slice _ |>.add (h.sp.slice _))).congr fun _ _ _ hc => by
    obtain rfl := Nat.lt_one_iff.1 hc
    simpa using cum_block (scores q K) _ s0)

theorem DiagA.p' : Rd3 (k0_pay129 (k0_pay124 e1 m (zA vq vk) (uA vd vv) (resA e2 m vq vk) (k0_pay112 vL vl) vp))
    (fun _ r _ => cumPr N (scores q K) (scores d V) (t0 + r) (s0 + 256)) :=
  Rd.stack512x1 ((h.hp.flat512x1.add (h.resp.slice _ |>.add (h.pr.slice _))).congr fun _ _ _ hc => by
    obtain rfl := Nat.lt_one_iff.1 hc
    simpa using cumPr_block N (scores q K) (scores d V) _ s0)

end DiagA

/-! ### The block of 256 queries on the diagonal -/

abbrev zB (vq : FVec Ideal S256x128 .bf16) (vk : Vec Ideal S256x128 .bf16) : FVec Ideal S256x256 .f32 := k0_pay144 vq vk
abbrev uB (vd : FVec Ideal S256x128 .bf16) (vv : Vec Ideal S256x128 .bf16) : FVec Ideal S256x256 .f32 := k0_pay146 vd vv
abbrev betaB (vq : FVec Ideal S256x128 .bf16) (vk : Vec Ideal S256x128 .bf16) : FVec Ideal S256x256 .f32 := k0_pay149 vq vk
abbrev spB (m : IVec S256x256 1) (vq : FVec Ideal S256x128 .bf16) (vk : Vec Ideal S256x128 .bf16) : FVec Ideal S256x256 .f32 := k0_pay150 m vq vk
abbrev resB (e2 : FVec Ideal S512x256 .bf16) (m : IVec S256x256 1) (vq : FVec Ideal S256x128 .bf16) (vk : Vec Ideal S256x128 .bf16) :
    FVec Ideal S256x256 .f32 := k0_pay154 e2 m vq vk
abbrev attB (e2 : FVec Ideal S512x256 .bf16) (m : IVec S256x256 1) (vq : FVec Ideal S256x128 .bf16) (vk : Vec Ideal S256x128 .bf16)
    (vL : FVec Ideal S256x1 .f32) (vl : Vec Ideal S1x256x1 .f32) : FVec Ideal S256x256 .f32 := k0_pay158 m vL (zB vq vk) (resB e2 m vq vk) vl
abbrev prB (e2 : FVec Ideal S512x256 .bf16) (m : IVec S256x256 1) (vq vd : FVec Ideal S256x128 .bf16) (vk vv : Vec Ideal S256x128 .bf16)
    (vL : FVec Ideal S256x1 .f32) (vl : Vec Ideal S1x256x1 .f32) : FVec Ideal S256x256 .f32 := k0_pay159 m vL (zB vq vk) (uB vd vv) (resB e2 m vq vk) vl
abbrev respB (e1 : FVec Ideal S256x256 .bf16) (e2 : FVec Ideal S512x256 .bf16) (m : IVec S256x256 1) (vq vd : FVec Ideal S256x128 .bf16)
    (vk vv : Vec Ideal S256x128 .bf16) (vL : FVec Ideal S256x1 .f32) (vl : Vec Ideal S1x256x1 .f32) : FVec Ideal S256x256 .f32 := k0_pay164 e1 m vL (zB vq vk) (uB vd vv) (resB e2 m vq vk) vl
abbrev dzB (e1 : FVec Ideal S256x256 .bf16) (e2 : FVec Ideal S512x256 .bf16) (m : IVec S256x256 1) (vq vd : FVec Ideal S256x128 .bf16)
    (vk vv : Vec Ideal S256x128 .bf16) (vL : FVec Ideal S256x1 .f32) (vl vp : Vec Ideal S1x256x1 .f32) : FVec Ideal S256x256 .bf16 := k0_pay168 e1 m vL (zB vq vk) (uB vd vv) (betaB vq vk) (resB e2 m vq vk) vl vp

/-- What the values read by one head on the diagonal are. -/
structure DiagB (N t0 s0 : ℕ) (q d K V : ℕ → ℕ → ℝ) (e1 : FVec Ideal S256x256 .bf16) (e2 : FVec Ideal S512x256 .bf16) (m : IVec S256x256 1)
    (vq vd : FVec Ideal S256x128 .bf16) (vk vv : Vec Ideal S256x128 .bf16) (vL : FVec Ideal S256x1 .f32)
    (vl vp : Vec Ideal S1x256x1 .f32) : Prop where
  tri : Rd (φ := .bf16) e1 (fun r c => if r < c then 1 else 0)
  tri2 : Rd (φ := .bf16) e2 (fun r c => if r % 256 < c then 1 else 0)
  mask : Mk m (fun r c => s0 + c < t0 + r)
  hq : Rd (φ := .bf16) vq (fun r c => q (t0 + r) c)
  hd : Rd (φ := .bf16) vd (fun r c => d (t0 + r) c)
  hk : Rd (φ := .bf16) vk (fun r c => K (s0 + r) c)
  hv : Rd (φ := .bf16) vv (fun r c => V (s0 + r) c)
  tot : Rd (φ := .f32) vL (fun r _ => -cum (scores q K) (t0 + r) N)
  hl : Rd3 (φ := .f32) vl (fun _ r _ => cum (scores q K) (t0 + r) s0)
  hp : Rd3 (φ := .f32) vp (fun _ r _ => cumPr N (scores q K) (scores d V) (t0 + r) s0)

section DiagB

variable {N t0 s0 : ℕ} {q d K V : ℕ → ℕ → ℝ}
variable {e1 : FVec Ideal S256x256 .bf16} {e2 : FVec Ideal S512x256 .bf16} {m : IVec S256x256 1}
variable {vq vd : FVec Ideal S256x128 .bf16} {vk vv : Vec Ideal S256x128 .bf16} {vL : FVec Ideal S256x1 .f32}
variable {vl vp : Vec Ideal S1x256x1 .f32}
variable {q' d' : ℕ → ℕ → ℝ} {vq' vd' : FVec Ideal S256x128 .bf16} {vL' : FVec Ideal S256x1 .f32}
variable {vl' vp' : Vec Ideal S1x256x1 .f32}
variable (h : DiagB N t0 s0 q d K V e1 e2 m vq vd vk vv vL vl vp)
include h

theorem DiagB.z : Rd (zB vq vk) (fun r c => scores q K (t0 + r) (s0 + c)) := Rd.nt256 h.hq h.hk

theorem DiagB.u : Rd (uB vd vv) (fun r c => scores d V (t0 + r) (s0 + c)) := Rd.nt256 h.hd h.hv

theorem DiagB.sp : Rd (spB m vq vk) (fun r c => spm (scores q K) (t0 + r) (s0 + c)) :=
  Rd.sel h.mask (Rd.softplus h.z) Rd.zero

theorem DiagB.beta : Rd (betaB vq vk) (fun r c => logi (scores q K (t0 + r) (s0 + c))) :=
  (h.z.sub (Rd.softplus h.z)).exp

theorem DiagB.res : Rd (resB e2 m vq vk) (fun r c => ∑ j ∈ range c, spm (scores q K) (t0 + r) (s0 + j)) :=
  h.sp.scan256' h.tri2

theorem DiagB.att : Rd (attB e2 m vq vk vL vl) (fun r c => att N (scores q K) (t0 + r) (s0 + c)) :=
  (Rd.sel h.mask (h.z.add ((Rd.bcol256 (h.tot.add h.hl.flat256x1)).add h.res)).exp Rd.zero).congr fun r c _ _ => by
    by_cases hs : s0 + c < t0 + r
    · rw [if_pos hs, att_block N _ hs]
    · rw [if_neg hs, att_of_le N _ (not_lt.1 hs)]

theorem DiagB.pr : Rd (prB e2 m vq vd vk vv vL vl) (fun r c => pr N (scores q K) (scores d V) (t0 + r) (s0 + c)) :=
  h.att.mul h.u

theorem DiagB.resp : Rd (respB e1 e2 m vq vd vk vv vL vl)
    (fun r c => ∑ j ∈ range c, Stick.pr N (scores q K) (scores d V) (t0 + r) (s0 + j)) :=
  h.pr.resp256' h.tri

theorem DiagB.dz : Rd (dzB e1 e2 m vq vd vk vv vL vl vp) (fun r c => dz N (scores q K) (scores d V) (t0 + r) (s0 + c)) :=
  Rd.trunc ((Rd.sel h.mask (h.pr.sub (h.beta.mul (h.pr.add ((Rd.bcol256 h.hp.flat256x1).add h.resp)))) Rd.zero).congr fun r c _ _ => by
    by_cases hs : s0 + c < t0 + r
    · rw [if_pos hs, dz_block N _ _ hs]
    · rw [if_neg hs, dz_of_le N _ _ (not_lt.1 hs)]) _ _

theorem DiagB.dq {old : Vec Ideal S1x256x128 .f32} {g : ℕ → ℕ → ℝ} (ho : Rd3 (φ := .f32) old (fun _ r c => g r c)) :
    Rd3 (k0_pay173 vk (dzB e1 e2 m vq vd vk vv vL vl vp) old)
      (fun _ r c => g r c + ∑ k ∈ range 256, Stick.dz N (scores q K) (scores d V) (t0 + r) (s0 + k) * K (s0 + k) c) :=
  Rd.stack256x128 (ho.flat256x128.add (Rd.dq256 h.dz h.hk))

theorem DiagB.dk (h' : DiagB N t0 s0 q' d' K V e1 e2 m vq' vd' vk vv vL' vl' vp') {old : Vec Ideal S256x128 .f32}
    {g : ℕ → ℕ → ℝ} (ho : Rd (φ := .f32) old g) :
    Rd (k0_pay177 vq vq' (dzB e1 e2 m vq vd vk vv vL vl vp) (dzB e1 e2 m vq' vd' vk vv vL' vl' vp') old)
      (fun r c => g r c + (∑ k ∈ range 256, Stick.dz N (scores q K) (scores d V) (t0 + k) (s0 + r) * q (t0 + k) c
        + ∑ k ∈ range 256, Stick.dz N (scores q' K) (scores d' V) (t0 + k) (s0 + r) * q' (t0 + k) c)) :=
  Rd.self (ho.add ((Rd.tn256 h.dz h.hq).add (Rd.tn256 h'.dz h'.hq))) _

theorem DiagB.dv (h' : DiagB N t0 s0 q' d' K V e1 e2 m vq' vd' vk vv vL' vl' vp') {old : Vec Ideal S256x128 .f32}
    {g : ℕ → ℕ → ℝ} (ho : Rd (φ := .f32) old g) :
    Rd (k0_pay178 vd vd' (attB e2 m vq vk vL vl) (attB e2 m vq' vk vL' vl') old)
      (fun r c => g r c + (∑ k ∈ range 256, Stick.att N (scores q K) (t0 + k) (s0 + r) * d (t0 + k) c
        + ∑ k ∈ range 256, Stick.att N (scores q' K) (t0 + k) (s0 + r) * d' (t0 + k) c)) :=
  Rd.self (ho.add ((Rd.tn256 (h.att.trunc _ _) h.hd).add (Rd.tn256 (h'.att.trunc _ _) h'.hd))) _

end DiagB

end Cert.Stick
-- ==== Proof.Diagonal.lean ====
/- The two blocks of keys on the diagonal: what the running arrays hold at the end of a grid point. -/
module

public import proofs.«01_k».proof.Proof.Sweep
public import proofs.«01_k».proof.Proof.Diag

@[expose] public section

set_option maxRecDepth 16384

noncomputable section

namespace Cert.Stick

open Finset Idealize.ShloMosaic Idealize.SL.Sem Cert.KernelIdeal Cert.KernelIdeal.Gen

namespace Args

theorem inb_diag0 (A : Args) : ∀ x, k0_off3 A.i 0#32 x + (![256, 128] : Fin 2 → ℕ) x ≤ (![4096, 128] : Fin 2 → ℕ) x := by
  have h' : (A.i 1).val < 8 := (A.i 1).isLt
  rw [off_diag0]
  intro x
  fin_cases x
  · show 512 * (A.i 1).val + 256 ≤ 4096
    omega
  · exact Nat.le_refl _

theorem inb_diag1 (A : Args) : ∀ x, k0_off3 A.i 1#32 x + (![256, 128] : Fin 2 → ℕ) x ≤ (![4096, 128] : Fin 2 → ℕ) x := by
  have h' : (A.i 1).val < 8 := (A.i 1).isLt
  rw [off_diag1]
  intro x
  fin_cases x
  · show 512 * (A.i 1).val + 256 + 256 ≤ 4096
    omega
  · exact Nat.le_refl _

theorem inb0' {C : ℕ} : ∀ x, (![0, 256, 0] : Fin 3 → ℕ) x + (![1, 256, C] : Fin 3 → ℕ) x ≤ (![2, 512, C] : Fin 3 → ℕ) x := by
  intro x
  fin_cases x
  · exact Nat.one_le_ofNat
  · exact Nat.le_refl _
  · exact (Nat.zero_add _).le

theorem inb1' {C : ℕ} : ∀ x, (![1, 256, 0] : Fin 3 → ℕ) x + (![1, 256, C] : Fin 3 → ℕ) x ≤ (![2, 512, C] : Fin 3 → ℕ) x := by
  intro x
  fin_cases x
  · exact Nat.le_refl _
  · exact Nat.le_refl _
  · exact (Nat.zero_add _).le

/-- The keys of diagonal block 0. -/
abbrev kD0 (A : Args) : Vec Ideal S256x128 .bf16 :=
  A.arg3.view.readAt (Elt Ideal) (Rect.unit (s := S4096x128) (k0_off3 A.i 0#32) ![256, 128] (inb_diag0 A)).toLoadRect A.X_arg3

/-- The values of diagonal block 0. -/
abbrev vD0 (A : Args) : Vec Ideal S256x128 .bf16 :=
  A.arg4.view.readAt (Elt Ideal) (Rect.unit (s := S4096x128) (k0_off3 A.i 0#32) ![256, 128] (inb_diag0 A)).toLoadRect A.X_arg4

/-- The keys of diagonal block 1. -/
abbrev kD1 (A : Args) : Vec Ideal S256x128 .bf16 :=
  A.arg3.view.readAt (Elt Ideal) (Rect.unit (s := S4096x128) (k0_off3 A.i 1#32) ![256, 128] (inb_diag1 A)).toLoadRect A.X_arg3

/-- The values of diagonal block 1. -/
abbrev vD1 (A : Args) : Vec Ideal S256x128 .bf16 :=
  A.arg4.view.readAt (Elt Ideal) (Rect.unit (s := S4096x128) (k0_off3 A.i 1#32) ![256, 128] (inb_diag1 A)).toLoadRect A.X_arg4

/-- The running score sums of head 0 before the diagonal. -/
abbrev r13_0 (A : Args) (f13 : BufTy.Contents (Elt Ideal) A.arg13.view.ty) : Vec Ideal S1x512x1 .f32 :=
  A.arg13.view.readAt (Elt Ideal) (Rect.unit (s := S2x512x1) ![0, 0, 0] ![1, 512, 1] inb0).toLoadRect f13

/-- The running score sums of head 1 before the diagonal. -/
abbrev r13_1 (A : Args) (f13 : BufTy.Contents (Elt Ideal) A.arg13.view.ty) : Vec Ideal S1x512x1 .f32 :=
  A.arg13.view.readAt (Elt Ideal) (Rect.unit (s := S2x512x1) ![1, 0, 0] ![1, 512, 1] inb1).toLoadRect f13

/-- The running score sums of head 0 before diagonal block 1. -/
abbrev s13_0 (A : Args) (f13 : BufTy.Contents (Elt Ideal) A.arg13.view.ty) : Vec Ideal S1x256x1 .f32 :=
  A.arg13.view.readAt (Elt Ideal) (Rect.unit (s := S2x512x1) ![0, 256, 0] ![1, 256, 1] inb0').toLoadRect f13

/-- The running score sums of head 1 before diagonal block 1. -/
abbrev s13_1 (A : Args) (f13 : BufTy.Contents (Elt Ideal) A.arg13.view.ty) : Vec Ideal S1x256x1 .f32 :=
  A.arg13.view.readAt (Elt Ideal) (Rect.unit (s := S2x512x1) ![1, 256, 0] ![1, 256, 1] inb1').toLoadRect f13

/-- The running response sums of head 0 before the diagonal. -/
abbrev r14_0 (A : Args) (f14 : BufTy.Contents (Elt Ideal) A.arg14.view.ty) : Vec Ideal S1x512x1 .f32 :=
  A.arg14.view.readAt (Elt Ideal) (Rect.unit (s := S2x512x1) ![0, 0, 0] ![1, 512, 1] inb0).toLoadRect f14

/-- The running response sums of head 1 before the diagonal. -/
abbrev r14_1 (A : Args) (f14 : BufTy.Contents (Elt Ideal) A.arg14.view.ty) : Vec Ideal S1x512x1 .f32 :=
  A.arg14.view.readAt (Elt Ideal) (Rect.unit (s := S2x512x1) ![1, 0, 0] ![1, 512, 1] inb1).toLoadRect f14

/-- The running response sums of head 0 before diagonal block 1. -/
abbrev s14_0 (A : Args) (f14 : BufTy.Contents (Elt Ideal) A.arg14.view.ty) : Vec Ideal S1x256x1 .f32 :=
  A.arg14.view.readAt (Elt Ideal) (Rect.unit (s := S2x512x1) ![0, 256, 0] ![1, 256, 1] inb0').toLoadRect f14

/-- The running response sums of head 1 before diagonal block 1. -/
abbrev s14_1 (A : Args) (f14 : BufTy.Contents (Elt Ideal) A.arg14.view.ty) : Vec Ideal S1x256x1 .f32 :=
  A.arg14.view.readAt (Elt Ideal) (Rect.unit (s := S2x512x1) ![1, 256, 0] ![1, 256, 1] inb1').toLoadRect f14

/-- The score gradients of head 0 in diagonal block 0. -/
abbrev dz0_0 (A : Args) (f13 : BufTy.Contents (Elt Ideal) A.arg13.view.ty) (f14 : BufTy.Contents (Elt Ideal) A.arg14.view.ty) : FVec Ideal S512x256 .bf16 :=
  dzA A.v9 A.v10 (k0_pay96 A.v11 A.v12) A.v20 A.v28 A.kD0 A.vD0 A.v32 (A.r13_0 f13) (A.r14_0 f14)

/-- The attention of head 0 in diagonal block 0. -/
abbrev att0_0 (A : Args) (f13 : BufTy.Contents (Elt Ideal) A.arg13.view.ty) : FVec Ideal S512x256 .f32 :=
  attA A.v10 (k0_pay96 A.v11 A.v12) A.v20 A.kD0 A.v32 (A.r13_0 f13)

/-- The score gradients of head 0 in diagonal block 1. -/
abbrev dz1_0 (A : Args) (f13 : BufTy.Contents (Elt Ideal) A.arg13.view.ty) (f14 : BufTy.Contents (Elt Ideal) A.arg14.view.ty) : FVec Ideal S256x256 .bf16 :=
  dzB A.v9 A.v10 (k0_pay137 A.v11 A.v12) (k0_pay138 A.v20) (k0_pay139 A.v28) A.kD1 A.vD1 (k0_pay142 A.v32) (A.s13_0 f13) (A.s14_0 f14)

/-- The attention of head 0 in diagonal block 1. -/
abbrev att1_0 (A : Args) (f13 : BufTy.Contents (Elt Ideal) A.arg13.view.ty) : FVec Ideal S256x256 .f32 :=
  attB A.v10 (k0_pay137 A.v11 A.v12) (k0_pay138 A.v20) A.kD1 (k0_pay142 A.v32) (A.s13_0 f13)

/-- The score gradients of head 1 in diagonal block 0. -/
abbrev dz0_1 (A : Args) (f13 : BufTy.Contents (Elt Ideal) A.arg13.view.ty) (f14 : BufTy.Contents (Elt Ideal) A.arg14.view.ty) : FVec Ideal S512x256 .bf16 :=
  dzA A.v9 A.v10 (k0_pay96 A.v11 A.v12) A.v21 A.v29 A.kD0 A.vD0 A.v33 (A.r13_1 f13) (A.r14_1 f14)

/-- The attention of head 1 in diagonal block 0. -/
abbrev att0_1 (A : Args) (f13 : BufTy.Contents (Elt Ideal) A.arg13.view.ty) : FVec Ideal S512x256 .f32 :=
  attA A.v10 (k0_pay96 A.v11 A.v12) A.v21 A.kD0 A.v33 (A.r13_1 f13)

/-- The score gradients of head 1 in diagonal block 1. -/
abbrev dz1_1 (A : Args) (f13 : BufTy.Contents (Elt Ideal) A.arg13.view.ty) (f14 : BufTy.Contents (Elt Ideal) A.arg14.view.ty) : FVec Ideal S256x256 .bf16 :=
  dzB A.v9 A.v10 (k0_pay137 A.v11 A.v12) (k0_pay140 A.v21) (k0_pay141 A.v29) A.kD1 A.vD1 (k0_pay143 A.v33) (A.s13_1 f13) (A.s14_1 f14)

/-- The attention of head 1 in diagonal block 1. -/
abbrev att1_1 (A : Args) (f13 : BufTy.Contents (Elt Ideal) A.arg13.view.ty) : FVec Ideal S256x256 .f32 :=
  attB A.v10 (k0_pay137 A.v11 A.v12) (k0_pay140 A.v21) A.kD1 (k0_pay143 A.v33) (A.s13_1 f13)

/-- The running score sums stored after diagonal block 0. -/
abbrev list13 (A : Args) (f13 : BufTy.Contents (Elt Ideal) A.arg13.view.ty) (L : List (View.Piece (Elt Ideal) S2x512x1 .f32)) : List (View.Piece (Elt Ideal) S2x512x1 .f32) :=
  (⟨Rect.unit (s := S2x512x1) ![1, 0, 0] ![1, 512, 1] inb1, k0_pay128 (k0_pay115 (spA (k0_pay96 A.v11 A.v12) A.v21 A.kD0) (resA A.v10 (k0_pay96 A.v11 A.v12) A.v21 A.kD0) (k0_pay110 (A.r13_1 f13)))⟩ : View.Piece (Elt Ideal) S2x512x1 .f32)
    :: (⟨Rect.unit (s := S2x512x1) ![0, 0, 0] ![1, 512, 1] inb0, k0_pay128 (k0_pay115 (spA (k0_pay96 A.v11 A.v12) A.v20 A.kD0) (resA A.v10 (k0_pay96 A.v11 A.v12) A.v20 A.kD0) (k0_pay110 (A.r13_0 f13)))⟩ : View.Piece (Elt Ideal) S2x512x1 .f32) :: L

/-- The running response sums stored after diagonal block 0. -/
abbrev list14 (A : Args) (f13 : BufTy.Contents (Elt Ideal) A.arg13.view.ty) (f14 : BufTy.Contents (Elt Ideal) A.arg14.view.ty) (L : List (View.Piece (Elt Ideal) S2x512x1 .f32)) : List (View.Piece (Elt Ideal) S2x512x1 .f32) :=
  (⟨Rect.unit (s := S2x512x1) ![1, 0, 0] ![1, 512, 1] inb1, k0_pay129 (k0_pay124 A.v9 (k0_pay96 A.v11 A.v12) (zA A.v21 A.kD0) (uA A.v29 A.vD0) (resA A.v10 (k0_pay96 A.v11 A.v12) A.v21 A.kD0) (k0_pay112 A.v33 (A.r13_1 f13)) (A.r14_1 f14))⟩ : View.Piece (Elt Ideal) S2x512x1 .f32)
    :: (⟨Rect.unit (s := S2x512x1) ![0, 0, 0] ![1, 512, 1] inb0, k0_pay129 (k0_pay124 A.v9 (k0_pay96 A.v11 A.v12) (zA A.v20 A.kD0) (uA A.v28 A.vD0) (resA A.v10 (k0_pay96 A.v11 A.v12) A.v20 A.kD0) (k0_pay112 A.v32 (A.r13_0 f13)) (A.r14_0 f14))⟩ : View.Piece (Elt Ideal) S2x512x1 .f32) :: L

/-- The key gradients stored after diagonal block 0. -/
abbrev list11a (A : Args) (m : BufTy.Contents (Elt Ideal) A.arg11.view.ty) (f13 : BufTy.Contents (Elt Ideal) A.arg13.view.ty) (f14 : BufTy.Contents (Elt Ideal) A.arg14.view.ty) (L : List (View.Piece (Elt Ideal) S4096x128 .f32)) : List (View.Piece (Elt Ideal) S4096x128 .f32) :=
  (⟨(Rect.unit (s := S4096x128) (k0_off3 A.i 0#32) ![256, 128] (inb_diag0 A)), k0_pay135 A.v20 A.v21 (A.dz0_0 f13 f14) (A.dz0_1 f13 f14) (A.arg11.view.readAt (Elt Ideal) (Rect.unit (s := S4096x128) (k0_off3 A.i 0#32) ![256, 128] (inb_diag0 A)).toLoadRect (A.arg11.view.writes (Elt Ideal) m L))⟩ : View.Piece (Elt Ideal) S4096x128 .f32) :: L

/-- The key gradients stored after diagonal block 1. -/
abbrev list11b (A : Args) (m : BufTy.Contents (Elt Ideal) A.arg11.view.ty) (f13 : BufTy.Contents (Elt Ideal) A.arg13.view.ty) (f14 : BufTy.Contents (Elt Ideal) A.arg14.view.ty) (L : List (View.Piece (Elt Ideal) S4096x128 .f32)) : List (View.Piece (Elt Ideal) S4096x128 .f32) :=
  (⟨(Rect.unit (s := S4096x128) (k0_off3 A.i 1#32) ![256, 128] (inb_diag1 A)), k0_pay177 (k0_pay138 A.v20) (k0_pay140 A.v21) (A.dz1_0 f13 f14) (A.dz1_1 f13 f14) (A.arg11.view.readAt (Elt Ideal) (Rect.unit (s := S4096x128) (k0_off3 A.i 1#32) ![256, 128] (inb_diag1 A)).toLoadRect (A.arg11.view.writes (Elt Ideal) m L))⟩ : View.Piece (Elt Ideal) S4096x128 .f32) :: L

/-- The value gradients stored after diagonal block 0. -/
abbrev list12a (A : Args) (m : BufTy.Contents (Elt Ideal) A.arg12.view.ty) (f13 : BufTy.Contents (Elt Ideal) A.arg13.view.ty) (L : List (View.Piece (Elt Ideal) S4096x128 .f32)) : List (View.Piece (Elt Ideal) S4096x128 .f32) :=
  (⟨(Rect.unit (s := S4096x128) (k0_off3 A.i 0#32) ![256, 128] (inb_diag0 A)), k0_pay136 A.v28 A.v29 (A.att0_0 f13) (A.att0_1 f13) (A.arg12.view.readAt (Elt Ideal) (Rect.unit (s := S4096x128) (k0_off3 A.i 0#32) ![256, 128] (inb_diag0 A)).toLoadRect (A.arg12.view.writes (Elt Ideal) m L))⟩ : View.Piece (Elt Ideal) S4096x128 .f32) :: L

/-- The value gradients stored after diagonal block 1. -/
abbrev list12b (A : Args) (m : BufTy.Contents (Elt Ideal) A.arg12.view.ty) (f13 : BufTy.Contents (Elt Ideal) A.arg13.view.ty) (L : List (View.Piece (Elt Ideal) S4096x128 .f32)) : List (View.Piece (Elt Ideal) S4096x128 .f32) :=
  (⟨(Rect.unit (s := S4096x128) (k0_off3 A.i 1#32) ![256, 128] (inb_diag1 A)), k0_pay178 (k0_pay139 A.v28) (k0_pay141 A.v29) (A.att1_0 f13) (A.att1_1 f13) (A.arg12.view.readAt (Elt Ideal) (Rect.unit (s := S4096x128) (k0_off3 A.i 1#32) ![256, 128] (inb_diag1 A)).toLoadRect (A.arg12.view.writes (Elt Ideal) m L))⟩ : View.Piece (Elt Ideal) S4096x128 .f32) :: L

/-- The query gradients of head 0 stored after diagonal block 0. -/
abbrev list10a (A : Args) (m : BufTy.Contents (Elt Ideal) A.arg10.view.ty) (f13 : BufTy.Contents (Elt Ideal) A.arg13.view.ty) (f14 : BufTy.Contents (Elt Ideal) A.arg14.view.ty) (L : List (View.Piece (Elt Ideal) S2x512x128 .f32)) : List (View.Piece (Elt Ideal) S2x512x128 .f32) :=
  (⟨Rect.unit (s := S2x512x128) ![0, 0, 0] ![1, 512, 128] inb0, k0_pay130 A.kD0 (A.dz0_0 f13 f14) (A.arg10.view.readAt (Elt Ideal) (Rect.unit (s := S2x512x128) ![0, 0, 0] ![1, 512, 128] inb0).toLoadRect (A.arg10.view.writes (Elt Ideal) m L))⟩ : View.Piece (Elt Ideal) S2x512x128 .f32) :: L

/-- The query gradients of head 1 stored after diagonal block 0. -/
abbrev list10b (A : Args) (m : BufTy.Contents (Elt Ideal) A.arg10.view.ty) (f13 : BufTy.Contents (Elt Ideal) A.arg13.view.ty) (f14 : BufTy.Contents (Elt Ideal) A.arg14.view.ty) (L : List (View.Piece (Elt Ideal) S2x512x128 .f32)) : List (View.Piece (Elt Ideal) S2x512x128 .f32) :=
  (⟨Rect.unit (s := S2x512x128) ![1, 0, 0] ![1, 512, 128] inb1, k0_pay130 A.kD0 (A.dz0_1 f13 f14) (A.arg10.view.readAt (Elt Ideal) (Rect.unit (s := S2x512x128) ![1, 0, 0] ![1, 512, 128] inb1).toLoadRect (A.arg10.view.writes (Elt Ideal) m L))⟩ : View.Piece (Elt Ideal) S2x512x128 .f32) :: L

/-- The query gradients of head 0 stored after diagonal block 1. -/
abbrev list10c (A : Args) (m : BufTy.Contents (Elt Ideal) A.arg10.view.ty) (f13 : BufTy.Contents (Elt Ideal) A.arg13.view.ty) (f14 : BufTy.Contents (Elt Ideal) A.arg14.view.ty) (L : List (View.Piece (Elt Ideal) S2x512x128 .f32)) : List (View.Piece (Elt Ideal) S2x512x128 .f32) :=
  (⟨Rect.unit (s := S2x512x128) ![0, 256, 0] ![1, 256, 128] inb0', k0_pay173 A.kD1 (A.dz1_0 f13 f14) (A.arg10.view.readAt (Elt Ideal) (Rect.unit (s := S2x512x128) ![0, 256, 0] ![1, 256, 128] inb0').toLoadRect (A.arg10.view.writes (Elt Ideal) m L))⟩ : View.Piece (Elt Ideal) S2x512x128 .f32) :: L

/-- The query gradients of head 1 stored after diagonal block 1. -/
abbrev list10d (A : Args) (m : BufTy.Contents (Elt Ideal) A.arg10.view.ty) (f13 : BufTy.Contents (Elt Ideal) A.arg13.view.ty) (f14 : BufTy.Contents (Elt Ideal) A.arg14.view.ty) (L : List (View.Piece (Elt Ideal) S2x512x128 .f32)) : List (View.Piece (Elt Ideal) S2x512x128 .f32) :=
  (⟨Rect.unit (s := S2x512x128) ![1, 256, 0] ![1, 256, 128] inb1', k0_pay173 A.kD1 (A.dz1_1 f13 f14) (A.arg10.view.readAt (Elt Ideal) (Rect.unit (s := S2x512x128) ![1, 256, 0] ![1, 256, 128] inb1').toLoadRect (A.arg10.view.writes (Elt Ideal) m L))⟩ : View.Piece (Elt Ideal) S2x512x128 .f32) :: L

/-- The rows and columns of a block, as the kernel counts them. -/
structure Iota (A : Args) : Prop where
  rows : Wd A.v11 (fun r _ => r)
  cols : Wd A.v12 (fun _ c => c)

theorem Iota.mask0 {A : Args} (h : A.Iota) (n : ℕ) : Mk (k0_pay96 A.v11 A.v12) (fun r c => n + c < n + r) :=
  (((Wd.splat 0).add h.cols).slt h.rows (fun _ _ _ _ => by omega) (fun _ _ _ _ => by omega)).congr fun r c _ _ => by omega

theorem Iota.mask1 {A : Args} (h : A.Iota) (n : ℕ) : Mk (k0_pay137 A.v11 A.v12) (fun r c => n + c < n + r) :=
  ((((Wd.splat 256).add h.cols).slt h.rows (fun _ _ _ _ => by omega) (fun _ _ _ _ => by omega)).slice slices_S512x256_o256_0_S256x256).congr fun r c _ _ => by omega

variable {A : Args} {N : ℕ} {q d : ℕ → ℕ → ℕ → ℝ} {K V g1 g2 : ℕ → ℕ → ℝ}
variable {m10 : BufTy.Contents (Elt Ideal) A.arg10.view.ty} {L10 : List (View.Piece (Elt Ideal) S2x512x128 .f32)}
variable {m11 : BufTy.Contents (Elt Ideal) A.arg11.view.ty} {L11 : List (View.Piece (Elt Ideal) S4096x128 .f32)}
variable {m12 : BufTy.Contents (Elt Ideal) A.arg12.view.ty} {L12 : List (View.Piece (Elt Ideal) S4096x128 .f32)}
variable {f13 f13' : BufTy.Contents (Elt Ideal) A.arg13.view.ty} {L13 : List (View.Piece (Elt Ideal) S2x512x1 .f32)}
variable {f14 f14' : BufTy.Contents (Elt Ideal) A.arg14.view.ty} {L14 : List (View.Piece (Elt Ideal) S2x512x1 .f32)}
variable (ok : A.Ok N q d K V) (io : A.Iota)
variable (h13 : Rd3 (φ := .f32) (A.arg13.view.read (Elt Ideal) f13) (fun a r _ => cum (scores (q a) K) (A.row + r) A.row))
variable (h14 : Rd3 (φ := .f32) (A.arg14.view.read (Elt Ideal) f14) (fun a r _ => cumPr N (scores (q a) K) (scores (d a) V) (A.row + r) A.row))
variable (h13' : Rd3 (φ := .f32) (A.arg13.view.read (Elt Ideal) f13') (fun a r _ => cum (scores (q a) K) (A.row + r) (A.row + 256)))
variable (h14' : Rd3 (φ := .f32) (A.arg14.view.read (Elt Ideal) f14') (fun a r _ => cumPr N (scores (q a) K) (scores (d a) V) (A.row + r) (A.row + 256)))
include ok io

section First

include h13 h14

/-- What head 0 reads in diagonal block 0. -/
theorem diag0_0 : DiagA N A.row A.row (q 0) (d 0) K V A.v9 A.v10 (k0_pay96 A.v11 A.v12) A.v20 A.v28 A.kD0 A.vD0 A.v32 (A.r13_0 f13) (A.r14_0 f14) where
  tri := ok.tri
  tri2 := ok.tri2
  mask := io.mask0 _
  hq := ok.hq0
  hd := ok.hd0
  hk := (Rd.load ok.hK (off_diag0 A.i) (inb_diag0 A)).congr fun _ _ _ _ => by rw [Nat.zero_add]
  hv := (Rd.load ok.hV (off_diag0 A.i) (inb_diag0 A)).congr fun _ _ _ _ => by rw [Nat.zero_add]
  tot := ok.tot0
  hl := h13.layer 0 inb0
  hp := h14.layer 0 inb0

/-- What head 1 reads in diagonal block 0. -/
theorem diag0_1 : DiagA N A.row A.row (q 1) (d 1) K V A.v9 A.v10 (k0_pay96 A.v11 A.v12) A.v21 A.v29 A.kD0 A.vD0 A.v33 (A.r13_1 f13) (A.r14_1 f14) where
  tri := ok.tri
  tri2 := ok.tri2
  mask := io.mask0 _
  hq := ok.hq1
  hd := ok.hd1
  hk := (Rd.load ok.hK (off_diag0 A.i) (inb_diag0 A)).congr fun _ _ _ _ => by rw [Nat.zero_add]
  hv := (Rd.load ok.hV (off_diag0 A.i) (inb_diag0 A)).congr fun _ _ _ _ => by rw [Nat.zero_add]
  tot := ok.tot1
  hl := h13.layer 1 inb1
  hp := h14.layer 1 inb1

/-- The running score sums after diagonal block 0. -/
theorem diag0_13 (m : BufTy.Contents (Elt Ideal) A.arg13.view.ty) :
    Rd3 (φ := .f32) (A.arg13.view.read (Elt Ideal) (A.arg13.view.writes (Elt Ideal) m (A.list13 f13 L13)))
      (fun a r _ => cum (scores (q a) K) (A.row + r) (A.row + 256)) :=
  Rd3.layers (diag0_0 ok io h13 h14).l' (diag0_1 ok io h13 h14).l' inb0 inb1

/-- The running response sums after diagonal block 0. -/
theorem diag0_14 (m : BufTy.Contents (Elt Ideal) A.arg14.view.ty) :
    Rd3 (φ := .f32) (A.arg14.view.read (Elt Ideal) (A.arg14.view.writes (Elt Ideal) m (A.list14 f13 f14 L14)))
      (fun a r _ => cumPr N (scores (q a) K) (scores (d a) V) (A.row + r) (A.row + 256)) :=
  Rd3.layers (diag0_0 ok io h13 h14).p' (diag0_1 ok io h13 h14).p' inb0 inb1

/-- The key gradients after diagonal block 0. -/
theorem diag0_11 (h : Rd (φ := .f32) (A.arg11.view.read (Elt Ideal) (A.arg11.view.writes (Elt Ideal) m11 L11))
      (fun s c => g1 s c + if s < A.row then ∑ a ∈ range 2, ∑ r ∈ range 512, dz N (scores (q a) K) (scores (d a) V) (A.row + r) s * q a (A.row + r) c else 0)) :
    Rd (φ := .f32) (A.arg11.view.read (Elt Ideal) (A.arg11.view.writes (Elt Ideal) m11 (A.list11a m11 f13 f14 L11)))
      (fun s c => g1 s c + if s < A.row + 256 then ∑ a ∈ range 2, ∑ r ∈ range 512, dz N (scores (q a) K) (scores (d a) V) (A.row + r) s * q a (A.row + r) c else 0) := by
  have b := (diag0_0 ok io h13 h14).dk (diag0_1 ok io h13 h14) (Rd.load h (off_diag0 A.i) (inb_diag0 A))
  refine (Rd.store h (off_diag0 A.i) (inb_diag0 A) b).congr fun s c hs hc => ?_
  exact step_arith (g := g1) (n := A.row) (s := s) (G := fun s c => ∑ a ∈ range 2, ∑ r ∈ range 512, dz N (scores (q a) K) (scores (d a) V) (A.row + r) s * q a (A.row + r) c)
    (H := fun s c => ∑ r ∈ range 512, dz N (scores (q 0) K) (scores (d 0) V) (A.row + r) (A.row + s) * q 0 (A.row + r) c
      + ∑ r ∈ range 512, dz N (scores (q 1) K) (scores (d 1) V) (A.row + r) (A.row + s) * q 1 (A.row + r) c) hc fun _ => by rw [sum_two]

/-- The value gradients after diagonal block 0. -/
theorem diag0_12 (h : Rd (φ := .f32) (A.arg12.view.read (Elt Ideal) (A.arg12.view.writes (Elt Ideal) m12 L12))
      (fun s c => g2 s c + if s < A.row then ∑ a ∈ range 2, ∑ r ∈ range 512, att N (scores (q a) K) (A.row + r) s * d a (A.row + r) c else 0)) :
    Rd (φ := .f32) (A.arg12.view.read (Elt Ideal) (A.arg12.view.writes (Elt Ideal) m12 (A.list12a m12 f13 L12)))
      (fun s c => g2 s c + if s < A.row + 256 then ∑ a ∈ range 2, ∑ r ∈ range 512, att N (scores (q a) K) (A.row + r) s * d a (A.row + r) c else 0) := by
  have b := (diag0_0 ok io h13 h14).dv (diag0_1 ok io h13 h14) (Rd.load h (off_diag0 A.i) (inb_diag0 A))
  refine (Rd.store h (off_diag0 A.i) (inb_diag0 A) b).congr fun s c hs hc => ?_
  exact step_arith (g := g2) (n := A.row) (s := s) (G := fun s c => ∑ a ∈ range 2, ∑ r ∈ range 512, att N (scores (q a) K) (A.row + r) s * d a (A.row + r) c)
    (H := fun s c => ∑ r ∈ range 512, att N (scores (q 0) K) (A.row + r) (A.row + s) * d 0 (A.row + r) c
      + ∑ r ∈ range 512, att N (scores (q 1) K) (A.row + r) (A.row + s) * d 1 (A.row + r) c) hc fun _ => by rw [sum_two]

/-- The query gradients after diagonal block 0. -/
theorem diag0_10 (h : Rd3 (φ := .f32) (A.arg10.view.read (Elt Ideal) (A.arg10.view.writes (Elt Ideal) m10 L10))
      (fun a r c => ∑ s ∈ range A.row, dz N (scores (q a) K) (scores (d a) V) (A.row + r) s * K s c)) :
    Rd3 (φ := .f32) (A.arg10.view.read (Elt Ideal) (A.arg10.view.writes (Elt Ideal) m10 (A.list10b m10 f13 f14 (A.list10a m10 f13 f14 L10))))
      (fun a r c => ∑ s ∈ range (A.row + 256), dz N (scores (q a) K) (scores (d a) V) (A.row + r) s * K s c) := by
  have b0 := (diag0_0 ok io h13 h14).dq (h.layer 0 inb0)
  have h1 := Rd3.store h inb0 b0
  have b1 := (diag0_1 ok io h13 h14).dq (h1.layer 1 inb1)
  refine Rd3.layers (b0.congr fun _ r c _ _ _ => ?_) (b1.congr fun _ r c _ _ _ => ?_) inb0 inb1
  · exact (sum_range_add _ _ _).symm
  · simp only [sum_range_add]
    rw [if_neg (by omega)]

end First

section Second

include h13' h14'

/-- What head 0 reads in diagonal block 1. -/
theorem diag1_0 : DiagB N (A.row + 256) (A.row + 256) (q 0) (d 0) K V A.v9 A.v10 (k0_pay137 A.v11 A.v12) (k0_pay138 A.v20) (k0_pay139 A.v28) A.kD1 A.vD1
    (k0_pay142 A.v32) (A.s13_0 f13') (A.s14_0 f14') where
  tri := ok.tri
  tri2 := ok.tri2
  mask := io.mask1 _
  hq := (ok.hq0.slice slices_S512x128_o256_0_S256x128).congr fun _ _ _ _ => by simp only [Nat.zero_add, Nat.add_assoc]
  hd := (ok.hd0.slice slices_S512x128_o256_0_S256x128).congr fun _ _ _ _ => by simp only [Nat.zero_add, Nat.add_assoc]
  hk := (Rd.load ok.hK (off_diag1 A.i) (inb_diag1 A)).congr fun _ _ _ _ => by rw [Nat.zero_add]
  hv := (Rd.load ok.hV (off_diag1 A.i) (inb_diag1 A)).congr fun _ _ _ _ => by rw [Nat.zero_add]
  tot := (ok.tot0.slice slices_S512x1_o256_0_S256x1).congr fun _ _ _ _ => by simp only [Nat.add_assoc]
  hl := (Rd3.load h13' inb0').congr fun l r c hl _ _ => by
    obtain rfl : l = 0 := by omega
    simp only [Nat.add_assoc, Nat.add_zero]
  hp := (Rd3.load h14' inb0').congr fun l r c hl _ _ => by
    obtain rfl : l = 0 := by omega
    simp only [Nat.add_assoc, Nat.add_zero]

/-- What head 1 reads in diagonal block 1. -/
theorem diag1_1 : DiagB N (A.row + 256) (A.row + 256) (q 1) (d 1) K V A.v9 A.v10 (k0_pay137 A.v11 A.v12) (k0_pay140 A.v21) (k0_pay141 A.v29) A.kD1 A.vD1
    (k0_pay143 A.v33) (A.s13_1 f13') (A.s14_1 f14') where
  tri := ok.tri
  tri2 := ok.tri2
  mask := io.mask1 _
  hq := (ok.hq1.slice slices_S512x128_o256_0_S256x128).congr fun _ _ _ _ => by simp only [Nat.zero_add, Nat.add_assoc]
  hd := (ok.hd1.slice slices_S512x128_o256_0_S256x128).congr fun _ _ _ _ => by simp only [Nat.zero_add, Nat.add_assoc]
  hk := (Rd.load ok.hK (off_diag1 A.i) (inb_diag1 A)).congr fun _ _ _ _ => by rw [Nat.zero_add]
  hv := (Rd.load ok.hV (off_diag1 A.i) (inb_diag1 A)).congr fun _ _ _ _ => by rw [Nat.zero_add]
  tot := (ok.tot1.slice slices_S512x1_o256_0_S256x1).congr fun _ _ _ _ => by simp only [Nat.add_assoc]
  hl := (Rd3.load h13' inb1').congr fun l r c hl _ _ => by
    obtain rfl : l = 0 := by omega
    simp only [Nat.add_assoc, Nat.add_zero]
  hp := (Rd3.load h14' inb1').congr fun l r c hl _ _ => by
    obtain rfl : l = 0 := by omega
    simp only [Nat.add_assoc, Nat.add_zero]

/-- The key gradients after diagonal block 1. -/
theorem diag1_11 (h : Rd (φ := .f32) (A.arg11.view.read (Elt Ideal) (A.arg11.view.writes (Elt Ideal) m11 L11))
      (fun s c => g1 s c + if s < A.row + 256 then ∑ a ∈ range 2, ∑ r ∈ range 512, dz N (scores (q a) K) (scores (d a) V) (A.row + r) s * q a (A.row + r) c else 0)) :
    Rd (φ := .f32) (A.arg11.view.read (Elt Ideal) (A.arg11.view.writes (Elt Ideal) m11 (A.list11b m11 f13' f14' L11)))
      (fun s c => g1 s c + if s < A.row + 512 then ∑ a ∈ range 2, ∑ r ∈ range 512, dz N (scores (q a) K) (scores (d a) V) (A.row + r) s * q a (A.row + r) c else 0) := by
  have b := (diag1_0 ok io h13' h14').dk (diag1_1 ok io h13' h14') (Rd.load h (off_diag1 A.i) (inb_diag1 A))
  refine (Rd.store h (off_diag1 A.i) (inb_diag1 A) b).congr fun s c hs hc => ?_
  refine step_arith (g := g1) (n := A.row + 256) (s := s) (G := fun s c => ∑ a ∈ range 2, ∑ r ∈ range 512, dz N (scores (q a) K) (scores (d a) V) (A.row + r) s * q a (A.row + r) c)
    (H := fun s c => ∑ r ∈ range 256, dz N (scores (q 0) K) (scores (d 0) V) (A.row + 256 + r) (A.row + 256 + s) * q 0 (A.row + 256 + r) c
      + ∑ r ∈ range 256, dz N (scores (q 1) K) (scores (d 1) V) (A.row + 256 + r) (A.row + 256 + s) * q 1 (A.row + 256 + r) c) hc fun s => ?_
  have e : ∀ a, ∑ r ∈ range 512, dz N (scores (q a) K) (scores (d a) V) (A.row + r) (A.row + 256 + s) * q a (A.row + r) c
      = ∑ r ∈ range 256, dz N (scores (q a) K) (scores (d a) V) (A.row + 256 + r) (A.row + 256 + s) * q a (A.row + 256 + r) c := fun a => by
    rw [show (512 : ℕ) = 256 + 256 from rfl, sum_range_add, sum_eq_zero, zero_add]
    · exact sum_congr rfl fun r _ => by rw [show A.row + (256 + r) = A.row + 256 + r from (Nat.add_assoc _ _ _).symm]
    · intro r hr
      rw [dz_of_le N _ _ (by have := mem_range.1 hr; omega), zero_mul]
  simp only [sum_two, e]

/-- The value gradients after diagonal block 1. -/
theorem diag1_12 (h : Rd (φ := .f32) (A.arg12.view.read (Elt Ideal) (A.arg12.view.writes (Elt Ideal) m12 L12))
      (fun s c => g2 s c + if s < A.row + 256 then ∑ a ∈ range 2, ∑ r ∈ range 512, att N (scores (q a) K) (A.row + r) s * d a (A.row + r) c else 0)) :
    Rd (φ := .f32) (A.arg12.view.read (Elt Ideal) (A.arg12.view.writes (Elt Ideal) m12 (A.list12b m12 f13' L12)))
      (fun s c => g2 s c + if s < A.row + 512 then ∑ a ∈ range 2, ∑ r ∈ range 512, att N (scores (q a) K) (A.row + r) s * d a (A.row + r) c else 0) := by
  have b := (diag1_0 ok io h13' h14').dv (diag1_1 ok io h13' h14') (Rd.load h (off_diag1 A.i) (inb_diag1 A))
  refine (Rd.store h (off_diag1 A.i) (inb_diag1 A) b).congr fun s c hs hc => ?_
  refine step_arith (g := g2) (n := A.row + 256) (s := s) (G := fun s c => ∑ a ∈ range 2, ∑ r ∈ range 512, att N (scores (q a) K) (A.row + r) s * d a (A.row + r) c)
    (H := fun s c => ∑ r ∈ range 256, att N (scores (q 0) K) (A.row + 256 + r) (A.row + 256 + s) * d 0 (A.row + 256 + r) c
      + ∑ r ∈ range 256, att N (scores (q 1) K) (A.row + 256 + r) (A.row + 256 + s) * d 1 (A.row + 256 + r) c) hc fun s => ?_
  have e : ∀ a, ∑ r ∈ range 512, att N (scores (q a) K) (A.row + r) (A.row + 256 + s) * d a (A.row + r) c
      = ∑ r ∈ range 256, att N (scores (q a) K) (A.row + 256 + r) (A.row + 256 + s) * d a (A.row + 256 + r) c := fun a => by
    rw [show (512 : ℕ) = 256 + 256 from rfl, sum_range_add, sum_eq_zero, zero_add]
    · exact sum_congr rfl fun r _ => by rw [show A.row + (256 + r) = A.row + 256 + r from (Nat.add_assoc _ _ _).symm]
    · intro r hr
      rw [att_of_le N _ (by have := mem_range.1 hr; omega), zero_mul]
  simp only [sum_two, e]

/-- The query gradients after diagonal block 1. -/
theorem diag1_10 (h : Rd3 (φ := .f32) (A.arg10.view.read (Elt Ideal) (A.arg10.view.writes (Elt Ideal) m10 L10))
      (fun a r c => ∑ s ∈ range (A.row + 256), dz N (scores (q a) K) (scores (d a) V) (A.row + r) s * K s c)) :
    Rd3 (φ := .f32) (A.arg10.view.read (Elt Ideal) (A.arg10.view.writes (Elt Ideal) m10 (A.list10d m10 f13' f14' (A.list10c m10 f13' f14' L10))))
      (fun a r c => ∑ s ∈ range (A.row + 512), dz N (scores (q a) K) (scores (d a) V) (A.row + r) s * K s c) := by
  have l0 : Rd3 (φ := .f32) (A.arg10.view.readAt (Elt Ideal) (Rect.unit (s := S2x512x128) ![0, 256, 0] ![1, 256, 128] inb0').toLoadRect
      (A.arg10.view.writes (Elt Ideal) m10 L10)) (fun _ r c => ∑ s ∈ range (A.row + 256), dz N (scores (q 0) K) (scores (d 0) V) (A.row + (256 + r)) s * K s c) :=
    (Rd3.load h inb0').congr fun l r c hl _ _ => by
      obtain rfl : l = 0 := by omega
      simp only [Nat.zero_add]
  have b0 := (diag1_0 ok io h13' h14').dq l0
  have h1 := Rd3.store h inb0' b0
  have l1 : Rd3 (φ := .f32) (A.arg10.view.readAt (Elt Ideal) (Rect.unit (s := S2x512x128) ![1, 256, 0] ![1, 256, 128] inb1').toLoadRect
      (A.arg10.view.writes (Elt Ideal) m10 (A.list10c m10 f13' f14' L10))) (fun _ r c => ∑ s ∈ range (A.row + 256), dz N (scores (q 1) K) (scores (d 1) V) (A.row + (256 + r)) s * K s c) :=
    (Rd3.load h1 inb1').congr fun l r c hl _ _ => by
      obtain rfl : l = 0 := by omega
      simp only [Nat.zero_add, Nat.add_zero]
      rw [if_neg (by omega)]
  have b1 := (diag1_1 ok io h13' h14').dq l1
  refine (Rd3.store h1 inb1' b1).congr fun a r c ha hr hc => ?_
  have e : A.row + 512 = A.row + 256 + 256 := rfl
  rcases Nat.lt_or_ge r 256 with hr' | hr'
  · rw [if_neg (by omega), if_neg (by omega), e]
    refine ((sum_range_add _ (A.row + 256) 256).trans ((congrArg (_ + ·) (sum_eq_zero fun s _ => ?_)).trans (add_zero _))).symm
    rw [dz_of_le N _ _ (by omega), zero_mul]
  · have er : A.row + (256 + (r - 256)) = A.row + r := by omega
    have er' : A.row + 256 + (r - 256) = A.row + r := by omega
    rcases (by omega : a = 0 ∨ a = 1) with rfl | rfl
    · rw [if_neg (by omega), if_pos (by omega), e, er, er', Nat.sub_zero]
      exact (sum_range_add _ _ _).symm
    · rw [if_pos (by omega), e, er, er', Nat.sub_zero]
      exact (sum_range_add _ _ _).symm

end Second

end Args

end Cert.Stick
-- ==== Proof.Body.lean ====
/- One grid point of the kernel: what its arrays hold before the loops, and what they hold at the end. -/
module

public import proofs.«01_k».proof.Proof.Gen.KernelIdeal.Frame.Runs
public import proofs.«01_k».proof.Proof.Diagonal
public import Idealize.ShloMosaic.Lib.IdealHost

@[expose] public section

set_option maxRecDepth 16384

noncomputable section

namespace Cert.Stick

open Finset Idealize.ShloMosaic Idealize.SL.Sem Cert.KernelIdeal Cert.KernelIdeal.Gen

/-- The array `f` on the 64 columns of head `a` of a group, and 0 on the other columns. -/
def lane (a : ℕ) (f : ℕ → ℕ → ℝ) (t c : ℕ) : ℝ := if c / 64 = a then f t c else 0

theorem inbW : ∀ x, (![0, 0] : Fin 2 → ℕ) x + S512x128.size x ≤ S512x128.size x := by
  intro x
  fin_cases x
  · exact (Nat.zero_add _).le
  · exact (Nat.zero_add _).le

theorem inbS {R C : ℕ} : ∀ x, (![0, 0, 0] : Fin 3 → ℕ) x + (![2, R, C] : Fin 3 → ℕ) x ≤ (![2, R, C] : Fin 3 → ℕ) x := by
  intro x
  fin_cases x
  · exact Nat.le_refl _
  · exact (Nat.zero_add _).le
  · exact (Nat.zero_add _).le

/-- The mask of the first head's columns. -/
theorem mk_lane : Mk k0_pay75 (fun _ c => c < 64) :=
  (Wd.col _).slt (Wd.splat 64) (fun _ _ _ _ => by omega) (fun _ _ _ _ => by omega)

section Inputs

variable {v : Vec Ideal S512x128 .bf16} {w : Vec Ideal S512x128 .f32} {f : ℕ → ℕ → ℝ}

theorem eighth : Scalar.ofBits (F := Ideal) .bf16 0x3E00#16 = ((1 / 8 : ℝ) : EReal) := by
  show Ideal.ofBits _ _ = _
  simp [Ideal.ofBits, Ideal.ieee, -EReal.coe_mul]
  norm_num

theorem rd_zero16 : Rd (k0_pay76 (F := Ideal)) (fun _ _ => 0) :=
  Rd.splat (Ideal.ofBits_zero_bf16.trans EReal.coe_zero.symm)

/-- The first head's queries. -/
theorem Rd.q0 (h : Rd (φ := .bf16) v f) : Rd (k0_pay77 v) (lane 0 fun t c => f t c * (1 / 8)) :=
  (Rd.sel mk_lane (h.mul (Rd.splat eighth)) rd_zero16).congr fun r c _ hc => by
    unfold lane
    exact if_congr (by omega) rfl rfl

/-- The second head's queries. -/
theorem Rd.q1 (h : Rd (φ := .bf16) v f) : Rd (k0_pay78 v) (lane 1 fun t c => f t c * (1 / 8)) :=
  (Rd.sel mk_lane rd_zero16 (h.mul (Rd.splat eighth))).congr fun r c _ hc => by
    unfold lane
    rw [← ite_not]
    exact if_congr (by omega) rfl rfl

/-- The first head's output gradients. -/
theorem Rd.d0 (h : Rd (φ := .f32) w f) : Rd (k0_pay82 w) (lane 0 f) :=
  (Rd.sel mk_lane (h.trunc .bf16 bitsLt_bf16_f32) rd_zero16).congr fun r c _ hc => by
    unfold lane
    exact if_congr (by omega) rfl rfl

/-- The second head's output gradients. -/
theorem Rd.d1 (h : Rd (φ := .f32) w f) : Rd (k0_pay83 w) (lane 1 f) :=
  (Rd.sel mk_lane rd_zero16 (h.trunc .bf16 bitsLt_bf16_f32)).congr fun r c _ hc => by
    unfold lane
    rw [← ite_not]
    exact if_congr (by omega) rfl rfl

/-- The first head's totals. -/
theorem Rd.t0 (h : Rd (φ := .f32) w f) : Rd (k0_pay85 w) (fun r _ => f r 0) :=
  ((Rd.self h _).slice slices_S512x128_o0_0_S512x1).congr fun r c _ hc => by
    obtain rfl : c = 0 := by omega
    rw [Nat.zero_add]

/-- The second head's totals. -/
theorem Rd.t1 (h : Rd (φ := .f32) w f) : Rd (k0_pay86 w) (fun r _ => f r 64) :=
  ((Rd.self h _).slice slices_S512x128_o0_64_S512x1).congr fun r c _ hc => by
    obtain rfl : c = 0 := by omega
    rw [Nat.zero_add]

end Inputs

theorem eighth32 : Scalar.ofBits (F := Ideal) .f32 0x3E000000#32 = ((1 / 8 : ℝ) : EReal) := by
  show Ideal.ofBits _ _ = _
  simp [Ideal.ofBits, Ideal.ieee, -EReal.coe_mul]
  norm_num

theorem rd_z128 : Rd3 (k0_pay87 (F := Ideal)) (fun _ _ _ => 0) := fun _ _ _ =>
  Ideal.ofBits_zero_f32.trans EReal.coe_zero.symm

theorem rd_z1 : Rd3 (k0_pay88 (F := Ideal)) (fun _ _ _ => 0) := fun _ _ _ =>
  Ideal.ofBits_zero_f32.trans EReal.coe_zero.symm

theorem rd_z1' : Rd3 (k0_pay89 (F := Ideal)) (fun _ _ _ => 0) := fun _ _ _ =>
  Ideal.ofBits_zero_f32.trans EReal.coe_zero.symm

/-- Storing a whole stack leaves exactly the stored entries. -/
theorem Rd3.whole {A R C : ℕ} (v : View sig .tc .vmem ⟨3, ![A, R, C]⟩ .f32) {w : FVec Ideal ⟨3, ![A, R, C]⟩ .f32} {g : ℕ → ℕ → ℕ → ℝ}
    (hw : Rd3 w g) {m : v.ty.Contents (Elt Ideal)}
    {inb : ∀ x, (![0, 0, 0] : Fin 3 → ℕ) x + (![A, R, C] : Fin 3 → ℕ) x ≤ (![A, R, C] : Fin 3 → ℕ) x} :
    Rd3 (φ := .f32) (v.read (Elt Ideal) (v.writes (Elt Ideal) m
      [(⟨Rect.unit (s := ⟨3, ![A, R, C]⟩) ![0, 0, 0] ![A, R, C] inb, w⟩ : View.Piece (Elt Ideal) ⟨3, ![A, R, C]⟩ .f32)])) g := fun a r c => by
  refine (View.read_writes_cons_unit_of_mem v m inb w [] _ (ix3 a r c) rfl ?_).trans (hw a r c)
  intro x
  fin_cases x
  · exact (Nat.zero_add _).symm
  · exact (Nat.zero_add _).symm
  · exact (Nat.zero_add _).symm

/-- Storing a whole array of half-words leaves exactly the stored entries. -/
theorem Rd.whole {R C : ℕ} (v : View sig .tc .vmem ⟨2, ![R, C]⟩ .bf16) {w : FVec Ideal ⟨2, ![R, C]⟩ .bf16} {g : ℕ → ℕ → ℝ}
    (hw : Rd w g) (m : v.ty.Contents (Elt Ideal))
    (inb : ∀ x, (![0, 0] : Fin 2 → ℕ) x + (![R, C] : Fin 2 → ℕ) x ≤ (![R, C] : Fin 2 → ℕ) x) :
    Rd (φ := .bf16) (v.read (Elt Ideal) (v.writes (Elt Ideal) m
      [(⟨Rect.unit (s := ⟨2, ![R, C]⟩) ![0, 0] ![R, C] inb, w⟩ : View.Piece (Elt Ideal) ⟨2, ![R, C]⟩ .bf16)])) g := fun r c => by
  refine (View.read_writes_cons_unit_of_mem v m inb w [] _ (ix2 r c) rfl ?_).trans (hw r c)
  intro x
  fin_cases x
  · exact (Nat.zero_add _).symm
  · exact (Nat.zero_add _).symm

/-- What one grid point's windows hold: blocks of queries `Q`, output gradients `D` and totals, and the
    keys `K` and values `V` of the group. -/
structure Inputs (n N : ℕ) (Q D K V : ℕ → ℕ → ℝ) (x0 : Vec Ideal S512x128 .bf16) (x1 x2 : Vec Ideal S4096x128 .bf16) (x3 x4 : Vec Ideal S512x128 .f32) : Prop where
  iq : Rd (φ := .bf16) x0 (fun r c => Q (512 * n + r) c)
  ik : Rd (φ := .bf16) x1 K
  iv : Rd (φ := .bf16) x2 V
  id : Rd (φ := .f32) x3 (fun r c => D (512 * n + r) c)
  it : ∃ L : ℕ → ℕ → ℝ, Rd (φ := .f32) x4 L
    ∧ (∀ r, L r 0 = -cum (scores (lane 0 fun t c => Q t c * (1 / 8)) K) (512 * n + r) N)
    ∧ ∀ r, L r 64 = -cum (scores (lane 1 fun t c => Q t c * (1 / 8)) K) (512 * n + r) N

/-- The arguments of the loops of one grid point. -/
abbrev pt (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S2x512x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S2x512x1 .f32) (harg13 : arg13.IsWhole) (arg14 : Memref sig .tc .vmem S2x512x1 .f32) (harg14 : arg14.IsWhole) (x0 : Vec Ideal S512x128 .bf16) (x1 x2 : Vec Ideal S4096x128 .bf16) (x3 x4 : Vec Ideal S512x128 .f32) : Args where
  c := c
  i := i
  arg2 := arg2
  harg2 := harg2
  arg3 := arg3
  harg3 := harg3
  arg4 := arg4
  harg4 := harg4
  arg5 := arg5
  harg5 := harg5
  arg6 := arg6
  harg6 := harg6
  arg7 := arg7
  harg7 := harg7
  arg8 := arg8
  harg8 := harg8
  arg9 := arg9
  harg9 := harg9
  arg10 := arg10
  harg10 := harg10
  arg11 := arg11
  harg11 := harg11
  arg12 := arg12
  harg12 := harg12
  arg13 := arg13
  harg13 := harg13
  arg14 := arg14
  harg14 := harg14
  arg1 := (BitVec.ofNat 32 (i 1).val)
  v9 := k0_pay72
  v10 := k0_pay73
  v11 := (iota .tc S512x256 32 [0] iota_S512x256_d0_w32)
  v12 := (iota .tc S512x256 32 [1] iota_S512x256_d1_w32)
  v20 := (k0_pay77 (arg2.view.readAt (Elt Ideal) (Rect.unit (s := S512x128) ![0, 0] S512x128.size inbW).toLoadRect (harg2.unread x0)))
  v21 := (k0_pay78 (arg2.view.readAt (Elt Ideal) (Rect.unit (s := S512x128) ![0, 0] S512x128.size inbW).toLoadRect (harg2.unread x0)))
  v28 := (k0_pay82 (arg5.view.readAt (Elt Ideal) (Rect.unit (s := S512x128) ![0, 0] S512x128.size inbW).toLoadRect (harg5.unread x3)))
  v29 := (k0_pay83 (arg5.view.readAt (Elt Ideal) (Rect.unit (s := S512x128) ![0, 0] S512x128.size inbW).toLoadRect (harg5.unread x3)))
  v32 := (k0_pay85 (arg6.view.readAt (Elt Ideal) (Rect.unit (s := S512x128) ![0, 0] S512x128.size inbW).toLoadRect (harg6.unread x4)))
  v33 := (k0_pay86 (arg6.view.readAt (Elt Ideal) (Rect.unit (s := S512x128) ![0, 0] S512x128.size inbW).toLoadRect (harg6.unread x4)))
  v37 := k0_pay87
  X_arg3 := (harg3.unread x1)
  X_arg4 := (harg4.unread x2)

section Load

theorem Rd.block {v : Memref sig .tc .vmem S512x128 .bf16} {h : v.IsWhole} {x : Vec Ideal S512x128 .bf16} {f : ℕ → ℕ → ℝ}
    (hx : Rd (φ := .bf16) x f) :
    Rd (φ := .bf16) (v.view.readAt (Elt Ideal) (Rect.unit (s := S512x128) ![0, 0] S512x128.size inbW).toLoadRect (h.unread x)) f :=
  (Rd.load (X := v.view.read (Elt Ideal) (h.unread x)) (by rw [h.read_unread]; exact hx) rfl inbW).congr fun _ _ _ _ => by
    rw [Nat.zero_add, Nat.zero_add]

theorem Rd.block' {v : Memref sig .tc .vmem S512x128 .f32} {h : v.IsWhole} {x : Vec Ideal S512x128 .f32} {f : ℕ → ℕ → ℝ}
    (hx : Rd (φ := .f32) x f) :
    Rd (φ := .f32) (v.view.readAt (Elt Ideal) (Rect.unit (s := S512x128) ![0, 0] S512x128.size inbW).toLoadRect (h.unread x)) f :=
  (Rd.load (X := v.view.read (Elt Ideal) (h.unread x)) (by rw [h.read_unread]; exact hx) rfl inbW).congr fun _ _ _ _ => by
    rw [Nat.zero_add, Nat.zero_add]

end Load

section Point

variable {c : Dev nD} {i : grid0.Coords} {arg2 : Memref sig .tc .vmem S512x128 .bf16} {harg2 : arg2.IsWhole} {arg3 : Memref sig .tc .vmem S4096x128 .bf16} {harg3 : arg3.IsWhole} {arg4 : Memref sig .tc .vmem S4096x128 .bf16} {harg4 : arg4.IsWhole} {arg5 : Memref sig .tc .vmem S512x128 .f32} {harg5 : arg5.IsWhole} {arg6 : Memref sig .tc .vmem S512x128 .f32} {harg6 : arg6.IsWhole} {arg7 : Memref sig .tc .vmem S512x128 .bf16} {harg7 : arg7.IsWhole} {arg8 : Memref sig .tc .vmem S4096x128 .bf16} {harg8 : arg8.IsWhole} {arg9 : Memref sig .tc .vmem S4096x128 .bf16} {harg9 : arg9.IsWhole} {arg10 : Memref sig .tc .vmem S2x512x128 .f32} {harg10 : arg10.IsWhole} {arg11 : Memref sig .tc .vmem S4096x128 .f32} {harg11 : arg11.IsWhole} {arg12 : Memref sig .tc .vmem S4096x128 .f32} {harg12 : arg12.IsWhole} {arg13 : Memref sig .tc .vmem S2x512x1 .f32} {harg13 : arg13.IsWhole} {arg14 : Memref sig .tc .vmem S2x512x1 .f32} {harg14 : arg14.IsWhole}
variable {x0 : Vec Ideal S512x128 .bf16} {x1 x2 : Vec Ideal S4096x128 .bf16} {x3 x4 : Vec Ideal S512x128 .f32}
variable {N : ℕ} {Q D K V : ℕ → ℕ → ℝ} (hi : Inputs (i 1).val N Q D K V x0 x1 x2 x3 x4)

include hi in
/-- The loops' arguments hold what they should. -/
theorem Inputs.ok : (pt c i arg2 harg2 arg3 harg3 arg4 harg4 arg5 harg5 arg6 harg6 arg7 harg7 arg8 harg8 arg9 harg9 arg10 harg10 arg11 harg11 arg12 harg12 arg13 harg13 arg14 harg14 x0 x1 x2 x3 x4).Ok N (fun a => lane a fun t c => Q t c * (1 / 8))
    (fun a => lane a D) K V where
  tri := rd_upper
  tri2 := rd_upper2
  hq0 := hi.iq.block.q0
  hq1 := hi.iq.block.q1
  hd0 := hi.id.block'.d0
  hd1 := hi.id.block'.d1
  tot0 := by
    obtain ⟨L, h, h0, _⟩ := hi.it
    exact h.block'.t0.congr fun r _ _ _ => h0 r
  tot1 := by
    obtain ⟨L, h, _, h1⟩ := hi.it
    exact h.block'.t1.congr fun r _ _ _ => h1 r
  hK := by rw [harg3.read_unread]; exact hi.ik
  hV := by rw [harg4.read_unread]; exact hi.iv

theorem pt_iota : (pt c i arg2 harg2 arg3 harg3 arg4 harg4 arg5 harg5 arg6 harg6 arg7 harg7 arg8 harg8 arg9 harg9 arg10 harg10 arg11 harg11 arg12 harg12 arg13 harg13 arg14 harg14 x0 x1 x2 x3 x4).Iota where
  rows := Wd.row iota_S512x256_d0_w32
  cols := Wd.col iota_S512x256_d1_w32

end Point

namespace Args

variable {A : Args} {N : ℕ} {q d : ℕ → ℕ → ℕ → ℝ} {K V g1 g2 : ℕ → ℕ → ℝ}
variable {m10 G10 : BufTy.Contents (Elt Ideal) A.arg10.view.ty} {H10 L10 : List (View.Piece (Elt Ideal) S2x512x128 .f32)}
variable {m11 G11 : BufTy.Contents (Elt Ideal) A.arg11.view.ty} {H11 L11 : List (View.Piece (Elt Ideal) S4096x128 .f32)}
variable {m12 G12 : BufTy.Contents (Elt Ideal) A.arg12.view.ty} {H12 L12 : List (View.Piece (Elt Ideal) S4096x128 .f32)}
variable {m13 G13 : BufTy.Contents (Elt Ideal) A.arg13.view.ty} {H13 L13 : List (View.Piece (Elt Ideal) S2x512x1 .f32)}
variable {m14 G14 : BufTy.Contents (Elt Ideal) A.arg14.view.ty} {H14 L14 : List (View.Piece (Elt Ideal) S2x512x1 .f32)}

/-- The stores of the remainder loop. -/
abbrev rest (A : Args) (v51 : BitVec 32) (G10 : BufTy.Contents (Elt Ideal) A.arg10.view.ty) (G11 : BufTy.Contents (Elt Ideal) A.arg11.view.ty) (G12 : BufTy.Contents (Elt Ideal) A.arg12.view.ty) (G13 : BufTy.Contents (Elt Ideal) A.arg13.view.ty) (G14 : BufTy.Contents (Elt Ideal) A.arg14.view.ty) :=
  pb_k0_t2 (F := Ideal) Variants.none A.c none A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg1 A.v9 A.v10 A.v11 A.v12 A.v20 A.v21 A.v28 A.v29 A.v32 A.v33 A.v37 v51 A.X_arg3 A.X_arg4 G10 G11 G12 G13 G14 (k0_t2_loop A.i).trips

theorem rest_nil (v51 : BitVec 32) : A.rest v51 G10 G11 G12 G13 G14 = ([], [], [], [], []) := by
  have h : ∀ n, n = 0 → pb_k0_t2 (F := Ideal) Variants.none A.c none A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg1 A.v9 A.v10 A.v11 A.v12 A.v20 A.v21 A.v28 A.v29 A.v32 A.v33 A.v37 v51 A.X_arg3 A.X_arg4 G10 G11 G12 G13 G14 n = ([], [], [], [], []) := by
    rintro n rfl
    rfl
  exact h _ (trips_rest _)

/-- The running arrays are empty before the first trip. -/
theorem inv_zero (h1 : Rd (φ := .f32) (A.arg11.view.read (Elt Ideal) G11) g1) (h2 : Rd (φ := .f32) (A.arg12.view.read (Elt Ideal) G12) g2) :
    A.Inv N q d K V g1 g2 0
      (A.arg10.view.writes (Elt Ideal) m10 [(⟨Rect.unit (s := S2x512x128) ![0, 0, 0] S2x512x128.size inbS, k0_pay87 (F := Ideal)⟩ : View.Piece (Elt Ideal) S2x512x128 .f32)]) G11 G12
      (A.arg13.view.writes (Elt Ideal) m13 [(⟨Rect.unit (s := S2x512x1) ![0, 0, 0] S2x512x1.size inbS, k0_pay88 (F := Ideal)⟩ : View.Piece (Elt Ideal) S2x512x1 .f32)])
      (A.arg14.view.writes (Elt Ideal) m14 [(⟨Rect.unit (s := S2x512x1) ![0, 0, 0] S2x512x1.size inbS, k0_pay89 (F := Ideal)⟩ : View.Piece (Elt Ideal) S2x512x1 .f32)]) where
  iq := (Rd3.whole _ rd_z128).congr fun _ _ _ _ _ _ => (sum_range_zero _).symm
  ik := h1.congr fun _ _ _ _ => by simp
  iv := h2.congr fun _ _ _ _ => by simp
  il := (Rd3.whole _ rd_z1).congr fun _ _ _ _ _ _ => (sum_range_zero _).symm
  ip := (Rd3.whole _ rd_z1').congr fun _ _ _ _ _ _ => (sum_range_zero _).symm

/-- The running arrays after both loops, from gradients already begun. -/
theorem Inv.after (ok : A.Ok N q d K V) (h : A.Inv N q d K V g1 g2 0 (A.arg10.view.writes (Elt Ideal) m10 H10) G11 G12 (A.arg13.view.writes (Elt Ideal) m13 H13) (A.arg14.view.writes (Elt Ideal) m14 H14))
    {P2 : List (View.Piece (Elt Ideal) S2x512x128 .f32) × List (View.Piece (Elt Ideal) S4096x128 .f32) × List (View.Piece (Elt Ideal) S4096x128 .f32)
      × List (View.Piece (Elt Ideal) S2x512x1 .f32) × List (View.Piece (Elt Ideal) S2x512x1 .f32)} (e : P2 = ([], [], [], [], [])) :
    A.Inv N q d K V g1 g2 A.row
      (A.arg10.view.writes (Elt Ideal) m10 (P2.1 ++ ((A.pieces (A.arg10.view.writes (Elt Ideal) m10 H10) G11 G12 (A.arg13.view.writes (Elt Ideal) m13 H13) (A.arg14.view.writes (Elt Ideal) m14 H14) (k0_t1_loop A.i).trips).1 ++ H10)))
      (A.arg11.view.writes (Elt Ideal) G11 (P2.2.1 ++ (A.pieces (A.arg10.view.writes (Elt Ideal) m10 H10) G11 G12 (A.arg13.view.writes (Elt Ideal) m13 H13) (A.arg14.view.writes (Elt Ideal) m14 H14) (k0_t1_loop A.i).trips).2.1))
      (A.arg12.view.writes (Elt Ideal) G12 (P2.2.2.1 ++ (A.pieces (A.arg10.view.writes (Elt Ideal) m10 H10) G11 G12 (A.arg13.view.writes (Elt Ideal) m13 H13) (A.arg14.view.writes (Elt Ideal) m14 H14) (k0_t1_loop A.i).trips).2.2.1))
      (A.arg13.view.writes (Elt Ideal) m13 (P2.2.2.2.1 ++ ((A.pieces (A.arg10.view.writes (Elt Ideal) m10 H10) G11 G12 (A.arg13.view.writes (Elt Ideal) m13 H13) (A.arg14.view.writes (Elt Ideal) m14 H14) (k0_t1_loop A.i).trips).2.2.2.1 ++ H13)))
      (A.arg14.view.writes (Elt Ideal) m14 (P2.2.2.2.2 ++ ((A.pieces (A.arg10.view.writes (Elt Ideal) m10 H10) G11 G12 (A.arg13.view.writes (Elt Ideal) m13 H13) (A.arg14.view.writes (Elt Ideal) m14 H14) (k0_t1_loop A.i).trips).2.2.2.2 ++ H14))) := by
  subst e
  have p := h.sweep ok _ le_rfl
  have er : 256 * (k0_t1_loop A.i).trips = A.row := by
    rw [trips_lower]
    show 256 * (2 * (A.i 1).val) = 512 * (A.i 1).val
    omega
  rw [er] at p
  simp only [List.nil_append, View.writes_append]
  exact p

/-- The running arrays after both loops, from gradients set at this grid point. -/
theorem Inv.afterInit (ok : A.Ok N q d K V) (h : A.Inv N q d K V g1 g2 0 (A.arg10.view.writes (Elt Ideal) m10 H10) (A.arg11.view.writes (Elt Ideal) m11 H11) (A.arg12.view.writes (Elt Ideal) m12 H12) (A.arg13.view.writes (Elt Ideal) m13 H13) (A.arg14.view.writes (Elt Ideal) m14 H14))
    {P2 : List (View.Piece (Elt Ideal) S2x512x128 .f32) × List (View.Piece (Elt Ideal) S4096x128 .f32) × List (View.Piece (Elt Ideal) S4096x128 .f32)
      × List (View.Piece (Elt Ideal) S2x512x1 .f32) × List (View.Piece (Elt Ideal) S2x512x1 .f32)} (e : P2 = ([], [], [], [], [])) :
    A.Inv N q d K V g1 g2 A.row
      (A.arg10.view.writes (Elt Ideal) m10 (P2.1 ++ ((A.pieces (A.arg10.view.writes (Elt Ideal) m10 H10) (A.arg11.view.writes (Elt Ideal) m11 H11) (A.arg12.view.writes (Elt Ideal) m12 H12) (A.arg13.view.writes (Elt Ideal) m13 H13) (A.arg14.view.writes (Elt Ideal) m14 H14) (k0_t1_loop A.i).trips).1 ++ H10)))
      (A.arg11.view.writes (Elt Ideal) m11 (P2.2.1 ++ ((A.pieces (A.arg10.view.writes (Elt Ideal) m10 H10) (A.arg11.view.writes (Elt Ideal) m11 H11) (A.arg12.view.writes (Elt Ideal) m12 H12) (A.arg13.view.writes (Elt Ideal) m13 H13) (A.arg14.view.writes (Elt Ideal) m14 H14) (k0_t1_loop A.i).trips).2.1 ++ H11)))
      (A.arg12.view.writes (Elt Ideal) m12 (P2.2.2.1 ++ ((A.pieces (A.arg10.view.writes (Elt Ideal) m10 H10) (A.arg11.view.writes (Elt Ideal) m11 H11) (A.arg12.view.writes (Elt Ideal) m12 H12) (A.arg13.view.writes (Elt Ideal) m13 H13) (A.arg14.view.writes (Elt Ideal) m14 H14) (k0_t1_loop A.i).trips).2.2.1 ++ H12)))
      (A.arg13.view.writes (Elt Ideal) m13 (P2.2.2.2.1 ++ ((A.pieces (A.arg10.view.writes (Elt Ideal) m10 H10) (A.arg11.view.writes (Elt Ideal) m11 H11) (A.arg12.view.writes (Elt Ideal) m12 H12) (A.arg13.view.writes (Elt Ideal) m13 H13) (A.arg14.view.writes (Elt Ideal) m14 H14) (k0_t1_loop A.i).trips).2.2.2.1 ++ H13)))
      (A.arg14.view.writes (Elt Ideal) m14 (P2.2.2.2.2 ++ ((A.pieces (A.arg10.view.writes (Elt Ideal) m10 H10) (A.arg11.view.writes (Elt Ideal) m11 H11) (A.arg12.view.writes (Elt Ideal) m12 H12) (A.arg13.view.writes (Elt Ideal) m13 H13) (A.arg14.view.writes (Elt Ideal) m14 H14) (k0_t1_loop A.i).trips).2.2.2.2 ++ H14))) := by
  subst e
  have p := h.sweep ok _ le_rfl
  have er : 256 * (k0_t1_loop A.i).trips = A.row := by
    rw [trips_lower]
    show 256 * (2 * (A.i 1).val) = 512 * (A.i 1).val
    omega
  rw [er] at p
  simp only [List.nil_append, View.writes_append]
  exact p

section Finish

variable (ok : A.Ok N q d K V) (io : A.Iota)
variable (h : A.Inv N q d K V g1 g2 A.row
      (A.arg10.view.writes (Elt Ideal) m10 L10) (A.arg11.view.writes (Elt Ideal) m11 L11) (A.arg12.view.writes (Elt Ideal) m12 L12) (A.arg13.view.writes (Elt Ideal) m13 L13) (A.arg14.view.writes (Elt Ideal) m14 L14))
include ok io h

/-- The query gradients at the end of a grid point. -/
theorem Inv.finish_q : Rd3 (φ := .f32) (A.arg10.view.read (Elt Ideal) (A.arg10.view.writes (Elt Ideal) m10
      (A.list10d m10 (A.arg13.view.writes (Elt Ideal) m13 (A.list13 (A.arg13.view.writes (Elt Ideal) m13 L13) L13)) (A.arg14.view.writes (Elt Ideal) m14 (A.list14 (A.arg13.view.writes (Elt Ideal) m13 L13) (A.arg14.view.writes (Elt Ideal) m14 L14) L14)) (A.list10c m10 (A.arg13.view.writes (Elt Ideal) m13 (A.list13 (A.arg13.view.writes (Elt Ideal) m13 L13) L13)) (A.arg14.view.writes (Elt Ideal) m14 (A.list14 (A.arg13.view.writes (Elt Ideal) m13 L13) (A.arg14.view.writes (Elt Ideal) m14 L14) L14)) (A.list10b m10 (A.arg13.view.writes (Elt Ideal) m13 L13) (A.arg14.view.writes (Elt Ideal) m14 L14) (A.list10a m10 (A.arg13.view.writes (Elt Ideal) m13 L13) (A.arg14.view.writes (Elt Ideal) m14 L14) L10))))))
    (fun a r c => ∑ s ∈ range (A.row + 512), dz N (scores (q a) K) (scores (d a) V) (A.row + r) s * K s c) :=
  diag1_10 ok io (diag0_13 ok io h.il h.ip m13) (diag0_14 ok io h.il h.ip m14) (diag0_10 ok io h.il h.ip h.iq)

/-- The key gradients at the end of a grid point. -/
theorem Inv.finish_k : Rd (φ := .f32) (A.arg11.view.read (Elt Ideal) (A.arg11.view.writes (Elt Ideal) m11
      (A.list11b m11 (A.arg13.view.writes (Elt Ideal) m13 (A.list13 (A.arg13.view.writes (Elt Ideal) m13 L13) L13)) (A.arg14.view.writes (Elt Ideal) m14 (A.list14 (A.arg13.view.writes (Elt Ideal) m13 L13) (A.arg14.view.writes (Elt Ideal) m14 L14) L14)) (A.list11a m11 (A.arg13.view.writes (Elt Ideal) m13 L13) (A.arg14.view.writes (Elt Ideal) m14 L14) L11))))
    (fun s c => g1 s c + if s < A.row + 512 then
      ∑ a ∈ range 2, ∑ r ∈ range 512, dz N (scores (q a) K) (scores (d a) V) (A.row + r) s * q a (A.row + r) c else 0) :=
  diag1_11 ok io (diag0_13 ok io h.il h.ip m13) (diag0_14 ok io h.il h.ip m14) (diag0_11 ok io h.il h.ip h.ik)

/-- The value gradients at the end of a grid point. -/
theorem Inv.finish_v : Rd (φ := .f32) (A.arg12.view.read (Elt Ideal) (A.arg12.view.writes (Elt Ideal) m12
      (A.list12b m12 (A.arg13.view.writes (Elt Ideal) m13 (A.list13 (A.arg13.view.writes (Elt Ideal) m13 L13) L13)) (A.list12a m12 (A.arg13.view.writes (Elt Ideal) m13 L13) L12))))
    (fun s c => g2 s c + if s < A.row + 512 then
      ∑ a ∈ range 2, ∑ r ∈ range 512, att N (scores (q a) K) (A.row + r) s * d a (A.row + r) c else 0) :=
  diag1_12 ok io (diag0_13 ok io h.il h.ip m13) (diag0_14 (L14 := L14) ok io h.il h.ip m14) (diag0_12 ok io h.il h.ip h.iv)

end Finish

/-- The block of query gradients a grid point gives back: each head's columns, scaled. -/
theorem rd_dq {f : BufTy.Contents (Elt Ideal) A.arg10.view.ty} {g : ℕ → ℕ → ℕ → ℝ} (h : Rd3 (φ := .f32) (A.arg10.view.read (Elt Ideal) f) g)
    (v : View sig .tc .vmem S512x128 .bf16) (m : v.ty.Contents (Elt Ideal)) :
    Rd (φ := .bf16) (v.read (Elt Ideal) (v.writes (Elt Ideal) m [(⟨Rect.unit (s := S512x128) ![0, 0] ![512, 128] inbW, k0_pay1 (k0_pay179 k0_pay75
        (A.arg10.view.readAt (Elt Ideal) (Rect.unit (s := S2x512x128) ![0, 0, 0] S1x512x128.size inb0).toLoadRect f)
        (A.arg10.view.readAt (Elt Ideal) (Rect.unit (s := S2x512x128) ![1, 0, 0] S1x512x128.size inb1).toLoadRect f))⟩ : View.Piece (Elt Ideal) S512x128 .bf16)]))
      (fun r c => g (c / 64) r c * (1 / 8)) := by
  have b : Rd (φ := .bf16) (k0_pay1 (k0_pay179 k0_pay75
        (A.arg10.view.readAt (Elt Ideal) (Rect.unit (s := S2x512x128) ![0, 0, 0] S1x512x128.size inb0).toLoadRect f)
        (A.arg10.view.readAt (Elt Ideal) (Rect.unit (s := S2x512x128) ![1, 0, 0] S1x512x128.size inb1).toLoadRect f)))
      (fun r c => g (c / 64) r c * (1 / 8)) :=
    (((Rd.sel mk_lane (h.layer 0 inb0).flat512x128 (h.layer 1 inb1).flat512x128).mul (Rd.splat eighth32)).trunc _ _).congr fun r c _ hc => by
      by_cases hl : c < 64
      · rw [if_pos hl, show c / 64 = 0 by omega]
      · rw [if_neg hl, show c / 64 = 1 by omega]
  exact Rd.whole v b m inbW

end Args

end Cert.Stick
-- ==== Proof.Adds.lean ====
/- What a block of queries adds to the gradients, in the terms of one group of two heads. -/
module

public import proofs.«01_k».proof.Proof.Body

@[expose] public section

noncomputable section

namespace Cert.Stick

open Finset

/-- The gradient of the scores of head `a`. -/
abbrev dS (N : ℕ) (Q D K V : ℕ → ℕ → ℝ) (a t s : ℕ) : ℝ :=
  dz N (scores (lane a fun t c => Q t c * (1 / 8)) K) (scores (lane a D) V) t s

/-- The attention of head `a`. -/
abbrev aS (N : ℕ) (Q K : ℕ → ℕ → ℝ) (a t s : ℕ) : ℝ := att N (scores (lane a fun t c => Q t c * (1 / 8)) K) t s

/-- What a block of queries adds to the key gradients. -/
abbrev addK (N : ℕ) (Q D K V : ℕ → ℕ → ℝ) (n s c : ℕ) : ℝ :=
  ∑ a ∈ range 2, ∑ r ∈ range 512, dS N Q D K V a (512 * n + r) s * lane a (fun t c => Q t c * (1 / 8)) (512 * n + r) c

/-- What a block of queries adds to the value gradients. -/
abbrev addV (N : ℕ) (Q D K : ℕ → ℕ → ℝ) (n s c : ℕ) : ℝ :=
  ∑ a ∈ range 2, ∑ r ∈ range 512, aS N Q K a (512 * n + r) s * lane a D (512 * n + r) c

end Cert.Stick
-- ==== Proof.PointA.lean ====
/- One grid point of the kernel: the first block of queries of a group. -/
module

public import proofs.«01_k».proof.Proof.Gen.KernelIdeal.Frame.RunA
public import proofs.«01_k».proof.Proof.Adds

@[expose] public section

set_option maxRecDepth 16384

noncomputable section

namespace Cert.Stick

open Finset Idealize.ShloMosaic Idealize.SL.Sem Cert.KernelIdeal Cert.KernelIdeal.Gen

namespace Args

/-- What the loop over the blocks of keys below the diagonal stores. -/
def preA (A : Args) : List (View.Piece (Elt Ideal) S2x512x128 .f32) × List (View.Piece (Elt Ideal) S4096x128 .f32) × List (View.Piece (Elt Ideal) S4096x128 .f32) × List (View.Piece (Elt Ideal) S2x512x1 .f32) × List (View.Piece (Elt Ideal) S2x512x1 .f32) :=
  A.pieces (A.arg10.view.writes (Elt Ideal) A.arg10.view.junk [(⟨Rect.unit (s := S2x512x128) ![0, 0, 0] S2x512x128.size inbS, k0_pay87 (F := Ideal)⟩ : View.Piece (Elt Ideal) S2x512x128 .f32)]) (A.arg11.view.writes (Elt Ideal) A.arg11.view.junk [(⟨Rect.unit (s := S4096x128) ![0, 0] S4096x128.size inb_S4096x128_S4096x128_0_0, k0_pay70 (F := Ideal)⟩ : View.Piece (Elt Ideal) S4096x128 .f32)]) (A.arg12.view.writes (Elt Ideal) A.arg12.view.junk [(⟨Rect.unit (s := S4096x128) ![0, 0] S4096x128.size inb_S4096x128_S4096x128_0_0, k0_pay71 (F := Ideal)⟩ : View.Piece (Elt Ideal) S4096x128 .f32)]) (A.arg13.view.writes (Elt Ideal) A.arg13.view.junk [(⟨Rect.unit (s := S2x512x1) ![0, 0, 0] S2x512x1.size inbS, k0_pay88 (F := Ideal)⟩ : View.Piece (Elt Ideal) S2x512x1 .f32)]) (A.arg14.view.writes (Elt Ideal) A.arg14.view.junk [(⟨Rect.unit (s := S2x512x1) ![0, 0, 0] S2x512x1.size inbS, k0_pay89 (F := Ideal)⟩ : View.Piece (Elt Ideal) S2x512x1 .f32)]) (k0_t1_loop A.i).trips

/-- What the loop over the remaining blocks of keys stores. -/
def postA (A : Args) : List (View.Piece (Elt Ideal) S2x512x128 .f32) × List (View.Piece (Elt Ideal) S4096x128 .f32) × List (View.Piece (Elt Ideal) S4096x128 .f32) × List (View.Piece (Elt Ideal) S2x512x1 .f32) × List (View.Piece (Elt Ideal) S2x512x1 .f32) :=
  A.rest (kernelRun0_A.sl.v51 A.i) (A.arg10.view.writes (Elt Ideal) A.arg10.view.junk ((A.preA).1 ++ [(⟨Rect.unit (s := S2x512x128) ![0, 0, 0] S2x512x128.size inbS, k0_pay87 (F := Ideal)⟩ : View.Piece (Elt Ideal) S2x512x128 .f32)])) (A.arg11.view.writes (Elt Ideal) A.arg11.view.junk ((A.preA).2.1 ++ [(⟨Rect.unit (s := S4096x128) ![0, 0] S4096x128.size inb_S4096x128_S4096x128_0_0, k0_pay70 (F := Ideal)⟩ : View.Piece (Elt Ideal) S4096x128 .f32)])) (A.arg12.view.writes (Elt Ideal) A.arg12.view.junk ((A.preA).2.2.1 ++ [(⟨Rect.unit (s := S4096x128) ![0, 0] S4096x128.size inb_S4096x128_S4096x128_0_0, k0_pay71 (F := Ideal)⟩ : View.Piece (Elt Ideal) S4096x128 .f32)])) (A.arg13.view.writes (Elt Ideal) A.arg13.view.junk ((A.preA).2.2.2.1 ++ [(⟨Rect.unit (s := S2x512x1) ![0, 0, 0] S2x512x1.size inbS, k0_pay88 (F := Ideal)⟩ : View.Piece (Elt Ideal) S2x512x1 .f32)])) (A.arg14.view.writes (Elt Ideal) A.arg14.view.junk ((A.preA).2.2.2.2 ++ [(⟨Rect.unit (s := S2x512x1) ![0, 0, 0] S2x512x1.size inbS, k0_pay89 (F := Ideal)⟩ : View.Piece (Elt Ideal) S2x512x1 .f32)]))

/-- What is stored to the query gradients before the diagonal. -/
abbrev l10A (A : Args) : List (View.Piece (Elt Ideal) S2x512x128 .f32) := ((A.postA).1 ++ ((A.preA).1 ++ [(⟨Rect.unit (s := S2x512x128) ![0, 0, 0] S2x512x128.size inbS, k0_pay87 (F := Ideal)⟩ : View.Piece (Elt Ideal) S2x512x128 .f32)]))

/-- What is stored to the key gradients before the diagonal. -/
abbrev l11A (A : Args) : List (View.Piece (Elt Ideal) S4096x128 .f32) := ((A.postA).2.1 ++ ((A.preA).2.1 ++ [(⟨Rect.unit (s := S4096x128) ![0, 0] S4096x128.size inb_S4096x128_S4096x128_0_0, k0_pay70 (F := Ideal)⟩ : View.Piece (Elt Ideal) S4096x128 .f32)]))

/-- What is stored to the value gradients before the diagonal. -/
abbrev l12A (A : Args) : List (View.Piece (Elt Ideal) S4096x128 .f32) := ((A.postA).2.2.1 ++ ((A.preA).2.2.1 ++ [(⟨Rect.unit (s := S4096x128) ![0, 0] S4096x128.size inb_S4096x128_S4096x128_0_0, k0_pay71 (F := Ideal)⟩ : View.Piece (Elt Ideal) S4096x128 .f32)]))

/-- What is stored to the running score sums before the diagonal. -/
abbrev l13A (A : Args) : List (View.Piece (Elt Ideal) S2x512x1 .f32) := ((A.postA).2.2.2.1 ++ ((A.preA).2.2.2.1 ++ [(⟨Rect.unit (s := S2x512x1) ![0, 0, 0] S2x512x1.size inbS, k0_pay88 (F := Ideal)⟩ : View.Piece (Elt Ideal) S2x512x1 .f32)]))

/-- What is stored to the running response sums before the diagonal. -/
abbrev l14A (A : Args) : List (View.Piece (Elt Ideal) S2x512x1 .f32) := ((A.postA).2.2.2.2 ++ ((A.preA).2.2.2.2 ++ [(⟨Rect.unit (s := S2x512x1) ![0, 0, 0] S2x512x1.size inbS, k0_pay89 (F := Ideal)⟩ : View.Piece (Elt Ideal) S2x512x1 .f32)]))

/-- The running score sums before the diagonal. -/
abbrev f13A (A : Args) : BufTy.Contents (Elt Ideal) A.arg13.view.ty := (A.arg13.view.writes (Elt Ideal) A.arg13.view.junk (A.l13A))

/-- The running response sums before the diagonal. -/
abbrev f14A (A : Args) : BufTy.Contents (Elt Ideal) A.arg14.view.ty := (A.arg14.view.writes (Elt Ideal) A.arg14.view.junk (A.l14A))

/-- The running score sums before diagonal block 1. -/
abbrev g13A (A : Args) : BufTy.Contents (Elt Ideal) A.arg13.view.ty := (A.arg13.view.writes (Elt Ideal) A.arg13.view.junk (A.list13 (A.f13A) (A.l13A)))

/-- The running response sums before diagonal block 1. -/
abbrev g14A (A : Args) : BufTy.Contents (Elt Ideal) A.arg14.view.ty := (A.arg14.view.writes (Elt Ideal) A.arg14.view.junk (A.list14 (A.f13A) (A.f14A) (A.l14A)))

/-- The query gradients stored up to the diagonal, step a. -/
abbrev l10aA (A : Args) : List (View.Piece (Elt Ideal) S2x512x128 .f32) := A.list10a A.arg10.view.junk (A.f13A) (A.f14A) (A.l10A)

/-- The query gradients stored up to the diagonal, step b. -/
abbrev l10bA (A : Args) : List (View.Piece (Elt Ideal) S2x512x128 .f32) := A.list10b A.arg10.view.junk (A.f13A) (A.f14A) (A.l10aA)

/-- The query gradients stored up to the diagonal, step c. -/
abbrev l10cA (A : Args) : List (View.Piece (Elt Ideal) S2x512x128 .f32) := A.list10c A.arg10.view.junk (A.g13A) (A.g14A) (A.l10bA)

/-- The query gradients stored up to the diagonal, step d. -/
abbrev l10dA (A : Args) : List (View.Piece (Elt Ideal) S2x512x128 .f32) := A.list10d A.arg10.view.junk (A.g13A) (A.g14A) (A.l10cA)

/-- The key gradients stored up to diagonal block 0. -/
abbrev l11aA (A : Args) : List (View.Piece (Elt Ideal) S4096x128 .f32) := A.list11a A.arg11.view.junk (A.f13A) (A.f14A) (A.l11A)

/-- The key gradients stored up to diagonal block 1. -/
abbrev l11bA (A : Args) : List (View.Piece (Elt Ideal) S4096x128 .f32) := A.list11b A.arg11.view.junk (A.g13A) (A.g14A) (A.l11aA)

/-- The value gradients stored up to diagonal block 0. -/
abbrev l12aA (A : Args) : List (View.Piece (Elt Ideal) S4096x128 .f32) := A.list12a A.arg12.view.junk (A.f13A) (A.l12A)

/-- The value gradients stored up to diagonal block 1. -/
abbrev l12bA (A : Args) : List (View.Piece (Elt Ideal) S4096x128 .f32) := A.list12b A.arg12.view.junk (A.g13A) (A.l12aA)

variable {A : Args} {N : ℕ} {q d : ℕ → ℕ → ℕ → ℝ} {K V g1 g2 : ℕ → ℕ → ℝ}

theorem rd_zero70 : Rd (k0_pay70 (F := Ideal)) (fun _ _ => 0) := fun _ _ => Ideal.ofBits_zero_f32.trans EReal.coe_zero.symm

theorem rd_zero71 : Rd (k0_pay71 (F := Ideal)) (fun _ _ => 0) := fun _ _ => Ideal.ofBits_zero_f32.trans EReal.coe_zero.symm

/-- Storing a whole array leaves exactly the stored entries. -/
theorem whole32 {R C : ℕ} (v : View sig .tc .vmem ⟨2, ![R, C]⟩ .f32) {w : FVec Ideal ⟨2, ![R, C]⟩ .f32} {g : ℕ → ℕ → ℝ}
    (hw : Rd w g) (m : v.ty.Contents (Elt Ideal))
    (inb : ∀ x, (![0, 0] : Fin 2 → ℕ) x + (![R, C] : Fin 2 → ℕ) x ≤ (![R, C] : Fin 2 → ℕ) x) :
    Rd (φ := .f32) (v.read (Elt Ideal) (v.writes (Elt Ideal) m
      [(⟨Rect.unit (s := ⟨2, ![R, C]⟩) ![0, 0] ![R, C] inb, w⟩ : View.Piece (Elt Ideal) ⟨2, ![R, C]⟩ .f32)])) g := fun r c => by
  refine (View.read_writes_cons_unit_of_mem v m inb w [] _ (ix2 r c) rfl ?_).trans (hw r c)
  intro x
  fin_cases x
  · exact (Nat.zero_add _).symm
  · exact (Nat.zero_add _).symm

/-- The key gradients begin at zero. -/
theorem rd_init1 (A : Args) : Rd (φ := .f32) (A.arg11.view.read (Elt Ideal) (A.arg11.view.writes (Elt Ideal) A.arg11.view.junk [(⟨Rect.unit (s := S4096x128) ![0, 0] S4096x128.size inb_S4096x128_S4096x128_0_0, k0_pay70 (F := Ideal)⟩ : View.Piece (Elt Ideal) S4096x128 .f32)])) (fun _ _ => 0) :=
  whole32 _ rd_zero70 _ inb_S4096x128_S4096x128_0_0

/-- The value gradients begin at zero. -/
theorem rd_init2 (A : Args) : Rd (φ := .f32) (A.arg12.view.read (Elt Ideal) (A.arg12.view.writes (Elt Ideal) A.arg12.view.junk [(⟨Rect.unit (s := S4096x128) ![0, 0] S4096x128.size inb_S4096x128_S4096x128_0_0, k0_pay71 (F := Ideal)⟩ : View.Piece (Elt Ideal) S4096x128 .f32)])) (fun _ _ => 0) :=
  whole32 _ rd_zero71 _ inb_S4096x128_S4096x128_0_0

/-- The running arrays after both loops. -/
theorem invA (ok : A.Ok N q d K V) :
    A.Inv N q d K V (fun _ _ => 0) (fun _ _ => 0) A.row (A.arg10.view.writes (Elt Ideal) A.arg10.view.junk (A.l10A)) (A.arg11.view.writes (Elt Ideal) A.arg11.view.junk (A.l11A)) (A.arg12.view.writes (Elt Ideal) A.arg12.view.junk (A.l12A)) (A.f13A) (A.f14A) :=
  (inv_zero (A := A) (m10 := A.arg10.view.junk) (m13 := A.arg13.view.junk) (m14 := A.arg14.view.junk) (G11 := (A.arg11.view.writes (Elt Ideal) A.arg11.view.junk [(⟨Rect.unit (s := S4096x128) ![0, 0] S4096x128.size inb_S4096x128_S4096x128_0_0, k0_pay70 (F := Ideal)⟩ : View.Piece (Elt Ideal) S4096x128 .f32)])) (G12 := (A.arg12.view.writes (Elt Ideal) A.arg12.view.junk [(⟨Rect.unit (s := S4096x128) ![0, 0] S4096x128.size inb_S4096x128_S4096x128_0_0, k0_pay71 (F := Ideal)⟩ : View.Piece (Elt Ideal) S4096x128 .f32)])) (Args.rd_init1 A) (Args.rd_init2 A)).afterInit ok
    (rest_nil (A := A) (G10 := (A.arg10.view.writes (Elt Ideal) A.arg10.view.junk ((A.preA).1 ++ [(⟨Rect.unit (s := S2x512x128) ![0, 0, 0] S2x512x128.size inbS, k0_pay87 (F := Ideal)⟩ : View.Piece (Elt Ideal) S2x512x128 .f32)]))) (G11 := (A.arg11.view.writes (Elt Ideal) A.arg11.view.junk ((A.preA).2.1 ++ [(⟨Rect.unit (s := S4096x128) ![0, 0] S4096x128.size inb_S4096x128_S4096x128_0_0, k0_pay70 (F := Ideal)⟩ : View.Piece (Elt Ideal) S4096x128 .f32)]))) (G12 := (A.arg12.view.writes (Elt Ideal) A.arg12.view.junk ((A.preA).2.2.1 ++ [(⟨Rect.unit (s := S4096x128) ![0, 0] S4096x128.size inb_S4096x128_S4096x128_0_0, k0_pay71 (F := Ideal)⟩ : View.Piece (Elt Ideal) S4096x128 .f32)]))) (G13 := (A.arg13.view.writes (Elt Ideal) A.arg13.view.junk ((A.preA).2.2.2.1 ++ [(⟨Rect.unit (s := S2x512x1) ![0, 0, 0] S2x512x1.size inbS, k0_pay88 (F := Ideal)⟩ : View.Piece (Elt Ideal) S2x512x1 .f32)]))) (G14 := (A.arg14.view.writes (Elt Ideal) A.arg14.view.junk ((A.preA).2.2.2.2 ++ [(⟨Rect.unit (s := S2x512x1) ![0, 0, 0] S2x512x1.size inbS, k0_pay89 (F := Ideal)⟩ : View.Piece (Elt Ideal) S2x512x1 .f32)]))) (kernelRun0_A.sl.v51 A.i))

end Args

open Args

section Chain

variable {c : Dev nD} {i : grid0.Coords} {arg2 : Memref sig .tc .vmem S512x128 .bf16} {harg2 : arg2.IsWhole} {arg3 : Memref sig .tc .vmem S4096x128 .bf16} {harg3 : arg3.IsWhole} {arg4 : Memref sig .tc .vmem S4096x128 .bf16} {harg4 : arg4.IsWhole} {arg5 : Memref sig .tc .vmem S512x128 .f32} {harg5 : arg5.IsWhole} {arg6 : Memref sig .tc .vmem S512x128 .f32} {harg6 : arg6.IsWhole} {arg7 : Memref sig .tc .vmem S512x128 .bf16} {harg7 : arg7.IsWhole} {arg8 : Memref sig .tc .vmem S4096x128 .bf16} {harg8 : arg8.IsWhole} {arg9 : Memref sig .tc .vmem S4096x128 .bf16} {harg9 : arg9.IsWhole} {arg10 : Memref sig .tc .vmem S2x512x128 .f32} {harg10 : arg10.IsWhole} {arg11 : Memref sig .tc .vmem S4096x128 .f32} {harg11 : arg11.IsWhole} {arg12 : Memref sig .tc .vmem S4096x128 .f32} {harg12 : arg12.IsWhole} {arg13 : Memref sig .tc .vmem S2x512x1 .f32} {harg13 : arg13.IsWhole} {arg14 : Memref sig .tc .vmem S2x512x1 .f32} {harg14 : arg14.IsWhole}
variable {x0 : Vec Ideal S512x128 .bf16} {x1 x2 : Vec Ideal S4096x128 .bf16} {x3 x4 : Vec Ideal S512x128 .f32}
variable {A : Args} (hA : A = pt c i arg2 harg2 arg3 harg3 arg4 harg4 arg5 harg5 arg6 harg6 arg7 harg7 arg8 harg8 arg9 harg9 arg10 harg10 arg11 harg11 arg12 harg12 arg13 harg13 arg14 harg14 x0 x1 x2 x3 x4)
include hA

theorem A_v11 : kernelRun0_A.sl.v11 = A.v11 := by
  delta kernelRun0_A.sl.v11
  subst hA; rfl

theorem A_v12 : kernelRun0_A.sl.v12 = A.v12 := by
  delta kernelRun0_A.sl.v12
  subst hA; rfl

theorem A_r : kernelRun0_A.sl.r (F := Ideal) c arg2 harg2 x0 = A.v20 := by
  delta kernelRun0_A.sl.r
  subst hA; rfl

theorem A_r_1 : kernelRun0_A.sl.r_1 (F := Ideal) c arg2 harg2 x0 = A.v21 := by
  delta kernelRun0_A.sl.r_1
  subst hA; rfl

theorem A_r_2 : kernelRun0_A.sl.r_2 (F := Ideal) c arg5 harg5 x3 = A.v28 := by
  delta kernelRun0_A.sl.r_2
  subst hA; rfl

theorem A_r_3 : kernelRun0_A.sl.r_3 (F := Ideal) c arg5 harg5 x3 = A.v29 := by
  delta kernelRun0_A.sl.r_3
  subst hA; rfl

theorem A_r_4 : kernelRun0_A.sl.r_4 (F := Ideal) c arg6 harg6 x4 = A.v32 := by
  delta kernelRun0_A.sl.r_4
  subst hA; rfl

theorem A_r_5 : kernelRun0_A.sl.r_5 (F := Ideal) c arg6 harg6 x4 = A.v33 := by
  delta kernelRun0_A.sl.r_5
  subst hA; rfl

theorem A_HS1_1 : kernelRun0_A.sl.HS1_1 (F := Ideal) = [(⟨Rect.unit (s := S4096x128) ![0, 0] S4096x128.size inb_S4096x128_S4096x128_0_0, k0_pay70 (F := Ideal)⟩ : View.Piece (Elt Ideal) S4096x128 .f32)] := by
  delta kernelRun0_A.sl.HS1_1
  subst hA; rfl

theorem A_HS2_1 : kernelRun0_A.sl.HS2_1 (F := Ideal) = [(⟨Rect.unit (s := S4096x128) ![0, 0] S4096x128.size inb_S4096x128_S4096x128_0_0, k0_pay71 (F := Ideal)⟩ : View.Piece (Elt Ideal) S4096x128 .f32)] := by
  delta kernelRun0_A.sl.HS2_1
  subst hA; rfl

theorem A_HS4_1 : kernelRun0_A.sl.HS4_1 (F := Ideal) = [(⟨Rect.unit (s := S2x512x1) ![0, 0, 0] S2x512x1.size inbS, k0_pay89 (F := Ideal)⟩ : View.Piece (Elt Ideal) S2x512x1 .f32)] := by
  delta kernelRun0_A.sl.HS4_1
  subst hA; rfl

theorem A_HS3_1 : kernelRun0_A.sl.HS3_1 (F := Ideal) = [(⟨Rect.unit (s := S2x512x1) ![0, 0, 0] S2x512x1.size inbS, k0_pay88 (F := Ideal)⟩ : View.Piece (Elt Ideal) S2x512x1 .f32)] := by
  delta kernelRun0_A.sl.HS3_1
  subst hA; rfl

theorem A_HS0_1 : kernelRun0_A.sl.HS0_1 (F := Ideal) = [(⟨Rect.unit (s := S2x512x128) ![0, 0, 0] S2x512x128.size inbS, k0_pay87 (F := Ideal)⟩ : View.Piece (Elt Ideal) S2x512x128 .f32)] := by
  delta kernelRun0_A.sl.HS0_1
  subst hA; rfl

theorem pb1_A : pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 ↑(i 1)) k0_pay72 k0_pay73 (kernelRun0_A.sl.v11) (kernelRun0_A.sl.v12) (kernelRun0_A.sl.r (F := Ideal) c arg2 harg2 x0) (kernelRun0_A.sl.r_1 (F := Ideal) c arg2 harg2 x0) (kernelRun0_A.sl.r_2 (F := Ideal) c arg5 harg5 x3) (kernelRun0_A.sl.r_3 (F := Ideal) c arg5 harg5 x3) (kernelRun0_A.sl.r_4 (F := Ideal) c arg6 harg6 x4) (kernelRun0_A.sl.r_5 (F := Ideal) c arg6 harg6 x4) k0_pay87 (harg3.unread x1) (harg4.unread x2) (arg10.view.writes (Elt Ideal) arg10.view.junk (kernelRun0_A.sl.HS0_1 (F := Ideal))) (arg11.view.writes (Elt Ideal) arg11.view.junk (kernelRun0_A.sl.HS1_1 (F := Ideal))) (arg12.view.writes (Elt Ideal) arg12.view.junk (kernelRun0_A.sl.HS2_1 (F := Ideal))) (arg13.view.writes (Elt Ideal) arg13.view.junk (kernelRun0_A.sl.HS3_1 (F := Ideal))) (arg14.view.writes (Elt Ideal) arg14.view.junk (kernelRun0_A.sl.HS4_1 (F := Ideal))) (Scf.trips (k0_t1_loop i).lb (k0_t1_loop i).ub (k0_t1_loop i).st) = A.preA := by
  subst hA; rfl

theorem pb2_A : pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 ↑(i 1)) k0_pay72 k0_pay73 (kernelRun0_A.sl.v11) (kernelRun0_A.sl.v12) (kernelRun0_A.sl.r (F := Ideal) c arg2 harg2 x0) (kernelRun0_A.sl.r_1 (F := Ideal) c arg2 harg2 x0) (kernelRun0_A.sl.r_2 (F := Ideal) c arg5 harg5 x3) (kernelRun0_A.sl.r_3 (F := Ideal) c arg5 harg5 x3) (kernelRun0_A.sl.r_4 (F := Ideal) c arg6 harg6 x4) (kernelRun0_A.sl.r_5 (F := Ideal) c arg6 harg6 x4) k0_pay87 (kernelRun0_A.sl.v51 i) (harg3.unread x1) (harg4.unread x2) (arg10.view.writes (Elt Ideal) arg10.view.junk ((A.preA).1 ++ (kernelRun0_A.sl.HS0_1 (F := Ideal)))) (arg11.view.writes (Elt Ideal) arg11.view.junk ((A.preA).2.1 ++ (kernelRun0_A.sl.HS1_1 (F := Ideal)))) (arg12.view.writes (Elt Ideal) arg12.view.junk ((A.preA).2.2.1 ++ (kernelRun0_A.sl.HS2_1 (F := Ideal)))) (arg13.view.writes (Elt Ideal) arg13.view.junk ((A.preA).2.2.2.1 ++ (kernelRun0_A.sl.HS3_1 (F := Ideal)))) (arg14.view.writes (Elt Ideal) arg14.view.junk ((A.preA).2.2.2.2 ++ (kernelRun0_A.sl.HS4_1 (F := Ideal)))) (Scf.trips (k0_t2_loop i).lb (k0_t2_loop i).ub (k0_t2_loop i).st) = A.postA := by
  subst hA; rfl

theorem A_r_39 : kernelRun0_A.sl.r_39 (F := Ideal) i arg3 harg3 x1 = A.kD1 := by
  delta kernelRun0_A.sl.r_39
  subst hA; rfl

theorem A_r_35 : kernelRun0_A.sl.r_35 (F := Ideal) c arg2 harg2 x0 = (k0_pay140 A.v21) := by
  delta kernelRun0_A.sl.r_35
  rw [A_r_1 hA]
  all_goals (subst hA; rfl)

theorem A_r_47 : kernelRun0_A.sl.r_47 (F := Ideal) c i arg2 harg2 arg3 harg3 x0 x1 = betaB (k0_pay140 A.v21) A.kD1 := by
  delta kernelRun0_A.sl.r_47
  rw [A_r_35 hA, A_r_39 hA]
  all_goals (subst hA; rfl)

theorem A_r_38 : kernelRun0_A.sl.r_38 (F := Ideal) c arg6 harg6 x4 = (k0_pay143 A.v33) := by
  delta kernelRun0_A.sl.r_38
  rw [A_r_5 hA]
  all_goals (subst hA; rfl)

theorem A_r_42 : kernelRun0_A.sl.r_42 (F := Ideal) c i arg2 harg2 arg3 harg3 x0 x1 = zB (k0_pay140 A.v21) A.kD1 := by
  delta kernelRun0_A.sl.r_42
  rw [A_r_35 hA, A_r_39 hA]
  all_goals (subst hA; rfl)

theorem A_r_36 : kernelRun0_A.sl.r_36 (F := Ideal) c arg5 harg5 x3 = (k0_pay141 A.v29) := by
  delta kernelRun0_A.sl.r_36
  rw [A_r_3 hA]
  all_goals (subst hA; rfl)

theorem A_r_40 : kernelRun0_A.sl.r_40 (F := Ideal) i arg4 harg4 x2 = A.vD1 := by
  delta kernelRun0_A.sl.r_40
  subst hA; rfl

theorem A_r_44 : kernelRun0_A.sl.r_44 (F := Ideal) c i arg4 harg4 arg5 harg5 x2 x3 = uB (k0_pay141 A.v29) A.vD1 := by
  delta kernelRun0_A.sl.r_44
  rw [A_r_36 hA, A_r_40 hA]
  all_goals (subst hA; rfl)

theorem A_r_50 : kernelRun0_A.sl.r_50 (F := Ideal) c i arg2 harg2 arg3 harg3 x0 x1 = resB A.v10 (k0_pay137 A.v11 A.v12) (k0_pay140 A.v21) A.kD1 := by
  delta kernelRun0_A.sl.r_50
  rw [A_v11 hA, A_v12 hA, A_r_35 hA, A_r_39 hA]
  all_goals (subst hA; rfl)

theorem A_r_8 : kernelRun0_A.sl.r_8 (F := Ideal) c i arg2 harg2 arg3 harg3 x0 x1 = zA A.v21 A.kD0 := by
  delta kernelRun0_A.sl.r_8
  rw [A_r_1 hA]
  all_goals (subst hA; rfl)

theorem A_r_15 : kernelRun0_A.sl.r_15 (F := Ideal) c i arg2 harg2 arg3 harg3 x0 x1 = spA (k0_pay96 A.v11 A.v12) A.v21 A.kD0 := by
  delta kernelRun0_A.sl.r_15
  rw [A_v11 hA, A_v12 hA, A_r_8 hA]
  all_goals (subst hA; rfl)

theorem A_r_17 : kernelRun0_A.sl.r_17 (F := Ideal) c i arg2 harg2 arg3 harg3 x0 x1 = resA A.v10 (k0_pay96 A.v11 A.v12) A.v21 A.kD0 := by
  delta kernelRun0_A.sl.r_17
  rw [A_v11 hA, A_v12 hA, A_r_8 hA]
  all_goals (subst hA; rfl)

theorem A_v109 : kernelRun0_A.sl.v109 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.r13_1 (A.f13A) := by
  delta kernelRun0_A.sl.v109
  rw [pb1_A hA, pb2_A hA]
  rw [A_HS3_1 hA]
  all_goals (subst hA; rfl)

theorem A_r_19 : kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay110 (A.r13_1 (A.f13A)) := by
  delta kernelRun0_A.sl.r_19
  rw [A_v109 hA]
  all_goals (subst hA; rfl)

theorem A_r_25 : kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay115 (spA (k0_pay96 A.v11 A.v12) A.v21 A.kD0) (resA A.v10 (k0_pay96 A.v11 A.v12) A.v21 A.kD0) (k0_pay110 (A.r13_1 (A.f13A))) := by
  delta kernelRun0_A.sl.r_25
  rw [A_r_15 hA, A_r_17 hA, A_r_19 hA]
  all_goals (subst hA; rfl)

theorem A_HS3_2 : kernelRun0_A.sl.HS3_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.list13 (A.f13A) (A.l13A) := by
  delta kernelRun0_A.sl.HS3_2
  rw [pb1_A hA, pb2_A hA]
  rw [A_r_25 hA]
  all_goals (subst hA; rfl)

theorem A_v279 : kernelRun0_A.sl.v279 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.s13_1 (A.g13A) := by
  delta kernelRun0_A.sl.v279
  rw [A_HS3_2 hA]
  all_goals (subst hA; rfl)

theorem A_r_55 : kernelRun0_A.sl.r_55 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = prB A.v10 (k0_pay137 A.v11 A.v12) (k0_pay140 A.v21) (k0_pay141 A.v29) A.kD1 A.vD1 (k0_pay143 A.v33) (A.s13_1 (A.g13A)) := by
  delta kernelRun0_A.sl.r_55
  rw [A_v11 hA, A_v12 hA, A_r_38 hA, A_r_42 hA, A_r_44 hA, A_r_50 hA, A_v279 hA]
  all_goals (subst hA; rfl)

theorem A_r_57 : kernelRun0_A.sl.r_57 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = respB A.v9 A.v10 (k0_pay137 A.v11 A.v12) (k0_pay140 A.v21) (k0_pay141 A.v29) A.kD1 A.vD1 (k0_pay143 A.v33) (A.s13_1 (A.g13A)) := by
  delta kernelRun0_A.sl.r_57
  rw [A_v11 hA, A_v12 hA, A_r_38 hA, A_r_42 hA, A_r_44 hA, A_r_50 hA, A_v279 hA]
  all_goals (subst hA; rfl)

theorem A_r_10 : kernelRun0_A.sl.r_10 (F := Ideal) c i arg4 harg4 arg5 harg5 x2 x3 = uA A.v29 A.vD0 := by
  delta kernelRun0_A.sl.r_10
  rw [A_r_3 hA]
  all_goals (subst hA; rfl)

theorem A_r_24 : kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = prA A.v10 (k0_pay96 A.v11 A.v12) A.v21 A.v29 A.kD0 A.vD0 A.v33 (A.r13_1 (A.f13A)) := by
  delta kernelRun0_A.sl.r_24
  rw [A_r_5 hA, A_v11 hA, A_v12 hA, A_r_8 hA, A_r_10 hA, A_r_17 hA, A_r_19 hA]
  all_goals (subst hA; rfl)

theorem A_r_26 : kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = respA A.v9 A.v10 (k0_pay96 A.v11 A.v12) A.v21 A.v29 A.kD0 A.vD0 A.v33 (A.r13_1 (A.f13A)) := by
  delta kernelRun0_A.sl.r_26
  rw [A_r_5 hA, A_v11 hA, A_v12 hA, A_r_8 hA, A_r_10 hA, A_r_17 hA, A_r_19 hA]
  all_goals (subst hA; rfl)

theorem A_v141 : kernelRun0_A.sl.v141 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.r14_1 (A.f14A) := by
  delta kernelRun0_A.sl.v141
  rw [pb1_A hA, pb2_A hA]
  rw [A_HS4_1 hA]
  all_goals (subst hA; rfl)

theorem A_r_27 : kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay122 (A.r14_1 (A.f14A)) := by
  delta kernelRun0_A.sl.r_27
  rw [A_v141 hA]
  all_goals (subst hA; rfl)

theorem A_HS4_2 : kernelRun0_A.sl.HS4_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.list14 (A.f13A) (A.f14A) (A.l14A) := by
  delta kernelRun0_A.sl.HS4_2
  rw [pb1_A hA, pb2_A hA]
  rw [A_r_24 hA, A_r_26 hA, A_r_27 hA]
  all_goals (subst hA; rfl)

theorem A_v311 : kernelRun0_A.sl.v311 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.s14_1 (A.g14A) := by
  delta kernelRun0_A.sl.v311
  rw [A_HS4_2 hA]
  all_goals (subst hA; rfl)

theorem A_r_59 : kernelRun0_A.sl.r_59 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay167 (A.s14_1 (A.g14A)) := by
  delta kernelRun0_A.sl.r_59
  rw [A_v311 hA]
  all_goals (subst hA; rfl)

theorem A_r_62 : kernelRun0_A.sl.r_62 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.dz1_1 (A.g13A) (A.g14A) := by
  delta kernelRun0_A.sl.r_62
  rw [A_v11 hA, A_v12 hA, A_r_47 hA, A_r_55 hA, A_r_57 hA, A_r_59 hA]
  all_goals (subst hA; rfl)

theorem A_r_37 : kernelRun0_A.sl.r_37 (F := Ideal) c arg6 harg6 x4 = (k0_pay142 A.v32) := by
  delta kernelRun0_A.sl.r_37
  rw [A_r_4 hA]
  all_goals (subst hA; rfl)

theorem A_r_33 : kernelRun0_A.sl.r_33 (F := Ideal) c arg2 harg2 x0 = (k0_pay138 A.v20) := by
  delta kernelRun0_A.sl.r_33
  rw [A_r hA]
  all_goals (subst hA; rfl)

theorem A_r_41 : kernelRun0_A.sl.r_41 (F := Ideal) c i arg2 harg2 arg3 harg3 x0 x1 = zB (k0_pay138 A.v20) A.kD1 := by
  delta kernelRun0_A.sl.r_41
  rw [A_r_33 hA, A_r_39 hA]
  all_goals (subst hA; rfl)

theorem A_r_34 : kernelRun0_A.sl.r_34 (F := Ideal) c arg5 harg5 x3 = (k0_pay139 A.v28) := by
  delta kernelRun0_A.sl.r_34
  rw [A_r_2 hA]
  all_goals (subst hA; rfl)

theorem A_r_43 : kernelRun0_A.sl.r_43 (F := Ideal) c i arg4 harg4 arg5 harg5 x2 x3 = uB (k0_pay139 A.v28) A.vD1 := by
  delta kernelRun0_A.sl.r_43
  rw [A_r_34 hA, A_r_40 hA]
  all_goals (subst hA; rfl)

theorem A_r_45 : kernelRun0_A.sl.r_45 (F := Ideal) c i arg2 harg2 arg3 harg3 x0 x1 = betaB (k0_pay138 A.v20) A.kD1 := by
  delta kernelRun0_A.sl.r_45
  rw [A_r_33 hA, A_r_39 hA]
  all_goals (subst hA; rfl)

theorem A_r_49 : kernelRun0_A.sl.r_49 (F := Ideal) c i arg2 harg2 arg3 harg3 x0 x1 = resB A.v10 (k0_pay137 A.v11 A.v12) (k0_pay138 A.v20) A.kD1 := by
  delta kernelRun0_A.sl.r_49
  rw [A_v11 hA, A_v12 hA, A_r_33 hA, A_r_39 hA]
  all_goals (subst hA; rfl)

theorem A_v277 : kernelRun0_A.sl.v277 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.s13_0 (A.g13A) := by
  delta kernelRun0_A.sl.v277
  rw [A_HS3_2 hA]
  all_goals (subst hA; rfl)

theorem A_v309 : kernelRun0_A.sl.v309 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.s14_0 (A.g14A) := by
  delta kernelRun0_A.sl.v309
  rw [A_HS4_2 hA]
  all_goals (subst hA; rfl)

theorem A_r_60 : kernelRun0_A.sl.r_60 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.dz1_0 (A.g13A) (A.g14A) := by
  delta kernelRun0_A.sl.r_60
  rw [A_v11 hA, A_v12 hA, A_r_37 hA, A_r_41 hA, A_r_43 hA, A_r_45 hA, A_r_49 hA, A_v277 hA, A_v309 hA]
  all_goals (subst hA; rfl)

theorem A_r_6 : kernelRun0_A.sl.r_6 (F := Ideal) i arg3 harg3 x1 = A.kD0 := by
  delta kernelRun0_A.sl.r_6
  subst hA; rfl

theorem A_r_14 : kernelRun0_A.sl.r_14 (F := Ideal) c i arg2 harg2 arg3 harg3 x0 x1 = betaA A.v21 A.kD0 := by
  delta kernelRun0_A.sl.r_14
  rw [A_r_8 hA]
  all_goals (subst hA; rfl)

theorem A_r_30 : kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay125 A.v9 A.v33 (k0_pay96 A.v11 A.v12) (zA A.v21 A.kD0) (uA A.v29 A.vD0) (betaA A.v21 A.kD0) (resA A.v10 (k0_pay96 A.v11 A.v12) A.v21 A.kD0) (k0_pay110 (A.r13_1 (A.f13A))) (A.r14_1 (A.f14A)) := by
  delta kernelRun0_A.sl.r_30
  rw [A_r_5 hA, A_v11 hA, A_v12 hA, A_r_8 hA, A_r_10 hA, A_r_14 hA, A_r_17 hA, A_r_19 hA, A_v141 hA]
  all_goals (subst hA; rfl)

theorem A_r_7 : kernelRun0_A.sl.r_7 (F := Ideal) c i arg2 harg2 arg3 harg3 x0 x1 = zA A.v20 A.kD0 := by
  delta kernelRun0_A.sl.r_7
  rw [A_r hA]
  all_goals (subst hA; rfl)

theorem A_r_9 : kernelRun0_A.sl.r_9 (F := Ideal) c i arg4 harg4 arg5 harg5 x2 x3 = uA A.v28 A.vD0 := by
  delta kernelRun0_A.sl.r_9
  rw [A_r_2 hA]
  all_goals (subst hA; rfl)

theorem A_r_11 : kernelRun0_A.sl.r_11 (F := Ideal) c i arg2 harg2 arg3 harg3 x0 x1 = k0_pay101 A.v20 A.kD0 := by
  delta kernelRun0_A.sl.r_11
  rw [A_r hA]
  all_goals (subst hA; rfl)

theorem A_r_12 : kernelRun0_A.sl.r_12 (F := Ideal) c i arg2 harg2 arg3 harg3 x0 x1 = betaA A.v20 A.kD0 := by
  delta kernelRun0_A.sl.r_12
  rw [A_r_7 hA, A_r_11 hA]
  all_goals (subst hA; rfl)

theorem A_r_16 : kernelRun0_A.sl.r_16 (F := Ideal) c i arg2 harg2 arg3 harg3 x0 x1 = resA A.v10 (k0_pay96 A.v11 A.v12) A.v20 A.kD0 := by
  delta kernelRun0_A.sl.r_16
  rw [A_v11 hA, A_v12 hA, A_r_7 hA, A_r_11 hA]
  all_goals (subst hA; rfl)

theorem A_v107 : kernelRun0_A.sl.v107 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.r13_0 (A.f13A) := by
  delta kernelRun0_A.sl.v107
  rw [pb1_A hA, pb2_A hA]
  rw [A_HS3_1 hA]
  all_goals (subst hA; rfl)

theorem A_r_20 : kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay112 A.v32 (A.r13_0 (A.f13A)) := by
  delta kernelRun0_A.sl.r_20
  rw [A_r_4 hA, A_v107 hA]
  all_goals (subst hA; rfl)

theorem A_v139 : kernelRun0_A.sl.v139 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.r14_0 (A.f14A) := by
  delta kernelRun0_A.sl.v139
  rw [pb1_A hA, pb2_A hA]
  rw [A_HS4_1 hA]
  all_goals (subst hA; rfl)

theorem A_r_28 : kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.dz0_0 (A.f13A) (A.f14A) := by
  delta kernelRun0_A.sl.r_28
  rw [A_v11 hA, A_v12 hA, A_r_7 hA, A_r_9 hA, A_r_12 hA, A_r_16 hA, A_r_20 hA, A_v139 hA]
  all_goals (subst hA; rfl)

theorem A_v174 : kernelRun0_A.sl.v174 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = (A.arg10.view.readAt (Elt Ideal) (Rect.unit (s := S2x512x128) ![0, 0, 0] ![1, 512, 128] inb0).toLoadRect (A.arg10.view.writes (Elt Ideal) A.arg10.view.junk (A.l10A))) := by
  delta kernelRun0_A.sl.v174
  rw [pb1_A hA, pb2_A hA]
  rw [A_HS0_1 hA]
  all_goals (subst hA; rfl)

theorem A_HS0_1_1 : kernelRun0_A.sl.HS0_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = (A.l10aA) := by
  delta kernelRun0_A.sl.HS0_1_1
  rw [pb1_A hA, pb2_A hA]
  rw [A_r_6 hA, A_r_28 hA, A_v174 hA, A_HS0_1 hA]
  all_goals (subst hA; rfl)

theorem A_v187 : kernelRun0_A.sl.v187 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = (A.arg10.view.readAt (Elt Ideal) (Rect.unit (s := S2x512x128) ![1, 0, 0] ![1, 512, 128] inb1).toLoadRect (A.arg10.view.writes (Elt Ideal) A.arg10.view.junk (A.l10aA))) := by
  delta kernelRun0_A.sl.v187
  rw [A_HS0_1_1 hA]
  all_goals (subst hA; rfl)

theorem A_r_32 : kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay133 (k0_pay96 A.v11 A.v12) A.kD0 (k0_pay125 A.v9 A.v33 (k0_pay96 A.v11 A.v12) (zA A.v21 A.kD0) (uA A.v29 A.vD0) (betaA A.v21 A.kD0) (resA A.v10 (k0_pay96 A.v11 A.v12) A.v21 A.kD0) (k0_pay110 (A.r13_1 (A.f13A))) (A.r14_1 (A.f14A))) k0_pay126 (A.arg10.view.readAt (Elt Ideal) (Rect.unit (s := S2x512x128) ![1, 0, 0] ![1, 512, 128] inb1).toLoadRect (A.arg10.view.writes (Elt Ideal) A.arg10.view.junk (A.l10aA))) := by
  delta kernelRun0_A.sl.r_32
  rw [A_v11 hA, A_v12 hA, A_r_6 hA, A_r_30 hA, A_v187 hA]
  all_goals (subst hA; rfl)

theorem A_HS0_2 : kernelRun0_A.sl.HS0_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = (A.l10bA) := by
  delta kernelRun0_A.sl.HS0_2
  rw [A_r_32 hA, A_HS0_1_1 hA]
  all_goals (subst hA; rfl)

theorem A_v344 : kernelRun0_A.sl.v344 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = (A.arg10.view.readAt (Elt Ideal) (Rect.unit (s := S2x512x128) ![0, 256, 0] ![1, 256, 128] inb0').toLoadRect (A.arg10.view.writes (Elt Ideal) A.arg10.view.junk (A.l10bA))) := by
  delta kernelRun0_A.sl.v344
  rw [A_HS0_2 hA]
  all_goals (subst hA; rfl)

theorem A_HS0_3 : kernelRun0_A.sl.HS0_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = (A.l10cA) := by
  delta kernelRun0_A.sl.HS0_3
  rw [A_r_39 hA, A_r_60 hA, A_v344 hA, A_HS0_2 hA]
  all_goals (subst hA; rfl)

theorem A_v357 : kernelRun0_A.sl.v357 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = (A.arg10.view.readAt (Elt Ideal) (Rect.unit (s := S2x512x128) ![1, 256, 0] ![1, 256, 128] inb1').toLoadRect (A.arg10.view.writes (Elt Ideal) A.arg10.view.junk (A.l10cA))) := by
  delta kernelRun0_A.sl.v357
  rw [A_HS0_3 hA]
  all_goals (subst hA; rfl)

theorem A_HS0_4 : kernelRun0_A.sl.HS0_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = (A.l10dA) := by
  delta kernelRun0_A.sl.HS0_4
  rw [A_r_39 hA, A_r_62 hA, A_v357 hA, A_HS0_3 hA]
  all_goals (subst hA; rfl)

theorem A_v385 : kernelRun0_A.sl.v385 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = (A.arg10.view.readAt (Elt Ideal) (Rect.unit (s := S2x512x128) ![0, 0, 0] S1x512x128.size inb0).toLoadRect (A.arg10.view.writes (Elt Ideal) A.arg10.view.junk (A.l10dA))) := by
  delta kernelRun0_A.sl.v385
  rw [A_HS0_4 hA]
  all_goals (subst hA; rfl)

theorem A_v387 : kernelRun0_A.sl.v387 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = (A.arg10.view.readAt (Elt Ideal) (Rect.unit (s := S2x512x128) ![1, 0, 0] S1x512x128.size inb1).toLoadRect (A.arg10.view.writes (Elt Ideal) A.arg10.view.junk (A.l10dA))) := by
  delta kernelRun0_A.sl.v387
  rw [A_HS0_4 hA]
  all_goals (subst hA; rfl)

theorem A_r_63 : kernelRun0_A.sl.r_63 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = k0_pay179 k0_pay75 (A.arg10.view.readAt (Elt Ideal) (Rect.unit (s := S2x512x128) ![0, 0, 0] S1x512x128.size inb0).toLoadRect (A.arg10.view.writes (Elt Ideal) A.arg10.view.junk (A.l10dA))) (A.arg10.view.readAt (Elt Ideal) (Rect.unit (s := S2x512x128) ![1, 0, 0] S1x512x128.size inb1).toLoadRect (A.arg10.view.writes (Elt Ideal) A.arg10.view.junk (A.l10dA))) := by
  delta kernelRun0_A.sl.r_63
  rw [A_v385 hA, A_v387 hA]
  all_goals (subst hA; rfl)

theorem A_r_31 : kernelRun0_A.sl.r_31 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.dz0_1 (A.f13A) (A.f14A) := by
  delta kernelRun0_A.sl.r_31
  rw [A_v11 hA, A_v12 hA, A_r_30 hA]
  all_goals (subst hA; rfl)

theorem A_v202 : kernelRun0_A.sl.v202 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = (A.arg11.view.readAt (Elt Ideal) (Rect.unit (s := S4096x128) (k0_off3 A.i 0#32) ![256, 128] (inb_diag0 A)).toLoadRect (A.arg11.view.writes (Elt Ideal) A.arg11.view.junk (A.l11A))) := by
  delta kernelRun0_A.sl.v202
  rw [pb1_A hA, pb2_A hA]
  subst hA; rfl

theorem A_HS1_1_1 : kernelRun0_A.sl.HS1_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.l11aA := by
  delta kernelRun0_A.sl.HS1_1_1
  rw [pb1_A hA, pb2_A hA]
  rw [A_r hA, A_r_1 hA, A_r_28 hA, A_r_31 hA, A_v202 hA, A_HS1_1 hA]
  all_goals (subst hA; rfl)

theorem A_r_51 : kernelRun0_A.sl.r_51 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.att1_0 (A.g13A) := by
  delta kernelRun0_A.sl.r_51
  rw [A_v11 hA, A_v12 hA, A_r_37 hA, A_r_41 hA, A_r_49 hA, A_v277 hA]
  all_goals (subst hA; rfl)

theorem A_r_54 : kernelRun0_A.sl.r_54 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.att1_1 (A.g13A) := by
  delta kernelRun0_A.sl.r_54
  rw [A_v11 hA, A_v12 hA, A_r_38 hA, A_r_42 hA, A_r_50 hA, A_v279 hA]
  all_goals (subst hA; rfl)

theorem A_r_21 : kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.att0_0 (A.f13A) := by
  delta kernelRun0_A.sl.r_21
  rw [A_v11 hA, A_v12 hA, A_r_7 hA, A_r_16 hA, A_r_20 hA]
  all_goals (subst hA; rfl)

theorem A_r_23 : kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.att0_1 (A.f13A) := by
  delta kernelRun0_A.sl.r_23
  rw [A_r_5 hA, A_v11 hA, A_v12 hA, A_r_8 hA, A_r_17 hA, A_r_19 hA]
  all_goals (subst hA; rfl)

theorem A_v209 : kernelRun0_A.sl.v209 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = (A.arg12.view.readAt (Elt Ideal) (Rect.unit (s := S4096x128) (k0_off3 A.i 0#32) ![256, 128] (inb_diag0 A)).toLoadRect (A.arg12.view.writes (Elt Ideal) A.arg12.view.junk (A.l12A))) := by
  delta kernelRun0_A.sl.v209
  rw [pb1_A hA, pb2_A hA]
  subst hA; rfl

theorem A_HS2_1_1 : kernelRun0_A.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 = A.l12aA := by
  delta kernelRun0_A.sl.HS2_1_1
  rw [pb1_A hA, pb2_A hA]
  rw [A_r_2 hA, A_r_3 hA, A_r_21 hA, A_r_23 hA, A_v209 hA, A_HS2_1 hA]
  all_goals (subst hA; rfl)

/-- The stores to the query gradients. -/
theorem outA_q (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1 = [(⟨Rect.unit (s := S512x128) ![0, 0] ![512, 128] inbW, k0_pay1 (k0_pay179 k0_pay75 (A.arg10.view.readAt (Elt Ideal) (Rect.unit (s := S2x512x128) ![0, 0, 0] S1x512x128.size inb0).toLoadRect (A.arg10.view.writes (Elt Ideal) A.arg10.view.junk (A.l10dA))) (A.arg10.view.readAt (Elt Ideal) (Rect.unit (s := S2x512x128) ![1, 0, 0] S1x512x128.size inb1).toLoadRect (A.arg10.view.writes (Elt Ideal) A.arg10.view.junk (A.l10dA))))⟩ : View.Piece (Elt Ideal) S512x128 .bf16)] := by
  delta kernelRun0_A
  dsimp only
  rw [A_r_63 hA]
  all_goals (subst hA; rfl)

/-- The stores to the running key gradients. -/
theorem outA_k (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1 = A.l11bA := by
  delta kernelRun0_A
  dsimp only
  rw [A_r_33 hA, A_r_35 hA, A_r_60 hA, A_r_62 hA, A_HS1_1_1 hA]
  all_goals (subst hA; rfl)

/-- The stores to the running value gradients. -/
theorem outA_v (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.1 = A.l12bA := by
  delta kernelRun0_A
  dsimp only
  rw [A_r_34 hA, A_r_36 hA, A_r_51 hA, A_r_54 hA, A_HS2_1_1 hA]
  all_goals (subst hA; rfl)

end Chain

section Case

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S2x512x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S2x512x1 .f32) (harg13 : arg13.IsWhole) (arg14 : Memref sig .tc .vmem S2x512x1 .f32) (harg14 : arg14.IsWhole)
variable (x0 : Vec Ideal S512x128 .bf16) (x1 x2 : Vec Ideal S4096x128 .bf16) (x3 x4 : Vec Ideal S512x128 .f32)
variable {N : ℕ} {Q D K V g1 g2 : ℕ → ℕ → ℝ}

/-- The query gradients of a first block of queries. -/
theorem caseA_q (hc0 : cond0_0 i) (hc1 : ¬cond0_1 i) (hi : Inputs (i 1).val N Q D K V x0 x1 x2 x3 x4) (v : View sig .tc .vmem S512x128 .bf16) (m : v.ty.Contents (Elt Ideal)) :
    Rd (φ := .bf16) (v.read (Elt Ideal) (v.writes (Elt Ideal) m (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1))
      (fun r c => (∑ s ∈ range (512 * (i 1).val + 512), dS N Q D K V (c / 64) (512 * (i 1).val + r) s * K s c) * (1 / 8)) := by
  rw [outA_q (A := pt c i arg2 harg2 arg3 harg3 arg4 harg4 arg5 harg5 arg6 harg6 arg7 harg7 arg8 harg8 arg9 harg9 arg10 harg10 arg11 harg11 arg12 harg12 arg13 harg13 arg14 harg14 x0 x1 x2 x3 x4) rfl hc0 hc1]
  exact Args.rd_dq ((invA hi.ok).finish_q hi.ok pt_iota) v m

/-- The running key gradients after a first block of queries. -/
theorem caseA_k (hc0 : cond0_0 i) (hc1 : ¬cond0_1 i) (hi : Inputs (i 1).val N Q D K V x0 x1 x2 x3 x4) :
    Rd (φ := .f32) (arg11.view.read (Elt Ideal) (arg11.view.writes (Elt Ideal) arg11.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1)) (fun s c => if s < 512 * (i 1).val + 512 then addK N Q D K V (i 1).val s c else 0) := by
  rw [outA_k (A := pt c i arg2 harg2 arg3 harg3 arg4 harg4 arg5 harg5 arg6 harg6 arg7 harg7 arg8 harg8 arg9 harg9 arg10 harg10 arg11 harg11 arg12 harg12 arg13 harg13 arg14 harg14 x0 x1 x2 x3 x4) rfl hc0 hc1]
  exact ((invA hi.ok).finish_k hi.ok pt_iota).congr fun s c _ _ => zero_add _

/-- The running value gradients after a first block of queries. -/
theorem caseA_v (hc0 : cond0_0 i) (hc1 : ¬cond0_1 i) (hi : Inputs (i 1).val N Q D K V x0 x1 x2 x3 x4) :
    Rd (φ := .f32) (arg12.view.read (Elt Ideal) (arg12.view.writes (Elt Ideal) arg12.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.1)) (fun s c => if s < 512 * (i 1).val + 512 then addV N Q D K (i 1).val s c else 0) := by
  rw [outA_v (A := pt c i arg2 harg2 arg3 harg3 arg4 harg4 arg5 harg5 arg6 harg6 arg7 harg7 arg8 harg8 arg9 harg9 arg10 harg10 arg11 harg11 arg12 harg12 arg13 harg13 arg14 harg14 x0 x1 x2 x3 x4) rfl hc0 hc1]
  exact ((invA hi.ok).finish_v hi.ok pt_iota).congr fun s c _ _ => zero_add _

end Case

end Cert.Stick
-- ==== Proof.PointB.lean ====
/- One grid point of the kernel: the middle block of queries of a group. -/
module

public import proofs.«01_k».proof.Proof.Gen.KernelIdeal.Frame.RunB
public import proofs.«01_k».proof.Proof.Adds

@[expose] public section

set_option maxRecDepth 16384

noncomputable section

namespace Cert.Stick

open Finset Idealize.ShloMosaic Idealize.SL.Sem Cert.KernelIdeal Cert.KernelIdeal.Gen

namespace Args

/-- What the loop over the blocks of keys below the diagonal stores. -/
def preB (A : Args) (xs1 xs2 : Vec Ideal S4096x128 .f32) : List (View.Piece (Elt Ideal) S2x512x128 .f32) × List (View.Piece (Elt Ideal) S4096x128 .f32) × List (View.Piece (Elt Ideal) S4096x128 .f32) × List (View.Piece (Elt Ideal) S2x512x1 .f32) × List (View.Piece (Elt Ideal) S2x512x1 .f32) :=
  A.pieces (A.arg10.view.writes (Elt Ideal) A.arg10.view.junk [(⟨Rect.unit (s := S2x512x128) ![0, 0, 0] S2x512x128.size inbS, k0_pay87 (F := Ideal)⟩ : View.Piece (Elt Ideal) S2x512x128 .f32)]) (A.harg11.unread xs1) (A.harg12.unread xs2) (A.arg13.view.writes (Elt Ideal) A.arg13.view.junk [(⟨Rect.unit (s := S2x512x1) ![0, 0, 0] S2x512x1.size inbS, k0_pay88 (F := Ideal)⟩ : View.Piece (Elt Ideal) S2x512x1 .f32)]) (A.arg14.view.writes (Elt Ideal) A.arg14.view.junk [(⟨Rect.unit (s := S2x512x1) ![0, 0, 0] S2x512x1.size inbS, k0_pay89 (F := Ideal)⟩ : View.Piece (Elt Ideal) S2x512x1 .f32)]) (k0_t1_loop A.i).trips

/-- What the loop over the remaining blocks of keys stores. -/
def postB (A : Args) (xs1 xs2 : Vec Ideal S4096x128 .f32) : List (View.Piece (Elt Ideal) S2x512x128 .f32) × List (View.Piece (Elt Ideal) S4096x128 .f32) × List (View.Piece (Elt Ideal) S4096x128 .f32) × List (View.Piece (Elt Ideal) S2x512x1 .f32) × List (View.Piece (Elt Ideal) S2x512x1 .f32) :=
  A.rest (kernelRun0_B.sl.v51 A.i) (A.arg10.view.writes (Elt Ideal) A.arg10.view.junk ((A.preB xs1 xs2).1 ++ [(⟨Rect.unit (s := S2x512x128) ![0, 0, 0] S2x512x128.size inbS, k0_pay87 (F := Ideal)⟩ : View.Piece (Elt Ideal) S2x512x128 .f32)])) (A.arg11.view.writes (Elt Ideal) (A.harg11.unread xs1) (A.preB xs1 xs2).2.1) (A.arg12.view.writes (Elt Ideal) (A.harg12.unread xs2) (A.preB xs1 xs2).2.2.1) (A.arg13.view.writes (Elt Ideal) A.arg13.view.junk ((A.preB xs1 xs2).2.2.2.1 ++ [(⟨Rect.unit (s := S2x512x1) ![0, 0, 0] S2x512x1.size inbS, k0_pay88 (F := Ideal)⟩ : View.Piece (Elt Ideal) S2x512x1 .f32)])) (A.arg14.view.writes (Elt Ideal) A.arg14.view.junk ((A.preB xs1 xs2).2.2.2.2 ++ [(⟨Rect.unit (s := S2x512x1) ![0, 0, 0] S2x512x1.size inbS, k0_pay89 (F := Ideal)⟩ : View.Piece (Elt Ideal) S2x512x1 .f32)]))

/-- What is stored to the query gradients before the diagonal. -/
abbrev l10B (A : Args) (xs1 xs2 : Vec Ideal S4096x128 .f32) : List (View.Piece (Elt Ideal) S2x512x128 .f32) := ((A.postB xs1 xs2).1 ++ ((A.preB xs1 xs2).1 ++ [(⟨Rect.unit (s := S2x512x128) ![0, 0, 0] S2x512x128.size inbS, k0_pay87 (F := Ideal)⟩ : View.Piece (Elt Ideal) S2x512x128 .f32)]))

/-- What is stored to the key gradients before the diagonal. -/
abbrev l11B (A : Args) (xs1 xs2 : Vec Ideal S4096x128 .f32) : List (View.Piece (Elt Ideal) S4096x128 .f32) := ((A.postB xs1 xs2).2.1 ++ (A.preB xs1 xs2).2.1)

/-- What is stored to the value gradients before the diagonal. -/
abbrev l12B (A : Args) (xs1 xs2 : Vec Ideal S4096x128 .f32) : List (View.Piece (Elt Ideal) S4096x128 .f32) := ((A.postB xs1 xs2).2.2.1 ++ (A.preB xs1 xs2).2.2.1)

/-- What is stored to the running score sums before the diagonal. -/
abbrev l13B (A : Args) (xs1 xs2 : Vec Ideal S4096x128 .f32) : List (View.Piece (Elt Ideal) S2x512x1 .f32) := ((A.postB xs1 xs2).2.2.2.1 ++ ((A.preB xs1 xs2).2.2.2.1 ++ [(⟨Rect.unit (s := S2x512x1) ![0, 0, 0] S2x512x1.size inbS, k0_pay88 (F := Ideal)⟩ : View.Piece (Elt Ideal) S2x512x1 .f32)]))

/-- What is stored to the running response sums before the diagonal. -/
abbrev l14B (A : Args) (xs1 xs2 : Vec Ideal S4096x128 .f32) : List (View.Piece (Elt Ideal) S2x512x1 .f32) := ((A.postB xs1 xs2).2.2.2.2 ++ ((A.preB xs1 xs2).2.2.2.2 ++ [(⟨Rect.unit (s := S2x512x1) ![0, 0, 0] S2x512x1.size inbS, k0_pay89 (F := Ideal)⟩ : View.Piece (Elt Ideal) S2x512x1 .f32)]))

/-- The running score sums before the diagonal. -/
abbrev f13B (A : Args) (xs1 xs2 : Vec Ideal S4096x128 .f32) : BufTy.Contents (Elt Ideal) A.arg13.view.ty := (A.arg13.view.writes (Elt Ideal) A.arg13.view.junk (A.l13B xs1 xs2))

/-- The running response sums before the diagonal. -/
abbrev f14B (A : Args) (xs1 xs2 : Vec Ideal S4096x128 .f32) : BufTy.Contents (Elt Ideal) A.arg14.view.ty := (A.arg14.view.writes (Elt Ideal) A.arg14.view.junk (A.l14B xs1 xs2))

/-- The running score sums before diagonal block 1. -/
abbrev g13B (A : Args) (xs1 xs2 : Vec Ideal S4096x128 .f32) : BufTy.Contents (Elt Ideal) A.arg13.view.ty := (A.arg13.view.writes (Elt Ideal) A.arg13.view.junk (A.list13 (A.f13B xs1 xs2) (A.l13B xs1 xs2)))

/-- The running response sums before diagonal block 1. -/
abbrev g14B (A : Args) (xs1 xs2 : Vec Ideal S4096x128 .f32) : BufTy.Contents (Elt Ideal) A.arg14.view.ty := (A.arg14.view.writes (Elt Ideal) A.arg14.view.junk (A.list14 (A.f13B xs1 xs2) (A.f14B xs1 xs2) (A.l14B xs1 xs2)))

/-- The query gradients stored up to the diagonal, step a. -/
abbrev l10aB (A : Args) (xs1 xs2 : Vec Ideal S4096x128 .f32) : List (View.Piece (Elt Ideal) S2x512x128 .f32) := A.list10a A.arg10.view.junk (A.f13B xs1 xs2) (A.f14B xs1 xs2) (A.l10B xs1 xs2)

/-- The query gradients stored up to the diagonal, step b. -/
abbrev l10bB (A : Args) (xs1 xs2 : Vec Ideal S4096x128 .f32) : List (View.Piece (Elt Ideal) S2x512x128 .f32) := A.list10b A.arg10.view.junk (A.f13B xs1 xs2) (A.f14B xs1 xs2) (A.l10aB xs1 xs2)

/-- The query gradients stored up to the diagonal, step c. -/
abbrev l10cB (A : Args) (xs1 xs2 : Vec Ideal S4096x128 .f32) : List (View.Piece (Elt Ideal) S2x512x128 .f32) := A.list10c A.arg10.view.junk (A.g13B xs1 xs2) (A.g14B xs1 xs2) (A.l10bB xs1 xs2)

/-- The query gradients stored up to the diagonal, step d. -/
abbrev l10dB (A : Args) (xs1 xs2 : Vec Ideal S4096x128 .f32) : List (View.Piece (Elt Ideal) S2x512x128 .f32) := A.list10d A.arg10.view.junk (A.g13B xs1 xs2) (A.g14B xs1 xs2) (A.l10cB xs1 xs2)

/-- The key gradients stored up to diagonal block 0. -/
abbrev l11aB (A : Args) (xs1 xs2 : Vec Ideal S4096x128 .f32) : List (View.Piece (Elt Ideal) S4096x128 .f32) := A.list11a (A.harg11.unread xs1) (A.f13B xs1 xs2) (A.f14B xs1 xs2) (A.l11B xs1 xs2)

/-- The key gradients stored up to diagonal block 1. -/
abbrev l11bB (A : Args) (xs1 xs2 : Vec Ideal S4096x128 .f32) : List (View.Piece (Elt Ideal) S4096x128 .f32) := A.list11b (A.harg11.unread xs1) (A.g13B xs1 xs2) (A.g14B xs1 xs2) (A.l11aB xs1 xs2)

/-- The value gradients stored up to diagonal block 0. -/
abbrev l12aB (A : Args) (xs1 xs2 : Vec Ideal S4096x128 .f32) : List (View.Piece (Elt Ideal) S4096x128 .f32) := A.list12a (A.harg12.unread xs2) (A.f13B xs1 xs2) (A.l12B xs1 xs2)

/-- The value gradients stored up to diagonal block 1. -/
abbrev l12bB (A : Args) (xs1 xs2 : Vec Ideal S4096x128 .f32) : List (View.Piece (Elt Ideal) S4096x128 .f32) := A.list12b (A.harg12.unread xs2) (A.g13B xs1 xs2) (A.l12aB xs1 xs2)

variable {A : Args} {N : ℕ} {q d : ℕ → ℕ → ℕ → ℝ} {K V g1 g2 : ℕ → ℕ → ℝ}

/-- The running arrays after both loops. -/
theorem invB (ok : A.Ok N q d K V) {xs1 xs2 : Vec Ideal S4096x128 .f32} (h1 : Rd (φ := .f32) xs1 g1) (h2 : Rd (φ := .f32) xs2 g2) :
    A.Inv N q d K V g1 g2 A.row (A.arg10.view.writes (Elt Ideal) A.arg10.view.junk (A.l10B xs1 xs2)) (A.arg11.view.writes (Elt Ideal) (A.harg11.unread xs1) (A.l11B xs1 xs2)) (A.arg12.view.writes (Elt Ideal) (A.harg12.unread xs2) (A.l12B xs1 xs2)) (A.f13B xs1 xs2) (A.f14B xs1 xs2) :=
  (inv_zero (A := A) (m10 := A.arg10.view.junk) (m13 := A.arg13.view.junk) (m14 := A.arg14.view.junk) (G11 := (A.harg11.unread xs1)) (G12 := (A.harg12.unread xs2)) (by rw [A.harg11.read_unread]; exact h1) (by rw [A.harg12.read_unread]; exact h2)).after ok
    (rest_nil (A := A) (G10 := (A.arg10.view.writes (Elt Ideal) A.arg10.view.junk ((A.preB xs1 xs2).1 ++ [(⟨Rect.unit (s := S2x512x128) ![0, 0, 0] S2x512x128.size inbS, k0_pay87 (F := Ideal)⟩ : View.Piece (Elt Ideal) S2x512x128 .f32)]))) (G11 := (A.arg11.view.writes (Elt Ideal) (A.harg11.unread xs1) (A.preB xs1 xs2).2.1)) (G12 := (A.arg12.view.writes (Elt Ideal) (A.harg12.unread xs2) (A.preB xs1 xs2).2.2.1)) (G13 := (A.arg13.view.writes (Elt Ideal) A.arg13.view.junk ((A.preB xs1 xs2).2.2.2.1 ++ [(⟨Rect.unit (s := S2x512x1) ![0, 0, 0] S2x512x1.size inbS, k0_pay88 (F := Ideal)⟩ : View.Piece (Elt Ideal) S2x512x1 .f32)]))) (G14 := (A.arg14.view.writes (Elt Ideal) A.arg14.view.junk ((A.preB xs1 xs2).2.2.2.2 ++ [(⟨Rect.unit (s := S2x512x1) ![0, 0, 0] S2x512x1.size inbS, k0_pay89 (F := Ideal)⟩ : View.Piece (Elt Ideal) S2x512x1 .f32)]))) (kernelRun0_B.sl.v51 A.i))

end Args

open Args

section Chain

variable {c : Dev nD} {i : grid0.Coords} {arg2 : Memref sig .tc .vmem S512x128 .bf16} {harg2 : arg2.IsWhole} {arg3 : Memref sig .tc .vmem S4096x128 .bf16} {harg3 : arg3.IsWhole} {arg4 : Memref sig .tc .vmem S4096x128 .bf16} {harg4 : arg4.IsWhole} {arg5 : Memref sig .tc .vmem S512x128 .f32} {harg5 : arg5.IsWhole} {arg6 : Memref sig .tc .vmem S512x128 .f32} {harg6 : arg6.IsWhole} {arg7 : Memref sig .tc .vmem S512x128 .bf16} {harg7 : arg7.IsWhole} {arg8 : Memref sig .tc .vmem S4096x128 .bf16} {harg8 : arg8.IsWhole} {arg9 : Memref sig .tc .vmem S4096x128 .bf16} {harg9 : arg9.IsWhole} {arg10 : Memref sig .tc .vmem S2x512x128 .f32} {harg10 : arg10.IsWhole} {arg11 : Memref sig .tc .vmem S4096x128 .f32} {harg11 : arg11.IsWhole} {arg12 : Memref sig .tc .vmem S4096x128 .f32} {harg12 : arg12.IsWhole} {arg13 : Memref sig .tc .vmem S2x512x1 .f32} {harg13 : arg13.IsWhole} {arg14 : Memref sig .tc .vmem S2x512x1 .f32} {harg14 : arg14.IsWhole}
variable {x0 : Vec Ideal S512x128 .bf16} {x1 x2 : Vec Ideal S4096x128 .bf16} {x3 x4 : Vec Ideal S512x128 .f32} {xs1 xs2 : Vec Ideal S4096x128 .f32}
variable {A : Args} (hA : A = pt c i arg2 harg2 arg3 harg3 arg4 harg4 arg5 harg5 arg6 harg6 arg7 harg7 arg8 harg8 arg9 harg9 arg10 harg10 arg11 harg11 arg12 harg12 arg13 harg13 arg14 harg14 x0 x1 x2 x3 x4)
include hA

theorem B_v11 : kernelRun0_B.sl.v11 = A.v11 := by
  delta kernelRun0_B.sl.v11
  subst hA; rfl

theorem B_v12 : kernelRun0_B.sl.v12 = A.v12 := by
  delta kernelRun0_B.sl.v12
  subst hA; rfl

theorem B_r : kernelRun0_B.sl.r (F := Ideal) c arg2 harg2 x0 = A.v20 := by
  delta kernelRun0_B.sl.r
  subst hA; rfl

theorem B_r_1 : kernelRun0_B.sl.r_1 (F := Ideal) c arg2 harg2 x0 = A.v21 := by
  delta kernelRun0_B.sl.r_1
  subst hA; rfl

theorem B_r_2 : kernelRun0_B.sl.r_2 (F := Ideal) c arg5 harg5 x3 = A.v28 := by
  delta kernelRun0_B.sl.r_2
  subst hA; rfl

theorem B_r_3 : kernelRun0_B.sl.r_3 (F := Ideal) c arg5 harg5 x3 = A.v29 := by
  delta kernelRun0_B.sl.r_3
  subst hA; rfl

theorem B_r_4 : kernelRun0_B.sl.r_4 (F := Ideal) c arg6 harg6 x4 = A.v32 := by
  delta kernelRun0_B.sl.r_4
  subst hA; rfl

theorem B_r_5 : kernelRun0_B.sl.r_5 (F := Ideal) c arg6 harg6 x4 = A.v33 := by
  delta kernelRun0_B.sl.r_5
  subst hA; rfl

theorem B_HS4_1 : kernelRun0_B.sl.HS4_1 (F := Ideal) = [(⟨Rect.unit (s := S2x512x1) ![0, 0, 0] S2x512x1.size inbS, k0_pay89 (F := Ideal)⟩ : View.Piece (Elt Ideal) S2x512x1 .f32)] := by
  delta kernelRun0_B.sl.HS4_1
  subst hA; rfl

theorem B_HS3_1 : kernelRun0_B.sl.HS3_1 (F := Ideal) = [(⟨Rect.unit (s := S2x512x1) ![0, 0, 0] S2x512x1.size inbS, k0_pay88 (F := Ideal)⟩ : View.Piece (Elt Ideal) S2x512x1 .f32)] := by
  delta kernelRun0_B.sl.HS3_1
  subst hA; rfl

theorem B_HS0_1 : kernelRun0_B.sl.HS0_1 (F := Ideal) = [(⟨Rect.unit (s := S2x512x128) ![0, 0, 0] S2x512x128.size inbS, k0_pay87 (F := Ideal)⟩ : View.Piece (Elt Ideal) S2x512x128 .f32)] := by
  delta kernelRun0_B.sl.HS0_1
  subst hA; rfl

theorem pb1_B : pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 ↑(i 1)) k0_pay72 k0_pay73 (kernelRun0_B.sl.v11) (kernelRun0_B.sl.v12) (kernelRun0_B.sl.r (F := Ideal) c arg2 harg2 x0) (kernelRun0_B.sl.r_1 (F := Ideal) c arg2 harg2 x0) (kernelRun0_B.sl.r_2 (F := Ideal) c arg5 harg5 x3) (kernelRun0_B.sl.r_3 (F := Ideal) c arg5 harg5 x3) (kernelRun0_B.sl.r_4 (F := Ideal) c arg6 harg6 x4) (kernelRun0_B.sl.r_5 (F := Ideal) c arg6 harg6 x4) k0_pay87 (harg3.unread x1) (harg4.unread x2) (arg10.view.writes (Elt Ideal) arg10.view.junk (kernelRun0_B.sl.HS0_1 (F := Ideal))) (harg11.unread xs1) (harg12.unread xs2) (arg13.view.writes (Elt Ideal) arg13.view.junk (kernelRun0_B.sl.HS3_1 (F := Ideal))) (arg14.view.writes (Elt Ideal) arg14.view.junk (kernelRun0_B.sl.HS4_1 (F := Ideal))) (Scf.trips (k0_t1_loop i).lb (k0_t1_loop i).ub (k0_t1_loop i).st) = A.preB xs1 xs2 := by
  subst hA; rfl

theorem pb2_B : pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 ↑(i 1)) k0_pay72 k0_pay73 (kernelRun0_B.sl.v11) (kernelRun0_B.sl.v12) (kernelRun0_B.sl.r (F := Ideal) c arg2 harg2 x0) (kernelRun0_B.sl.r_1 (F := Ideal) c arg2 harg2 x0) (kernelRun0_B.sl.r_2 (F := Ideal) c arg5 harg5 x3) (kernelRun0_B.sl.r_3 (F := Ideal) c arg5 harg5 x3) (kernelRun0_B.sl.r_4 (F := Ideal) c arg6 harg6 x4) (kernelRun0_B.sl.r_5 (F := Ideal) c arg6 harg6 x4) k0_pay87 (kernelRun0_B.sl.v51 i) (harg3.unread x1) (harg4.unread x2) (arg10.view.writes (Elt Ideal) arg10.view.junk ((A.preB xs1 xs2).1 ++ (kernelRun0_B.sl.HS0_1 (F := Ideal)))) (arg11.view.writes (Elt Ideal) (harg11.unread xs1) (A.preB xs1 xs2).2.1) (arg12.view.writes (Elt Ideal) (harg12.unread xs2) (A.preB xs1 xs2).2.2.1) (arg13.view.writes (Elt Ideal) arg13.view.junk ((A.preB xs1 xs2).2.2.2.1 ++ (kernelRun0_B.sl.HS3_1 (F := Ideal)))) (arg14.view.writes (Elt Ideal) arg14.view.junk ((A.preB xs1 xs2).2.2.2.2 ++ (kernelRun0_B.sl.HS4_1 (F := Ideal)))) (Scf.trips (k0_t2_loop i).lb (k0_t2_loop i).ub (k0_t2_loop i).st) = A.postB xs1 xs2 := by
  subst hA; rfl

theorem B_r_39 : kernelRun0_B.sl.r_39 (F := Ideal) i arg3 harg3 x1 = A.kD1 := by
  delta kernelRun0_B.sl.r_39
  subst hA; rfl

theorem B_r_35 : kernelRun0_B.sl.r_35 (F := Ideal) c arg2 harg2 x0 = (k0_pay140 A.v21) := by
  delta kernelRun0_B.sl.r_35
  rw [B_r_1 hA]
  all_goals (subst hA; rfl)

theorem B_r_47 : kernelRun0_B.sl.r_47 (F := Ideal) c i arg2 harg2 arg3 harg3 x0 x1 = betaB (k0_pay140 A.v21) A.kD1 := by
  delta kernelRun0_B.sl.r_47
  rw [B_r_35 hA, B_r_39 hA]
  all_goals (subst hA; rfl)

theorem B_r_38 : kernelRun0_B.sl.r_38 (F := Ideal) c arg6 harg6 x4 = (k0_pay143 A.v33) := by
  delta kernelRun0_B.sl.r_38
  rw [B_r_5 hA]
  all_goals (subst hA; rfl)

theorem B_r_42 : kernelRun0_B.sl.r_42 (F := Ideal) c i arg2 harg2 arg3 harg3 x0 x1 = zB (k0_pay140 A.v21) A.kD1 := by
  delta kernelRun0_B.sl.r_42
  rw [B_r_35 hA, B_r_39 hA]
  all_goals (subst hA; rfl)

theorem B_r_36 : kernelRun0_B.sl.r_36 (F := Ideal) c arg5 harg5 x3 = (k0_pay141 A.v29) := by
  delta kernelRun0_B.sl.r_36
  rw [B_r_3 hA]
  all_goals (subst hA; rfl)

theorem B_r_40 : kernelRun0_B.sl.r_40 (F := Ideal) i arg4 harg4 x2 = A.vD1 := by
  delta kernelRun0_B.sl.r_40
  subst hA; rfl

theorem B_r_44 : kernelRun0_B.sl.r_44 (F := Ideal) c i arg4 harg4 arg5 harg5 x2 x3 = uB (k0_pay141 A.v29) A.vD1 := by
  delta kernelRun0_B.sl.r_44
  rw [B_r_36 hA, B_r_40 hA]
  all_goals (subst hA; rfl)

theorem B_r_50 : kernelRun0_B.sl.r_50 (F := Ideal) c i arg2 harg2 arg3 harg3 x0 x1 = resB A.v10 (k0_pay137 A.v11 A.v12) (k0_pay140 A.v21) A.kD1 := by
  delta kernelRun0_B.sl.r_50
  rw [B_v11 hA, B_v12 hA, B_r_35 hA, B_r_39 hA]
  all_goals (subst hA; rfl)

theorem B_r_8 : kernelRun0_B.sl.r_8 (F := Ideal) c i arg2 harg2 arg3 harg3 x0 x1 = zA A.v21 A.kD0 := by
  delta kernelRun0_B.sl.r_8
  rw [B_r_1 hA]
  all_goals (subst hA; rfl)

theorem B_r_15 : kernelRun0_B.sl.r_15 (F := Ideal) c i arg2 harg2 arg3 harg3 x0 x1 = spA (k0_pay96 A.v11 A.v12) A.v21 A.kD0 := by
  delta kernelRun0_B.sl.r_15
  rw [B_v11 hA, B_v12 hA, B_r_8 hA]
  all_goals (subst hA; rfl)

theorem B_r_17 : kernelRun0_B.sl.r_17 (F := Ideal) c i arg2 harg2 arg3 harg3 x0 x1 = resA A.v10 (k0_pay96 A.v11 A.v12) A.v21 A.kD0 := by
  delta kernelRun0_B.sl.r_17
  rw [B_v11 hA, B_v12 hA, B_r_8 hA]
  all_goals (subst hA; rfl)

theorem B_v109 : kernelRun0_B.sl.v109 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.r13_1 (A.f13B xs1 xs2) := by
  delta kernelRun0_B.sl.v109
  rw [pb1_B hA, pb2_B hA]
  rw [B_HS3_1 hA]
  all_goals (subst hA; rfl)

theorem B_r_19 : kernelRun0_B.sl.r_19 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay110 (A.r13_1 (A.f13B xs1 xs2)) := by
  delta kernelRun0_B.sl.r_19
  rw [B_v109 hA]
  all_goals (subst hA; rfl)

theorem B_r_25 : kernelRun0_B.sl.r_25 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay115 (spA (k0_pay96 A.v11 A.v12) A.v21 A.kD0) (resA A.v10 (k0_pay96 A.v11 A.v12) A.v21 A.kD0) (k0_pay110 (A.r13_1 (A.f13B xs1 xs2))) := by
  delta kernelRun0_B.sl.r_25
  rw [B_r_15 hA, B_r_17 hA, B_r_19 hA]
  all_goals (subst hA; rfl)

theorem B_HS3_2 : kernelRun0_B.sl.HS3_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.list13 (A.f13B xs1 xs2) (A.l13B xs1 xs2) := by
  delta kernelRun0_B.sl.HS3_2
  rw [pb1_B hA, pb2_B hA]
  rw [B_r_25 hA]
  all_goals (subst hA; rfl)

theorem B_v279 : kernelRun0_B.sl.v279 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.s13_1 (A.g13B xs1 xs2) := by
  delta kernelRun0_B.sl.v279
  rw [B_HS3_2 hA]
  all_goals (subst hA; rfl)

theorem B_r_55 : kernelRun0_B.sl.r_55 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = prB A.v10 (k0_pay137 A.v11 A.v12) (k0_pay140 A.v21) (k0_pay141 A.v29) A.kD1 A.vD1 (k0_pay143 A.v33) (A.s13_1 (A.g13B xs1 xs2)) := by
  delta kernelRun0_B.sl.r_55
  rw [B_v11 hA, B_v12 hA, B_r_38 hA, B_r_42 hA, B_r_44 hA, B_r_50 hA, B_v279 hA]
  all_goals (subst hA; rfl)

theorem B_r_57 : kernelRun0_B.sl.r_57 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = respB A.v9 A.v10 (k0_pay137 A.v11 A.v12) (k0_pay140 A.v21) (k0_pay141 A.v29) A.kD1 A.vD1 (k0_pay143 A.v33) (A.s13_1 (A.g13B xs1 xs2)) := by
  delta kernelRun0_B.sl.r_57
  rw [B_v11 hA, B_v12 hA, B_r_38 hA, B_r_42 hA, B_r_44 hA, B_r_50 hA, B_v279 hA]
  all_goals (subst hA; rfl)

theorem B_r_10 : kernelRun0_B.sl.r_10 (F := Ideal) c i arg4 harg4 arg5 harg5 x2 x3 = uA A.v29 A.vD0 := by
  delta kernelRun0_B.sl.r_10
  rw [B_r_3 hA]
  all_goals (subst hA; rfl)

theorem B_r_24 : kernelRun0_B.sl.r_24 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = prA A.v10 (k0_pay96 A.v11 A.v12) A.v21 A.v29 A.kD0 A.vD0 A.v33 (A.r13_1 (A.f13B xs1 xs2)) := by
  delta kernelRun0_B.sl.r_24
  rw [B_r_5 hA, B_v11 hA, B_v12 hA, B_r_8 hA, B_r_10 hA, B_r_17 hA, B_r_19 hA]
  all_goals (subst hA; rfl)

theorem B_r_26 : kernelRun0_B.sl.r_26 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = respA A.v9 A.v10 (k0_pay96 A.v11 A.v12) A.v21 A.v29 A.kD0 A.vD0 A.v33 (A.r13_1 (A.f13B xs1 xs2)) := by
  delta kernelRun0_B.sl.r_26
  rw [B_r_5 hA, B_v11 hA, B_v12 hA, B_r_8 hA, B_r_10 hA, B_r_17 hA, B_r_19 hA]
  all_goals (subst hA; rfl)

theorem B_v141 : kernelRun0_B.sl.v141 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.r14_1 (A.f14B xs1 xs2) := by
  delta kernelRun0_B.sl.v141
  rw [pb1_B hA, pb2_B hA]
  rw [B_HS4_1 hA]
  all_goals (subst hA; rfl)

theorem B_r_27 : kernelRun0_B.sl.r_27 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay122 (A.r14_1 (A.f14B xs1 xs2)) := by
  delta kernelRun0_B.sl.r_27
  rw [B_v141 hA]
  all_goals (subst hA; rfl)

theorem B_HS4_2 : kernelRun0_B.sl.HS4_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.list14 (A.f13B xs1 xs2) (A.f14B xs1 xs2) (A.l14B xs1 xs2) := by
  delta kernelRun0_B.sl.HS4_2
  rw [pb1_B hA, pb2_B hA]
  rw [B_r_24 hA, B_r_26 hA, B_r_27 hA]
  all_goals (subst hA; rfl)

theorem B_v311 : kernelRun0_B.sl.v311 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.s14_1 (A.g14B xs1 xs2) := by
  delta kernelRun0_B.sl.v311
  rw [B_HS4_2 hA]
  all_goals (subst hA; rfl)

theorem B_r_59 : kernelRun0_B.sl.r_59 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay167 (A.s14_1 (A.g14B xs1 xs2)) := by
  delta kernelRun0_B.sl.r_59
  rw [B_v311 hA]
  all_goals (subst hA; rfl)

theorem B_r_62 : kernelRun0_B.sl.r_62 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.dz1_1 (A.g13B xs1 xs2) (A.g14B xs1 xs2) := by
  delta kernelRun0_B.sl.r_62
  rw [B_v11 hA, B_v12 hA, B_r_47 hA, B_r_55 hA, B_r_57 hA, B_r_59 hA]
  all_goals (subst hA; rfl)

theorem B_r_37 : kernelRun0_B.sl.r_37 (F := Ideal) c arg6 harg6 x4 = (k0_pay142 A.v32) := by
  delta kernelRun0_B.sl.r_37
  rw [B_r_4 hA]
  all_goals (subst hA; rfl)

theorem B_r_33 : kernelRun0_B.sl.r_33 (F := Ideal) c arg2 harg2 x0 = (k0_pay138 A.v20) := by
  delta kernelRun0_B.sl.r_33
  rw [B_r hA]
  all_goals (subst hA; rfl)

theorem B_r_41 : kernelRun0_B.sl.r_41 (F := Ideal) c i arg2 harg2 arg3 harg3 x0 x1 = zB (k0_pay138 A.v20) A.kD1 := by
  delta kernelRun0_B.sl.r_41
  rw [B_r_33 hA, B_r_39 hA]
  all_goals (subst hA; rfl)

theorem B_r_34 : kernelRun0_B.sl.r_34 (F := Ideal) c arg5 harg5 x3 = (k0_pay139 A.v28) := by
  delta kernelRun0_B.sl.r_34
  rw [B_r_2 hA]
  all_goals (subst hA; rfl)

theorem B_r_43 : kernelRun0_B.sl.r_43 (F := Ideal) c i arg4 harg4 arg5 harg5 x2 x3 = uB (k0_pay139 A.v28) A.vD1 := by
  delta kernelRun0_B.sl.r_43
  rw [B_r_34 hA, B_r_40 hA]
  all_goals (subst hA; rfl)

theorem B_r_45 : kernelRun0_B.sl.r_45 (F := Ideal) c i arg2 harg2 arg3 harg3 x0 x1 = betaB (k0_pay138 A.v20) A.kD1 := by
  delta kernelRun0_B.sl.r_45
  rw [B_r_33 hA, B_r_39 hA]
  all_goals (subst hA; rfl)

theorem B_r_49 : kernelRun0_B.sl.r_49 (F := Ideal) c i arg2 harg2 arg3 harg3 x0 x1 = resB A.v10 (k0_pay137 A.v11 A.v12) (k0_pay138 A.v20) A.kD1 := by
  delta kernelRun0_B.sl.r_49
  rw [B_v11 hA, B_v12 hA, B_r_33 hA, B_r_39 hA]
  all_goals (subst hA; rfl)

theorem B_v277 : kernelRun0_B.sl.v277 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.s13_0 (A.g13B xs1 xs2) := by
  delta kernelRun0_B.sl.v277
  rw [B_HS3_2 hA]
  all_goals (subst hA; rfl)

theorem B_v309 : kernelRun0_B.sl.v309 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.s14_0 (A.g14B xs1 xs2) := by
  delta kernelRun0_B.sl.v309
  rw [B_HS4_2 hA]
  all_goals (subst hA; rfl)

theorem B_r_60 : kernelRun0_B.sl.r_60 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.dz1_0 (A.g13B xs1 xs2) (A.g14B xs1 xs2) := by
  delta kernelRun0_B.sl.r_60
  rw [B_v11 hA, B_v12 hA, B_r_37 hA, B_r_41 hA, B_r_43 hA, B_r_45 hA, B_r_49 hA, B_v277 hA, B_v309 hA]
  all_goals (subst hA; rfl)

theorem B_r_6 : kernelRun0_B.sl.r_6 (F := Ideal) i arg3 harg3 x1 = A.kD0 := by
  delta kernelRun0_B.sl.r_6
  subst hA; rfl

theorem B_r_14 : kernelRun0_B.sl.r_14 (F := Ideal) c i arg2 harg2 arg3 harg3 x0 x1 = betaA A.v21 A.kD0 := by
  delta kernelRun0_B.sl.r_14
  rw [B_r_8 hA]
  all_goals (subst hA; rfl)

theorem B_r_30 : kernelRun0_B.sl.r_30 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay125 A.v9 A.v33 (k0_pay96 A.v11 A.v12) (zA A.v21 A.kD0) (uA A.v29 A.vD0) (betaA A.v21 A.kD0) (resA A.v10 (k0_pay96 A.v11 A.v12) A.v21 A.kD0) (k0_pay110 (A.r13_1 (A.f13B xs1 xs2))) (A.r14_1 (A.f14B xs1 xs2)) := by
  delta kernelRun0_B.sl.r_30
  rw [B_r_5 hA, B_v11 hA, B_v12 hA, B_r_8 hA, B_r_10 hA, B_r_14 hA, B_r_17 hA, B_r_19 hA, B_v141 hA]
  all_goals (subst hA; rfl)

theorem B_r_7 : kernelRun0_B.sl.r_7 (F := Ideal) c i arg2 harg2 arg3 harg3 x0 x1 = zA A.v20 A.kD0 := by
  delta kernelRun0_B.sl.r_7
  rw [B_r hA]
  all_goals (subst hA; rfl)

theorem B_r_9 : kernelRun0_B.sl.r_9 (F := Ideal) c i arg4 harg4 arg5 harg5 x2 x3 = uA A.v28 A.vD0 := by
  delta kernelRun0_B.sl.r_9
  rw [B_r_2 hA]
  all_goals (subst hA; rfl)

theorem B_r_11 : kernelRun0_B.sl.r_11 (F := Ideal) c i arg2 harg2 arg3 harg3 x0 x1 = k0_pay101 A.v20 A.kD0 := by
  delta kernelRun0_B.sl.r_11
  rw [B_r hA]
  all_goals (subst hA; rfl)

theorem B_r_12 : kernelRun0_B.sl.r_12 (F := Ideal) c i arg2 harg2 arg3 harg3 x0 x1 = betaA A.v20 A.kD0 := by
  delta kernelRun0_B.sl.r_12
  rw [B_r_7 hA, B_r_11 hA]
  all_goals (subst hA; rfl)

theorem B_r_16 : kernelRun0_B.sl.r_16 (F := Ideal) c i arg2 harg2 arg3 harg3 x0 x1 = resA A.v10 (k0_pay96 A.v11 A.v12) A.v20 A.kD0 := by
  delta kernelRun0_B.sl.r_16
  rw [B_v11 hA, B_v12 hA, B_r_7 hA, B_r_11 hA]
  all_goals (subst hA; rfl)

theorem B_v107 : kernelRun0_B.sl.v107 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.r13_0 (A.f13B xs1 xs2) := by
  delta kernelRun0_B.sl.v107
  rw [pb1_B hA, pb2_B hA]
  rw [B_HS3_1 hA]
  all_goals (subst hA; rfl)

theorem B_r_20 : kernelRun0_B.sl.r_20 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay112 A.v32 (A.r13_0 (A.f13B xs1 xs2)) := by
  delta kernelRun0_B.sl.r_20
  rw [B_r_4 hA, B_v107 hA]
  all_goals (subst hA; rfl)

theorem B_v139 : kernelRun0_B.sl.v139 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.r14_0 (A.f14B xs1 xs2) := by
  delta kernelRun0_B.sl.v139
  rw [pb1_B hA, pb2_B hA]
  rw [B_HS4_1 hA]
  all_goals (subst hA; rfl)

theorem B_r_28 : kernelRun0_B.sl.r_28 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.dz0_0 (A.f13B xs1 xs2) (A.f14B xs1 xs2) := by
  delta kernelRun0_B.sl.r_28
  rw [B_v11 hA, B_v12 hA, B_r_7 hA, B_r_9 hA, B_r_12 hA, B_r_16 hA, B_r_20 hA, B_v139 hA]
  all_goals (subst hA; rfl)

theorem B_v174 : kernelRun0_B.sl.v174 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg10.view.readAt (Elt Ideal) (Rect.unit (s := S2x512x128) ![0, 0, 0] ![1, 512, 128] inb0).toLoadRect (A.arg10.view.writes (Elt Ideal) A.arg10.view.junk (A.l10B xs1 xs2))) := by
  delta kernelRun0_B.sl.v174
  rw [pb1_B hA, pb2_B hA]
  rw [B_HS0_1 hA]
  all_goals (subst hA; rfl)

theorem B_HS0_1_1 : kernelRun0_B.sl.HS0_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.l10aB xs1 xs2) := by
  delta kernelRun0_B.sl.HS0_1_1
  rw [pb1_B hA, pb2_B hA]
  rw [B_r_6 hA, B_r_28 hA, B_v174 hA, B_HS0_1 hA]
  all_goals (subst hA; rfl)

theorem B_v187 : kernelRun0_B.sl.v187 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg10.view.readAt (Elt Ideal) (Rect.unit (s := S2x512x128) ![1, 0, 0] ![1, 512, 128] inb1).toLoadRect (A.arg10.view.writes (Elt Ideal) A.arg10.view.junk (A.l10aB xs1 xs2))) := by
  delta kernelRun0_B.sl.v187
  rw [B_HS0_1_1 hA]
  all_goals (subst hA; rfl)

theorem B_r_32 : kernelRun0_B.sl.r_32 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay133 (k0_pay96 A.v11 A.v12) A.kD0 (k0_pay125 A.v9 A.v33 (k0_pay96 A.v11 A.v12) (zA A.v21 A.kD0) (uA A.v29 A.vD0) (betaA A.v21 A.kD0) (resA A.v10 (k0_pay96 A.v11 A.v12) A.v21 A.kD0) (k0_pay110 (A.r13_1 (A.f13B xs1 xs2))) (A.r14_1 (A.f14B xs1 xs2))) k0_pay126 (A.arg10.view.readAt (Elt Ideal) (Rect.unit (s := S2x512x128) ![1, 0, 0] ![1, 512, 128] inb1).toLoadRect (A.arg10.view.writes (Elt Ideal) A.arg10.view.junk (A.l10aB xs1 xs2))) := by
  delta kernelRun0_B.sl.r_32
  rw [B_v11 hA, B_v12 hA, B_r_6 hA, B_r_30 hA, B_v187 hA]
  all_goals (subst hA; rfl)

theorem B_HS0_2 : kernelRun0_B.sl.HS0_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.l10bB xs1 xs2) := by
  delta kernelRun0_B.sl.HS0_2
  rw [B_r_32 hA, B_HS0_1_1 hA]
  all_goals (subst hA; rfl)

theorem B_v344 : kernelRun0_B.sl.v344 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg10.view.readAt (Elt Ideal) (Rect.unit (s := S2x512x128) ![0, 256, 0] ![1, 256, 128] inb0').toLoadRect (A.arg10.view.writes (Elt Ideal) A.arg10.view.junk (A.l10bB xs1 xs2))) := by
  delta kernelRun0_B.sl.v344
  rw [B_HS0_2 hA]
  all_goals (subst hA; rfl)

theorem B_HS0_3 : kernelRun0_B.sl.HS0_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.l10cB xs1 xs2) := by
  delta kernelRun0_B.sl.HS0_3
  rw [B_r_39 hA, B_r_60 hA, B_v344 hA, B_HS0_2 hA]
  all_goals (subst hA; rfl)

theorem B_v357 : kernelRun0_B.sl.v357 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg10.view.readAt (Elt Ideal) (Rect.unit (s := S2x512x128) ![1, 256, 0] ![1, 256, 128] inb1').toLoadRect (A.arg10.view.writes (Elt Ideal) A.arg10.view.junk (A.l10cB xs1 xs2))) := by
  delta kernelRun0_B.sl.v357
  rw [B_HS0_3 hA]
  all_goals (subst hA; rfl)

theorem B_HS0_4 : kernelRun0_B.sl.HS0_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.l10dB xs1 xs2) := by
  delta kernelRun0_B.sl.HS0_4
  rw [B_r_39 hA, B_r_62 hA, B_v357 hA, B_HS0_3 hA]
  all_goals (subst hA; rfl)

theorem B_v385 : kernelRun0_B.sl.v385 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg10.view.readAt (Elt Ideal) (Rect.unit (s := S2x512x128) ![0, 0, 0] S1x512x128.size inb0).toLoadRect (A.arg10.view.writes (Elt Ideal) A.arg10.view.junk (A.l10dB xs1 xs2))) := by
  delta kernelRun0_B.sl.v385
  rw [B_HS0_4 hA]
  all_goals (subst hA; rfl)

theorem B_v387 : kernelRun0_B.sl.v387 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg10.view.readAt (Elt Ideal) (Rect.unit (s := S2x512x128) ![1, 0, 0] S1x512x128.size inb1).toLoadRect (A.arg10.view.writes (Elt Ideal) A.arg10.view.junk (A.l10dB xs1 xs2))) := by
  delta kernelRun0_B.sl.v387
  rw [B_HS0_4 hA]
  all_goals (subst hA; rfl)

theorem B_r_63 : kernelRun0_B.sl.r_63 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay179 k0_pay75 (A.arg10.view.readAt (Elt Ideal) (Rect.unit (s := S2x512x128) ![0, 0, 0] S1x512x128.size inb0).toLoadRect (A.arg10.view.writes (Elt Ideal) A.arg10.view.junk (A.l10dB xs1 xs2))) (A.arg10.view.readAt (Elt Ideal) (Rect.unit (s := S2x512x128) ![1, 0, 0] S1x512x128.size inb1).toLoadRect (A.arg10.view.writes (Elt Ideal) A.arg10.view.junk (A.l10dB xs1 xs2))) := by
  delta kernelRun0_B.sl.r_63
  rw [B_v385 hA, B_v387 hA]
  all_goals (subst hA; rfl)

theorem B_r_31 : kernelRun0_B.sl.r_31 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.dz0_1 (A.f13B xs1 xs2) (A.f14B xs1 xs2) := by
  delta kernelRun0_B.sl.r_31
  rw [B_v11 hA, B_v12 hA, B_r_30 hA]
  all_goals (subst hA; rfl)

theorem B_v202 : kernelRun0_B.sl.v202 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg11.view.readAt (Elt Ideal) (Rect.unit (s := S4096x128) (k0_off3 A.i 0#32) ![256, 128] (inb_diag0 A)).toLoadRect (A.arg11.view.writes (Elt Ideal) (A.harg11.unread xs1) (A.l11B xs1 xs2))) := by
  delta kernelRun0_B.sl.v202
  rw [pb1_B hA, pb2_B hA]
  subst hA; rfl

theorem B_HS1_1 : kernelRun0_B.sl.HS1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.l11aB xs1 xs2 := by
  delta kernelRun0_B.sl.HS1_1
  rw [pb1_B hA, pb2_B hA]
  rw [B_r hA, B_r_1 hA, B_r_28 hA, B_r_31 hA, B_v202 hA]
  all_goals (subst hA; rfl)

theorem B_r_51 : kernelRun0_B.sl.r_51 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.att1_0 (A.g13B xs1 xs2) := by
  delta kernelRun0_B.sl.r_51
  rw [B_v11 hA, B_v12 hA, B_r_37 hA, B_r_41 hA, B_r_49 hA, B_v277 hA]
  all_goals (subst hA; rfl)

theorem B_r_54 : kernelRun0_B.sl.r_54 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.att1_1 (A.g13B xs1 xs2) := by
  delta kernelRun0_B.sl.r_54
  rw [B_v11 hA, B_v12 hA, B_r_38 hA, B_r_42 hA, B_r_50 hA, B_v279 hA]
  all_goals (subst hA; rfl)

theorem B_r_21 : kernelRun0_B.sl.r_21 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.att0_0 (A.f13B xs1 xs2) := by
  delta kernelRun0_B.sl.r_21
  rw [B_v11 hA, B_v12 hA, B_r_7 hA, B_r_16 hA, B_r_20 hA]
  all_goals (subst hA; rfl)

theorem B_r_23 : kernelRun0_B.sl.r_23 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.att0_1 (A.f13B xs1 xs2) := by
  delta kernelRun0_B.sl.r_23
  rw [B_r_5 hA, B_v11 hA, B_v12 hA, B_r_8 hA, B_r_17 hA, B_r_19 hA]
  all_goals (subst hA; rfl)

theorem B_v209 : kernelRun0_B.sl.v209 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg12.view.readAt (Elt Ideal) (Rect.unit (s := S4096x128) (k0_off3 A.i 0#32) ![256, 128] (inb_diag0 A)).toLoadRect (A.arg12.view.writes (Elt Ideal) (A.harg12.unread xs2) (A.l12B xs1 xs2))) := by
  delta kernelRun0_B.sl.v209
  rw [pb1_B hA, pb2_B hA]
  subst hA; rfl

theorem B_HS2_1 : kernelRun0_B.sl.HS2_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.l12aB xs1 xs2 := by
  delta kernelRun0_B.sl.HS2_1
  rw [pb1_B hA, pb2_B hA]
  rw [B_r_2 hA, B_r_3 hA, B_r_21 hA, B_r_23 hA, B_v209 hA]
  all_goals (subst hA; rfl)

/-- The stores to the query gradients. -/
theorem outB_q (hc0 : ¬cond0_0 i) (hc1 : ¬cond0_1 i) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).1 = [(⟨Rect.unit (s := S512x128) ![0, 0] ![512, 128] inbW, k0_pay1 (k0_pay179 k0_pay75 (A.arg10.view.readAt (Elt Ideal) (Rect.unit (s := S2x512x128) ![0, 0, 0] S1x512x128.size inb0).toLoadRect (A.arg10.view.writes (Elt Ideal) A.arg10.view.junk (A.l10dB xs1 xs2))) (A.arg10.view.readAt (Elt Ideal) (Rect.unit (s := S2x512x128) ![1, 0, 0] S1x512x128.size inb1).toLoadRect (A.arg10.view.writes (Elt Ideal) A.arg10.view.junk (A.l10dB xs1 xs2))))⟩ : View.Piece (Elt Ideal) S512x128 .bf16)] := by
  delta kernelRun0_B
  dsimp only
  rw [B_r_63 hA]
  all_goals (subst hA; rfl)

/-- The stores to the running key gradients. -/
theorem outB_k (hc0 : ¬cond0_0 i) (hc1 : ¬cond0_1 i) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).2.2.2.1 = A.l11bB xs1 xs2 := by
  delta kernelRun0_B
  dsimp only
  rw [B_r_33 hA, B_r_35 hA, B_r_60 hA, B_r_62 hA, B_HS1_1 hA]
  all_goals (subst hA; rfl)

/-- The stores to the running value gradients. -/
theorem outB_v (hc0 : ¬cond0_0 i) (hc1 : ¬cond0_1 i) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).2.2.2.2.1 = A.l12bB xs1 xs2 := by
  delta kernelRun0_B
  dsimp only
  rw [B_r_34 hA, B_r_36 hA, B_r_51 hA, B_r_54 hA, B_HS2_1 hA]
  all_goals (subst hA; rfl)

end Chain

section Case

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S2x512x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S2x512x1 .f32) (harg13 : arg13.IsWhole) (arg14 : Memref sig .tc .vmem S2x512x1 .f32) (harg14 : arg14.IsWhole)
variable (x0 : Vec Ideal S512x128 .bf16) (x1 x2 : Vec Ideal S4096x128 .bf16) (x3 x4 : Vec Ideal S512x128 .f32) (xs1 xs2 : Vec Ideal S4096x128 .f32)
variable {N : ℕ} {Q D K V g1 g2 : ℕ → ℕ → ℝ}

/-- The query gradients of a middle block of queries. -/
theorem caseB_q (hc0 : ¬cond0_0 i) (hc1 : ¬cond0_1 i) (hi : Inputs (i 1).val N Q D K V x0 x1 x2 x3 x4) (h1 : Rd (φ := .f32) xs1 g1) (h2 : Rd (φ := .f32) xs2 g2) (v : View sig .tc .vmem S512x128 .bf16) (m : v.ty.Contents (Elt Ideal)) :
    Rd (φ := .bf16) (v.read (Elt Ideal) (v.writes (Elt Ideal) m (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).1))
      (fun r c => (∑ s ∈ range (512 * (i 1).val + 512), dS N Q D K V (c / 64) (512 * (i 1).val + r) s * K s c) * (1 / 8)) := by
  rw [outB_q (A := pt c i arg2 harg2 arg3 harg3 arg4 harg4 arg5 harg5 arg6 harg6 arg7 harg7 arg8 harg8 arg9 harg9 arg10 harg10 arg11 harg11 arg12 harg12 arg13 harg13 arg14 harg14 x0 x1 x2 x3 x4) rfl hc0 hc1]
  exact Args.rd_dq ((invB hi.ok h1 h2).finish_q hi.ok pt_iota) v m

/-- The running key gradients after a middle block of queries. -/
theorem caseB_k (hc0 : ¬cond0_0 i) (hc1 : ¬cond0_1 i) (hi : Inputs (i 1).val N Q D K V x0 x1 x2 x3 x4) (h1 : Rd (φ := .f32) xs1 g1) (h2 : Rd (φ := .f32) xs2 g2) :
    Rd (φ := .f32) (arg11.view.read (Elt Ideal) (arg11.view.writes (Elt Ideal) (harg11.unread xs1) (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).2.2.2.1)) (fun s c => g1 s c + if s < 512 * (i 1).val + 512 then addK N Q D K V (i 1).val s c else 0) := by
  rw [outB_k (A := pt c i arg2 harg2 arg3 harg3 arg4 harg4 arg5 harg5 arg6 harg6 arg7 harg7 arg8 harg8 arg9 harg9 arg10 harg10 arg11 harg11 arg12 harg12 arg13 harg13 arg14 harg14 x0 x1 x2 x3 x4) rfl hc0 hc1]
  exact ((invB hi.ok h1 h2).finish_k hi.ok pt_iota)

/-- The running value gradients after a middle block of queries. -/
theorem caseB_v (hc0 : ¬cond0_0 i) (hc1 : ¬cond0_1 i) (hi : Inputs (i 1).val N Q D K V x0 x1 x2 x3 x4) (h1 : Rd (φ := .f32) xs1 g1) (h2 : Rd (φ := .f32) xs2 g2) :
    Rd (φ := .f32) (arg12.view.read (Elt Ideal) (arg12.view.writes (Elt Ideal) (harg12.unread xs2) (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).2.2.2.2.1)) (fun s c => g2 s c + if s < 512 * (i 1).val + 512 then addV N Q D K (i 1).val s c else 0) := by
  rw [outB_v (A := pt c i arg2 harg2 arg3 harg3 arg4 harg4 arg5 harg5 arg6 harg6 arg7 harg7 arg8 harg8 arg9 harg9 arg10 harg10 arg11 harg11 arg12 harg12 arg13 harg13 arg14 harg14 x0 x1 x2 x3 x4) rfl hc0 hc1]
  exact ((invB hi.ok h1 h2).finish_v hi.ok pt_iota)

end Case

end Cert.Stick
-- ==== Proof.PointC.lean ====
/- One grid point of the kernel: the last block of queries of a group. -/
module

public import proofs.«01_k».proof.Proof.Gen.KernelIdeal.Frame.RunC
public import proofs.«01_k».proof.Proof.Adds

@[expose] public section

set_option maxRecDepth 16384

noncomputable section

namespace Cert.Stick

open Finset Idealize.ShloMosaic Idealize.SL.Sem Cert.KernelIdeal Cert.KernelIdeal.Gen

namespace Args

/-- What the loop over the blocks of keys below the diagonal stores. -/
def preC (A : Args) (xs1 xs2 : Vec Ideal S4096x128 .f32) : List (View.Piece (Elt Ideal) S2x512x128 .f32) × List (View.Piece (Elt Ideal) S4096x128 .f32) × List (View.Piece (Elt Ideal) S4096x128 .f32) × List (View.Piece (Elt Ideal) S2x512x1 .f32) × List (View.Piece (Elt Ideal) S2x512x1 .f32) :=
  A.pieces (A.arg10.view.writes (Elt Ideal) A.arg10.view.junk [(⟨Rect.unit (s := S2x512x128) ![0, 0, 0] S2x512x128.size inbS, k0_pay87 (F := Ideal)⟩ : View.Piece (Elt Ideal) S2x512x128 .f32)]) (A.harg11.unread xs1) (A.harg12.unread xs2) (A.arg13.view.writes (Elt Ideal) A.arg13.view.junk [(⟨Rect.unit (s := S2x512x1) ![0, 0, 0] S2x512x1.size inbS, k0_pay88 (F := Ideal)⟩ : View.Piece (Elt Ideal) S2x512x1 .f32)]) (A.arg14.view.writes (Elt Ideal) A.arg14.view.junk [(⟨Rect.unit (s := S2x512x1) ![0, 0, 0] S2x512x1.size inbS, k0_pay89 (F := Ideal)⟩ : View.Piece (Elt Ideal) S2x512x1 .f32)]) (k0_t1_loop A.i).trips

/-- What the loop over the remaining blocks of keys stores. -/
def postC (A : Args) (xs1 xs2 : Vec Ideal S4096x128 .f32) : List (View.Piece (Elt Ideal) S2x512x128 .f32) × List (View.Piece (Elt Ideal) S4096x128 .f32) × List (View.Piece (Elt Ideal) S4096x128 .f32) × List (View.Piece (Elt Ideal) S2x512x1 .f32) × List (View.Piece (Elt Ideal) S2x512x1 .f32) :=
  A.rest (kernelRun0_C.sl.v51 A.i) (A.arg10.view.writes (Elt Ideal) A.arg10.view.junk ((A.preC xs1 xs2).1 ++ [(⟨Rect.unit (s := S2x512x128) ![0, 0, 0] S2x512x128.size inbS, k0_pay87 (F := Ideal)⟩ : View.Piece (Elt Ideal) S2x512x128 .f32)])) (A.arg11.view.writes (Elt Ideal) (A.harg11.unread xs1) (A.preC xs1 xs2).2.1) (A.arg12.view.writes (Elt Ideal) (A.harg12.unread xs2) (A.preC xs1 xs2).2.2.1) (A.arg13.view.writes (Elt Ideal) A.arg13.view.junk ((A.preC xs1 xs2).2.2.2.1 ++ [(⟨Rect.unit (s := S2x512x1) ![0, 0, 0] S2x512x1.size inbS, k0_pay88 (F := Ideal)⟩ : View.Piece (Elt Ideal) S2x512x1 .f32)])) (A.arg14.view.writes (Elt Ideal) A.arg14.view.junk ((A.preC xs1 xs2).2.2.2.2 ++ [(⟨Rect.unit (s := S2x512x1) ![0, 0, 0] S2x512x1.size inbS, k0_pay89 (F := Ideal)⟩ : View.Piece (Elt Ideal) S2x512x1 .f32)]))

/-- What is stored to the query gradients before the diagonal. -/
abbrev l10C (A : Args) (xs1 xs2 : Vec Ideal S4096x128 .f32) : List (View.Piece (Elt Ideal) S2x512x128 .f32) := ((A.postC xs1 xs2).1 ++ ((A.preC xs1 xs2).1 ++ [(⟨Rect.unit (s := S2x512x128) ![0, 0, 0] S2x512x128.size inbS, k0_pay87 (F := Ideal)⟩ : View.Piece (Elt Ideal) S2x512x128 .f32)]))

/-- What is stored to the key gradients before the diagonal. -/
abbrev l11C (A : Args) (xs1 xs2 : Vec Ideal S4096x128 .f32) : List (View.Piece (Elt Ideal) S4096x128 .f32) := ((A.postC xs1 xs2).2.1 ++ (A.preC xs1 xs2).2.1)

/-- What is stored to the value gradients before the diagonal. -/
abbrev l12C (A : Args) (xs1 xs2 : Vec Ideal S4096x128 .f32) : List (View.Piece (Elt Ideal) S4096x128 .f32) := ((A.postC xs1 xs2).2.2.1 ++ (A.preC xs1 xs2).2.2.1)

/-- What is stored to the running score sums before the diagonal. -/
abbrev l13C (A : Args) (xs1 xs2 : Vec Ideal S4096x128 .f32) : List (View.Piece (Elt Ideal) S2x512x1 .f32) := ((A.postC xs1 xs2).2.2.2.1 ++ ((A.preC xs1 xs2).2.2.2.1 ++ [(⟨Rect.unit (s := S2x512x1) ![0, 0, 0] S2x512x1.size inbS, k0_pay88 (F := Ideal)⟩ : View.Piece (Elt Ideal) S2x512x1 .f32)]))

/-- What is stored to the running response sums before the diagonal. -/
abbrev l14C (A : Args) (xs1 xs2 : Vec Ideal S4096x128 .f32) : List (View.Piece (Elt Ideal) S2x512x1 .f32) := ((A.postC xs1 xs2).2.2.2.2 ++ ((A.preC xs1 xs2).2.2.2.2 ++ [(⟨Rect.unit (s := S2x512x1) ![0, 0, 0] S2x512x1.size inbS, k0_pay89 (F := Ideal)⟩ : View.Piece (Elt Ideal) S2x512x1 .f32)]))

/-- The running score sums before the diagonal. -/
abbrev f13C (A : Args) (xs1 xs2 : Vec Ideal S4096x128 .f32) : BufTy.Contents (Elt Ideal) A.arg13.view.ty := (A.arg13.view.writes (Elt Ideal) A.arg13.view.junk (A.l13C xs1 xs2))

/-- The running response sums before the diagonal. -/
abbrev f14C (A : Args) (xs1 xs2 : Vec Ideal S4096x128 .f32) : BufTy.Contents (Elt Ideal) A.arg14.view.ty := (A.arg14.view.writes (Elt Ideal) A.arg14.view.junk (A.l14C xs1 xs2))

/-- The running score sums before diagonal block 1. -/
abbrev g13C (A : Args) (xs1 xs2 : Vec Ideal S4096x128 .f32) : BufTy.Contents (Elt Ideal) A.arg13.view.ty := (A.arg13.view.writes (Elt Ideal) A.arg13.view.junk (A.list13 (A.f13C xs1 xs2) (A.l13C xs1 xs2)))

/-- The running response sums before diagonal block 1. -/
abbrev g14C (A : Args) (xs1 xs2 : Vec Ideal S4096x128 .f32) : BufTy.Contents (Elt Ideal) A.arg14.view.ty := (A.arg14.view.writes (Elt Ideal) A.arg14.view.junk (A.list14 (A.f13C xs1 xs2) (A.f14C xs1 xs2) (A.l14C xs1 xs2)))

/-- The query gradients stored up to the diagonal, step a. -/
abbrev l10aC (A : Args) (xs1 xs2 : Vec Ideal S4096x128 .f32) : List (View.Piece (Elt Ideal) S2x512x128 .f32) := A.list10a A.arg10.view.junk (A.f13C xs1 xs2) (A.f14C xs1 xs2) (A.l10C xs1 xs2)

/-- The query gradients stored up to the diagonal, step b. -/
abbrev l10bC (A : Args) (xs1 xs2 : Vec Ideal S4096x128 .f32) : List (View.Piece (Elt Ideal) S2x512x128 .f32) := A.list10b A.arg10.view.junk (A.f13C xs1 xs2) (A.f14C xs1 xs2) (A.l10aC xs1 xs2)

/-- The query gradients stored up to the diagonal, step c. -/
abbrev l10cC (A : Args) (xs1 xs2 : Vec Ideal S4096x128 .f32) : List (View.Piece (Elt Ideal) S2x512x128 .f32) := A.list10c A.arg10.view.junk (A.g13C xs1 xs2) (A.g14C xs1 xs2) (A.l10bC xs1 xs2)

/-- The query gradients stored up to the diagonal, step d. -/
abbrev l10dC (A : Args) (xs1 xs2 : Vec Ideal S4096x128 .f32) : List (View.Piece (Elt Ideal) S2x512x128 .f32) := A.list10d A.arg10.view.junk (A.g13C xs1 xs2) (A.g14C xs1 xs2) (A.l10cC xs1 xs2)

/-- The key gradients stored up to diagonal block 0. -/
abbrev l11aC (A : Args) (xs1 xs2 : Vec Ideal S4096x128 .f32) : List (View.Piece (Elt Ideal) S4096x128 .f32) := A.list11a (A.harg11.unread xs1) (A.f13C xs1 xs2) (A.f14C xs1 xs2) (A.l11C xs1 xs2)

/-- The key gradients stored up to diagonal block 1. -/
abbrev l11bC (A : Args) (xs1 xs2 : Vec Ideal S4096x128 .f32) : List (View.Piece (Elt Ideal) S4096x128 .f32) := A.list11b (A.harg11.unread xs1) (A.g13C xs1 xs2) (A.g14C xs1 xs2) (A.l11aC xs1 xs2)

/-- The value gradients stored up to diagonal block 0. -/
abbrev l12aC (A : Args) (xs1 xs2 : Vec Ideal S4096x128 .f32) : List (View.Piece (Elt Ideal) S4096x128 .f32) := A.list12a (A.harg12.unread xs2) (A.f13C xs1 xs2) (A.l12C xs1 xs2)

/-- The value gradients stored up to diagonal block 1. -/
abbrev l12bC (A : Args) (xs1 xs2 : Vec Ideal S4096x128 .f32) : List (View.Piece (Elt Ideal) S4096x128 .f32) := A.list12b (A.harg12.unread xs2) (A.g13C xs1 xs2) (A.l12aC xs1 xs2)

variable {A : Args} {N : ℕ} {q d : ℕ → ℕ → ℕ → ℝ} {K V g1 g2 : ℕ → ℕ → ℝ}

/-- The running arrays after both loops. -/
theorem invC (ok : A.Ok N q d K V) {xs1 xs2 : Vec Ideal S4096x128 .f32} (h1 : Rd (φ := .f32) xs1 g1) (h2 : Rd (φ := .f32) xs2 g2) :
    A.Inv N q d K V g1 g2 A.row (A.arg10.view.writes (Elt Ideal) A.arg10.view.junk (A.l10C xs1 xs2)) (A.arg11.view.writes (Elt Ideal) (A.harg11.unread xs1) (A.l11C xs1 xs2)) (A.arg12.view.writes (Elt Ideal) (A.harg12.unread xs2) (A.l12C xs1 xs2)) (A.f13C xs1 xs2) (A.f14C xs1 xs2) :=
  (inv_zero (A := A) (m10 := A.arg10.view.junk) (m13 := A.arg13.view.junk) (m14 := A.arg14.view.junk) (G11 := (A.harg11.unread xs1)) (G12 := (A.harg12.unread xs2)) (by rw [A.harg11.read_unread]; exact h1) (by rw [A.harg12.read_unread]; exact h2)).after ok
    (rest_nil (A := A) (G10 := (A.arg10.view.writes (Elt Ideal) A.arg10.view.junk ((A.preC xs1 xs2).1 ++ [(⟨Rect.unit (s := S2x512x128) ![0, 0, 0] S2x512x128.size inbS, k0_pay87 (F := Ideal)⟩ : View.Piece (Elt Ideal) S2x512x128 .f32)]))) (G11 := (A.arg11.view.writes (Elt Ideal) (A.harg11.unread xs1) (A.preC xs1 xs2).2.1)) (G12 := (A.arg12.view.writes (Elt Ideal) (A.harg12.unread xs2) (A.preC xs1 xs2).2.2.1)) (G13 := (A.arg13.view.writes (Elt Ideal) A.arg13.view.junk ((A.preC xs1 xs2).2.2.2.1 ++ [(⟨Rect.unit (s := S2x512x1) ![0, 0, 0] S2x512x1.size inbS, k0_pay88 (F := Ideal)⟩ : View.Piece (Elt Ideal) S2x512x1 .f32)]))) (G14 := (A.arg14.view.writes (Elt Ideal) A.arg14.view.junk ((A.preC xs1 xs2).2.2.2.2 ++ [(⟨Rect.unit (s := S2x512x1) ![0, 0, 0] S2x512x1.size inbS, k0_pay89 (F := Ideal)⟩ : View.Piece (Elt Ideal) S2x512x1 .f32)]))) (kernelRun0_C.sl.v51 A.i))

end Args

open Args

section Chain

variable {c : Dev nD} {i : grid0.Coords} {arg2 : Memref sig .tc .vmem S512x128 .bf16} {harg2 : arg2.IsWhole} {arg3 : Memref sig .tc .vmem S4096x128 .bf16} {harg3 : arg3.IsWhole} {arg4 : Memref sig .tc .vmem S4096x128 .bf16} {harg4 : arg4.IsWhole} {arg5 : Memref sig .tc .vmem S512x128 .f32} {harg5 : arg5.IsWhole} {arg6 : Memref sig .tc .vmem S512x128 .f32} {harg6 : arg6.IsWhole} {arg7 : Memref sig .tc .vmem S512x128 .bf16} {harg7 : arg7.IsWhole} {arg8 : Memref sig .tc .vmem S4096x128 .bf16} {harg8 : arg8.IsWhole} {arg9 : Memref sig .tc .vmem S4096x128 .bf16} {harg9 : arg9.IsWhole} {arg10 : Memref sig .tc .vmem S2x512x128 .f32} {harg10 : arg10.IsWhole} {arg11 : Memref sig .tc .vmem S4096x128 .f32} {harg11 : arg11.IsWhole} {arg12 : Memref sig .tc .vmem S4096x128 .f32} {harg12 : arg12.IsWhole} {arg13 : Memref sig .tc .vmem S2x512x1 .f32} {harg13 : arg13.IsWhole} {arg14 : Memref sig .tc .vmem S2x512x1 .f32} {harg14 : arg14.IsWhole}
variable {x0 : Vec Ideal S512x128 .bf16} {x1 x2 : Vec Ideal S4096x128 .bf16} {x3 x4 : Vec Ideal S512x128 .f32} {xs1 xs2 : Vec Ideal S4096x128 .f32}
variable {A : Args} (hA : A = pt c i arg2 harg2 arg3 harg3 arg4 harg4 arg5 harg5 arg6 harg6 arg7 harg7 arg8 harg8 arg9 harg9 arg10 harg10 arg11 harg11 arg12 harg12 arg13 harg13 arg14 harg14 x0 x1 x2 x3 x4)
include hA

theorem C_v11 : kernelRun0_C.sl.v11 = A.v11 := by
  delta kernelRun0_C.sl.v11
  subst hA; rfl

theorem C_v12 : kernelRun0_C.sl.v12 = A.v12 := by
  delta kernelRun0_C.sl.v12
  subst hA; rfl

theorem C_r : kernelRun0_C.sl.r (F := Ideal) c arg2 harg2 x0 = A.v20 := by
  delta kernelRun0_C.sl.r
  subst hA; rfl

theorem C_r_1 : kernelRun0_C.sl.r_1 (F := Ideal) c arg2 harg2 x0 = A.v21 := by
  delta kernelRun0_C.sl.r_1
  subst hA; rfl

theorem C_r_2 : kernelRun0_C.sl.r_2 (F := Ideal) c arg5 harg5 x3 = A.v28 := by
  delta kernelRun0_C.sl.r_2
  subst hA; rfl

theorem C_r_3 : kernelRun0_C.sl.r_3 (F := Ideal) c arg5 harg5 x3 = A.v29 := by
  delta kernelRun0_C.sl.r_3
  subst hA; rfl

theorem C_r_4 : kernelRun0_C.sl.r_4 (F := Ideal) c arg6 harg6 x4 = A.v32 := by
  delta kernelRun0_C.sl.r_4
  subst hA; rfl

theorem C_r_5 : kernelRun0_C.sl.r_5 (F := Ideal) c arg6 harg6 x4 = A.v33 := by
  delta kernelRun0_C.sl.r_5
  subst hA; rfl

theorem C_HS4_1 : kernelRun0_C.sl.HS4_1 (F := Ideal) = [(⟨Rect.unit (s := S2x512x1) ![0, 0, 0] S2x512x1.size inbS, k0_pay89 (F := Ideal)⟩ : View.Piece (Elt Ideal) S2x512x1 .f32)] := by
  delta kernelRun0_C.sl.HS4_1
  subst hA; rfl

theorem C_HS3_1 : kernelRun0_C.sl.HS3_1 (F := Ideal) = [(⟨Rect.unit (s := S2x512x1) ![0, 0, 0] S2x512x1.size inbS, k0_pay88 (F := Ideal)⟩ : View.Piece (Elt Ideal) S2x512x1 .f32)] := by
  delta kernelRun0_C.sl.HS3_1
  subst hA; rfl

theorem C_HS0_1 : kernelRun0_C.sl.HS0_1 (F := Ideal) = [(⟨Rect.unit (s := S2x512x128) ![0, 0, 0] S2x512x128.size inbS, k0_pay87 (F := Ideal)⟩ : View.Piece (Elt Ideal) S2x512x128 .f32)] := by
  delta kernelRun0_C.sl.HS0_1
  subst hA; rfl

theorem pb1_C : pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 ↑(i 1)) k0_pay72 k0_pay73 (kernelRun0_C.sl.v11) (kernelRun0_C.sl.v12) (kernelRun0_C.sl.r (F := Ideal) c arg2 harg2 x0) (kernelRun0_C.sl.r_1 (F := Ideal) c arg2 harg2 x0) (kernelRun0_C.sl.r_2 (F := Ideal) c arg5 harg5 x3) (kernelRun0_C.sl.r_3 (F := Ideal) c arg5 harg5 x3) (kernelRun0_C.sl.r_4 (F := Ideal) c arg6 harg6 x4) (kernelRun0_C.sl.r_5 (F := Ideal) c arg6 harg6 x4) k0_pay87 (harg3.unread x1) (harg4.unread x2) (arg10.view.writes (Elt Ideal) arg10.view.junk (kernelRun0_C.sl.HS0_1 (F := Ideal))) (harg11.unread xs1) (harg12.unread xs2) (arg13.view.writes (Elt Ideal) arg13.view.junk (kernelRun0_C.sl.HS3_1 (F := Ideal))) (arg14.view.writes (Elt Ideal) arg14.view.junk (kernelRun0_C.sl.HS4_1 (F := Ideal))) (Scf.trips (k0_t1_loop i).lb (k0_t1_loop i).ub (k0_t1_loop i).st) = A.preC xs1 xs2 := by
  subst hA; rfl

theorem pb2_C : pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 ↑(i 1)) k0_pay72 k0_pay73 (kernelRun0_C.sl.v11) (kernelRun0_C.sl.v12) (kernelRun0_C.sl.r (F := Ideal) c arg2 harg2 x0) (kernelRun0_C.sl.r_1 (F := Ideal) c arg2 harg2 x0) (kernelRun0_C.sl.r_2 (F := Ideal) c arg5 harg5 x3) (kernelRun0_C.sl.r_3 (F := Ideal) c arg5 harg5 x3) (kernelRun0_C.sl.r_4 (F := Ideal) c arg6 harg6 x4) (kernelRun0_C.sl.r_5 (F := Ideal) c arg6 harg6 x4) k0_pay87 (kernelRun0_C.sl.v51 i) (harg3.unread x1) (harg4.unread x2) (arg10.view.writes (Elt Ideal) arg10.view.junk ((A.preC xs1 xs2).1 ++ (kernelRun0_C.sl.HS0_1 (F := Ideal)))) (arg11.view.writes (Elt Ideal) (harg11.unread xs1) (A.preC xs1 xs2).2.1) (arg12.view.writes (Elt Ideal) (harg12.unread xs2) (A.preC xs1 xs2).2.2.1) (arg13.view.writes (Elt Ideal) arg13.view.junk ((A.preC xs1 xs2).2.2.2.1 ++ (kernelRun0_C.sl.HS3_1 (F := Ideal)))) (arg14.view.writes (Elt Ideal) arg14.view.junk ((A.preC xs1 xs2).2.2.2.2 ++ (kernelRun0_C.sl.HS4_1 (F := Ideal)))) (Scf.trips (k0_t2_loop i).lb (k0_t2_loop i).ub (k0_t2_loop i).st) = A.postC xs1 xs2 := by
  subst hA; rfl

theorem C_r_39 : kernelRun0_C.sl.r_39 (F := Ideal) i arg3 harg3 x1 = A.kD1 := by
  delta kernelRun0_C.sl.r_39
  subst hA; rfl

theorem C_r_35 : kernelRun0_C.sl.r_35 (F := Ideal) c arg2 harg2 x0 = (k0_pay140 A.v21) := by
  delta kernelRun0_C.sl.r_35
  rw [C_r_1 hA]
  all_goals (subst hA; rfl)

theorem C_r_47 : kernelRun0_C.sl.r_47 (F := Ideal) c i arg2 harg2 arg3 harg3 x0 x1 = betaB (k0_pay140 A.v21) A.kD1 := by
  delta kernelRun0_C.sl.r_47
  rw [C_r_35 hA, C_r_39 hA]
  all_goals (subst hA; rfl)

theorem C_r_38 : kernelRun0_C.sl.r_38 (F := Ideal) c arg6 harg6 x4 = (k0_pay143 A.v33) := by
  delta kernelRun0_C.sl.r_38
  rw [C_r_5 hA]
  all_goals (subst hA; rfl)

theorem C_r_42 : kernelRun0_C.sl.r_42 (F := Ideal) c i arg2 harg2 arg3 harg3 x0 x1 = zB (k0_pay140 A.v21) A.kD1 := by
  delta kernelRun0_C.sl.r_42
  rw [C_r_35 hA, C_r_39 hA]
  all_goals (subst hA; rfl)

theorem C_r_36 : kernelRun0_C.sl.r_36 (F := Ideal) c arg5 harg5 x3 = (k0_pay141 A.v29) := by
  delta kernelRun0_C.sl.r_36
  rw [C_r_3 hA]
  all_goals (subst hA; rfl)

theorem C_r_40 : kernelRun0_C.sl.r_40 (F := Ideal) i arg4 harg4 x2 = A.vD1 := by
  delta kernelRun0_C.sl.r_40
  subst hA; rfl

theorem C_r_44 : kernelRun0_C.sl.r_44 (F := Ideal) c i arg4 harg4 arg5 harg5 x2 x3 = uB (k0_pay141 A.v29) A.vD1 := by
  delta kernelRun0_C.sl.r_44
  rw [C_r_36 hA, C_r_40 hA]
  all_goals (subst hA; rfl)

theorem C_r_50 : kernelRun0_C.sl.r_50 (F := Ideal) c i arg2 harg2 arg3 harg3 x0 x1 = resB A.v10 (k0_pay137 A.v11 A.v12) (k0_pay140 A.v21) A.kD1 := by
  delta kernelRun0_C.sl.r_50
  rw [C_v11 hA, C_v12 hA, C_r_35 hA, C_r_39 hA]
  all_goals (subst hA; rfl)

theorem C_r_8 : kernelRun0_C.sl.r_8 (F := Ideal) c i arg2 harg2 arg3 harg3 x0 x1 = zA A.v21 A.kD0 := by
  delta kernelRun0_C.sl.r_8
  rw [C_r_1 hA]
  all_goals (subst hA; rfl)

theorem C_r_15 : kernelRun0_C.sl.r_15 (F := Ideal) c i arg2 harg2 arg3 harg3 x0 x1 = spA (k0_pay96 A.v11 A.v12) A.v21 A.kD0 := by
  delta kernelRun0_C.sl.r_15
  rw [C_v11 hA, C_v12 hA, C_r_8 hA]
  all_goals (subst hA; rfl)

theorem C_r_17 : kernelRun0_C.sl.r_17 (F := Ideal) c i arg2 harg2 arg3 harg3 x0 x1 = resA A.v10 (k0_pay96 A.v11 A.v12) A.v21 A.kD0 := by
  delta kernelRun0_C.sl.r_17
  rw [C_v11 hA, C_v12 hA, C_r_8 hA]
  all_goals (subst hA; rfl)

theorem C_v109 : kernelRun0_C.sl.v109 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.r13_1 (A.f13C xs1 xs2) := by
  delta kernelRun0_C.sl.v109
  rw [pb1_C hA, pb2_C hA]
  rw [C_HS3_1 hA]
  all_goals (subst hA; rfl)

theorem C_r_19 : kernelRun0_C.sl.r_19 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay110 (A.r13_1 (A.f13C xs1 xs2)) := by
  delta kernelRun0_C.sl.r_19
  rw [C_v109 hA]
  all_goals (subst hA; rfl)

theorem C_r_25 : kernelRun0_C.sl.r_25 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay115 (spA (k0_pay96 A.v11 A.v12) A.v21 A.kD0) (resA A.v10 (k0_pay96 A.v11 A.v12) A.v21 A.kD0) (k0_pay110 (A.r13_1 (A.f13C xs1 xs2))) := by
  delta kernelRun0_C.sl.r_25
  rw [C_r_15 hA, C_r_17 hA, C_r_19 hA]
  all_goals (subst hA; rfl)

theorem C_HS3_2 : kernelRun0_C.sl.HS3_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.list13 (A.f13C xs1 xs2) (A.l13C xs1 xs2) := by
  delta kernelRun0_C.sl.HS3_2
  rw [pb1_C hA, pb2_C hA]
  rw [C_r_25 hA]
  all_goals (subst hA; rfl)

theorem C_v279 : kernelRun0_C.sl.v279 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.s13_1 (A.g13C xs1 xs2) := by
  delta kernelRun0_C.sl.v279
  rw [C_HS3_2 hA]
  all_goals (subst hA; rfl)

theorem C_r_55 : kernelRun0_C.sl.r_55 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = prB A.v10 (k0_pay137 A.v11 A.v12) (k0_pay140 A.v21) (k0_pay141 A.v29) A.kD1 A.vD1 (k0_pay143 A.v33) (A.s13_1 (A.g13C xs1 xs2)) := by
  delta kernelRun0_C.sl.r_55
  rw [C_v11 hA, C_v12 hA, C_r_38 hA, C_r_42 hA, C_r_44 hA, C_r_50 hA, C_v279 hA]
  all_goals (subst hA; rfl)

theorem C_r_57 : kernelRun0_C.sl.r_57 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = respB A.v9 A.v10 (k0_pay137 A.v11 A.v12) (k0_pay140 A.v21) (k0_pay141 A.v29) A.kD1 A.vD1 (k0_pay143 A.v33) (A.s13_1 (A.g13C xs1 xs2)) := by
  delta kernelRun0_C.sl.r_57
  rw [C_v11 hA, C_v12 hA, C_r_38 hA, C_r_42 hA, C_r_44 hA, C_r_50 hA, C_v279 hA]
  all_goals (subst hA; rfl)

theorem C_r_10 : kernelRun0_C.sl.r_10 (F := Ideal) c i arg4 harg4 arg5 harg5 x2 x3 = uA A.v29 A.vD0 := by
  delta kernelRun0_C.sl.r_10
  rw [C_r_3 hA]
  all_goals (subst hA; rfl)

theorem C_r_24 : kernelRun0_C.sl.r_24 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = prA A.v10 (k0_pay96 A.v11 A.v12) A.v21 A.v29 A.kD0 A.vD0 A.v33 (A.r13_1 (A.f13C xs1 xs2)) := by
  delta kernelRun0_C.sl.r_24
  rw [C_r_5 hA, C_v11 hA, C_v12 hA, C_r_8 hA, C_r_10 hA, C_r_17 hA, C_r_19 hA]
  all_goals (subst hA; rfl)

theorem C_r_26 : kernelRun0_C.sl.r_26 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = respA A.v9 A.v10 (k0_pay96 A.v11 A.v12) A.v21 A.v29 A.kD0 A.vD0 A.v33 (A.r13_1 (A.f13C xs1 xs2)) := by
  delta kernelRun0_C.sl.r_26
  rw [C_r_5 hA, C_v11 hA, C_v12 hA, C_r_8 hA, C_r_10 hA, C_r_17 hA, C_r_19 hA]
  all_goals (subst hA; rfl)

theorem C_v141 : kernelRun0_C.sl.v141 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.r14_1 (A.f14C xs1 xs2) := by
  delta kernelRun0_C.sl.v141
  rw [pb1_C hA, pb2_C hA]
  rw [C_HS4_1 hA]
  all_goals (subst hA; rfl)

theorem C_r_27 : kernelRun0_C.sl.r_27 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay122 (A.r14_1 (A.f14C xs1 xs2)) := by
  delta kernelRun0_C.sl.r_27
  rw [C_v141 hA]
  all_goals (subst hA; rfl)

theorem C_HS4_2 : kernelRun0_C.sl.HS4_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.list14 (A.f13C xs1 xs2) (A.f14C xs1 xs2) (A.l14C xs1 xs2) := by
  delta kernelRun0_C.sl.HS4_2
  rw [pb1_C hA, pb2_C hA]
  rw [C_r_24 hA, C_r_26 hA, C_r_27 hA]
  all_goals (subst hA; rfl)

theorem C_v311 : kernelRun0_C.sl.v311 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.s14_1 (A.g14C xs1 xs2) := by
  delta kernelRun0_C.sl.v311
  rw [C_HS4_2 hA]
  all_goals (subst hA; rfl)

theorem C_r_59 : kernelRun0_C.sl.r_59 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay167 (A.s14_1 (A.g14C xs1 xs2)) := by
  delta kernelRun0_C.sl.r_59
  rw [C_v311 hA]
  all_goals (subst hA; rfl)

theorem C_r_62 : kernelRun0_C.sl.r_62 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.dz1_1 (A.g13C xs1 xs2) (A.g14C xs1 xs2) := by
  delta kernelRun0_C.sl.r_62
  rw [C_v11 hA, C_v12 hA, C_r_47 hA, C_r_55 hA, C_r_57 hA, C_r_59 hA]
  all_goals (subst hA; rfl)

theorem C_r_37 : kernelRun0_C.sl.r_37 (F := Ideal) c arg6 harg6 x4 = (k0_pay142 A.v32) := by
  delta kernelRun0_C.sl.r_37
  rw [C_r_4 hA]
  all_goals (subst hA; rfl)

theorem C_r_33 : kernelRun0_C.sl.r_33 (F := Ideal) c arg2 harg2 x0 = (k0_pay138 A.v20) := by
  delta kernelRun0_C.sl.r_33
  rw [C_r hA]
  all_goals (subst hA; rfl)

theorem C_r_41 : kernelRun0_C.sl.r_41 (F := Ideal) c i arg2 harg2 arg3 harg3 x0 x1 = zB (k0_pay138 A.v20) A.kD1 := by
  delta kernelRun0_C.sl.r_41
  rw [C_r_33 hA, C_r_39 hA]
  all_goals (subst hA; rfl)

theorem C_r_34 : kernelRun0_C.sl.r_34 (F := Ideal) c arg5 harg5 x3 = (k0_pay139 A.v28) := by
  delta kernelRun0_C.sl.r_34
  rw [C_r_2 hA]
  all_goals (subst hA; rfl)

theorem C_r_43 : kernelRun0_C.sl.r_43 (F := Ideal) c i arg4 harg4 arg5 harg5 x2 x3 = uB (k0_pay139 A.v28) A.vD1 := by
  delta kernelRun0_C.sl.r_43
  rw [C_r_34 hA, C_r_40 hA]
  all_goals (subst hA; rfl)

theorem C_r_45 : kernelRun0_C.sl.r_45 (F := Ideal) c i arg2 harg2 arg3 harg3 x0 x1 = betaB (k0_pay138 A.v20) A.kD1 := by
  delta kernelRun0_C.sl.r_45
  rw [C_r_33 hA, C_r_39 hA]
  all_goals (subst hA; rfl)

theorem C_r_49 : kernelRun0_C.sl.r_49 (F := Ideal) c i arg2 harg2 arg3 harg3 x0 x1 = resB A.v10 (k0_pay137 A.v11 A.v12) (k0_pay138 A.v20) A.kD1 := by
  delta kernelRun0_C.sl.r_49
  rw [C_v11 hA, C_v12 hA, C_r_33 hA, C_r_39 hA]
  all_goals (subst hA; rfl)

theorem C_v277 : kernelRun0_C.sl.v277 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.s13_0 (A.g13C xs1 xs2) := by
  delta kernelRun0_C.sl.v277
  rw [C_HS3_2 hA]
  all_goals (subst hA; rfl)

theorem C_v309 : kernelRun0_C.sl.v309 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.s14_0 (A.g14C xs1 xs2) := by
  delta kernelRun0_C.sl.v309
  rw [C_HS4_2 hA]
  all_goals (subst hA; rfl)

theorem C_r_60 : kernelRun0_C.sl.r_60 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.dz1_0 (A.g13C xs1 xs2) (A.g14C xs1 xs2) := by
  delta kernelRun0_C.sl.r_60
  rw [C_v11 hA, C_v12 hA, C_r_37 hA, C_r_41 hA, C_r_43 hA, C_r_45 hA, C_r_49 hA, C_v277 hA, C_v309 hA]
  all_goals (subst hA; rfl)

theorem C_r_6 : kernelRun0_C.sl.r_6 (F := Ideal) i arg3 harg3 x1 = A.kD0 := by
  delta kernelRun0_C.sl.r_6
  subst hA; rfl

theorem C_r_14 : kernelRun0_C.sl.r_14 (F := Ideal) c i arg2 harg2 arg3 harg3 x0 x1 = betaA A.v21 A.kD0 := by
  delta kernelRun0_C.sl.r_14
  rw [C_r_8 hA]
  all_goals (subst hA; rfl)

theorem C_r_30 : kernelRun0_C.sl.r_30 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay125 A.v9 A.v33 (k0_pay96 A.v11 A.v12) (zA A.v21 A.kD0) (uA A.v29 A.vD0) (betaA A.v21 A.kD0) (resA A.v10 (k0_pay96 A.v11 A.v12) A.v21 A.kD0) (k0_pay110 (A.r13_1 (A.f13C xs1 xs2))) (A.r14_1 (A.f14C xs1 xs2)) := by
  delta kernelRun0_C.sl.r_30
  rw [C_r_5 hA, C_v11 hA, C_v12 hA, C_r_8 hA, C_r_10 hA, C_r_14 hA, C_r_17 hA, C_r_19 hA, C_v141 hA]
  all_goals (subst hA; rfl)

theorem C_r_7 : kernelRun0_C.sl.r_7 (F := Ideal) c i arg2 harg2 arg3 harg3 x0 x1 = zA A.v20 A.kD0 := by
  delta kernelRun0_C.sl.r_7
  rw [C_r hA]
  all_goals (subst hA; rfl)

theorem C_r_9 : kernelRun0_C.sl.r_9 (F := Ideal) c i arg4 harg4 arg5 harg5 x2 x3 = uA A.v28 A.vD0 := by
  delta kernelRun0_C.sl.r_9
  rw [C_r_2 hA]
  all_goals (subst hA; rfl)

theorem C_r_11 : kernelRun0_C.sl.r_11 (F := Ideal) c i arg2 harg2 arg3 harg3 x0 x1 = k0_pay101 A.v20 A.kD0 := by
  delta kernelRun0_C.sl.r_11
  rw [C_r hA]
  all_goals (subst hA; rfl)

theorem C_r_12 : kernelRun0_C.sl.r_12 (F := Ideal) c i arg2 harg2 arg3 harg3 x0 x1 = betaA A.v20 A.kD0 := by
  delta kernelRun0_C.sl.r_12
  rw [C_r_7 hA, C_r_11 hA]
  all_goals (subst hA; rfl)

theorem C_r_16 : kernelRun0_C.sl.r_16 (F := Ideal) c i arg2 harg2 arg3 harg3 x0 x1 = resA A.v10 (k0_pay96 A.v11 A.v12) A.v20 A.kD0 := by
  delta kernelRun0_C.sl.r_16
  rw [C_v11 hA, C_v12 hA, C_r_7 hA, C_r_11 hA]
  all_goals (subst hA; rfl)

theorem C_v107 : kernelRun0_C.sl.v107 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.r13_0 (A.f13C xs1 xs2) := by
  delta kernelRun0_C.sl.v107
  rw [pb1_C hA, pb2_C hA]
  rw [C_HS3_1 hA]
  all_goals (subst hA; rfl)

theorem C_r_20 : kernelRun0_C.sl.r_20 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay112 A.v32 (A.r13_0 (A.f13C xs1 xs2)) := by
  delta kernelRun0_C.sl.r_20
  rw [C_r_4 hA, C_v107 hA]
  all_goals (subst hA; rfl)

theorem C_v139 : kernelRun0_C.sl.v139 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.r14_0 (A.f14C xs1 xs2) := by
  delta kernelRun0_C.sl.v139
  rw [pb1_C hA, pb2_C hA]
  rw [C_HS4_1 hA]
  all_goals (subst hA; rfl)

theorem C_r_28 : kernelRun0_C.sl.r_28 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.dz0_0 (A.f13C xs1 xs2) (A.f14C xs1 xs2) := by
  delta kernelRun0_C.sl.r_28
  rw [C_v11 hA, C_v12 hA, C_r_7 hA, C_r_9 hA, C_r_12 hA, C_r_16 hA, C_r_20 hA, C_v139 hA]
  all_goals (subst hA; rfl)

theorem C_v174 : kernelRun0_C.sl.v174 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg10.view.readAt (Elt Ideal) (Rect.unit (s := S2x512x128) ![0, 0, 0] ![1, 512, 128] inb0).toLoadRect (A.arg10.view.writes (Elt Ideal) A.arg10.view.junk (A.l10C xs1 xs2))) := by
  delta kernelRun0_C.sl.v174
  rw [pb1_C hA, pb2_C hA]
  rw [C_HS0_1 hA]
  all_goals (subst hA; rfl)

theorem C_HS0_1_1 : kernelRun0_C.sl.HS0_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.l10aC xs1 xs2) := by
  delta kernelRun0_C.sl.HS0_1_1
  rw [pb1_C hA, pb2_C hA]
  rw [C_r_6 hA, C_r_28 hA, C_v174 hA, C_HS0_1 hA]
  all_goals (subst hA; rfl)

theorem C_v187 : kernelRun0_C.sl.v187 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg10.view.readAt (Elt Ideal) (Rect.unit (s := S2x512x128) ![1, 0, 0] ![1, 512, 128] inb1).toLoadRect (A.arg10.view.writes (Elt Ideal) A.arg10.view.junk (A.l10aC xs1 xs2))) := by
  delta kernelRun0_C.sl.v187
  rw [C_HS0_1_1 hA]
  all_goals (subst hA; rfl)

theorem C_r_32 : kernelRun0_C.sl.r_32 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay133 (k0_pay96 A.v11 A.v12) A.kD0 (k0_pay125 A.v9 A.v33 (k0_pay96 A.v11 A.v12) (zA A.v21 A.kD0) (uA A.v29 A.vD0) (betaA A.v21 A.kD0) (resA A.v10 (k0_pay96 A.v11 A.v12) A.v21 A.kD0) (k0_pay110 (A.r13_1 (A.f13C xs1 xs2))) (A.r14_1 (A.f14C xs1 xs2))) k0_pay126 (A.arg10.view.readAt (Elt Ideal) (Rect.unit (s := S2x512x128) ![1, 0, 0] ![1, 512, 128] inb1).toLoadRect (A.arg10.view.writes (Elt Ideal) A.arg10.view.junk (A.l10aC xs1 xs2))) := by
  delta kernelRun0_C.sl.r_32
  rw [C_v11 hA, C_v12 hA, C_r_6 hA, C_r_30 hA, C_v187 hA]
  all_goals (subst hA; rfl)

theorem C_HS0_2 : kernelRun0_C.sl.HS0_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.l10bC xs1 xs2) := by
  delta kernelRun0_C.sl.HS0_2
  rw [C_r_32 hA, C_HS0_1_1 hA]
  all_goals (subst hA; rfl)

theorem C_v344 : kernelRun0_C.sl.v344 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg10.view.readAt (Elt Ideal) (Rect.unit (s := S2x512x128) ![0, 256, 0] ![1, 256, 128] inb0').toLoadRect (A.arg10.view.writes (Elt Ideal) A.arg10.view.junk (A.l10bC xs1 xs2))) := by
  delta kernelRun0_C.sl.v344
  rw [C_HS0_2 hA]
  all_goals (subst hA; rfl)

theorem C_HS0_3 : kernelRun0_C.sl.HS0_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.l10cC xs1 xs2) := by
  delta kernelRun0_C.sl.HS0_3
  rw [C_r_39 hA, C_r_60 hA, C_v344 hA, C_HS0_2 hA]
  all_goals (subst hA; rfl)

theorem C_v357 : kernelRun0_C.sl.v357 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg10.view.readAt (Elt Ideal) (Rect.unit (s := S2x512x128) ![1, 256, 0] ![1, 256, 128] inb1').toLoadRect (A.arg10.view.writes (Elt Ideal) A.arg10.view.junk (A.l10cC xs1 xs2))) := by
  delta kernelRun0_C.sl.v357
  rw [C_HS0_3 hA]
  all_goals (subst hA; rfl)

theorem C_HS0_4 : kernelRun0_C.sl.HS0_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.l10dC xs1 xs2) := by
  delta kernelRun0_C.sl.HS0_4
  rw [C_r_39 hA, C_r_62 hA, C_v357 hA, C_HS0_3 hA]
  all_goals (subst hA; rfl)

theorem C_v385 : kernelRun0_C.sl.v385 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg10.view.readAt (Elt Ideal) (Rect.unit (s := S2x512x128) ![0, 0, 0] S1x512x128.size inb0).toLoadRect (A.arg10.view.writes (Elt Ideal) A.arg10.view.junk (A.l10dC xs1 xs2))) := by
  delta kernelRun0_C.sl.v385
  rw [C_HS0_4 hA]
  all_goals (subst hA; rfl)

theorem C_v387 : kernelRun0_C.sl.v387 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg10.view.readAt (Elt Ideal) (Rect.unit (s := S2x512x128) ![1, 0, 0] S1x512x128.size inb1).toLoadRect (A.arg10.view.writes (Elt Ideal) A.arg10.view.junk (A.l10dC xs1 xs2))) := by
  delta kernelRun0_C.sl.v387
  rw [C_HS0_4 hA]
  all_goals (subst hA; rfl)

theorem C_r_63 : kernelRun0_C.sl.r_63 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = k0_pay179 k0_pay75 (A.arg10.view.readAt (Elt Ideal) (Rect.unit (s := S2x512x128) ![0, 0, 0] S1x512x128.size inb0).toLoadRect (A.arg10.view.writes (Elt Ideal) A.arg10.view.junk (A.l10dC xs1 xs2))) (A.arg10.view.readAt (Elt Ideal) (Rect.unit (s := S2x512x128) ![1, 0, 0] S1x512x128.size inb1).toLoadRect (A.arg10.view.writes (Elt Ideal) A.arg10.view.junk (A.l10dC xs1 xs2))) := by
  delta kernelRun0_C.sl.r_63
  rw [C_v385 hA, C_v387 hA]
  all_goals (subst hA; rfl)

theorem C_r_31 : kernelRun0_C.sl.r_31 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.dz0_1 (A.f13C xs1 xs2) (A.f14C xs1 xs2) := by
  delta kernelRun0_C.sl.r_31
  rw [C_v11 hA, C_v12 hA, C_r_30 hA]
  all_goals (subst hA; rfl)

theorem C_v202 : kernelRun0_C.sl.v202 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg11.view.readAt (Elt Ideal) (Rect.unit (s := S4096x128) (k0_off3 A.i 0#32) ![256, 128] (inb_diag0 A)).toLoadRect (A.arg11.view.writes (Elt Ideal) (A.harg11.unread xs1) (A.l11C xs1 xs2))) := by
  delta kernelRun0_C.sl.v202
  rw [pb1_C hA, pb2_C hA]
  subst hA; rfl

theorem C_HS1_1 : kernelRun0_C.sl.HS1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.l11aC xs1 xs2 := by
  delta kernelRun0_C.sl.HS1_1
  rw [pb1_C hA, pb2_C hA]
  rw [C_r hA, C_r_1 hA, C_r_28 hA, C_r_31 hA, C_v202 hA]
  all_goals (subst hA; rfl)

theorem C_HS1_2 : kernelRun0_C.sl.HS1_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.l11bC xs1 xs2 := by
  delta kernelRun0_C.sl.HS1_2
  rw [C_r_33 hA, C_r_35 hA, C_r_60 hA, C_r_62 hA, C_HS1_1 hA]
  all_goals (subst hA; rfl)

theorem C_v397 : kernelRun0_C.sl.v397 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg11.view.readAt (Elt Ideal) (Rect.unit (s := S4096x128) ![0, 0] S4096x128.size inb_S4096x128_S4096x128_0_0).toLoadRect (A.arg11.view.writes (Elt Ideal) (A.harg11.unread xs1) (A.l11bC xs1 xs2))) := by
  delta kernelRun0_C.sl.v397
  rw [C_HS1_2 hA]
  all_goals (subst hA; rfl)

theorem C_r_51 : kernelRun0_C.sl.r_51 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.att1_0 (A.g13C xs1 xs2) := by
  delta kernelRun0_C.sl.r_51
  rw [C_v11 hA, C_v12 hA, C_r_37 hA, C_r_41 hA, C_r_49 hA, C_v277 hA]
  all_goals (subst hA; rfl)

theorem C_r_54 : kernelRun0_C.sl.r_54 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.att1_1 (A.g13C xs1 xs2) := by
  delta kernelRun0_C.sl.r_54
  rw [C_v11 hA, C_v12 hA, C_r_38 hA, C_r_42 hA, C_r_50 hA, C_v279 hA]
  all_goals (subst hA; rfl)

theorem C_r_21 : kernelRun0_C.sl.r_21 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.att0_0 (A.f13C xs1 xs2) := by
  delta kernelRun0_C.sl.r_21
  rw [C_v11 hA, C_v12 hA, C_r_7 hA, C_r_16 hA, C_r_20 hA]
  all_goals (subst hA; rfl)

theorem C_r_23 : kernelRun0_C.sl.r_23 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.att0_1 (A.f13C xs1 xs2) := by
  delta kernelRun0_C.sl.r_23
  rw [C_r_5 hA, C_v11 hA, C_v12 hA, C_r_8 hA, C_r_17 hA, C_r_19 hA]
  all_goals (subst hA; rfl)

theorem C_v209 : kernelRun0_C.sl.v209 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg12.view.readAt (Elt Ideal) (Rect.unit (s := S4096x128) (k0_off3 A.i 0#32) ![256, 128] (inb_diag0 A)).toLoadRect (A.arg12.view.writes (Elt Ideal) (A.harg12.unread xs2) (A.l12C xs1 xs2))) := by
  delta kernelRun0_C.sl.v209
  rw [pb1_C hA, pb2_C hA]
  subst hA; rfl

theorem C_HS2_1 : kernelRun0_C.sl.HS2_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.l12aC xs1 xs2 := by
  delta kernelRun0_C.sl.HS2_1
  rw [pb1_C hA, pb2_C hA]
  rw [C_r_2 hA, C_r_3 hA, C_r_21 hA, C_r_23 hA, C_v209 hA]
  all_goals (subst hA; rfl)

theorem C_HS2_2 : kernelRun0_C.sl.HS2_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = A.l12bC xs1 xs2 := by
  delta kernelRun0_C.sl.HS2_2
  rw [C_r_34 hA, C_r_36 hA, C_r_51 hA, C_r_54 hA, C_HS2_1 hA]
  all_goals (subst hA; rfl)

theorem C_v400 : kernelRun0_C.sl.v400 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs1 xs2 = (A.arg12.view.readAt (Elt Ideal) (Rect.unit (s := S4096x128) ![0, 0] S4096x128.size inb_S4096x128_S4096x128_0_0).toLoadRect (A.arg12.view.writes (Elt Ideal) (A.harg12.unread xs2) (A.l12bC xs1 xs2))) := by
  delta kernelRun0_C.sl.v400
  rw [C_HS2_2 hA]
  all_goals (subst hA; rfl)

/-- The stores to the query gradients. -/
theorem outC_q (hc0 : ¬cond0_0 i) (hc1 : cond0_1 i) : (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).1 = [(⟨Rect.unit (s := S512x128) ![0, 0] ![512, 128] inbW, k0_pay1 (k0_pay179 k0_pay75 (A.arg10.view.readAt (Elt Ideal) (Rect.unit (s := S2x512x128) ![0, 0, 0] S1x512x128.size inb0).toLoadRect (A.arg10.view.writes (Elt Ideal) A.arg10.view.junk (A.l10dC xs1 xs2))) (A.arg10.view.readAt (Elt Ideal) (Rect.unit (s := S2x512x128) ![1, 0, 0] S1x512x128.size inb1).toLoadRect (A.arg10.view.writes (Elt Ideal) A.arg10.view.junk (A.l10dC xs1 xs2))))⟩ : View.Piece (Elt Ideal) S512x128 .bf16)] := by
  delta kernelRun0_C
  dsimp only
  rw [C_r_63 hA]
  all_goals (subst hA; rfl)

/-- The stores to the running key gradients. -/
theorem outC_k (hc0 : ¬cond0_0 i) (hc1 : cond0_1 i) : (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).2.2.2.1 = A.l11bC xs1 xs2 := by
  delta kernelRun0_C
  dsimp only
  rw [C_HS1_2 hA]
  all_goals (subst hA; rfl)

/-- The stores to the running value gradients. -/
theorem outC_v (hc0 : ¬cond0_0 i) (hc1 : cond0_1 i) : (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).2.2.2.2.1 = A.l12bC xs1 xs2 := by
  delta kernelRun0_C
  dsimp only
  rw [C_HS2_2 hA]
  all_goals (subst hA; rfl)

/-- The stores to the key gradients given back. -/
theorem outC_ko (hc0 : ¬cond0_0 i) (hc1 : cond0_1 i) : (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).2.1 = [(⟨Rect.unit (s := S4096x128) ![0, 0] ![4096, 128] inb_S4096x128_S4096x128_0_0, k0_pay2 (A.arg11.view.readAt (Elt Ideal) (Rect.unit (s := S4096x128) ![0, 0] S4096x128.size inb_S4096x128_S4096x128_0_0).toLoadRect (A.arg11.view.writes (Elt Ideal) (A.harg11.unread xs1) (A.l11bC xs1 xs2)))⟩ : View.Piece (Elt Ideal) S4096x128 .bf16)] := by
  delta kernelRun0_C
  dsimp only
  rw [C_v397 hA]
  all_goals (subst hA; rfl)

/-- The stores to the value gradients given back. -/
theorem outC_vo (hc0 : ¬cond0_0 i) (hc1 : cond0_1 i) : (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).2.2.1 = [(⟨Rect.unit (s := S4096x128) ![0, 0] ![4096, 128] inb_S4096x128_S4096x128_0_0, k0_pay3 (A.arg12.view.readAt (Elt Ideal) (Rect.unit (s := S4096x128) ![0, 0] S4096x128.size inb_S4096x128_S4096x128_0_0).toLoadRect (A.arg12.view.writes (Elt Ideal) (A.harg12.unread xs2) (A.l12bC xs1 xs2)))⟩ : View.Piece (Elt Ideal) S4096x128 .bf16)] := by
  delta kernelRun0_C
  dsimp only
  rw [C_v400 hA]
  all_goals (subst hA; rfl)

end Chain

section Case

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S2x512x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S2x512x1 .f32) (harg13 : arg13.IsWhole) (arg14 : Memref sig .tc .vmem S2x512x1 .f32) (harg14 : arg14.IsWhole)
variable (x0 : Vec Ideal S512x128 .bf16) (x1 x2 : Vec Ideal S4096x128 .bf16) (x3 x4 : Vec Ideal S512x128 .f32) (xs1 xs2 : Vec Ideal S4096x128 .f32)
variable {N : ℕ} {Q D K V g1 g2 : ℕ → ℕ → ℝ}

/-- The query gradients of a last block of queries. -/
theorem caseC_q (hc0 : ¬cond0_0 i) (hc1 : cond0_1 i) (hi : Inputs (i 1).val N Q D K V x0 x1 x2 x3 x4) (h1 : Rd (φ := .f32) xs1 g1) (h2 : Rd (φ := .f32) xs2 g2) (v : View sig .tc .vmem S512x128 .bf16) (m : v.ty.Contents (Elt Ideal)) :
    Rd (φ := .bf16) (v.read (Elt Ideal) (v.writes (Elt Ideal) m (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).1))
      (fun r c => (∑ s ∈ range (512 * (i 1).val + 512), dS N Q D K V (c / 64) (512 * (i 1).val + r) s * K s c) * (1 / 8)) := by
  rw [outC_q (A := pt c i arg2 harg2 arg3 harg3 arg4 harg4 arg5 harg5 arg6 harg6 arg7 harg7 arg8 harg8 arg9 harg9 arg10 harg10 arg11 harg11 arg12 harg12 arg13 harg13 arg14 harg14 x0 x1 x2 x3 x4) rfl hc0 hc1]
  exact Args.rd_dq ((invC hi.ok h1 h2).finish_q hi.ok pt_iota) v m

/-- The running key gradients after a last block of queries. -/
theorem caseC_k (hc0 : ¬cond0_0 i) (hc1 : cond0_1 i) (hi : Inputs (i 1).val N Q D K V x0 x1 x2 x3 x4) (h1 : Rd (φ := .f32) xs1 g1) (h2 : Rd (φ := .f32) xs2 g2) :
    Rd (φ := .f32) (arg11.view.read (Elt Ideal) (arg11.view.writes (Elt Ideal) (harg11.unread xs1) (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).2.2.2.1)) (fun s c => g1 s c + if s < 512 * (i 1).val + 512 then addK N Q D K V (i 1).val s c else 0) := by
  rw [outC_k (A := pt c i arg2 harg2 arg3 harg3 arg4 harg4 arg5 harg5 arg6 harg6 arg7 harg7 arg8 harg8 arg9 harg9 arg10 harg10 arg11 harg11 arg12 harg12 arg13 harg13 arg14 harg14 x0 x1 x2 x3 x4) rfl hc0 hc1]
  exact ((invC hi.ok h1 h2).finish_k hi.ok pt_iota)

/-- The running value gradients after a last block of queries. -/
theorem caseC_v (hc0 : ¬cond0_0 i) (hc1 : cond0_1 i) (hi : Inputs (i 1).val N Q D K V x0 x1 x2 x3 x4) (h1 : Rd (φ := .f32) xs1 g1) (h2 : Rd (φ := .f32) xs2 g2) :
    Rd (φ := .f32) (arg12.view.read (Elt Ideal) (arg12.view.writes (Elt Ideal) (harg12.unread xs2) (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).2.2.2.2.1)) (fun s c => g2 s c + if s < 512 * (i 1).val + 512 then addV N Q D K (i 1).val s c else 0) := by
  rw [outC_v (A := pt c i arg2 harg2 arg3 harg3 arg4 harg4 arg5 harg5 arg6 harg6 arg7 harg7 arg8 harg8 arg9 harg9 arg10 harg10 arg11 harg11 arg12 harg12 arg13 harg13 arg14 harg14 x0 x1 x2 x3 x4) rfl hc0 hc1]
  exact ((invC hi.ok h1 h2).finish_v hi.ok pt_iota)

/-- The key gradients given back. -/
theorem caseC_ko (hc0 : ¬cond0_0 i) (hc1 : cond0_1 i) (hi : Inputs (i 1).val N Q D K V x0 x1 x2 x3 x4) (h1 : Rd (φ := .f32) xs1 g1) (h2 : Rd (φ := .f32) xs2 g2) (v : View sig .tc .vmem S4096x128 .bf16) (m : v.ty.Contents (Elt Ideal)) :
    Rd (φ := .bf16) (v.read (Elt Ideal) (v.writes (Elt Ideal) m (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).2.1)) (fun s c => g1 s c + if s < 512 * (i 1).val + 512 then addK N Q D K V (i 1).val s c else 0) := by
  rw [outC_ko (A := pt c i arg2 harg2 arg3 harg3 arg4 harg4 arg5 harg5 arg6 harg6 arg7 harg7 arg8 harg8 arg9 harg9 arg10 harg10 arg11 harg11 arg12 harg12 arg13 harg13 arg14 harg14 x0 x1 x2 x3 x4) rfl hc0 hc1]
  exact Rd.whole v ((((invC hi.ok h1 h2).finish_k hi.ok pt_iota).load (a := 0) (b := 0) rfl inb_S4096x128_S4096x128_0_0).trunc _ _ |>.congr fun s c _ _ => by simp only [Nat.zero_add]) m inb_S4096x128_S4096x128_0_0

/-- The value gradients given back. -/
theorem caseC_vo (hc0 : ¬cond0_0 i) (hc1 : cond0_1 i) (hi : Inputs (i 1).val N Q D K V x0 x1 x2 x3 x4) (h1 : Rd (φ := .f32) xs1 g1) (h2 : Rd (φ := .f32) xs2 g2) (v : View sig .tc .vmem S4096x128 .bf16) (m : v.ty.Contents (Elt Ideal)) :
    Rd (φ := .bf16) (v.read (Elt Ideal) (v.writes (Elt Ideal) m (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs1 xs2).2.2.1)) (fun s c => g2 s c + if s < 512 * (i 1).val + 512 then addV N Q D K (i 1).val s c else 0) := by
  rw [outC_vo (A := pt c i arg2 harg2 arg3 harg3 arg4 harg4 arg5 harg5 arg6 harg6 arg7 harg7 arg8 harg8 arg9 harg9 arg10 harg10 arg11 harg11 arg12 harg12 arg13 harg13 arg14 harg14 x0 x1 x2 x3 x4) rfl hc0 hc1]
  exact Rd.whole v ((((invC hi.ok h1 h2).finish_v hi.ok pt_iota).load (a := 0) (b := 0) rfl inb_S4096x128_S4096x128_0_0).trunc _ _ |>.congr fun s c _ _ => by simp only [Nat.zero_add]) m inb_S4096x128_S4096x128_0_0

end Case

end Cert.Stick
-- ==== Proof.Group.lean ====
/- The whole sweep of the grid: four groups of two heads, eight blocks of queries in each. -/
module

public import proofs.«01_k».proof.Proof.Gen.KernelIdeal.Value
public import proofs.«01_k».proof.Proof.PointA
public import proofs.«01_k».proof.Proof.PointB
public import proofs.«01_k».proof.Proof.PointC

@[expose] public section

set_option maxRecDepth 16384

noncomputable section

namespace Cert.Stick

open Finset Idealize.ShloMosaic Idealize.SL.Sem Idealize.ShloMosaic.TcCoe Cert.KernelIdeal Cert.KernelIdeal.Gen Cert.KernelIdeal.Value

section Sums

variable (N : ℕ) (Q D K V : ℕ → ℕ → ℝ)

/-- The query gradients of a group. -/
def gq (t c : ℕ) : ℝ := (∑ s ∈ range 4096, dS N Q D K V (c / 64) t s * K s c) * (1 / 8)

/-- The key gradients of a group. -/
def gk (s c : ℕ) : ℝ := ∑ t ∈ range 4096, dS N Q D K V (c / 64) t s * (Q t c * (1 / 8))

/-- The value gradients of a group. -/
def gv (s c : ℕ) : ℝ := ∑ t ∈ range 4096, aS N Q K (c / 64) t s * D t c

/-- The first `n` blocks of queries, summed at one key and column. -/
def upto (f : ℕ → ℕ → ℕ → ℝ) (n s c : ℕ) : ℝ := ∑ j ∈ range n, if s < 512 * j + 512 then f j s c else 0

theorem upto_one (f : ℕ → ℕ → ℕ → ℝ) (s c : ℕ) : upto f 1 s c = if s < 512 * 0 + 512 then f 0 s c else 0 := sum_range_one _

theorem upto_succ (f : ℕ → ℕ → ℕ → ℝ) (n s c : ℕ) : upto f (n + 1) s c = upto f n s c + if s < 512 * n + 512 then f n s c else 0 :=
  sum_range_succ _ _

/-- A sum over all rows, block by block. -/
theorem sum_blocks (f : ℕ → ℝ) (k : ℕ) : ∑ j ∈ range k, ∑ r ∈ range 512, f (512 * j + r) = ∑ t ∈ range (512 * k), f t := by
  induction k with
  | zero => rfl
  | succ k ih => rw [sum_range_succ, ih, show 512 * (k + 1) = 512 * k + 512 by omega, sum_range_add]

/-- Of a sum over the two heads only the column's own head counts. -/
theorem sum_own (g : ℕ → ℝ) (f : ℕ → ℕ → ℝ) {t c : ℕ} (hc : c < 128) : ∑ a ∈ range 2, g a * lane a f t c = g (c / 64) * f t c := by
  have h : c / 64 = 0 ∨ c / 64 = 1 := by omega
  rw [sum_two]
  unfold lane
  rcases h with h | h <;> simp [h]

theorem gq_eq {t c n : ℕ} (h : t < n) (hn : n ≤ 4096) : (∑ s ∈ range n, dS N Q D K V (c / 64) t s * K s c) * (1 / 8) = gq N Q D K V t c := by
  unfold gq
  congr 1
  refine sum_subset (range_mono hn) fun s _ hs => ?_
  rw [mem_range] at hs
  rw [dS, dz_of_le N _ _ (by omega), zero_mul]

theorem addK_late {j s c : ℕ} (h : ¬s < 512 * j + 512) : addK N Q D K V j s c = 0 :=
  sum_eq_zero fun a _ => sum_eq_zero fun r hr => by
    rw [mem_range] at hr
    rw [dS, dz_of_le N _ _ (by omega), zero_mul]

theorem addV_late {j s c : ℕ} (h : ¬s < 512 * j + 512) : addV N Q D K j s c = 0 :=
  sum_eq_zero fun a _ => sum_eq_zero fun r hr => by
    rw [mem_range] at hr
    rw [aS, att_of_le N _ (by omega), zero_mul]

theorem upto_k {s c : ℕ} (hc : c < 128) : upto (addK N Q D K V) 8 s c = gk N Q D K V s c := by
  have e : ∀ j ∈ range 8, (if s < 512 * j + 512 then addK N Q D K V j s c else 0)
      = ∑ r ∈ range 512, dS N Q D K V (c / 64) (512 * j + r) s * (Q (512 * j + r) c * (1 / 8)) := fun j _ => by
    have e' : addK N Q D K V j s c = ∑ r ∈ range 512, dS N Q D K V (c / 64) (512 * j + r) s * (Q (512 * j + r) c * (1 / 8)) := by
      unfold addK
      rw [sum_comm]
      exact sum_congr rfl fun r _ => sum_own (fun a => dS N Q D K V a (512 * j + r) s) _ hc
    split_ifs with h
    · exact e'
    · rw [← e', addK_late N Q D K V h]
  unfold upto gk
  rw [sum_congr rfl e, sum_blocks (fun t => dS N Q D K V (c / 64) t s * (Q t c * (1 / 8)))]

theorem upto_v {s c : ℕ} (hc : c < 128) : upto (addV N Q D K) 8 s c = gv N Q D K s c := by
  have e : ∀ j ∈ range 8, (if s < 512 * j + 512 then addV N Q D K j s c else 0)
      = ∑ r ∈ range 512, aS N Q K (c / 64) (512 * j + r) s * D (512 * j + r) c := fun j _ => by
    have e' : addV N Q D K j s c = ∑ r ∈ range 512, aS N Q K (c / 64) (512 * j + r) s * D (512 * j + r) c := by
      unfold addV
      rw [sum_comm]
      exact sum_congr rfl fun r _ => sum_own (fun a => aS N Q K a (512 * j + r) s) _ hc
    split_ifs with h
    · exact e'
    · rw [← e', addV_late N Q D K h]
  unfold upto gv
  rw [sum_congr rfl e, sum_blocks (fun t => aS N Q K (c / 64) t s * D t c)]

end Sums

section Sweep

variable {m : (ℓ : Loc nD τ sig) → Buf (Elt Ideal) ℓ} {c : Dev nD} {Q D K V : ℕ → ℕ → ℕ → ℝ}

/-- The windows of every grid point hold the blocks of its group. -/
def Windows (m : (ℓ : Loc nD τ sig) → Buf (Elt Ideal) ℓ) (c : Dev nD) (Q D K V : ℕ → ℕ → ℕ → ℝ) : Prop :=
  ∀ t : Fin cfg0.N, Inputs (t.val % 8) 4096 (Q (t.val / 8)) (D (t.val / 8)) (K (t.val / 8)) (V (t.val / 8))
    (iblk m c 0 t) (iblk m c 1 t) (iblk m c 2 t) (iblk m c 3 t) (iblk m c 4 t)

/-- The block of queries of a grid point. -/
theorem block_eq (t : Fin cfg0.N) : ((grid0.coords t) 1).val = t.val % 8 :=
  (Pipeline.Grid.coords_val t 1 (S := 1) (B := 8) (by decide) rfl).trans (by rw [Nat.div_one])

theorem Windows.at (h : Windows m c Q D K V) (t : Fin cfg0.N) :
    Inputs ((grid0.coords t) 1).val 4096 (Q (t.val / 8)) (D (t.val / 8)) (K (t.val / 8)) (V (t.val / 8))
      (iblk m c 0 t) (iblk m c 1 t) (iblk m c 2 t) (iblk m c 3 t) (iblk m c 4 t) := by
  rw [block_eq]; exact h t

/-- What a grid point leaves: the query gradients of its block, and the key and value gradients of the
    blocks of queries so far. -/
structure After (m : (ℓ : Loc nD τ sig) → Buf (Elt Ideal) ℓ) (c : Dev nD) (Q D K V : ℕ → ℕ → ℕ → ℝ) (n : ℕ) (hn : n < cfg0.N) : Prop where
  q : Rd (φ := .bf16) (outsAt0 m c n hn).1 (fun r c => gq 4096 (Q (n / 8)) (D (n / 8)) (K (n / 8)) (V (n / 8)) (512 * (n % 8) + r) c)
  k : Rd (φ := .f32) (outsAt0 m c n hn).2.2.2.1 (upto (addK 4096 (Q (n / 8)) (D (n / 8)) (K (n / 8)) (V (n / 8))) (n % 8 + 1))
  v : Rd (φ := .f32) (outsAt0 m c n hn).2.2.2.2 (upto (addV 4096 (Q (n / 8)) (D (n / 8)) (K (n / 8))) (n % 8 + 1))

theorem q_form {t : Fin cfg0.N} {v : FVec Ideal S512x128 .bf16}
    (h : Rd (φ := .bf16) v (fun r k => (∑ s ∈ range (512 * ((grid0.coords t) 1).val + 512), dS 4096 (Q (t.val / 8)) (D (t.val / 8)) (K (t.val / 8)) (V (t.val / 8)) (k / 64) (512 * ((grid0.coords t) 1).val + r) s * K (t.val / 8) s k) * (1 / 8))) :
    Rd (φ := .bf16) v (fun r k => gq 4096 (Q (t.val / 8)) (D (t.val / 8)) (K (t.val / 8)) (V (t.val / 8)) (512 * (t.val % 8) + r) k) := by
  rw [block_eq] at h
  refine h.congr fun r k hr hk => gq_eq _ _ _ _ _ (by omega) ?_
  have := Nat.mod_lt t.val (show 0 < 8 by decide)
  omega

set_option maxHeartbeats 2000000 in
/-- What the first block of queries of a group leaves. -/
theorem after_A (h : Windows m c Q D K V) (t : Fin cfg0.N) (h0 : t.val % 8 = 0) (h1 : ¬t.val % 8 = 7) : After m c Q D K V t.val t.isLt := by
  have eq : (outsAt0 m c t.val t.isLt).1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) := by rw [outsAt0_A m c t h0 h1]
  have ek : (outsAt0 m c t.val t.isLt).2.2.2.1 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) := by rw [outsAt0_A m c t h0 h1]
  have ev : (outsAt0 m c t.val t.isLt).2.2.2.2 = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) := by rw [outsAt0_A m c t h0 h1]
  have fq := caseA_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) ((hcond0_0 t).mpr h0) (fun h => h1 ((hcond0_1 t).mp h)) (h.at t) VO0_5 VO0_5.junk
  have fk := caseA_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) ((hcond0_0 t).mpr h0) (fun h => h1 ((hcond0_1 t).mp h)) (h.at t)
  have fv := caseA_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) ((hcond0_0 t).mpr h0) (fun h => h1 ((hcond0_1 t).mp h)) (h.at t)
  rw [block_eq] at fk fv
  refine ⟨?_, ?_, ?_⟩
  · rw [eq]; exact q_form fq
  · rw [ek]; exact fk.congr fun s k _ _ => by rw [h0]; exact (upto_one _ s k).symm
  · rw [ev]; exact fv.congr fun s k _ _ => by rw [h0]; exact (upto_one _ s k).symm

set_option maxHeartbeats 2000000 in
/-- What the middle block of queries of a group leaves. -/
theorem after_B (h : Windows m c Q D K V) (t : Fin cfg0.N) (h0 : ¬t.val % 8 = 0) (h1 : ¬t.val % 8 = 7) (hp : After m c Q D K V (t.val - 1) (Nat.lt_of_le_of_lt (Nat.sub_le _ _) t.isLt)) : After m c Q D K V t.val t.isLt := by
  have e8 : (t.val - 1) / 8 = t.val / 8 := by omega
  have em : (t.val - 1) % 8 + 1 = t.val % 8 := by omega
  have hk := hp.k
  have hv := hp.v
  rw [e8, em] at hk hv
  have eq : (outsAt0 m c t.val t.isLt).1 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 := by rw [outsAt0_B m c t h0 h1]
  have ek : (outsAt0 m c t.val t.isLt).2.2.2.1 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 := by rw [outsAt0_B m c t h0 h1]
  have ev : (outsAt0 m c t.val t.isLt).2.2.2.2 = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 := by rw [outsAt0_B m c t h0 h1]
  have fq := caseB_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h)) (h.at t) hk hv VO0_5 VO0_5.junk
  have fk := caseB_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h)) (h.at t) hk hv
  have fv := caseB_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h)) (h.at t) hk hv
  rw [block_eq] at fk fv
  refine ⟨?_, ?_, ?_⟩
  · rw [eq]; exact q_form fq
  · rw [ek]; exact fk.congr fun s k _ _ => by exact (upto_succ _ _ s k).symm
  · rw [ev]; exact fv.congr fun s k _ _ => by exact (upto_succ _ _ s k).symm

set_option maxHeartbeats 2000000 in
/-- What the last block of queries of a group leaves. -/
theorem after_C (h : Windows m c Q D K V) (t : Fin cfg0.N) (h0 : ¬t.val % 8 = 0) (h1 : t.val % 8 = 7) (hp : After m c Q D K V (t.val - 1) (Nat.lt_of_le_of_lt (Nat.sub_le _ _) t.isLt)) : After m c Q D K V t.val t.isLt := by
  have e8 : (t.val - 1) / 8 = t.val / 8 := by omega
  have em : (t.val - 1) % 8 + 1 = t.val % 8 := by omega
  have hk := hp.k
  have hv := hp.v
  rw [e8, em] at hk hv
  have eq : (outsAt0 m c t.val t.isLt).1 = out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 := by rw [outsAt0_C m c t h0 h1]
  have ek : (outsAt0 m c t.val t.isLt).2.2.2.1 = sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 := by rw [outsAt0_C m c t h0 h1]
  have ev : (outsAt0 m c t.val t.isLt).2.2.2.2 = sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 := by rw [outsAt0_C m c t h0 h1]
  have fq := caseC_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1) (h.at t) hk hv VO0_5 VO0_5.junk
  have fk := caseC_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1) (h.at t) hk hv
  have fv := caseC_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1) (h.at t) hk hv
  rw [block_eq] at fk fv
  refine ⟨?_, ?_, ?_⟩
  · rw [eq]; exact q_form fq
  · rw [ek]; exact fk.congr fun s k _ _ => by exact (upto_succ _ _ s k).symm
  · rw [ev]; exact fv.congr fun s k _ _ => by exact (upto_succ _ _ s k).symm

/-- Every grid point leaves what its group has gathered so far. -/
theorem after (h : Windows m c Q D K V) : ∀ (n : ℕ) (hn : n < cfg0.N), After m c Q D K V n hn := by
  intro n
  induction n with
  | zero => exact fun hn => after_A h ⟨0, hn⟩ rfl (by show ¬0 % 8 = 7; omega)
  | succ n ih =>
    intro hn
    by_cases h0 : (n + 1) % 8 = 0
    · exact after_A h ⟨n + 1, hn⟩ h0 (by show ¬(n + 1) % 8 = 7; omega)
    · by_cases h1 : (n + 1) % 8 = 7
      · exact after_C h ⟨n + 1, hn⟩ h0 h1 (ih _)
      · exact after_B h ⟨n + 1, hn⟩ h0 h1 (ih _)

/-- The key gradients the last block of queries of a group gives back. -/
theorem given_ko (h : Windows m c Q D K V) (t : Fin cfg0.N) (h1 : t.val % 8 = 7) :
    Rd (φ := .bf16) (outsAt0 m c t.val t.isLt).2.1 (gk 4096 (Q (t.val / 8)) (D (t.val / 8)) (K (t.val / 8)) (V (t.val / 8))) := by
  have h0 : ¬t.val % 8 = 0 := by omega
  have hp := after h (t.val - 1) (Nat.lt_of_le_of_lt (Nat.sub_le _ _) t.isLt)
  have e8 : (t.val - 1) / 8 = t.val / 8 := by omega
  have em : (t.val - 1) % 8 + 1 = t.val % 8 := by omega
  have hk := hp.k
  have hv := hp.v
  rw [e8, em] at hk hv
  have e : (outsAt0 m c t.val t.isLt).2.1 = out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 := by rw [outsAt0_C m c t h0 h1]
  have f := caseC_ko c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1) (h.at t) hk hv VO0_6 VO0_6.junk
  rw [block_eq] at f
  rw [e]
  exact f.congr fun s k _ hk => by rw [← upto_succ (addK 4096 (Q (t.val / 8)) (D (t.val / 8)) (K (t.val / 8)) (V (t.val / 8))), h1]; exact upto_k _ _ _ _ _ hk

/-- The value gradients the last block of queries of a group gives back. -/
theorem given_vo (h : Windows m c Q D K V) (t : Fin cfg0.N) (h1 : t.val % 8 = 7) :
    Rd (φ := .bf16) (outsAt0 m c t.val t.isLt).2.2.1 (gv 4096 (Q (t.val / 8)) (D (t.val / 8)) (K (t.val / 8))) := by
  have h0 : ¬t.val % 8 = 0 := by omega
  have hp := after h (t.val - 1) (Nat.lt_of_le_of_lt (Nat.sub_le _ _) t.isLt)
  have e8 : (t.val - 1) / 8 = t.val / 8 := by omega
  have em : (t.val - 1) % 8 + 1 = t.val % 8 := by omega
  have hk := hp.k
  have hv := hp.v
  rw [e8, em] at hk hv
  have e : (outsAt0 m c t.val t.isLt).2.2.1 = out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 := by rw [outsAt0_C m c t h0 h1]
  have f := caseC_vo c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1) (h.at t) hk hv VO0_7 VO0_7.junk
  rw [block_eq] at f
  rw [e]
  exact f.congr fun s k _ hk => by rw [← upto_succ (addV 4096 (Q (t.val / 8)) (D (t.val / 8)) (K (t.val / 8))), h1]; exact upto_v _ _ _ _ hk

/-- The query gradients, whole. -/
theorem G5_eq (h : Windows m c Q D K V) (i : S4096x512.Idx) : G5 m c i
    = ((gq 4096 (Q ((i 1).val / 128)) (D ((i 1).val / 128)) (K ((i 1).val / 128)) (V ((i 1).val / 128)) (i 0).val ((i 1).val % 128) : ℝ) : EReal) := by
  have i0 : (i 0).val < 4096 := (i 0).isLt
  have i1 : (i 1).val < 512 := (i 1).isLt
  have hN : cfg0.N = 32 := N_0
  have hb : pt5Of i < cfg0.N := by unfold pt5Of run5Of; omega
  have e8 : pt5Of i / 8 = (i 1).val / 128 := by unfold pt5Of run5Of; omega
  have em : pt5Of i % 8 = (i 0).val / 512 := by unfold pt5Of run5Of; omega
  unfold G5
  rw [dif_pos hb, ← outsAt0_sweep m c (pt5Of i) hb]
  have f := (after h (pt5Of i) hb).q
  rw [e8, em] at f
  have e : loc5Of i = ix2 (⟨(i 0).val % 512, Nat.mod_lt _ (by decide)⟩ : Fin 512) (⟨(i 1).val % 128, Nat.mod_lt _ (by decide)⟩ : Fin 128) := by
    rw [eq_ix2 (loc5Of i)]; rfl
  rw [e]
  refine (f _ _).trans ?_
  dsimp only
  rw [Nat.div_add_mod]

/-- The key gradients, whole. -/
theorem G6_eq (h : Windows m c Q D K V) (i : S4096x512.Idx) : G6 m c i
    = ((gk 4096 (Q ((i 1).val / 128)) (D ((i 1).val / 128)) (K ((i 1).val / 128)) (V ((i 1).val / 128)) (i 0).val ((i 1).val % 128) : ℝ) : EReal) := by
  have i0 : (i 0).val < 4096 := (i 0).isLt
  have i1 : (i 1).val < 512 := (i 1).isLt
  have hN : cfg0.N = 32 := N_0
  have hb : pt6Of i < cfg0.N := by unfold pt6Of run6Of; omega
  have e8 : pt6Of i / 8 = (i 1).val / 128 := by unfold pt6Of run6Of; omega
  have em : pt6Of i % 8 = 7 := by unfold pt6Of run6Of; omega
  unfold G6
  rw [dif_pos hb, ← outsAt0_sweep m c (pt6Of i) hb]
  have f := given_ko h ⟨pt6Of i, hb⟩ em
  dsimp only at f
  rw [e8] at f
  have e : loc6Of i = ix2 (⟨(i 0).val % 4096, Nat.mod_lt _ (by decide)⟩ : Fin 4096) (⟨(i 1).val % 128, Nat.mod_lt _ (by decide)⟩ : Fin 128) := by
    rw [eq_ix2 (loc6Of i)]; rfl
  rw [e]
  refine (f _ _).trans ?_
  dsimp only
  rw [Nat.mod_eq_of_lt i0]

/-- The value gradients, whole. -/
theorem G7_eq (h : Windows m c Q D K V) (i : S4096x512.Idx) : G7 m c i
    = ((gv 4096 (Q ((i 1).val / 128)) (D ((i 1).val / 128)) (K ((i 1).val / 128)) (i 0).val ((i 1).val % 128) : ℝ) : EReal) := by
  have i0 : (i 0).val < 4096 := (i 0).isLt
  have i1 : (i 1).val < 512 := (i 1).isLt
  have hN : cfg0.N = 32 := N_0
  have hb : pt7Of i < cfg0.N := by unfold pt7Of run7Of; omega
  have e8 : pt7Of i / 8 = (i 1).val / 128 := by unfold pt7Of run7Of; omega
  have em : pt7Of i % 8 = 7 := by unfold pt7Of run7Of; omega
  unfold G7
  rw [dif_pos hb, ← outsAt0_sweep m c (pt7Of i) hb]
  have f := given_vo h ⟨pt7Of i, hb⟩ em
  dsimp only at f
  rw [e8] at f
  have e : loc7Of i = ix2 (⟨(i 0).val % 4096, Nat.mod_lt _ (by decide)⟩ : Fin 4096) (⟨(i 1).val % 128, Nat.mod_lt _ (by decide)⟩ : Fin 128) := by
    rw [eq_ix2 (loc7Of i)]; rfl
  rw [e]
  refine (f _ _).trans ?_
  dsimp only
  rw [Nat.mod_eq_of_lt i0]

end Sweep

end Cert.Stick
-- ==== Proof.Windows.lean ====
module

public import proofs.«01_k».proof.Proof.Totals
public import proofs.«01_k».proof.Proof.Reference
public import proofs.«01_k».proof.Proof.Group
import Idealize.ShloMosaic.Lib.Pointwise

/-! # The windows' blocks

Point `t` of the grid works on group `t / 8` of two heads and on block `t % 8` of the queries. Here the blocks that
its windows stage are read off the inputs: queries, keys and values from the columns of the first argument, the
gradient of the output from the second, and the totals from the host lines before the kernel. -/

@[expose] public section

set_option maxRecDepth 16384

noncomputable section

namespace Cert.Stick

open Finset Idealize.ShloMosaic Idealize.SL.Sem Idealize.ShloMosaic.TcCoe Cert.KernelIdeal Cert.KernelIdeal.Gen Cert.KernelIdeal.Value

/-- Queries of a group. -/
def qOf (X : ℕ → ℕ → ℝ) (g t c : ℕ) : ℝ := X t (128 * g + c)
/-- Keys of a group. -/
def kOf (X : ℕ → ℕ → ℝ) (g s c : ℕ) : ℝ := X s (512 + (128 * g + c))
/-- Values of a group. -/
def vOf (X : ℕ → ℕ → ℝ) (g s c : ℕ) : ℝ := X s (1024 + (128 * g + c))

/-- A sum over the lanes of one head of a group is a sum over the head's own lanes. -/
theorem sum_lane (f g : ℕ → ℝ) {a : ℕ} (ha : a < 2) :
    ∑ c ∈ range 128, (if c / 64 = a then f c else 0) * g c = ∑ d ∈ range 64, f (64 * a + d) * g (64 * a + d) := by
  have e : ∑ c ∈ range 128, (if c / 64 = a then f c else 0) * g c = ∑ c ∈ Ico (64 * a) (64 * a + 64), f c * g c := by
    refine (sum_subset (s₁ := Ico (64 * a) (64 * a + 64)) (fun c hc => ?_) (fun c _ hc => ?_)).symm.trans (sum_congr rfl fun c hc => ?_)
    · rw [mem_Ico] at hc; rw [mem_range]; omega
    · rw [mem_Ico] at hc; rw [if_neg (by omega), zero_mul]
    · rw [mem_Ico] at hc; rw [if_pos (by omega)]
  rw [e, sum_Ico_eq_sum_range, show 64 * a + 64 - 64 * a = 64 by omega]

/-- The scores a lane of a group computes are the scores of its head. -/
theorem scores_lane (X : ℕ → ℕ → ℝ) (g : ℕ) {a : ℕ} (ha : a < 2) :
    scores (lane a fun t c => qOf X g t c * (1 / 8)) (kOf X g) = zh X (2 * g + a) := by
  funext t s
  unfold scores lane zh qOf kOf
  rw [sum_lane (fun c => X t (128 * g + c) * (1 / 8)) (fun c => X s (512 + (128 * g + c))) ha, sum_mul]
  refine sum_congr rfl fun d _ => ?_
  rw [show 128 * g + (64 * a + d) = 64 * (2 * g + a) + d by ring]
  ring

/-- The responses a lane of a group computes are the responses of its head. -/
theorem responses_lane (X W : ℕ → ℕ → ℝ) (g : ℕ) {a : ℕ} (ha : a < 2) :
    scores (lane a (qOf W g)) (vOf X g) = uh X W (2 * g + a) := by
  funext t s
  unfold scores lane uh qOf vOf
  rw [sum_lane (fun c => W t (128 * g + c)) (fun c => X s (1024 + (128 * g + c))) ha]
  refine sum_congr rfl fun d _ => ?_
  rw [show 128 * g + (64 * a + d) = 64 * (2 * g + a) + d by ring]

/-- Where the blocks of the grid's points lie, for each input window. -/
theorem blocks : ∀ t : Fin cfg0.N,
    (win0_0.index t (0 : Fin 2) = t.val % 8 ∧ win0_0.index t (1 : Fin 2) = t.val / 8)
    ∧ (win0_1.index t (0 : Fin 2) = 0 ∧ win0_1.index t (1 : Fin 2) = 4 + t.val / 8)
    ∧ (win0_2.index t (0 : Fin 2) = 0 ∧ win0_2.index t (1 : Fin 2) = 8 + t.val / 8)
    ∧ (win0_3.index t (0 : Fin 2) = t.val % 8 ∧ win0_3.index t (1 : Fin 2) = t.val / 8)
    ∧ (win0_4.index t (0 : Fin 2) = t.val % 8 ∧ win0_4.index t (1 : Fin 2) = t.val / 8) :=
  (by decide +kernel : ∀ t : Fin grid0.N, _)

variable (m : (ℓ : Loc nD τ sig) → Buf (Elt Ideal) ℓ) (c : Dev nD) {X W : ℕ → ℕ → ℝ}

/-- The block of queries. -/
theorem blk_q (hX : R2 (φ := .bf16) (m ((c : Thread nD τ).loc main_arg0)) X) (t : Fin cfg0.N) :
    Rd (φ := .bf16) (R := 512) (C := 128) (iblk m c 0 t) (fun r k => qOf X (t.val / 8) (512 * (t.val % 8) + r) k) := fun r k => by
  obtain ⟨⟨e0, e1⟩, -⟩ := blocks t
  show V m c main_arg0 (((cfg0.win 0).blk t).view.emb (ix2 r k)) = _
  rw [V_main_arg0]
  refine (hX _).trans ?_
  show ((X (win0_0.index t (0 : Fin 2) * 512 + 1 * r.val) (win0_0.index t (1 : Fin 2) * 128 + 1 * k.val) : ℝ) : EReal) = _
  simp only [qOf]
  rw [e0, e1, one_mul, one_mul, Nat.mul_comm _ 512, Nat.mul_comm _ 128]

/-- The block of keys. -/
theorem blk_k (hX : R2 (φ := .bf16) (m ((c : Thread nD τ).loc main_arg0)) X) (t : Fin cfg0.N) :
    Rd (φ := .bf16) (R := 4096) (C := 128) (iblk m c 1 t) (kOf X (t.val / 8)) := fun r k => by
  obtain ⟨-, ⟨e0, e1⟩, -⟩ := blocks t
  show V m c main_arg0 (((cfg0.win 1).blk t).view.emb (ix2 r k)) = _
  rw [V_main_arg0]
  refine (hX _).trans ?_
  show ((X (win0_1.index t (0 : Fin 2) * 4096 + 1 * r.val) (win0_1.index t (1 : Fin 2) * 128 + 1 * k.val) : ℝ) : EReal) = _
  rw [e0, e1, kOf, show 0 * 4096 + 1 * r.val = r.val by omega, show (4 + t.val / 8) * 128 + 1 * k.val = 512 + (128 * (t.val / 8) + k.val) by omega]

/-- The block of values. -/
theorem blk_v (hX : R2 (φ := .bf16) (m ((c : Thread nD τ).loc main_arg0)) X) (t : Fin cfg0.N) :
    Rd (φ := .bf16) (R := 4096) (C := 128) (iblk m c 2 t) (vOf X (t.val / 8)) := fun r k => by
  obtain ⟨-, -, ⟨e0, e1⟩, -⟩ := blocks t
  show V m c main_arg0 (((cfg0.win 2).blk t).view.emb (ix2 r k)) = _
  rw [V_main_arg0]
  refine (hX _).trans ?_
  show ((X (win0_2.index t (0 : Fin 2) * 4096 + 1 * r.val) (win0_2.index t (1 : Fin 2) * 128 + 1 * k.val) : ℝ) : EReal) = _
  rw [e0, e1, vOf, show 0 * 4096 + 1 * r.val = r.val by omega, show (8 + t.val / 8) * 128 + 1 * k.val = 1024 + (128 * (t.val / 8) + k.val) by omega]

/-- The block of the gradient of the output. -/
theorem blk_d (hW : R2 (φ := .f32) (m ((c : Thread nD τ).loc main_arg1)) W) (t : Fin cfg0.N) :
    Rd (φ := .f32) (R := 512) (C := 128) (iblk m c 3 t) (fun r k => qOf W (t.val / 8) (512 * (t.val % 8) + r) k) := fun r k => by
  obtain ⟨-, -, -, ⟨e0, e1⟩, -⟩ := blocks t
  show V m c main_arg1 (((cfg0.win 3).blk t).view.emb (ix2 r k)) = _
  rw [V_main_arg1]
  refine (hW _).trans ?_
  show ((W (win0_3.index t (0 : Fin 2) * 512 + 1 * r.val) (win0_3.index t (1 : Fin 2) * 128 + 1 * k.val) : ℝ) : EReal) = _
  simp only [qOf]
  rw [e0, e1, one_mul, one_mul, Nat.mul_comm _ 512, Nat.mul_comm _ 128]

/-- The totals: every lane of a head holds the sum of its row's masked logarithms. -/
theorem totals_read {x0 : Vec Ideal S4096x1536 .bf16} (hX : R2 (φ := .bf16) x0 X) :
    R2 (φ := .f32) (C := 512) (totals x0) (fun t k => -cum (zh X (k / 64)) t 4096) := fun i => by
  obtain ⟨t, k, rfl⟩ : ∃ (t : Fin 4096) (k : Fin 512), i = ix2 t k := ⟨i 0, i 1, eq_ix2 i⟩
  unfold totals
  simp only [pointwise]
  refine (zero_add (M := EReal) _).trans ((sum_congr rfl fun s _ => r_v19_0 hX _).trans ?_)
  refine (coe_sum_fin (n := 4096) (fun s => -spm (zh X (k.val / 64)) t.val s)).trans ?_
  rw [sum_neg_distrib]
  rfl

/-- The block of totals. -/
theorem blk_t (hX : R2 (φ := .bf16) (m ((c : Thread nD τ).loc main_arg0)) X) (t : Fin cfg0.N) :
    Rd (φ := .f32) (R := 512) (C := 128) (iblk m c 4 t) (fun r k => -cum (zh X (2 * (t.val / 8) + k / 64)) (512 * (t.val % 8) + r) 4096) := fun r k => by
  obtain ⟨-, -, -, -, ⟨e0, e1⟩⟩ := blocks t
  show V m c main_v24 (((cfg0.win 4).blk t).view.emb (ix2 r k)) = _
  rw [totals_eq]
  refine (totals_read hX _).trans ?_
  show ((-cum (zh X ((win0_4.index t (1 : Fin 2) * 128 + 1 * k.val) / 64)) (win0_4.index t (0 : Fin 2) * 512 + 1 * r.val) 4096 : ℝ) : EReal) = _
  rw [e0, e1, show (t.val / 8 * 128 + 1 * k.val) / 64 = 2 * (t.val / 8) + k.val / 64 by omega, one_mul, Nat.mul_comm _ 512]

/-- What every point of the grid finds in its windows. -/
theorem windows (hX : R2 (φ := .bf16) (m ((c : Thread nD τ).loc main_arg0)) X) (hW : R2 (φ := .f32) (m ((c : Thread nD τ).loc main_arg1)) W) :
    Windows m c (qOf X) (qOf W) (kOf X) (vOf X) := fun t =>
  { iq := blk_q m c hX t
    ik := blk_k m c hX t
    iv := blk_v m c hX t
    id := blk_d m c hW t
    it := ⟨_, blk_t m c hX t, fun r => by rw [scores_lane X _ (by omega)], fun r => by rw [scores_lane X _ (by omega)]⟩ }

end Cert.Stick
-- ==== Proof.Values.lean ====
module

public import proofs.«01_k».proof.Proof.Windows
public import proofs.«01_k».proof.Proof.Gen.Pre_finite
import Idealize.ShloMosaic.Lib.ReduceAll
import Idealize.ShloMosaic.Lib.Pointwise

/-! # The three gradients

The precondition makes the two inputs arrays of real numbers; on such inputs the three results of the kernel are the
three gradients of the reference, entry by entry. -/

@[expose] public section

set_option maxRecDepth 16384

noncomputable section

namespace Cert.Stick

open Finset Idealize.ShloMosaic Idealize.SL.Sem Idealize.ShloMosaic.TcCoe Cert.KernelIdeal Cert.KernelIdeal.Gen Cert.KernelIdeal.Value Cert.ReferenceIdeal.Read

/-! ## Finite inputs -/

/-- An extended real whose absolute value is below `⊤` is a real number. -/
theorem real_of_abs_lt {x : EReal} (h : max x (-x) < ⊤) : ((x.toReal : ℝ) : EReal) = x :=
  EReal.coe_toReal (fun e => by rw [e] at h; exact absurd h (by simp)) (fun e => by rw [e] at h; exact absurd h (by simp))

/-- Of two one-bit words whose conjunction is one, both are one. -/
theorem both_one (a b : BitVec 1) (h : IntOp.andi a b = 1#1) : a = 1#1 ∧ b = 1#1 := by
  revert a b; decide

/-- An array of real numbers is a function of its two indices. -/
theorem exists_R2 {C : ℕ} {φ : FTy} (v : FVec Ideal ⟨2, ![4096, C]⟩ φ) (h : ∀ i, max (v i : EReal) (-(v i : EReal)) < ⊤) :
    ∃ f, R2 v f := by
  classical
  refine ⟨fun t c => if q : ∃ j : (⟨2, ![4096, C]⟩ : Shape).Idx, (j 0).val = t ∧ (j 1).val = c then (v q.choose : EReal).toReal else 0,
    fun i => ?_⟩
  have q : ∃ j : (⟨2, ![4096, C]⟩ : Shape).Idx, (j 0).val = (i 0).val ∧ (j 1).val = (i 1).val := ⟨i, rfl, rfl⟩
  have e : q.choose = i := by
    funext a
    match a with
    | ⟨0, _⟩ => exact Fin.ext q.choose_spec.1
    | ⟨1, _⟩ => exact Fin.ext q.choose_spec.2
  refine (real_of_abs_lt (h i)).symm.trans (congrArg _ (Eq.trans ?_ (dif_pos q).symm))
  rw [e]

/-- Under the precondition both inputs are arrays of real numbers. -/
theorem inputs_real (x0 : FVec Ideal Cert.Pre_finite.S4096x1536 .bf16) (x1 : FVec Ideal Cert.Pre_finite.S4096x512 .f32)
    (h : Cert.Pre_finite.fn x0 x1 = fun _ => 1#1) : (∃ X, R2 (φ := .bf16) x0 X) ∧ ∃ W, R2 (φ := .f32) x1 W := by
  haveI : Subsingleton Cert.Pre_finite.S_.Idx := ⟨fun a b => funext fun k => k.elim0⟩
  have h0 := congrFun h finZeroElim
  unfold Cert.Pre_finite.fn at h0
  dsimp only at h0
  obtain ⟨ha, hb⟩ := both_one _ _ h0
  have top : (Ideal.ofBits .f32 0x7F800000#32 : EReal) = ⊤ := word_top
  refine ⟨exists_R2 x0 fun i => ?_, exists_R2 x1 fun i => ?_⟩
  · have q := Host.reduce_andi_all _ _ _ _ _ ha i
    have q' : BitVec.ofBool (decide (max (x0 i : EReal) (-(x0 i : EReal)) < Ideal.ofBits .f32 0x7F800000#32)) = 1#1 := q
    rw [top] at q'
    by_contra hn
    rw [decide_eq_false hn] at q'
    exact absurd q' (by decide)
  · have q := Host.reduce_andi_all _ _ _ _ _ hb i
    have q' : BitVec.ofBool (decide (max (x1 i : EReal) (-(x1 i : EReal)) < Ideal.ofBits .f32 0x7F800000#32)) = 1#1 := q
    rw [top] at q'
    by_contra hn
    rw [decide_eq_false hn] at q'
    exact absurd q' (by decide)

/-! ## The results -/

variable (m : (ℓ : Loc nD τ sig) → Buf (Elt Ideal) ℓ) (c : Dev nD)
  {X W : ℕ → ℕ → ℝ}

/-- The gradient of a score, at the lanes of a head of a group, is the gradient at that head. -/
theorem dS_head (X W : ℕ → ℕ → ℝ) (j t s : ℕ) :
    dS 4096 (qOf X (j / 128)) (qOf W (j / 128)) (kOf X (j / 128)) (vOf X (j / 128)) (j % 128 / 64) t s
      = dz 4096 (zh X (j / 64)) (uh X W (j / 64)) t s := by
  rw [dS, scores_lane X (j / 128) (by omega), responses_lane X W (j / 128) (by omega),
    show 2 * (j / 128) + j % 128 / 64 = j / 64 by omega]

/-- The weights, at the lanes of a head of a group, are the weights of that head. -/
theorem aS_head (X : ℕ → ℕ → ℝ) (j t s : ℕ) :
    aS 4096 (qOf X (j / 128)) (kOf X (j / 128)) (j % 128 / 64) t s = att 4096 (zh X (j / 64)) t s := by
  rw [aS, scores_lane X (j / 128) (by omega), show 2 * (j / 128) + j % 128 / 64 = j / 64 by omega]

/-- The gradient of the queries. -/
theorem G5_value (hX : R2 (φ := .bf16) (m ((c : Thread nD τ).loc main_arg0)) X)
    (hW : R2 (φ := .f32) (m ((c : Thread nD τ).loc main_arg1)) W) :
    G5 m c = val_main_v50 (m ((c : Thread nD τ).loc main_arg0)) (m ((c : Thread nD τ).loc main_arg1)) := by
  funext i
  refine (G5_eq (windows m c hX hW) i).trans ?_
  refine Eq.trans ?_ (r_v50 hX hW i).symm
  rw [gq, sum_mul]
  refine congrArg _ (sum_congr rfl fun s _ => ?_)
  rw [dS_head, kOf, show 512 + (128 * ((i 1).val / 128) + (i 1).val % 128) = 512 + (64 * ((i 1).val / 64) + (i 1).val % 64) by omega]
  ring

/-- The gradient of the keys. -/
theorem G6_value (hX : R2 (φ := .bf16) (m ((c : Thread nD τ).loc main_arg0)) X)
    (hW : R2 (φ := .f32) (m ((c : Thread nD τ).loc main_arg1)) W) :
    G6 m c = val_main_v52 (m ((c : Thread nD τ).loc main_arg0)) (m ((c : Thread nD τ).loc main_arg1)) := by
  funext i
  refine (G6_eq (windows m c hX hW) i).trans ?_
  refine Eq.trans ?_ (r_v52 hX hW i).symm
  rw [gk]
  refine congrArg _ (sum_congr rfl fun t _ => ?_)
  rw [dS_head, qOf, show 128 * ((i 1).val / 128) + (i 1).val % 128 = 64 * ((i 1).val / 64) + (i 1).val % 64 by omega]
  ring

/-- The gradient of the values. -/
theorem G7_value (hX : R2 (φ := .bf16) (m ((c : Thread nD τ).loc main_arg0)) X)
    (hW : R2 (φ := .f32) (m ((c : Thread nD τ).loc main_arg1)) W) :
    G7 m c = val_main_v54 (m ((c : Thread nD τ).loc main_arg0)) (m ((c : Thread nD τ).loc main_arg1)) := by
  funext i
  refine (G7_eq (windows m c hX hW) i).trans ?_
  refine Eq.trans ?_ (r_v54 hX hW i).symm
  rw [gv]
  refine congrArg _ (sum_congr rfl fun t _ => ?_)
  rw [aS_head, qOf, show 128 * ((i 1).val / 128) + (i 1).val % 128 = 64 * ((i 1).val / 64) + (i 1).val % 64 by omega]
  ring

end Cert.Stick

end
-- ==== Proof.Bands.lean ====
/- A matrix stored and loaded in bands of rows. -/
module

public import Idealize.ShloMosaic.Lib.VecWindow
public import Idealize.ShloMosaic.Lib.WholeRead
public import Idealize.ShloMosaic.Lib.Pointwise
public import Idealize.ShloMosaic.Lib.WritesUnit

@[expose] public section

set_option maxRecDepth 16384

namespace Cert.Bands

open Idealize.ShloMosaic Idealize.SL.Sem

variable {sig : RefSig} {κ : Kind} {sp : Space} {R C : ℕ} {e : EltTy} {Val : EltTy → Type}

/-- A row of the band just stored holds what was stored. -/
theorem stored (v : View sig κ sp ⟨2, ![R, C]⟩ e) (f : v.ty.Contents Val) {off : Fin 2 → ℕ} {a R' : ℕ} (e0 : off = ![a, 0])
    (inb : ∀ x, off x + (![R', C] : Fin 2 → ℕ) x ≤ (![R, C] : Fin 2 → ℕ) x) (w : (⟨2, ![R', C]⟩ : Shape).Idx → Val e)
    (L : List (View.Piece Val ⟨2, ![R, C]⟩ e)) (r : Fin R) (c : Fin C) (h : a ≤ r.val) (h' : r.val - a < R') :
    v.read Val (v.writes Val f ((⟨Rect.unit (s := ⟨2, ![R, C]⟩) off ![R', C] inb, w⟩ : View.Piece Val ⟨2, ![R, C]⟩ e) :: L)) (ix2 r c)
      = w (ix2 ⟨r.val - a, h'⟩ c) := by
  refine View.read_writes_cons_unit_of_mem v f inb w L _ (ix2 ⟨r.val - a, h'⟩ c) e0 ?_
  intro x
  fin_cases x
  · show r.val = a + (r.val - a)
    omega
  · show c.val = 0 + c.val
    omega

/-- A row outside the band just stored holds what it held. -/
theorem kept (v : View sig κ sp ⟨2, ![R, C]⟩ e) (f : v.ty.Contents Val) {off : Fin 2 → ℕ} {a R' : ℕ} (e0 : off = ![a, 0])
    (inb : ∀ x, off x + (![R', C] : Fin 2 → ℕ) x ≤ (![R, C] : Fin 2 → ℕ) x) (w : (⟨2, ![R', C]⟩ : Shape).Idx → Val e)
    (L : List (View.Piece Val ⟨2, ![R, C]⟩ e)) (r : Fin R) (c : Fin C) (h : r.val < a ∨ a + R' ≤ r.val) :
    v.read Val (v.writes Val f ((⟨Rect.unit (s := ⟨2, ![R, C]⟩) off ![R', C] inb, w⟩ : View.Piece Val ⟨2, ![R, C]⟩ e) :: L)) (ix2 r c)
      = v.read Val (v.writes Val f L) (ix2 r c) :=
  View.read_writes_cons_unit_of_not_mem v f inb w L _ e0 0 h

/-- A load of a band reads the rows from its first one on. -/
theorem loaded {α : Type} (X : (⟨2, ![R, C]⟩ : Shape).Idx → α) {off : Fin 2 → ℕ} {a b R' C' : ℕ} (e0 : off = ![a, b])
    (inb : ∀ x, off x + (![R', C'] : Fin 2 → ℕ) x ≤ (![R, C] : Fin 2 → ℕ) x) (r : Fin R') (c : Fin C') (h : a + r.val < R) (h' : b + c.val < C) :
    X ((Rect.unit (s := ⟨2, ![R, C]⟩) off ![R', C'] inb).toLoadRect.idx (ix2 r c)) = X (ix2 ⟨a + r.val, h⟩ ⟨b + c.val, h'⟩) := by
  subst e0
  refine congrArg X (funext fun x => Fin.ext ?_)
  fin_cases x
  · show a + 1 * r.val = a + r.val
    omega
  · show b + 1 * c.val = b + c.val
    omega

end Cert.Bands
-- ==== Proof.InputSum.lean ====
/- The gradient of a feed-forward half-step's normed input: what the kernel's points leave in the scratch,
   and the sum over the columns it is. -/
module

public import Idealize.ShloMosaic.Lib.VecWindow
public import Idealize.ShloMosaic.Lib.WholeRead
public import Idealize.ShloMosaic.Lib.Pointwise
public import proofs.«01_k».proof.Proof.Bands
public import proofs.«01_k».proof.Proof.Gen.InputIdeal.Value

@[expose] public section

set_option maxRecDepth 16384

noncomputable section

namespace Cert.InputSum

open Finset Idealize.ShloMosaic Idealize.SL.Sem Idealize.ShloMosaic.TcCoe Cert.InputIdeal Cert.InputIdeal.Gen Cert.InputIdeal.Value

/-- One slab's part of the gradient: the gates' product and the ups'. -/
def part (x3 x4 x5 x6 : Vec Ideal S1x1024x704 .bf16) (r k : Fin 1024) : EReal :=
  ((∑ q : Fin 704, (x3 (ix3 0 r q) : EReal) * (x5 (ix3 0 k q) : EReal)) + ∑ q : Fin 704, (x4 (ix3 0 r q) : EReal) * (x6 (ix3 0 k q) : EReal) : EReal)

/-- The upper half's sum: what was there and the two products. -/
theorem pay1_entry (v : Vec Ideal S512x1024 .f32) (a b : Vec Ideal S1x512x704 .bf16) (p q : Vec Ideal S1x1024x704 .bf16) (r : Fin 512) (k : Fin 1024) :
    k0_pay1 (k0_pay10 a p b q) v (ix2 r k)
      = (v (ix2 r k) + ((∑ d : Fin 704, (a (ix3 0 r d) : EReal) * (p (ix3 0 k d) : EReal)) + ∑ d : Fin 704, (b (ix3 0 r d) : EReal) * (q (ix3 0 k d) : EReal)) : EReal) := by
  unfold k0_pay1 k0_pay10
  simp only [pointwise]
  simp only [zero_add]

/-- The lower half's. -/
theorem pay2_entry (v : Vec Ideal S512x1024 .f32) (a b : Vec Ideal S1x512x704 .bf16) (p q : Vec Ideal S1x1024x704 .bf16) (r : Fin 512) (k : Fin 1024) :
    k0_pay2 (k0_pay9 a p) (k0_pay11 b) q v (ix2 r k)
      = (v (ix2 r k) + ((∑ d : Fin 704, (a (ix3 0 r d) : EReal) * (p (ix3 0 k d) : EReal)) + ∑ d : Fin 704, (b (ix3 0 r d) : EReal) * (q (ix3 0 k d) : EReal)) : EReal) := by
  unfold k0_pay2 k0_pay9 k0_pay11
  simp only [pointwise]
  simp only [zero_add]

/-- The scratch starts at zero. -/
theorem pay7_entry (i : S1024x1024.Idx) : k0_pay7 (F := Ideal) i = (0 : EReal) := by
  unfold k0_pay7
  simp only [pointwise]

/-- So does the gain's gradient. -/
theorem pay8_entry (i : S1x1024.Idx) : k0_pay8 (F := Ideal) i = (0 : EReal) := by
  unfold k0_pay8
  simp only [pointwise]

/-- Rows of a slab from row `a` on. -/
abbrev rows (x : Vec Ideal S1x1024x704 .bf16) (a : ℕ) (h : ∀ b, (![0, a, 0] : Fin 3 → ℕ) b + S1x512x704.size b ≤ S1x1024x704.size b) : Vec Ideal S1x512x704 .bf16 :=
  fun i => x ((Rect.unit (s := S1x1024x704) ![0, a, 0] S1x512x704.size h).toLoadRect.idx i)

/-- One of those rows. -/
theorem rows_entry (x : Vec Ideal S1x1024x704 .bf16) (a : ℕ) (h : ∀ b, (![0, a, 0] : Fin 3 → ℕ) b + S1x512x704.size b ≤ S1x1024x704.size b)
    (r : Fin 1024) (h1 : a ≤ r.val) (h2 : r.val - a < 512) (d : Fin 704) : rows x a h (ix3 0 ⟨r.val - a, h2⟩ d) = x (ix3 0 r d) := by
  refine congrArg x (funext fun b => Fin.ext ?_)
  fin_cases b
  · rfl
  · show a + 1 * (r.val - a) = r.val
    omega
  · show 0 + 1 * d.val = d.val
    omega

/-- The upper half stored into the scratch, over what was there. -/
abbrev upper (x3 x4 x5 x6 : Vec Ideal S1x1024x704 .bf16) (u : Vec Ideal S512x1024 .f32) : View.Piece (Elt Ideal) S1024x1024 .f32 :=
  ⟨Rect.unit (s := S1024x1024) ![0, 0] S512x1024.size (by decide), k0_pay1 (k0_pay10 (rows x3 0 (by decide)) x5 (rows x4 0 (by decide)) x6) u⟩

/-- The lower half. -/
abbrev lower (x3 x4 x5 x6 : Vec Ideal S1x1024x704 .bf16) (w : Vec Ideal S512x1024 .f32) : View.Piece (Elt Ideal) S1024x1024 .f32 :=
  ⟨Rect.unit (s := S1024x1024) ![512, 0] S512x1024.size (by decide), k0_pay2 (k0_pay9 (rows x3 512 (by decide)) x5) (k0_pay11 (rows x4 512 (by decide))) x6 w⟩

/-- The scratch after both halves, over what the two loads found. -/
theorem halves (v : View sig .tc .vmem S1024x1024 .f32) (f : v.ty.Contents (Elt Ideal)) (L : List (View.Piece (Elt Ideal) S1024x1024 .f32))
    (x3 x4 x5 x6 : Vec Ideal S1x1024x704 .bf16) (u w : Vec Ideal S512x1024 .f32) (X : Vec Ideal S1024x1024 .f32) (r k : Fin 1024)
    (hu : ∀ (r : Fin 1024) (h : r.val - 0 < 512), u (ix2 ⟨r.val - 0, h⟩ k) = X (ix2 r k))
    (hw : ∀ (r : Fin 1024) (_ : 512 ≤ r.val) (h : r.val - 512 < 512), w (ix2 ⟨r.val - 512, h⟩ k) = X (ix2 r k)) :
    v.read (Elt Ideal) (v.writes (Elt Ideal) f (lower x3 x4 x5 x6 w :: upper x3 x4 x5 x6 u :: L)) (ix2 r k)
      = (X (ix2 r k) + part x3 x4 x5 x6 r k : EReal) := by
  unfold part
  by_cases h : r.val < 512
  · refine (Bands.kept (a := 512) (R' := 512) v f rfl _ _ _ r k (Or.inl h)).trans ?_
    refine (Bands.stored (a := 0) (R' := 512) v f rfl _ _ _ r k (Nat.zero_le _) (by omega)).trans ?_
    refine (pay1_entry _ _ _ _ _ _ _).trans ?_
    refine congrArg₂ (fun a b : EReal => a + b) (hu r _) (congrArg₂ (fun a b : EReal => a + b) (sum_congr rfl fun d _ => congrArg₂ (fun a b : EReal => a * b) ?_ rfl) (sum_congr rfl fun d _ => congrArg₂ (fun a b : EReal => a * b) ?_ rfl))
    · exact rows_entry x3 0 _ r (Nat.zero_le _) _ d
    · exact rows_entry x4 0 _ r (Nat.zero_le _) _ d
  · have hr := r.isLt
    refine (Bands.stored (a := 512) (R' := 512) v f rfl _ _ _ r k (by omega) (by omega)).trans ?_
    refine (pay2_entry _ _ _ _ _ _ _).trans ?_
    refine congrArg₂ (fun a b : EReal => a + b) (hw r (by omega) _) (congrArg₂ (fun a b : EReal => a + b) (sum_congr rfl fun d _ => congrArg₂ (fun a b : EReal => a * b) ?_ rfl) (sum_congr rfl fun d _ => congrArg₂ (fun a b : EReal => a * b) ?_ rfl))
    · exact rows_entry x3 512 _ r (by omega) _ d
    · exact rows_entry x4 512 _ r (by omega) _ d

/-- A half of the scratch as it was. -/
theorem half_kept (X : Vec Ideal S1024x1024 .f32) (a : ℕ) (h : ∀ b, (![a, 0] : Fin 2 → ℕ) b + (![512, 1024] : Fin 2 → ℕ) b ≤ S1024x1024.size b) (r k : Fin 1024)
    (h1 : a ≤ r.val) (h2 : r.val - a < 512) :
    X ((Rect.unit (s := S1024x1024) ![a, 0] ![512, 1024] h).toLoadRect.idx (ix2 ⟨r.val - a, h2⟩ k)) = X (ix2 r k) := by
  have hr := r.isLt
  refine (Bands.loaded X rfl _ _ k (by show a + (r.val - a) < 1024; omega) (by omega)).trans (congrArg X (funext fun b => Fin.ext ?_))
  fin_cases b
  · show a + (r.val - a) = r.val
    omega
  · show 0 + k.val = k.val
    omega

/-- The scratch zeroed. -/
abbrev zeroed : View.Piece (Elt Ideal) S1024x1024 .f32 := ⟨Rect.unit (s := S1024x1024) ![0, 0] S1024x1024.size (by decide), k0_pay7 (F := Ideal)⟩

/-- What it then holds. -/
theorem zeroed_entry (v : View sig .tc .vmem S1024x1024 .f32) (f : v.ty.Contents (Elt Ideal)) (i : S1024x1024.Idx) :
    v.read (Elt Ideal) (v.writes (Elt Ideal) f [zeroed]) i = (0 : EReal) :=
  (congrFun (View.read_writes_full _ _ _ _ _) i).trans (pay7_entry i)

/-- The scratch zeroed and then added to: the slab's part alone. -/
theorem halves_zeroed (v v' : View sig .tc .vmem S1024x1024 .f32) (f : v'.ty.Contents (Elt Ideal)) (x3 x4 x5 x6 : Vec Ideal S1x1024x704 .bf16) (r k : Fin 1024) :
    v'.read (Elt Ideal) (v'.writes (Elt Ideal) f [lower x3 x4 x5 x6 (v.readCov [upper x3 x4 x5 x6 (v.readCov [zeroed] (Rect.unit (s := S1024x1024) ![0, 0] S512x1024.size (by decide)).toLoadRect), zeroed] (Rect.unit (s := S1024x1024) ![512, 0] S512x1024.size (by decide)).toLoadRect), upper x3 x4 x5 x6 (v.readCov [zeroed] (Rect.unit (s := S1024x1024) ![0, 0] S512x1024.size (by decide)).toLoadRect), zeroed]) (ix2 r k)
      = part x3 x4 x5 x6 r k := by
  refine (halves v' f _ x3 x4 x5 x6 _ _ (fun _ => (0 : EReal)) r k (fun r h => ?_) (fun r h' h => ?_)).trans (zero_add _)
  · exact zeroed_entry _ _ _
  · have hr := r.isLt
    refine (Bands.loaded (v.read (Elt Ideal) (v.writes (Elt Ideal) v.junk [upper x3 x4 x5 x6 _, zeroed])) rfl _ _ k (by show 512 + (r.val - 512) < 1024; omega) (by omega)).trans ?_
    refine (Bands.kept (a := 0) (R' := 512) v _ rfl _ _ _ _ _ (Or.inr (by show 0 + 512 ≤ 512 + (r.val - 512); omega))).trans ?_
    exact zeroed_entry _ _ _

/-- What a point in the middle leaves in the scratch. -/
theorem scratchB (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1x1024x704 .bf16) (harg5 : arg5.IsWhole) (arg6 : Memref sig .tc .vmem S1x1024x704 .bf16) (harg6 : arg6.IsWhole)
    (arg7 : Memref sig .tc .vmem S1x1024x704 .bf16) (harg7 : arg7.IsWhole) (arg8 : Memref sig .tc .vmem S1x1024x704 .bf16) (harg8 : arg8.IsWhole)
    (arg9 : Memref sig .tc .vmem S1024x1024 .f32) (harg9 : arg9.IsWhole) (arg10 : Memref sig .tc .vmem S1x1024 .f32) (harg10 : arg10.IsWhole)
    (arg11 : Memref sig .tc .vmem S1024x1024 .f32) (harg11 : arg11.IsWhole) (hc0 : ¬cond0_0 i) (hc1 : ¬cond0_1 i) (hc2 : ¬cond0_2 i)
    (x0 x1 : Vec Ideal S1024x1024 .f32) (x2 : Vec Ideal S1x1024 .f32) (x3 x4 x5 x6 : Vec Ideal S1x1024x704 .bf16) (xs0 : Vec Ideal S1024x1024 .f32) (r k : Fin 1024) :
    sout0_B_0 (F := Ideal) c i arg2 harg2 arg3 harg3 arg4 harg4 arg5 harg5 arg6 harg6 arg7 harg7 arg8 harg8 arg9 harg9 arg10 harg10 arg11 harg11 hc0 hc1 hc2 x0 x1 x2 x3 x4 x5 x6 xs0 (ix2 r k) = (xs0 (ix2 r k) + part x3 x4 x5 x6 r k : EReal) := by
  delta sout0_B_0 kernelRun0_B
  dsimp only
  delta kernelRun0_B.sl.r kernelRun0_B.sl.r_1 kernelRun0_B.sl.r_2 kernelRun0_B.sl.v35
  dsimp only
  rw [show View.readAt (Elt Ideal) arg7.view (Rect.unit (s := S1x1024x704) ![0, 0, 0] S1x1024x704.size inb_S1x1024x704_S1x1024x704_0_0_0).toLoadRect (harg7.unread x5) = x5 from by rw [View.readAt_full, harg7.read_unread],
    show View.readAt (Elt Ideal) arg8.view (Rect.unit (s := S1x1024x704) ![0, 0, 0] S1x1024x704.size inb_S1x1024x704_S1x1024x704_0_0_0).toLoadRect (harg8.unread x6) = x6 from by rw [View.readAt_full, harg8.read_unread],
    show View.readAt (Elt Ideal) arg5.view (Rect.unit (s := S1x1024x704) ![0, 0, 0] S1x512x704.size inb_S1x1024x704_S1x512x704_0_0_0).toLoadRect (harg5.unread x3) = rows x3 0 (by decide) from funext fun i => harg5.readAt_unread _ _ i,
    show View.readAt (Elt Ideal) arg6.view (Rect.unit (s := S1x1024x704) ![0, 0, 0] S1x512x704.size inb_S1x1024x704_S1x512x704_0_0_0).toLoadRect (harg6.unread x4) = rows x4 0 (by decide) from funext fun i => harg6.readAt_unread _ _ i,
    show View.readAt (Elt Ideal) arg5.view (Rect.unit (s := S1x1024x704) ![0, 512, 0] S1x512x704.size inb_S1x1024x704_S1x512x704_0_512_0).toLoadRect (harg5.unread x3) = rows x3 512 (by decide) from funext fun i => harg5.readAt_unread _ _ i,
    show View.readAt (Elt Ideal) arg6.view (Rect.unit (s := S1x1024x704) ![0, 512, 0] S1x512x704.size inb_S1x1024x704_S1x512x704_0_512_0).toLoadRect (harg6.unread x4) = rows x4 512 (by decide) from funext fun i => harg6.readAt_unread _ _ i]
  rw [show View.readAt (Elt Ideal) arg11.view (Rect.unit (s := S1024x1024) ![0, 0] S512x1024.size inb_S1024x1024_S512x1024_0_0).toLoadRect (harg11.unread xs0) = _ from funext fun i => harg11.readAt_unread _ _ i,
    show View.readAt (Elt Ideal) arg11.view (Rect.unit (s := S1024x1024) ![512, 0] S512x1024.size inb_S1024x1024_S512x1024_512_0).toLoadRect (harg11.unread xs0) = _ from funext fun i => harg11.readAt_unread _ _ i]
  exact halves _ _ _ x3 x4 x5 x6 _ _ xs0 r k (fun r h => half_kept xs0 0 _ r k (Nat.zero_le _) h) (fun r h' h => half_kept xs0 512 _ r k h' h)

/-- What the first point leaves in the scratch. -/
theorem scratchA (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1x1024x704 .bf16) (harg5 : arg5.IsWhole) (arg6 : Memref sig .tc .vmem S1x1024x704 .bf16) (harg6 : arg6.IsWhole)
    (arg7 : Memref sig .tc .vmem S1x1024x704 .bf16) (harg7 : arg7.IsWhole) (arg8 : Memref sig .tc .vmem S1x1024x704 .bf16) (harg8 : arg8.IsWhole)
    (arg9 : Memref sig .tc .vmem S1024x1024 .f32) (harg9 : arg9.IsWhole) (arg10 : Memref sig .tc .vmem S1x1024 .f32) (harg10 : arg10.IsWhole)
    (arg11 : Memref sig .tc .vmem S1024x1024 .f32) (harg11 : arg11.IsWhole) (hc0 : cond0_0 i) (hc1 : cond0_1 i) (hc2 : ¬cond0_2 i)
    (x0 x1 : Vec Ideal S1024x1024 .f32) (x2 : Vec Ideal S1x1024 .f32) (x3 x4 x5 x6 : Vec Ideal S1x1024x704 .bf16) (r k : Fin 1024) :
    sout0_A_0 (F := Ideal) c i arg2 harg2 arg3 harg3 arg4 harg4 arg5 harg5 arg6 harg6 arg7 harg7 arg8 harg8 arg9 harg9 arg10 harg10 arg11 harg11 hc0 hc1 hc2 x0 x1 x2 x3 x4 x5 x6 (ix2 r k) = part x3 x4 x5 x6 r k := by
  delta sout0_A_0 kernelRun0_A
  dsimp only
  delta kernelRun0_A.sl.r kernelRun0_A.sl.r_2 kernelRun0_A.sl.v35
  delta kernelRun0_A.sl.HS0_2
  delta kernelRun0_A.sl.r_1 kernelRun0_A.sl.v30
  delta kernelRun0_A.sl.HS0_1
  dsimp only
  rw [show View.readAt (Elt Ideal) arg7.view (Rect.unit (s := S1x1024x704) ![0, 0, 0] S1x1024x704.size inb_S1x1024x704_S1x1024x704_0_0_0).toLoadRect (harg7.unread x5) = x5 from by rw [View.readAt_full, harg7.read_unread],
    show View.readAt (Elt Ideal) arg8.view (Rect.unit (s := S1x1024x704) ![0, 0, 0] S1x1024x704.size inb_S1x1024x704_S1x1024x704_0_0_0).toLoadRect (harg8.unread x6) = x6 from by rw [View.readAt_full, harg8.read_unread],
    show View.readAt (Elt Ideal) arg5.view (Rect.unit (s := S1x1024x704) ![0, 0, 0] S1x512x704.size inb_S1x1024x704_S1x512x704_0_0_0).toLoadRect (harg5.unread x3) = rows x3 0 (by decide) from funext fun i => harg5.readAt_unread _ _ i,
    show View.readAt (Elt Ideal) arg6.view (Rect.unit (s := S1x1024x704) ![0, 0, 0] S1x512x704.size inb_S1x1024x704_S1x512x704_0_0_0).toLoadRect (harg6.unread x4) = rows x4 0 (by decide) from funext fun i => harg6.readAt_unread _ _ i,
    show View.readAt (Elt Ideal) arg5.view (Rect.unit (s := S1x1024x704) ![0, 512, 0] S1x512x704.size inb_S1x1024x704_S1x512x704_0_512_0).toLoadRect (harg5.unread x3) = rows x3 512 (by decide) from funext fun i => harg5.readAt_unread _ _ i,
    show View.readAt (Elt Ideal) arg6.view (Rect.unit (s := S1x1024x704) ![0, 512, 0] S1x512x704.size inb_S1x1024x704_S1x512x704_0_512_0).toLoadRect (harg6.unread x4) = rows x4 512 (by decide) from funext fun i => harg6.readAt_unread _ _ i]
  exact halves_zeroed arg11.view _ _ x3 x4 x5 x6 r k

/-- What the first point of a later block of rows leaves in the scratch. -/
theorem scratchD (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1x1024x704 .bf16) (harg5 : arg5.IsWhole) (arg6 : Memref sig .tc .vmem S1x1024x704 .bf16) (harg6 : arg6.IsWhole)
    (arg7 : Memref sig .tc .vmem S1x1024x704 .bf16) (harg7 : arg7.IsWhole) (arg8 : Memref sig .tc .vmem S1x1024x704 .bf16) (harg8 : arg8.IsWhole)
    (arg9 : Memref sig .tc .vmem S1024x1024 .f32) (harg9 : arg9.IsWhole) (arg10 : Memref sig .tc .vmem S1x1024 .f32) (harg10 : arg10.IsWhole)
    (arg11 : Memref sig .tc .vmem S1024x1024 .f32) (harg11 : arg11.IsWhole) (hc0 : cond0_0 i) (hc1 : ¬cond0_1 i) (hc2 : ¬cond0_2 i)
    (x0 x1 : Vec Ideal S1024x1024 .f32) (x2 : Vec Ideal S1x1024 .f32) (x3 x4 x5 x6 : Vec Ideal S1x1024x704 .bf16) (r k : Fin 1024) :
    sout0_D_0 (F := Ideal) c i arg2 harg2 arg3 harg3 arg4 harg4 arg5 harg5 arg6 harg6 arg7 harg7 arg8 harg8 arg9 harg9 arg10 harg10 arg11 harg11 hc0 hc1 hc2 x0 x1 x2 x3 x4 x5 x6 (ix2 r k) = part x3 x4 x5 x6 r k := by
  delta sout0_D_0 kernelRun0_D
  dsimp only
  delta kernelRun0_D.sl.r kernelRun0_D.sl.r_2 kernelRun0_D.sl.v35
  delta kernelRun0_D.sl.HS0_2
  delta kernelRun0_D.sl.r_1 kernelRun0_D.sl.v30
  delta kernelRun0_D.sl.HS0_1
  dsimp only
  rw [show View.readAt (Elt Ideal) arg7.view (Rect.unit (s := S1x1024x704) ![0, 0, 0] S1x1024x704.size inb_S1x1024x704_S1x1024x704_0_0_0).toLoadRect (harg7.unread x5) = x5 from by rw [View.readAt_full, harg7.read_unread],
    show View.readAt (Elt Ideal) arg8.view (Rect.unit (s := S1x1024x704) ![0, 0, 0] S1x1024x704.size inb_S1x1024x704_S1x1024x704_0_0_0).toLoadRect (harg8.unread x6) = x6 from by rw [View.readAt_full, harg8.read_unread],
    show View.readAt (Elt Ideal) arg5.view (Rect.unit (s := S1x1024x704) ![0, 0, 0] S1x512x704.size inb_S1x1024x704_S1x512x704_0_0_0).toLoadRect (harg5.unread x3) = rows x3 0 (by decide) from funext fun i => harg5.readAt_unread _ _ i,
    show View.readAt (Elt Ideal) arg6.view (Rect.unit (s := S1x1024x704) ![0, 0, 0] S1x512x704.size inb_S1x1024x704_S1x512x704_0_0_0).toLoadRect (harg6.unread x4) = rows x4 0 (by decide) from funext fun i => harg6.readAt_unread _ _ i,
    show View.readAt (Elt Ideal) arg5.view (Rect.unit (s := S1x1024x704) ![0, 512, 0] S1x512x704.size inb_S1x1024x704_S1x512x704_0_512_0).toLoadRect (harg5.unread x3) = rows x3 512 (by decide) from funext fun i => harg5.readAt_unread _ _ i,
    show View.readAt (Elt Ideal) arg6.view (Rect.unit (s := S1x1024x704) ![0, 512, 0] S1x512x704.size inb_S1x1024x704_S1x512x704_0_512_0).toLoadRect (harg6.unread x4) = rows x4 512 (by decide) from funext fun i => harg6.readAt_unread _ _ i]
  exact halves_zeroed arg11.view _ _ x3 x4 x5 x6 r k

/-- What the first point leaves of the gain's gradient. -/
theorem gainA (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1x1024x704 .bf16) (harg5 : arg5.IsWhole) (arg6 : Memref sig .tc .vmem S1x1024x704 .bf16) (harg6 : arg6.IsWhole)
    (arg7 : Memref sig .tc .vmem S1x1024x704 .bf16) (harg7 : arg7.IsWhole) (arg8 : Memref sig .tc .vmem S1x1024x704 .bf16) (harg8 : arg8.IsWhole)
    (arg9 : Memref sig .tc .vmem S1024x1024 .f32) (harg9 : arg9.IsWhole) (arg10 : Memref sig .tc .vmem S1x1024 .f32) (harg10 : arg10.IsWhole)
    (arg11 : Memref sig .tc .vmem S1024x1024 .f32) (harg11 : arg11.IsWhole) (hc0 : cond0_0 i) (hc1 : cond0_1 i) (hc2 : ¬cond0_2 i)
    (x0 x1 : Vec Ideal S1024x1024 .f32) (x2 : Vec Ideal S1x1024 .f32) (x3 x4 x5 x6 : Vec Ideal S1x1024x704 .bf16) (k : Fin 1024) :
    out0_A_8 (F := Ideal) c i arg2 harg2 arg3 harg3 arg4 harg4 arg5 harg5 arg6 harg6 arg7 harg7 arg8 harg8 arg9 harg9 arg10 harg10 arg11 harg11 hc0 hc1 hc2 x0 x1 x2 x3 x4 x5 x6 (ix2 0 k) = (0 : EReal) := by
  delta out0_A_8 kernelRun0_A
  dsimp only
  exact (congrFun (View.read_writes_full _ _ _ _ _) _).trans (pay8_entry _)

/-- The scratch the last point of a block of rows finishes from. -/
def full (x3 x4 x5 x6 : Vec Ideal S1x1024x704 .bf16) (xs0 : Vec Ideal S1024x1024 .f32) : Vec Ideal S1024x1024 .f32 := fun i => (xs0 i + part x3 x4 x5 x6 (i 0) (i 1) : EReal)

/-- The last point of a block of rows finishes the rows from the sum. -/
theorem rowsC (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1x1024x704 .bf16) (harg5 : arg5.IsWhole) (arg6 : Memref sig .tc .vmem S1x1024x704 .bf16) (harg6 : arg6.IsWhole)
    (arg7 : Memref sig .tc .vmem S1x1024x704 .bf16) (harg7 : arg7.IsWhole) (arg8 : Memref sig .tc .vmem S1x1024x704 .bf16) (harg8 : arg8.IsWhole)
    (arg9 : Memref sig .tc .vmem S1024x1024 .f32) (harg9 : arg9.IsWhole) (arg10 : Memref sig .tc .vmem S1x1024 .f32) (harg10 : arg10.IsWhole)
    (arg11 : Memref sig .tc .vmem S1024x1024 .f32) (harg11 : arg11.IsWhole) (hc0 : ¬cond0_0 i) (hc1 : ¬cond0_1 i) (hc2 : cond0_2 i)
    (x0 x1 : Vec Ideal S1024x1024 .f32) (x2 : Vec Ideal S1x1024 .f32) (x3 x4 x5 x6 : Vec Ideal S1x1024x704 .bf16) (xo8 : Vec Ideal S1x1024 .f32) (xs0 : Vec Ideal S1024x1024 .f32) :
    out0_C_7 (F := Ideal) c i arg2 harg2 arg3 harg3 arg4 harg4 arg5 harg5 arg6 harg6 arg7 harg7 arg8 harg8 arg9 harg9 arg10 harg10 arg11 harg11 hc0 hc1 hc2 x0 x1 x2 x3 x4 x5 x6 xo8 xs0 = k0_pay5 x1 x2 (full x3 x4 x5 x6 xs0) x0 := by
  delta out0_C_7 kernelRun0_C
  dsimp only
  delta kernelRun0_C.sl.v45
  delta kernelRun0_C.sl.HS0_2
  delta kernelRun0_C.sl.r kernelRun0_C.sl.r_1 kernelRun0_C.sl.r_2 kernelRun0_C.sl.v35
  dsimp only
  rw [show View.readAt (Elt Ideal) arg7.view (Rect.unit (s := S1x1024x704) ![0, 0, 0] S1x1024x704.size inb_S1x1024x704_S1x1024x704_0_0_0).toLoadRect (harg7.unread x5) = x5 from by rw [View.readAt_full, harg7.read_unread],
    show View.readAt (Elt Ideal) arg8.view (Rect.unit (s := S1x1024x704) ![0, 0, 0] S1x1024x704.size inb_S1x1024x704_S1x1024x704_0_0_0).toLoadRect (harg8.unread x6) = x6 from by rw [View.readAt_full, harg8.read_unread],
    show View.readAt (Elt Ideal) arg5.view (Rect.unit (s := S1x1024x704) ![0, 0, 0] S1x512x704.size inb_S1x1024x704_S1x512x704_0_0_0).toLoadRect (harg5.unread x3) = rows x3 0 (by decide) from funext fun i => harg5.readAt_unread _ _ i,
    show View.readAt (Elt Ideal) arg6.view (Rect.unit (s := S1x1024x704) ![0, 0, 0] S1x512x704.size inb_S1x1024x704_S1x512x704_0_0_0).toLoadRect (harg6.unread x4) = rows x4 0 (by decide) from funext fun i => harg6.readAt_unread _ _ i,
    show View.readAt (Elt Ideal) arg5.view (Rect.unit (s := S1x1024x704) ![0, 512, 0] S1x512x704.size inb_S1x1024x704_S1x512x704_0_512_0).toLoadRect (harg5.unread x3) = rows x3 512 (by decide) from funext fun i => harg5.readAt_unread _ _ i,
    show View.readAt (Elt Ideal) arg6.view (Rect.unit (s := S1x1024x704) ![0, 512, 0] S1x512x704.size inb_S1x1024x704_S1x512x704_0_512_0).toLoadRect (harg6.unread x4) = rows x4 512 (by decide) from funext fun i => harg6.readAt_unread _ _ i]
  rw [show View.readAt (Elt Ideal) arg11.view (Rect.unit (s := S1024x1024) ![0, 0] S512x1024.size inb_S1024x1024_S512x1024_0_0).toLoadRect (harg11.unread xs0) = _ from funext fun i => harg11.readAt_unread _ _ i,
    show View.readAt (Elt Ideal) arg11.view (Rect.unit (s := S1024x1024) ![512, 0] S512x1024.size inb_S1024x1024_S512x1024_512_0).toLoadRect (harg11.unread xs0) = _ from funext fun i => harg11.readAt_unread _ _ i]
  refine (View.read_writes_full _ _ _ _ _).trans ?_
  refine congr (congr (congr (congrArg k0_pay5 ?_) ?_) (funext fun j => ?_)) ?_
  · rw [View.readAt_full, harg3.read_unread]
  · rw [View.readAt_full, harg4.read_unread]
  · obtain ⟨r, k, rfl⟩ : ∃ r k : Fin 1024, j = ix2 r k := ⟨j 0, j 1, eq_ix2 j⟩
    refine (congrFun (View.readAt_full (Val := Elt Ideal) (v := arg11.view) (inb := inb_S1024x1024_S1024x1024_0_0) (f := arg11.view.writes (Elt Ideal) arg11.view.junk _)) _).trans ?_
    exact halves _ _ _ x3 x4 x5 x6 _ _ xs0 r k (fun r h => half_kept xs0 0 _ r k (Nat.zero_le _) h) (fun r h' h => half_kept xs0 512 _ r k h' h)
  · rw [View.readAt_full, harg2.read_unread]

/-- And adds the block's part of the gain's gradient. -/
theorem gainC (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1x1024x704 .bf16) (harg5 : arg5.IsWhole) (arg6 : Memref sig .tc .vmem S1x1024x704 .bf16) (harg6 : arg6.IsWhole)
    (arg7 : Memref sig .tc .vmem S1x1024x704 .bf16) (harg7 : arg7.IsWhole) (arg8 : Memref sig .tc .vmem S1x1024x704 .bf16) (harg8 : arg8.IsWhole)
    (arg9 : Memref sig .tc .vmem S1024x1024 .f32) (harg9 : arg9.IsWhole) (arg10 : Memref sig .tc .vmem S1x1024 .f32) (harg10 : arg10.IsWhole)
    (arg11 : Memref sig .tc .vmem S1024x1024 .f32) (harg11 : arg11.IsWhole) (hc0 : ¬cond0_0 i) (hc1 : ¬cond0_1 i) (hc2 : cond0_2 i)
    (x0 x1 : Vec Ideal S1024x1024 .f32) (x2 : Vec Ideal S1x1024 .f32) (x3 x4 x5 x6 : Vec Ideal S1x1024x704 .bf16) (xo8 : Vec Ideal S1x1024 .f32) (xs0 : Vec Ideal S1024x1024 .f32) :
    out0_C_8 (F := Ideal) c i arg2 harg2 arg3 harg3 arg4 harg4 arg5 harg5 arg6 harg6 arg7 harg7 arg8 harg8 arg9 harg9 arg10 harg10 arg11 harg11 hc0 hc1 hc2 x0 x1 x2 x3 x4 x5 x6 xo8 xs0 = k0_pay6 x1 (full x3 x4 x5 x6 xs0) xo8 := by
  delta out0_C_8 kernelRun0_C
  dsimp only
  delta kernelRun0_C.sl.v45
  delta kernelRun0_C.sl.HS0_2
  delta kernelRun0_C.sl.r kernelRun0_C.sl.r_1 kernelRun0_C.sl.r_2 kernelRun0_C.sl.v35
  dsimp only
  rw [show View.readAt (Elt Ideal) arg7.view (Rect.unit (s := S1x1024x704) ![0, 0, 0] S1x1024x704.size inb_S1x1024x704_S1x1024x704_0_0_0).toLoadRect (harg7.unread x5) = x5 from by rw [View.readAt_full, harg7.read_unread],
    show View.readAt (Elt Ideal) arg8.view (Rect.unit (s := S1x1024x704) ![0, 0, 0] S1x1024x704.size inb_S1x1024x704_S1x1024x704_0_0_0).toLoadRect (harg8.unread x6) = x6 from by rw [View.readAt_full, harg8.read_unread],
    show View.readAt (Elt Ideal) arg5.view (Rect.unit (s := S1x1024x704) ![0, 0, 0] S1x512x704.size inb_S1x1024x704_S1x512x704_0_0_0).toLoadRect (harg5.unread x3) = rows x3 0 (by decide) from funext fun i => harg5.readAt_unread _ _ i,
    show View.readAt (Elt Ideal) arg6.view (Rect.unit (s := S1x1024x704) ![0, 0, 0] S1x512x704.size inb_S1x1024x704_S1x512x704_0_0_0).toLoadRect (harg6.unread x4) = rows x4 0 (by decide) from funext fun i => harg6.readAt_unread _ _ i,
    show View.readAt (Elt Ideal) arg5.view (Rect.unit (s := S1x1024x704) ![0, 512, 0] S1x512x704.size inb_S1x1024x704_S1x512x704_0_512_0).toLoadRect (harg5.unread x3) = rows x3 512 (by decide) from funext fun i => harg5.readAt_unread _ _ i,
    show View.readAt (Elt Ideal) arg6.view (Rect.unit (s := S1x1024x704) ![0, 512, 0] S1x512x704.size inb_S1x1024x704_S1x512x704_0_512_0).toLoadRect (harg6.unread x4) = rows x4 512 (by decide) from funext fun i => harg6.readAt_unread _ _ i]
  rw [show View.readAt (Elt Ideal) arg11.view (Rect.unit (s := S1024x1024) ![0, 0] S512x1024.size inb_S1024x1024_S512x1024_0_0).toLoadRect (harg11.unread xs0) = _ from funext fun i => harg11.readAt_unread _ _ i,
    show View.readAt (Elt Ideal) arg11.view (Rect.unit (s := S1024x1024) ![512, 0] S512x1024.size inb_S1024x1024_S512x1024_512_0).toLoadRect (harg11.unread xs0) = _ from funext fun i => harg11.readAt_unread _ _ i]
  refine (View.read_writes_full _ _ _ _ _).trans ?_
  refine congr (congr (congrArg k0_pay6 ?_) (funext fun j => ?_)) ?_
  · rw [View.readAt_full, harg3.read_unread]
  · obtain ⟨r, k, rfl⟩ : ∃ r k : Fin 1024, j = ix2 r k := ⟨j 0, j 1, eq_ix2 j⟩
    refine (congrFun (View.readAt_full (Val := Elt Ideal) (v := arg11.view) (inb := inb_S1024x1024_S1024x1024_0_0) (f := arg11.view.writes (Elt Ideal) arg11.view.junk _)) _).trans ?_
    exact halves _ _ _ x3 x4 x5 x6 _ _ xs0 r k (fun r h => half_kept xs0 0 _ r k (Nat.zero_le _) h) (fun r h' h => half_kept xs0 512 _ r k h' h)
  · rw [View.readAt_full, harg10.read_unread]

end Cert.InputSum
-- ==== Proof.InputNorm.lean ====
/- The gradient of a root-mean-square norm of one row: the finished form the kernel scales once, and the
   derivative line by line.  The root is never negative and never infinite, whatever the row holds, so both
   forms agree on every row. -/
module

public import Idealize.ShloMosaic.Lib.VecWindow
public import Idealize.ShloMosaic.Lib.Pointwise

@[expose] public section

noncomputable section

namespace Cert.InputNorm

open Finset Idealize.ShloMosaic

/-- The word of the row's length. -/
theorem len_real : Ideal.ofBits .f32 0x44800000#32 = ((1024 : ℝ) : EReal) := by
  simp [Ideal.ofBits, Ideal.ieee, -EReal.coe_mul]
  norm_num

/-- The word of minus a half. -/
theorem minus_half_real : Ideal.ofBits .f32 0xBF000000#32 = ((-(1 / 2) : ℝ) : EReal) := by
  simp [Ideal.ofBits, Ideal.ieee, -EReal.coe_mul]
  norm_num

/-- The word added to the mean is a positive number. -/
theorem eps_real : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

/-- The mean of the squares, and the small number. -/
def denom (x : Fin 1024 → EReal) : EReal := (Ideal.div (∑ l, x l * x l) (Ideal.ofBits .f32 0x44800000#32) + Ideal.ofBits .f32 0x358637BD#32 : EReal)

/-- The reciprocal root the row is scaled by. -/
def root (x : Fin 1024 → EReal) : EReal := Ideal.rsqrt (denom x)

/-- A square is not negative. -/
theorem square_nonneg (a : EReal) : 0 ≤ a * a := by
  induction a with
  | bot => simp
  | top => simp
  | coe r =>
    rw [← EReal.coe_mul]
    exact_mod_cast mul_self_nonneg r

/-- The root is a number that is not negative, and over the mean it is its cube. -/
theorem root_real (x : Fin 1024 → EReal) : ∃ ρ : ℝ, 0 ≤ ρ ∧ root x = (ρ : EReal) ∧ Ideal.div (root x) (denom x) = ((ρ * ρ * ρ : ℝ) : EReal) := by
  obtain ⟨e, he, e1⟩ := eps_real
  have hS : 0 ≤ ∑ l, x l * x l := sum_nonneg fun l _ => square_nonneg (x l)
  have hd : denom x = ((∑ l, x l * x l) * ((1 / 1024 : ℝ) : EReal) + (e : EReal) : EReal) := by
    unfold denom
    rw [len_real, e1, Ideal.div_coe (by norm_num)]
  unfold root
  generalize (∑ l, x l * x l) = S at hS hd
  rw [hd]
  induction S with
  | bot => exact absurd hS (by simp)
  | top =>
    refine ⟨0, le_refl _, ?_, ?_⟩
    · rw [EReal.top_mul_coe_of_pos (by norm_num), EReal.top_add_coe]
      rfl
    · rw [EReal.top_mul_coe_of_pos (by norm_num), EReal.top_add_coe]
      show Ideal.div 0 ⊤ = _
      unfold Ideal.div
      simp
  | coe s =>
    have hs : 0 ≤ s := by exact_mod_cast hS
    have hv : 0 < s * (1 / 1024) + e := by positivity
    rw [← EReal.coe_mul, ← EReal.coe_add]
    generalize s * (1 / 1024) + e = v at hv
    have hr : Ideal.rsqrt (v : EReal) = (((Real.sqrt v)⁻¹ : ℝ) : EReal) := by
      rw [Ideal.rsqrt_coe, if_neg (by linarith), if_neg (by linarith)]
    refine ⟨(Real.sqrt v)⁻¹, by positivity, hr, ?_⟩
    rw [hr, Ideal.div_coe (by linarith), ← EReal.coe_mul]
    congr 1
    have h2 : Real.sqrt v * Real.sqrt v = v := Real.mul_self_sqrt hv.le
    have h4 : v⁻¹ = (Real.sqrt v)⁻¹ * (Real.sqrt v)⁻¹ := by rw [← mul_inv, h2]
    rw [one_div, h4]
    ring

/-- A number that is not negative comes out of a sum. -/
theorem sum_mul_coe {ι : Type} (s : Finset ι) (f : ι → EReal) (r : ℝ) (hr : 0 ≤ r) : ∑ i ∈ s, f i * (r : EReal) = (∑ i ∈ s, f i) * (r : EReal) := by
  classical
  induction s using Finset.induction_on with
  | empty => simp
  | insert a s ha ih =>
    rw [sum_insert ha, sum_insert ha, ih]
    exact (EReal.right_distrib_of_nonneg_of_ne_top (by exact_mod_cast hr) (EReal.coe_ne_top r) _ _).symm

/-- The kernel's finished entry is the derivative's. -/
theorem entry (x y : Fin 1024 → EReal) (h : EReal) (k : Fin 1024) :
    h + root x * (y k - x k * root x * Ideal.div (∑ l, y l * (x l * root x)) (Ideal.ofBits .f32 0x44800000#32))
      = h + y k * root x + x k * Ideal.div ((∑ l, x l * y l) * (Ideal.ofBits .f32 0xBF000000#32 * Ideal.div (root x) (denom x))) (Ideal.ofBits .f32 0x44800000#32)
        + Ideal.div ((∑ l, x l * y l) * (Ideal.ofBits .f32 0xBF000000#32 * Ideal.div (root x) (denom x))) (Ideal.ofBits .f32 0x44800000#32) * x k := by
  obtain ⟨ρ, h0, h1, h2⟩ := root_real x
  rw [h2, h1, len_real, minus_half_real, Ideal.div_coe (by norm_num), Ideal.div_coe (by norm_num)]
  have hT : ∑ l, y l * (x l * (ρ : EReal)) = (∑ l, x l * y l) * (ρ : EReal) := by
    rw [← sum_mul_coe _ _ _ h0]
    exact sum_congr rfl fun l _ => by ac_rfl
  rw [hT]
  generalize (∑ l, x l * y l) = T
  generalize y k = b
  generalize x k = a
  have hq : (0 : ℝ) ≤ ρ * ρ * ρ * (1 / 1024) * (1 / 2) := by positivity
  have e1 : (ρ : EReal) * (b - a * (ρ : EReal) * (T * (ρ : EReal) * ((1 / 1024 : ℝ) : EReal)))
      = b * (ρ : EReal) + -(a * T * ((ρ * ρ * ρ * (1 / 1024) : ℝ) : EReal)) := by
    rw [sub_eq_add_neg, EReal.left_distrib_of_nonneg_of_ne_top (by exact_mod_cast h0) (EReal.coe_ne_top ρ), mul_comm (ρ : EReal) b, mul_neg]
    refine congrArg (fun z : EReal => b * (ρ : EReal) + -z) ?_
    rw [EReal.coe_mul, EReal.coe_mul, EReal.coe_mul]
    ac_rfl
  have e2 : T * (((-(1 / 2) : ℝ) : EReal) * ((ρ * ρ * ρ : ℝ) : EReal)) * ((1 / 1024 : ℝ) : EReal) = -(T * ((ρ * ρ * ρ * (1 / 1024) * (1 / 2) : ℝ) : EReal)) := by
    rw [← mul_neg, mul_assoc, ← EReal.coe_mul, ← EReal.coe_mul, ← EReal.coe_neg]
    refine congrArg (fun z : ℝ => T * (z : EReal)) ?_
    ring
  have e3 : a * T * ((ρ * ρ * ρ * (1 / 1024) : ℝ) : EReal) = a * T * (((ρ * ρ * ρ * (1 / 1024) * (1 / 2) : ℝ) : EReal) + ((ρ * ρ * ρ * (1 / 1024) * (1 / 2) : ℝ) : EReal)) := by
    rw [← EReal.coe_add]
    refine congrArg (fun z : ℝ => a * T * (z : EReal)) ?_
    ring
  rw [e1, e2, e3, ← neg_mul, EReal.left_distrib_of_nonneg (by exact_mod_cast hq) (by exact_mod_cast hq), mul_neg, neg_mul, neg_mul, mul_comm (G := EReal) _ a, ← mul_assoc]
  ac_rfl

end Cert.InputNorm
-- ==== Proof.InputPoints.lean ====
/- The gradient of a feed-forward half-step's input and of its gain: the kernel's two results entry by entry,
   from its sixteen points. -/
module

public import Idealize.ShloMosaic.Lib.VecWindow
public import Idealize.ShloMosaic.Lib.WholeRead
public import Idealize.ShloMosaic.Lib.Pointwise
public import proofs.«01_k».proof.Proof.InputSum
public import proofs.«01_k».proof.Proof.InputNorm
public import proofs.«01_k».proof.Proof.Gen.InputIdeal.Value

@[expose] public section

set_option maxRecDepth 16384

noncomputable section

namespace Cert.InputPoints

open Finset Idealize.ShloMosaic Idealize.SL.Sem Idealize.ShloMosaic.TcCoe Cert.InputIdeal Cert.InputIdeal.Gen Cert.InputIdeal.Value Cert.InputSum Cert.InputNorm

/-- A column spread over the columns of a block. -/
theorem col (u : FVec Ideal S1024x1 .f32) : broadcastTo S1024x1024 u broadcasts_S1024x1_S1024x1024 = fun j => u (ix2 (j 0) 0) := by
  funext j
  obtain ⟨r, k, rfl⟩ : ∃ r k : Fin 1024, j = ix2 r k := ⟨j 0, j 1, eq_ix2 j⟩
  refine congrArg u (funext fun a => ?_)
  fin_cases a <;> rfl

/-- A row spread over the rows of a block. -/
theorem rowb (u : FVec Ideal S1x1024 .f32) : broadcastTo S1024x1024 u broadcasts_S1x1024_S1024x1024 = fun j => u (ix2 0 (j 1)) := by
  funext j
  obtain ⟨r, k, rfl⟩ : ∃ r k : Fin 1024, j = ix2 r k := ⟨j 0, j 1, eq_ix2 j⟩
  refine congrArg u (funext fun a => ?_)
  fin_cases a <;> rfl

/-- An index's row. -/
theorem ix2_row (r k : Fin 1024) : (ix2 r k : S1024x1024.Idx) 0 = r := rfl

/-- An index's column. -/
theorem ix2_col (r k : Fin 1024) : (ix2 r k : S1024x1024.Idx) 1 = k := rfl

/-- The reciprocal root of a row, in the kernel's column of roots. -/
theorem pay3_entry (v : Vec Ideal S1024x1024 .f32) (r : Fin 1024) : k0_pay3 v (ix2 r 0) = root fun l => v (ix2 r l) := by
  unfold k0_pay3
  simp only [pointwise]
  unfold root denom
  simp only [zero_add]

/-- The scaled row. -/
theorem pay4_entry (v : Vec Ideal S1024x1024 .f32) (r k : Fin 1024) : k0_pay4 v (ix2 r k) = (v (ix2 r k) * root (fun l => v (ix2 r l)) : EReal) := by
  unfold k0_pay4
  simp only [col]
  simp only [pointwise]
  exact congrArg (fun z : EReal => v (ix2 r k) * z) (pay3_entry v r)

/-- The finished entry. -/
theorem pay5_entry (x : Vec Ideal S1024x1024 .f32) (g : Vec Ideal S1x1024 .f32) (a h : Vec Ideal S1024x1024 .f32) (r k : Fin 1024) :
    k0_pay5 x g a h (ix2 r k) = (h (ix2 r k) + root (fun l => x (ix2 r l)) * (a (ix2 r k) * g (ix2 0 k) - x (ix2 r k) * root (fun l => x (ix2 r l))
      * Ideal.div (∑ l, a (ix2 r l) * g (ix2 0 l) * (x (ix2 r l) * root (fun l => x (ix2 r l)))) (Ideal.ofBits .f32 0x44800000#32)) : EReal) := by
  unfold k0_pay5
  simp only [col, rowb]
  simp only [pointwise, ix2_row, ix2_col, pay3_entry, pay4_entry]

/-- A block's part of the gain's gradient. -/
theorem pay6_entry (x a : Vec Ideal S1024x1024 .f32) (o : Vec Ideal S1x1024 .f32) (k : Fin 1024) :
    k0_pay6 x a o (ix2 0 k) = (o (ix2 0 k) + ∑ r : Fin 1024, a (ix2 r k) * (x (ix2 r k) * root (fun l => x (ix2 r l))) : EReal) := by
  unfold k0_pay6
  simp only [pointwise, pay4_entry]

variable (m : (ℓ : Loc nD τ sig) → Buf (Elt Ideal) ℓ) (c : Dev nD)

/-- The gradient of the half-step's result. -/
abbrev dh : FVec Ideal S4096x1024 .f32 := m ((c : Thread nD τ).loc main_arg0)

/-- The half-step's input. -/
abbrev inp : FVec Ideal S4096x1024 .f32 := m ((c : Thread nD τ).loc main_arg1)

/-- The norm's gain. -/
abbrev gain : FVec Ideal S1x1024 .f32 := m ((c : Thread nD τ).loc main_arg2)

/-- The gradient of the gates. -/
abbrev gradG : FVec Ideal S4096x2816 .bf16 := m ((c : Thread nD τ).loc main_arg3)

/-- The gradient of the ups. -/
abbrev gradU : FVec Ideal S4096x2816 .bf16 := m ((c : Thread nD τ).loc main_arg4)

/-- The first weight. -/
abbrev win : FVec Ideal S1024x5632 .f32 := m ((c : Thread nD τ).loc main_arg5)

/-- The slabs of the gates' gradient: slab `j` has the columns from `704 j`. -/
theorem slabsG (j : Fin 4) (t : Fin 4096) (r : Fin 704) : V m c main_v1 (ix3 j t r) = gradG m c (ix2 t ⟨704 * j + r, by omega⟩) := by
  unfold V
  simp only [hostOps0, List.flatten_cons, List.flatten_nil, List.append_nil, List.cons_append,
      List.nil_append, cast_eq]
  after_results_simp
  refine (transpose_apply _ _ _ _ (ix3 t j r) ?_).trans (shapeCast_apply _ _ _ _ ?_)
  · intro b
    fin_cases b <;> rfl
  · refine (Shape.rowMajor_val_two _).trans (Eq.trans ?_ (Shape.rowMajor_val_three _).symm)
    show t.val * 2816 + (704 * j.val + r.val) = (t.val * 4 + j.val) * 704 + r.val
    ring

/-- The slabs of the ups' gradient. -/
theorem slabsU (j : Fin 4) (t : Fin 4096) (r : Fin 704) : V m c main_v3 (ix3 j t r) = gradU m c (ix2 t ⟨704 * j + r, by omega⟩) := by
  unfold V
  simp only [hostOps0, List.flatten_cons, List.flatten_nil, List.append_nil, List.cons_append,
      List.nil_append, cast_eq]
  after_results_simp
  refine (transpose_apply _ _ _ _ (ix3 t j r) ?_).trans (shapeCast_apply _ _ _ _ ?_)
  · intro b
    fin_cases b <;> rfl
  · refine (Shape.rowMajor_val_two _).trans (Eq.trans ?_ (Shape.rowMajor_val_three _).symm)
    show t.val * 2816 + (704 * j.val + r.val) = (t.val * 4 + j.val) * 704 + r.val
    ring

/-- The slabs of the weight. -/
theorem slabsW (j : Fin 8) (t : Fin 1024) (r : Fin 704) : V m c main_v6 (ix3 j t r) = win m c (ix2 t ⟨704 * j + r, by omega⟩) := by
  unfold V
  simp only [hostOps0, List.flatten_cons, List.flatten_nil, List.append_nil, List.cons_append,
      List.nil_append, cast_eq]
  after_results_simp
  refine (transpose_apply _ _ _ _ (ix3 t j r) ?_).trans (shapeCast_apply _ _ _ _ ?_)
  · intro b
    fin_cases b <;> rfl
  · refine (Shape.rowMajor_val_two _).trans (Eq.trans ?_ (Shape.rowMajor_val_three _).symm)
    show t.val * 5632 + (704 * j.val + r.val) = (t.val * 8 + j.val) * 704 + r.val
    ring

/-- Where the blocks of the grid's points lie. -/
theorem blocks : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = 0 ∧ win0_2.index t (1 : Fin 2) = 0)
    ∧ (win0_3.index t (0 : Fin 3) = t.val % 4 ∧ win0_3.index t (1 : Fin 3) = t.val / 4 ∧ win0_3.index t (2 : Fin 3) = 0)
    ∧ (win0_4.index t (0 : Fin 3) = t.val % 4 ∧ win0_4.index t (1 : Fin 3) = t.val / 4 ∧ win0_4.index t (2 : Fin 3) = 0)
    ∧ (win0_5.index t (0 : Fin 3) = t.val % 4 ∧ win0_5.index t (1 : Fin 3) = 0 ∧ win0_5.index t (2 : Fin 3) = 0)
    ∧ (win0_6.index t (0 : Fin 3) = t.val % 4 + 4 ∧ win0_6.index t (1 : Fin 3) = 0 ∧ win0_6.index t (2 : Fin 3) = 0) :=
  (by decide +kernel : ∀ t : Fin grid0.N, _)

/-- The token a row of a point's block is. -/
abbrev tok (t : Fin cfg0.N) (r : Fin 1024) : Fin 4096 := ⟨1024 * (t.val / 4) + r.val, by have : t.val < 16 := t.isLt; omega⟩

/-- The block of the result's gradient at a point. -/
theorem blk_dh (t : Fin cfg0.N) (r k : Fin 1024) : iblk m c 0 t (ix2 r k) = dh m c (ix2 (tok t r) k) := by
  obtain ⟨⟨e0, e1⟩, ⟨f0, f1⟩, -⟩ := blocks t
  show V m c main_arg0 (((cfg0.win 0).blk t).view.emb (ix2 r k)) = _
  rw [V_main_arg0]
  refine congrArg (m ((c : Thread nD τ).loc main_arg0)) (funext fun a => Fin.ext ?_)
  fin_cases a
  · show win0_0.index t (0 : Fin 2) * 1024 + 1 * r.val = 1024 * (t.val / 4) + r.val
    omega
  · show win0_0.index t (1 : Fin 2) * 1024 + 1 * k.val = k.val
    omega

/-- The block of the input at a point. -/
theorem blk_x (t : Fin cfg0.N) (r k : Fin 1024) : iblk m c 1 t (ix2 r k) = inp m c (ix2 (tok t r) k) := by
  obtain ⟨⟨e0, e1⟩, ⟨f0, f1⟩, -⟩ := blocks t
  show V m c main_arg1 (((cfg0.win 1).blk t).view.emb (ix2 r k)) = _
  rw [V_main_arg1]
  refine congrArg (m ((c : Thread nD τ).loc main_arg1)) (funext fun a => Fin.ext ?_)
  fin_cases a
  · show win0_1.index t (0 : Fin 2) * 1024 + 1 * r.val = 1024 * (t.val / 4) + r.val
    omega
  · show win0_1.index t (1 : Fin 2) * 1024 + 1 * k.val = k.val
    omega

/-- The gain at a point. -/
theorem blk_gain (t : Fin cfg0.N) (k : Fin 1024) : iblk m c 2 t (ix2 0 k) = gain m c (ix2 0 k) := by
  obtain ⟨-, -, ⟨e0, e1⟩, -⟩ := blocks t
  show V m c main_arg2 (((cfg0.win 2).blk t).view.emb (ix2 0 k)) = _
  rw [V_main_arg2]
  refine congrArg (m ((c : Thread nD τ).loc main_arg2)) (funext fun a => Fin.ext ?_)
  fin_cases a
  · show win0_2.index t (0 : Fin 2) * 1 + 1 * 0 = 0
    omega
  · show win0_2.index t (1 : Fin 2) * 1024 + 1 * k.val = k.val
    omega

/-- The slab of the gates' gradient at a point. -/
theorem blk_g (t : Fin cfg0.N) (r : Fin 1024) (d : Fin 704) :
    iblk m c 3 t (ix3 0 r d) = gradG m c (ix2 (tok t r) ⟨704 * (t.val % 4) + d, by omega⟩) := by
  obtain ⟨-, -, -, ⟨e0, e1, e2⟩, ⟨f0, f1, f2⟩, -⟩ := blocks t
  show V m c main_v1 (((cfg0.win 3).blk t).view.emb (ix3 0 r d)) = _
  refine Eq.trans (congrArg (V m c main_v1) (funext fun a => Fin.ext ?_)) (slabsG m c ⟨t.val % 4, by omega⟩ (tok t r) d)
  fin_cases a
  · show win0_3.index t (0 : Fin 3) * 1 + 1 * 0 = t.val % 4
    omega
  · show win0_3.index t (1 : Fin 3) * 1024 + 1 * r.val = 1024 * (t.val / 4) + r.val
    omega
  · show win0_3.index t (2 : Fin 3) * 704 + 1 * d.val = d.val
    omega

/-- The slab of the ups' gradient at a point. -/
theorem blk_u (t : Fin cfg0.N) (r : Fin 1024) (d : Fin 704) :
    iblk m c 4 t (ix3 0 r d) = gradU m c (ix2 (tok t r) ⟨704 * (t.val % 4) + d, by omega⟩) := by
  obtain ⟨-, -, -, ⟨e0, e1, e2⟩, ⟨f0, f1, f2⟩, -⟩ := blocks t
  show V m c main_v3 (((cfg0.win 4).blk t).view.emb (ix3 0 r d)) = _
  refine Eq.trans (congrArg (V m c main_v3) (funext fun a => Fin.ext ?_)) (slabsU m c ⟨t.val % 4, by omega⟩ (tok t r) d)
  fin_cases a
  · show win0_4.index t (0 : Fin 3) * 1 + 1 * 0 = t.val % 4
    omega
  · show win0_4.index t (1 : Fin 3) * 1024 + 1 * r.val = 1024 * (t.val / 4) + r.val
    omega
  · show win0_4.index t (2 : Fin 3) * 704 + 1 * d.val = d.val
    omega

/-- The gates' slab of the weight at a point. -/
theorem blk_wg (t : Fin cfg0.N) (k : Fin 1024) (d : Fin 704) :
    iblk m c 5 t (ix3 0 k d) = win m c (ix2 k ⟨704 * (t.val % 4) + d, by omega⟩) := by
  obtain ⟨-, -, -, -, -, ⟨e0, e1, e2⟩, ⟨f0, f1, f2⟩⟩ := blocks t
  show V m c main_v6 (((cfg0.win 5).blk t).view.emb (ix3 0 k d)) = _
  refine Eq.trans (congrArg (V m c main_v6) (funext fun a => Fin.ext ?_)) (slabsW m c ⟨t.val % 4, by omega⟩ k d)
  fin_cases a
  · show win0_5.index t (0 : Fin 3) * 1 + 1 * 0 = t.val % 4
    omega
  · show win0_5.index t (1 : Fin 3) * 1024 + 1 * k.val = k.val
    omega
  · show win0_5.index t (2 : Fin 3) * 704 + 1 * d.val = d.val
    omega

/-- The ups' slab of the weight at a point. -/
theorem blk_wu (t : Fin cfg0.N) (k : Fin 1024) (d : Fin 704) :
    iblk m c 6 t (ix3 0 k d) = win m c (ix2 k ⟨704 * (t.val % 4 + 4) + d, by omega⟩) := by
  obtain ⟨-, -, -, -, -, ⟨e0, e1, e2⟩, ⟨f0, f1, f2⟩⟩ := blocks t
  show V m c main_v6 (((cfg0.win 6).blk t).view.emb (ix3 0 k d)) = _
  refine Eq.trans (congrArg (V m c main_v6) (funext fun a => Fin.ext ?_)) (slabsW m c ⟨t.val % 4 + 4, by omega⟩ k d)
  fin_cases a
  · show win0_6.index t (0 : Fin 3) * 1 + 1 * 0 = t.val % 4 + 4
    omega
  · show win0_6.index t (1 : Fin 3) * 1024 + 1 * k.val = k.val
    omega
  · show win0_6.index t (2 : Fin 3) * 704 + 1 * d.val = d.val
    omega

/-- A slab's part of the gradient of a token's normed input. -/
def slabPart (j : Fin 4) (t : Fin 4096) (k : Fin 1024) : EReal :=
  ((∑ d : Fin 704, (gradG m c (ix2 t ⟨704 * j + d, by omega⟩) : EReal) * (win m c (ix2 k ⟨704 * j + d, by omega⟩) : EReal))
    + ∑ d : Fin 704, (gradU m c (ix2 t ⟨704 * j + d, by omega⟩) : EReal) * (win m c (ix2 k ⟨704 * (j + 4) + d, by omega⟩) : EReal) : EReal)

/-- It depends on the slab's number and the token's. -/
theorem slabPart_at {j j' : Fin 4} {t t' : Fin 4096} (hj : j.val = j'.val) (ht : t.val = t'.val) (k : Fin 1024) : slabPart m c j t k = slabPart m c j' t' k := by
  rw [Fin.ext hj, Fin.ext ht]

/-- What a point adds. -/
theorem part_at (t : Fin cfg0.N) (r k : Fin 1024) :
    part (iblk m c 3 t) (iblk m c 4 t) (iblk m c 5 t) (iblk m c 6 t) r k = slabPart m c ⟨t.val % 4, by omega⟩ (tok t r) k := by
  unfold part slabPart
  refine congrArg₂ (fun a b : EReal => a + b) (sum_congr rfl fun d _ => ?_) (sum_congr rfl fun d _ => ?_)
  · exact congrArg₂ (fun a b : EReal => a * b) (blk_g m c t r d) (blk_wg m c t k d)
  · exact congrArg₂ (fun a b : EReal => a * b) (blk_u m c t r d) (blk_wu m c t k d)

/-! ## What the points leave -/

/-- The first slab of a block of rows starts the scratch. -/
theorem scratch_first (t : Fin cfg0.N) (h : t.val % 4 = 0) (r k : Fin 1024) :
    (outsAt0 m c t.val t.isLt).2.2 (ix2 r k) = slabPart m c ⟨t.val % 4, by omega⟩ (tok t r) k := by
  have ht : t.val < 16 := t.isLt
  obtain ⟨n, hn⟩ := t
  cases n with
  | zero =>
    rw [outsAt0_zero, stAt0_A m c ⟨0, hn⟩ _ h rfl (by show ¬ 0 % 4 = 3; omega)]
    dsimp only
    rw [scratchA]
    exact part_at m c ⟨0, hn⟩ r k
  | succ n =>
    replace h : (n + 1) % 4 = 0 := h
    replace ht : n + 1 < 16 := ht
    rw [outsAt0_succ, stAt0_D m c ⟨n + 1, hn⟩ _ h (by show ¬ (n + 1) % 16 = 0; omega) (by show ¬ (n + 1) % 4 = 3; omega)]
    dsimp only
    rw [scratchD]
    exact part_at m c ⟨n + 1, hn⟩ r k

/-- A slab in the middle adds its part. -/
theorem scratch_next (n : ℕ) (hn : n + 1 < cfg0.N) (h0 : ¬ (n + 1) % 4 = 0) (h2 : ¬ (n + 1) % 4 = 3) (r k : Fin 1024) :
    (outsAt0 m c (n + 1) hn).2.2 (ix2 r k)
      = ((outsAt0 m c n (Nat.lt_of_succ_lt hn)).2.2 (ix2 r k) + slabPart m c ⟨(n + 1) % 4, by omega⟩ (tok ⟨n + 1, hn⟩ r) k : EReal) := by
  rw [outsAt0_succ, stAt0_B m c ⟨n + 1, hn⟩ _ h0 (by show ¬ (n + 1) % 16 = 0; omega) h2]
  dsimp only
  rw [scratchB]
  exact congrArg (fun z : EReal => (_ + z : EReal)) (part_at m c ⟨n + 1, hn⟩ r k)

/-- The gain's gradient starts at zero. -/
theorem gain_first (hn : 0 < cfg0.N) (k : Fin 1024) : (outsAt0 m c 0 hn).2.1 (ix2 0 k) = (0 : EReal) := by
  rw [outsAt0_zero, stAt0_A m c ⟨0, hn⟩ _ rfl rfl (by show ¬ 0 % 4 = 3; omega)]
  dsimp only
  exact gainA _ _ _ _ _ _ _ _ _ _ _ _ _ _ _ _ _ _ _ _ _ _ _ _ _ _ _ _ _ _ _ _ k

/-- Every point but a block's last leaves it. -/
theorem gain_next (n : ℕ) (hn : n + 1 < cfg0.N) (h2 : ¬ (n + 1) % 4 = 3) :
    (outsAt0 m c (n + 1) hn).2.1 = (outsAt0 m c n (Nat.lt_of_succ_lt hn)).2.1 := by
  have ht : n + 1 < 16 := hn
  by_cases h0 : (n + 1) % 4 = 0
  · rw [outsAt0_succ, stAt0_D m c ⟨n + 1, hn⟩ _ h0 (by show ¬ (n + 1) % 16 = 0; omega) h2]
    rfl
  · rw [outsAt0_succ, stAt0_B m c ⟨n + 1, hn⟩ _ h0 (by show ¬ (n + 1) % 16 = 0; omega) h2]
    rfl

/-- The gradient of a token's normed input: the four slabs' parts. -/
def normed (t : Fin 4096) (k : Fin 1024) : EReal := (slabPart m c 0 t k + slabPart m c 1 t k + slabPart m c 2 t k + slabPart m c 3 t k : EReal)

/-- The last point of a block of rows. -/
abbrev lastPt (i : Fin 4) : Fin cfg0.N := ⟨4 * i.val + 2 + 1, by show 4 * i.val + 2 + 1 < 16; omega⟩

/-- A row of a block. -/
abbrev rowOf (i : Fin 4) (r : Fin 1024) : Fin 4096 := ⟨1024 * i.val + r.val, by omega⟩

/-- The scratch a block of rows is finished from. -/
theorem scratch_last (i : Fin 4) (r k : Fin 1024) :
    full (iblk m c 3 (lastPt i)) (iblk m c 4 (lastPt i)) (iblk m c 5 (lastPt i)) (iblk m c 6 (lastPt i))
      (outsAt0 m c (4 * i.val + 2) (Nat.lt_of_succ_lt (lastPt i).isLt)).2.2 (ix2 r k) = normed m c (rowOf i r) k := by
  have hi := i.isLt
  have h1 : 4 * i.val + 1 < cfg0.N := by show 4 * i.val + 1 < 16; omega
  have h2 : 4 * i.val + 1 + 1 < cfg0.N := by show 4 * i.val + 1 + 1 < 16; omega
  have h0 : 4 * i.val < cfg0.N := by show 4 * i.val < 16; omega
  show ((outsAt0 m c (4 * i.val + 1 + 1) h2).2.2 (ix2 r k) + part (iblk m c 3 (lastPt i)) (iblk m c 4 (lastPt i)) (iblk m c 5 (lastPt i)) (iblk m c 6 (lastPt i)) r k : EReal) = _
  unfold normed
  refine congrArg₂ (fun a b : EReal => a + b) ((scratch_next m c (4 * i.val + 1) h2 (by omega) (by omega) r k).trans
    (congrArg₂ (fun a b : EReal => a + b) ((scratch_next m c (4 * i.val) h1 (by omega) (by omega) r k).trans
      (congrArg₂ (fun a b : EReal => a + b) ((scratch_first m c ⟨4 * i.val, h0⟩ (by show 4 * i.val % 4 = 0; omega) r k).trans ?_) ?_)) ?_)) ((part_at m c (lastPt i) r k).trans ?_)
  · exact slabPart_at m c (by show 4 * i.val % 4 = 0; omega) (by show 1024 * (4 * i.val / 4) + r.val = 1024 * i.val + r.val; omega) k
  · exact slabPart_at m c (by show (4 * i.val + 1) % 4 = 1; omega) (by show 1024 * ((4 * i.val + 1) / 4) + r.val = 1024 * i.val + r.val; omega) k
  · exact slabPart_at m c (by show (4 * i.val + 1 + 1) % 4 = 2; omega) (by show 1024 * ((4 * i.val + 1 + 1) / 4) + r.val = 1024 * i.val + r.val; omega) k
  · exact slabPart_at m c (by show (4 * i.val + 2 + 1) % 4 = 3; omega) (by show 1024 * ((4 * i.val + 2 + 1) / 4) + r.val = 1024 * i.val + r.val; omega) k

/-- The token of a row at a block's last point. -/
theorem tok_last (i : Fin 4) (r : Fin 1024) : tok (lastPt i) r = rowOf i r :=
  Fin.ext (by have := i.isLt; show 1024 * ((4 * i.val + 2 + 1) / 4) + r.val = 1024 * i.val + r.val; omega)

/-- A token's reciprocal root. -/
abbrev rootOf (t : Fin 4096) : EReal := root fun l => inp m c (ix2 t l)

/-- The kernel's first result, entry by entry. -/
theorem kernel7 (i : Fin 4) (r k : Fin 1024) :
    G7 m c (ix2 (rowOf i r) k) = (dh m c (ix2 (rowOf i r) k) + rootOf m c (rowOf i r) * (normed m c (rowOf i r) k * gain m c (ix2 0 k)
      - inp m c (ix2 (rowOf i r) k) * rootOf m c (rowOf i r)
        * Ideal.div (∑ l, normed m c (rowOf i r) l * gain m c (ix2 0 l) * (inp m c (ix2 (rowOf i r) l) * rootOf m c (rowOf i r))) (Ideal.ofBits .f32 0x44800000#32)) : EReal) := by
  have hi := i.isLt
  have hp : pt7Of (ix2 (rowOf i r) k : S4096x1024.Idx) = 4 * i.val + 2 + 1 := by
    show 4 * (1 * ((1024 * i.val + r.val) / 1024 - 0) + 1 * (k.val / 1024 - 0)) + 3 = _
    omega
  have hl : loc7Of (ix2 (rowOf i r) k : S4096x1024.Idx) = ix2 r k := funext fun a => Fin.ext (by
    fin_cases a
    · show (1024 * i.val + r.val) % 1024 = r.val
      omega
    · show k.val % 1024 = k.val
      omega)
  have h : G7 m c (ix2 (rowOf i r) k) = (outsAt0 m c (4 * i.val + 2 + 1) (lastPt i).isLt).1 (ix2 r k) := by
    rw [outsAt0_sweep]
    refine (dif_pos (hp ▸ (lastPt i).isLt)).trans ?_
    rw [hl]
    exact congrArg (fun p => p.1 (ix2 r k)) (fold0_congr m c _ _ _ _ hp)
  rw [h, outsAt0_succ, stAt0_C m c (lastPt i) _ (by show ¬ (4 * i.val + 2 + 1) % 4 = 0; omega) (by show ¬ (4 * i.val + 2 + 1) % 16 = 0; omega) (by show (4 * i.val + 2 + 1) % 4 = 3; omega)]
  dsimp only
  rw [rowsC]
  refine (pay5_entry _ _ _ _ r k).trans ?_
  simp only [blk_x, blk_dh, blk_gain, tok_last, scratch_last]

/-- A block's part of the gain's gradient. -/
def gainPart (i : Fin 4) (k : Fin 1024) : EReal :=
  (∑ r : Fin 1024, normed m c (rowOf i r) k * (inp m c (ix2 (rowOf i r) k) * rootOf m c (rowOf i r)) : EReal)

/-- A block's last point adds it. -/
theorem gain_last (i : Fin 4) (k : Fin 1024) :
    (outsAt0 m c (4 * i.val + 2 + 1) (lastPt i).isLt).2.1 (ix2 0 k)
      = ((outsAt0 m c (4 * i.val) (by have := i.isLt; show 4 * i.val < 16; omega)).2.1 (ix2 0 k) + gainPart m c i k : EReal) := by
  have hi := i.isLt
  rw [outsAt0_succ, stAt0_C m c (lastPt i) _ (by show ¬ (4 * i.val + 2 + 1) % 4 = 0; omega) (by show ¬ (4 * i.val + 2 + 1) % 16 = 0; omega) (by show (4 * i.val + 2 + 1) % 4 = 3; omega)]
  dsimp only
  rw [gainC]
  refine (pay6_entry _ _ _ k).trans ?_
  unfold gainPart
  refine congrArg₂ (fun a b : EReal => a + b) ?_ ?_
  · rw [gain_next m c (4 * i.val + 1) (by show 4 * i.val + 1 + 1 < 16; omega) (by omega), gain_next m c (4 * i.val) (by show 4 * i.val + 1 < 16; omega) (by omega)]
  · simp only [blk_x, tok_last, scratch_last]

/-- The kernel's second result, entry by entry. -/
theorem kernel8 (k : Fin 1024) : G8 m c (ix2 0 k) = (gainPart m c 0 k + gainPart m c 1 k + gainPart m c 2 k + gainPart m c 3 k : EReal) := by
  have h : G8 m c = (outsAt0 m c 15 (lastPt 3).isLt).2.1 := by
    rw [outsAt0_sweep]
    exact G8_last m c
  rw [h]
  refine (gain_last m c 3 k).trans (congrArg (fun z : EReal => z + gainPart m c 3 k) ?_)
  refine (congrFun (gain_next m c 11 (by decide) (by decide)) _).trans ?_
  refine (gain_last m c 2 k).trans (congrArg (fun z : EReal => z + gainPart m c 2 k) ?_)
  refine (congrFun (gain_next m c 7 (by decide) (by decide)) _).trans ?_
  refine (gain_last m c 1 k).trans (congrArg (fun z : EReal => z + gainPart m c 1 k) ?_)
  refine (congrFun (gain_next m c 3 (by decide) (by decide)) _).trans ?_
  refine (gain_last m c 0 k).trans ?_
  exact (congrArg (fun z : EReal => z + gainPart m c 0 k) (gain_first m c (by decide) k)).trans (zero_add _)

end Cert.InputPoints
-- ==== Proof.InputValue.lean ====
/- The gradient of a feed-forward half-step's input and of its gain: the kernel's two results are the
   reference's, on every input. -/
module

public import Idealize.ShloMosaic.Lib.VecWindow
public import Idealize.ShloMosaic.Lib.WholeRead
public import Idealize.ShloMosaic.Lib.Pointwise
public import proofs.«01_k».proof.Proof.InputPoints
public import proofs.«01_k».proof.Proof.Gen.InputIdeal.Value
public import proofs.«01_k».proof.Proof.Gen.InputReferenceIdeal.Read

@[expose] public section

set_option maxRecDepth 16384

noncomputable section

namespace Cert.InputValue

open Finset Idealize.ShloMosaic Idealize.SL.Sem Idealize.ShloMosaic.TcCoe Cert.InputIdeal Cert.InputIdeal.Gen Cert.InputIdeal.Value Cert.InputSum Cert.InputNorm Cert.InputPoints

/-- A sum over blocks of consecutive places. -/
theorem sum_blocks (a b : ℕ) (f : Fin (a * b) → EReal) :
    ∑ q, f q = ∑ i : Fin a, ∑ d : Fin b, f ⟨b * i.val + d.val, by have := i.isLt; have := d.isLt; nlinarith⟩ := by
  refine (finProdFinEquiv.sum_comp f).symm.trans ((Fintype.sum_prod_type _).trans ?_)
  refine sum_congr rfl fun i _ => sum_congr rfl fun d _ => congrArg f (Fin.ext ?_)
  show d.val + b * i.val = b * i.val + d.val
  omega

/-- Four and four, paired. -/
theorem regroup (g0 g1 g2 g3 u0 u1 u2 u3 : EReal) : g0 + g1 + g2 + g3 + u0 + u1 + u2 + u3 = g0 + u0 + (g1 + u1) + (g2 + u2) + (g3 + u3) := by
  ac_rfl

section Reference

open Cert.InputReferenceIdeal.Read

variable (x0 x1 : Vec Ideal S4096x1024 .f32) (x2 : Vec Ideal S1x1024 .f32) (x3 x4 : Vec Ideal S4096x2816 .bf16) (x5 : Vec Ideal S1024x5632 .f32)

/-- The reference's mean of squares, and the small number. -/
theorem ref_denom (t : Fin 4096) : val_main_v6 (F := Ideal) x1 (ix2 t 0) = denom fun l => x1 (ix2 t l) := by
  rw [val_main_v6_apply, val_main_v4_apply, val_main_v5_apply, val_main_cst_1_apply, val_main_v3_apply, val_main_cst_0_apply,
    val_main_v2_apply, val_main_v1_apply, val_main_cst_apply]
  simp only [Ideal.addf_def, Ideal.hostDivf_def, Ideal.ofBits_def, Ideal.ofBits_zero_f32, zero_add]
  unfold denom
  refine congrArg (fun z : EReal => Ideal.div z _ + _) (sum_congr rfl fun l _ => ?_)
  refine (val_main_v0_apply (F := Ideal) x1 _).trans ?_
  have e : idx_main_v1 (idx_main_v2 (ix2 t 0)) l = ix2 t l := funext fun a => by fin_cases a <;> rfl
  rw [e]
  rfl

/-- Its reciprocal root. -/
theorem ref_root (t : Fin 4096) : val_main_v7 (F := Ideal) x1 (ix2 t 0) = root fun l => x1 (ix2 t l) := by
  rw [val_main_v7_apply, ref_denom]
  rfl

/-- The scaled row. -/
theorem ref_scaled (t : Fin 4096) (k : Fin 1024) : val_main_v12 (F := Ideal) x1 (ix2 t k) = (x1 (ix2 t k) * root (fun l => x1 (ix2 t l)) : EReal) := by
  rw [val_main_v12_apply, val_main_v11_apply]
  exact congrArg (fun z : EReal => x1 (ix2 t k) * z) ((congrArg (val_main_v7 (F := Ideal) x1) (funext fun a => by fin_cases a <;> rfl)).trans (ref_root x1 t))

/-- The two gradients side by side. -/
theorem ref_pair (t : Fin 4096) (q : Fin 5632) :
    val_main_v20 (F := Ideal) x3 x4 (ix2 t q) = (if h : q.val < 2816 then (x3 (ix2 t ⟨q.val, h⟩) : EReal) else (x4 (ix2 t ⟨q.val - 2816, by omega⟩) : EReal)) := by
  unfold val_main_v20
  split_ifs with h
  · exact concatenate_pair_apply_left (t := Cert.InputReferenceIdeal.S4096x5632) (s₁ := S4096x2816) (s₂ := S4096x2816) 1 _ _ _ _ rfl (ix2 t ⟨q.val, h⟩) (fun b => by fin_cases b <;> rfl)
  · refine concatenate_pair_apply_right (t := Cert.InputReferenceIdeal.S4096x5632) (s₁ := S4096x2816) (s₂ := S4096x2816) 1 _ _ _ _ rfl rfl (ix2 t ⟨q.val - 2816, by omega⟩) (fun b hb => ?_) ?_
    · fin_cases b
      · rfl
      · exact absurd rfl hb
    · show q.val - 2816 + 2816 = q.val
      omega

/-- A slab's part of the gradient of a token's normed input. -/
def partOf (j : Fin 4) (t : Fin 4096) (k : Fin 1024) : EReal :=
  ((∑ d : Fin 704, (x3 (ix2 t ⟨704 * j + d, by omega⟩) : EReal) * (x5 (ix2 k ⟨704 * j + d, by omega⟩) : EReal))
    + ∑ d : Fin 704, (x4 (ix2 t ⟨704 * j + d, by omega⟩) : EReal) * (x5 (ix2 k ⟨704 * (j + 4) + d, by omega⟩) : EReal) : EReal)

/-- The gradient of a token's normed input, slab by slab. -/
def normedOf (t : Fin 4096) (k : Fin 1024) : EReal := (partOf x3 x4 x5 0 t k + partOf x3 x4 x5 1 t k + partOf x3 x4 x5 2 t k + partOf x3 x4 x5 3 t k : EReal)

/-- The reference's single sum over the columns is it. -/
theorem ref_normed (t : Fin 4096) (k : Fin 1024) : val_main_v21 (F := Ideal) x3 x4 x5 (ix2 t k) = normedOf x3 x4 x5 t k := by
  rw [val_main_v21_apply]
  have hL : ∀ q : Fin 5632, val_main_v20 (F := Ideal) x3 x4 (lidx_main_v21 (ix2 t k) q) * x5 (ridx_main_v21 (ix2 t k) q)
      = ((if h : q.val < 2816 then (x3 (ix2 t ⟨q.val, h⟩) : EReal) else (x4 (ix2 t ⟨q.val - 2816, by omega⟩) : EReal)) * x5 (ix2 k q) : EReal) := fun q => by
    have e1 : lidx_main_v21 (ix2 t k) q = ix2 t q := funext fun a => by fin_cases a <;> rfl
    have e2 : ridx_main_v21 (ix2 t k) q = ix2 k q := funext fun a => by fin_cases a <;> rfl
    rw [e1, e2, ref_pair]
  refine (sum_congr rfl fun q _ => hL q).trans ((sum_blocks 8 704 _).trans ?_)
  rw [Fin.sum_univ_eight]
  have hg : ∀ (j : Fin 8) (h : j.val < 4), (∑ d : Fin 704, ((if h : 704 * j.val + d.val < 2816 then (x3 (ix2 t ⟨704 * j.val + d.val, h⟩) : EReal) else (x4 (ix2 t ⟨704 * j.val + d.val - 2816, by omega⟩) : EReal)) * x5 (ix2 k ⟨704 * j.val + d.val, by omega⟩) : EReal))
      = ∑ d : Fin 704, (x3 (ix2 t ⟨704 * j.val + d.val, by omega⟩) : EReal) * (x5 (ix2 k ⟨704 * j.val + d.val, by omega⟩) : EReal) := fun j h =>
    sum_congr rfl fun d _ => by rw [dif_pos (show 704 * j.val + d.val < 2816 by omega)]
  have hu : ∀ (j : Fin 8) (h : 4 ≤ j.val), (∑ d : Fin 704, ((if h : 704 * j.val + d.val < 2816 then (x3 (ix2 t ⟨704 * j.val + d.val, h⟩) : EReal) else (x4 (ix2 t ⟨704 * j.val + d.val - 2816, by omega⟩) : EReal)) * x5 (ix2 k ⟨704 * j.val + d.val, by omega⟩) : EReal))
      = ∑ d : Fin 704, (x4 (ix2 t ⟨704 * (j.val - 4) + d.val, by omega⟩) : EReal) * (x5 (ix2 k ⟨704 * j.val + d.val, by omega⟩) : EReal) := fun j h =>
    sum_congr rfl fun d _ => by
      rw [dif_neg (show ¬ 704 * j.val + d.val < 2816 by omega)]
      refine congrArg (fun q => (x4 (ix2 t q) : EReal) * _) (Fin.ext ?_)
      show 704 * j.val + d.val - 2816 = 704 * (j.val - 4) + d.val
      omega
  refine (congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) (hg 0 (by decide)) (hg 1 (by decide))) (hg 2 (by decide))) (hg 3 (by decide)))
    (hu 4 (by decide))) (hu 5 (by decide))) (hu 6 (by decide))) (hu 7 (by decide))).trans ?_
  unfold normedOf partOf
  exact regroup _ _ _ _ _ _ _ _

/-- The gradient through the gain. -/
theorem ref_through (t : Fin 4096) (k : Fin 1024) : val_main_v26 (F := Ideal) x2 x3 x4 x5 (ix2 t k) = (normedOf x3 x4 x5 t k * x2 (ix2 0 k) : EReal) := by
  rw [val_main_v26_apply, val_main_v25_apply, ref_normed]
  exact congrArg (fun z : EReal => normedOf x3 x4 x5 t k * z) (congrArg x2 (funext fun a => by fin_cases a <;> rfl))

/-- What the row's mean passes on to each of its entries. -/
theorem ref_mean (t : Fin 4096) (k : Fin 1024) : val_main_v37 (F := Ideal) x1 x2 x3 x4 x5 (ix2 t k)
    = Ideal.div ((∑ l, x1 (ix2 t l) * (normedOf x3 x4 x5 t l * x2 (ix2 0 l))) * (Ideal.ofBits .f32 0xBF000000#32 * Ideal.div (root fun l => x1 (ix2 t l)) (denom fun l => x1 (ix2 t l)))) (Ideal.ofBits .f32 0x44800000#32) := by
  rw [val_main_v37_apply, val_main_v36_apply, val_main_cst_6_apply, Fin.sum_univ_one, val_main_v35_apply, val_main_v34_apply, val_main_cst_5_apply,
    val_main_v33_apply, val_main_v29_apply, val_main_v28_apply, val_main_cst_4_apply, val_main_v10_apply, val_main_v9_apply, val_main_cst_2_apply, val_main_v8_apply]
  have e : idx_main_v36 (idx_main_v37 (ix2 t k)) 0 = ix2 t 0 := funext fun a => by fin_cases a <;> rfl
  rw [e, ref_root, ref_denom]
  simp only [Ideal.mulf_def, Ideal.hostDivf_def, Ideal.ofBits_def, Ideal.ofBits_zero_f32, zero_add]
  refine congrArg (fun z : EReal => Ideal.div (z * _) _) (sum_congr rfl fun l _ => ?_)
  have e' : idx_main_v28 (idx_main_v29 (ix2 t 0)) l = ix2 t l := funext fun a => Fin.ext (by
    fin_cases a
    · show t.val * 1 + 0 = t.val
      omega
    · rfl)
  rw [e', val_main_v27_apply, ref_through]
  rfl

/-- The reference's first result, entry by entry. -/
theorem ref_input (t : Fin 4096) (k : Fin 1024) : val_main_v41 (F := Ideal) x0 x1 x2 x3 x4 x5 (ix2 t k)
    = (x0 (ix2 t k) + root (fun l => x1 (ix2 t l)) * (normedOf x3 x4 x5 t k * x2 (ix2 0 k)
      - x1 (ix2 t k) * root (fun l => x1 (ix2 t l))
        * Ideal.div (∑ l, normedOf x3 x4 x5 t l * x2 (ix2 0 l) * (x1 (ix2 t l) * root (fun l => x1 (ix2 t l)))) (Ideal.ofBits .f32 0x44800000#32)) : EReal) := by
  rw [val_main_v41_apply, val_main_v40_apply, val_main_v39_apply, val_main_v38_apply, ref_mean, val_main_v32_apply, val_main_v31_apply, ref_through, val_main_v30_apply]
  have e : idx_main_v30 (ix2 t k) = ix2 t 0 := funext fun a => by fin_cases a <;> rfl
  rw [e, ref_root]
  simp only [Ideal.mulf_def, Ideal.addf_def]
  exact (entry (fun l => x1 (ix2 t l)) (fun l => (normedOf x3 x4 x5 t l * x2 (ix2 0 l) : EReal)) (x0 (ix2 t k)) k).symm

/-- The reference's second result, entry by entry. -/
theorem ref_gain (k : Fin 1024) : val_main_v24 (F := Ideal) x1 x3 x4 x5 (ix2 0 k)
    = (∑ t : Fin 4096, normedOf x3 x4 x5 t k * (x1 (ix2 t k) * root (fun l => x1 (ix2 t l))) : EReal) := by
  rw [val_main_v24_apply, val_main_v23_apply, val_main_cst_3_apply]
  simp only [Ideal.ofBits_def, Ideal.ofBits_zero_f32, zero_add]
  refine sum_congr rfl fun t _ => ?_
  have e : idx_main_v23 (idx_main_v24 (ix2 0 k)) t = ix2 t k := funext fun a => Fin.ext (by
    fin_cases a
    · rfl
    · show 0 * 1024 + k.val = k.val
      omega)
  rw [e, val_main_v22_apply, ref_scaled, ref_normed]
  exact mul_comm (G := EReal) _ _

end Reference

variable (m : (ℓ : Loc nD τ sig) → Buf (Elt Ideal) ℓ) (c : Dev nD)

/-- The kernel's first result is the gradient of the input. -/
theorem value7 : G7 m c = Cert.InputReferenceIdeal.Read.val_main_v41 (F := Ideal) (dh m c) (inp m c) (gain m c) (gradG m c) (gradU m c) (win m c) :=
  funext fun i => by
    obtain ⟨t, k, rfl⟩ : ∃ (t : Fin 4096) (k : Fin 1024), i = ix2 t k := ⟨i 0, i 1, eq_ix2 i⟩
    obtain ⟨b, r, rfl⟩ : ∃ (b : Fin 4) (r : Fin 1024), t = rowOf b r :=
      ⟨⟨t.val / 1024, by have := t.isLt; omega⟩, ⟨t.val % 1024, by omega⟩, Fin.ext (by show t.val = 1024 * (t.val / 1024) + t.val % 1024; omega)⟩
    exact (kernel7 m c b r k).trans (ref_input (dh m c) (inp m c) (gain m c) (gradG m c) (gradU m c) (win m c) (rowOf b r) k).symm

/-- Its second is the gradient of the gain. -/
theorem value8 : G8 m c = Cert.InputReferenceIdeal.Read.val_main_v24 (F := Ideal) (inp m c) (gradG m c) (gradU m c) (win m c) :=
  funext fun i => by
    obtain ⟨z, k, rfl⟩ : ∃ (z : Fin 1) (k : Fin 1024), i = ix2 z k := ⟨i 0, i 1, eq_ix2 i⟩
    obtain rfl : z = 0 := Subsingleton.elim _ _
    refine (kernel8 m c k).trans (Eq.trans ?_ (ref_gain (inp m c) (gradG m c) (gradU m c) (win m c) k).symm)
    refine Eq.trans ?_ (sum_blocks 4 1024 fun t => (normed m c t k * (inp m c (ix2 t k) * rootOf m c t) : EReal)).symm
    rw [Fin.sum_univ_four]
    rfl

end Cert.InputValue
-- ==== Proof.GateGrad.lean ====
/- The gradients of the gates and the ups of the feed-forward half-step: what the kernel's points store
   from their blocks, and the reference's formulas. -/
module

public import Idealize.ShloMosaic.Lib.VecWindow
public import Idealize.ShloMosaic.Lib.WholeRead
public import Idealize.ShloMosaic.Lib.Pointwise
public import proofs.«01_k».proof.Proof.RealVec
public import proofs.«01_k».proof.Proof.Values
public import proofs.«01_k».proof.Proof.Gen.GatesIdeal.Value
public import proofs.«01_k».proof.Proof.Gen.GatesReferenceIdeal.Read
public import proofs.«01_k».proof.Proof.Gen.Pre_gates_finite
import Idealize.ShloMosaic.Lib.ReduceAll

@[expose] public section

set_option maxRecDepth 16384

noncomputable section

namespace Cert.GateGrad

open Finset Idealize.ShloMosaic Idealize.SL.Sem Idealize.ShloMosaic.TcCoe Cert.GatesIdeal Cert.GatesIdeal.Gen Cert.GatesIdeal.Value

/-! ## The formulas -/

/-- The logistic function as both programs compute it. -/
def sg (g : EReal) : EReal := Ideal.div 1 (1 + Ideal.exp (-g))

/-- The gradient of a gate as the kernel computes it. -/
def gateK (D u g : EReal) : EReal := D * u * (sg g * (1 + g * (1 - sg g)))

/-- The gradient of a gate as the reference computes it. -/
def gateR (D u g : EReal) : EReal := D * u * sg g + g * (D * u) * (sg g * (1 - sg g))

/-- The gradient of an up as the kernel computes it. -/
def upK (D g : EReal) : EReal := D * (g * sg g)

/-- On a real number the logistic function is one. -/
theorem sg_real (g : ℝ) : ∃ s : ℝ, sg (g : EReal) = (s : EReal) := by
  have h : (1 + Real.exp (-g)) ≠ 0 := by positivity
  refine ⟨1 * (1 / (1 + Real.exp (-g))), ?_⟩
  unfold sg
  rw [← EReal.coe_neg, Ideal.exp_coe, ← EReal.coe_one, ← EReal.coe_add, Ideal.div_coe h, ← EReal.coe_mul]

/-- On real numbers the two formulas of the gradient of a gate are one. -/
theorem gate_eq (D u g : ℝ) : gateK (D : EReal) u g = gateR D u g := by
  obtain ⟨s, hs⟩ := sg_real g
  unfold gateK gateR
  rw [hs, ← EReal.coe_one, ← EReal.coe_sub]
  simp only [← EReal.coe_mul, ← EReal.coe_add]
  congr 1
  ring

/-! ## A block -/

/-- The rows of the first store. -/
theorem canon_upper (p q : Vec Ideal S1x512x704 .bf16) (r : Fin 1024) (d : Fin 704) (h : r.val < 512) :
    View.canon (Val := Elt Ideal) [⟨r0_4, p⟩, ⟨r0_3, q⟩] (ix3 0 r d) = q (ix3 0 ⟨r.val, h⟩ d) := by
  refine (View.canon_cons_of_not_mem _ _ fun hm => ?_).trans ?_
  · have e := (show ix3 0 r d ∈ r0_4.set from hm)
    rw [Rect.mem_set_unit] at e
    replace e := e (1 : Fin 3)
    have e' : 512 ≤ r.val := e.1
    omega
  · refine Eq.trans (congrArg _ ?_) (View.canon_cons_emb (Val := Elt Ideal) r0_3 q [] (ix3 0 ⟨r.val, h⟩ d))
    funext a
    refine Fin.ext ?_
    fin_cases a
    · rfl
    · show r.val = 0 + 1 * r.val
      omega
    · show d.val = 0 + 1 * d.val
      omega

/-- The rows of the second. -/
theorem canon_lower (p q : Vec Ideal S1x512x704 .bf16) (r : Fin 1024) (d : Fin 704) (h : ¬ r.val < 512) :
    View.canon (Val := Elt Ideal) [⟨r0_4, p⟩, ⟨r0_3, q⟩] (ix3 0 r d) = p (ix3 0 ⟨r.val - 512, by omega⟩ d) := by
  refine Eq.trans (congrArg _ ?_) (View.canon_cons_emb (Val := Elt Ideal) r0_4 p _ (ix3 0 ⟨r.val - 512, by omega⟩ d))
  funext a
  refine Fin.ext ?_
  fin_cases a
  · rfl
  · show r.val = 512 + 1 * (r.val - 512)
    omega
  · show d.val = 0 + 1 * d.val
    omega

/-- The gradient of the activation, at a row and a column of a block. -/
def dact (x0 : Vec Ideal S1024x1024 .bf16) (x3 : Vec Ideal S704x1024 .bf16) (r : Fin 1024) (d : Fin 704) : EReal :=
  (∑ k : Fin 1024, (x0 (ix2 r k) : EReal) * (x3 (ix2 d k) : EReal) : EReal)

/-- The kernel's formula from its parts. -/
theorem gate_form {D u g D' u' g' : EReal} (hD : D' = D) (hu : u' = u) (hg : g' = g) :
    (0 + D') * u' * (Ideal.div 1 (1 + Ideal.exp (0 - g')) * (1 + g' * (1 - Ideal.div 1 (1 + Ideal.exp (0 - g'))))) = gateK D u g := by
  subst hD hu hg
  unfold gateK sg
  rw [zero_add, zero_sub]

/-- The kernel's other formula from its parts. -/
theorem up_form {D g D' g' : EReal} (hD : D' = D) (hg : g' = g) :
    (0 + D') * (g' * Ideal.div 1 (1 + Ideal.exp (0 - g'))) = upK D g := by
  subst hD hg
  unfold upK sg
  rw [zero_add, zero_sub]

/-- An entry of a matrix, its row and column written in two ways. -/
theorem at2 {α : Type} {A B : ℕ} (X : (⟨2, ![A, B]⟩ : Shape).Idx → α) {r r' : Fin A} {d d' : Fin B} (e : r'.val = r.val) (e' : d'.val = d.val) :
    X (ix2 r' d') = X (ix2 r d) := by
  obtain rfl := Fin.ext e
  obtain rfl := Fin.ext e'
  rfl

/-- An entry of a slab, its row and column written in two ways. -/
theorem at3 {α : Type} {A B C : ℕ} (X : (⟨3, ![A, B, C]⟩ : Shape).Idx → α) {z : Fin A} {r r' : Fin B} {d d' : Fin C} (e : r'.val = r.val) (e' : d'.val = d.val) :
    X (ix3 z r' d') = X (ix3 z r d) := by
  obtain rfl := Fin.ext e
  obtain rfl := Fin.ext e'
  rfl

/-- What a point stores of the gates' gradient. -/
theorem out4_entry (x0 : Vec Ideal S1024x1024 .bf16) (x1 x2 : Vec Ideal S1x1024x704 .bf16) (x3 : Vec Ideal S704x1024 .bf16) (r : Fin 1024) (d : Fin 704) :
    out0_4 x0 x1 x2 x3 (ix3 0 r d) = gateK (dact x0 x3 r d) (x2 (ix3 0 r d)) (x1 (ix3 0 r d)) := by
  unfold out0_4
  by_cases h : r.val < 512
  · refine (canon_upper _ _ r d h).trans ?_
    unfold k0_pay8 k0_pay6 k0_pay5 k0_pay4 k0_pay2
    simp only [pointwise]
    refine gate_form (sum_congr rfl fun k _ => congrArg₂ (fun a b : EReal => a * b) (at2 x0 ?_ ?_) (at2 x3 ?_ ?_)) (at3 x2 ?_ ?_) (at3 x1 ?_ ?_)
    · show 0 + 1 * r.val = r.val
      omega
    · show 0 + 1 * k.val = k.val
      omega
    · show 0 + 1 * d.val = d.val
      omega
    · show 0 + 1 * k.val = k.val
      omega
    · show 0 + 1 * r.val = r.val
      omega
    · show 0 + 1 * d.val = d.val
      omega
    · show 0 + 1 * r.val = r.val
      omega
    · show 0 + 1 * d.val = d.val
      omega
  · refine (canon_lower _ _ r d h).trans ?_
    unfold k0_pay13 k0_pay11 k0_pay10 k0_pay14 k0_pay3
    simp only [pointwise]
    refine gate_form (sum_congr rfl fun k _ => congrArg₂ (fun a b : EReal => a * b) (at2 x0 ?_ ?_) (at2 x3 ?_ ?_)) (at3 x2 ?_ ?_) (at3 x1 ?_ ?_)
    · show 512 + 1 * (r.val - 512) = r.val
      omega
    · show 0 + 1 * k.val = k.val
      omega
    · show 0 + 1 * d.val = d.val
      omega
    · show 0 + 1 * k.val = k.val
      omega
    · show 512 + 1 * (r.val - 512) = r.val
      omega
    · show 0 + 1 * d.val = d.val
      omega
    · show 512 + 1 * (r.val - 512) = r.val
      omega
    · show 0 + 1 * d.val = d.val
      omega

/-- What a point stores of the ups' gradient. -/
theorem out5_entry (x0 : Vec Ideal S1024x1024 .bf16) (x1 x2 : Vec Ideal S1x1024x704 .bf16) (x3 : Vec Ideal S704x1024 .bf16) (r : Fin 1024) (d : Fin 704) :
    out0_5 x0 x1 x2 x3 (ix3 0 r d) = upK (dact x0 x3 r d) (x1 (ix3 0 r d)) := by
  unfold out0_5
  by_cases h : r.val < 512
  · refine (canon_upper _ _ r d h).trans ?_
    unfold k0_pay9 k0_pay7 k0_pay5 k0_pay4 k0_pay2
    simp only [pointwise]
    refine up_form (sum_congr rfl fun k _ => congrArg₂ (fun a b : EReal => a * b) (at2 x0 ?_ ?_) (at2 x3 ?_ ?_)) (at3 x1 ?_ ?_)
    · show 0 + 1 * r.val = r.val
      omega
    · show 0 + 1 * k.val = k.val
      omega
    · show 0 + 1 * d.val = d.val
      omega
    · show 0 + 1 * k.val = k.val
      omega
    · show 0 + 1 * r.val = r.val
      omega
    · show 0 + 1 * d.val = d.val
      omega
  · refine (canon_lower _ _ r d h).trans ?_
    unfold k0_pay1 k0_pay12 k0_pay11 k0_pay10 k0_pay14 k0_pay3
    simp only [pointwise]
    refine up_form (sum_congr rfl fun k _ => congrArg₂ (fun a b : EReal => a * b) (at2 x0 ?_ ?_) (at2 x3 ?_ ?_)) (at3 x1 ?_ ?_)
    · show 512 + 1 * (r.val - 512) = r.val
      omega
    · show 0 + 1 * k.val = k.val
      omega
    · show 0 + 1 * d.val = d.val
      omega
    · show 0 + 1 * k.val = k.val
      omega
    · show 512 + 1 * (r.val - 512) = r.val
      omega
    · show 0 + 1 * d.val = d.val
      omega

/-! ## The blocks in the arrays -/

variable (m : (ℓ : Loc nD τ sig) → Buf (Elt Ideal) ℓ) (c : Dev nD)

/-- The gradient of the half-step's output. -/
abbrev dh : FVec Ideal S4096x1024 .f32 := m ((c : Thread nD τ).loc main_arg0)

/-- The gates. -/
abbrev gate : FVec Ideal S4096x2816 .f32 := m ((c : Thread nD τ).loc main_arg1)

/-- The ups. -/
abbrev up : FVec Ideal S4096x2816 .f32 := m ((c : Thread nD τ).loc main_arg2)

/-- The second weight. -/
abbrev wout : FVec Ideal S2816x1024 .f32 := m ((c : Thread nD τ).loc main_arg3)

/-- The gradient of the activation, as a function of the arguments. -/
def dactOf (x0 : FVec Ideal S4096x1024 .f32) (x3 : FVec Ideal S2816x1024 .f32) (t : Fin 4096) (q : Fin 2816) : EReal :=
  (∑ k : Fin 1024, (Ideal.ofBits .f32 0x3F000000#32 * (x0 (ix2 t k) : EReal)) * (x3 (ix2 q k) : EReal) : EReal)

/-- The output's gradient as the kernel gets it. -/
theorem half_eq (t : Fin 4096) (k : Fin 1024) : V m c main_v2 (ix2 t k) = Ideal.ofBits .f32 0x3F000000#32 * (dh m c (ix2 t k) : EReal) := by
  unfold V
  simp only [hostOps0, List.flatten_cons, List.flatten_nil, List.append_nil, List.cons_append,
      List.nil_append, cast_eq]
  after_results_simp
  rfl

/-- The weight as the kernel gets it. -/
theorem wout_eq (q : Fin 2816) (k : Fin 1024) : V m c main_v9 (ix2 q k) = wout m c (ix2 q k) := by
  unfold V
  simp only [hostOps0, List.flatten_cons, List.flatten_nil, List.append_nil, List.cons_append,
      List.nil_append, cast_eq]
  after_results_simp
  rfl

/-- The kernel's slabs of the gates: slab `j` has the columns from `704 j`. -/
theorem slabsG (j : Fin 4) (t : Fin 4096) (r : Fin 704) : V m c main_v5 (ix3 j t r) = gate m c (ix2 t ⟨704 * j + r, by omega⟩) := by
  unfold V
  simp only [hostOps0, List.flatten_cons, List.flatten_nil, List.append_nil, List.cons_append,
      List.nil_append, cast_eq]
  after_results_simp
  refine (transpose_apply _ _ _ _ (ix3 t j r) ?_).trans (shapeCast_apply _ _ _ _ ?_)
  · intro b
    fin_cases b <;> rfl
  · refine (Shape.rowMajor_val_two _).trans (Eq.trans ?_ (Shape.rowMajor_val_three _).symm)
    show t.val * 2816 + (704 * j.val + r.val) = (t.val * 4 + j.val) * 704 + r.val
    ring

/-- The kernel's slabs of the ups: slab `j` has the columns from `704 j`. -/
theorem slabsU (j : Fin 4) (t : Fin 4096) (r : Fin 704) : V m c main_v8 (ix3 j t r) = up m c (ix2 t ⟨704 * j + r, by omega⟩) := by
  unfold V
  simp only [hostOps0, List.flatten_cons, List.flatten_nil, List.append_nil, List.cons_append,
      List.nil_append, cast_eq]
  after_results_simp
  refine (transpose_apply _ _ _ _ (ix3 t j r) ?_).trans (shapeCast_apply _ _ _ _ ?_)
  · intro b
    fin_cases b <;> rfl
  · refine (Shape.rowMajor_val_two _).trans (Eq.trans ?_ (Shape.rowMajor_val_three _).symm)
    show t.val * 2816 + (704 * j.val + r.val) = (t.val * 4 + j.val) * 704 + r.val
    ring

/-- Where the blocks of the grid's points lie. -/
theorem blocks : ∀ t : Fin cfg0.N,
    (win0_0.index t (0 : Fin 2) = t.val / 4 ∧ win0_0.index t (1 : Fin 2) = 0)
    ∧ (win0_1.index t (0 : Fin 3) = t.val % 4 ∧ win0_1.index t (1 : Fin 3) = t.val / 4 ∧ win0_1.index t (2 : Fin 3) = 0)
    ∧ (win0_2.index t (0 : Fin 3) = t.val % 4 ∧ win0_2.index t (1 : Fin 3) = t.val / 4 ∧ win0_2.index t (2 : Fin 3) = 0)
    ∧ (win0_3.index t (0 : Fin 2) = t.val % 4 ∧ win0_3.index t (1 : Fin 2) = 0)
    ∧ (win0_4.index t (0 : Fin 3) = t.val % 4 ∧ win0_4.index t (1 : Fin 3) = t.val / 4 ∧ win0_4.index t (2 : Fin 3) = 0)
    ∧ (win0_5.index t (0 : Fin 3) = t.val % 4 ∧ win0_5.index t (1 : Fin 3) = t.val / 4 ∧ win0_5.index t (2 : Fin 3) = 0)
    ∧ (cfg0.win 4).flush t = true ∧ (cfg0.win 5).flush t = true :=
  (by decide +kernel : ∀ t : Fin grid0.N, _)

/-- The rows of the output's gradient at a point. -/
theorem blk_dh (t : Fin cfg0.N) (r k : Fin 1024) :
    iblk m c 0 t (ix2 r k) = Ideal.ofBits .f32 0x3F000000#32 * (dh m c (ix2 ⟨1024 * (t.val / 4) + r, by have : t.val < 16 := t.isLt; omega⟩ k) : EReal) := by
  have ht : t.val < 16 := t.isLt
  obtain ⟨⟨e0, e1⟩, -⟩ := blocks t
  show V m c main_v2 (((cfg0.win 0).blk t).view.emb (ix2 r k)) = _
  refine Eq.trans (congrArg (V m c main_v2) (funext fun a => Fin.ext ?_)) (half_eq m c ⟨1024 * (t.val / 4) + r, by omega⟩ k)
  fin_cases a
  · show win0_0.index t (0 : Fin 2) * 1024 + 1 * r.val = 1024 * (t.val / 4) + r.val
    omega
  · show win0_0.index t (1 : Fin 2) * 1024 + 1 * k.val = k.val
    omega

/-- The rows of the weight at a point. -/
theorem blk_w (t : Fin cfg0.N) (d : Fin 704) (k : Fin 1024) :
    iblk m c 3 t (ix2 d k) = wout m c (ix2 ⟨704 * (t.val % 4) + d, by omega⟩ k) := by
  obtain ⟨-, -, -, ⟨e0, e1⟩, -⟩ := blocks t
  show V m c main_v9 (((cfg0.win 3).blk t).view.emb (ix2 d k)) = _
  refine Eq.trans (congrArg (V m c main_v9) (funext fun a => Fin.ext ?_)) (wout_eq m c ⟨704 * (t.val % 4) + d, by omega⟩ k)
  fin_cases a
  · show win0_3.index t (0 : Fin 2) * 704 + 1 * d.val = 704 * (t.val % 4) + d.val
    omega
  · show win0_3.index t (1 : Fin 2) * 1024 + 1 * k.val = k.val
    omega

/-- The block of the gates at a point. -/
theorem blk_g (t : Fin cfg0.N) (r : Fin 1024) (d : Fin 704) :
    iblk m c 1 t (ix3 0 r d) = gate m c (ix2 ⟨1024 * (t.val / 4) + r, by have : t.val < 16 := t.isLt; omega⟩ ⟨704 * (t.val % 4) + d, by omega⟩) := by
  have ht : t.val < 16 := t.isLt
  obtain ⟨-, ⟨e0, e1, e2⟩, -⟩ := blocks t
  show V m c main_v5 (((cfg0.win 1).blk t).view.emb (ix3 0 r d)) = _
  refine Eq.trans (congrArg (V m c main_v5) (funext fun a => Fin.ext ?_)) (slabsG m c ⟨t.val % 4, by omega⟩ ⟨1024 * (t.val / 4) + r, by omega⟩ d)
  fin_cases a
  · show win0_1.index t (0 : Fin 3) * 1 + 1 * 0 = t.val % 4
    omega
  · show win0_1.index t (1 : Fin 3) * 1024 + 1 * r.val = 1024 * (t.val / 4) + r.val
    omega
  · show win0_1.index t (2 : Fin 3) * 704 + 1 * d.val = d.val
    omega

/-- The block of the ups at a point. -/
theorem blk_u (t : Fin cfg0.N) (r : Fin 1024) (d : Fin 704) :
    iblk m c 2 t (ix3 0 r d) = up m c (ix2 ⟨1024 * (t.val / 4) + r, by have : t.val < 16 := t.isLt; omega⟩ ⟨704 * (t.val % 4) + d, by omega⟩) := by
  have ht : t.val < 16 := t.isLt
  obtain ⟨-, -, ⟨e0, e1, e2⟩, -⟩ := blocks t
  show V m c main_v8 (((cfg0.win 2).blk t).view.emb (ix3 0 r d)) = _
  refine Eq.trans (congrArg (V m c main_v8) (funext fun a => Fin.ext ?_)) (slabsU m c ⟨t.val % 4, by omega⟩ ⟨1024 * (t.val / 4) + r, by omega⟩ d)
  fin_cases a
  · show win0_2.index t (0 : Fin 3) * 1 + 1 * 0 = t.val % 4
    omega
  · show win0_2.index t (1 : Fin 3) * 1024 + 1 * r.val = 1024 * (t.val / 4) + r.val
    omega
  · show win0_2.index t (2 : Fin 3) * 704 + 1 * d.val = d.val
    omega

/-- A point's sums over the model's width are the gradient of the activation. -/
theorem dact_eq (t : Fin cfg0.N) (r : Fin 1024) (d : Fin 704) :
    dact (iblk m c 0 t) (iblk m c 3 t) r d
      = dactOf (dh m c) (wout m c) ⟨1024 * (t.val / 4) + r, by have : t.val < 16 := t.isLt; omega⟩ ⟨704 * (t.val % 4) + d, by omega⟩ :=
  sum_congr rfl fun k _ => congrArg₂ (fun a b : EReal => a * b) (blk_dh m c t r k) (blk_w m c t d k)

/-- The point that has a slab's row. -/
def pt (j : Fin 4) (t : Fin 4096) : Fin cfg0.N := ⟨4 * (t.val / 1024) + j.val, by show _ < 16; omega⟩

/-- The kernel's first result, entry by entry. -/
theorem kernel_entry4 (j : Fin 4) (t : Fin 4096) (d : Fin 704) :
    (dats m 0 c).arrAt 4 cfg0.N (ix3 j t d) = gateK (dactOf (dh m c) (wout m c) t ⟨704 * j.val + d.val, by omega⟩) (up m c (ix2 t ⟨704 * j.val + d.val, by omega⟩)) (gate m c (ix2 t ⟨704 * j.val + d.val, by omega⟩)) := by
  have hm : (pt j t).val % 4 = j.val := by show (4 * (t.val / 1024) + j.val) % 4 = j.val; omega
  have hd : (pt j t).val / 4 = t.val / 1024 := by show (4 * (t.val / 1024) + j.val) / 4 = t.val / 1024; omega
  have ht : (⟨1024 * ((pt j t).val / 4) + t.val % 1024, by omega⟩ : Fin 4096) = t := Fin.ext (by show 1024 * ((pt j t).val / 4) + t.val % 1024 = t.val; omega)
  have hq : (⟨704 * ((pt j t).val % 4) + d.val, by omega⟩ : Fin 2816) = ⟨704 * j.val + d.val, by omega⟩ := Fin.ext (by show 704 * ((pt j t).val % 4) + d.val = 704 * j.val + d.val; omega)
  obtain ⟨-, -, -, -, ⟨e0, e1, e2⟩, -, hf, -⟩ := blocks (pt j t)
  have h := congrFun (blocks4 m c (pt j t) hf) (ix3 0 ⟨t.val % 1024, by omega⟩ d)
  refine Eq.trans (congrArg ((dats m 0 c).arrAt 4 cfg0.N) (funext fun a => Fin.ext ?_)) (h.trans ?_)
  · fin_cases a
    · show j.val = win0_4.index (pt j t) (0 : Fin 3) * 1 + 1 * 0
      omega
    · show t.val = win0_4.index (pt j t) (1 : Fin 3) * 1024 + 1 * (t.val % 1024)
      omega
    · show d.val = win0_4.index (pt j t) (2 : Fin 3) * 704 + 1 * d.val
      omega
  · refine (congrFun (flushed4 m c (pt j t)) (ix3 0 ⟨t.val % 1024, by omega⟩ d)).trans ?_
    refine (out4_entry _ _ _ _ ⟨t.val % 1024, by omega⟩ d).trans ?_
    rw [dact_eq, blk_u, blk_g, ht, hq]

/-- The kernel's second result, entry by entry. -/
theorem kernel_entry5 (j : Fin 4) (t : Fin 4096) (d : Fin 704) :
    (dats m 0 c).arrAt 5 cfg0.N (ix3 j t d) = upK (dactOf (dh m c) (wout m c) t ⟨704 * j.val + d.val, by omega⟩) (gate m c (ix2 t ⟨704 * j.val + d.val, by omega⟩)) := by
  have hm : (pt j t).val % 4 = j.val := by show (4 * (t.val / 1024) + j.val) % 4 = j.val; omega
  have hd : (pt j t).val / 4 = t.val / 1024 := by show (4 * (t.val / 1024) + j.val) / 4 = t.val / 1024; omega
  have ht : (⟨1024 * ((pt j t).val / 4) + t.val % 1024, by omega⟩ : Fin 4096) = t := Fin.ext (by show 1024 * ((pt j t).val / 4) + t.val % 1024 = t.val; omega)
  have hq : (⟨704 * ((pt j t).val % 4) + d.val, by omega⟩ : Fin 2816) = ⟨704 * j.val + d.val, by omega⟩ := Fin.ext (by show 704 * ((pt j t).val % 4) + d.val = 704 * j.val + d.val; omega)
  obtain ⟨-, -, -, -, -, ⟨e0, e1, e2⟩, -, hf⟩ := blocks (pt j t)
  have h := congrFun (blocks5 m c (pt j t) hf) (ix3 0 ⟨t.val % 1024, by omega⟩ d)
  refine Eq.trans (congrArg ((dats m 0 c).arrAt 5 cfg0.N) (funext fun a => Fin.ext ?_)) (h.trans ?_)
  · fin_cases a
    · show j.val = win0_5.index (pt j t) (0 : Fin 3) * 1 + 1 * 0
      omega
    · show t.val = win0_5.index (pt j t) (1 : Fin 3) * 1024 + 1 * (t.val % 1024)
      omega
    · show d.val = win0_5.index (pt j t) (2 : Fin 3) * 704 + 1 * d.val
      omega
  · refine (congrFun (flushed5 m c (pt j t)) (ix3 0 ⟨t.val % 1024, by omega⟩ d)).trans ?_
    refine (out5_entry _ _ _ _ ⟨t.val % 1024, by omega⟩ d).trans ?_
    rw [dact_eq, blk_g, ht, hq]

/-! ## The reference -/

section Reference

open Cert.GatesReferenceIdeal.Read

variable (x0 : FVec Ideal S4096x1024 .f32) (x1 x2 : FVec Ideal S4096x2816 .f32) (x3 : FVec Ideal S2816x1024 .f32)

/-- The logistic function in the reference. -/
theorem ref_sg (i : S4096x2816.Idx) : val_main_v0_2 (F := Ideal) x1 i = sg (x1 i) := by
  rw [val_main_v0_2_apply, val_main_call0_v4_apply, val_main_call0_cst_0_apply, val_main_call0_v3_apply, val_main_call0_v2_apply, val_main_call0_cst_apply,
    val_main_call0_v1_apply, val_main_call0_v0_apply]
  simp only [Ideal.hostDivf_def, Ideal.hostUnary_exp_def, Ideal.hostNegf_def, Ideal.negf_def, Ideal.addf_def, Ideal.ofBits_def, Ideal.ofBits_one_f32]
  rfl

/-- The gradient of the activation in the reference. -/
theorem ref_dact (t : Fin 4096) (q : Fin 2816) : val_main_v7 (F := Ideal) x0 x3 (ix2 t q) = dactOf x0 x3 t q := by
  rw [val_main_v7_apply]
  refine sum_congr rfl fun k _ => congrArg₂ (fun a b : EReal => a * b) ?_ (congrArg x3 (funext fun a => by fin_cases a <;> rfl))
  rw [val_main_v6_apply, val_main_v5_apply, val_main_cst_0_apply]
  exact congrArg (fun a => Ideal.ofBits .f32 0x3F000000#32 * (x0 a : EReal)) (funext fun a => by fin_cases a <;> rfl)

/-- The gradient of a gate in the reference. -/
theorem ref_gate (t : Fin 4096) (q : Fin 2816) :
    val_main_v11 (F := Ideal) x0 x1 x2 x3 (ix2 t q) = gateR (dactOf x0 x3 t q) (x2 (ix2 t q)) (x1 (ix2 t q)) := by
  rw [val_main_v11_apply, val_main_v10_apply, val_main_call1_v1_apply, val_main_call1_v2_apply, val_main_call1_v0_apply, val_main_v9_apply, val_main_v0_1_apply,
    val_main_call0_v7_apply, val_main_call0_v6_apply, val_main_call0_cst_1_apply, ref_sg, ref_dact]
  simp only [Ideal.truncf_def, Ideal.addf_def, Ideal.mulf_def, Ideal.subf_def, Ideal.ofBits_def, Ideal.ofBits_one_f32]
  rfl

/-- The gradient of an up in the reference. -/
theorem ref_up (t : Fin 4096) (q : Fin 2816) :
    val_main_v21 (F := Ideal) x0 x1 x3 (ix2 t q) = upK (dactOf x0 x3 t q) (x1 (ix2 t q)) := by
  rw [val_main_v21_apply, val_main_v8_apply, val_main_v0_0_apply, ref_sg, ref_dact]
  simp only [Ideal.truncf_def, Ideal.mulf_def]
  exact mul_comm (G := EReal) _ _

/-- A slab of the reference's first result is a block of columns of its gradient. -/
theorem ref_slab20 (j : Fin 4) (t : Fin 4096) (d : Fin 704) :
    val_main_v20 (F := Ideal) x0 x1 x2 x3 (ix3 j t d) = val_main_v11 (F := Ideal) x0 x1 x2 x3 (ix2 t ⟨704 * j.val + d.val, by omega⟩) := by
  unfold val_main_v20
  fin_cases j
  · refine Eq.trans (concatenate_apply_piece (t := Cert.GatesReferenceIdeal.S4x4096x704) 0 _ _ _ 0 (by exact Nat.lt_of_lt_of_eq (by decide : 0 < 4) rfl) Cert.GatesReferenceIdeal.S1x4096x704 (val_main_v16 (F := Ideal) x0 x1 x2 x3) (by rfl) rfl 0 (by rfl) (ix3 0 t d) (fun b hb => ?_) (by rfl)) ?_
    · fin_cases b
      · exact absurd rfl hb
      · rfl
      · rfl
    · rw [val_main_v16_apply, val_main_v12_apply]
      refine congrArg (val_main_v11 (F := Ideal) x0 x1 x2 x3) (funext fun a => Fin.ext ?_)
      fin_cases a
      · rfl
      · show d.val = 704 * 0 + d.val
        omega
  · refine Eq.trans (concatenate_apply_piece (t := Cert.GatesReferenceIdeal.S4x4096x704) 0 _ _ _ 1 (by exact Nat.lt_of_lt_of_eq (by decide : 1 < 4) rfl) Cert.GatesReferenceIdeal.S1x4096x704 (val_main_v17 (F := Ideal) x0 x1 x2 x3) (by rfl) rfl 1 (by rfl) (ix3 0 t d) (fun b hb => ?_) (by rfl)) ?_
    · fin_cases b
      · exact absurd rfl hb
      · rfl
      · rfl
    · rw [val_main_v17_apply, val_main_v13_apply]
      refine congrArg (val_main_v11 (F := Ideal) x0 x1 x2 x3) (funext fun a => Fin.ext ?_)
      fin_cases a
      · rfl
      · show 704 + d.val = 704 * 1 + d.val
        omega
  · refine Eq.trans (concatenate_apply_piece (t := Cert.GatesReferenceIdeal.S4x4096x704) 0 _ _ _ 2 (by exact Nat.lt_of_lt_of_eq (by decide : 2 < 4) rfl) Cert.GatesReferenceIdeal.S1x4096x704 (val_main_v18 (F := Ideal) x0 x1 x2 x3) (by rfl) rfl 2 (by rfl) (ix3 0 t d) (fun b hb => ?_) (by rfl)) ?_
    · fin_cases b
      · exact absurd rfl hb
      · rfl
      · rfl
    · rw [val_main_v18_apply, val_main_v14_apply]
      refine congrArg (val_main_v11 (F := Ideal) x0 x1 x2 x3) (funext fun a => Fin.ext ?_)
      fin_cases a
      · rfl
      · show 1408 + d.val = 704 * 2 + d.val
        omega
  · refine Eq.trans (concatenate_apply_piece (t := Cert.GatesReferenceIdeal.S4x4096x704) 0 _ _ _ 3 (by exact Nat.lt_of_lt_of_eq (by decide : 3 < 4) rfl) Cert.GatesReferenceIdeal.S1x4096x704 (val_main_v19 (F := Ideal) x0 x1 x2 x3) (by rfl) rfl 3 (by rfl) (ix3 0 t d) (fun b hb => ?_) (by rfl)) ?_
    · fin_cases b
      · exact absurd rfl hb
      · rfl
      · rfl
    · rw [val_main_v19_apply, val_main_v15_apply]
      refine congrArg (val_main_v11 (F := Ideal) x0 x1 x2 x3) (funext fun a => Fin.ext ?_)
      fin_cases a
      · rfl
      · show 2112 + d.val = 704 * 3 + d.val
        omega

/-- A slab of the reference's second result is a block of columns of its gradient. -/
theorem ref_slab30 (j : Fin 4) (t : Fin 4096) (d : Fin 704) :
    val_main_v30 (F := Ideal) x0 x1 x3 (ix3 j t d) = val_main_v21 (F := Ideal) x0 x1 x3 (ix2 t ⟨704 * j.val + d.val, by omega⟩) := by
  unfold val_main_v30
  fin_cases j
  · refine Eq.trans (concatenate_apply_piece (t := Cert.GatesReferenceIdeal.S4x4096x704) 0 _ _ _ 0 (by exact Nat.lt_of_lt_of_eq (by decide : 0 < 4) rfl) Cert.GatesReferenceIdeal.S1x4096x704 (val_main_v26 (F := Ideal) x0 x1 x3) (by rfl) rfl 0 (by rfl) (ix3 0 t d) (fun b hb => ?_) (by rfl)) ?_
    · fin_cases b
      · exact absurd rfl hb
      · rfl
      · rfl
    · rw [val_main_v26_apply, val_main_v22_apply]
      refine congrArg (val_main_v21 (F := Ideal) x0 x1 x3) (funext fun a => Fin.ext ?_)
      fin_cases a
      · rfl
      · show d.val = 704 * 0 + d.val
        omega
  · refine Eq.trans (concatenate_apply_piece (t := Cert.GatesReferenceIdeal.S4x4096x704) 0 _ _ _ 1 (by exact Nat.lt_of_lt_of_eq (by decide : 1 < 4) rfl) Cert.GatesReferenceIdeal.S1x4096x704 (val_main_v27 (F := Ideal) x0 x1 x3) (by rfl) rfl 1 (by rfl) (ix3 0 t d) (fun b hb => ?_) (by rfl)) ?_
    · fin_cases b
      · exact absurd rfl hb
      · rfl
      · rfl
    · rw [val_main_v27_apply, val_main_v23_apply]
      refine congrArg (val_main_v21 (F := Ideal) x0 x1 x3) (funext fun a => Fin.ext ?_)
      fin_cases a
      · rfl
      · show 704 + d.val = 704 * 1 + d.val
        omega
  · refine Eq.trans (concatenate_apply_piece (t := Cert.GatesReferenceIdeal.S4x4096x704) 0 _ _ _ 2 (by exact Nat.lt_of_lt_of_eq (by decide : 2 < 4) rfl) Cert.GatesReferenceIdeal.S1x4096x704 (val_main_v28 (F := Ideal) x0 x1 x3) (by rfl) rfl 2 (by rfl) (ix3 0 t d) (fun b hb => ?_) (by rfl)) ?_
    · fin_cases b
      · exact absurd rfl hb
      · rfl
      · rfl
    · rw [val_main_v28_apply, val_main_v24_apply]
      refine congrArg (val_main_v21 (F := Ideal) x0 x1 x3) (funext fun a => Fin.ext ?_)
      fin_cases a
      · rfl
      · show 1408 + d.val = 704 * 2 + d.val
        omega
  · refine Eq.trans (concatenate_apply_piece (t := Cert.GatesReferenceIdeal.S4x4096x704) 0 _ _ _ 3 (by exact Nat.lt_of_lt_of_eq (by decide : 3 < 4) rfl) Cert.GatesReferenceIdeal.S1x4096x704 (val_main_v29 (F := Ideal) x0 x1 x3) (by rfl) rfl 3 (by rfl) (ix3 0 t d) (fun b hb => ?_) (by rfl)) ?_
    · fin_cases b
      · exact absurd rfl hb
      · rfl
      · rfl
    · rw [val_main_v29_apply, val_main_v25_apply]
      refine congrArg (val_main_v21 (F := Ideal) x0 x1 x3) (funext fun a => Fin.ext ?_)
      fin_cases a
      · rfl
      · show 2112 + d.val = 704 * 3 + d.val
        omega

end Reference

/-! ## The precondition -/

/-- The word of a half is a real number. -/
theorem half_real : Ideal.ofBits .f32 0x3F000000#32 = ((1 / 2 : ℝ) : EReal) := by
  simp [Ideal.ofBits, Ideal.ieee, -EReal.coe_mul]
  norm_num

/-- From one term of a precondition: every entry is a real number. -/
theorem real_of_word {S : Shape} {φ : FTy} (x : FVec Ideal S φ) (i : S.Idx)
    (q : BitVec.ofBool (decide (max (x i : EReal) (-(x i : EReal)) < Ideal.ofBits .f32 0x7F800000#32)) = 1#1) : ∃ y : ℝ, (x i : EReal) = (y : EReal) := by
  have top : (Ideal.ofBits .f32 0x7F800000#32 : EReal) = ⊤ := Cert.Stick.word_top
  rw [top] at q
  refine ⟨_, (Cert.Stick.real_of_abs_lt ?_).symm⟩
  by_contra hn
  rw [decide_eq_false hn] at q
  exact absurd q (by decide)

/-- Under the precondition the four inputs are arrays of real numbers. -/
theorem inputs_real (x0 : FVec Ideal S4096x1024 .f32) (x1 x2 : FVec Ideal S4096x2816 .f32) (x3 : FVec Ideal S2816x1024 .f32)
    (h : Cert.Pre_gates_finite.fn x0 x1 x2 x3 = fun _ => 1#1) :
    (∀ i, ∃ y : ℝ, (x0 i : EReal) = (y : EReal)) ∧ (∀ i, ∃ y : ℝ, (x1 i : EReal) = (y : EReal)) ∧ (∀ i, ∃ y : ℝ, (x2 i : EReal) = (y : EReal))
      ∧ ∀ i, ∃ y : ℝ, (x3 i : EReal) = (y : EReal) := by
  haveI : Subsingleton Cert.Pre_gates_finite.S_.Idx := ⟨fun a b => funext fun k => k.elim0⟩
  have h0 := congrFun h finZeroElim
  unfold Cert.Pre_gates_finite.fn Cert.Pre_gates_finite.fn_part1 at h0
  dsimp only at h0
  obtain ⟨h1, hd⟩ := Cert.Stick.both_one _ _ h0
  obtain ⟨h2, hc⟩ := Cert.Stick.both_one _ _ h1
  obtain ⟨ha, hb⟩ := Cert.Stick.both_one _ _ h2
  exact ⟨fun i => real_of_word x0 i (Host.reduce_andi_all _ _ _ _ _ ha i), fun i => real_of_word x1 i (Host.reduce_andi_all _ _ _ _ _ hb i),
    fun i => real_of_word x2 i (Host.reduce_andi_all _ _ _ _ _ hc i), fun i => real_of_word x3 i (Host.reduce_andi_all _ _ _ _ _ hd i)⟩

/-- On real inputs the gradient of the activation is real. -/
theorem dact_real (x0 : FVec Ideal S4096x1024 .f32) (x3 : FVec Ideal S2816x1024 .f32) (h0 : ∀ i, ∃ y : ℝ, (x0 i : EReal) = (y : EReal))
    (h3 : ∀ i, ∃ y : ℝ, (x3 i : EReal) = (y : EReal)) (t : Fin 4096) (q : Fin 2816) : ∃ y : ℝ, dactOf x0 x3 t q = (y : EReal) := by
  choose a ha using h0
  choose b hb using h3
  refine ⟨∑ k : Fin 1024, (1 / 2) * a (ix2 t k) * b (ix2 q k), ?_⟩
  unfold dactOf
  rw [half_real, ← Cert.Stick.coe_sum]
  exact sum_congr rfl fun k _ => by rw [ha, hb, EReal.coe_mul, EReal.coe_mul]

/-! ## The values -/

/-- The kernel's first result is the reference's. -/
theorem value4 (h : Cert.Pre_gates_finite.fn (dh m c) (gate m c) (up m c) (wout m c) = fun _ => 1#1) : (dats m 0 c).arrAt 4 cfg0.N
    = Cert.GatesReferenceIdeal.Read.val_main_v20 (F := Ideal) (dh m c) (gate m c) (up m c) (wout m c) :=
  funext fun i => by
    obtain ⟨j, t, d, rfl⟩ : ∃ (j : Fin 4) (t : Fin 4096) (d : Fin 704), i = ix3 j t d := ⟨i 0, i 1, i 2, eq_ix3 i⟩
    obtain ⟨h0, h1, h2, h3⟩ := inputs_real _ _ _ _ h
    refine (kernel_entry4 m c j t d).trans ?_
    refine Eq.trans ?_ ((ref_slab20 _ _ _ _ j t d).trans (ref_gate _ _ _ _ t _)).symm
    obtain ⟨D, hD⟩ := dact_real _ _ h0 h3 t ⟨704 * j.val + d.val, by omega⟩
    obtain ⟨g, hg⟩ := h1 (ix2 t ⟨704 * j.val + d.val, by omega⟩)
    obtain ⟨u, hu⟩ := h2 (ix2 t ⟨704 * j.val + d.val, by omega⟩)
    rw [hD, hg, hu]
    exact gate_eq D u g

/-- The kernel's second result is the reference's. -/
theorem value5 : (dats m 0 c).arrAt 5 cfg0.N
    = Cert.GatesReferenceIdeal.Read.val_main_v30 (F := Ideal) (dh m c) (gate m c) (wout m c) :=
  funext fun i => by
    obtain ⟨j, t, d, rfl⟩ : ∃ (j : Fin 4) (t : Fin 4096) (d : Fin 704), i = ix3 j t d := ⟨i 0, i 1, i 2, eq_ix3 i⟩
    exact (kernel_entry5 m c j t d).trans ((ref_slab30 _ _ _ j t d).trans (ref_up _ _ _ t _)).symm

end Cert.GateGrad
-- ==== Proof.WeightIn.lean ====
/- The gradient of the first weight of the feed-forward half-step: what the kernel's points store,
   and the sums over the tokens they are. -/
module

public import Idealize.ShloMosaic.Lib.VecWindow
public import Idealize.ShloMosaic.Lib.WholeRead
public import Idealize.ShloMosaic.Lib.Pointwise
public import proofs.«01_k».proof.Proof.Bands
public import proofs.«01_k».proof.Proof.Gen.DwInIdeal.Value
public import proofs.«01_k».proof.Proof.Gen.DwInReferenceIdeal.Read

@[expose] public section

set_option maxRecDepth 16384

noncomputable section

namespace Cert.WeightIn

open Finset Idealize.ShloMosaic Idealize.SL.Sem Idealize.ShloMosaic.TcCoe Cert.DwInIdeal Cert.DwInIdeal.Gen Cert.DwInIdeal.Value

/-- The first half's sum: what was there and the product of a half of the columns of `n` with the slab. -/
theorem pay2_entry (v : Vec Ideal S512x704 .f32) (n : Vec Ideal S4096x512 .bf16) (g : Vec Ideal S1x4096x704 .bf16) (r : Fin 512) (d : Fin 704) :
    k0_pay2 v n g (ix2 r d) = (v (ix2 r d) + ∑ t : Fin 4096, (n (ix2 t r) : EReal) * (g (ix3 0 t d) : EReal) : EReal) := by
  unfold k0_pay2
  simp only [pointwise]
  simp only [constant, Ideal.addf_def, Ideal.ofBits_def, Ideal.ofBits_zero_f32, zero_add]

/-- The second half's. -/
theorem pay3_entry (v : Vec Ideal S512x704 .f32) (n : Vec Ideal S4096x512 .bf16) (g : Vec Ideal S1x4096x704 .bf16) (r : Fin 512) (d : Fin 704) :
    k0_pay3 v n g (ix2 r d) = (v (ix2 r d) + ∑ t : Fin 4096, (n (ix2 t r) : EReal) * (g (ix3 0 t d) : EReal) : EReal) :=
  pay2_entry v n g r d

/-- What is rounded and stored at the last step. -/
theorem pay6_entry (v : Vec Ideal S1024x704 .f32) (r : Fin 1024) (d : Fin 704) : k0_pay6 v (ix3 0 r d) = v (ix2 r d) := by
  unfold k0_pay6
  simp only [pointwise]

/-- The scratch starts at zero. -/
theorem pay1_entry (i : S1024x704.Idx) : k0_pay1 (F := Ideal) i = (0 : EReal) := by
  unfold k0_pay1
  simp only [pointwise]

/-- The scratch, zeroed and then added to half by half. -/
abbrev zeroed : View.Piece (Elt Ideal) S1024x704 .f32 := ⟨Rect.unit (s := S1024x704) ![0, 0] S1024x704.size (by decide), k0_pay1 (F := Ideal)⟩

abbrev upper (v : View sig .tc .vmem S1024x704 .f32) (n : Vec Ideal S4096x1024 .bf16) (g : Vec Ideal S1x4096x704 .bf16) : View.Piece (Elt Ideal) S1024x704 .f32 :=
  ⟨Rect.unit (s := S1024x704) ![0, 0] S512x704.size (by decide),
    k0_pay2 (v.readCov [zeroed] (Rect.unit (s := S1024x704) ![0, 0] S512x704.size (by decide)).toLoadRect)
      (fun i => n ((Rect.unit (s := S4096x1024) ![0, 0] S4096x512.size (by decide)).toLoadRect.idx i)) g⟩

abbrev lower (v : View sig .tc .vmem S1024x704 .f32) (n : Vec Ideal S4096x1024 .bf16) (g : Vec Ideal S1x4096x704 .bf16) : View.Piece (Elt Ideal) S1024x704 .f32 :=
  ⟨Rect.unit (s := S1024x704) ![512, 0] S512x704.size (by decide),
    k0_pay3 (v.readCov [upper v n g, zeroed] (Rect.unit (s := S1024x704) ![512, 0] S512x704.size (by decide)).toLoadRect)
      (fun i => n ((Rect.unit (s := S4096x1024) ![0, 512] S4096x512.size (by decide)).toLoadRect.idx i)) g⟩

/-- The scratch after the zeroing. -/
theorem zeroed_entry (v : View sig .tc .vmem S1024x704 .f32) (f : v.ty.Contents (Elt Ideal)) (i : S1024x704.Idx) :
    v.read (Elt Ideal) (v.writes (Elt Ideal) f [zeroed]) i = (0 : EReal) :=
  (congrFun (View.read_writes_full _ _ _ _ _) i).trans (pay1_entry i)

/-- The scratch after both halves: every entry is its sum over the tokens. -/
theorem scratch_entry (v : View sig .tc .vmem S1024x704 .f32) (f : v.ty.Contents (Elt Ideal)) (n : Vec Ideal S4096x1024 .bf16) (g : Vec Ideal S1x4096x704 .bf16)
    (r : Fin 1024) (d : Fin 704) :
    v.read (Elt Ideal) (v.writes (Elt Ideal) f [lower v n g, upper v n g, zeroed]) (ix2 r d)
      = (∑ t : Fin 4096, (n (ix2 t r) : EReal) * (g (ix3 0 t d) : EReal) : EReal) := by
  by_cases h : r.val < 512
  · refine (Bands.kept (a := 512) (R' := 512) v f rfl _ _ _ r d (Or.inl h)).trans ?_
    refine (Bands.stored (a := 0) (R' := 512) v f rfl _ _ _ r d (Nat.zero_le _) (by omega)).trans ?_
    refine (pay2_entry _ _ _ _ _).trans ?_
    refine (congrArg₂ (fun a b : EReal => a + b) (?_ : _ = (0 : EReal)) (sum_congr rfl fun t _ => congrArg₂ (fun a b : EReal => a * b) ?_ rfl)).trans (zero_add _)
    · exact zeroed_entry _ _ _
    · refine (Bands.loaded n rfl _ t _ (by omega) (by show 0 + (r.val - 0) < 1024; omega)).trans (congrArg n (funext fun a => Fin.ext ?_))
      fin_cases a
      · show 0 + t.val = t.val
        omega
      · show 0 + (r.val - 0) = r.val
        omega
  · have hr := r.isLt
    refine (Bands.stored (a := 512) (R' := 512) v f rfl _ _ _ r d (by omega) (by omega)).trans ?_
    refine (pay3_entry _ _ _ _ _).trans ?_
    refine (congrArg₂ (fun a b : EReal => a + b) (?_ : _ = (0 : EReal)) (sum_congr rfl fun t _ => congrArg₂ (fun a b : EReal => a * b) ?_ rfl)).trans (zero_add _)
    · refine (Bands.loaded (v.read (Elt Ideal) (v.writes (Elt Ideal) v.junk [upper v n g, zeroed])) rfl _ _ d (by show 512 + (r.val - 512) < 1024; omega) (by omega)).trans ?_
      refine (Bands.kept (a := 0) (R' := 512) v _ rfl _ _ _ _ _ (Or.inr (by show 0 + 512 ≤ 512 + (r.val - 512); omega))).trans ?_
      exact zeroed_entry _ _ _
    · refine (Bands.loaded n rfl _ t _ (by omega) (by show 512 + (r.val - 512) < 1024; omega)).trans (congrArg n (funext fun a => Fin.ext ?_))
      fin_cases a
      · show 0 + t.val = t.val
        omega
      · show 512 + (r.val - 512) = r.val
        omega

/-- What a point of the gates half leaves in its block. -/
theorem pointA (c : Dev nD) (i : grid0.Coords) (arg2 : Memref sig .tc .vmem S4096x1024 .bf16) (harg2 : arg2.IsWhole)
    (arg3 : Memref sig .tc .vmem S1x4096x704 .bf16) (harg3 : arg3.IsWhole) (arg4 : Memref sig .tc .vmem S1x4096x704 .bf16) (harg4 : arg4.IsWhole)
    (arg5 : Memref sig .tc .vmem S1x1024x704 .bf16) (harg5 : arg5.IsWhole)
    (arg6 : Memref sig .tc .vmem S1024x704 .f32) (harg6 : arg6.IsWhole) (hc0 : cond0_0 i) (hc1 : cond0_1 i) (hc2 : ¬ cond0_2 i) (hc3 : cond0_3 i)
    (x0 : Vec Ideal S4096x1024 .bf16) (x1 : Vec Ideal S1x4096x704 .bf16) (x2 : Vec Ideal S1x4096x704 .bf16) (r : Fin 1024) (d : Fin 704) :
    out0_A_3 (F := Ideal) c i arg2 harg2 arg3 harg3 arg4 harg4 arg5 harg5 arg6 harg6 hc0 hc1 hc2 hc3 x0 x1 x2 (ix3 0 r d)
      = (∑ t : Fin 4096, (x0 (ix2 t r) : EReal) * (x1 (ix3 0 t d) : EReal) : EReal) := by
  delta out0_A_3 kernelRun0_A
  dsimp only
  refine (congrFun (View.read_writes_full _ _ _ _ _) _).trans ?_
  refine (pay6_entry _ r d).trans ?_
  delta kernelRun0_A.sl.v12_1
  delta kernelRun0_A.sl.HS0_3
  delta kernelRun0_A.sl.v12 kernelRun0_A.sl.v21 kernelRun0_A.sl.HS0_2
  delta kernelRun0_A.sl.HS0_1
  rw [View.readAt_full, harg3.read_unread,
    show View.readAt (Elt Ideal) arg2.view (Rect.unit (s := S4096x1024) ![0, 0] S4096x512.size inb_S4096x1024_S4096x512_0_0).toLoadRect (harg2.unread x0) = _
      from funext fun i => harg2.readAt_unread _ _ i,
    show View.readAt (Elt Ideal) arg2.view (Rect.unit (s := S4096x1024) ![0, 512] S4096x512.size inb_S4096x1024_S4096x512_0_512).toLoadRect (harg2.unread x0) = _
      from funext fun i => harg2.readAt_unread _ _ i]
  refine (congrFun (View.readAt_full (Val := Elt Ideal) (v := arg6.view) (inb := inb_S1024x704_S1024x704_0_0) (f := arg6.view.writes (Elt Ideal) arg6.view.junk _)) _).trans ?_
  exact scratch_entry arg6.view _ x0 x1 r d

/-- What a point of the up half leaves in its block. -/
theorem pointB (c : Dev nD) (i : grid0.Coords) (arg2 : Memref sig .tc .vmem S4096x1024 .bf16) (harg2 : arg2.IsWhole)
    (arg3 : Memref sig .tc .vmem S1x4096x704 .bf16) (harg3 : arg3.IsWhole) (arg4 : Memref sig .tc .vmem S1x4096x704 .bf16) (harg4 : arg4.IsWhole)
    (arg5 : Memref sig .tc .vmem S1x1024x704 .bf16) (harg5 : arg5.IsWhole)
    (arg6 : Memref sig .tc .vmem S1024x704 .f32) (harg6 : arg6.IsWhole) (hc0 : cond0_0 i) (hc1 : ¬ cond0_1 i) (hc2 : cond0_2 i) (hc3 : cond0_3 i)
    (x0 : Vec Ideal S4096x1024 .bf16) (x1 : Vec Ideal S1x4096x704 .bf16) (x2 : Vec Ideal S1x4096x704 .bf16) (r : Fin 1024) (d : Fin 704) :
    out0_B_3 (F := Ideal) c i arg2 harg2 arg3 harg3 arg4 harg4 arg5 harg5 arg6 harg6 hc0 hc1 hc2 hc3 x0 x1 x2 (ix3 0 r d)
      = (∑ t : Fin 4096, (x0 (ix2 t r) : EReal) * (x2 (ix3 0 t d) : EReal) : EReal) := by
  delta out0_B_3 kernelRun0_B
  dsimp only
  refine (congrFun (View.read_writes_full _ _ _ _ _) _).trans ?_
  refine (pay6_entry _ r d).trans ?_
  delta kernelRun0_B.sl.v12_1
  delta kernelRun0_B.sl.HS0_3
  delta kernelRun0_B.sl.v12 kernelRun0_B.sl.v21 kernelRun0_B.sl.HS0_2
  delta kernelRun0_B.sl.HS0_1
  rw [View.readAt_full, harg4.read_unread,
    show View.readAt (Elt Ideal) arg2.view (Rect.unit (s := S4096x1024) ![0, 0] S4096x512.size inb_S4096x1024_S4096x512_0_0).toLoadRect (harg2.unread x0) = _
      from funext fun i => harg2.readAt_unread _ _ i,
    show View.readAt (Elt Ideal) arg2.view (Rect.unit (s := S4096x1024) ![0, 512] S4096x512.size inb_S4096x1024_S4096x512_0_512).toLoadRect (harg2.unread x0) = _
      from funext fun i => harg2.readAt_unread _ _ i]
  refine (congrFun (View.readAt_full (Val := Elt Ideal) (v := arg6.view) (inb := inb_S1024x704_S1024x704_0_0) (f := arg6.view.writes (Elt Ideal) arg6.view.junk _)) _).trans ?_
  exact scratch_entry arg6.view _ x0 x2 r d

variable (m : (ℓ : Loc nD τ sig) → Buf (Elt Ideal) ℓ) (c : Dev nD)

/-- The input of the product. -/
abbrev act : FVec Ideal S4096x1024 .bf16 := m ((c : Thread nD τ).loc main_arg0)

/-- The gradient of the gates. -/
abbrev gradG : FVec Ideal S4096x2816 .bf16 := m ((c : Thread nD τ).loc main_arg1)

/-- The gradient of the other half of the columns. -/
abbrev gradU : FVec Ideal S4096x2816 .bf16 := m ((c : Thread nD τ).loc main_arg2)

/-- The kernel's slabs of `gradG`: slab `j` has the columns from `704 j`. -/
theorem slabsG (j : Fin 4) (t : Fin 4096) (r : Fin 704) : V m c main_v1 (ix3 j t r) = gradG m c (ix2 t ⟨704 * j + r, by omega⟩) := by
  unfold V
  simp only [hostOps0, List.flatten_cons, List.flatten_nil, List.append_nil, List.cons_append,
      List.nil_append, cast_eq]
  after_results_simp
  refine (transpose_apply _ _ _ _ (ix3 t j r) ?_).trans (shapeCast_apply _ _ _ _ ?_)
  · intro b
    fin_cases b <;> rfl
  · refine (Shape.rowMajor_val_two _).trans (Eq.trans ?_ (Shape.rowMajor_val_three _).symm)
    show t.val * 2816 + (704 * j.val + r.val) = (t.val * 4 + j.val) * 704 + r.val
    ring

/-- The kernel's slabs of `gradU`: slab `j` has the columns from `704 j`. -/
theorem slabsU (j : Fin 4) (t : Fin 4096) (r : Fin 704) : V m c main_v3 (ix3 j t r) = gradU m c (ix2 t ⟨704 * j + r, by omega⟩) := by
  unfold V
  simp only [hostOps0, List.flatten_cons, List.flatten_nil, List.append_nil, List.cons_append,
      List.nil_append, cast_eq]
  after_results_simp
  refine (transpose_apply _ _ _ _ (ix3 t j r) ?_).trans (shapeCast_apply _ _ _ _ ?_)
  · intro b
    fin_cases b <;> rfl
  · refine (Shape.rowMajor_val_two _).trans (Eq.trans ?_ (Shape.rowMajor_val_three _).symm)
    show t.val * 2816 + (704 * j.val + r.val) = (t.val * 4 + j.val) * 704 + r.val
    ring

/-- Where the blocks of the grid's points lie. -/
theorem blocks : ∀ t : Fin cfg0.N,
    (win0_0.index t (0 : Fin 2) = 0 ∧ win0_0.index t (1 : Fin 2) = 0)
    ∧ (t.val < 4 → win0_1.index t (0 : Fin 3) = t.val) ∧ (win0_1.index t (1 : Fin 3) = 0 ∧ win0_1.index t (2 : Fin 3) = 0)
    ∧ (4 ≤ t.val → win0_2.index t (0 : Fin 3) = t.val - 4) ∧ (win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (cfg0.win 3).flush t = true :=
  (by decide +kernel : ∀ t : Fin grid0.N, _)

/-- The block of the input at a point. -/
theorem blk_n (t : Fin cfg0.N) (k : Fin 4096) (d : Fin 1024) : iblk m c 0 t (ix2 k d) = act m c (ix2 k d) := by
  obtain ⟨⟨e0, e1⟩, -⟩ := blocks t
  show V m c main_arg0 (((cfg0.win 0).blk t).view.emb (ix2 k d)) = _
  rw [V_main_arg0]
  refine congrArg (m ((c : Thread nD τ).loc main_arg0)) (funext fun a => Fin.ext ?_)
  fin_cases a
  · show win0_0.index t (0 : Fin 2) * 4096 + 1 * k.val = k.val
    omega
  · show win0_0.index t (1 : Fin 2) * 1024 + 1 * d.val = d.val
    omega

/-- The slab of the gates' gradient at a point of the first four. -/
theorem blk_g (t : Fin cfg0.N) (ht : t.val < 4) (k : Fin 4096) (r : Fin 704) :
    iblk m c 1 t (ix3 0 k r) = gradG m c (ix2 k ⟨704 * t.val + r, by omega⟩) := by
  obtain ⟨-, e0, ⟨e1, e2⟩, -⟩ := blocks t
  replace e0 := e0 ht
  show V m c main_v1 (((cfg0.win 1).blk t).view.emb (ix3 0 k r)) = _
  refine Eq.trans (congrArg (V m c main_v1) (funext fun a => Fin.ext ?_)) (slabsG m c ⟨t.val, ht⟩ k r)
  fin_cases a
  · show win0_1.index t (0 : Fin 3) * 1 + 1 * 0 = t.val
    omega
  · show win0_1.index t (1 : Fin 3) * 4096 + 1 * k.val = k.val
    omega
  · show win0_1.index t (2 : Fin 3) * 704 + 1 * r.val = r.val
    omega

/-- The slab of the other gradient at a point of the last four. -/
theorem blk_u (t : Fin cfg0.N) (ht : 4 ≤ t.val) (k : Fin 4096) (r : Fin 704) :
    iblk m c 2 t (ix3 0 k r) = gradU m c (ix2 k ⟨704 * (t.val - 4) + r, by have : t.val < 8 := t.isLt; omega⟩) := by
  obtain ⟨-, -, -, e0, ⟨e1, e2⟩, -⟩ := blocks t
  replace e0 := e0 ht
  show V m c main_v3 (((cfg0.win 2).blk t).view.emb (ix3 0 k r)) = _
  refine Eq.trans (congrArg (V m c main_v3) (funext fun a => Fin.ext ?_)) (slabsU m c ⟨t.val - 4, by have : t.val < 8 := t.isLt; omega⟩ k r)
  fin_cases a
  · show win0_2.index t (0 : Fin 3) * 1 + 1 * 0 = t.val - 4
    omega
  · show win0_2.index t (1 : Fin 3) * 4096 + 1 * k.val = k.val
    omega
  · show win0_2.index t (2 : Fin 3) * 704 + 1 * r.val = r.val
    omega

/-- The entry of the gradient: a sum over the tokens. -/
def total (x0 : Vec Ideal S4096x1024 .bf16) (x1 x2 : Vec Ideal S4096x2816 .bf16) (j : Fin 8) (k : Fin 1024) (r : Fin 704) : EReal :=
  if h : j.val < 4 then (∑ t : Fin 4096, (x0 (ix2 t k) : EReal) * (x1 (ix2 t ⟨704 * j.val + r.val, by omega⟩) : EReal) : EReal)
  else (∑ t : Fin 4096, (x0 (ix2 t k) : EReal) * (x2 (ix2 t ⟨704 * (j.val - 4) + r.val, by omega⟩) : EReal) : EReal)

/-- The kernel's result, entry by entry. -/
theorem kernel_entry (j : Fin 8) (k : Fin 1024) (r : Fin 704) :
    (dats m 0 c).arrAt 3 cfg0.N (ix3 j k r) = total (act m c) (gradG m c) (gradU m c) j k r := by
  obtain ⟨-, -, -, -, -, ⟨e0, e1, e2⟩, hf⟩ := blocks ⟨j.val, j.isLt⟩
  replace e0 : _ = j.val := e0
  have h := congrFun (blocks3 m c ⟨j.val, j.isLt⟩ hf) (ix3 0 k r)
  refine Eq.trans (congrArg ((dats m 0 c).arrAt 3 cfg0.N) (funext fun a => Fin.ext ?_)) (h.trans ?_)
  · fin_cases a
    · show j.val = win0_3.index _ (0 : Fin 3) * 1 + 1 * 0
      omega
    · show k.val = win0_3.index _ (1 : Fin 3) * 1024 + 1 * k.val
      omega
    · show r.val = win0_3.index _ (2 : Fin 3) * 704 + 1 * r.val
      omega
  · unfold total
    split_ifs with hj
    · refine (congrFun (flushed3_A m c ⟨j.val, j.isLt⟩ hj (by show ¬ 4 ≤ j.val; omega)) (ix3 0 k r)).trans ?_
      refine (pointA _ _ _ _ _ _ _ _ _ _ _ _ _ _ _ _ _ _ _ k r).trans ?_
      exact sum_congr rfl fun t _ => congrArg₂ (fun a b : EReal => a * b) (blk_n m c ⟨j.val, j.isLt⟩ t k) (blk_g m c ⟨j.val, j.isLt⟩ hj t r)
    · refine (congrFun (flushed3_B m c ⟨j.val, j.isLt⟩ hj (by show 4 ≤ j.val; omega)) (ix3 0 k r)).trans ?_
      refine (pointB _ _ _ _ _ _ _ _ _ _ _ _ _ _ _ _ _ _ _ k r).trans ?_
      exact sum_congr rfl fun t _ => congrArg₂ (fun a b : EReal => a * b) (blk_n m c ⟨j.val, j.isLt⟩ t k) (blk_u m c ⟨j.val, j.isLt⟩ (by show 4 ≤ j.val; omega) t r)

open Cert.DwInReferenceIdeal.Read in
/-- A slab of the reference's stack is a block of columns of its gradient. -/
theorem reference_slab (x0 : Vec Ideal S4096x1024 .bf16) (x1 x2 : Vec Ideal S4096x2816 .bf16) (j : Fin 8) (k : Fin 1024) (r : Fin 704) :
    val_main_v27 (F := Ideal) x0 x1 x2 (ix3 j k r) = val_main_v10 (F := Ideal) x0 x1 x2 (ix2 k ⟨704 * j.val + r.val, by omega⟩) := by
  unfold val_main_v27
  fin_cases j
  · refine Eq.trans (concatenate_apply_piece (t := Cert.DwInReferenceIdeal.S8x1024x704) 0 _ _ _ 0 (by exact Nat.lt_of_lt_of_eq (by decide : 0 < 8) rfl) S1x1024x704 (val_main_v19 (F := Ideal) x0 x1 x2) (by rfl) rfl 0 (by rfl) (ix3 0 k r) (fun b hb => ?_) (by rfl)) ?_
    · fin_cases b
      · exact absurd rfl hb
      · rfl
      · rfl
    · rw [val_main_v19_apply, val_main_v11_apply]
      refine congrArg (val_main_v10 (F := Ideal) x0 x1 x2) (funext fun a => Fin.ext ?_)
      fin_cases a
      · rfl
      · show r.val = 704 * 0 + r.val
        omega
  · refine Eq.trans (concatenate_apply_piece (t := Cert.DwInReferenceIdeal.S8x1024x704) 0 _ _ _ 1 (by exact Nat.lt_of_lt_of_eq (by decide : 1 < 8) rfl) S1x1024x704 (val_main_v20 (F := Ideal) x0 x1 x2) (by rfl) rfl 1 (by rfl) (ix3 0 k r) (fun b hb => ?_) (by rfl)) ?_
    · fin_cases b
      · exact absurd rfl hb
      · rfl
      · rfl
    · rw [val_main_v20_apply, val_main_v12_apply]
      refine congrArg (val_main_v10 (F := Ideal) x0 x1 x2) (funext fun a => Fin.ext ?_)
      fin_cases a
      · rfl
      · show 704 + r.val = 704 * 1 + r.val
        omega
  · refine Eq.trans (concatenate_apply_piece (t := Cert.DwInReferenceIdeal.S8x1024x704) 0 _ _ _ 2 (by exact Nat.lt_of_lt_of_eq (by decide : 2 < 8) rfl) S1x1024x704 (val_main_v21 (F := Ideal) x0 x1 x2) (by rfl) rfl 2 (by rfl) (ix3 0 k r) (fun b hb => ?_) (by rfl)) ?_
    · fin_cases b
      · exact absurd rfl hb
      · rfl
      · rfl
    · rw [val_main_v21_apply, val_main_v13_apply]
      refine congrArg (val_main_v10 (F := Ideal) x0 x1 x2) (funext fun a => Fin.ext ?_)
      fin_cases a
      · rfl
      · show 1408 + r.val = 704 * 2 + r.val
        omega
  · refine Eq.trans (concatenate_apply_piece (t := Cert.DwInReferenceIdeal.S8x1024x704) 0 _ _ _ 3 (by exact Nat.lt_of_lt_of_eq (by decide : 3 < 8) rfl) S1x1024x704 (val_main_v22 (F := Ideal) x0 x1 x2) (by rfl) rfl 3 (by rfl) (ix3 0 k r) (fun b hb => ?_) (by rfl)) ?_
    · fin_cases b
      · exact absurd rfl hb
      · rfl
      · rfl
    · rw [val_main_v22_apply, val_main_v14_apply]
      refine congrArg (val_main_v10 (F := Ideal) x0 x1 x2) (funext fun a => Fin.ext ?_)
      fin_cases a
      · rfl
      · show 2112 + r.val = 704 * 3 + r.val
        omega
  · refine Eq.trans (concatenate_apply_piece (t := Cert.DwInReferenceIdeal.S8x1024x704) 0 _ _ _ 4 (by exact Nat.lt_of_lt_of_eq (by decide : 4 < 8) rfl) S1x1024x704 (val_main_v23 (F := Ideal) x0 x1 x2) (by rfl) rfl 4 (by rfl) (ix3 0 k r) (fun b hb => ?_) (by rfl)) ?_
    · fin_cases b
      · exact absurd rfl hb
      · rfl
      · rfl
    · rw [val_main_v23_apply, val_main_v15_apply]
      refine congrArg (val_main_v10 (F := Ideal) x0 x1 x2) (funext fun a => Fin.ext ?_)
      fin_cases a
      · rfl
      · show 2816 + r.val = 704 * 4 + r.val
        omega
  · refine Eq.trans (concatenate_apply_piece (t := Cert.DwInReferenceIdeal.S8x1024x704) 0 _ _ _ 5 (by exact Nat.lt_of_lt_of_eq (by decide : 5 < 8) rfl) S1x1024x704 (val_main_v24 (F := Ideal) x0 x1 x2) (by rfl) rfl 5 (by rfl) (ix3 0 k r) (fun b hb => ?_) (by rfl)) ?_
    · fin_cases b
      · exact absurd rfl hb
      · rfl
      · rfl
    · rw [val_main_v24_apply, val_main_v16_apply]
      refine congrArg (val_main_v10 (F := Ideal) x0 x1 x2) (funext fun a => Fin.ext ?_)
      fin_cases a
      · rfl
      · show 3520 + r.val = 704 * 5 + r.val
        omega
  · refine Eq.trans (concatenate_apply_piece (t := Cert.DwInReferenceIdeal.S8x1024x704) 0 _ _ _ 6 (by exact Nat.lt_of_lt_of_eq (by decide : 6 < 8) rfl) S1x1024x704 (val_main_v25 (F := Ideal) x0 x1 x2) (by rfl) rfl 6 (by rfl) (ix3 0 k r) (fun b hb => ?_) (by rfl)) ?_
    · fin_cases b
      · exact absurd rfl hb
      · rfl
      · rfl
    · rw [val_main_v25_apply, val_main_v17_apply]
      refine congrArg (val_main_v10 (F := Ideal) x0 x1 x2) (funext fun a => Fin.ext ?_)
      fin_cases a
      · rfl
      · show 4224 + r.val = 704 * 6 + r.val
        omega
  · refine Eq.trans (concatenate_apply_piece (t := Cert.DwInReferenceIdeal.S8x1024x704) 0 _ _ _ 7 (by exact Nat.lt_of_lt_of_eq (by decide : 7 < 8) rfl) S1x1024x704 (val_main_v26 (F := Ideal) x0 x1 x2) (by rfl) rfl 7 (by rfl) (ix3 0 k r) (fun b hb => ?_) (by rfl)) ?_
    · fin_cases b
      · exact absurd rfl hb
      · rfl
      · rfl
    · rw [val_main_v26_apply, val_main_v18_apply]
      refine congrArg (val_main_v10 (F := Ideal) x0 x1 x2) (funext fun a => Fin.ext ?_)
      fin_cases a
      · rfl
      · show 4928 + r.val = 704 * 7 + r.val
        omega

open Cert.DwInReferenceIdeal.Read in
/-- The reference's two gradients side by side. -/
theorem reference_pair (x1 x2 : Vec Ideal S4096x2816 .bf16) (t : Fin 4096) (q : Fin 5632) :
    val_main_v7 (F := Ideal) x1 x2 (ix2 t q) = (if h : q.val < 2816 then (x1 (ix2 t ⟨q.val, h⟩) : EReal) else (x2 (ix2 t ⟨q.val - 2816, by omega⟩) : EReal)) := by
  unfold val_main_v7
  split_ifs with h
  · exact concatenate_pair_apply_left (t := Cert.DwInReferenceIdeal.S4096x5632) (s₁ := S4096x2816) (s₂ := S4096x2816) 1 _ _ _ _ rfl (ix2 t ⟨q.val, h⟩) (fun b => by fin_cases b <;> rfl)
  · refine concatenate_pair_apply_right (t := Cert.DwInReferenceIdeal.S4096x5632) (s₁ := S4096x2816) (s₂ := S4096x2816) 1 _ _ _ _ rfl rfl (ix2 t ⟨q.val - 2816, by omega⟩) (fun b hb => ?_) ?_
    · fin_cases b
      · rfl
      · exact absurd rfl hb
    · show q.val - 2816 + 2816 = q.val
      omega

open Cert.DwInReferenceIdeal.Read in
/-- The reference's result, entry by entry. -/
theorem reference_entry (x0 : Vec Ideal S4096x1024 .bf16) (x1 x2 : Vec Ideal S4096x2816 .bf16) (j : Fin 8) (k : Fin 1024) (r : Fin 704) :
    val_main_v27 (F := Ideal) x0 x1 x2 (ix3 j k r) = total x0 x1 x2 j k r := by
  rw [reference_slab, val_main_v10_apply, val_main_v9_apply, Ideal.truncf_def, val_main_v8_apply]
  have hs : ∀ t : Fin 4096, val_main_v7 (F := Ideal) x1 x2 (ix2 t ⟨704 * j.val + r.val, by omega⟩) = _ := fun t => reference_pair x1 x2 t _
  unfold total
  split_ifs with hj
  · refine sum_congr rfl fun t _ => (mul_comm (G := EReal) _ _).trans (congrArg₂ (fun a b : EReal => a * b) (congrArg x0 (funext fun a => by fin_cases a <;> rfl)) ?_)
    refine Eq.trans (congrArg (val_main_v7 (F := Ideal) x1 x2) (funext fun a => by fin_cases a <;> rfl)) ((hs t).trans ?_)
    rw [dif_pos (show 704 * j.val + r.val < 2816 by omega)]
  · refine sum_congr rfl fun t _ => (mul_comm (G := EReal) _ _).trans (congrArg₂ (fun a b : EReal => a * b) (congrArg x0 (funext fun a => by fin_cases a <;> rfl)) ?_)
    refine Eq.trans (congrArg (val_main_v7 (F := Ideal) x1 x2) (funext fun a => by fin_cases a <;> rfl)) ((hs t).trans ?_)
    rw [dif_neg (show ¬ 704 * j.val + r.val < 2816 by omega)]
    refine congrArg (fun q => x2 (ix2 t q)) (Fin.ext ?_)
    show 704 * j.val + r.val - 2816 = 704 * (j.val - 4) + r.val
    omega

/-- The kernel's result is the reference's. -/
theorem value : (dats m 0 c).arrAt 3 cfg0.N
    = Cert.DwInReferenceIdeal.Read.val_main_v27 (F := Ideal) (m ((c : Thread nD τ).loc main_arg0)) (m ((c : Thread nD τ).loc main_arg1)) (m ((c : Thread nD τ).loc main_arg2)) :=
  funext fun i => by
    obtain ⟨j, k, r, rfl⟩ : ∃ (j : Fin 8) (k : Fin 1024) (r : Fin 704), i = ix3 j k r := ⟨i 0, i 1, i 2, eq_ix3 i⟩
    exact (kernel_entry m c j k r).trans (reference_entry _ _ _ j k r).symm

end Cert.WeightIn
-- ==== Proof.WeightOut.lean ====
/- The gradient of the second weight of the feed-forward half-step: what the kernel's points store,
   and the sums over the tokens they are. -/
module

public import Idealize.ShloMosaic.Lib.VecWindow
public import Idealize.ShloMosaic.Lib.WholeRead
public import Idealize.ShloMosaic.Lib.Pointwise
public import proofs.«01_k».proof.Proof.Gen.DwOutIdeal.Value
public import proofs.«01_k».proof.Proof.Gen.DwOutReferenceIdeal.Read

@[expose] public section

set_option maxRecDepth 16384

noncomputable section

namespace Cert.WeightOut

open Finset Idealize.ShloMosaic Idealize.SL.Sem Idealize.ShloMosaic.TcCoe Cert.DwOutIdeal Cert.DwOutIdeal.Gen Cert.DwOutIdeal.Value

/-- What a point leaves in its block: the product of its two blocks, added to zero and rounded. -/
theorem point (c : Dev nD) (i : grid0.Coords) (arg2 : Memref sig .tc .vmem S1x4096x704 .bf16) (harg2 : arg2.IsWhole)
    (arg3 : Memref sig .tc .vmem S4096x1024 .bf16) (harg3 : arg3.IsWhole) (arg4 : Memref sig .tc .vmem S1x704x1024 .bf16) (harg4 : arg4.IsWhole)
    (arg5 : Memref sig .tc .vmem S704x1024 .f32) (harg5 : arg5.IsWhole) (hc0 : cond0_0 i) (hc1 : cond0_1 i)
    (x0 : Vec Ideal S1x4096x704 .bf16) (x1 : Vec Ideal S4096x1024 .bf16) :
    out0_A_2 (F := Ideal) c i arg2 harg2 arg3 harg3 arg4 harg4 arg5 harg5 hc0 hc1 x0 x1 = k0_pay3 (k0_pay2 x0 x1 (k0_pay1 (F := Ideal))) := by
  delta out0_A_2 kernelRun0_A
  dsimp only
  refine (View.read_writes_full _ _ _ _ _).trans ?_
  delta kernelRun0_A.sl.v15
  refine congrArg k0_pay3 ?_
  refine (View.readCov_full _ _ _ _ _).trans ?_
  rw [View.readAt_full, View.readAt_full, harg2.read_unread, harg3.read_unread]
  exact congrArg (k0_pay2 x0 x1) (View.readCov_full _ _ _ _ _)

/-- The entries a point leaves in its block: sums over the tokens. -/
theorem entry (x0 : Vec Ideal S1x4096x704 .bf16) (x1 : Vec Ideal S4096x1024 .bf16) (r : Fin 704) (d : Fin 1024) :
    k0_pay3 (k0_pay2 x0 x1 (k0_pay1 (F := Ideal))) (ix3 0 r d) = (∑ t : Fin 4096, (x0 (ix3 0 t r) : EReal) * (x1 (ix2 t d) : EReal) : EReal) := by
  unfold k0_pay3 k0_pay2 k0_pay1
  simp only [pointwise]
  simp only [constant, Ideal.truncf_def, Ideal.addf_def, Ideal.ofBits_def, Ideal.ofBits_zero_f32, zero_add]

variable (m : (ℓ : Loc nD τ sig) → Buf (Elt Ideal) ℓ) (c : Dev nD)

/-- The activation. -/
abbrev act : FVec Ideal S4096x2816 .bf16 := m ((c : Thread nD τ).loc main_arg0)

/-- The gradient of the product. -/
abbrev grad : FVec Ideal S4096x1024 .bf16 := m ((c : Thread nD τ).loc main_arg1)

/-- The kernel's slabs of the activation: slab `j` has the columns from `704 j`. -/
theorem slabs_eq (j : Fin 4) (t : Fin 4096) (r : Fin 704) : V m c main_v1 (ix3 j t r) = act m c (ix2 t ⟨704 * j + r, by omega⟩) := by
  unfold V
  simp only [hostOps0, List.flatten_cons, List.flatten_nil, List.append_nil, List.cons_append,
      List.nil_append, cast_eq]
  after_results_simp
  refine (transpose_apply _ _ _ _ (ix3 t j r) ?_).trans (shapeCast_apply _ _ _ _ ?_)
  · intro b
    fin_cases b <;> rfl
  · refine (Shape.rowMajor_val_two _).trans (Eq.trans ?_ (Shape.rowMajor_val_three _).symm)
    show t.val * 2816 + (704 * j.val + r.val) = (t.val * 4 + j.val) * 704 + r.val
    ring

/-- Where the blocks of the grid's points lie. -/
theorem blocks : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = t.val ∧ win0_2.index t (1 : Fin 3) = 0 ∧ win0_2.index t (2 : Fin 3) = 0)
    ∧ (cfg0.win 2).flush t = true :=
  (by decide +kernel : ∀ t : Fin grid0.N, _)

/-- The block of the activation at a point. -/
theorem blk_a (t : Fin cfg0.N) (k : Fin 4096) (r : Fin 704) :
    iblk m c 0 t (ix3 0 k r) = act m c (ix2 k ⟨704 * t + r, by have : t.val < 4 := t.isLt; omega⟩) := by
  obtain ⟨⟨e0, e1, e2⟩, -⟩ := blocks t
  show V m c main_v1 (((cfg0.win 0).blk t).view.emb (ix3 0 k r)) = _
  refine Eq.trans (congrArg (V m c main_v1) (funext fun a => Fin.ext ?_)) (slabs_eq m c ⟨t.val, t.isLt⟩ k r)
  fin_cases a
  · show win0_0.index t (0 : Fin 3) * 1 + 1 * 0 = t.val
    omega
  · show win0_0.index t (1 : Fin 3) * 4096 + 1 * k.val = k.val
    omega
  · show win0_0.index t (2 : Fin 3) * 704 + 1 * r.val = r.val
    omega

/-- The block of the gradient of the output at a point. -/
theorem blk_d (t : Fin cfg0.N) (k : Fin 4096) (d : Fin 1024) :
    iblk m c 1 t (ix2 k d) = grad m c (ix2 k d) := by
  obtain ⟨-, ⟨e0, e1⟩, -⟩ := blocks t
  show V m c main_arg1 (((cfg0.win 1).blk t).view.emb (ix2 k d)) = _
  rw [V_main_arg1]
  refine congrArg (m ((c : Thread nD τ).loc main_arg1)) (funext fun a => Fin.ext ?_)
  fin_cases a
  · show win0_1.index t (0 : Fin 2) * 4096 + 1 * k.val = k.val
    omega
  · show win0_1.index t (1 : Fin 2) * 1024 + 1 * d.val = d.val
    omega

/-- The kernel's result, entry by entry. -/
theorem kernel_entry (j : Fin 4) (r : Fin 704) (d : Fin 1024) :
    (dats m 0 c).arrAt 2 cfg0.N (ix3 j r d)
      = (∑ k : Fin 4096, (act m c (ix2 k ⟨704 * j + r, by omega⟩) : EReal) * (grad m c (ix2 k d) : EReal) : EReal) := by
  obtain ⟨-, -, ⟨e0, e1, e2⟩, hf⟩ := blocks ⟨j.val, j.isLt⟩
  replace e0 : _ = j.val := e0
  have h := congrFun (blocks2 m c ⟨j.val, j.isLt⟩ hf) (ix3 0 r d)
  rw [flushed2_A, point] at h
  refine Eq.trans (congrArg ((dats m 0 c).arrAt 2 cfg0.N) (funext fun a => Fin.ext ?_)) (h.trans ((entry _ _ r d).trans (sum_congr rfl fun k _ => ?_)))
  · fin_cases a
    · show j.val = win0_2.index _ (0 : Fin 3) * 1 + 1 * 0
      omega
    · show r.val = win0_2.index _ (1 : Fin 3) * 704 + 1 * r.val
      omega
    · show d.val = win0_2.index _ (2 : Fin 3) * 1024 + 1 * d.val
      omega
  · exact congrArg₂ (fun a b : EReal => a * b) (blk_a m c ⟨j.val, j.isLt⟩ k r) (blk_d m c ⟨j.val, j.isLt⟩ k d)

/-- The reference's result, entry by entry. -/
theorem reference_entry (x0 : Vec Ideal S4096x2816 .bf16) (x1 : Vec Ideal S4096x1024 .bf16) (j : Fin 4) (r : Fin 704) (d : Fin 1024) :
    Cert.DwOutReferenceIdeal.Read.val_main_v7 (F := Ideal) x0 x1 (ix3 j r d)
      = (∑ k : Fin 4096, (x0 (ix2 k ⟨704 * j + r, by omega⟩) : EReal) * (x1 (ix2 k d) : EReal) : EReal) := by
  rw [Cert.DwOutReferenceIdeal.Read.val_main_v7_apply, Cert.DwOutReferenceIdeal.Read.val_main_v6_apply, Cert.DwOutReferenceIdeal.Read.val_main_v5_apply, Ideal.truncf_def, Cert.DwOutReferenceIdeal.Read.val_main_v4_apply]
  refine sum_congr rfl fun k _ => (mul_comm (G := EReal) _ _).trans ?_
  refine congrArg₂ (fun a b : EReal => a * b) (congrArg x0 (funext fun a => Fin.ext ?_)) (congrArg x1 (funext fun a => Fin.ext ?_))
  · fin_cases a
    · rfl
    · show ((j.val * 704 + r.val) * 1024 + d.val) / 1024 = 704 * j.val + r.val
      omega
  · fin_cases a
    · rfl
    · show ((j.val * 704 + r.val) * 1024 + d.val) % 1024 = d.val
      omega

/-- The kernel's result is the reference's. -/
theorem value : (dats m 0 c).arrAt 2 cfg0.N
    = Cert.DwOutReferenceIdeal.Read.val_main_v7 (F := Ideal) (m ((c : Thread nD τ).loc main_arg0)) (m ((c : Thread nD τ).loc main_arg1)) :=
  funext fun i => by
    obtain ⟨j, r, d, rfl⟩ : ∃ (j : Fin 4) (r : Fin 704) (d : Fin 1024), i = ix3 j r d := ⟨i 0, i 1, i 2, eq_ix3 i⟩
    exact (kernel_entry m c j r d).trans (reference_entry _ _ j r d).symm

end Cert.WeightOut
-- ==== Proof.WeightHalf.lean ====
/- The gradient of half of the rows of the first half-step's first weight: what the kernel's points store,
   and the sums over the tokens they are. -/
module

public import Idealize.ShloMosaic.Lib.VecWindow
public import Idealize.ShloMosaic.Lib.WholeRead
public import Idealize.ShloMosaic.Lib.Pointwise
public import proofs.«01_k».proof.Proof.Bands
public import proofs.«01_k».proof.Proof.Gen.DwHalfIdeal.Value
public import proofs.«01_k».proof.Proof.Gen.DwHalfReferenceIdeal.Read

@[expose] public section

set_option maxRecDepth 16384

noncomputable section

namespace Cert.WeightHalf

open Finset Idealize.ShloMosaic Idealize.SL.Sem Idealize.ShloMosaic.TcCoe Cert.DwHalfIdeal Cert.DwHalfIdeal.Gen Cert.DwHalfIdeal.Value

/-- The first half's sum: what was there and the product of a half of the columns of `n` with the slab. -/
theorem pay2_entry (v : Vec Ideal S256x704 .f32) (n : Vec Ideal S4096x256 .bf16) (g : Vec Ideal S1x4096x704 .bf16) (r : Fin 256) (d : Fin 704) :
    k0_pay2 v n g (ix2 r d) = (v (ix2 r d) + ∑ t : Fin 4096, (n (ix2 t r) : EReal) * (g (ix3 0 t d) : EReal) : EReal) := by
  unfold k0_pay2
  simp only [pointwise]
  simp only [constant, Ideal.addf_def, Ideal.ofBits_def, Ideal.ofBits_zero_f32, zero_add]

/-- The second half's. -/
theorem pay3_entry (v : Vec Ideal S256x704 .f32) (n : Vec Ideal S4096x256 .bf16) (g : Vec Ideal S1x4096x704 .bf16) (r : Fin 256) (d : Fin 704) :
    k0_pay3 v n g (ix2 r d) = (v (ix2 r d) + ∑ t : Fin 4096, (n (ix2 t r) : EReal) * (g (ix3 0 t d) : EReal) : EReal) :=
  pay2_entry v n g r d

/-- What is rounded and stored at the last step. -/
theorem pay6_entry (v : Vec Ideal S512x704 .f32) (r : Fin 512) (d : Fin 704) : k0_pay6 v (ix3 0 r d) = v (ix2 r d) := by
  unfold k0_pay6
  simp only [pointwise]

/-- The scratch starts at zero. -/
theorem pay1_entry (i : S512x704.Idx) : k0_pay1 (F := Ideal) i = (0 : EReal) := by
  unfold k0_pay1
  simp only [pointwise]

/-- The scratch, zeroed and then added to half by half. -/
abbrev zeroed : View.Piece (Elt Ideal) S512x704 .f32 := ⟨Rect.unit (s := S512x704) ![0, 0] S512x704.size (by decide), k0_pay1 (F := Ideal)⟩

abbrev upper (v : View sig .tc .vmem S512x704 .f32) (n : Vec Ideal S4096x512 .bf16) (g : Vec Ideal S1x4096x704 .bf16) : View.Piece (Elt Ideal) S512x704 .f32 :=
  ⟨Rect.unit (s := S512x704) ![0, 0] S256x704.size (by decide),
    k0_pay2 (v.readCov [zeroed] (Rect.unit (s := S512x704) ![0, 0] S256x704.size (by decide)).toLoadRect)
      (fun i => n ((Rect.unit (s := S4096x512) ![0, 0] S4096x256.size (by decide)).toLoadRect.idx i)) g⟩

abbrev lower (v : View sig .tc .vmem S512x704 .f32) (n : Vec Ideal S4096x512 .bf16) (g : Vec Ideal S1x4096x704 .bf16) : View.Piece (Elt Ideal) S512x704 .f32 :=
  ⟨Rect.unit (s := S512x704) ![256, 0] S256x704.size (by decide),
    k0_pay3 (v.readCov [upper v n g, zeroed] (Rect.unit (s := S512x704) ![256, 0] S256x704.size (by decide)).toLoadRect)
      (fun i => n ((Rect.unit (s := S4096x512) ![0, 256] S4096x256.size (by decide)).toLoadRect.idx i)) g⟩

/-- The scratch after the zeroing. -/
theorem zeroed_entry (v : View sig .tc .vmem S512x704 .f32) (f : v.ty.Contents (Elt Ideal)) (i : S512x704.Idx) :
    v.read (Elt Ideal) (v.writes (Elt Ideal) f [zeroed]) i = (0 : EReal) :=
  (congrFun (View.read_writes_full _ _ _ _ _) i).trans (pay1_entry i)

/-- The scratch after both halves: every entry is its sum over the tokens. -/
theorem scratch_entry (v : View sig .tc .vmem S512x704 .f32) (f : v.ty.Contents (Elt Ideal)) (n : Vec Ideal S4096x512 .bf16) (g : Vec Ideal S1x4096x704 .bf16)
    (r : Fin 512) (d : Fin 704) :
    v.read (Elt Ideal) (v.writes (Elt Ideal) f [lower v n g, upper v n g, zeroed]) (ix2 r d)
      = (∑ t : Fin 4096, (n (ix2 t r) : EReal) * (g (ix3 0 t d) : EReal) : EReal) := by
  by_cases h : r.val < 256
  · refine (Bands.kept (a := 256) (R' := 256) v f rfl _ _ _ r d (Or.inl h)).trans ?_
    refine (Bands.stored (a := 0) (R' := 256) v f rfl _ _ _ r d (Nat.zero_le _) (by omega)).trans ?_
    refine (pay2_entry _ _ _ _ _).trans ?_
    refine (congrArg₂ (fun a b : EReal => a + b) (?_ : _ = (0 : EReal)) (sum_congr rfl fun t _ => congrArg₂ (fun a b : EReal => a * b) ?_ rfl)).trans (zero_add _)
    · exact zeroed_entry _ _ _
    · refine (Bands.loaded n rfl _ t _ (by omega) (by show 0 + (r.val - 0) < 512; omega)).trans (congrArg n (funext fun a => Fin.ext ?_))
      fin_cases a
      · show 0 + t.val = t.val
        omega
      · show 0 + (r.val - 0) = r.val
        omega
  · have hr := r.isLt
    refine (Bands.stored (a := 256) (R' := 256) v f rfl _ _ _ r d (by omega) (by omega)).trans ?_
    refine (pay3_entry _ _ _ _ _).trans ?_
    refine (congrArg₂ (fun a b : EReal => a + b) (?_ : _ = (0 : EReal)) (sum_congr rfl fun t _ => congrArg₂ (fun a b : EReal => a * b) ?_ rfl)).trans (zero_add _)
    · refine (Bands.loaded (v.read (Elt Ideal) (v.writes (Elt Ideal) v.junk [upper v n g, zeroed])) rfl _ _ d (by show 256 + (r.val - 256) < 512; omega) (by omega)).trans ?_
      refine (Bands.kept (a := 0) (R' := 256) v _ rfl _ _ _ _ _ (Or.inr (by show 0 + 256 ≤ 256 + (r.val - 256); omega))).trans ?_
      exact zeroed_entry _ _ _
    · refine (Bands.loaded n rfl _ t _ (by omega) (by show 256 + (r.val - 256) < 512; omega)).trans (congrArg n (funext fun a => Fin.ext ?_))
      fin_cases a
      · show 0 + t.val = t.val
        omega
      · show 256 + (r.val - 256) = r.val
        omega

/-- What a point of the gates half leaves in its block. -/
theorem pointA (c : Dev nD) (i : grid0.Coords) (arg2 : Memref sig .tc .vmem S4096x512 .bf16) (harg2 : arg2.IsWhole)
    (arg3 : Memref sig .tc .vmem S1x4096x704 .bf16) (harg3 : arg3.IsWhole) (arg4 : Memref sig .tc .vmem S1x4096x704 .bf16) (harg4 : arg4.IsWhole)
    (arg5 : Memref sig .tc .vmem S1x512x704 .bf16) (harg5 : arg5.IsWhole)
    (arg6 : Memref sig .tc .vmem S512x704 .f32) (harg6 : arg6.IsWhole) (hc0 : cond0_0 i) (hc1 : cond0_1 i) (hc2 : ¬ cond0_2 i) (hc3 : cond0_3 i)
    (x0 : Vec Ideal S4096x512 .bf16) (x1 : Vec Ideal S1x4096x704 .bf16) (x2 : Vec Ideal S1x4096x704 .bf16) (r : Fin 512) (d : Fin 704) :
    out0_A_3 (F := Ideal) c i arg2 harg2 arg3 harg3 arg4 harg4 arg5 harg5 arg6 harg6 hc0 hc1 hc2 hc3 x0 x1 x2 (ix3 0 r d)
      = (∑ t : Fin 4096, (x0 (ix2 t r) : EReal) * (x1 (ix3 0 t d) : EReal) : EReal) := by
  delta out0_A_3 kernelRun0_A
  dsimp only
  refine (congrFun (View.read_writes_full _ _ _ _ _) _).trans ?_
  refine (pay6_entry _ r d).trans ?_
  delta kernelRun0_A.sl.v12_1
  delta kernelRun0_A.sl.HS0_3
  delta kernelRun0_A.sl.v12 kernelRun0_A.sl.v21 kernelRun0_A.sl.HS0_2
  delta kernelRun0_A.sl.HS0_1
  rw [View.readAt_full, harg3.read_unread,
    show View.readAt (Elt Ideal) arg2.view (Rect.unit (s := S4096x512) ![0, 0] S4096x256.size inb_S4096x512_S4096x256_0_0).toLoadRect (harg2.unread x0) = _
      from funext fun i => harg2.readAt_unread _ _ i,
    show View.readAt (Elt Ideal) arg2.view (Rect.unit (s := S4096x512) ![0, 256] S4096x256.size inb_S4096x512_S4096x256_0_256).toLoadRect (harg2.unread x0) = _
      from funext fun i => harg2.readAt_unread _ _ i]
  refine (congrFun (View.readAt_full (Val := Elt Ideal) (v := arg6.view) (inb := inb_S512x704_S512x704_0_0) (f := arg6.view.writes (Elt Ideal) arg6.view.junk _)) _).trans ?_
  exact scratch_entry arg6.view _ x0 x1 r d

/-- What a point of the up half leaves in its block. -/
theorem pointB (c : Dev nD) (i : grid0.Coords) (arg2 : Memref sig .tc .vmem S4096x512 .bf16) (harg2 : arg2.IsWhole)
    (arg3 : Memref sig .tc .vmem S1x4096x704 .bf16) (harg3 : arg3.IsWhole) (arg4 : Memref sig .tc .vmem S1x4096x704 .bf16) (harg4 : arg4.IsWhole)
    (arg5 : Memref sig .tc .vmem S1x512x704 .bf16) (harg5 : arg5.IsWhole)
    (arg6 : Memref sig .tc .vmem S512x704 .f32) (harg6 : arg6.IsWhole) (hc0 : cond0_0 i) (hc1 : ¬ cond0_1 i) (hc2 : cond0_2 i) (hc3 : cond0_3 i)
    (x0 : Vec Ideal S4096x512 .bf16) (x1 : Vec Ideal S1x4096x704 .bf16) (x2 : Vec Ideal S1x4096x704 .bf16) (r : Fin 512) (d : Fin 704) :
    out0_B_3 (F := Ideal) c i arg2 harg2 arg3 harg3 arg4 harg4 arg5 harg5 arg6 harg6 hc0 hc1 hc2 hc3 x0 x1 x2 (ix3 0 r d)
      = (∑ t : Fin 4096, (x0 (ix2 t r) : EReal) * (x2 (ix3 0 t d) : EReal) : EReal) := by
  delta out0_B_3 kernelRun0_B
  dsimp only
  refine (congrFun (View.read_writes_full _ _ _ _ _) _).trans ?_
  refine (pay6_entry _ r d).trans ?_
  delta kernelRun0_B.sl.v12_1
  delta kernelRun0_B.sl.HS0_3
  delta kernelRun0_B.sl.v12 kernelRun0_B.sl.v21 kernelRun0_B.sl.HS0_2
  delta kernelRun0_B.sl.HS0_1
  rw [View.readAt_full, harg4.read_unread,
    show View.readAt (Elt Ideal) arg2.view (Rect.unit (s := S4096x512) ![0, 0] S4096x256.size inb_S4096x512_S4096x256_0_0).toLoadRect (harg2.unread x0) = _
      from funext fun i => harg2.readAt_unread _ _ i,
    show View.readAt (Elt Ideal) arg2.view (Rect.unit (s := S4096x512) ![0, 256] S4096x256.size inb_S4096x512_S4096x256_0_256).toLoadRect (harg2.unread x0) = _
      from funext fun i => harg2.readAt_unread _ _ i]
  refine (congrFun (View.readAt_full (Val := Elt Ideal) (v := arg6.view) (inb := inb_S512x704_S512x704_0_0) (f := arg6.view.writes (Elt Ideal) arg6.view.junk _)) _).trans ?_
  exact scratch_entry arg6.view _ x0 x2 r d

variable (m : (ℓ : Loc nD τ sig) → Buf (Elt Ideal) ℓ) (c : Dev nD)

/-- The input of the product. -/
abbrev act : FVec Ideal S4096x512 .bf16 := m ((c : Thread nD τ).loc main_arg0)

/-- The gradient of the gates. -/
abbrev gradG : FVec Ideal S4096x2816 .bf16 := m ((c : Thread nD τ).loc main_arg1)

/-- The gradient of the other half of the columns. -/
abbrev gradU : FVec Ideal S4096x2816 .bf16 := m ((c : Thread nD τ).loc main_arg2)

/-- The kernel's slabs of `gradG`: slab `j` has the columns from `704 j`. -/
theorem slabsG (j : Fin 4) (t : Fin 4096) (r : Fin 704) : V m c main_v1 (ix3 j t r) = gradG m c (ix2 t ⟨704 * j + r, by omega⟩) := by
  unfold V
  simp only [hostOps0, List.flatten_cons, List.flatten_nil, List.append_nil, List.cons_append,
      List.nil_append, cast_eq]
  after_results_simp
  refine (transpose_apply _ _ _ _ (ix3 t j r) ?_).trans (shapeCast_apply _ _ _ _ ?_)
  · intro b
    fin_cases b <;> rfl
  · refine (Shape.rowMajor_val_two _).trans (Eq.trans ?_ (Shape.rowMajor_val_three _).symm)
    show t.val * 2816 + (704 * j.val + r.val) = (t.val * 4 + j.val) * 704 + r.val
    ring

/-- The kernel's slabs of `gradU`: slab `j` has the columns from `704 j`. -/
theorem slabsU (j : Fin 4) (t : Fin 4096) (r : Fin 704) : V m c main_v3 (ix3 j t r) = gradU m c (ix2 t ⟨704 * j + r, by omega⟩) := by
  unfold V
  simp only [hostOps0, List.flatten_cons, List.flatten_nil, List.append_nil, List.cons_append,
      List.nil_append, cast_eq]
  after_results_simp
  refine (transpose_apply _ _ _ _ (ix3 t j r) ?_).trans (shapeCast_apply _ _ _ _ ?_)
  · intro b
    fin_cases b <;> rfl
  · refine (Shape.rowMajor_val_two _).trans (Eq.trans ?_ (Shape.rowMajor_val_three _).symm)
    show t.val * 2816 + (704 * j.val + r.val) = (t.val * 4 + j.val) * 704 + r.val
    ring

/-- Where the blocks of the grid's points lie. -/
theorem blocks : ∀ t : Fin cfg0.N,
    (win0_0.index t (0 : Fin 2) = 0 ∧ win0_0.index t (1 : Fin 2) = 0)
    ∧ (t.val < 4 → win0_1.index t (0 : Fin 3) = t.val) ∧ (win0_1.index t (1 : Fin 3) = 0 ∧ win0_1.index t (2 : Fin 3) = 0)
    ∧ (4 ≤ t.val → win0_2.index t (0 : Fin 3) = t.val - 4) ∧ (win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (cfg0.win 3).flush t = true :=
  (by decide +kernel : ∀ t : Fin grid0.N, _)

/-- The block of the input at a point. -/
theorem blk_n (t : Fin cfg0.N) (k : Fin 4096) (d : Fin 512) : iblk m c 0 t (ix2 k d) = act m c (ix2 k d) := by
  obtain ⟨⟨e0, e1⟩, -⟩ := blocks t
  show V m c main_arg0 (((cfg0.win 0).blk t).view.emb (ix2 k d)) = _
  rw [V_main_arg0]
  refine congrArg (m ((c : Thread nD τ).loc main_arg0)) (funext fun a => Fin.ext ?_)
  fin_cases a
  · show win0_0.index t (0 : Fin 2) * 4096 + 1 * k.val = k.val
    omega
  · show win0_0.index t (1 : Fin 2) * 512 + 1 * d.val = d.val
    omega

/-- The slab of the gates' gradient at a point of the first four. -/
theorem blk_g (t : Fin cfg0.N) (ht : t.val < 4) (k : Fin 4096) (r : Fin 704) :
    iblk m c 1 t (ix3 0 k r) = gradG m c (ix2 k ⟨704 * t.val + r, by omega⟩) := by
  obtain ⟨-, e0, ⟨e1, e2⟩, -⟩ := blocks t
  replace e0 := e0 ht
  show V m c main_v1 (((cfg0.win 1).blk t).view.emb (ix3 0 k r)) = _
  refine Eq.trans (congrArg (V m c main_v1) (funext fun a => Fin.ext ?_)) (slabsG m c ⟨t.val, ht⟩ k r)
  fin_cases a
  · show win0_1.index t (0 : Fin 3) * 1 + 1 * 0 = t.val
    omega
  · show win0_1.index t (1 : Fin 3) * 4096 + 1 * k.val = k.val
    omega
  · show win0_1.index t (2 : Fin 3) * 704 + 1 * r.val = r.val
    omega

/-- The slab of the other gradient at a point of the last four. -/
theorem blk_u (t : Fin cfg0.N) (ht : 4 ≤ t.val) (k : Fin 4096) (r : Fin 704) :
    iblk m c 2 t (ix3 0 k r) = gradU m c (ix2 k ⟨704 * (t.val - 4) + r, by have : t.val < 8 := t.isLt; omega⟩) := by
  obtain ⟨-, -, -, e0, ⟨e1, e2⟩, -⟩ := blocks t
  replace e0 := e0 ht
  show V m c main_v3 (((cfg0.win 2).blk t).view.emb (ix3 0 k r)) = _
  refine Eq.trans (congrArg (V m c main_v3) (funext fun a => Fin.ext ?_)) (slabsU m c ⟨t.val - 4, by have : t.val < 8 := t.isLt; omega⟩ k r)
  fin_cases a
  · show win0_2.index t (0 : Fin 3) * 1 + 1 * 0 = t.val - 4
    omega
  · show win0_2.index t (1 : Fin 3) * 4096 + 1 * k.val = k.val
    omega
  · show win0_2.index t (2 : Fin 3) * 704 + 1 * r.val = r.val
    omega

/-- The entry of the gradient: a sum over the tokens. -/
def total (x0 : Vec Ideal S4096x512 .bf16) (x1 x2 : Vec Ideal S4096x2816 .bf16) (j : Fin 8) (k : Fin 512) (r : Fin 704) : EReal :=
  if h : j.val < 4 then (∑ t : Fin 4096, (x0 (ix2 t k) : EReal) * (x1 (ix2 t ⟨704 * j.val + r.val, by omega⟩) : EReal) : EReal)
  else (∑ t : Fin 4096, (x0 (ix2 t k) : EReal) * (x2 (ix2 t ⟨704 * (j.val - 4) + r.val, by omega⟩) : EReal) : EReal)

/-- The kernel's result, entry by entry. -/
theorem kernel_entry (j : Fin 8) (k : Fin 512) (r : Fin 704) :
    (dats m 0 c).arrAt 3 cfg0.N (ix3 j k r) = total (act m c) (gradG m c) (gradU m c) j k r := by
  obtain ⟨-, -, -, -, -, ⟨e0, e1, e2⟩, hf⟩ := blocks ⟨j.val, j.isLt⟩
  replace e0 : _ = j.val := e0
  have h := congrFun (blocks3 m c ⟨j.val, j.isLt⟩ hf) (ix3 0 k r)
  refine Eq.trans (congrArg ((dats m 0 c).arrAt 3 cfg0.N) (funext fun a => Fin.ext ?_)) (h.trans ?_)
  · fin_cases a
    · show j.val = win0_3.index _ (0 : Fin 3) * 1 + 1 * 0
      omega
    · show k.val = win0_3.index _ (1 : Fin 3) * 512 + 1 * k.val
      omega
    · show r.val = win0_3.index _ (2 : Fin 3) * 704 + 1 * r.val
      omega
  · unfold total
    split_ifs with hj
    · refine (congrFun (flushed3_A m c ⟨j.val, j.isLt⟩ hj (by show ¬ 4 ≤ j.val; omega)) (ix3 0 k r)).trans ?_
      refine (pointA _ _ _ _ _ _ _ _ _ _ _ _ _ _ _ _ _ _ _ k r).trans ?_
      exact sum_congr rfl fun t _ => congrArg₂ (fun a b : EReal => a * b) (blk_n m c ⟨j.val, j.isLt⟩ t k) (blk_g m c ⟨j.val, j.isLt⟩ hj t r)
    · refine (congrFun (flushed3_B m c ⟨j.val, j.isLt⟩ hj (by show 4 ≤ j.val; omega)) (ix3 0 k r)).trans ?_
      refine (pointB _ _ _ _ _ _ _ _ _ _ _ _ _ _ _ _ _ _ _ k r).trans ?_
      exact sum_congr rfl fun t _ => congrArg₂ (fun a b : EReal => a * b) (blk_n m c ⟨j.val, j.isLt⟩ t k) (blk_u m c ⟨j.val, j.isLt⟩ (by show 4 ≤ j.val; omega) t r)

open Cert.DwHalfReferenceIdeal.Read in
/-- A slab of the reference's stack is a block of columns of its gradient. -/
theorem reference_slab (x0 : Vec Ideal S4096x512 .bf16) (x1 x2 : Vec Ideal S4096x2816 .bf16) (j : Fin 8) (k : Fin 512) (r : Fin 704) :
    val_main_v27 (F := Ideal) x0 x1 x2 (ix3 j k r) = val_main_v10 (F := Ideal) x0 x1 x2 (ix2 k ⟨704 * j.val + r.val, by omega⟩) := by
  unfold val_main_v27
  fin_cases j
  · refine Eq.trans (concatenate_apply_piece (t := Cert.DwHalfReferenceIdeal.S8x512x704) 0 _ _ _ 0 (by exact Nat.lt_of_lt_of_eq (by decide : 0 < 8) rfl) S1x512x704 (val_main_v19 (F := Ideal) x0 x1 x2) (by rfl) rfl 0 (by rfl) (ix3 0 k r) (fun b hb => ?_) (by rfl)) ?_
    · fin_cases b
      · exact absurd rfl hb
      · rfl
      · rfl
    · rw [val_main_v19_apply, val_main_v11_apply]
      refine congrArg (val_main_v10 (F := Ideal) x0 x1 x2) (funext fun a => Fin.ext ?_)
      fin_cases a
      · rfl
      · show r.val = 704 * 0 + r.val
        omega
  · refine Eq.trans (concatenate_apply_piece (t := Cert.DwHalfReferenceIdeal.S8x512x704) 0 _ _ _ 1 (by exact Nat.lt_of_lt_of_eq (by decide : 1 < 8) rfl) S1x512x704 (val_main_v20 (F := Ideal) x0 x1 x2) (by rfl) rfl 1 (by rfl) (ix3 0 k r) (fun b hb => ?_) (by rfl)) ?_
    · fin_cases b
      · exact absurd rfl hb
      · rfl
      · rfl
    · rw [val_main_v20_apply, val_main_v12_apply]
      refine congrArg (val_main_v10 (F := Ideal) x0 x1 x2) (funext fun a => Fin.ext ?_)
      fin_cases a
      · rfl
      · show 704 + r.val = 704 * 1 + r.val
        omega
  · refine Eq.trans (concatenate_apply_piece (t := Cert.DwHalfReferenceIdeal.S8x512x704) 0 _ _ _ 2 (by exact Nat.lt_of_lt_of_eq (by decide : 2 < 8) rfl) S1x512x704 (val_main_v21 (F := Ideal) x0 x1 x2) (by rfl) rfl 2 (by rfl) (ix3 0 k r) (fun b hb => ?_) (by rfl)) ?_
    · fin_cases b
      · exact absurd rfl hb
      · rfl
      · rfl
    · rw [val_main_v21_apply, val_main_v13_apply]
      refine congrArg (val_main_v10 (F := Ideal) x0 x1 x2) (funext fun a => Fin.ext ?_)
      fin_cases a
      · rfl
      · show 1408 + r.val = 704 * 2 + r.val
        omega
  · refine Eq.trans (concatenate_apply_piece (t := Cert.DwHalfReferenceIdeal.S8x512x704) 0 _ _ _ 3 (by exact Nat.lt_of_lt_of_eq (by decide : 3 < 8) rfl) S1x512x704 (val_main_v22 (F := Ideal) x0 x1 x2) (by rfl) rfl 3 (by rfl) (ix3 0 k r) (fun b hb => ?_) (by rfl)) ?_
    · fin_cases b
      · exact absurd rfl hb
      · rfl
      · rfl
    · rw [val_main_v22_apply, val_main_v14_apply]
      refine congrArg (val_main_v10 (F := Ideal) x0 x1 x2) (funext fun a => Fin.ext ?_)
      fin_cases a
      · rfl
      · show 2112 + r.val = 704 * 3 + r.val
        omega
  · refine Eq.trans (concatenate_apply_piece (t := Cert.DwHalfReferenceIdeal.S8x512x704) 0 _ _ _ 4 (by exact Nat.lt_of_lt_of_eq (by decide : 4 < 8) rfl) S1x512x704 (val_main_v23 (F := Ideal) x0 x1 x2) (by rfl) rfl 4 (by rfl) (ix3 0 k r) (fun b hb => ?_) (by rfl)) ?_
    · fin_cases b
      · exact absurd rfl hb
      · rfl
      · rfl
    · rw [val_main_v23_apply, val_main_v15_apply]
      refine congrArg (val_main_v10 (F := Ideal) x0 x1 x2) (funext fun a => Fin.ext ?_)
      fin_cases a
      · rfl
      · show 2816 + r.val = 704 * 4 + r.val
        omega
  · refine Eq.trans (concatenate_apply_piece (t := Cert.DwHalfReferenceIdeal.S8x512x704) 0 _ _ _ 5 (by exact Nat.lt_of_lt_of_eq (by decide : 5 < 8) rfl) S1x512x704 (val_main_v24 (F := Ideal) x0 x1 x2) (by rfl) rfl 5 (by rfl) (ix3 0 k r) (fun b hb => ?_) (by rfl)) ?_
    · fin_cases b
      · exact absurd rfl hb
      · rfl
      · rfl
    · rw [val_main_v24_apply, val_main_v16_apply]
      refine congrArg (val_main_v10 (F := Ideal) x0 x1 x2) (funext fun a => Fin.ext ?_)
      fin_cases a
      · rfl
      · show 3520 + r.val = 704 * 5 + r.val
        omega
  · refine Eq.trans (concatenate_apply_piece (t := Cert.DwHalfReferenceIdeal.S8x512x704) 0 _ _ _ 6 (by exact Nat.lt_of_lt_of_eq (by decide : 6 < 8) rfl) S1x512x704 (val_main_v25 (F := Ideal) x0 x1 x2) (by rfl) rfl 6 (by rfl) (ix3 0 k r) (fun b hb => ?_) (by rfl)) ?_
    · fin_cases b
      · exact absurd rfl hb
      · rfl
      · rfl
    · rw [val_main_v25_apply, val_main_v17_apply]
      refine congrArg (val_main_v10 (F := Ideal) x0 x1 x2) (funext fun a => Fin.ext ?_)
      fin_cases a
      · rfl
      · show 4224 + r.val = 704 * 6 + r.val
        omega
  · refine Eq.trans (concatenate_apply_piece (t := Cert.DwHalfReferenceIdeal.S8x512x704) 0 _ _ _ 7 (by exact Nat.lt_of_lt_of_eq (by decide : 7 < 8) rfl) S1x512x704 (val_main_v26 (F := Ideal) x0 x1 x2) (by rfl) rfl 7 (by rfl) (ix3 0 k r) (fun b hb => ?_) (by rfl)) ?_
    · fin_cases b
      · exact absurd rfl hb
      · rfl
      · rfl
    · rw [val_main_v26_apply, val_main_v18_apply]
      refine congrArg (val_main_v10 (F := Ideal) x0 x1 x2) (funext fun a => Fin.ext ?_)
      fin_cases a
      · rfl
      · show 4928 + r.val = 704 * 7 + r.val
        omega

open Cert.DwHalfReferenceIdeal.Read in
/-- The reference's two gradients side by side. -/
theorem reference_pair (x1 x2 : Vec Ideal S4096x2816 .bf16) (t : Fin 4096) (q : Fin 5632) :
    val_main_v7 (F := Ideal) x1 x2 (ix2 t q) = (if h : q.val < 2816 then (x1 (ix2 t ⟨q.val, h⟩) : EReal) else (x2 (ix2 t ⟨q.val - 2816, by omega⟩) : EReal)) := by
  unfold val_main_v7
  split_ifs with h
  · exact concatenate_pair_apply_left (t := Cert.DwHalfReferenceIdeal.S4096x5632) (s₁ := S4096x2816) (s₂ := S4096x2816) 1 _ _ _ _ rfl (ix2 t ⟨q.val, h⟩) (fun b => by fin_cases b <;> rfl)
  · refine concatenate_pair_apply_right (t := Cert.DwHalfReferenceIdeal.S4096x5632) (s₁ := S4096x2816) (s₂ := S4096x2816) 1 _ _ _ _ rfl rfl (ix2 t ⟨q.val - 2816, by omega⟩) (fun b hb => ?_) ?_
    · fin_cases b
      · rfl
      · exact absurd rfl hb
    · show q.val - 2816 + 2816 = q.val
      omega

open Cert.DwHalfReferenceIdeal.Read in
/-- The reference's result, entry by entry. -/
theorem reference_entry (x0 : Vec Ideal S4096x512 .bf16) (x1 x2 : Vec Ideal S4096x2816 .bf16) (j : Fin 8) (k : Fin 512) (r : Fin 704) :
    val_main_v27 (F := Ideal) x0 x1 x2 (ix3 j k r) = total x0 x1 x2 j k r := by
  rw [reference_slab, val_main_v10_apply, val_main_v9_apply, Ideal.truncf_def, val_main_v8_apply]
  have hs : ∀ t : Fin 4096, val_main_v7 (F := Ideal) x1 x2 (ix2 t ⟨704 * j.val + r.val, by omega⟩) = _ := fun t => reference_pair x1 x2 t _
  unfold total
  split_ifs with hj
  · refine sum_congr rfl fun t _ => (mul_comm (G := EReal) _ _).trans (congrArg₂ (fun a b : EReal => a * b) (congrArg x0 (funext fun a => by fin_cases a <;> rfl)) ?_)
    refine Eq.trans (congrArg (val_main_v7 (F := Ideal) x1 x2) (funext fun a => by fin_cases a <;> rfl)) ((hs t).trans ?_)
    rw [dif_pos (show 704 * j.val + r.val < 2816 by omega)]
  · refine sum_congr rfl fun t _ => (mul_comm (G := EReal) _ _).trans (congrArg₂ (fun a b : EReal => a * b) (congrArg x0 (funext fun a => by fin_cases a <;> rfl)) ?_)
    refine Eq.trans (congrArg (val_main_v7 (F := Ideal) x1 x2) (funext fun a => by fin_cases a <;> rfl)) ((hs t).trans ?_)
    rw [dif_neg (show ¬ 704 * j.val + r.val < 2816 by omega)]
    refine congrArg (fun q => x2 (ix2 t q)) (Fin.ext ?_)
    show 704 * j.val + r.val - 2816 = 704 * (j.val - 4) + r.val
    omega

/-- The kernel's result is the reference's. -/
theorem value : (dats m 0 c).arrAt 3 cfg0.N
    = Cert.DwHalfReferenceIdeal.Read.val_main_v27 (F := Ideal) (m ((c : Thread nD τ).loc main_arg0)) (m ((c : Thread nD τ).loc main_arg1)) (m ((c : Thread nD τ).loc main_arg2)) :=
  funext fun i => by
    obtain ⟨j, k, r, rfl⟩ : ∃ (j : Fin 8) (k : Fin 512) (r : Fin 704), i = ix3 j k r := ⟨i 0, i 1, i 2, eq_ix3 i⟩
    exact (kernel_entry m c j k r).trans (reference_entry _ _ _ j k r).symm

end Cert.WeightHalf
-- ==== Proof.WeightQkv.lean ====
/- The gradient of the weight of the attention's projections: what the kernel's points store,
   and the sums over the tokens they are. -/
module

public import Idealize.ShloMosaic.Lib.VecWindow
public import Idealize.ShloMosaic.Lib.WholeRead
public import Idealize.ShloMosaic.Lib.Pointwise
public import proofs.«01_k».proof.Proof.Gen.DwQkvIdeal.Value
public import proofs.«01_k».proof.Proof.Gen.DwQkvReferenceIdeal.Read

@[expose] public section

set_option maxRecDepth 16384

noncomputable section

namespace Cert.WeightQkv

open Finset Idealize.ShloMosaic Idealize.SL.Sem Idealize.ShloMosaic.TcCoe Cert.DwQkvIdeal Cert.DwQkvIdeal.Gen Cert.DwQkvIdeal.Value

/-- What a point leaves in its block: the product of its two blocks, added to zero and rounded. -/
theorem point (c : Dev nD) (i : grid0.Coords) (arg2 : Memref sig .tc .vmem S4096x1024 .bf16) (harg2 : arg2.IsWhole)
    (arg3 : Memref sig .tc .vmem S4096x512 .bf16) (harg3 : arg3.IsWhole) (arg4 : Memref sig .tc .vmem S1024x512 .bf16) (harg4 : arg4.IsWhole)
    (arg5 : Memref sig .tc .vmem S1024x512 .f32) (harg5 : arg5.IsWhole) (hc0 : cond0_0 i) (hc1 : cond0_1 i)
    (x0 : Vec Ideal S4096x1024 .bf16) (x1 : Vec Ideal S4096x512 .bf16) :
    out0_A_2 (F := Ideal) c i arg2 harg2 arg3 harg3 arg4 harg4 arg5 harg5 hc0 hc1 x0 x1 = k0_pay3 (k0_pay2 x0 x1 (k0_pay1 (F := Ideal))) := by
  delta out0_A_2 kernelRun0_A
  dsimp only
  refine (View.read_writes_full _ _ _ _ _).trans ?_
  delta kernelRun0_A.sl.v14
  refine congrArg k0_pay3 ?_
  refine (View.readCov_full _ _ _ _ _).trans ?_
  rw [View.readAt_full, View.readAt_full, harg2.read_unread, harg3.read_unread]
  exact congrArg (k0_pay2 x0 x1) (View.readCov_full _ _ _ _ _)

/-- The entries a point leaves in its block: sums over the tokens. -/
theorem entry (x0 : Vec Ideal S4096x1024 .bf16) (x1 : Vec Ideal S4096x512 .bf16) (r : Fin 1024) (d : Fin 512) :
    k0_pay3 (k0_pay2 x0 x1 (k0_pay1 (F := Ideal))) (ix2 r d) = (∑ t : Fin 4096, (x0 (ix2 t r) : EReal) * (x1 (ix2 t d) : EReal) : EReal) := by
  unfold k0_pay3 k0_pay2 k0_pay1
  simp only [pointwise]
  simp only [constant, Ideal.truncf_def, Ideal.addf_def, Ideal.ofBits_def, Ideal.ofBits_zero_f32, zero_add]

variable (m : (ℓ : Loc nD τ sig) → Buf (Elt Ideal) ℓ) (c : Dev nD)

/-- The input of the product. -/
abbrev act : FVec Ideal S4096x1024 .bf16 := m ((c : Thread nD τ).loc main_arg0)

/-- The gradient of the product. -/
abbrev grad : FVec Ideal S4096x1536 .bf16 := m ((c : Thread nD τ).loc main_arg1)

/-- Where the blocks of the grid's points lie. -/
theorem blocks : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (cfg0.win 2).flush t = true :=
  (by decide +kernel : ∀ t : Fin grid0.N, _)

/-- The block of the input at a point. -/
theorem blk_a (t : Fin cfg0.N) (k : Fin 4096) (r : Fin 1024) :
    iblk m c 0 t (ix2 k r) = act m c (ix2 k r) := by
  obtain ⟨⟨e0, e1⟩, -⟩ := blocks t
  show V m c main_arg0 (((cfg0.win 0).blk t).view.emb (ix2 k r)) = _
  rw [V_main_arg0]
  refine congrArg (m ((c : Thread nD τ).loc main_arg0)) (funext fun a => Fin.ext ?_)
  fin_cases a
  · show win0_0.index t (0 : Fin 2) * 4096 + 1 * k.val = k.val
    omega
  · show win0_0.index t (1 : Fin 2) * 1024 + 1 * r.val = r.val
    omega

/-- The block of columns of the gradient of the product at a point. -/
theorem blk_d (t : Fin cfg0.N) (k : Fin 4096) (d : Fin 512) :
    iblk m c 1 t (ix2 k d) = grad m c (ix2 k ⟨512 * t.val + d.val, by have : t.val < 3 := t.isLt; omega⟩) := by
  obtain ⟨-, ⟨e0, e1⟩, -⟩ := blocks t
  show V m c main_arg1 (((cfg0.win 1).blk t).view.emb (ix2 k d)) = _
  rw [V_main_arg1]
  refine congrArg (m ((c : Thread nD τ).loc main_arg1)) (funext fun a => Fin.ext ?_)
  fin_cases a
  · show win0_1.index t (0 : Fin 2) * 4096 + 1 * k.val = k.val
    omega
  · show win0_1.index t (1 : Fin 2) * 512 + 1 * d.val = 512 * t.val + d.val
    omega

/-- The kernel's result, entry by entry. -/
theorem kernel_entry (r : Fin 1024) (q : Fin 1536) :
    (dats m 0 c).arrAt 2 cfg0.N (ix2 r q)
      = (∑ k : Fin 4096, (act m c (ix2 k r) : EReal) * (grad m c (ix2 k q) : EReal) : EReal) := by
  obtain ⟨j, d, rfl⟩ : ∃ (j : Fin 3) (d : Fin 512), q = ⟨512 * j.val + d.val, by omega⟩ :=
    ⟨⟨q.val / 512, by omega⟩, ⟨q.val % 512, by omega⟩, Fin.ext (by show q.val = 512 * (q.val / 512) + q.val % 512; omega)⟩
  obtain ⟨-, -, ⟨e0, e1⟩, hf⟩ := blocks ⟨j.val, j.isLt⟩
  replace e1 : _ = j.val := e1
  have h := congrFun (blocks2 m c ⟨j.val, j.isLt⟩ hf) (ix2 r d)
  rw [flushed2_A, point] at h
  refine Eq.trans (congrArg ((dats m 0 c).arrAt 2 cfg0.N) (funext fun a => Fin.ext ?_)) (h.trans ((entry _ _ r d).trans (sum_congr rfl fun k _ => ?_)))
  · fin_cases a
    · show r.val = win0_2.index _ (0 : Fin 2) * 1024 + 1 * r.val
      omega
    · show 512 * j.val + d.val = win0_2.index _ (1 : Fin 2) * 512 + 1 * d.val
      omega
  · exact congrArg₂ (fun a b : EReal => a * b) (blk_a m c ⟨j.val, j.isLt⟩ k r) (blk_d m c ⟨j.val, j.isLt⟩ k d)

/-- The reference's result, entry by entry. -/
theorem reference_entry (x0 : Vec Ideal S4096x1024 .bf16) (x1 : Vec Ideal S4096x1536 .bf16) (r : Fin 1024) (q : Fin 1536) :
    Cert.DwQkvReferenceIdeal.Read.val_main_v6 (F := Ideal) x0 x1 (ix2 r q)
      = (∑ k : Fin 4096, (x0 (ix2 k r) : EReal) * (x1 (ix2 k q) : EReal) : EReal) := by
  rw [Cert.DwQkvReferenceIdeal.Read.val_main_v6_apply, Cert.DwQkvReferenceIdeal.Read.val_main_v5_apply, Ideal.truncf_def, Cert.DwQkvReferenceIdeal.Read.val_main_v4_apply]
  refine sum_congr rfl fun k _ => (mul_comm (G := EReal) _ _).trans ?_
  exact congrArg₂ (fun a b : EReal => a * b) (congrArg x0 (funext fun a => by fin_cases a <;> rfl)) (congrArg x1 (funext fun a => by fin_cases a <;> rfl))

/-- The kernel's result is the reference's. -/
theorem value : (dats m 0 c).arrAt 2 cfg0.N
    = Cert.DwQkvReferenceIdeal.Read.val_main_v6 (F := Ideal) (m ((c : Thread nD τ).loc main_arg0)) (m ((c : Thread nD τ).loc main_arg1)) :=
  funext fun i => by
    obtain ⟨r, q, rfl⟩ : ∃ (r : Fin 1024) (q : Fin 1536), i = ix2 r q := ⟨i 0, i 1, eq_ix2 i⟩
    exact (kernel_entry m c r q).trans (reference_entry _ _ r q).symm

end Cert.WeightQkv
-- ==== Proof.WeightUv.lean ====
/- The gradient of a square weight taken in two halves of its columns: what the kernel's points store,
   and the sums over the tokens they are. -/
module

public import Idealize.ShloMosaic.Lib.VecWindow
public import Idealize.ShloMosaic.Lib.WholeRead
public import Idealize.ShloMosaic.Lib.Pointwise
public import proofs.«01_k».proof.Proof.Gen.DwUvIdeal.Value
public import proofs.«01_k».proof.Proof.Gen.DwUvReferenceIdeal.Read

@[expose] public section

set_option maxRecDepth 16384

noncomputable section

namespace Cert.WeightUv

open Finset Idealize.ShloMosaic Idealize.SL.Sem Idealize.ShloMosaic.TcCoe Cert.DwUvIdeal Cert.DwUvIdeal.Gen Cert.DwUvIdeal.Value

/-- What a point leaves in its block: the product of its two blocks, added to zero and rounded. -/
theorem point (c : Dev nD) (i : grid0.Coords) (arg2 : Memref sig .tc .vmem S4096x1024 .bf16) (harg2 : arg2.IsWhole)
    (arg3 : Memref sig .tc .vmem S4096x512 .bf16) (harg3 : arg3.IsWhole) (arg4 : Memref sig .tc .vmem S1024x512 .bf16) (harg4 : arg4.IsWhole)
    (arg5 : Memref sig .tc .vmem S1024x512 .f32) (harg5 : arg5.IsWhole) (hc0 : cond0_0 i) (hc1 : cond0_1 i)
    (x0 : Vec Ideal S4096x1024 .bf16) (x1 : Vec Ideal S4096x512 .bf16) :
    out0_A_2 (F := Ideal) c i arg2 harg2 arg3 harg3 arg4 harg4 arg5 harg5 hc0 hc1 x0 x1 = k0_pay3 (k0_pay2 x0 x1 (k0_pay1 (F := Ideal))) := by
  delta out0_A_2 kernelRun0_A
  dsimp only
  refine (View.read_writes_full _ _ _ _ _).trans ?_
  delta kernelRun0_A.sl.v14
  refine congrArg k0_pay3 ?_
  refine (View.readCov_full _ _ _ _ _).trans ?_
  rw [View.readAt_full, View.readAt_full, harg2.read_unread, harg3.read_unread]
  exact congrArg (k0_pay2 x0 x1) (View.readCov_full _ _ _ _ _)

/-- The entries a point leaves in its block: sums over the tokens. -/
theorem entry (x0 : Vec Ideal S4096x1024 .bf16) (x1 : Vec Ideal S4096x512 .bf16) (r : Fin 1024) (d : Fin 512) :
    k0_pay3 (k0_pay2 x0 x1 (k0_pay1 (F := Ideal))) (ix2 r d) = (∑ t : Fin 4096, (x0 (ix2 t r) : EReal) * (x1 (ix2 t d) : EReal) : EReal) := by
  unfold k0_pay3 k0_pay2 k0_pay1
  simp only [pointwise]
  simp only [constant, Ideal.truncf_def, Ideal.addf_def, Ideal.ofBits_def, Ideal.ofBits_zero_f32, zero_add]

variable (m : (ℓ : Loc nD τ sig) → Buf (Elt Ideal) ℓ) (c : Dev nD)

/-- The input of the product. -/
abbrev act : FVec Ideal S4096x1024 .bf16 := m ((c : Thread nD τ).loc main_arg0)

/-- The gradient of the product. -/
abbrev grad : FVec Ideal S4096x1024 .bf16 := m ((c : Thread nD τ).loc main_arg1)

/-- Where the blocks of the grid's points lie. -/
theorem blocks : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (cfg0.win 2).flush t = true :=
  (by decide +kernel : ∀ t : Fin grid0.N, _)

/-- The block of the input at a point. -/
theorem blk_a (t : Fin cfg0.N) (k : Fin 4096) (r : Fin 1024) :
    iblk m c 0 t (ix2 k r) = act m c (ix2 k r) := by
  obtain ⟨⟨e0, e1⟩, -⟩ := blocks t
  show V m c main_arg0 (((cfg0.win 0).blk t).view.emb (ix2 k r)) = _
  rw [V_main_arg0]
  refine congrArg (m ((c : Thread nD τ).loc main_arg0)) (funext fun a => Fin.ext ?_)
  fin_cases a
  · show win0_0.index t (0 : Fin 2) * 4096 + 1 * k.val = k.val
    omega
  · show win0_0.index t (1 : Fin 2) * 1024 + 1 * r.val = r.val
    omega

/-- The block of columns of the gradient of the product at a point. -/
theorem blk_d (t : Fin cfg0.N) (k : Fin 4096) (d : Fin 512) :
    iblk m c 1 t (ix2 k d) = grad m c (ix2 k ⟨512 * t.val + d.val, by have : t.val < 2 := t.isLt; omega⟩) := by
  obtain ⟨-, ⟨e0, e1⟩, -⟩ := blocks t
  show V m c main_arg1 (((cfg0.win 1).blk t).view.emb (ix2 k d)) = _
  rw [V_main_arg1]
  refine congrArg (m ((c : Thread nD τ).loc main_arg1)) (funext fun a => Fin.ext ?_)
  fin_cases a
  · show win0_1.index t (0 : Fin 2) * 4096 + 1 * k.val = k.val
    omega
  · show win0_1.index t (1 : Fin 2) * 512 + 1 * d.val = 512 * t.val + d.val
    omega

/-- The kernel's result, entry by entry. -/
theorem kernel_entry (r : Fin 1024) (q : Fin 1024) :
    (dats m 0 c).arrAt 2 cfg0.N (ix2 r q)
      = (∑ k : Fin 4096, (act m c (ix2 k r) : EReal) * (grad m c (ix2 k q) : EReal) : EReal) := by
  obtain ⟨j, d, rfl⟩ : ∃ (j : Fin 2) (d : Fin 512), q = ⟨512 * j.val + d.val, by omega⟩ :=
    ⟨⟨q.val / 512, by omega⟩, ⟨q.val % 512, by omega⟩, Fin.ext (by show q.val = 512 * (q.val / 512) + q.val % 512; omega)⟩
  obtain ⟨-, -, ⟨e0, e1⟩, hf⟩ := blocks ⟨j.val, j.isLt⟩
  replace e1 : _ = j.val := e1
  have h := congrFun (blocks2 m c ⟨j.val, j.isLt⟩ hf) (ix2 r d)
  rw [flushed2_A, point] at h
  refine Eq.trans (congrArg ((dats m 0 c).arrAt 2 cfg0.N) (funext fun a => Fin.ext ?_)) (h.trans ((entry _ _ r d).trans (sum_congr rfl fun k _ => ?_)))
  · fin_cases a
    · show r.val = win0_2.index _ (0 : Fin 2) * 1024 + 1 * r.val
      omega
    · show 512 * j.val + d.val = win0_2.index _ (1 : Fin 2) * 512 + 1 * d.val
      omega
  · exact congrArg₂ (fun a b : EReal => a * b) (blk_a m c ⟨j.val, j.isLt⟩ k r) (blk_d m c ⟨j.val, j.isLt⟩ k d)

/-- The reference's result, entry by entry. -/
theorem reference_entry (x0 : Vec Ideal S4096x1024 .bf16) (x1 : Vec Ideal S4096x1024 .bf16) (r : Fin 1024) (q : Fin 1024) :
    Cert.DwUvReferenceIdeal.Read.val_main_v6 (F := Ideal) x0 x1 (ix2 r q)
      = (∑ k : Fin 4096, (x0 (ix2 k r) : EReal) * (x1 (ix2 k q) : EReal) : EReal) := by
  rw [Cert.DwUvReferenceIdeal.Read.val_main_v6_apply, Cert.DwUvReferenceIdeal.Read.val_main_v5_apply, Ideal.truncf_def, Cert.DwUvReferenceIdeal.Read.val_main_v4_apply]
  refine sum_congr rfl fun k _ => (mul_comm (G := EReal) _ _).trans ?_
  exact congrArg₂ (fun a b : EReal => a * b) (congrArg x0 (funext fun a => by fin_cases a <;> rfl)) (congrArg x1 (funext fun a => by fin_cases a <;> rfl))

/-- The kernel's result is the reference's. -/
theorem value : (dats m 0 c).arrAt 2 cfg0.N
    = Cert.DwUvReferenceIdeal.Read.val_main_v6 (F := Ideal) (m ((c : Thread nD τ).loc main_arg0)) (m ((c : Thread nD τ).loc main_arg1)) :=
  funext fun i => by
    obtain ⟨r, q, rfl⟩ : ∃ (r : Fin 1024) (q : Fin 1024), i = ix2 r q := ⟨i 0, i 1, eq_ix2 i⟩
    exact (kernel_entry m c r q).trans (reference_entry _ _ r q).symm

end Cert.WeightUv
-- ==== Proof.WeightMix.lean ====
/- The gradient of half of the rows of the mixer's output weight: what the kernel's points store,
   and the sums over the tokens they are. -/
module

public import Idealize.ShloMosaic.Lib.VecWindow
public import Idealize.ShloMosaic.Lib.WholeRead
public import Idealize.ShloMosaic.Lib.Pointwise
public import proofs.«01_k».proof.Proof.Gen.DwMixOutIdeal.Value
public import proofs.«01_k».proof.Proof.Gen.DwMixOutReferenceIdeal.Read

@[expose] public section

set_option maxRecDepth 16384

noncomputable section

namespace Cert.WeightMix

open Finset Idealize.ShloMosaic Idealize.SL.Sem Idealize.ShloMosaic.TcCoe Cert.DwMixOutIdeal Cert.DwMixOutIdeal.Gen Cert.DwMixOutIdeal.Value

/-- What a point leaves in its block: the product of its two blocks, added to zero and rounded. -/
theorem point (c : Dev nD) (i : grid0.Coords) (arg2 : Memref sig .tc .vmem S4096x512 .bf16) (harg2 : arg2.IsWhole)
    (arg3 : Memref sig .tc .vmem S4096x1024 .bf16) (harg3 : arg3.IsWhole) (arg4 : Memref sig .tc .vmem S512x1024 .bf16) (harg4 : arg4.IsWhole)
    (arg5 : Memref sig .tc .vmem S512x1024 .f32) (harg5 : arg5.IsWhole) (hc0 : cond0_0 i) (hc1 : cond0_1 i)
    (x0 : Vec Ideal S4096x512 .bf16) (x1 : Vec Ideal S4096x1024 .bf16) :
    out0_A_2 (F := Ideal) c i arg2 harg2 arg3 harg3 arg4 harg4 arg5 harg5 hc0 hc1 x0 x1 = k0_pay3 (k0_pay2 x0 x1 (k0_pay1 (F := Ideal))) := by
  delta out0_A_2 kernelRun0_A
  dsimp only
  refine (View.read_writes_full _ _ _ _ _).trans ?_
  delta kernelRun0_A.sl.v14
  refine congrArg k0_pay3 ?_
  refine (View.readCov_full _ _ _ _ _).trans ?_
  rw [View.readAt_full, View.readAt_full, harg2.read_unread, harg3.read_unread]
  exact congrArg (k0_pay2 x0 x1) (View.readCov_full _ _ _ _ _)

/-- The entries a point leaves in its block: sums over the tokens. -/
theorem entry (x0 : Vec Ideal S4096x512 .bf16) (x1 : Vec Ideal S4096x1024 .bf16) (r : Fin 512) (d : Fin 1024) :
    k0_pay3 (k0_pay2 x0 x1 (k0_pay1 (F := Ideal))) (ix2 r d) = (∑ t : Fin 4096, (x0 (ix2 t r) : EReal) * (x1 (ix2 t d) : EReal) : EReal) := by
  unfold k0_pay3 k0_pay2 k0_pay1
  simp only [pointwise]
  simp only [constant, Ideal.truncf_def, Ideal.addf_def, Ideal.ofBits_def, Ideal.ofBits_zero_f32, zero_add]

variable (m : (ℓ : Loc nD τ sig) → Buf (Elt Ideal) ℓ) (c : Dev nD)

/-- The input of the product. -/
abbrev act : FVec Ideal S4096x512 .bf16 := m ((c : Thread nD τ).loc main_arg0)

/-- The gradient of the product. -/
abbrev grad : FVec Ideal S4096x1024 .bf16 := m ((c : Thread nD τ).loc main_arg1)

/-- Where the blocks of the grid's points lie. -/
theorem blocks : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (cfg0.win 2).flush t = true :=
  (by decide +kernel : ∀ t : Fin grid0.N, _)

/-- The block of the input at a point. -/
theorem blk_a (t : Fin cfg0.N) (k : Fin 4096) (r : Fin 512) :
    iblk m c 0 t (ix2 k r) = act m c (ix2 k r) := by
  obtain ⟨⟨e0, e1⟩, -⟩ := blocks t
  show V m c main_arg0 (((cfg0.win 0).blk t).view.emb (ix2 k r)) = _
  rw [V_main_arg0]
  refine congrArg (m ((c : Thread nD τ).loc main_arg0)) (funext fun a => Fin.ext ?_)
  fin_cases a
  · show win0_0.index t (0 : Fin 2) * 4096 + 1 * k.val = k.val
    omega
  · show win0_0.index t (1 : Fin 2) * 512 + 1 * r.val = r.val
    omega

/-- The block of columns of the gradient of the product at a point. -/
theorem blk_d (t : Fin cfg0.N) (k : Fin 4096) (d : Fin 1024) :
    iblk m c 1 t (ix2 k d) = grad m c (ix2 k ⟨1024 * t.val + d.val, by have : t.val < 1 := t.isLt; omega⟩) := by
  obtain ⟨-, ⟨e0, e1⟩, -⟩ := blocks t
  show V m c main_arg1 (((cfg0.win 1).blk t).view.emb (ix2 k d)) = _
  rw [V_main_arg1]
  refine congrArg (m ((c : Thread nD τ).loc main_arg1)) (funext fun a => Fin.ext ?_)
  fin_cases a
  · show win0_1.index t (0 : Fin 2) * 4096 + 1 * k.val = k.val
    omega
  · show win0_1.index t (1 : Fin 2) * 1024 + 1 * d.val = 1024 * t.val + d.val
    omega

/-- The kernel's result, entry by entry. -/
theorem kernel_entry (r : Fin 512) (q : Fin 1024) :
    (dats m 0 c).arrAt 2 cfg0.N (ix2 r q)
      = (∑ k : Fin 4096, (act m c (ix2 k r) : EReal) * (grad m c (ix2 k q) : EReal) : EReal) := by
  obtain ⟨j, d, rfl⟩ : ∃ (j : Fin 1) (d : Fin 1024), q = ⟨1024 * j.val + d.val, by omega⟩ :=
    ⟨⟨q.val / 1024, by omega⟩, ⟨q.val % 1024, by omega⟩, Fin.ext (by show q.val = 1024 * (q.val / 1024) + q.val % 1024; omega)⟩
  obtain ⟨-, -, ⟨e0, e1⟩, hf⟩ := blocks ⟨j.val, j.isLt⟩
  replace e1 : _ = j.val := e1
  have h := congrFun (blocks2 m c ⟨j.val, j.isLt⟩ hf) (ix2 r d)
  rw [flushed2_A, point] at h
  refine Eq.trans (congrArg ((dats m 0 c).arrAt 2 cfg0.N) (funext fun a => Fin.ext ?_)) (h.trans ((entry _ _ r d).trans (sum_congr rfl fun k _ => ?_)))
  · fin_cases a
    · show r.val = win0_2.index _ (0 : Fin 2) * 512 + 1 * r.val
      omega
    · show 1024 * j.val + d.val = win0_2.index _ (1 : Fin 2) * 1024 + 1 * d.val
      omega
  · exact congrArg₂ (fun a b : EReal => a * b) (blk_a m c ⟨j.val, j.isLt⟩ k r) (blk_d m c ⟨j.val, j.isLt⟩ k d)

/-- The reference's result, entry by entry. -/
theorem reference_entry (x0 : Vec Ideal S4096x512 .bf16) (x1 : Vec Ideal S4096x1024 .bf16) (r : Fin 512) (q : Fin 1024) :
    Cert.DwMixOutReferenceIdeal.Read.val_main_v6 (F := Ideal) x0 x1 (ix2 r q)
      = (∑ k : Fin 4096, (x0 (ix2 k r) : EReal) * (x1 (ix2 k q) : EReal) : EReal) := by
  rw [Cert.DwMixOutReferenceIdeal.Read.val_main_v6_apply, Cert.DwMixOutReferenceIdeal.Read.val_main_v5_apply, Ideal.truncf_def, Cert.DwMixOutReferenceIdeal.Read.val_main_v4_apply]
  refine sum_congr rfl fun k _ => (mul_comm (G := EReal) _ _).trans ?_
  exact congrArg₂ (fun a b : EReal => a * b) (congrArg x0 (funext fun a => by fin_cases a <;> rfl)) (congrArg x1 (funext fun a => by fin_cases a <;> rfl))

/-- The kernel's result is the reference's. -/
theorem value : (dats m 0 c).arrAt 2 cfg0.N
    = Cert.DwMixOutReferenceIdeal.Read.val_main_v6 (F := Ideal) (m ((c : Thread nD τ).loc main_arg0)) (m ((c : Thread nD τ).loc main_arg1)) :=
  funext fun i => by
    obtain ⟨r, q, rfl⟩ : ∃ (r : Fin 512) (q : Fin 1024), i = ix2 r q := ⟨i 0, i 1, eq_ix2 i⟩
    exact (kernel_entry m c r q).trans (reference_entry _ _ r q).symm

end Cert.WeightMix
-- ==== Proof.MixOutValue.lean ====
/- The gradient through the mixer's output projection: what the kernel's points store, and the rows of the
   product with the transposed weight they are. -/
module

public import Idealize.ShloMosaic.Lib.VecWindow
public import Idealize.ShloMosaic.Lib.WholeRead
public import Idealize.ShloMosaic.Lib.Pointwise
public import proofs.«01_k».proof.Proof.Gen.MixOutIdeal.Value
public import proofs.«01_k».proof.Proof.Gen.MixOutReferenceIdeal.Read

@[expose] public section

set_option maxRecDepth 16384

noncomputable section

namespace Cert.MixOutValue

open Finset Idealize.ShloMosaic Idealize.SL.Sem Idealize.ShloMosaic.TcCoe Cert.MixOutIdeal Cert.MixOutIdeal.Gen Cert.MixOutIdeal.Value

/-- One store over a whole block of half a row is the block. -/
theorem canon_half (p : Vec Ideal S512x512 .f32) (r : Fin 512) (k : Fin 512) : View.canon (Val := Elt Ideal) [⟨r0_2, p⟩] (ix2 r k) = p (ix2 r k) := by
  refine Eq.trans (congrArg _ (funext fun a => Fin.ext ?_)) (View.canon_cons_emb (Val := Elt Ideal) r0_2 p [] (ix2 r k))
  fin_cases a
  · show r.val = 0 + 1 * r.val
    omega
  · show k.val = 0 + 1 * k.val
    omega

/-- And over a whole block of rows. -/
theorem canon_whole (p : Vec Ideal S512x1024 .bf16) (r : Fin 512) (k : Fin 1024) : View.canon (Val := Elt Ideal) [⟨r0_0, p⟩] (ix2 r k) = p (ix2 r k) := by
  refine Eq.trans (congrArg _ (funext fun a => Fin.ext ?_)) (View.canon_cons_emb (Val := Elt Ideal) r0_0 p [] (ix2 r k))
  fin_cases a
  · show r.val = 0 + 1 * r.val
    omega
  · show k.val = 0 + 1 * k.val
    omega

/-- A point's first result: the block's rows against the first rows of the weight. -/
theorem out_gm (x0 : Vec Ideal S512x1024 .f32) (x1 : Vec Ideal S1024x1024 .bf16) (r k : Fin 512) :
    out0_2 (F := Ideal) x0 x1 (ix2 r k) = (∑ d : Fin 1024, (x0 (ix2 r d) : EReal) * (x1 (ix2 ⟨k.val, by omega⟩ d) : EReal) : EReal) := by
  unfold out0_2
  refine (canon_half _ r k).trans ?_
  unfold k0_pay2 k0_pay1
  simp only [pointwise]
  simp only [constant, Ideal.truncf_def, Ideal.ofBits_def, Ideal.ofBits_zero_f32, zero_add]
  refine sum_congr rfl fun d _ => congrArg₂ (fun a b : EReal => a * b) (congrArg x0 (funext fun a => Fin.ext ?_)) (congrArg x1 (funext fun a => Fin.ext ?_))
  · fin_cases a
    · show 0 + 1 * r.val = r.val
      omega
    · show 0 + 1 * d.val = d.val
      omega
  · fin_cases a
    · show 0 + 1 * k.val = k.val
      omega
    · show 0 + 1 * d.val = d.val
      omega

/-- A point's second result: the block's rows against the last rows of the weight. -/
theorem out_sb (x0 : Vec Ideal S512x1024 .f32) (x1 : Vec Ideal S1024x1024 .bf16) (r k : Fin 512) :
    out0_3 (F := Ideal) x0 x1 (ix2 r k) = (∑ d : Fin 1024, (x0 (ix2 r d) : EReal) * (x1 (ix2 ⟨512 + k.val, by omega⟩ d) : EReal) : EReal) := by
  unfold out0_3
  refine (canon_half _ r k).trans ?_
  unfold k0_pay3 k0_pay1
  simp only [pointwise]
  simp only [constant, Ideal.truncf_def, Ideal.ofBits_def, Ideal.ofBits_zero_f32, zero_add]
  refine sum_congr rfl fun d _ => congrArg₂ (fun a b : EReal => a * b) (congrArg x0 (funext fun a => Fin.ext ?_)) (congrArg x1 (funext fun a => Fin.ext ?_))
  · fin_cases a
    · show 0 + 1 * r.val = r.val
      omega
    · show 0 + 1 * d.val = d.val
      omega
  · fin_cases a
    · show 512 + 1 * k.val = 512 + k.val
      omega
    · show 0 + 1 * d.val = d.val
      omega

/-- A point's third result: the block itself, rounded. -/
theorem out_dh (x0 : Vec Ideal S512x1024 .f32) (x1 : Vec Ideal S1024x1024 .bf16) (r : Fin 512) (k : Fin 1024) :
    out0_4 (F := Ideal) x0 x1 (ix2 r k) = (x0 (ix2 r k) : EReal) := by
  unfold out0_4
  refine (canon_whole _ r k).trans ?_
  unfold k0_pay1
  simp only [pointwise]
  refine congrArg x0 (funext fun a => Fin.ext ?_)
  fin_cases a
  · show 0 + 1 * r.val = r.val
    omega
  · show 0 + 1 * k.val = k.val
    omega

variable (m : (ℓ : Loc nD τ sig) → Buf (Elt Ideal) ℓ) (c : Dev nD)

/-- The gradient of the mixer's result. -/
abbrev dh : FVec Ideal S4096x1024 .f32 := m ((c : Thread nD τ).loc main_arg0)

/-- The output weight. -/
abbrev wgt : FVec Ideal S1024x1024 .f32 := m ((c : Thread nD τ).loc main_arg1)

/-- The rounded weight has the weight's entries. -/
theorem rounded (k d : Fin 1024) : V m c main_v0 (ix2 k d) = (wgt m c (ix2 k d) : EReal) := by
  unfold V
  simp only [hostOps0, List.flatten_cons, List.flatten_nil, List.append_nil, List.cons_append,
      List.nil_append, cast_eq]
  after_results_simp
  rfl

/-- Where the blocks of the grid's points lie. -/
theorem blocks : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (cfg0.win 2).flush t = true ∧ (cfg0.win 3).flush t = true ∧ (cfg0.win 4).flush t = true :=
  (by decide +kernel : ∀ t : Fin grid0.N, _)

/-- A row of a point's block. -/
abbrev rowOf (j : Fin 8) (r : Fin 512) : Fin 4096 := ⟨512 * j.val + r.val, by omega⟩

/-- Every row is one. -/
theorem row_exists (t : Fin 4096) : ∃ (j : Fin 8) (r : Fin 512), t = rowOf j r :=
  ⟨⟨t.val / 512, by omega⟩, ⟨t.val % 512, by omega⟩, Fin.ext (by show t.val = 512 * (t.val / 512) + t.val % 512; omega)⟩

/-- The block of rows at a point. -/
theorem blk_dh (j : Fin 8) (r : Fin 512) (d : Fin 1024) : iblk m c 0 ⟨j.val, j.isLt⟩ (ix2 r d) = dh m c (ix2 (rowOf j r) d) := by
  obtain ⟨⟨e0, e1⟩, -⟩ := blocks ⟨j.val, j.isLt⟩
  replace e0 : _ = j.val := e0
  show V m c main_arg0 (((cfg0.win 0).blk ⟨j.val, j.isLt⟩).view.emb (ix2 r d)) = _
  rw [V_main_arg0]
  refine congrArg (m ((c : Thread nD τ).loc main_arg0)) (funext fun a => Fin.ext ?_)
  fin_cases a
  · show win0_0.index _ (0 : Fin 2) * 512 + 1 * r.val = 512 * j.val + r.val
    omega
  · show win0_0.index _ (1 : Fin 2) * 1024 + 1 * d.val = d.val
    omega

/-- The weight at a point. -/
theorem blk_w (j : Fin 8) (k d : Fin 1024) : iblk m c 1 ⟨j.val, j.isLt⟩ (ix2 k d) = (wgt m c (ix2 k d) : EReal) := by
  obtain ⟨-, ⟨e0, e1⟩, -⟩ := blocks ⟨j.val, j.isLt⟩
  show V m c main_v0 (((cfg0.win 1).blk ⟨j.val, j.isLt⟩).view.emb (ix2 k d)) = _
  refine Eq.trans (congrArg (V m c main_v0) (funext fun a => Fin.ext ?_)) (rounded m c k d)
  fin_cases a
  · show win0_1.index _ (0 : Fin 2) * 1024 + 1 * k.val = k.val
    omega
  · show win0_1.index _ (1 : Fin 2) * 1024 + 1 * d.val = d.val
    omega

/-- The kernel's first result, entry by entry. -/
theorem kernel_gm (j : Fin 8) (r k : Fin 512) :
    (dats m 0 c).arrAt 2 cfg0.N (ix2 (rowOf j r) k)
      = (∑ d : Fin 1024, (dh m c (ix2 (rowOf j r) d) : EReal) * (wgt m c (ix2 ⟨k.val, by omega⟩ d) : EReal) : EReal) := by
  obtain ⟨-, -, ⟨e0, e1⟩, -, -, hf, -, -⟩ := blocks ⟨j.val, j.isLt⟩
  replace e0 : _ = j.val := e0
  have h := congrFun (blocks2 m c ⟨j.val, j.isLt⟩ hf) (ix2 r k)
  rw [flushed2] at h
  refine Eq.trans (congrArg ((dats m 0 c).arrAt 2 cfg0.N) (funext fun a => Fin.ext ?_)) (h.trans ((out_gm _ _ r k).trans (sum_congr rfl fun d _ => ?_)))
  · fin_cases a
    · show 512 * j.val + r.val = win0_2.index _ (0 : Fin 2) * 512 + 1 * r.val
      omega
    · show k.val = win0_2.index _ (1 : Fin 2) * 512 + 1 * k.val
      omega
  · exact congrArg₂ (fun a b : EReal => a * b) (blk_dh m c j r d) (blk_w m c j _ d)

/-- The kernel's second result, entry by entry. -/
theorem kernel_sb (j : Fin 8) (r k : Fin 512) :
    (dats m 0 c).arrAt 3 cfg0.N (ix2 (rowOf j r) k)
      = (∑ d : Fin 1024, (dh m c (ix2 (rowOf j r) d) : EReal) * (wgt m c (ix2 ⟨512 + k.val, by omega⟩ d) : EReal) : EReal) := by
  obtain ⟨-, -, -, ⟨e0, e1⟩, -, -, hf, -⟩ := blocks ⟨j.val, j.isLt⟩
  replace e0 : _ = j.val := e0
  have h := congrFun (blocks3 m c ⟨j.val, j.isLt⟩ hf) (ix2 r k)
  rw [flushed3] at h
  refine Eq.trans (congrArg ((dats m 0 c).arrAt 3 cfg0.N) (funext fun a => Fin.ext ?_)) (h.trans ((out_sb _ _ r k).trans (sum_congr rfl fun d _ => ?_)))
  · fin_cases a
    · show 512 * j.val + r.val = win0_3.index _ (0 : Fin 2) * 512 + 1 * r.val
      omega
    · show k.val = win0_3.index _ (1 : Fin 2) * 512 + 1 * k.val
      omega
  · exact congrArg₂ (fun a b : EReal => a * b) (blk_dh m c j r d) (blk_w m c j _ d)

/-- The kernel's third result, entry by entry. -/
theorem kernel_dh (j : Fin 8) (r : Fin 512) (k : Fin 1024) :
    (dats m 0 c).arrAt 4 cfg0.N (ix2 (rowOf j r) k) = (dh m c (ix2 (rowOf j r) k) : EReal) := by
  obtain ⟨-, -, -, -, ⟨e0, e1⟩, -, -, hf⟩ := blocks ⟨j.val, j.isLt⟩
  replace e0 : _ = j.val := e0
  have h := congrFun (blocks4 m c ⟨j.val, j.isLt⟩ hf) (ix2 r k)
  rw [flushed4] at h
  refine Eq.trans (congrArg ((dats m 0 c).arrAt 4 cfg0.N) (funext fun a => Fin.ext ?_)) (h.trans ((out_dh _ _ r k).trans (blk_dh m c j r k)))
  fin_cases a
  · show 512 * j.val + r.val = win0_4.index _ (0 : Fin 2) * 512 + 1 * r.val
    omega
  · show k.val = win0_4.index _ (1 : Fin 2) * 1024 + 1 * k.val
    omega

/-- The reference's product with the transposed weight, entry by entry. -/
theorem ref_product (x0 : Vec Ideal S4096x1024 .f32) (x1 : Vec Ideal S1024x1024 .f32) (t : Fin 4096) (k : Fin 1024) :
    Cert.MixOutReferenceIdeal.Read.val_main_v3 (F := Ideal) x0 x1 (ix2 t k)
      = (∑ d : Fin 1024, (x0 (ix2 t d) : EReal) * (x1 (ix2 k d) : EReal) : EReal) := by
  rw [Cert.MixOutReferenceIdeal.Read.val_main_v3_apply]
  refine sum_congr rfl fun d _ => ?_
  exact congrArg₂ (fun a b : EReal => a * b) (congrArg x0 (funext fun a => by fin_cases a <;> rfl)) (congrArg x1 (funext fun a => by fin_cases a <;> rfl))

/-- The kernel's first result is the reference's. -/
theorem value_gm : (dats m 0 c).arrAt 2 cfg0.N = Cert.MixOutReferenceIdeal.Read.val_main_v4 (F := Ideal) (dh m c) (wgt m c) :=
  funext fun i => by
    obtain ⟨t, k, rfl⟩ : ∃ (t : Fin 4096) (k : Fin 512), i = ix2 t k := ⟨i 0, i 1, eq_ix2 i⟩
    obtain ⟨j, r, rfl⟩ := row_exists t
    refine (kernel_gm m c j r k).trans ((ref_product (dh m c) (wgt m c) (rowOf j r) ⟨k.val, by omega⟩).symm.trans ?_)
    rw [Cert.MixOutReferenceIdeal.Read.val_main_v4_apply]
    exact congrArg (Cert.MixOutReferenceIdeal.Read.val_main_v3 (F := Ideal) (dh m c) (wgt m c)) (funext fun a => by fin_cases a <;> rfl)

/-- Its second is the reference's. -/
theorem value_sb : (dats m 0 c).arrAt 3 cfg0.N = Cert.MixOutReferenceIdeal.Read.val_main_v5 (F := Ideal) (dh m c) (wgt m c) :=
  funext fun i => by
    obtain ⟨t, k, rfl⟩ : ∃ (t : Fin 4096) (k : Fin 512), i = ix2 t k := ⟨i 0, i 1, eq_ix2 i⟩
    obtain ⟨j, r, rfl⟩ := row_exists t
    refine (kernel_sb m c j r k).trans ((ref_product (dh m c) (wgt m c) (rowOf j r) ⟨512 + k.val, by omega⟩).symm.trans ?_)
    rw [Cert.MixOutReferenceIdeal.Read.val_main_v5_apply]
    exact congrArg (Cert.MixOutReferenceIdeal.Read.val_main_v3 (F := Ideal) (dh m c) (wgt m c)) (funext fun a => by fin_cases a <;> rfl)

/-- Its third is the reference's. -/
theorem value_dh : (dats m 0 c).arrAt 4 cfg0.N = Cert.MixOutReferenceIdeal.Read.val_main_v6 (F := Ideal) (dh m c) :=
  funext fun i => by
    obtain ⟨t, k, rfl⟩ : ∃ (t : Fin 4096) (k : Fin 1024), i = ix2 t k := ⟨i 0, i 1, eq_ix2 i⟩
    obtain ⟨j, r, rfl⟩ := row_exists t
    exact kernel_dh m c j r k

end Cert.MixOutValue
-- ==== Proof.MixInPoints.lean ====
/- The gradient of the mixer's input and of its gain: what a point of the kernel leaves, from its blocks. -/
module

public import Idealize.ShloMosaic.Lib.VecWindow
public import Idealize.ShloMosaic.Lib.WholeRead
public import Idealize.ShloMosaic.Lib.Pointwise
public import proofs.«01_k».proof.Proof.InputNorm
public import proofs.«01_k».proof.Proof.Gen.MixInIdeal.Value

@[expose] public section

set_option maxRecDepth 16384

noncomputable section

namespace Cert.MixInPoints

open Finset Idealize.ShloMosaic Idealize.SL.Sem Idealize.ShloMosaic.TcCoe Cert.MixInIdeal Cert.MixInIdeal.Gen Cert.MixInIdeal.Value Cert.InputNorm

/-- A column spread over the columns of a block. -/
theorem col (u : FVec Ideal S512x1 .f32) : broadcastTo S512x1024 u broadcasts_S512x1_S512x1024 = fun j => u (ix2 (j 0) 0) := by
  funext j
  obtain ⟨r, k, rfl⟩ : ∃ (r : Fin 512) (k : Fin 1024), j = ix2 r k := ⟨j 0, j 1, eq_ix2 j⟩
  refine congrArg u (funext fun a => ?_)
  fin_cases a <;> rfl

/-- A row spread over the rows of a block. -/
theorem rowb (u : FVec Ideal S1x1024 .f32) : broadcastTo S512x1024 u broadcasts_S1x1024_S512x1024 = fun j => u (ix2 0 (j 1)) := by
  funext j
  obtain ⟨r, k, rfl⟩ : ∃ (r : Fin 512) (k : Fin 1024), j = ix2 r k := ⟨j 0, j 1, eq_ix2 j⟩
  refine congrArg u (funext fun a => ?_)
  fin_cases a <;> rfl

/-- An index's row. -/
theorem ix2_row (r : Fin 512) (k : Fin 1024) : (ix2 r k : S512x1024.Idx) 0 = r := rfl

/-- An index's column. -/
theorem ix2_col (r : Fin 512) (k : Fin 1024) : (ix2 r k : S512x1024.Idx) 1 = k := rfl

/-- The columns of the weight the two gates' gradients meet. -/
abbrev colsUv (w : Vec Ideal S1024x2560 .bf16) : Vec Ideal S1024x1024 .bf16 :=
  View.ld w (Rect.unit (s := S1024x2560) ![0, 0] S1024x1024.size inb_S1024x2560_S1024x1024_0_0)

/-- The columns the attention's gradients meet. -/
abbrev colsQkv (w : Vec Ideal S1024x2560 .bf16) : Vec Ideal S1024x1536 .bf16 :=
  View.ld w (Rect.unit (s := S1024x2560) ![0, 1024] S1024x1536.size inb_S1024x2560_S1024x1536_0_1024)

/-- The gradient of a row's normed input: two sums over the weight's columns. -/
def normedBlk (a : Vec Ideal S512x1024 .bf16) (b : Vec Ideal S512x1536 .bf16) (w : Vec Ideal S1024x2560 .bf16) (r : Fin 512) (k : Fin 1024) : EReal :=
  ((∑ d : Fin 1024, (a (ix2 r d) : EReal) * (w (ix2 k ⟨d.val, by omega⟩) : EReal)) + ∑ d : Fin 1536, (b (ix2 r d) : EReal) * (w (ix2 k ⟨1024 + d.val, by omega⟩) : EReal) : EReal)

/-- It is the kernel's sum of two products. -/
theorem pay5_entry (a : Vec Ideal S512x1024 .bf16) (b : Vec Ideal S512x1536 .bf16) (w : Vec Ideal S1024x2560 .bf16) (r : Fin 512) (k : Fin 1024) :
    k0_pay5 a (colsUv w) b (colsQkv w) (ix2 r k) = normedBlk a b w r k := by
  unfold k0_pay5
  simp only [pointwise]
  simp only [constant, Ideal.addf_def, Ideal.ofBits_def, Ideal.ofBits_zero_f32, zero_add]
  unfold normedBlk
  refine congrArg₂ (fun x y : EReal => x + y) (sum_congr rfl fun d _ => congrArg (fun z : EReal => (a (ix2 r d) : EReal) * z) (congrArg w (funext fun e => Fin.ext ?_)))
    (sum_congr rfl fun d _ => congrArg (fun z : EReal => (b (ix2 r d) : EReal) * z) (congrArg w (funext fun e => Fin.ext ?_)))
  · fin_cases e
    · show 0 + 1 * k.val = k.val
      omega
    · show 0 + 1 * d.val = d.val
      omega
  · fin_cases e
    · show 0 + 1 * k.val = k.val
      omega
    · show 1024 + 1 * d.val = 1024 + d.val
      omega

/-- The reciprocal root of a row, in the kernel's column of roots. -/
theorem pay6_entry (v : Vec Ideal S512x1024 .f32) (r : Fin 512) : k0_pay6 v (ix2 r 0) = root fun l => v (ix2 r l) := by
  unfold k0_pay6
  simp only [pointwise]
  unfold root denom
  simp only [zero_add]

/-- The scaled row. -/
theorem pay7_entry (v : Vec Ideal S512x1024 .f32) (r : Fin 512) (k : Fin 1024) : k0_pay7 v (ix2 r k) = (v (ix2 r k) * root (fun l => v (ix2 r l)) : EReal) := by
  unfold k0_pay7
  simp only [col]
  simp only [pointwise]
  exact congrArg (fun z : EReal => v (ix2 r k) * z) (pay6_entry v r)

/-- The finished entry: the gradient of the mixer's input. -/
def inputBlk (a : Vec Ideal S512x1024 .bf16) (b : Vec Ideal S512x1536 .bf16) (w : Vec Ideal S1024x2560 .bf16) (x : Vec Ideal S512x1024 .f32) (g : Vec Ideal S1x1024 .f32)
    (h : Vec Ideal S512x1024 .f32) (r : Fin 512) (k : Fin 1024) : EReal :=
  (h (ix2 r k) + root (fun l => x (ix2 r l)) * (normedBlk a b w r k * g (ix2 0 k) - x (ix2 r k) * root (fun l => x (ix2 r l))
      * Ideal.div (∑ l, normedBlk a b w r l * g (ix2 0 l) * (x (ix2 r l) * root (fun l => x (ix2 r l)))) (Ideal.ofBits .f32 0x44800000#32)) : EReal)

/-- It is the kernel's. -/
theorem pay1_entry (a : Vec Ideal S512x1024 .bf16) (b : Vec Ideal S512x1536 .bf16) (w : Vec Ideal S1024x2560 .bf16) (x : Vec Ideal S512x1024 .f32) (g : Vec Ideal S1x1024 .f32)
    (h : Vec Ideal S512x1024 .f32) (r : Fin 512) (k : Fin 1024) :
    k0_pay1 (k0_pay8 a (colsUv w) b (colsQkv w) x g) h (ix2 r k) = inputBlk a b w x g h r k := by
  unfold k0_pay1 k0_pay8
  simp only [col, rowb]
  simp only [pointwise, ix2_row, ix2_col, pay5_entry, pay6_entry, pay7_entry]
  unfold inputBlk
  simp only [zero_add]

/-- Half of it, rounded. -/
theorem pay2_entry (a : Vec Ideal S512x1024 .bf16) (b : Vec Ideal S512x1536 .bf16) (w : Vec Ideal S1024x2560 .bf16) (x : Vec Ideal S512x1024 .f32) (g : Vec Ideal S1x1024 .f32)
    (h : Vec Ideal S512x1024 .f32) (r : Fin 512) (k : Fin 1024) :
    k0_pay2 (k0_pay8 a (colsUv w) b (colsQkv w) x g) h (ix2 r k) = (Ideal.ofBits .f32 0x3F000000#32 * inputBlk a b w x g h r k : EReal) := by
  unfold k0_pay2
  simp only [pointwise]
  exact congrArg (fun z : EReal => Ideal.ofBits .f32 0x3F000000#32 * z) (pay1_entry a b w x g h r k)

/-- A block's part of the gain's gradient. -/
def gainBlk (a : Vec Ideal S512x1024 .bf16) (b : Vec Ideal S512x1536 .bf16) (w : Vec Ideal S1024x2560 .bf16) (x : Vec Ideal S512x1024 .f32) (k : Fin 1024) : EReal :=
  (∑ r : Fin 512, normedBlk a b w r k * (x (ix2 r k) * root (fun l => x (ix2 r l))) : EReal)

/-- The kernel adds it to what the block before left. -/
theorem pay3_entry (a : Vec Ideal S512x1024 .bf16) (b : Vec Ideal S512x1536 .bf16) (w : Vec Ideal S1024x2560 .bf16) (x : Vec Ideal S512x1024 .f32) (o : Vec Ideal S1x1024 .f32) (k : Fin 1024) :
    k0_pay3 (k0_pay9 a (colsUv w) b (colsQkv w) x) o (ix2 0 k) = (o (ix2 0 k) + gainBlk a b w x k : EReal) := by
  unfold k0_pay3 k0_pay9
  simp only [pointwise, pay5_entry, pay7_entry]
  unfold gainBlk
  simp only [zero_add]

/-- The gain's gradient starts at zero. -/
theorem pay4_entry (k : Fin 1024) : k0_pay4 (F := Ideal) (ix2 0 k) = (0 : EReal) := by
  unfold k0_pay4
  simp only [pointwise]

/-- The first point stores its rows of the input's gradient. -/
theorem rowsA (c : Dev nD) (i : grid0.Coords) (arg1 : Memref sig .tc .vmem S512x1024 .bf16) (harg1 : arg1.IsWhole) (arg2 : Memref sig .tc .vmem S512x1536 .bf16) (harg2 : arg2.IsWhole)
    (arg3 : Memref sig .tc .vmem S1024x2560 .bf16) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (arg8 : Memref sig .tc .vmem S1x1024 .f32) (harg8 : arg8.IsWhole)
    (arg9 : Memref sig .tc .vmem S512x1024 .bf16) (harg9 : arg9.IsWhole) (hc0 : cond0_0 i)
    (x0 : Vec Ideal S512x1024 .bf16) (x1 : Vec Ideal S512x1536 .bf16) (x2 : Vec Ideal S1024x2560 .bf16) (x3 : Vec Ideal S512x1024 .f32) (x4 : Vec Ideal S1x1024 .f32) (x5 : Vec Ideal S512x1024 .f32) :
    out0_A_6 (F := Ideal) c i arg1 harg1 arg2 harg2 arg3 harg3 arg4 harg4 arg5 harg5 arg6 harg6 arg7 harg7 arg8 harg8 arg9 harg9 hc0 x0 x1 x2 x3 x4 x5 = k0_pay1 (k0_pay8 x0 (colsUv x2) x1 (colsQkv x2) x3 x4) x5 := by
  delta out0_A_6 kernelRun0_A
  dsimp only
  refine (View.read_writes_full _ _ _ _ _).trans ?_
  delta kernelRun0_A.sl.r
  rw [show View.readAt (Elt Ideal) arg1.view (Rect.unit (s := S512x1024) ![0, 0] S512x1024.size inb_S512x1024_S512x1024_0_0).toLoadRect (harg1.unread x0) = x0 from by rw [View.readAt_full, harg1.read_unread],
    show View.readAt (Elt Ideal) arg3.view (Rect.unit (s := S1024x2560) ![0, 0] S1024x1024.size inb_S1024x2560_S1024x1024_0_0).toLoadRect (harg3.unread x2) = colsUv x2 from funext fun i => harg3.readAt_unread _ _ i,
    show View.readAt (Elt Ideal) arg2.view (Rect.unit (s := S512x1536) ![0, 0] S512x1536.size inb_S512x1536_S512x1536_0_0).toLoadRect (harg2.unread x1) = x1 from by rw [View.readAt_full, harg2.read_unread],
    show View.readAt (Elt Ideal) arg3.view (Rect.unit (s := S1024x2560) ![0, 1024] S1024x1536.size inb_S1024x2560_S1024x1536_0_1024).toLoadRect (harg3.unread x2) = colsQkv x2 from funext fun i => harg3.readAt_unread _ _ i,
    show View.readAt (Elt Ideal) arg4.view (Rect.unit (s := S512x1024) ![0, 0] S512x1024.size inb_S512x1024_S512x1024_0_0).toLoadRect (harg4.unread x3) = x3 from by rw [View.readAt_full, harg4.read_unread],
    show View.readAt (Elt Ideal) arg5.view (Rect.unit (s := S1x1024) ![0, 0] S1x1024.size inb_S1x1024_S1x1024_0_0).toLoadRect (harg5.unread x4) = x4 from by rw [View.readAt_full, harg5.read_unread],
    show View.readAt (Elt Ideal) arg6.view (Rect.unit (s := S512x1024) ![0, 0] S512x1024.size inb_S512x1024_S512x1024_0_0).toLoadRect (harg6.unread x5) = x5 from by rw [View.readAt_full, harg6.read_unread]]

/-- The first point stores their rounded half. -/
theorem halfA (c : Dev nD) (i : grid0.Coords) (arg1 : Memref sig .tc .vmem S512x1024 .bf16) (harg1 : arg1.IsWhole) (arg2 : Memref sig .tc .vmem S512x1536 .bf16) (harg2 : arg2.IsWhole)
    (arg3 : Memref sig .tc .vmem S1024x2560 .bf16) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (arg8 : Memref sig .tc .vmem S1x1024 .f32) (harg8 : arg8.IsWhole)
    (arg9 : Memref sig .tc .vmem S512x1024 .bf16) (harg9 : arg9.IsWhole) (hc0 : cond0_0 i)
    (x0 : Vec Ideal S512x1024 .bf16) (x1 : Vec Ideal S512x1536 .bf16) (x2 : Vec Ideal S1024x2560 .bf16) (x3 : Vec Ideal S512x1024 .f32) (x4 : Vec Ideal S1x1024 .f32) (x5 : Vec Ideal S512x1024 .f32) :
    out0_A_8 (F := Ideal) c i arg1 harg1 arg2 harg2 arg3 harg3 arg4 harg4 arg5 harg5 arg6 harg6 arg7 harg7 arg8 harg8 arg9 harg9 hc0 x0 x1 x2 x3 x4 x5 = k0_pay2 (k0_pay8 x0 (colsUv x2) x1 (colsQkv x2) x3 x4) x5 := by
  delta out0_A_8 kernelRun0_A
  dsimp only
  refine (View.read_writes_full _ _ _ _ _).trans ?_
  delta kernelRun0_A.sl.r
  rw [show View.readAt (Elt Ideal) arg1.view (Rect.unit (s := S512x1024) ![0, 0] S512x1024.size inb_S512x1024_S512x1024_0_0).toLoadRect (harg1.unread x0) = x0 from by rw [View.readAt_full, harg1.read_unread],
    show View.readAt (Elt Ideal) arg3.view (Rect.unit (s := S1024x2560) ![0, 0] S1024x1024.size inb_S1024x2560_S1024x1024_0_0).toLoadRect (harg3.unread x2) = colsUv x2 from funext fun i => harg3.readAt_unread _ _ i,
    show View.readAt (Elt Ideal) arg2.view (Rect.unit (s := S512x1536) ![0, 0] S512x1536.size inb_S512x1536_S512x1536_0_0).toLoadRect (harg2.unread x1) = x1 from by rw [View.readAt_full, harg2.read_unread],
    show View.readAt (Elt Ideal) arg3.view (Rect.unit (s := S1024x2560) ![0, 1024] S1024x1536.size inb_S1024x2560_S1024x1536_0_1024).toLoadRect (harg3.unread x2) = colsQkv x2 from funext fun i => harg3.readAt_unread _ _ i,
    show View.readAt (Elt Ideal) arg4.view (Rect.unit (s := S512x1024) ![0, 0] S512x1024.size inb_S512x1024_S512x1024_0_0).toLoadRect (harg4.unread x3) = x3 from by rw [View.readAt_full, harg4.read_unread],
    show View.readAt (Elt Ideal) arg5.view (Rect.unit (s := S1x1024) ![0, 0] S1x1024.size inb_S1x1024_S1x1024_0_0).toLoadRect (harg5.unread x4) = x4 from by rw [View.readAt_full, harg5.read_unread],
    show View.readAt (Elt Ideal) arg6.view (Rect.unit (s := S512x1024) ![0, 0] S512x1024.size inb_S512x1024_S512x1024_0_0).toLoadRect (harg6.unread x5) = x5 from by rw [View.readAt_full, harg6.read_unread]]

/-- The first point adds its part of the gain's gradient. -/
theorem gainA (c : Dev nD) (i : grid0.Coords) (arg1 : Memref sig .tc .vmem S512x1024 .bf16) (harg1 : arg1.IsWhole) (arg2 : Memref sig .tc .vmem S512x1536 .bf16) (harg2 : arg2.IsWhole)
    (arg3 : Memref sig .tc .vmem S1024x2560 .bf16) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (arg8 : Memref sig .tc .vmem S1x1024 .f32) (harg8 : arg8.IsWhole)
    (arg9 : Memref sig .tc .vmem S512x1024 .bf16) (harg9 : arg9.IsWhole) (hc0 : cond0_0 i)
    (x0 : Vec Ideal S512x1024 .bf16) (x1 : Vec Ideal S512x1536 .bf16) (x2 : Vec Ideal S1024x2560 .bf16) (x3 : Vec Ideal S512x1024 .f32) (x4 : Vec Ideal S1x1024 .f32) (x5 : Vec Ideal S512x1024 .f32) :
    out0_A_7 (F := Ideal) c i arg1 harg1 arg2 harg2 arg3 harg3 arg4 harg4 arg5 harg5 arg6 harg6 arg7 harg7 arg8 harg8 arg9 harg9 hc0 x0 x1 x2 x3 x4 x5 = k0_pay3 (k0_pay9 x0 (colsUv x2) x1 (colsQkv x2) x3) (k0_pay4 (F := Ideal)) := by
  delta out0_A_7 kernelRun0_A
  dsimp only
  refine (View.read_writes_full _ _ _ _ _).trans ?_
  delta kernelRun0_A.sl.r_1
  rw [show View.readAt (Elt Ideal) arg1.view (Rect.unit (s := S512x1024) ![0, 0] S512x1024.size inb_S512x1024_S512x1024_0_0).toLoadRect (harg1.unread x0) = x0 from by rw [View.readAt_full, harg1.read_unread],
    show View.readAt (Elt Ideal) arg3.view (Rect.unit (s := S1024x2560) ![0, 0] S1024x1024.size inb_S1024x2560_S1024x1024_0_0).toLoadRect (harg3.unread x2) = colsUv x2 from funext fun i => harg3.readAt_unread _ _ i,
    show View.readAt (Elt Ideal) arg2.view (Rect.unit (s := S512x1536) ![0, 0] S512x1536.size inb_S512x1536_S512x1536_0_0).toLoadRect (harg2.unread x1) = x1 from by rw [View.readAt_full, harg2.read_unread],
    show View.readAt (Elt Ideal) arg3.view (Rect.unit (s := S1024x2560) ![0, 1024] S1024x1536.size inb_S1024x2560_S1024x1536_0_1024).toLoadRect (harg3.unread x2) = colsQkv x2 from funext fun i => harg3.readAt_unread _ _ i,
    show View.readAt (Elt Ideal) arg4.view (Rect.unit (s := S512x1024) ![0, 0] S512x1024.size inb_S512x1024_S512x1024_0_0).toLoadRect (harg4.unread x3) = x3 from by rw [View.readAt_full, harg4.read_unread]]
  exact congrArg (k0_pay3 _) (View.readCov_full _ _ _ _ _)

/-- Every other point stores its rows of the input's gradient. -/
theorem rowsB (c : Dev nD) (i : grid0.Coords) (arg1 : Memref sig .tc .vmem S512x1024 .bf16) (harg1 : arg1.IsWhole) (arg2 : Memref sig .tc .vmem S512x1536 .bf16) (harg2 : arg2.IsWhole)
    (arg3 : Memref sig .tc .vmem S1024x2560 .bf16) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (arg8 : Memref sig .tc .vmem S1x1024 .f32) (harg8 : arg8.IsWhole)
    (arg9 : Memref sig .tc .vmem S512x1024 .bf16) (harg9 : arg9.IsWhole) (hc0 : ¬cond0_0 i)
    (x0 : Vec Ideal S512x1024 .bf16) (x1 : Vec Ideal S512x1536 .bf16) (x2 : Vec Ideal S1024x2560 .bf16) (x3 : Vec Ideal S512x1024 .f32) (x4 : Vec Ideal S1x1024 .f32) (x5 : Vec Ideal S512x1024 .f32) (xo7 : Vec Ideal S1x1024 .f32) :
    out0_B_6 (F := Ideal) c i arg1 harg1 arg2 harg2 arg3 harg3 arg4 harg4 arg5 harg5 arg6 harg6 arg7 harg7 arg8 harg8 arg9 harg9 hc0 x0 x1 x2 x3 x4 x5 xo7 = k0_pay1 (k0_pay8 x0 (colsUv x2) x1 (colsQkv x2) x3 x4) x5 := by
  delta out0_B_6 kernelRun0_B
  dsimp only
  refine (View.read_writes_full _ _ _ _ _).trans ?_
  delta kernelRun0_B.sl.r
  rw [show View.readAt (Elt Ideal) arg1.view (Rect.unit (s := S512x1024) ![0, 0] S512x1024.size inb_S512x1024_S512x1024_0_0).toLoadRect (harg1.unread x0) = x0 from by rw [View.readAt_full, harg1.read_unread],
    show View.readAt (Elt Ideal) arg3.view (Rect.unit (s := S1024x2560) ![0, 0] S1024x1024.size inb_S1024x2560_S1024x1024_0_0).toLoadRect (harg3.unread x2) = colsUv x2 from funext fun i => harg3.readAt_unread _ _ i,
    show View.readAt (Elt Ideal) arg2.view (Rect.unit (s := S512x1536) ![0, 0] S512x1536.size inb_S512x1536_S512x1536_0_0).toLoadRect (harg2.unread x1) = x1 from by rw [View.readAt_full, harg2.read_unread],
    show View.readAt (Elt Ideal) arg3.view (Rect.unit (s := S1024x2560) ![0, 1024] S1024x1536.size inb_S1024x2560_S1024x1536_0_1024).toLoadRect (harg3.unread x2) = colsQkv x2 from funext fun i => harg3.readAt_unread _ _ i,
    show View.readAt (Elt Ideal) arg4.view (Rect.unit (s := S512x1024) ![0, 0] S512x1024.size inb_S512x1024_S512x1024_0_0).toLoadRect (harg4.unread x3) = x3 from by rw [View.readAt_full, harg4.read_unread],
    show View.readAt (Elt Ideal) arg5.view (Rect.unit (s := S1x1024) ![0, 0] S1x1024.size inb_S1x1024_S1x1024_0_0).toLoadRect (harg5.unread x4) = x4 from by rw [View.readAt_full, harg5.read_unread],
    show View.readAt (Elt Ideal) arg6.view (Rect.unit (s := S512x1024) ![0, 0] S512x1024.size inb_S512x1024_S512x1024_0_0).toLoadRect (harg6.unread x5) = x5 from by rw [View.readAt_full, harg6.read_unread]]

/-- Every other point stores their rounded half. -/
theorem halfB (c : Dev nD) (i : grid0.Coords) (arg1 : Memref sig .tc .vmem S512x1024 .bf16) (harg1 : arg1.IsWhole) (arg2 : Memref sig .tc .vmem S512x1536 .bf16) (harg2 : arg2.IsWhole)
    (arg3 : Memref sig .tc .vmem S1024x2560 .bf16) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (arg8 : Memref sig .tc .vmem S1x1024 .f32) (harg8 : arg8.IsWhole)
    (arg9 : Memref sig .tc .vmem S512x1024 .bf16) (harg9 : arg9.IsWhole) (hc0 : ¬cond0_0 i)
    (x0 : Vec Ideal S512x1024 .bf16) (x1 : Vec Ideal S512x1536 .bf16) (x2 : Vec Ideal S1024x2560 .bf16) (x3 : Vec Ideal S512x1024 .f32) (x4 : Vec Ideal S1x1024 .f32) (x5 : Vec Ideal S512x1024 .f32) (xo7 : Vec Ideal S1x1024 .f32) :
    out0_B_8 (F := Ideal) c i arg1 harg1 arg2 harg2 arg3 harg3 arg4 harg4 arg5 harg5 arg6 harg6 arg7 harg7 arg8 harg8 arg9 harg9 hc0 x0 x1 x2 x3 x4 x5 xo7 = k0_pay2 (k0_pay8 x0 (colsUv x2) x1 (colsQkv x2) x3 x4) x5 := by
  delta out0_B_8 kernelRun0_B
  dsimp only
  refine (View.read_writes_full _ _ _ _ _).trans ?_
  delta kernelRun0_B.sl.r
  rw [show View.readAt (Elt Ideal) arg1.view (Rect.unit (s := S512x1024) ![0, 0] S512x1024.size inb_S512x1024_S512x1024_0_0).toLoadRect (harg1.unread x0) = x0 from by rw [View.readAt_full, harg1.read_unread],
    show View.readAt (Elt Ideal) arg3.view (Rect.unit (s := S1024x2560) ![0, 0] S1024x1024.size inb_S1024x2560_S1024x1024_0_0).toLoadRect (harg3.unread x2) = colsUv x2 from funext fun i => harg3.readAt_unread _ _ i,
    show View.readAt (Elt Ideal) arg2.view (Rect.unit (s := S512x1536) ![0, 0] S512x1536.size inb_S512x1536_S512x1536_0_0).toLoadRect (harg2.unread x1) = x1 from by rw [View.readAt_full, harg2.read_unread],
    show View.readAt (Elt Ideal) arg3.view (Rect.unit (s := S1024x2560) ![0, 1024] S1024x1536.size inb_S1024x2560_S1024x1536_0_1024).toLoadRect (harg3.unread x2) = colsQkv x2 from funext fun i => harg3.readAt_unread _ _ i,
    show View.readAt (Elt Ideal) arg4.view (Rect.unit (s := S512x1024) ![0, 0] S512x1024.size inb_S512x1024_S512x1024_0_0).toLoadRect (harg4.unread x3) = x3 from by rw [View.readAt_full, harg4.read_unread],
    show View.readAt (Elt Ideal) arg5.view (Rect.unit (s := S1x1024) ![0, 0] S1x1024.size inb_S1x1024_S1x1024_0_0).toLoadRect (harg5.unread x4) = x4 from by rw [View.readAt_full, harg5.read_unread],
    show View.readAt (Elt Ideal) arg6.view (Rect.unit (s := S512x1024) ![0, 0] S512x1024.size inb_S512x1024_S512x1024_0_0).toLoadRect (harg6.unread x5) = x5 from by rw [View.readAt_full, harg6.read_unread]]

/-- Every other point adds its part of the gain's gradient. -/
theorem gainB (c : Dev nD) (i : grid0.Coords) (arg1 : Memref sig .tc .vmem S512x1024 .bf16) (harg1 : arg1.IsWhole) (arg2 : Memref sig .tc .vmem S512x1536 .bf16) (harg2 : arg2.IsWhole)
    (arg3 : Memref sig .tc .vmem S1024x2560 .bf16) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (arg8 : Memref sig .tc .vmem S1x1024 .f32) (harg8 : arg8.IsWhole)
    (arg9 : Memref sig .tc .vmem S512x1024 .bf16) (harg9 : arg9.IsWhole) (hc0 : ¬cond0_0 i)
    (x0 : Vec Ideal S512x1024 .bf16) (x1 : Vec Ideal S512x1536 .bf16) (x2 : Vec Ideal S1024x2560 .bf16) (x3 : Vec Ideal S512x1024 .f32) (x4 : Vec Ideal S1x1024 .f32) (x5 : Vec Ideal S512x1024 .f32) (xo7 : Vec Ideal S1x1024 .f32) :
    out0_B_7 (F := Ideal) c i arg1 harg1 arg2 harg2 arg3 harg3 arg4 harg4 arg5 harg5 arg6 harg6 arg7 harg7 arg8 harg8 arg9 harg9 hc0 x0 x1 x2 x3 x4 x5 xo7 = k0_pay3 (k0_pay9 x0 (colsUv x2) x1 (colsQkv x2) x3) xo7 := by
  delta out0_B_7 kernelRun0_B
  dsimp only
  refine (View.read_writes_full _ _ _ _ _).trans ?_
  delta kernelRun0_B.sl.r_1
  rw [show View.readAt (Elt Ideal) arg1.view (Rect.unit (s := S512x1024) ![0, 0] S512x1024.size inb_S512x1024_S512x1024_0_0).toLoadRect (harg1.unread x0) = x0 from by rw [View.readAt_full, harg1.read_unread],
    show View.readAt (Elt Ideal) arg3.view (Rect.unit (s := S1024x2560) ![0, 0] S1024x1024.size inb_S1024x2560_S1024x1024_0_0).toLoadRect (harg3.unread x2) = colsUv x2 from funext fun i => harg3.readAt_unread _ _ i,
    show View.readAt (Elt Ideal) arg2.view (Rect.unit (s := S512x1536) ![0, 0] S512x1536.size inb_S512x1536_S512x1536_0_0).toLoadRect (harg2.unread x1) = x1 from by rw [View.readAt_full, harg2.read_unread],
    show View.readAt (Elt Ideal) arg3.view (Rect.unit (s := S1024x2560) ![0, 1024] S1024x1536.size inb_S1024x2560_S1024x1536_0_1024).toLoadRect (harg3.unread x2) = colsQkv x2 from funext fun i => harg3.readAt_unread _ _ i,
    show View.readAt (Elt Ideal) arg4.view (Rect.unit (s := S512x1024) ![0, 0] S512x1024.size inb_S512x1024_S512x1024_0_0).toLoadRect (harg4.unread x3) = x3 from by rw [View.readAt_full, harg4.read_unread],
    show View.readAt (Elt Ideal) arg8.view (Rect.unit (s := S1x1024) ![0, 0] S1x1024.size inb_S1x1024_S1x1024_0_0).toLoadRect (harg8.unread xo7) = xo7 from by rw [View.readAt_full, harg8.read_unread]]

end Cert.MixInPoints
-- ==== Proof.MixInValue.lean ====
/- The gradient of the mixer's input and of its gain: the kernel's three results entry by entry, and that they
   are the reference's, on every input. -/
module

public import Idealize.ShloMosaic.Lib.VecWindow
public import Idealize.ShloMosaic.Lib.WholeRead
public import Idealize.ShloMosaic.Lib.Pointwise
public import proofs.«01_k».proof.Proof.InputNorm
public import proofs.«01_k».proof.Proof.MixInPoints
public import proofs.«01_k».proof.Proof.Gen.MixInIdeal.Value
public import proofs.«01_k».proof.Proof.Gen.MixInReferenceIdeal.Read

@[expose] public section

set_option maxRecDepth 16384

noncomputable section

namespace Cert.MixInValue

open Finset Idealize.ShloMosaic Idealize.SL.Sem Idealize.ShloMosaic.TcCoe Cert.MixInIdeal Cert.MixInIdeal.Gen Cert.MixInIdeal.Value Cert.InputNorm Cert.MixInPoints

variable (m : (ℓ : Loc nD τ sig) → Buf (Elt Ideal) ℓ) (c : Dev nD)

/-- The gradient of the gate's two inputs. -/
abbrev gradUv : FVec Ideal S4096x1024 .bf16 := m ((c : Thread nD τ).loc main_arg0)

/-- The gradient of the attention's inputs. -/
abbrev gradQkv : FVec Ideal S4096x1536 .bf16 := m ((c : Thread nD τ).loc main_arg1)

/-- The input weight. -/
abbrev wgt : FVec Ideal S1024x2560 .f32 := m ((c : Thread nD τ).loc main_arg2)

/-- The mixer's input. -/
abbrev inp : FVec Ideal S4096x1024 .f32 := m ((c : Thread nD τ).loc main_arg3)

/-- The norm's gain. -/
abbrev gain : FVec Ideal S1x1024 .f32 := m ((c : Thread nD τ).loc main_arg4)

/-- The gradient that goes round the mixer. -/
abbrev dh : FVec Ideal S4096x1024 .f32 := m ((c : Thread nD τ).loc main_arg5)

/-- The rounded weight has the weight's entries. -/
theorem rounded (k : Fin 1024) (d : Fin 2560) : V m c main_v0 (ix2 k d) = (wgt m c (ix2 k d) : EReal) := by
  unfold V
  simp only [hostOps0, List.flatten_cons, List.flatten_nil, List.append_nil, List.cons_append,
      List.nil_append, cast_eq]
  after_results_simp
  rfl

/-- Where the blocks of the grid's points lie. -/
theorem blocks : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (cfg0.win 6).flush t = true ∧ ((cfg0.win 7).flush t = true ↔ t.val = 7) ∧ (cfg0.win 8).flush t = true :=
  (by decide +kernel : ∀ t : Fin grid0.N, _)

/-- A row of a point's block. -/
abbrev rowOf (j : Fin 8) (r : Fin 512) : Fin 4096 := ⟨512 * j.val + r.val, by omega⟩

/-- Every row is one. -/
theorem row_exists (t : Fin 4096) : ∃ (j : Fin 8) (r : Fin 512), t = rowOf j r :=
  ⟨⟨t.val / 512, by omega⟩, ⟨t.val % 512, by omega⟩, Fin.ext (by show t.val = 512 * (t.val / 512) + t.val % 512; omega)⟩

/-- The grid's point with a number. -/
abbrev pt (j : Fin 8) : Fin cfg0.N := ⟨j.val, j.isLt⟩

/-- The block of the gate's gradient at a point. -/
theorem blk_uv (j : Fin 8) (r : Fin 512) (d : Fin 1024) : iblk m c 0 (pt j) (ix2 r d) = gradUv m c (ix2 (rowOf j r) d) := by
  obtain ⟨⟨e0, e1⟩, -⟩ := blocks (pt j)
  replace e0 : _ = j.val := e0
  show V m c main_arg0 (((cfg0.win 0).blk (pt j)).view.emb (ix2 r d)) = _
  rw [V_main_arg0]
  refine congrArg (m ((c : Thread nD τ).loc main_arg0)) (funext fun a => Fin.ext ?_)
  fin_cases a
  · show win0_0.index _ (0 : Fin 2) * 512 + 1 * r.val = 512 * j.val + r.val
    omega
  · show win0_0.index _ (1 : Fin 2) * 1024 + 1 * d.val = d.val
    omega

/-- The block of the attention's gradient at a point. -/
theorem blk_qkv (j : Fin 8) (r : Fin 512) (d : Fin 1536) : iblk m c 1 (pt j) (ix2 r d) = gradQkv m c (ix2 (rowOf j r) d) := by
  obtain ⟨-, ⟨e0, e1⟩, -⟩ := blocks (pt j)
  replace e0 : _ = j.val := e0
  show V m c main_arg1 (((cfg0.win 1).blk (pt j)).view.emb (ix2 r d)) = _
  rw [V_main_arg1]
  refine congrArg (m ((c : Thread nD τ).loc main_arg1)) (funext fun a => Fin.ext ?_)
  fin_cases a
  · show win0_1.index _ (0 : Fin 2) * 512 + 1 * r.val = 512 * j.val + r.val
    omega
  · show win0_1.index _ (1 : Fin 2) * 1536 + 1 * d.val = d.val
    omega

/-- The block of the input at a point. -/
theorem blk_x (j : Fin 8) (r : Fin 512) (d : Fin 1024) : iblk m c 3 (pt j) (ix2 r d) = inp m c (ix2 (rowOf j r) d) := by
  obtain ⟨-, -, -, ⟨e0, e1⟩, -⟩ := blocks (pt j)
  replace e0 : _ = j.val := e0
  show V m c main_arg3 (((cfg0.win 3).blk (pt j)).view.emb (ix2 r d)) = _
  rw [V_main_arg3]
  refine congrArg (m ((c : Thread nD τ).loc main_arg3)) (funext fun a => Fin.ext ?_)
  fin_cases a
  · show win0_3.index _ (0 : Fin 2) * 512 + 1 * r.val = 512 * j.val + r.val
    omega
  · show win0_3.index _ (1 : Fin 2) * 1024 + 1 * d.val = d.val
    omega

/-- The block of the gradient that goes round at a point. -/
theorem blk_dh (j : Fin 8) (r : Fin 512) (d : Fin 1024) : iblk m c 5 (pt j) (ix2 r d) = dh m c (ix2 (rowOf j r) d) := by
  obtain ⟨-, -, -, -, -, ⟨e0, e1⟩, -⟩ := blocks (pt j)
  replace e0 : _ = j.val := e0
  show V m c main_arg5 (((cfg0.win 5).blk (pt j)).view.emb (ix2 r d)) = _
  rw [V_main_arg5]
  refine congrArg (m ((c : Thread nD τ).loc main_arg5)) (funext fun a => Fin.ext ?_)
  fin_cases a
  · show win0_5.index _ (0 : Fin 2) * 512 + 1 * r.val = 512 * j.val + r.val
    omega
  · show win0_5.index _ (1 : Fin 2) * 1024 + 1 * d.val = d.val
    omega

/-- The weight at a point. -/
theorem blk_w (j : Fin 8) (k : Fin 1024) (d : Fin 2560) : iblk m c 2 (pt j) (ix2 k d) = (wgt m c (ix2 k d) : EReal) := by
  obtain ⟨-, -, ⟨e0, e1⟩, -⟩ := blocks (pt j)
  show V m c main_v0 (((cfg0.win 2).blk (pt j)).view.emb (ix2 k d)) = _
  refine Eq.trans (congrArg (V m c main_v0) (funext fun a => Fin.ext ?_)) (rounded m c k d)
  fin_cases a
  · show win0_2.index _ (0 : Fin 2) * 1024 + 1 * k.val = k.val
    omega
  · show win0_2.index _ (1 : Fin 2) * 2560 + 1 * d.val = d.val
    omega

/-- The gain at a point. -/
theorem blk_gain (j : Fin 8) (k : Fin 1024) : iblk m c 4 (pt j) (ix2 0 k) = gain m c (ix2 0 k) := by
  obtain ⟨-, -, -, -, ⟨e0, e1⟩, -⟩ := blocks (pt j)
  show V m c main_arg4 (((cfg0.win 4).blk (pt j)).view.emb (ix2 0 k)) = _
  rw [V_main_arg4]
  refine congrArg (m ((c : Thread nD τ).loc main_arg4)) (funext fun a => Fin.ext ?_)
  fin_cases a
  · show win0_4.index _ (0 : Fin 2) * 1 + 1 * 0 = 0
    omega
  · show win0_4.index _ (1 : Fin 2) * 1024 + 1 * k.val = k.val
    omega

section Reference

open Cert.MixInReferenceIdeal.Read

variable (x0 : Vec Ideal S4096x1024 .bf16) (x1 : Vec Ideal S4096x1536 .bf16) (x2 : Vec Ideal S1024x2560 .f32) (x3 : Vec Ideal S4096x1024 .f32) (x4 : Vec Ideal S1x1024 .f32) (x5 : Vec Ideal S4096x1024 .f32)

/-- The gradient of a token's normed input. -/
def normedOf (t : Fin 4096) (k : Fin 1024) : EReal :=
  ((∑ d : Fin 1024, (x0 (ix2 t d) : EReal) * (x2 (ix2 k ⟨d.val, by omega⟩) : EReal)) + ∑ d : Fin 1536, (x1 (ix2 t d) : EReal) * (x2 (ix2 k ⟨1024 + d.val, by omega⟩) : EReal) : EReal)

/-- The gradient of the mixer's input. -/
def inputOf (t : Fin 4096) (k : Fin 1024) : EReal :=
  (x5 (ix2 t k) + root (fun l => x3 (ix2 t l)) * (normedOf x0 x1 x2 t k * x4 (ix2 0 k)
      - x3 (ix2 t k) * root (fun l => x3 (ix2 t l))
        * Ideal.div (∑ l, normedOf x0 x1 x2 t l * x4 (ix2 0 l) * (x3 (ix2 t l) * root (fun l => x3 (ix2 t l)))) (Ideal.ofBits .f32 0x44800000#32)) : EReal)

/-- The reference's mean of squares, and the small number. -/
theorem ref_denom (t : Fin 4096) : val_main_v6 (F := Ideal) x3 (ix2 t 0) = denom fun l => x3 (ix2 t l) := by
  rw [val_main_v6_apply, val_main_v4_apply, val_main_v5_apply, val_main_cst_1_apply, val_main_v3_apply, val_main_cst_0_apply,
    val_main_v2_apply, val_main_v1_apply, val_main_cst_apply]
  simp only [Ideal.addf_def, Ideal.hostDivf_def, Ideal.ofBits_def, Ideal.ofBits_zero_f32, zero_add]
  unfold denom
  refine congrArg (fun z : EReal => Ideal.div z _ + _) (sum_congr rfl fun l _ => ?_)
  refine (val_main_v0_apply (F := Ideal) x3 _).trans ?_
  have e : idx_main_v1 (idx_main_v2 (ix2 t 0)) l = ix2 t l := funext fun a => by fin_cases a <;> rfl
  rw [e]
  rfl

/-- Its reciprocal root. -/
theorem ref_root (t : Fin 4096) : val_main_v7 (F := Ideal) x3 (ix2 t 0) = root fun l => x3 (ix2 t l) := by
  rw [val_main_v7_apply, ref_denom]
  rfl

/-- The scaled row. -/
theorem ref_scaled (t : Fin 4096) (k : Fin 1024) : val_main_v12 (F := Ideal) x3 (ix2 t k) = (x3 (ix2 t k) * root (fun l => x3 (ix2 t l)) : EReal) := by
  rw [val_main_v12_apply, val_main_v11_apply]
  exact congrArg (fun z : EReal => x3 (ix2 t k) * z) ((congrArg (val_main_v7 (F := Ideal) x3) (funext fun a => by fin_cases a <;> rfl)).trans (ref_root x3 t))

/-- The two gradients side by side, in the first columns. -/
theorem ref_left (t : Fin 4096) (d : Fin 1024) : val_main_v20 (F := Ideal) x0 x1 (ix2 t ⟨d.val, by omega⟩) = (x0 (ix2 t d) : EReal) := by
  unfold val_main_v20
  exact concatenate_pair_apply_left (t := Cert.MixInReferenceIdeal.S4096x2560) (s₁ := S4096x1024) (s₂ := S4096x1536) 1 _ _ _ _ rfl (ix2 t d) (fun b => by fin_cases b <;> rfl)

/-- And in the last. -/
theorem ref_right (t : Fin 4096) (d : Fin 1536) : val_main_v20 (F := Ideal) x0 x1 (ix2 t ⟨1024 + d.val, by omega⟩) = (x1 (ix2 t d) : EReal) := by
  unfold val_main_v20
  refine concatenate_pair_apply_right (t := Cert.MixInReferenceIdeal.S4096x2560) (s₁ := S4096x1024) (s₂ := S4096x1536) 1 _ _ _ _ rfl rfl (ix2 t d) (fun b hb => ?_) ?_
  · fin_cases b
    · rfl
    · exact absurd rfl hb
  · show d.val + 1024 = 1024 + d.val
    omega

/-- The reference's single sum over the columns is the two. -/
theorem ref_normed (t : Fin 4096) (k : Fin 1024) : val_main_v21 (F := Ideal) x0 x1 x2 (ix2 t k) = normedOf x0 x1 x2 t k := by
  rw [val_main_v21_apply]
  refine (Fin.sum_univ_add (a := 1024) (b := 1536) _).trans ?_
  unfold normedOf
  refine congrArg₂ (fun a b : EReal => a + b) (sum_congr rfl fun d _ => congrArg₂ (fun a b : EReal => a * b) ?_ ?_) (sum_congr rfl fun d _ => congrArg₂ (fun a b : EReal => a * b) ?_ ?_)
  · exact Eq.trans (congrArg (val_main_v20 (F := Ideal) x0 x1) (funext fun a => by fin_cases a <;> rfl)) (ref_left x0 x1 t d)
  · exact congrArg x2 (funext fun a => by fin_cases a <;> rfl)
  · exact Eq.trans (congrArg (val_main_v20 (F := Ideal) x0 x1) (funext fun a => by fin_cases a <;> rfl)) (ref_right x0 x1 t d)
  · exact congrArg x2 (funext fun a => by fin_cases a <;> rfl)

/-- The gradient through the gain. -/
theorem ref_through (t : Fin 4096) (k : Fin 1024) : val_main_v26 (F := Ideal) x0 x1 x2 x4 (ix2 t k) = (normedOf x0 x1 x2 t k * x4 (ix2 0 k) : EReal) := by
  rw [val_main_v26_apply, val_main_v25_apply, ref_normed]
  exact congrArg (fun z : EReal => normedOf x0 x1 x2 t k * z) (congrArg x4 (funext fun a => by fin_cases a <;> rfl))

/-- What the row's mean passes on to each of its entries. -/
theorem ref_mean (t : Fin 4096) (k : Fin 1024) : val_main_v37 (F := Ideal) x0 x1 x2 x3 x4 (ix2 t k)
    = Ideal.div ((∑ l, x3 (ix2 t l) * (normedOf x0 x1 x2 t l * x4 (ix2 0 l))) * (Ideal.ofBits .f32 0xBF000000#32 * Ideal.div (root fun l => x3 (ix2 t l)) (denom fun l => x3 (ix2 t l)))) (Ideal.ofBits .f32 0x44800000#32) := by
  rw [val_main_v37_apply, val_main_v36_apply, val_main_cst_6_apply, Fin.sum_univ_one, val_main_v35_apply, val_main_v34_apply, val_main_cst_5_apply,
    val_main_v33_apply, val_main_v29_apply, val_main_v28_apply, val_main_cst_4_apply, val_main_v10_apply, val_main_v9_apply, val_main_cst_2_apply, val_main_v8_apply]
  have e : idx_main_v36 (idx_main_v37 (ix2 t k)) 0 = ix2 t 0 := funext fun a => by fin_cases a <;> rfl
  rw [e, ref_root, ref_denom]
  simp only [Ideal.mulf_def, Ideal.hostDivf_def, Ideal.ofBits_def, Ideal.ofBits_zero_f32, zero_add]
  refine congrArg (fun z : EReal => Ideal.div (z * _) _) (sum_congr rfl fun l _ => ?_)
  have e' : idx_main_v28 (idx_main_v29 (ix2 t 0)) l = ix2 t l := funext fun a => Fin.ext (by
    fin_cases a
    · show t.val * 1 + 0 = t.val
      omega
    · rfl)
  rw [e', val_main_v27_apply, ref_through]
  rfl

/-- The reference's first result, entry by entry. -/
theorem ref_input (t : Fin 4096) (k : Fin 1024) : val_main_v41 (F := Ideal) x0 x1 x2 x3 x4 x5 (ix2 t k) = inputOf x0 x1 x2 x3 x4 x5 t k := by
  rw [val_main_v41_apply, val_main_v40_apply, val_main_v39_apply, val_main_v38_apply, ref_mean, val_main_v32_apply, val_main_v31_apply, ref_through, val_main_v30_apply]
  have e : idx_main_v30 (ix2 t k) = ix2 t 0 := funext fun a => by fin_cases a <;> rfl
  rw [e, ref_root]
  simp only [Ideal.mulf_def, Ideal.addf_def]
  exact (entry (fun l => x3 (ix2 t l)) (fun l => (normedOf x0 x1 x2 t l * x4 (ix2 0 l) : EReal)) (x5 (ix2 t k)) k).symm

/-- The reference's second result, entry by entry. -/
theorem ref_gain (k : Fin 1024) : val_main_v24 (F := Ideal) x0 x1 x2 x3 (ix2 0 k)
    = (∑ t : Fin 4096, normedOf x0 x1 x2 t k * (x3 (ix2 t k) * root (fun l => x3 (ix2 t l))) : EReal) := by
  rw [val_main_v24_apply, val_main_v23_apply, val_main_cst_3_apply]
  simp only [Ideal.ofBits_def, Ideal.ofBits_zero_f32, zero_add]
  refine sum_congr rfl fun t _ => ?_
  have e : idx_main_v23 (idx_main_v24 (ix2 0 k)) t = ix2 t k := funext fun a => Fin.ext (by
    fin_cases a
    · rfl
    · show 0 * 1024 + k.val = k.val
      omega)
  rw [e, val_main_v22_apply, ref_scaled, ref_normed]
  exact mul_comm (G := EReal) _ _

/-- The reference's third result, entry by entry. -/
theorem ref_half (t : Fin 4096) (k : Fin 1024) : val_main_v44 (F := Ideal) x0 x1 x2 x3 x4 x5 (ix2 t k)
    = (Ideal.ofBits .f32 0x3F000000#32 * inputOf x0 x1 x2 x3 x4 x5 t k : EReal) := by
  rw [val_main_v44_apply, val_main_v43_apply, ref_input, val_main_v42_apply, val_main_cst_7_apply]
  rfl

end Reference

/-! ## What the points leave -/

/-- A block's gradient of the normed input is its rows'. -/
theorem normed_at (j : Fin 8) (r : Fin 512) (k : Fin 1024) :
    normedBlk (iblk m c 0 (pt j)) (iblk m c 1 (pt j)) (iblk m c 2 (pt j)) r k = normedOf (gradUv m c) (gradQkv m c) (wgt m c) (rowOf j r) k := by
  unfold normedBlk normedOf
  refine congrArg₂ (fun a b : EReal => a + b) (sum_congr rfl fun d _ => ?_) (sum_congr rfl fun d _ => ?_)
  · exact congrArg₂ (fun a b : EReal => a * b) (blk_uv m c j r d) (blk_w m c j k _)
  · exact congrArg₂ (fun a b : EReal => a * b) (blk_qkv m c j r d) (blk_w m c j k _)

/-- A block's finished entries are its rows'. -/
theorem input_at (j : Fin 8) (r : Fin 512) (k : Fin 1024) :
    inputBlk (iblk m c 0 (pt j)) (iblk m c 1 (pt j)) (iblk m c 2 (pt j)) (iblk m c 3 (pt j)) (iblk m c 4 (pt j)) (iblk m c 5 (pt j)) r k
      = inputOf (gradUv m c) (gradQkv m c) (wgt m c) (inp m c) (gain m c) (dh m c) (rowOf j r) k := by
  unfold inputBlk inputOf
  simp only [blk_x, blk_dh, blk_gain, normed_at]

/-- The rows' part of the gain's gradient. -/
def gainPart (j : Fin 8) (k : Fin 1024) : EReal :=
  (∑ r : Fin 512, normedOf (gradUv m c) (gradQkv m c) (wgt m c) (rowOf j r) k * (inp m c (ix2 (rowOf j r) k) * root (fun l => inp m c (ix2 (rowOf j r) l))) : EReal)

/-- It is the block's. -/
theorem gain_at (j : Fin 8) (k : Fin 1024) :
    gainBlk (iblk m c 0 (pt j)) (iblk m c 1 (pt j)) (iblk m c 2 (pt j)) (iblk m c 3 (pt j)) k = gainPart m c j k := by
  unfold gainBlk gainPart
  simp only [blk_x, normed_at]

/-- The kernel's first result, entry by entry. -/
theorem kernel_input (j : Fin 8) (r : Fin 512) (k : Fin 1024) :
    (dats m 0 c).arrAt 6 cfg0.N (ix2 (rowOf j r) k) = inputOf (gradUv m c) (gradQkv m c) (wgt m c) (inp m c) (gain m c) (dh m c) (rowOf j r) k := by
  obtain ⟨-, -, -, -, -, -, ⟨e0, e1⟩, -, -, hf, -⟩ := blocks (pt j)
  replace e0 : _ = j.val := e0
  have h := congrFun (blocks6 m c (pt j) hf) (ix2 r k)
  refine Eq.trans (congrArg ((dats m 0 c).arrAt 6 cfg0.N) (funext fun a => Fin.ext ?_)) (h.trans ?_)
  · fin_cases a
    · show 512 * j.val + r.val = win0_6.index _ (0 : Fin 2) * 512 + 1 * r.val
      omega
    · show k.val = win0_6.index _ (1 : Fin 2) * 1024 + 1 * k.val
      omega
  · by_cases h0 : (pt j).val % 8 = 0
    · rw [flushed6_A m c (pt j) h0, rowsA]
      exact (pay1_entry _ _ _ _ _ _ r k).trans (input_at m c j r k)
    · rw [flushed6_B m c (pt j) h0, rowsB]
      exact (pay1_entry _ _ _ _ _ _ r k).trans (input_at m c j r k)

/-- The kernel's third result, entry by entry. -/
theorem kernel_half (j : Fin 8) (r : Fin 512) (k : Fin 1024) :
    (dats m 0 c).arrAt 8 cfg0.N (ix2 (rowOf j r) k)
      = (Ideal.ofBits .f32 0x3F000000#32 * inputOf (gradUv m c) (gradQkv m c) (wgt m c) (inp m c) (gain m c) (dh m c) (rowOf j r) k : EReal) := by
  obtain ⟨-, -, -, -, -, -, -, -, ⟨e0, e1⟩, -, -, hf⟩ := blocks (pt j)
  replace e0 : _ = j.val := e0
  have h := congrFun (blocks8 m c (pt j) hf) (ix2 r k)
  refine Eq.trans (congrArg ((dats m 0 c).arrAt 8 cfg0.N) (funext fun a => Fin.ext ?_)) (h.trans ?_)
  · fin_cases a
    · show 512 * j.val + r.val = win0_8.index _ (0 : Fin 2) * 512 + 1 * r.val
      omega
    · show k.val = win0_8.index _ (1 : Fin 2) * 1024 + 1 * k.val
      omega
  · by_cases h0 : (pt j).val % 8 = 0
    · rw [flushed8_A m c (pt j) h0, halfA]
      exact (pay2_entry _ _ _ _ _ _ r k).trans (congrArg (fun z : EReal => Ideal.ofBits .f32 0x3F000000#32 * z) (input_at m c j r k))
    · rw [flushed8_B m c (pt j) h0, halfB]
      exact (pay2_entry _ _ _ _ _ _ r k).trans (congrArg (fun z : EReal => Ideal.ofBits .f32 0x3F000000#32 * z) (input_at m c j r k))

/-- The first block's part starts the gain's gradient. -/
theorem gain_first (k : Fin 1024) : (outsAt0 m c (pt 0).val (pt 0).isLt).2.1 (ix2 0 k) = gainPart m c 0 k := by
  rw [outsAt0_A m c (pt 0) rfl]
  dsimp only
  rw [gainA]
  refine (pay3_entry _ _ _ _ _ k).trans ?_
  rw [pay4_entry, zero_add]
  exact gain_at m c 0 k

/-- Each further block adds its part. -/
theorem gain_next (j j' : Fin 8) (h : j.val = j'.val + 1) (k : Fin 1024) :
    (outsAt0 m c (pt j).val (pt j).isLt).2.1 (ix2 0 k) = ((outsAt0 m c (pt j').val (pt j').isLt).2.1 (ix2 0 k) + gainPart m c j k : EReal) := by
  have h0 : ¬ (pt j).val % 8 = 0 := by
    show ¬ j.val % 8 = 0
    omega
  have hp : (pt j).val - 1 = (pt j').val := by
    show j.val - 1 = j'.val
    omega
  rw [outsAt0_B m c (pt j) h0]
  dsimp only
  rw [gainB]
  refine (pay3_entry _ _ _ _ _ k).trans (congrArg₂ (fun a b : EReal => a + b) ?_ (gain_at m c j k))
  simp only [hp]

/-- The kernel's second result, entry by entry. -/
theorem kernel_gain (k : Fin 1024) : (dats m 0 c).arrAt 7 cfg0.N (ix2 0 k) = (∑ j : Fin 8, gainPart m c j k : EReal) := by
  obtain ⟨-, -, -, -, -, -, -, ⟨e0, e1⟩, -, -, hf, -⟩ := blocks (pt 7)
  have hd : ∀ t t' : Fin cfg0.N, (cfg0.win 7).flush t = true → (cfg0.win 7).flush t' = true → t ≠ t' →
      Disjoint ((cfg0.win 7).blk t).view.set ((cfg0.win 7).blk t').view.set := fun t t' h h' hne => by
    obtain ⟨-, -, -, -, -, -, -, -, -, -, e, -⟩ := blocks t
    obtain ⟨-, -, -, -, -, -, -, -, -, -, e', -⟩ := blocks t'
    exact absurd (Fin.ext ((e.mp h).trans (e'.mp h').symm)) hne
  have h := congrFun ((dats m 0 c).read_blk_arrAt_eq_flushed 7 hd cfg0.N (pt 7) (pt 7).isLt (hf.mpr rfl)) (ix2 0 k)
  rw [flushed7] at h
  refine Eq.trans (congrArg ((dats m 0 c).arrAt 7 cfg0.N) (funext fun a => Fin.ext ?_)) (h.trans ?_)
  · fin_cases a
    · show 0 = win0_7.index _ (0 : Fin 2) * 1 + 1 * 0
      omega
    · show k.val = win0_7.index _ (1 : Fin 2) * 1024 + 1 * k.val
      omega
  · rw [Fin.sum_univ_eight]
    refine (gain_next m c 7 6 rfl k).trans (congrArg (fun z : EReal => z + gainPart m c 7 k) ?_)
    refine (gain_next m c 6 5 rfl k).trans (congrArg (fun z : EReal => z + gainPart m c 6 k) ?_)
    refine (gain_next m c 5 4 rfl k).trans (congrArg (fun z : EReal => z + gainPart m c 5 k) ?_)
    refine (gain_next m c 4 3 rfl k).trans (congrArg (fun z : EReal => z + gainPart m c 4 k) ?_)
    refine (gain_next m c 3 2 rfl k).trans (congrArg (fun z : EReal => z + gainPart m c 3 k) ?_)
    refine (gain_next m c 2 1 rfl k).trans (congrArg (fun z : EReal => z + gainPart m c 2 k) ?_)
    exact (gain_next m c 1 0 rfl k).trans (congrArg (fun z : EReal => z + gainPart m c 1 k) (gain_first m c k))

/-- The kernel's first result is the gradient of the mixer's input. -/
theorem value_input : (dats m 0 c).arrAt 6 cfg0.N
    = Cert.MixInReferenceIdeal.Read.val_main_v41 (F := Ideal) (gradUv m c) (gradQkv m c) (wgt m c) (inp m c) (gain m c) (dh m c) :=
  funext fun i => by
    obtain ⟨t, k, rfl⟩ : ∃ (t : Fin 4096) (k : Fin 1024), i = ix2 t k := ⟨i 0, i 1, eq_ix2 i⟩
    obtain ⟨j, r, rfl⟩ := row_exists t
    exact (kernel_input m c j r k).trans (ref_input _ _ _ _ _ _ _ k).symm

/-- A sum over blocks of consecutive places. -/
theorem sum_blocks (a b : ℕ) (f : Fin (a * b) → EReal) :
    ∑ q, f q = ∑ i : Fin a, ∑ d : Fin b, f ⟨b * i.val + d.val, by have := i.isLt; have := d.isLt; nlinarith⟩ := by
  refine (finProdFinEquiv.sum_comp f).symm.trans ((Fintype.sum_prod_type _).trans ?_)
  refine sum_congr rfl fun i _ => sum_congr rfl fun d _ => congrArg f (Fin.ext ?_)
  show d.val + b * i.val = b * i.val + d.val
  omega

/-- Its second is the gradient of the gain. -/
theorem value_gain : (dats m 0 c).arrAt 7 cfg0.N
    = Cert.MixInReferenceIdeal.Read.val_main_v24 (F := Ideal) (gradUv m c) (gradQkv m c) (wgt m c) (inp m c) :=
  funext fun i => by
    obtain ⟨z, k, rfl⟩ : ∃ (z : Fin 1) (k : Fin 1024), i = ix2 z k := ⟨i 0, i 1, eq_ix2 i⟩
    obtain rfl : z = 0 := Subsingleton.elim _ _
    refine (kernel_gain m c k).trans (Eq.trans ?_ (ref_gain (gradUv m c) (gradQkv m c) (wgt m c) (inp m c) k).symm)
    exact (sum_blocks 8 512 fun t => (normedOf (gradUv m c) (gradQkv m c) (wgt m c) t k * (inp m c (ix2 t k) * root (fun l => inp m c (ix2 t l))) : EReal)).symm

/-- Its third is half of the first, rounded. -/
theorem value_half : (dats m 0 c).arrAt 8 cfg0.N
    = Cert.MixInReferenceIdeal.Read.val_main_v44 (F := Ideal) (gradUv m c) (gradQkv m c) (wgt m c) (inp m c) (gain m c) (dh m c) :=
  funext fun i => by
    obtain ⟨t, k, rfl⟩ : ∃ (t : Fin 4096) (k : Fin 1024), i = ix2 t k := ⟨i 0, i 1, eq_ix2 i⟩
    obtain ⟨j, r, rfl⟩ := row_exists t
    exact (kernel_half m c j r k).trans (ref_half _ _ _ _ _ _ _ k).symm

end Cert.MixInValue
-- ==== Proof.EnterValue.lean ====
/- The mixer's input projection: the normed row a point stores, and its product with the weight, are the reference's. -/
module

public import Idealize.ShloMosaic.Lib.VecWindow
public import Idealize.ShloMosaic.Lib.WholeRead
public import Idealize.ShloMosaic.Lib.Pointwise
public import proofs.«01_k».proof.Proof.InputNorm
public import proofs.«01_k».proof.Proof.Gen.EnterIdeal.Value
public import proofs.«01_k».proof.Proof.Gen.EnterReferenceIdeal.Read

@[expose] public section

set_option maxRecDepth 16384

noncomputable section

namespace Cert.EnterValue

open Finset Idealize.ShloMosaic Idealize.SL.Sem Idealize.ShloMosaic.TcCoe Cert.EnterIdeal Cert.EnterIdeal.Gen Cert.EnterIdeal.Value Cert.InputNorm

/-- One store over a whole block is the block. -/
theorem canon_n (p : Vec Ideal S512x1024 .bf16) (r : Fin 512) (k : Fin 1024) : View.canon (Val := Elt Ideal) [⟨r0_0, p⟩] (ix2 r k) = p (ix2 r k) := by
  refine Eq.trans (congrArg _ (funext fun a => Fin.ext ?_)) (View.canon_cons_emb (Val := Elt Ideal) r0_0 p [] (ix2 r k))
  fin_cases a
  · show r.val = 0 + 1 * r.val
    omega
  · show k.val = 0 + 1 * k.val
    omega

/-- The same without rounding. -/
theorem canon_uv (p : Vec Ideal S512x1024 .f32) (r : Fin 512) (k : Fin 1024) : View.canon (Val := Elt Ideal) [⟨r0_0, p⟩] (ix2 r k) = p (ix2 r k) := by
  refine Eq.trans (congrArg _ (funext fun a => Fin.ext ?_)) (View.canon_cons_emb (Val := Elt Ideal) r0_0 p [] (ix2 r k))
  fin_cases a
  · show r.val = 0 + 1 * r.val
    omega
  · show k.val = 0 + 1 * k.val
    omega

/-- And of the attention's columns. -/
theorem canon_qkv (p : Vec Ideal S512x1536 .bf16) (r : Fin 512) (k : Fin 1536) : View.canon (Val := Elt Ideal) [⟨r0_3, p⟩] (ix2 r k) = p (ix2 r k) := by
  refine Eq.trans (congrArg _ (funext fun a => Fin.ext ?_)) (View.canon_cons_emb (Val := Elt Ideal) r0_3 p [] (ix2 r k))
  fin_cases a
  · show r.val = 0 + 1 * r.val
    omega
  · show k.val = 0 + 1 * k.val
    omega

/-- A read of a whole block is the block. -/
theorem ld_x (x : Vec Ideal S512x1024 .f32) : View.ld x r0_0 = x := by
  funext i
  obtain ⟨r, k, rfl⟩ : ∃ (r : Fin 512) (k : Fin 1024), i = ix2 r k := ⟨i 0, i 1, eq_ix2 i⟩
  refine congrArg x (funext fun e => Fin.ext ?_)
  fin_cases e
  · show 0 + 1 * r.val = r.val
    omega
  · show 0 + 1 * k.val = k.val
    omega

/-- And of the gain. -/
theorem ld_gain (x : Vec Ideal S1x1024 .f32) : View.ld x r0_1 = x := by
  funext i
  obtain ⟨r, k, rfl⟩ : ∃ (r : Fin 1) (k : Fin 1024), i = ix2 r k := ⟨i 0, i 1, eq_ix2 i⟩
  refine congrArg x (funext fun e => Fin.ext ?_)
  fin_cases e
  · show 0 + 1 * r.val = r.val
    omega
  · show 0 + 1 * k.val = k.val
    omega

/-- And of the weight. -/
theorem ld_w (x : Vec Ideal S1024x2560 .bf16) : View.ld x r0_2 = x := by
  funext i
  obtain ⟨r, k, rfl⟩ : ∃ (r : Fin 1024) (k : Fin 2560), i = ix2 r k := ⟨i 0, i 1, eq_ix2 i⟩
  refine congrArg x (funext fun e => Fin.ext ?_)
  fin_cases e
  · show 0 + 1 * r.val = r.val
    omega
  · show 0 + 1 * k.val = k.val
    omega

/-- A column spread over the columns of a block. -/
theorem col (u : FVec Ideal S512x1 .f32) : broadcastTo S512x1024 u broadcasts_S512x1_S512x1024 = fun j => u (ix2 (j 0) 0) := by
  funext j
  obtain ⟨r, k, rfl⟩ : ∃ (r : Fin 512) (k : Fin 1024), j = ix2 r k := ⟨j 0, j 1, eq_ix2 j⟩
  refine congrArg u (funext fun a => ?_)
  fin_cases a <;> rfl

/-- A row spread over the rows of a block. -/
theorem rowb (u : FVec Ideal S1x1024 .f32) : broadcastTo S512x1024 u broadcasts_S1x1024_S512x1024 = fun j => u (ix2 0 (j 1)) := by
  funext j
  obtain ⟨r, k, rfl⟩ : ∃ (r : Fin 512) (k : Fin 1024), j = ix2 r k := ⟨j 0, j 1, eq_ix2 j⟩
  refine congrArg u (funext fun a => ?_)
  fin_cases a <;> rfl

/-- An index's row. -/
theorem ix2_row (r : Fin 512) (k : Fin 1024) : (ix2 r k : S512x1024.Idx) 0 = r := rfl

/-- An index's column. -/
theorem ix2_col (r : Fin 512) (k : Fin 1024) : (ix2 r k : S512x1024.Idx) 1 = k := rfl

/-- The normed row. -/
theorem normed_entry (x : Vec Ideal S512x1024 .f32) (g : Vec Ideal S1x1024 .f32) (r : Fin 512) (k : Fin 1024) :
    k0_pay1 x g (ix2 r k) = (x (ix2 r k) * root (fun l => x (ix2 r l)) * g (ix2 0 k) : EReal) := by
  unfold k0_pay1
  simp only [col, rowb]
  simp only [pointwise, ix2_row, ix2_col]
  unfold root denom
  simp only [zero_add]

/-- Its product with the weight. -/
theorem product_entry (x : Vec Ideal S512x1024 .f32) (g : Vec Ideal S1x1024 .f32) (w : Vec Ideal S1024x2560 .bf16) (r : Fin 512) (k : Fin 2560) :
    k0_pay2 x g w (ix2 r k)
      = (∑ d : Fin 1024, x (ix2 r d) * root (fun l => x (ix2 r l)) * g (ix2 0 d) * (w (ix2 d k) : EReal) : EReal) := by
  unfold k0_pay2
  simp only [pointwise]
  simp only [constant, Ideal.ofBits_def, Ideal.ofBits_zero_f32, zero_add, normed_entry]

/-- A point's first result. -/
theorem out_n (x : Vec Ideal S512x1024 .f32) (g : Vec Ideal S1x1024 .f32) (w : Vec Ideal S1024x2560 .bf16) (r : Fin 512) (k : Fin 1024) :
    out0_3 (F := Ideal) x g w (ix2 r k) = (x (ix2 r k) * root (fun l => x (ix2 r l)) * g (ix2 0 k) : EReal) := by
  unfold out0_3
  rw [ld_x, ld_gain]
  exact (canon_n _ r k).trans (normed_entry x g r k)

/-- Its second: the product's first columns. -/
theorem out_uv (x : Vec Ideal S512x1024 .f32) (g : Vec Ideal S1x1024 .f32) (w : Vec Ideal S1024x2560 .bf16) (r : Fin 512) (k : Fin 1024) :
    out0_4 (F := Ideal) x g w (ix2 r k)
      = (∑ d : Fin 1024, x (ix2 r d) * root (fun l => x (ix2 r l)) * g (ix2 0 d) * (w (ix2 d ⟨k.val, by omega⟩) : EReal) : EReal) := by
  unfold out0_4
  rw [ld_x, ld_gain, ld_w]
  refine (canon_uv _ r k).trans (Eq.trans ?_ (product_entry x g w r ⟨k.val, by omega⟩))
  unfold k0_pay3
  refine congrArg (k0_pay2 (F := Ideal) x g w) (funext fun a => Fin.ext ?_)
  fin_cases a
  · show 0 + r.val = r.val
    omega
  · show 0 + k.val = k.val
    omega

/-- Its third: the product's last columns. -/
theorem out_qkv (x : Vec Ideal S512x1024 .f32) (g : Vec Ideal S1x1024 .f32) (w : Vec Ideal S1024x2560 .bf16) (r : Fin 512) (k : Fin 1536) :
    out0_5 (F := Ideal) x g w (ix2 r k)
      = (∑ d : Fin 1024, x (ix2 r d) * root (fun l => x (ix2 r l)) * g (ix2 0 d) * (w (ix2 d ⟨1024 + k.val, by omega⟩) : EReal) : EReal) := by
  unfold out0_5
  rw [ld_x, ld_gain, ld_w]
  refine (canon_qkv _ r k).trans (Eq.trans ?_ (product_entry x g w r ⟨1024 + k.val, by omega⟩))
  unfold k0_pay4
  refine congrArg (k0_pay2 (F := Ideal) x g w) (funext fun a => Fin.ext ?_)
  fin_cases a
  · show 0 + r.val = r.val
    omega
  · rfl

variable (m : (ℓ : Loc nD τ sig) → Buf (Elt Ideal) ℓ) (c : Dev nD)

/-- The mixer's input. -/
abbrev inp : FVec Ideal S4096x1024 .f32 := m ((c : Thread nD τ).loc main_arg0)

/-- The norm's gain. -/
abbrev gain : FVec Ideal S1x1024 .f32 := m ((c : Thread nD τ).loc main_arg1)

/-- The input weight. -/
abbrev wgt : FVec Ideal S1024x2560 .f32 := m ((c : Thread nD τ).loc main_arg2)

/-- The rounded weight has the weight's entries. -/
theorem rounded (k : Fin 1024) (d : Fin 2560) : V m c main_v0 (ix2 k d) = (wgt m c (ix2 k d) : EReal) := by
  unfold V
  simp only [hostOps0, List.flatten_cons, List.flatten_nil, List.append_nil, List.cons_append,
      List.nil_append, cast_eq]
  after_results_simp
  rfl

/-- Where the blocks of the grid's points lie. -/
theorem blocks : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (cfg0.win 3).flush t = true ∧ (cfg0.win 4).flush t = true ∧ (cfg0.win 5).flush t = true :=
  (by decide +kernel : ∀ t : Fin grid0.N, _)

/-- A row of a point's block. -/
abbrev rowOf (j : Fin 8) (r : Fin 512) : Fin 4096 := ⟨512 * j.val + r.val, by omega⟩

/-- Every row is one. -/
theorem row_exists (t : Fin 4096) : ∃ (j : Fin 8) (r : Fin 512), t = rowOf j r :=
  ⟨⟨t.val / 512, by omega⟩, ⟨t.val % 512, by omega⟩, Fin.ext (by show t.val = 512 * (t.val / 512) + t.val % 512; omega)⟩

/-- The grid's point with a number. -/
abbrev pt (j : Fin 8) : Fin cfg0.N := ⟨j.val, j.isLt⟩

/-- The block of the input at a point. -/
theorem blk_x (j : Fin 8) (r : Fin 512) (d : Fin 1024) : iblk m c 0 (pt j) (ix2 r d) = inp m c (ix2 (rowOf j r) d) := by
  obtain ⟨⟨e0, e1⟩, -⟩ := blocks (pt j)
  replace e0 : _ = j.val := e0
  show V m c main_arg0 (((cfg0.win 0).blk (pt j)).view.emb (ix2 r d)) = _
  rw [V_main_arg0]
  refine congrArg (m ((c : Thread nD τ).loc main_arg0)) (funext fun a => Fin.ext ?_)
  fin_cases a
  · show win0_0.index _ (0 : Fin 2) * 512 + 1 * r.val = 512 * j.val + r.val
    omega
  · show win0_0.index _ (1 : Fin 2) * 1024 + 1 * d.val = d.val
    omega

/-- The gain at a point. -/
theorem blk_gain (j : Fin 8) (k : Fin 1024) : iblk m c 1 (pt j) (ix2 0 k) = gain m c (ix2 0 k) := by
  obtain ⟨-, ⟨e0, e1⟩, -⟩ := blocks (pt j)
  show V m c main_arg1 (((cfg0.win 1).blk (pt j)).view.emb (ix2 0 k)) = _
  rw [V_main_arg1]
  refine congrArg (m ((c : Thread nD τ).loc main_arg1)) (funext fun a => Fin.ext ?_)
  fin_cases a
  · show win0_1.index _ (0 : Fin 2) * 1 + 1 * 0 = 0
    omega
  · show win0_1.index _ (1 : Fin 2) * 1024 + 1 * k.val = k.val
    omega

/-- The weight at a point. -/
theorem blk_w (j : Fin 8) (k : Fin 1024) (d : Fin 2560) : iblk m c 2 (pt j) (ix2 k d) = (wgt m c (ix2 k d) : EReal) := by
  obtain ⟨-, -, ⟨e0, e1⟩, -⟩ := blocks (pt j)
  show V m c main_v0 (((cfg0.win 2).blk (pt j)).view.emb (ix2 k d)) = _
  refine Eq.trans (congrArg (V m c main_v0) (funext fun a => Fin.ext ?_)) (rounded m c k d)
  fin_cases a
  · show win0_2.index _ (0 : Fin 2) * 1024 + 1 * k.val = k.val
    omega
  · show win0_2.index _ (1 : Fin 2) * 2560 + 1 * d.val = d.val
    omega

/-- A token's normed entry. -/
def normedOf (x0 : Vec Ideal S4096x1024 .f32) (x1 : Vec Ideal S1x1024 .f32) (t : Fin 4096) (k : Fin 1024) : EReal :=
  (x0 (ix2 t k) * root (fun l => x0 (ix2 t l)) * x1 (ix2 0 k) : EReal)

/-- A token's projected entry. -/
def projOf (x0 : Vec Ideal S4096x1024 .f32) (x1 : Vec Ideal S1x1024 .f32) (x2 : Vec Ideal S1024x2560 .f32) (t : Fin 4096) (k : Fin 2560) : EReal :=
  (∑ d : Fin 1024, normedOf x0 x1 t d * (x2 (ix2 d k) : EReal) : EReal)

/-- A block's normed entries are its rows'. -/
theorem normed_at (j : Fin 8) (x : Vec Ideal S512x1024 .f32) (g : Vec Ideal S1x1024 .f32) (hx : x = iblk m c 0 (pt j)) (hg : g = iblk m c 1 (pt j)) (r : Fin 512) (k : Fin 1024) :
    (x (ix2 r k) * root (fun l => x (ix2 r l)) * g (ix2 0 k) : EReal) = normedOf (inp m c) (gain m c) (rowOf j r) k := by
  subst hx hg
  unfold normedOf
  simp only [blk_x, blk_gain]

/-- The kernel's first result, entry by entry. -/
theorem kernel_n (j : Fin 8) (r : Fin 512) (k : Fin 1024) : (dats m 0 c).arrAt 3 cfg0.N (ix2 (rowOf j r) k) = normedOf (inp m c) (gain m c) (rowOf j r) k := by
  obtain ⟨-, -, -, ⟨e0, e1⟩, -, -, hf, -, -⟩ := blocks (pt j)
  replace e0 : _ = j.val := e0
  have h := congrFun (blocks3 m c (pt j) hf) (ix2 r k)
  rw [flushed3] at h
  refine Eq.trans (congrArg ((dats m 0 c).arrAt 3 cfg0.N) (funext fun a => Fin.ext ?_)) (h.trans ?_)
  · fin_cases a
    · show 512 * j.val + r.val = win0_3.index _ (0 : Fin 2) * 512 + 1 * r.val
      omega
    · show k.val = win0_3.index _ (1 : Fin 2) * 1024 + 1 * k.val
      omega
  · exact (out_n _ _ _ r k).trans (normed_at m c j _ _ rfl rfl r k)

/-- The kernel's second result, entry by entry. -/
theorem kernel_uv (j : Fin 8) (r : Fin 512) (k : Fin 1024) : (dats m 0 c).arrAt 4 cfg0.N (ix2 (rowOf j r) k) = projOf (inp m c) (gain m c) (wgt m c) (rowOf j r) ⟨k.val, by omega⟩ := by
  obtain ⟨-, -, -, -, ⟨e0, e1⟩, -, -, hf, -⟩ := blocks (pt j)
  replace e0 : _ = j.val := e0
  have h := congrFun (blocks4 m c (pt j) hf) (ix2 r k)
  rw [flushed4] at h
  refine Eq.trans (congrArg ((dats m 0 c).arrAt 4 cfg0.N) (funext fun a => Fin.ext ?_)) (h.trans ?_)
  · fin_cases a
    · show 512 * j.val + r.val = win0_4.index _ (0 : Fin 2) * 512 + 1 * r.val
      omega
    · show k.val = win0_4.index _ (1 : Fin 2) * 1024 + 1 * k.val
      omega
  · refine (out_uv _ _ _ r k).trans ?_
    unfold projOf
    exact sum_congr rfl fun d _ => congrArg₂ (fun a b : EReal => a * b) (normed_at m c j _ _ rfl rfl r d) (blk_w m c j d _)

/-- The kernel's third result, entry by entry. -/
theorem kernel_qkv (j : Fin 8) (r : Fin 512) (k : Fin 1536) : (dats m 0 c).arrAt 5 cfg0.N (ix2 (rowOf j r) k) = projOf (inp m c) (gain m c) (wgt m c) (rowOf j r) ⟨1024 + k.val, by omega⟩ := by
  obtain ⟨-, -, -, -, -, ⟨e0, e1⟩, -, -, hf⟩ := blocks (pt j)
  replace e0 : _ = j.val := e0
  have h := congrFun (blocks5 m c (pt j) hf) (ix2 r k)
  rw [flushed5] at h
  refine Eq.trans (congrArg ((dats m 0 c).arrAt 5 cfg0.N) (funext fun a => Fin.ext ?_)) (h.trans ?_)
  · fin_cases a
    · show 512 * j.val + r.val = win0_5.index _ (0 : Fin 2) * 512 + 1 * r.val
      omega
    · show k.val = win0_5.index _ (1 : Fin 2) * 1536 + 1 * k.val
      omega
  · refine (out_qkv _ _ _ r k).trans ?_
    unfold projOf
    exact sum_congr rfl fun d _ => congrArg₂ (fun a b : EReal => a * b) (normed_at m c j _ _ rfl rfl r d) (blk_w m c j d _)

section Reference

open Cert.EnterReferenceIdeal.Read

variable (x0 : Vec Ideal S4096x1024 .f32) (x1 : Vec Ideal S1x1024 .f32) (x2 : Vec Ideal S1024x2560 .f32)

/-- The reference's reciprocal root of the mean of squares and the small number. -/
theorem ref_root (t : Fin 4096) : val_main_v7 (F := Ideal) x0 (ix2 t 0) = root fun l => x0 (ix2 t l) := by
  rw [val_main_v7_apply, val_main_v6_apply, val_main_v4_apply, val_main_v5_apply, val_main_cst_1_apply, val_main_v3_apply, val_main_cst_0_apply,
    val_main_v2_apply, val_main_v1_apply, val_main_cst_apply]
  simp only [Ideal.addf_def, Ideal.hostDivf_def, Ideal.ofBits_def, Ideal.ofBits_zero_f32, zero_add]
  unfold root denom
  refine congrArg (fun z : EReal => Ideal.rsqrt (Ideal.div z _ + _)) (sum_congr rfl fun l _ => ?_)
  refine (val_main_v0_apply (F := Ideal) x0 _).trans ?_
  have e : idx_main_v1 (idx_main_v2 (ix2 t 0)) l = ix2 t l := funext fun a => by fin_cases a <;> rfl
  rw [e]
  rfl

/-- The reference's normed entry. -/
theorem ref_normed (t : Fin 4096) (k : Fin 1024) : val_main_v11 (F := Ideal) x0 x1 (ix2 t k) = normedOf x0 x1 t k := by
  rw [val_main_v11_apply, val_main_v10_apply, val_main_v9_apply, val_main_v8_apply]
  have e : idx_main_v8 (ix2 t k) = ix2 t 0 := funext fun a => by fin_cases a <;> rfl
  have e' : idx_main_v10 (ix2 t k) = ix2 0 k := funext fun a => by fin_cases a <;> rfl
  rw [e, e', ref_root]
  rfl

/-- The reference's projected entry. -/
theorem ref_proj (t : Fin 4096) (k : Fin 2560) : val_main_v12 (F := Ideal) x0 x1 x2 (ix2 t k) = projOf x0 x1 x2 t k := by
  rw [val_main_v12_apply]
  unfold projOf
  refine sum_congr rfl fun d _ => congrArg₂ (fun a b : EReal => a * b) ?_ (congrArg x2 (funext fun a => by fin_cases a <;> rfl))
  exact (congrArg (val_main_v11 (F := Ideal) x0 x1) (funext fun a => by fin_cases a <;> rfl)).trans (ref_normed x0 x1 t d)

end Reference

/-- The kernel's first result is the reference's normed input, rounded. -/
theorem value_n : (dats m 0 c).arrAt 3 cfg0.N = Cert.EnterReferenceIdeal.Read.val_main_v15 (F := Ideal) (inp m c) (gain m c) :=
  funext fun i => by
    obtain ⟨t, k, rfl⟩ : ∃ (t : Fin 4096) (k : Fin 1024), i = ix2 t k := ⟨i 0, i 1, eq_ix2 i⟩
    obtain ⟨j, r, rfl⟩ := row_exists t
    refine (kernel_n m c j r k).trans ((ref_normed _ _ _ k).symm.trans ?_)
    rw [Cert.EnterReferenceIdeal.Read.val_main_v15_apply]
    rfl

/-- Its second is the product's first columns. -/
theorem value_uv : (dats m 0 c).arrAt 4 cfg0.N = Cert.EnterReferenceIdeal.Read.val_main_v13 (F := Ideal) (inp m c) (gain m c) (wgt m c) :=
  funext fun i => by
    obtain ⟨t, k, rfl⟩ : ∃ (t : Fin 4096) (k : Fin 1024), i = ix2 t k := ⟨i 0, i 1, eq_ix2 i⟩
    obtain ⟨j, r, rfl⟩ := row_exists t
    refine (kernel_uv m c j r k).trans ((ref_proj _ _ _ _ _).symm.trans ?_)
    rw [Cert.EnterReferenceIdeal.Read.val_main_v13_apply]
    exact congrArg (Cert.EnterReferenceIdeal.Read.val_main_v12 (F := Ideal) (inp m c) (gain m c) (wgt m c)) (funext fun a => by fin_cases a <;> rfl)

/-- Its third is the product's last columns, rounded. -/
theorem value_qkv : (dats m 0 c).arrAt 5 cfg0.N = Cert.EnterReferenceIdeal.Read.val_main_v16 (F := Ideal) (inp m c) (gain m c) (wgt m c) :=
  funext fun i => by
    obtain ⟨t, k, rfl⟩ : ∃ (t : Fin 4096) (k : Fin 1536), i = ix2 t k := ⟨i 0, i 1, eq_ix2 i⟩
    obtain ⟨j, r, rfl⟩ := row_exists t
    refine (kernel_qkv m c j r k).trans ((ref_proj _ _ _ _ _).symm.trans ?_)
    rw [Cert.EnterReferenceIdeal.Read.val_main_v16_apply, Cert.EnterReferenceIdeal.Read.val_main_v14_apply]
    exact congrArg (Cert.EnterReferenceIdeal.Read.val_main_v12 (F := Ideal) (inp m c) (gain m c) (wgt m c)) (funext fun a => by fin_cases a <;> rfl)

end Cert.EnterValue
-- ==== Proof.LeaveValue.lean ====
/- The mixer's output projection: the row a point stores, and that the two sums over half of the mixed columns are
   the reference's one. -/
module

public import Idealize.ShloMosaic.Lib.VecWindow
public import Idealize.ShloMosaic.Lib.WholeRead
public import Idealize.ShloMosaic.Lib.Pointwise
public import proofs.«01_k».proof.Proof.Gen.LeaveIdeal.Value
public import proofs.«01_k».proof.Proof.Gen.LeaveReferenceIdeal.Read

@[expose] public section

set_option maxRecDepth 16384

noncomputable section

namespace Cert.LeaveValue

open Finset Idealize.ShloMosaic Idealize.SL.Sem Idealize.ShloMosaic.TcCoe Cert.LeaveIdeal Cert.LeaveIdeal.Gen Cert.LeaveIdeal.Value

/-- One store over a whole block is the block. -/
theorem canon_whole (p : Vec Ideal S512x1024 .f32) (r : Fin 512) (k : Fin 1024) : View.canon (Val := Elt Ideal) [⟨r0_0, p⟩] (ix2 r k) = p (ix2 r k) := by
  refine Eq.trans (congrArg _ (funext fun a => Fin.ext ?_)) (View.canon_cons_emb (Val := Elt Ideal) r0_0 p [] (ix2 r k))
  fin_cases a
  · show r.val = 0 + 1 * r.val
    omega
  · show k.val = 0 + 1 * k.val
    omega

/-- A read of a whole block is the block. -/
theorem ld_rows (x : Vec Ideal S512x1024 .f32) (r : Fin 512) (k : Fin 1024) : View.ld x r0_0 (ix2 r k) = x (ix2 r k) := by
  refine congrArg x (funext fun e => Fin.ext ?_)
  fin_cases e
  · show 0 + 1 * r.val = r.val
    omega
  · show 0 + 1 * k.val = k.val
    omega

/-- And of a whole block of half of the columns. -/
theorem ld_half (x : Vec Ideal S512x512 .bf16) (r : Fin 512) (k : Fin 512) : View.ld x r0_1 (ix2 r k) = x (ix2 r k) := by
  refine congrArg x (funext fun e => Fin.ext ?_)
  fin_cases e
  · show 0 + 1 * r.val = r.val
    omega
  · show 0 + 1 * k.val = k.val
    omega

/-- The weight's first rows. -/
theorem ld_top (x : Vec Ideal S1024x1024 .bf16) (r : Fin 512) (k : Fin 1024) : View.ld x r0_2 (ix2 r k) = x (ix2 ⟨r.val, by omega⟩ k) := by
  refine congrArg x (funext fun e => Fin.ext ?_)
  fin_cases e
  · show 0 + 1 * r.val = r.val
    omega
  · show 0 + 1 * k.val = k.val
    omega

/-- The weight's last rows. -/
theorem ld_bottom (x : Vec Ideal S1024x1024 .bf16) (r : Fin 512) (k : Fin 1024) : View.ld x r0_3 (ix2 r k) = x (ix2 ⟨512 + r.val, by omega⟩ k) := by
  refine congrArg x (funext fun e => Fin.ext ?_)
  fin_cases e
  · show 512 + 1 * r.val = 512 + r.val
    omega
  · show 0 + 1 * k.val = k.val
    omega

/-- A row, and two products added to it. -/
theorem pay_entry (x : Vec Ideal S512x1024 .f32) (a : Vec Ideal S512x512 .bf16) (w : Vec Ideal S512x1024 .bf16) (b : Vec Ideal S512x512 .bf16) (v : Vec Ideal S512x1024 .bf16) (r : Fin 512) (k : Fin 1024) :
    k0_pay1 x a w b v (ix2 r k) = (x (ix2 r k) + (∑ d : Fin 512, (a (ix2 r d) : EReal) * (w (ix2 d k) : EReal)) + ∑ d : Fin 512, (b (ix2 r d) : EReal) * (v (ix2 d k) : EReal) : EReal) := by
  unfold k0_pay1
  simp only [pointwise]
  simp only [constant, Ideal.addf_def, Ideal.ofBits_def, Ideal.ofBits_zero_f32, zero_add]

/-- What a point stores: the row, and the two products added to it. -/
theorem out_entry (x0 : Vec Ideal S512x1024 .f32) (x1 x2 : Vec Ideal S512x512 .bf16) (x3 : Vec Ideal S1024x1024 .bf16) (r : Fin 512) (k : Fin 1024) :
    out0_4 (F := Ideal) x0 x1 x2 x3 (ix2 r k)
      = (x0 (ix2 r k) + (∑ d : Fin 512, (x1 (ix2 r d) : EReal) * (x3 (ix2 ⟨d.val, by omega⟩ k) : EReal)) + ∑ d : Fin 512, (x2 (ix2 r d) : EReal) * (x3 (ix2 ⟨512 + d.val, by omega⟩ k) : EReal) : EReal) := by
  unfold out0_4
  refine (canon_whole _ r k).trans ((pay_entry _ _ _ _ _ r k).trans ?_)
  refine congrArg₂ (fun a b : EReal => a + b) (congrArg₂ (fun a b : EReal => a + b) (ld_rows x0 r k) (sum_congr rfl fun d _ => ?_)) (sum_congr rfl fun d _ => ?_)
  · exact congrArg₂ (fun a b : EReal => a * b) (ld_half x1 r d) (ld_top x3 d k)
  · exact congrArg₂ (fun a b : EReal => a * b) (ld_half x2 r d) (ld_bottom x3 d k)

variable (m : (ℓ : Loc nD τ sig) → Buf (Elt Ideal) ℓ) (c : Dev nD)

/-- The mixer's input. -/
abbrev inp : FVec Ideal S4096x1024 .f32 := m ((c : Thread nD τ).loc main_arg0)

/-- The gMLP's output. -/
abbrev gm : FVec Ideal S4096x512 .bf16 := m ((c : Thread nD τ).loc main_arg1)

/-- The attention's output. -/
abbrev sb : FVec Ideal S4096x512 .bf16 := m ((c : Thread nD τ).loc main_arg2)

/-- The output weight. -/
abbrev wgt : FVec Ideal S1024x1024 .f32 := m ((c : Thread nD τ).loc main_arg3)

/-- The rounded weight has the weight's entries. -/
theorem rounded (k : Fin 1024) (d : Fin 1024) : V m c main_v0 (ix2 k d) = (wgt m c (ix2 k d) : EReal) := by
  unfold V
  simp only [hostOps0, List.flatten_cons, List.flatten_nil, List.append_nil, List.cons_append,
      List.nil_append, cast_eq]
  after_results_simp
  rfl

/-- Where the blocks of the grid's points lie. -/
theorem blocks : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (cfg0.win 4).flush t = true :=
  (by decide +kernel : ∀ t : Fin grid0.N, _)

/-- A row of a point's block. -/
abbrev rowOf (j : Fin 8) (r : Fin 512) : Fin 4096 := ⟨512 * j.val + r.val, by omega⟩

/-- Every row is one. -/
theorem row_exists (t : Fin 4096) : ∃ (j : Fin 8) (r : Fin 512), t = rowOf j r :=
  ⟨⟨t.val / 512, by omega⟩, ⟨t.val % 512, by omega⟩, Fin.ext (by show t.val = 512 * (t.val / 512) + t.val % 512; omega)⟩

/-- The grid's point with a number. -/
abbrev pt (j : Fin 8) : Fin cfg0.N := ⟨j.val, j.isLt⟩

/-- The block of the input at a point. -/
theorem blk_x (j : Fin 8) (r : Fin 512) (d : Fin 1024) : iblk m c 0 (pt j) (ix2 r d) = inp m c (ix2 (rowOf j r) d) := by
  obtain ⟨⟨e0, e1⟩, -⟩ := blocks (pt j)
  replace e0 : _ = j.val := e0
  show V m c main_arg0 (((cfg0.win 0).blk (pt j)).view.emb (ix2 r d)) = _
  rw [V_main_arg0]
  refine congrArg (m ((c : Thread nD τ).loc main_arg0)) (funext fun a => Fin.ext ?_)
  fin_cases a
  · show win0_0.index _ (0 : Fin 2) * 512 + 1 * r.val = 512 * j.val + r.val
    omega
  · show win0_0.index _ (1 : Fin 2) * 1024 + 1 * d.val = d.val
    omega

/-- The block of the gMLP's output at a point. -/
theorem blk_gm (j : Fin 8) (r : Fin 512) (d : Fin 512) : iblk m c 1 (pt j) (ix2 r d) = gm m c (ix2 (rowOf j r) d) := by
  obtain ⟨-, ⟨e0, e1⟩, -⟩ := blocks (pt j)
  replace e0 : _ = j.val := e0
  show V m c main_arg1 (((cfg0.win 1).blk (pt j)).view.emb (ix2 r d)) = _
  rw [V_main_arg1]
  refine congrArg (m ((c : Thread nD τ).loc main_arg1)) (funext fun a => Fin.ext ?_)
  fin_cases a
  · show win0_1.index _ (0 : Fin 2) * 512 + 1 * r.val = 512 * j.val + r.val
    omega
  · show win0_1.index _ (1 : Fin 2) * 512 + 1 * d.val = d.val
    omega

/-- The block of the attention's output at a point. -/
theorem blk_sb (j : Fin 8) (r : Fin 512) (d : Fin 512) : iblk m c 2 (pt j) (ix2 r d) = sb m c (ix2 (rowOf j r) d) := by
  obtain ⟨-, -, ⟨e0, e1⟩, -⟩ := blocks (pt j)
  replace e0 : _ = j.val := e0
  show V m c main_arg2 (((cfg0.win 2).blk (pt j)).view.emb (ix2 r d)) = _
  rw [V_main_arg2]
  refine congrArg (m ((c : Thread nD τ).loc main_arg2)) (funext fun a => Fin.ext ?_)
  fin_cases a
  · show win0_2.index _ (0 : Fin 2) * 512 + 1 * r.val = 512 * j.val + r.val
    omega
  · show win0_2.index _ (1 : Fin 2) * 512 + 1 * d.val = d.val
    omega

/-- The weight at a point. -/
theorem blk_w (j : Fin 8) (k : Fin 1024) (d : Fin 1024) : iblk m c 3 (pt j) (ix2 k d) = (wgt m c (ix2 k d) : EReal) := by
  obtain ⟨-, -, -, ⟨e0, e1⟩, -⟩ := blocks (pt j)
  show V m c main_v0 (((cfg0.win 3).blk (pt j)).view.emb (ix2 k d)) = _
  refine Eq.trans (congrArg (V m c main_v0) (funext fun a => Fin.ext ?_)) (rounded m c k d)
  fin_cases a
  · show win0_3.index _ (0 : Fin 2) * 1024 + 1 * k.val = k.val
    omega
  · show win0_3.index _ (1 : Fin 2) * 1024 + 1 * d.val = d.val
    omega

/-- A token's output. -/
def outOf (x0 : Vec Ideal S4096x1024 .f32) (x1 x2 : Vec Ideal S4096x512 .bf16) (x3 : Vec Ideal S1024x1024 .f32) (t : Fin 4096) (k : Fin 1024) : EReal :=
  (x0 (ix2 t k) + (∑ d : Fin 512, (x1 (ix2 t d) : EReal) * (x3 (ix2 ⟨d.val, by omega⟩ k) : EReal)) + ∑ d : Fin 512, (x2 (ix2 t d) : EReal) * (x3 (ix2 ⟨512 + d.val, by omega⟩ k) : EReal) : EReal)

/-- The kernel's result, entry by entry. -/
theorem kernel_out (j : Fin 8) (r : Fin 512) (k : Fin 1024) : (dats m 0 c).arrAt 4 cfg0.N (ix2 (rowOf j r) k) = outOf (inp m c) (gm m c) (sb m c) (wgt m c) (rowOf j r) k := by
  obtain ⟨-, -, -, -, ⟨e0, e1⟩, hf⟩ := blocks (pt j)
  replace e0 : _ = j.val := e0
  have h := congrFun (blocks4 m c (pt j) hf) (ix2 r k)
  rw [flushed4] at h
  refine Eq.trans (congrArg ((dats m 0 c).arrAt 4 cfg0.N) (funext fun a => Fin.ext ?_)) (h.trans ?_)
  · fin_cases a
    · show 512 * j.val + r.val = win0_4.index _ (0 : Fin 2) * 512 + 1 * r.val
      omega
    · show k.val = win0_4.index _ (1 : Fin 2) * 1024 + 1 * k.val
      omega
  · refine (out_entry _ _ _ _ r k).trans ?_
    unfold outOf
    refine congrArg₂ (fun a b : EReal => a + b) (congrArg₂ (fun a b : EReal => a + b) (blk_x m c j r k) (sum_congr rfl fun d _ => ?_)) (sum_congr rfl fun d _ => ?_)
    · exact congrArg₂ (fun a b : EReal => a * b) (blk_gm m c j r d) (blk_w m c j _ k)
    · exact congrArg₂ (fun a b : EReal => a * b) (blk_sb m c j r d) (blk_w m c j _ k)

section Reference

open Cert.LeaveReferenceIdeal.Read

variable (x0 : Vec Ideal S4096x1024 .f32) (x1 x2 : Vec Ideal S4096x512 .bf16) (x3 : Vec Ideal S1024x1024 .f32)

/-- The two outputs side by side, in the first columns. -/
theorem ref_left (t : Fin 4096) (d : Fin 512) : val_main_v1 (F := Ideal) x1 x2 (ix2 t ⟨d.val, by omega⟩) = (x1 (ix2 t d) : EReal) := by
  rw [val_main_v1_apply]
  unfold val_main_v0
  exact concatenate_pair_apply_left (t := Cert.LeaveReferenceIdeal.S4096x1024) (s₁ := S4096x512) (s₂ := S4096x512) 1 _ _ _ _ rfl (ix2 t d) (fun b => by fin_cases b <;> rfl)

/-- And in the last. -/
theorem ref_right (t : Fin 4096) (d : Fin 512) : val_main_v1 (F := Ideal) x1 x2 (ix2 t ⟨512 + d.val, by omega⟩) = (x2 (ix2 t d) : EReal) := by
  rw [val_main_v1_apply]
  unfold val_main_v0
  refine concatenate_pair_apply_right (t := Cert.LeaveReferenceIdeal.S4096x1024) (s₁ := S4096x512) (s₂ := S4096x512) 1 _ _ _ _ rfl rfl (ix2 t d) (fun b hb => ?_) ?_
  · fin_cases b
    · rfl
    · exact absurd rfl hb
  · show d.val + 512 = 512 + d.val
    omega

/-- The reference's result, entry by entry: its single sum over the columns is the two. -/
theorem ref_out (t : Fin 4096) (k : Fin 1024) : val_main_v3 (F := Ideal) x0 x1 x2 x3 (ix2 t k) = outOf x0 x1 x2 x3 t k := by
  rw [val_main_v3_apply, val_main_v2_apply]
  unfold outOf
  refine Eq.trans ?_ (add_assoc (G := EReal) _ _ _).symm
  refine congrArg (fun z : EReal => x0 (ix2 t k) + z) ((Fin.sum_univ_add (a := 512) (b := 512) _).trans ?_)
  refine congrArg₂ (fun a b : EReal => a + b) (sum_congr rfl fun d _ => congrArg₂ (fun a b : EReal => a * b) ?_ ?_) (sum_congr rfl fun d _ => congrArg₂ (fun a b : EReal => a * b) ?_ ?_)
  · exact Eq.trans (congrArg (val_main_v1 (F := Ideal) x1 x2) (funext fun a => by fin_cases a <;> rfl)) (ref_left x1 x2 t d)
  · exact congrArg x3 (funext fun a => by fin_cases a <;> rfl)
  · exact Eq.trans (congrArg (val_main_v1 (F := Ideal) x1 x2) (funext fun a => by fin_cases a <;> rfl)) (ref_right x1 x2 t d)
  · exact congrArg x3 (funext fun a => by fin_cases a <;> rfl)

end Reference

/-- The kernel's result is the reference's. -/
theorem value : (dats m 0 c).arrAt 4 cfg0.N = Cert.LeaveReferenceIdeal.Read.val_main_v3 (F := Ideal) (inp m c) (gm m c) (sb m c) (wgt m c) :=
  funext fun i => by
    obtain ⟨t, k, rfl⟩ : ∃ (t : Fin 4096) (k : Fin 1024), i = ix2 t k := ⟨i 0, i 1, eq_ix2 i⟩
    obtain ⟨j, r, rfl⟩ := row_exists t
    exact (kernel_out m c j r k).trans (ref_out _ _ _ _ _ k).symm

end Cert.LeaveValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InputIdeal.Value
public import proofs.«01_k».proof.Proof.Gen.InputReferenceIdeal.Run
public import proofs.«01_k».proof.Proof.Gen.InputReferenceIdeal.Read
public import proofs.«01_k».proof.Proof.Gen.GatesIdeal.Value
public import proofs.«01_k».proof.Proof.Gen.GatesReferenceIdeal.Run
public import proofs.«01_k».proof.Proof.Gen.GatesReferenceIdeal.Read
public import proofs.«01_k».proof.Proof.Gen.DwInIdeal.Value
public import proofs.«01_k».proof.Proof.Gen.DwInReferenceIdeal.Run
public import proofs.«01_k».proof.Proof.Gen.DwInReferenceIdeal.Read
public import proofs.«01_k».proof.Proof.Gen.DwOutIdeal.Value
public import proofs.«01_k».proof.Proof.Gen.DwOutReferenceIdeal.Run
public import proofs.«01_k».proof.Proof.Gen.DwOutReferenceIdeal.Read
public import proofs.«01_k».proof.Proof.Gen.Input.Frame
public import proofs.«01_k».proof.Proof.Gen.InputIdeal.Frame
public import proofs.«01_k».proof.Proof.Gen.Gates.Frame
public import proofs.«01_k».proof.Proof.Gen.GatesIdeal.Frame
public import proofs.«01_k».proof.Proof.Gen.DwIn.Frame
public import proofs.«01_k».proof.Proof.Gen.DwInIdeal.Frame
public import proofs.«01_k».proof.Proof.Gen.DwHalfIdeal.Value
public import proofs.«01_k».proof.Proof.Gen.DwHalfReferenceIdeal.Run
public import proofs.«01_k».proof.Proof.Gen.DwHalfReferenceIdeal.Read
public import proofs.«01_k».proof.Proof.Gen.DwHalf.Frame
public import proofs.«01_k».proof.Proof.Gen.DwHalfIdeal.Frame
public import proofs.«01_k».proof.Proof.Gen.DwQkvIdeal.Value
public import proofs.«01_k».proof.Proof.Gen.DwQkvReferenceIdeal.Run
public import proofs.«01_k».proof.Proof.Gen.DwQkvReferenceIdeal.Read
public import proofs.«01_k».proof.Proof.Gen.DwQkv.Frame
public import proofs.«01_k».proof.Proof.Gen.DwQkvIdeal.Frame
public import proofs.«01_k».proof.Proof.Gen.DwUvIdeal.Value
public import proofs.«01_k».proof.Proof.Gen.DwUvReferenceIdeal.Run
public import proofs.«01_k».proof.Proof.Gen.DwUvReferenceIdeal.Read
public import proofs.«01_k».proof.Proof.Gen.DwUv.Frame
public import proofs.«01_k».proof.Proof.Gen.DwUvIdeal.Frame
public import proofs.«01_k».proof.Proof.Gen.DwMixOutIdeal.Value
public import proofs.«01_k».proof.Proof.Gen.DwMixOutReferenceIdeal.Run
public import proofs.«01_k».proof.Proof.Gen.DwMixOutReferenceIdeal.Read
public import proofs.«01_k».proof.Proof.Gen.DwMixOut.Frame
public import proofs.«01_k».proof.Proof.Gen.DwMixOutIdeal.Frame
public import proofs.«01_k».proof.Proof.Gen.MixOutIdeal.Value
public import proofs.«01_k».proof.Proof.Gen.MixOutReferenceIdeal.Run
public import proofs.«01_k».proof.Proof.Gen.MixOutReferenceIdeal.Read
public import proofs.«01_k».proof.Proof.Gen.MixOut.Frame
public import proofs.«01_k».proof.Proof.Gen.MixOutIdeal.Frame
public import proofs.«01_k».proof.Proof.Gen.MixInIdeal.Value
public import proofs.«01_k».proof.Proof.Gen.MixInReferenceIdeal.Run
public import proofs.«01_k».proof.Proof.Gen.MixInReferenceIdeal.Read
public import proofs.«01_k».proof.Proof.Gen.MixIn.Frame
public import proofs.«01_k».proof.Proof.Gen.MixInIdeal.Frame
public import proofs.«01_k».proof.Proof.Gen.EnterIdeal.Value
public import proofs.«01_k».proof.Proof.Gen.EnterReferenceIdeal.Run
public import proofs.«01_k».proof.Proof.Gen.EnterReferenceIdeal.Read
public import proofs.«01_k».proof.Proof.Gen.Enter.Frame
public import proofs.«01_k».proof.Proof.Gen.EnterIdeal.Frame
public import proofs.«01_k».proof.Proof.Gen.LeaveIdeal.Value
public import proofs.«01_k».proof.Proof.Gen.LeaveReferenceIdeal.Run
public import proofs.«01_k».proof.Proof.Gen.LeaveReferenceIdeal.Read
public import proofs.«01_k».proof.Proof.Gen.Leave.Frame
public import proofs.«01_k».proof.Proof.Gen.LeaveIdeal.Frame
public import proofs.«01_k».proof.Proof.Gen.DwOut.Frame
public import proofs.«01_k».proof.Proof.Gen.DwOutIdeal.Frame
public import proofs.«01_k».proof.Proof.Gen.Pre_gates_finite
public import proofs.«01_k».proof.Proof.Values
public import proofs.«01_k».proof.Proof.InputValue
public import proofs.«01_k».proof.Proof.GateGrad
public import proofs.«01_k».proof.Proof.WeightIn
public import proofs.«01_k».proof.Proof.WeightOut
public import proofs.«01_k».proof.Proof.WeightHalf
public import proofs.«01_k».proof.Proof.WeightQkv
public import proofs.«01_k».proof.Proof.WeightUv
public import proofs.«01_k».proof.Proof.WeightMix
public import proofs.«01_k».proof.Proof.MixOutValue
public import proofs.«01_k».proof.Proof.MixInValue
public import proofs.«01_k».proof.Proof.EnterValue
public import proofs.«01_k».proof.Proof.LeaveValue
public import Idealize.ShloMosaic.Adequacy
public import Idealize.ShloMosaic.Init

@[expose] public section

noncomputable section

namespace Cert.Proof

open Idealize.ShloMosaic Idealize.SL.Sem Cert.Kernel

/-- The reference's program ends with its arguments as they were, and no counter raised: it declares none. -/
theorem reference_frame : Cert.quiescent_ReferenceIdeal := fun m ρ _ =>
  (θ_run Cert.ReferenceIdeal.defs _ _).mono
    (fun r h => ⟨fun c => ⟨(h c).2.2.2.1, (h c).2.2.2.2⟩, sem_eq_zero_of_no_sems (by decide) r.2⟩)
    (Cert.ReferenceIdeal.Value.run m ρ)

/-- On finite inputs the three results of the backward call are the three gradients of the reference. -/
theorem gradients : Cert.algebraic_KernelIdeal_ReferenceIdeal_pre_finite := fun m g m' g' pre same => by
  refine ⟨Cert.KernelIdeal.Value.G5 m, Cert.KernelIdeal.Value.G6 m, Cert.KernelIdeal.Value.G7 m,
    Cert.KernelIdeal.Value.run m g,
    (θ_run Cert.ReferenceIdeal.defs _ _).mono (fun r h c => ?_) (Cert.ReferenceIdeal.Value.run m' g')⟩
  obtain ⟨⟨X, hX⟩, W, hW⟩ := Cert.Stick.inputs_real _ _ (pre c)
  obtain ⟨e0, e1⟩ := same c
  obtain ⟨h0, h1, h2, h3, h4⟩ := h c
  refine ⟨h0.trans ?_, h1.trans ?_, h2.trans ?_, h3, h4⟩
  · rw [Cert.ReferenceIdeal.Read.val_main_v50_eq, e0, e1]
    exact (Cert.Stick.G5_value m c hX hW).symm
  · rw [Cert.ReferenceIdeal.Read.val_main_v52_eq, e0, e1]
    exact (Cert.Stick.G6_value m c hX hW).symm
  · rw [Cert.ReferenceIdeal.Read.val_main_v54_eq, e0, e1]
    exact (Cert.Stick.G7_value m c hX hW).symm

/-- The reference of the input's gradient ends with its arguments as they were, and no counter raised: it declares none. -/
theorem input_reference_frame : Cert.quiescent_InputReferenceIdeal := fun m ρ _ =>
  (θ_run Cert.InputReferenceIdeal.defs _ _).mono
    (fun r h => ⟨fun c => (h c).2.2, sem_eq_zero_of_no_sems (by decide) r.2⟩)
    (Cert.InputReferenceIdeal.Value.run m ρ)

/-- The reference of the gates' gradient ends with its arguments as they were, and no counter raised: it declares none. -/
theorem gates_reference_frame : Cert.quiescent_GatesReferenceIdeal := fun m ρ _ =>
  (θ_run Cert.GatesReferenceIdeal.defs _ _).mono
    (fun r h => ⟨fun c => (h c).2.2, sem_eq_zero_of_no_sems (by decide) r.2⟩)
    (Cert.GatesReferenceIdeal.Value.run m ρ)

/-- The reference of the first weight's gradient ends with its arguments as they were, and no counter raised: it declares none. -/
theorem dw_in_reference_frame : Cert.quiescent_DwInReferenceIdeal := fun m ρ _ =>
  (θ_run Cert.DwInReferenceIdeal.defs _ _).mono
    (fun r h => ⟨fun c => (h c).2, sem_eq_zero_of_no_sems (by decide) r.2⟩)
    (Cert.DwInReferenceIdeal.Value.run m ρ)

/-- The reference of the second weight's gradient ends with its arguments as they were, and no counter raised: it declares none. -/
theorem dw_out_reference_frame : Cert.quiescent_DwOutReferenceIdeal := fun m ρ _ =>
  (θ_run Cert.DwOutReferenceIdeal.defs _ _).mono
    (fun r h => ⟨fun c => (h c).2, sem_eq_zero_of_no_sems (by decide) r.2⟩)
    (Cert.DwOutReferenceIdeal.Value.run m ρ)

/-- The reference of the gradient of the first weight's upper or lower half ends with its arguments as they were, and no counter raised: it declares none. -/
theorem dw_half_reference_frame : Cert.quiescent_DwHalfReferenceIdeal := fun m ρ _ =>
  (θ_run Cert.DwHalfReferenceIdeal.defs _ _).mono
    (fun r h => ⟨fun c => (h c).2, sem_eq_zero_of_no_sems (by decide) r.2⟩)
    (Cert.DwHalfReferenceIdeal.Value.run m ρ)

/-- The reference of the gradient of the attention's input weight ends with its arguments as they were, and no counter raised: it declares none. -/
theorem dw_qkv_reference_frame : Cert.quiescent_DwQkvReferenceIdeal := fun m ρ _ =>
  (θ_run Cert.DwQkvReferenceIdeal.defs _ _).mono
    (fun r h => ⟨fun c => (h c).2, sem_eq_zero_of_no_sems (by decide) r.2⟩)
    (Cert.DwQkvReferenceIdeal.Value.run m ρ)

/-- The reference of the gradient of the gate's input weight ends with its arguments as they were, and no counter raised: it declares none. -/
theorem dw_uv_reference_frame : Cert.quiescent_DwUvReferenceIdeal := fun m ρ _ =>
  (θ_run Cert.DwUvReferenceIdeal.defs _ _).mono
    (fun r h => ⟨fun c => (h c).2, sem_eq_zero_of_no_sems (by decide) r.2⟩)
    (Cert.DwUvReferenceIdeal.Value.run m ρ)

/-- The reference of the gradient of half of the mixer's output weight ends with its arguments as they were, and no counter raised: it declares none. -/
theorem dw_mix_out_reference_frame : Cert.quiescent_DwMixOutReferenceIdeal := fun m ρ _ =>
  (θ_run Cert.DwMixOutReferenceIdeal.defs _ _).mono
    (fun r h => ⟨fun c => (h c).2, sem_eq_zero_of_no_sems (by decide) r.2⟩)
    (Cert.DwMixOutReferenceIdeal.Value.run m ρ)

/-- The reference of the gradient through the mixer's output projection ends with its arguments as they were, and no counter raised: it declares none. -/
theorem mix_out_reference_frame : Cert.quiescent_MixOutReferenceIdeal := fun m ρ _ =>
  (θ_run Cert.MixOutReferenceIdeal.defs _ _).mono
    (fun r h => ⟨fun c => (h c).2.2.2, sem_eq_zero_of_no_sems (by decide) r.2⟩)
    (Cert.MixOutReferenceIdeal.Value.run m ρ)

/-- The reference of the gradient of the mixer's input ends with its arguments as they were, and no counter raised: it declares none. -/
theorem mix_in_reference_frame : Cert.quiescent_MixInReferenceIdeal := fun m ρ _ =>
  (θ_run Cert.MixInReferenceIdeal.defs _ _).mono
    (fun r h => ⟨fun c => (h c).2.2.2, sem_eq_zero_of_no_sems (by decide) r.2⟩)
    (Cert.MixInReferenceIdeal.Value.run m ρ)

/-- The reference of the mixer's input projection ends with its arguments as they were, and no counter raised: it declares none. -/
theorem enter_reference_frame : Cert.quiescent_EnterReferenceIdeal := fun m ρ _ =>
  (θ_run Cert.EnterReferenceIdeal.defs _ _).mono
    (fun r h => ⟨fun c => (h c).2.2.2, sem_eq_zero_of_no_sems (by decide) r.2⟩)
    (Cert.EnterReferenceIdeal.Value.run m ρ)

/-- The reference of the mixer's output projection ends with its arguments as they were, and no counter raised: it declares none. -/
theorem leave_reference_frame : Cert.quiescent_LeaveReferenceIdeal := fun m ρ _ =>
  (θ_run Cert.LeaveReferenceIdeal.defs _ _).mono
    (fun r h => ⟨fun c => (h c).2, sem_eq_zero_of_no_sems (by decide) r.2⟩)
    (Cert.LeaveReferenceIdeal.Value.run m ρ)

/-- The two results of the call are the gradients of the half-step's input and of its gain. -/
theorem input_gradients : Cert.algebraic_InputIdeal_InputReferenceIdeal := fun m g m' g' _ same => by
  refine ⟨Cert.InputIdeal.Value.G7 m, Cert.InputIdeal.Value.G8 m, Cert.InputIdeal.Value.run m g,
    (θ_run Cert.InputReferenceIdeal.defs _ _).mono (fun r h c => ?_) (Cert.InputReferenceIdeal.Value.run m' g')⟩
  obtain ⟨e0, e1, e2, e3, e4, e5⟩ := same c
  obtain ⟨h0, h1, h2⟩ := h c
  refine ⟨h0.trans ?_, h1.trans ?_, h2⟩
  · refine (Cert.InputReferenceIdeal.Read.val_main_v41_eq (F := Ideal) m' c).trans ?_
    rw [e0, e1, e2, e3, e4, e5]
    exact (Cert.InputValue.value7 m c).symm
  · refine (Cert.InputReferenceIdeal.Read.val_main_v24_eq (F := Ideal) _ _ _ _).trans ?_
    rw [e1, e3, e4, e5]
    exact (Cert.InputValue.value8 m c).symm

/-- On finite inputs the two results of the call are the gradients of the gates and of the ups. -/
theorem gate_gradients : Cert.algebraic_GatesIdeal_GatesReferenceIdeal_pre_gates_finite := fun m g m' g' pre same => by
  refine ⟨_, _, Cert.GatesIdeal.Value.run_blocks m g,
    (θ_run Cert.GatesReferenceIdeal.defs _ _).mono (fun r h c => ?_) (Cert.GatesReferenceIdeal.Value.run m' g')⟩
  obtain ⟨e0, e1, e2, e3⟩ := same c
  obtain ⟨h0, h1, h2⟩ := h c
  refine ⟨h0.trans ?_, h1.trans ?_, h2⟩
  · refine (Cert.GatesReferenceIdeal.Read.val_main_v20_eq (F := Ideal) m' c).trans ?_
    rw [e0, e1, e2, e3]
    exact (Cert.GateGrad.value4 m c (pre c)).symm
  · refine (Cert.GatesReferenceIdeal.Read.val_main_v30_eq (F := Ideal) _ _ _).trans ?_
    rw [e0, e1, e3]
    exact (Cert.GateGrad.value5 m c).symm

/-- The result of the call is the gradient of the first weight. -/
theorem weight_in_gradient : Cert.algebraic_DwInIdeal_DwInReferenceIdeal := fun m g m' g' _ same => by
  refine ⟨_, Cert.DwInIdeal.Value.run_blocks m g,
    (θ_run Cert.DwInReferenceIdeal.defs _ _).mono (fun r h c => ?_) (Cert.DwInReferenceIdeal.Value.run m' g')⟩
  obtain ⟨e0, e1, e2⟩ := same c
  obtain ⟨h0, h1⟩ := h c
  refine ⟨h0.trans ?_, h1⟩
  refine (Cert.DwInReferenceIdeal.Read.val_main_v27_eq (F := Ideal) m' c).trans ?_
  rw [e0, e1, e2]
  exact (Cert.WeightIn.value m c).symm

/-- The result of the call is the gradient of the second weight. -/
theorem weight_out_gradient : Cert.algebraic_DwOutIdeal_DwOutReferenceIdeal := fun m g m' g' _ same => by
  refine ⟨_, Cert.DwOutIdeal.Value.run_blocks m g,
    (θ_run Cert.DwOutReferenceIdeal.defs _ _).mono (fun r h c => ?_) (Cert.DwOutReferenceIdeal.Value.run m' g')⟩
  obtain ⟨e0, e1⟩ := same c
  obtain ⟨h0, h1⟩ := h c
  refine ⟨h0.trans ?_, h1⟩
  refine (Cert.DwOutReferenceIdeal.Read.val_main_v7_eq (F := Ideal) _ _).trans ?_
  rw [e0, e1]
  exact (Cert.WeightOut.value m c).symm

/-- The result of the call is the gradient of half of the first weight. -/
theorem weight_half_gradient : Cert.algebraic_DwHalfIdeal_DwHalfReferenceIdeal := fun m g m' g' _ same => by
  refine ⟨_, Cert.DwHalfIdeal.Value.run_blocks m g,
    (θ_run Cert.DwHalfReferenceIdeal.defs _ _).mono (fun r h c => ?_) (Cert.DwHalfReferenceIdeal.Value.run m' g')⟩
  obtain ⟨e0, e1, e2⟩ := same c
  obtain ⟨h0, h1⟩ := h c
  refine ⟨h0.trans ?_, h1⟩
  refine (Cert.DwHalfReferenceIdeal.Read.val_main_v27_eq (F := Ideal) m' c).trans ?_
  rw [e0, e1, e2]
  exact (Cert.WeightHalf.value m c).symm

/-- The result of the call is the gradient of the attention's input weight. -/
theorem weight_qkv_gradient : Cert.algebraic_DwQkvIdeal_DwQkvReferenceIdeal := fun m g m' g' _ same => by
  refine ⟨_, Cert.DwQkvIdeal.Value.run_blocks m g,
    (θ_run Cert.DwQkvReferenceIdeal.defs _ _).mono (fun r h c => ?_) (Cert.DwQkvReferenceIdeal.Value.run m' g')⟩
  obtain ⟨e0, e1⟩ := same c
  obtain ⟨h0, h1⟩ := h c
  refine ⟨h0.trans ?_, h1⟩
  refine (Cert.DwQkvReferenceIdeal.Read.val_main_v6_eq (F := Ideal) _ _).trans ?_
  rw [e0, e1]
  exact (Cert.WeightQkv.value m c).symm

/-- The result of the call is the gradient of the gate's input weight. -/
theorem weight_uv_gradient : Cert.algebraic_DwUvIdeal_DwUvReferenceIdeal := fun m g m' g' _ same => by
  refine ⟨_, Cert.DwUvIdeal.Value.run_blocks m g,
    (θ_run Cert.DwUvReferenceIdeal.defs _ _).mono (fun r h c => ?_) (Cert.DwUvReferenceIdeal.Value.run m' g')⟩
  obtain ⟨e0, e1⟩ := same c
  obtain ⟨h0, h1⟩ := h c
  refine ⟨h0.trans ?_, h1⟩
  refine (Cert.DwUvReferenceIdeal.Read.val_main_v6_eq (F := Ideal) _ _).trans ?_
  rw [e0, e1]
  exact (Cert.WeightUv.value m c).symm

/-- The result of the call is the gradient of half of the mixer's output weight. -/
theorem weight_mix_out_gradient : Cert.algebraic_DwMixOutIdeal_DwMixOutReferenceIdeal := fun m g m' g' _ same => by
  refine ⟨_, Cert.DwMixOutIdeal.Value.run_blocks m g,
    (θ_run Cert.DwMixOutReferenceIdeal.defs _ _).mono (fun r h c => ?_) (Cert.DwMixOutReferenceIdeal.Value.run m' g')⟩
  obtain ⟨e0, e1⟩ := same c
  obtain ⟨h0, h1⟩ := h c
  refine ⟨h0.trans ?_, h1⟩
  refine (Cert.DwMixOutReferenceIdeal.Read.val_main_v6_eq (F := Ideal) _ _).trans ?_
  rw [e0, e1]
  exact (Cert.WeightMix.value m c).symm

/-- The three results of the call are the gradients of the output projection's two inputs, and the gradient it was given, rounded. -/
theorem mix_out_gradients : Cert.algebraic_MixOutIdeal_MixOutReferenceIdeal := fun m g m' g' _ same => by
  refine ⟨_, _, _, Cert.MixOutIdeal.Value.run_blocks m g,
    (θ_run Cert.MixOutReferenceIdeal.defs _ _).mono (fun r h c => ?_) (Cert.MixOutReferenceIdeal.Value.run m' g')⟩
  obtain ⟨e0, e1⟩ := same c
  obtain ⟨h0, h1, h2, h3⟩ := h c
  refine ⟨h0.trans ?_, h1.trans ?_, h2.trans ?_, h3⟩
  · refine (Cert.MixOutReferenceIdeal.Read.val_main_v4_eq (F := Ideal) _ _).trans ?_
    rw [e0, e1]
    exact (Cert.MixOutValue.value_gm m c).symm
  · refine (Cert.MixOutReferenceIdeal.Read.val_main_v5_eq (F := Ideal) _ _).trans ?_
    rw [e0, e1]
    exact (Cert.MixOutValue.value_sb m c).symm
  · refine (Cert.MixOutReferenceIdeal.Read.val_main_v6_eq (F := Ideal) _).trans ?_
    rw [e0]
    exact (Cert.MixOutValue.value_dh m c).symm

/-- The three results of the call are the gradients of the mixer's input and of its gain, and half of the first, rounded. -/
theorem mix_in_gradients : Cert.algebraic_MixInIdeal_MixInReferenceIdeal := fun m g m' g' _ same => by
  refine ⟨_, _, _, Cert.MixInIdeal.Value.run_blocks m g,
    (θ_run Cert.MixInReferenceIdeal.defs _ _).mono (fun r h c => ?_) (Cert.MixInReferenceIdeal.Value.run m' g')⟩
  obtain ⟨e0, e1, e2, e3, e4, e5⟩ := same c
  obtain ⟨h0, h1, h2, h3⟩ := h c
  refine ⟨h0.trans ?_, h1.trans ?_, h2.trans ?_, h3⟩
  · refine (Cert.MixInReferenceIdeal.Read.val_main_v41_eq (F := Ideal) m' c).trans ?_
    rw [e0, e1, e2, e3, e4, e5]
    exact (Cert.MixInValue.value_input m c).symm
  · refine (Cert.MixInReferenceIdeal.Read.val_main_v24_eq (F := Ideal) _ _ _ _).trans ?_
    rw [e0, e1, e2, e3]
    exact (Cert.MixInValue.value_gain m c).symm
  · refine (Cert.MixInReferenceIdeal.Read.val_main_v44_eq (F := Ideal) m' c).trans ?_
    rw [e0, e1, e2, e3, e4, e5]
    exact (Cert.MixInValue.value_half m c).symm

/-- The three results of the call are the normed input, rounded, and the two parts of its projection. -/
theorem enter_values : Cert.algebraic_EnterIdeal_EnterReferenceIdeal := fun m g m' g' _ same => by
  refine ⟨_, _, _, Cert.EnterIdeal.Value.run_blocks m g,
    (θ_run Cert.EnterReferenceIdeal.defs _ _).mono (fun r h c => ?_) (Cert.EnterReferenceIdeal.Value.run m' g')⟩
  obtain ⟨e0, e1, e2⟩ := same c
  obtain ⟨h0, h1, h2, h3⟩ := h c
  refine ⟨h0.trans ?_, h1.trans ?_, h2.trans ?_, h3⟩
  · refine (Cert.EnterReferenceIdeal.Read.val_main_v15_eq (F := Ideal) _ _).trans ?_
    rw [e0, e1]
    exact (Cert.EnterValue.value_n m c).symm
  · refine (Cert.EnterReferenceIdeal.Read.val_main_v13_eq (F := Ideal) _ _ _).trans ?_
    rw [e0, e1, e2]
    exact (Cert.EnterValue.value_uv m c).symm
  · refine (Cert.EnterReferenceIdeal.Read.val_main_v16_eq (F := Ideal) _ _ _).trans ?_
    rw [e0, e1, e2]
    exact (Cert.EnterValue.value_qkv m c).symm

/-- The result of the call is the mixer's input with the projection of the two outputs added. -/
theorem leave_value : Cert.algebraic_LeaveIdeal_LeaveReferenceIdeal := fun m g m' g' _ same => by
  refine ⟨_, Cert.LeaveIdeal.Value.run_blocks m g,
    (θ_run Cert.LeaveReferenceIdeal.defs _ _).mono (fun r h c => ?_) (Cert.LeaveReferenceIdeal.Value.run m' g')⟩
  obtain ⟨e0, e1, e2, e3⟩ := same c
  obtain ⟨h0, h1⟩ := h c
  refine ⟨h0.trans ?_, h1⟩
  refine (Cert.LeaveReferenceIdeal.Read.val_main_v3_eq (F := Ideal) _ _ _ _).trans ?_
  rw [e0, e1, e2, e3]
  exact (Cert.LeaveValue.value m c).symm

/-- The frames, the value of the named constant, and the gradients. -/
theorem claim : Cert.Claim := ⟨Cert.Kernel.Gen.facts,
  Cert.KernelIdeal.Gen.facts,
  Cert.ReferenceIdeal.Gen.facts,
  Cert.Input.Gen.facts,
  Cert.InputIdeal.Gen.facts,
  Cert.InputReferenceIdeal.Gen.facts,
  Cert.Gates.Gen.facts,
  Cert.GatesIdeal.Gen.facts,
  Cert.GatesReferenceIdeal.Gen.facts,
  Cert.DwIn.Gen.facts,
  Cert.DwInIdeal.Gen.facts,
  Cert.DwInReferenceIdeal.Gen.facts,
  Cert.DwOut.Gen.facts,
  Cert.DwOutIdeal.Gen.facts,
  Cert.DwOutReferenceIdeal.Gen.facts,
  Cert.DwHalf.Gen.facts,
  Cert.DwHalfIdeal.Gen.facts,
  Cert.DwHalfReferenceIdeal.Gen.facts,
  Cert.DwQkv.Gen.facts,
  Cert.DwQkvIdeal.Gen.facts,
  Cert.DwQkvReferenceIdeal.Gen.facts,
  Cert.DwUv.Gen.facts,
  Cert.DwUvIdeal.Gen.facts,
  Cert.DwUvReferenceIdeal.Gen.facts,
  Cert.DwMixOut.Gen.facts,
  Cert.DwMixOutIdeal.Gen.facts,
  Cert.DwMixOutReferenceIdeal.Gen.facts,
  Cert.MixOut.Gen.facts,
  Cert.MixOutIdeal.Gen.facts,
  Cert.MixOutReferenceIdeal.Gen.facts,
  Cert.MixIn.Gen.facts,
  Cert.MixInIdeal.Gen.facts,
  Cert.MixInReferenceIdeal.Gen.facts,
  Cert.Enter.Gen.facts,
  Cert.EnterIdeal.Gen.facts,
  Cert.EnterReferenceIdeal.Gen.facts,
  Cert.Leave.Gen.facts,
  Cert.LeaveIdeal.Gen.facts,
  Cert.LeaveReferenceIdeal.Gen.facts,
  Cert.Pre_finite.Gen.facts,
  Cert.Pre_gates_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Input.Gen.frame m ρ, fun m ρ _ => Cert.InputIdeal.Gen.frame m ρ, input_reference_frame,
  fun m ρ _ => Cert.Gates.Gen.frame m ρ, fun m ρ _ => Cert.GatesIdeal.Gen.frame m ρ, fun m ρ _ => Cert.GatesIdeal.Gen.frame m ρ,
  gates_reference_frame, fun m ρ _ => gates_reference_frame m ρ trivial,
  fun m ρ _ => Cert.DwIn.Gen.frame m ρ, fun m ρ _ => Cert.DwInIdeal.Gen.frame m ρ, dw_in_reference_frame,
  fun m ρ _ => Cert.DwOut.Gen.frame m ρ, fun m ρ _ => Cert.DwOutIdeal.Gen.frame m ρ, dw_out_reference_frame,
  fun m ρ _ => Cert.DwHalf.Gen.frame m ρ, fun m ρ _ => Cert.DwHalfIdeal.Gen.frame m ρ, dw_half_reference_frame,
  fun m ρ _ => Cert.DwQkv.Gen.frame m ρ, fun m ρ _ => Cert.DwQkvIdeal.Gen.frame m ρ, dw_qkv_reference_frame,
  fun m ρ _ => Cert.DwUv.Gen.frame m ρ, fun m ρ _ => Cert.DwUvIdeal.Gen.frame m ρ, dw_uv_reference_frame,
  fun m ρ _ => Cert.DwMixOut.Gen.frame m ρ, fun m ρ _ => Cert.DwMixOutIdeal.Gen.frame m ρ, dw_mix_out_reference_frame,
  fun m ρ _ => Cert.MixOut.Gen.frame m ρ, fun m ρ _ => Cert.MixOutIdeal.Gen.frame m ρ, mix_out_reference_frame,
  fun m ρ _ => Cert.MixIn.Gen.frame m ρ, fun m ρ _ => Cert.MixInIdeal.Gen.frame m ρ, mix_in_reference_frame,
  fun m ρ _ => Cert.Enter.Gen.frame m ρ, fun m ρ _ => Cert.EnterIdeal.Gen.frame m ρ, enter_reference_frame,
  fun m ρ _ => Cert.Leave.Gen.frame m ρ, fun m ρ _ => Cert.LeaveIdeal.Gen.frame m ρ, leave_reference_frame,
  IdealRules.named_const.statement _ _ _ _ _ rfl, gradients,
  trivial, input_gradients,
  trivial, gate_gradients, trivial, weight_in_gradient, trivial, weight_out_gradient,
  trivial, weight_half_gradient, trivial, weight_qkv_gradient, trivial, weight_uv_gradient, trivial, weight_mix_out_gradient,
  trivial, mix_out_gradients, trivial, mix_in_gradients,
  trivial, enter_values, trivial, leave_value⟩

end Cert.Proof

end
